-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_pullback_finite [hPre_pullback_finite : Cert.Pre_pullback_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_pullback_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_pullback_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.1 = (fun _ => 1#1)
    ∧ (Cert.Pre_pullback_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_pullback_finite [hPre_pullback_finite : Cert.Pre_pullback_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_pullback_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_pullback_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.1 = (fun _ => 1#1)
    ∧ (Cert.Pre_pullback_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_pullback_finite [hKernel5Ideal : Cert.Kernel5Ideal.Facts] [hPre_pullback_finite : Cert.Pre_pullback_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_pullback_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_pullback_finite [hReference5Ideal : Cert.Reference5Ideal.Facts] [hPre_pullback_finite : Cert.Pre_pullback_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_pullback_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v262)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v262) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_pullback_finite [hKernel5Ideal : Cert.Kernel5Ideal.Facts] [hReference5Ideal : Cert.Reference5Ideal.Facts] [hPre_pullback_finite : Cert.Pre_pullback_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_pullback_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v5) = v1 c
          ∧ r.2.mem ((c.tc : Thread Cert.Reference6Ideal.nD Cert.Reference6Ideal.τ).loc Cert.Reference6Ideal.main_v6) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v6)) (v1 : (c : Dev Cert.Kernel11Ideal.nD) → Buf (Elt Ideal) ((c.tc : Thread Cert.Kernel11Ideal.nD Cert.Kernel11Ideal.τ).loc Cert.Kernel11Ideal.main_v5_1)) (v2 : (c : Dev Cert.Kernel11Ideal.nD) → Buf (Elt Ideal) ((c.tc : Thread Cert.Kernel11Ideal.nD Cert.Kernel11Ideal.τ).loc Cert.Kernel11Ideal.main_v5_2)) (v3 : (c : Dev Cert.Kernel11Ideal.nD) → Buf (Elt Ideal) ((c.tc : Thread Cert.Kernel11Ideal.nD Cert.Kernel11Ideal.τ).loc Cert.Kernel11Ideal.main_v5_3)) (v4 : (c : Dev Cert.Kernel11Ideal.nD) → Buf (Elt Ideal) ((c.tc : Thread Cert.Kernel11Ideal.nD Cert.Kernel11Ideal.τ).loc Cert.Kernel11Ideal.main_v5_4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6) = v0 c
          ∧ r.2.mem ((c.tc : Thread Cert.Kernel11Ideal.nD Cert.Kernel11Ideal.τ).loc Cert.Kernel11Ideal.main_v5_1) = v1 c
          ∧ r.2.mem ((c.tc : Thread Cert.Kernel11Ideal.nD Cert.Kernel11Ideal.τ).loc Cert.Kernel11Ideal.main_v5_2) = v2 c
          ∧ r.2.mem ((c.tc : Thread Cert.Kernel11Ideal.nD Cert.Kernel11Ideal.τ).loc Cert.Kernel11Ideal.main_v5_3) = v3 c
          ∧ r.2.mem ((c.tc : Thread Cert.Kernel11Ideal.nD Cert.Kernel11Ideal.τ).loc Cert.Kernel11Ideal.main_v5_4) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v45) = v0 c
          ∧ r.2.mem ((c.tc : Thread Cert.Reference11Ideal.nD Cert.Reference11Ideal.τ).loc Cert.Reference11Ideal.main_v46) = v1 c
          ∧ r.2.mem ((c.tc : Thread Cert.Reference11Ideal.nD Cert.Reference11Ideal.τ).loc Cert.Reference11Ideal.main_v47) = v2 c
          ∧ r.2.mem ((c.tc : Thread Cert.Reference11Ideal.nD Cert.Reference11Ideal.τ).loc Cert.Reference11Ideal.main_v48) = v3 c
          ∧ r.2.mem ((c.tc : Thread Cert.Reference11Ideal.nD Cert.Reference11Ideal.τ).loc Cert.Reference11Ideal.main_v49) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v5_0)) (v1 : (c : Dev Cert.Kernel12Ideal.nD) → Buf (Elt Ideal) ((c.tc : Thread Cert.Kernel12Ideal.nD Cert.Kernel12Ideal.τ).loc Cert.Kernel12Ideal.main_v5_1)) (v2 : (c : Dev Cert.Kernel12Ideal.nD) → Buf (Elt Ideal) ((c.tc : Thread Cert.Kernel12Ideal.nD Cert.Kernel12Ideal.τ).loc Cert.Kernel12Ideal.main_v5_2)) (v3 : (c : Dev Cert.Kernel12Ideal.nD) → Buf (Elt Ideal) ((c.tc : Thread Cert.Kernel12Ideal.nD Cert.Kernel12Ideal.τ).loc Cert.Kernel12Ideal.main_v5_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5_0) = v0 c
          ∧ r.2.mem ((c.tc : Thread Cert.Kernel12Ideal.nD Cert.Kernel12Ideal.τ).loc Cert.Kernel12Ideal.main_v5_1) = v1 c
          ∧ r.2.mem ((c.tc : Thread Cert.Kernel12Ideal.nD Cert.Kernel12Ideal.τ).loc Cert.Kernel12Ideal.main_v5_2) = v2 c
          ∧ r.2.mem ((c.tc : Thread Cert.Kernel12Ideal.nD Cert.Kernel12Ideal.τ).loc Cert.Kernel12Ideal.main_v5_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v28) = v0 c
          ∧ r.2.mem ((c.tc : Thread Cert.Reference12Ideal.nD Cert.Reference12Ideal.τ).loc Cert.Reference12Ideal.main_v29) = v1 c
          ∧ r.2.mem ((c.tc : Thread Cert.Reference12Ideal.nD Cert.Reference12Ideal.τ).loc Cert.Reference12Ideal.main_v30) = v2 c
          ∧ r.2.mem ((c.tc : Thread Cert.Reference12Ideal.nD Cert.Reference12Ideal.τ).loc Cert.Reference12Ideal.main_v31) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v24) = v1 c
          ∧ r.2.mem ((c.tc : Thread Cert.Reference19Ideal.nD Cert.Reference19Ideal.τ).loc Cert.Reference19Ideal.main_v5) = v2 c
          ∧ r.2.mem ((c.tc : Thread Cert.Reference19Ideal.nD Cert.Reference19Ideal.τ).loc Cert.Reference19Ideal.main_v11) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v5) = v2 c
          ∧ r.2.mem ((c.tc : Thread Cert.Reference21Ideal.nD Cert.Reference21Ideal.τ).loc Cert.Reference21Ideal.main_v11) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_v24) = v1 c
          ∧ r.2.mem ((c.tc : Thread Cert.Reference22Ideal.nD Cert.Reference22Ideal.τ).loc Cert.Reference22Ideal.main_v5) = v2 c
          ∧ r.2.mem ((c.tc : Thread Cert.Reference22Ideal.nD Cert.Reference22Ideal.τ).loc Cert.Reference22Ideal.main_v11) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_v24) = v1 c
          ∧ r.2.mem ((c.tc : Thread Cert.Reference23Ideal.nD Cert.Reference23Ideal.τ).loc Cert.Reference23Ideal.main_v5) = v2 c
          ∧ r.2.mem ((c.tc : Thread Cert.Reference23Ideal.nD Cert.Reference23Ideal.τ).loc Cert.Reference23Ideal.main_v11) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_v24) = v1 c
          ∧ r.2.mem ((c.tc : Thread Cert.Reference24Ideal.nD Cert.Reference24Ideal.τ).loc Cert.Reference24Ideal.main_v5) = v2 c
          ∧ r.2.mem ((c.tc : Thread Cert.Reference24Ideal.nD Cert.Reference24Ideal.τ).loc Cert.Reference24Ideal.main_v11) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_v24) = v1 c
          ∧ r.2.mem ((c.tc : Thread Cert.Reference25Ideal.nD Cert.Reference25Ideal.τ).loc Cert.Reference25Ideal.main_v5) = v2 c
          ∧ r.2.mem ((c.tc : Thread Cert.Reference25Ideal.nD Cert.Reference25Ideal.τ).loc Cert.Reference25Ideal.main_v11) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v14) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v14) = v0 c
          ∧ r.2.mem ((c.tc : Thread Cert.Reference27Ideal.nD Cert.Reference27Ideal.τ).loc Cert.Reference27Ideal.main_v29) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v37) = v0 c
          ∧ r.2.mem ((c.tc : Thread Cert.Reference28Ideal.nD Cert.Reference28Ideal.τ).loc Cert.Reference28Ideal.main_v38) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v37) = v0 c
          ∧ r.2.mem ((c.tc : Thread Cert.Reference29Ideal.nD Cert.Reference29Ideal.τ).loc Cert.Reference29Ideal.main_v75) = v1 c
          ∧ r.2.mem ((c.tc : Thread Cert.Reference29Ideal.nD Cert.Reference29Ideal.τ).loc Cert.Reference29Ideal.main_v76) = v2 c
          ∧ r.2.mem ((c.tc : Thread Cert.Reference29Ideal.nD Cert.Reference29Ideal.τ).loc Cert.Reference29Ideal.main_v77) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v53) = v0 c
          ∧ r.2.mem ((c.tc : Thread Cert.Reference30Ideal.nD Cert.Reference30Ideal.τ).loc Cert.Reference30Ideal.main_v32) = v1 c
          ∧ r.2.mem ((c.tc : Thread Cert.Reference30Ideal.nD Cert.Reference30Ideal.τ).loc Cert.Reference30Ideal.main_v54) = v2 c
          ∧ r.2.mem ((c.tc : Thread Cert.Reference30Ideal.nD Cert.Reference30Ideal.τ).loc Cert.Reference30Ideal.main_v55) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hPre_finite : Cert.Pre_finite.Facts) (hPre_pullback_finite : Cert.Pre_pullback_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_pullback_finite (hKernel5Ideal := hKernel5Ideal) (hPre_pullback_finite := hPre_pullback_finite)
    ∧ quiescent_Reference5Ideal (hReference5Ideal := hReference5Ideal)
    ∧ quiescent_Reference5Ideal_pre_pullback_finite (hReference5Ideal := hReference5Ideal) (hPre_pullback_finite := hPre_pullback_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_pullback_finite (hKernel5Ideal := hKernel5Ideal) (hReference5Ideal := hReference5Ideal) (hPre_pullback_finite := hPre_pullback_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
-- ==== Pre_finite.lean ====
abbrev S8192x512 : Shape := ⟨2, ![8192, 512]⟩
abbrev S8192x4 : Shape := ⟨2, ![8192, 4]⟩
abbrev S_ : Shape := ⟨0, ![]⟩

class Facts : Prop where
  bcast_S_S8192x512 : S_.BroadcastsInDim S8192x512 (![] : Fin 0 → Fin S8192x512.rank)

variable [Facts]

def fn {F : FTy → Type} [FloatOps F] (main_arg0 : FVec F S8192x512 .f32) (main_arg1 : FVec F S8192x512 .f32) (main_arg2 : FVec F S8192x512 .f32) (main_arg3 : FVec F S8192x512 .f32) (main_arg4 : FVec F S8192x4 .f32) : IVec S8192x512 1 :=
  let main_v0 : FVec F S8192x512 .f32 := Host.absf main_arg2
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg3
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : IVec S8192x512 1 := andi main_v2 main_v5
  main_v6
-- ==== Pre_pullback_finite.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩

class Facts : Prop where
  bcast_S_S8192x5632 : S_.BroadcastsInDim S8192x5632 (![] : Fin 0 → Fin S8192x5632.rank)
  bcast_S_S5632x2048 : S_.BroadcastsInDim S5632x2048 (![] : Fin 0 → Fin S5632x2048.rank)
  bcast_S_S8192x2048 : S_.BroadcastsInDim S8192x2048 (![] : Fin 0 → Fin S8192x2048.rank)

variable [Facts]

def fn {F : FTy → Type} [FloatOps F] (main_arg0 : FVec F S8192x5632 .f32) (main_arg1 : FVec F S8192x5632 .f32) (main_arg2 : FVec F S5632x2048 .f32) (main_arg3 : FVec F S8192x2048 .f32) : IVec S8192x5632 1 × IVec S5632x2048 1 × IVec S8192x2048 1 :=
  let main_v0 : FVec F S8192x5632 .f32 := Host.absf main_arg1
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_v3 : FVec F S5632x2048 .f32 := Host.absf main_arg2
  let main_cst_0 : FVec F S_ .f32 := constant S_ .f32 0x7F800000#32
  let main_v4 : FVec F S5632x2048 .f32 := broadcastInDim S5632x2048 ![] bcast_S_S5632x2048 main_cst_0
  let main_v5 : IVec S5632x2048 1 := cmpf .olt main_v3 main_v4
  let main_v6 : FVec F S8192x2048 .f32 := Host.absf main_arg3
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  (main_v2, main_v5, main_v8)
-- ==== Kernel.lean ====
abbrev S8192x512 : Shape := ⟨2, ![8192, 512]⟩
abbrev S8192x4 : Shape := ⟨2, ![8192, 4]⟩
abbrev S_ : Shape := ⟨0, ![]⟩
abbrev S1 : Shape := ⟨1, ![1]⟩
abbrev S4 : Shape := ⟨1, ![4]⟩
abbrev S8192x4x128 : Shape := ⟨3, ![8192, 4, 128]⟩
abbrev S2048x4x4x128 : Shape := ⟨4, ![2048, 4, 4, 128]⟩
abbrev S4x2048x4x128 : Shape := ⟨4, ![4, 2048, 4, 128]⟩
abbrev S4x16x128x4x128 : Shape := ⟨5, ![4, 16, 128, 4, 128]⟩
abbrev S4x1x128x4x128 : Shape := ⟨5, ![4, 1, 128, 4, 128]⟩
abbrev S4x15x128x4x128 : Shape := ⟨5, ![4, 15, 128, 4, 128]⟩
abbrev S4x16x256x4x128 : Shape := ⟨5, ![4, 16, 256, 4, 128]⟩
abbrev S4x16x4x128x256 : Shape := ⟨5, ![4, 16, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x128x256 : Shape := ⟨3, ![1, 128, 256]⟩
abbrev S1x1x256 : Shape := ⟨3, ![1, 1, 256]⟩
abbrev S16x1x256 : Shape := ⟨3, ![16, 1, 256]⟩
abbrev S16x128x256 : Shape := ⟨3, ![16, 128, 256]⟩
abbrev S4x1x1 : Shape := ⟨3, ![4, 1, 1]⟩
abbrev S4x128x256 : Shape := ⟨3, ![4, 128, 256]⟩
abbrev S1x1x4x128x256 : Shape := ⟨5, ![1, 1, 4, 128, 256]⟩
abbrev S1x16x1x128x256 : Shape := ⟨5, ![1, 16, 1, 128, 256]⟩
abbrev S4x16x4x128 : Shape := ⟨4, ![4, 16, 4, 128]⟩
abbrev S4x16x4x128x1 : Shape := ⟨5, ![4, 16, 4, 128, 1]⟩
abbrev S4x16x4x128x128 : Shape := ⟨5, ![4, 16, 4, 128, 128]⟩
abbrev S4x16x128x4 : Shape := ⟨4, ![4, 16, 128, 4]⟩
abbrev S4x16x128x4x1 : Shape := ⟨5, ![4, 16, 128, 4, 1]⟩
abbrev S4x2048x4x1 : Shape := ⟨4, ![4, 2048, 4, 1]⟩
abbrev S2048x4x4x1 : Shape := ⟨4, ![2048, 4, 4, 1]⟩
abbrev S8192x4x1 : Shape := ⟨3, ![8192, 4, 1]⟩
abbrev S2048x4x512 : Shape := ⟨3, ![2048, 4, 512]⟩
abbrev S4x2048x512 : Shape := ⟨3, ![4, 2048, 512]⟩
abbrev S1x4x2048x512 : Shape := ⟨4, ![1, 4, 2048, 512]⟩
abbrev S3x4x2048x512 : Shape := ⟨4, ![3, 4, 2048, 512]⟩
abbrev S1x128 : Shape := ⟨2, ![1, 128]⟩
abbrev S128x128 : Shape := ⟨2, ![128, 128]⟩
abbrev S128x384 : Shape := ⟨2, ![128, 384]⟩
abbrev S512x384 : Shape := ⟨2, ![512, 384]⟩
abbrev S1x1x128x512 : Shape := ⟨4, ![1, 1, 128, 512]⟩
abbrev S1x128x512 : Shape := ⟨3, ![1, 128, 512]⟩
abbrev S3x1x128x512 : Shape := ⟨4, ![3, 1, 128, 512]⟩
abbrev S1x1x128x128 : Shape := ⟨4, ![1, 1, 128, 128]⟩
abbrev S1x128x128 : Shape := ⟨3, ![1, 128, 128]⟩

abbrev nBuf : Space → Nat
  | .hbm => 361
  | .vmem => 33
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x4, .f32⟩
  | 5 => ⟨S_, .f32⟩
  | 6 => ⟨S_, .f32⟩
  | 7 => ⟨S_, .f32⟩
  | 8 => ⟨S_, .f32⟩
  | 9 => ⟨S1, .f32⟩
  | 10 => ⟨S1, .f32⟩
  | 11 => ⟨S1, .f32⟩
  | 12 => ⟨S1, .f32⟩
  | 13 => ⟨S4, .f32⟩
  | 14 => ⟨S8192x4x128, .f32⟩
  | 15 => ⟨S8192x4x128, .f32⟩
  | 16 => ⟨S8192x4x128, .f32⟩
  | 17 => ⟨S2048x4x4x128, .f32⟩
  | 18 => ⟨S4x2048x4x128, .f32⟩
  | 19 => ⟨S4x16x128x4x128, .f32⟩
  | 20 => ⟨S2048x4x4x128, .f32⟩
  | 21 => ⟨S4x2048x4x128, .f32⟩
  | 22 => ⟨S4x16x128x4x128, .f32⟩
  | 23 => ⟨S4x1x128x4x128, .f32⟩
  | 24 => ⟨S_, .f32⟩
  | 25 => ⟨S4x1x128x4x128, .f32⟩
  | 26 => ⟨S4x15x128x4x128, .f32⟩
  | 27 => ⟨S4x16x128x4x128, .f32⟩
  | 28 => ⟨S4x16x256x4x128, .f32⟩
  | 29 => ⟨S2048x4x4x128, .f32⟩
  | 30 => ⟨S4x2048x4x128, .f32⟩
  | 31 => ⟨S4x16x128x4x128, .f32⟩
  | 32 => ⟨S4x1x128x4x128, .f32⟩
  | 33 => ⟨S_, .f32⟩
  | 34 => ⟨S4x1x128x4x128, .f32⟩
  | 35 => ⟨S4x15x128x4x128, .f32⟩
  | 36 => ⟨S4x16x128x4x128, .f32⟩
  | 37 => ⟨S4x16x256x4x128, .f32⟩
  | 38 => ⟨S4x16x4x128x256, .f32⟩
  | 39 => ⟨S_, .f32⟩
  | 40 => ⟨S4x16x4x128x256, .f32⟩
  | 41 => ⟨S4x16x4x128x256, .f32⟩
  | 42 => ⟨S128, .i32⟩
  | 43 => ⟨S128x1, .i32⟩
  | 44 => ⟨S256, .i32⟩
  | 45 => ⟨S1x256, .i32⟩
  | 46 => ⟨S_, .i32⟩
  | 47 => ⟨S128x1, .i32⟩
  | 48 => ⟨S128x1, .i32⟩
  | 49 => ⟨S128x256, .i32⟩
  | 50 => ⟨S128x256, .i32⟩
  | 51 => ⟨S128x256, .i32⟩
  | 52 => ⟨S16, .i32⟩
  | 53 => ⟨S16x1x1, .i32⟩
  | 54 => ⟨S_, .i32⟩
  | 55 => ⟨S128x256, .i32⟩
  | 56 => ⟨S128x256, .i1⟩
  | 57 => ⟨S_, .i32⟩
  | 58 => ⟨S128x256, .i32⟩
  | 59 => ⟨S128x256, .i1⟩
  | 60 => ⟨S128x256, .i1⟩
  | 61 => ⟨S1x128x256, .i1⟩
  | 62 => ⟨S_, .i32⟩
  | 63 => ⟨S16x1x1, .i32⟩
  | 64 => ⟨S16x1x1, .i32⟩
  | 65 => ⟨S_, .i32⟩
  | 66 => ⟨S16x1x1, .i32⟩
  | 67 => ⟨S16x1x1, .i32⟩
  | 68 => ⟨S1x1x256, .i32⟩
  | 69 => ⟨S16x1x256, .i32⟩
  | 70 => ⟨S16x1x256, .i32⟩
  | 71 => ⟨S16x1x256, .i32⟩
  | 72 => ⟨S_, .i32⟩
  | 73 => ⟨S16x1x256, .i32⟩
  | 74 => ⟨S16x1x256, .i1⟩
  | 75 => ⟨S16x128x256, .i1⟩
  | 76 => ⟨S16x128x256, .i1⟩
  | 77 => ⟨S16x128x256, .i1⟩
  | 78 => ⟨S4x1x1, .f32⟩
  | 79 => ⟨S4x1x1, .f32⟩
  | 80 => ⟨S_, .i32⟩
  | 81 => ⟨S128x256, .i32⟩
  | 82 => ⟨S128x256, .i32⟩
  | 83 => ⟨S128x256, .f32⟩
  | 84 => ⟨S1x128x256, .f32⟩
  | 85 => ⟨S4x128x256, .f32⟩
  | 86 => ⟨S4x128x256, .f32⟩
  | 87 => ⟨S4x128x256, .f32⟩
  | 88 => ⟨S1x1x4x128x256, .f32⟩
  | 89 => ⟨S4x16x4x128x256, .f32⟩
  | 90 => ⟨S4x16x4x128x256, .f32⟩
  | 91 => ⟨S1x16x1x128x256, .i1⟩
  | 92 => ⟨S_, .f32⟩
  | 93 => ⟨S_, .f32⟩
  | 94 => ⟨S4x16x4x128x256, .i1⟩
  | 95 => ⟨S4x16x4x128x256, .f32⟩
  | 96 => ⟨S4x16x4x128x256, .f32⟩
  | 97 => ⟨S_, .f32⟩
  | 98 => ⟨S4x16x4x128, .f32⟩
  | 99 => ⟨S4x16x4x128, .f32⟩
  | 100 => ⟨S_, .f32⟩
  | 101 => ⟨S4x16x4x128, .f32⟩
  | 102 => ⟨S4x16x4x128, .i1⟩
  | 103 => ⟨S_, .f32⟩
  | 104 => ⟨S_, .f32⟩
  | 105 => ⟨S4x16x4x128, .f32⟩
  | 106 => ⟨S4x16x4x128, .f32⟩
  | 107 => ⟨S4x16x4x128x1, .f32⟩
  | 108 => ⟨S4x16x4x128x256, .f32⟩
  | 109 => ⟨S4x16x4x128x256, .f32⟩
  | 110 => ⟨S4x16x4x128x256, .f32⟩
  | 111 => ⟨S_, .f32⟩
  | 112 => ⟨S4x16x4x128, .f32⟩
  | 113 => ⟨S4x16x4x128, .f32⟩
  | 114 => ⟨S4x16x4x128, .f32⟩
  | 115 => ⟨S4x16x4x128x1, .f32⟩
  | 116 => ⟨S4x16x4x128x256, .f32⟩
  | 117 => ⟨S4x16x4x128x256, .f32⟩
  | 118 => ⟨S4x16x4x128x256, .f32⟩
  | 119 => ⟨S4x16x4x128x128, .f32⟩
  | 120 => ⟨S4x16x128x4x128, .f32⟩
  | 121 => ⟨S4x16x128x4, .f32⟩
  | 122 => ⟨S4x16x128x4x1, .f32⟩
  | 123 => ⟨S4x2048x4x1, .f32⟩
  | 124 => ⟨S2048x4x4x1, .f32⟩
  | 125 => ⟨S8192x4x1, .f32⟩
  | 126 => ⟨S8192x4, .f32⟩
  | 127 => ⟨S4x2048x4x128, .f32⟩
  | _ => ⟨S8192x512, .f32⟩

abbrev hbmTy0_1 (i : Nat) : BufTy := match i % 128 with
  | 0 => ⟨S2048x4x4x128, .f32⟩
  | 1 => ⟨S8192x4x128, .f32⟩
  | 2 => ⟨S8192x4x128, .f32⟩
  | 3 => ⟨S8192x4x128, .f32⟩
  | 4 => ⟨S_, .f32⟩
  | 5 => ⟨S8192x4, .f32⟩
  | 6 => ⟨S8192x4, .f32⟩
  | 7 => ⟨S2048x4x512, .f32⟩
  | 8 => ⟨S4x2048x512, .f32⟩
  | 9 => ⟨S2048x4x512, .f32⟩
  | 10 => ⟨S4x2048x512, .f32⟩
  | 11 => ⟨S2048x4x512, .f32⟩
  | 12 => ⟨S4x2048x512, .f32⟩
  | 13 => ⟨S1x4x2048x512, .f32⟩
  | 14 => ⟨S1x4x2048x512, .f32⟩
  | 15 => ⟨S1x4x2048x512, .f32⟩
  | 16 => ⟨S3x4x2048x512, .f32⟩
  | 17 => ⟨S3x4x2048x512, .bf16⟩
  | 18 => ⟨S2048x4x512, .f32⟩
  | 19 => ⟨S4x2048x512, .f32⟩
  | 20 => ⟨S4x2048x512, .bf16⟩
  | 21 => ⟨S8192x4x1, .f32⟩
  | 22 => ⟨S8192x4x128, .f32⟩
  | 23 => ⟨S8192x512, .f32⟩
  | 24 => ⟨S2048x4x512, .f32⟩
  | 25 => ⟨S4x2048x512, .f32⟩
  | 26 => ⟨S8192x4x1, .f32⟩
  | 27 => ⟨S8192x4x128, .f32⟩
  | 28 => ⟨S8192x512, .f32⟩
  | 29 => ⟨S2048x4x512, .f32⟩
  | 30 => ⟨S4x2048x512, .f32⟩
  | 31 => ⟨S128, .i32⟩
  | 32 => ⟨S128x1, .i32⟩
  | 33 => ⟨S128, .i32⟩
  | 34 => ⟨S1x128, .i32⟩
  | 35 => ⟨S128x128, .i32⟩
  | 36 => ⟨S128x128, .i32⟩
  | 37 => ⟨S128x128, .i32⟩
  | 38 => ⟨S_, .i32⟩
  | 39 => ⟨S128x128, .i32⟩
  | 40 => ⟨S128x128, .i1⟩
  | 41 => ⟨S128x128, .f32⟩
  | 42 => ⟨S_, .f32⟩
  | 43 => ⟨S128x128, .f32⟩
  | 44 => ⟨S128x128, .f32⟩
  | 45 => ⟨S_, .f32⟩
  | 46 => ⟨S_, .f32⟩
  | 47 => ⟨S128x128, .f32⟩
  | 48 => ⟨S128x128, .f32⟩
  | 49 => ⟨S_, .i32⟩
  | 50 => ⟨S128x1, .i32⟩
  | 51 => ⟨S128x1, .i32⟩
  | 52 => ⟨S128x128, .i32⟩
  | 53 => ⟨S128x128, .i32⟩
  | 54 => ⟨S128x128, .i32⟩
  | 55 => ⟨S_, .i32⟩
  | 56 => ⟨S128x128, .i32⟩
  | 57 => ⟨S128x128, .i1⟩
  | 58 => ⟨S128x128, .f32⟩
  | 59 => ⟨S_, .f32⟩
  | 60 => ⟨S128x128, .f32⟩
  | 61 => ⟨S128x128, .f32⟩
  | 62 => ⟨S_, .f32⟩
  | 63 => ⟨S_, .f32⟩
  | 64 => ⟨S128x128, .f32⟩
  | 65 => ⟨S128x128, .f32⟩
  | 66 => ⟨S_, .i32⟩
  | 67 => ⟨S128x1, .i32⟩
  | 68 => ⟨S128x1, .i32⟩
  | 69 => ⟨S128x128, .i32⟩
  | 70 => ⟨S128x128, .i32⟩
  | 71 => ⟨S128x128, .i32⟩
  | 72 => ⟨S_, .i32⟩
  | 73 => ⟨S128x128, .i32⟩
  | 74 => ⟨S128x128, .i1⟩
  | 75 => ⟨S128x128, .f32⟩
  | 76 => ⟨S_, .f32⟩
  | 77 => ⟨S128x128, .f32⟩
  | 78 => ⟨S128x128, .f32⟩
  | 79 => ⟨S_, .f32⟩
  | 80 => ⟨S_, .f32⟩
  | 81 => ⟨S128x128, .f32⟩
  | 82 => ⟨S128x128, .f32⟩
  | 83 => ⟨S128x384, .f32⟩
  | 84 => ⟨S128x128, .i32⟩
  | 85 => ⟨S128x128, .i32⟩
  | 86 => ⟨S128x128, .i32⟩
  | 87 => ⟨S_, .i32⟩
  | 88 => ⟨S128x128, .i32⟩
  | 89 => ⟨S128x128, .i1⟩
  | 90 => ⟨S128x128, .f32⟩
  | 91 => ⟨S_, .f32⟩
  | 92 => ⟨S128x128, .f32⟩
  | 93 => ⟨S128x128, .f32⟩
  | 94 => ⟨S_, .f32⟩
  | 95 => ⟨S_, .f32⟩
  | 96 => ⟨S128x128, .f32⟩
  | 97 => ⟨S128x128, .f32⟩
  | 98 => ⟨S_, .i32⟩
  | 99 => ⟨S128x1, .i32⟩
  | 100 => ⟨S128x1, .i32⟩
  | 101 => ⟨S128x128, .i32⟩
  | 102 => ⟨S128x128, .i32⟩
  | 103 => ⟨S128x128, .i32⟩
  | 104 => ⟨S_, .i32⟩
  | 105 => ⟨S128x128, .i32⟩
  | 106 => ⟨S128x128, .i1⟩
  | 107 => ⟨S128x128, .f32⟩
  | 108 => ⟨S_, .f32⟩
  | 109 => ⟨S128x128, .f32⟩
  | 110 => ⟨S128x128, .f32⟩
  | 111 => ⟨S_, .f32⟩
  | 112 => ⟨S_, .f32⟩
  | 113 => ⟨S128x128, .f32⟩
  | 114 => ⟨S128x128, .f32⟩
  | 115 => ⟨S_, .i32⟩
  | 116 => ⟨S128x1, .i32⟩
  | 117 => ⟨S128x1, .i32⟩
  | 118 => ⟨S128x128, .i32⟩
  | 119 => ⟨S128x128, .i32⟩
  | 120 => ⟨S128x128, .i32⟩
  | 121 => ⟨S_, .i32⟩
  | 122 => ⟨S128x128, .i32⟩
  | 123 => ⟨S128x128, .i1⟩
  | 124 => ⟨S128x128, .f32⟩
  | 125 => ⟨S_, .f32⟩
  | 126 => ⟨S128x128, .f32⟩
  | 127 => ⟨S128x128, .f32⟩
  | _ => ⟨S8192x512, .f32⟩

abbrev hbmTy0_2 (i : Nat) : BufTy := match i % 128 with
  | 0 => ⟨S_, .f32⟩
  | 1 => ⟨S_, .f32⟩
  | 2 => ⟨S128x128, .f32⟩
  | 3 => ⟨S128x128, .f32⟩
  | 4 => ⟨S128x384, .f32⟩
  | 5 => ⟨S128x128, .i32⟩
  | 6 => ⟨S128x128, .i32⟩
  | 7 => ⟨S128x128, .i32⟩
  | 8 => ⟨S_, .i32⟩
  | 9 => ⟨S128x128, .i32⟩
  | 10 => ⟨S128x128, .i1⟩
  | 11 => ⟨S128x128, .f32⟩
  | 12 => ⟨S_, .f32⟩
  | 13 => ⟨S128x128, .f32⟩
  | 14 => ⟨S128x128, .f32⟩
  | 15 => ⟨S_, .f32⟩
  | 16 => ⟨S_, .f32⟩
  | 17 => ⟨S128x128, .f32⟩
  | 18 => ⟨S128x128, .f32⟩
  | 19 => ⟨S_, .i32⟩
  | 20 => ⟨S128x1, .i32⟩
  | 21 => ⟨S128x1, .i32⟩
  | 22 => ⟨S128x128, .i32⟩
  | 23 => ⟨S128x128, .i32⟩
  | 24 => ⟨S128x128, .i32⟩
  | 25 => ⟨S_, .i32⟩
  | 26 => ⟨S128x128, .i32⟩
  | 27 => ⟨S128x128, .i1⟩
  | 28 => ⟨S128x128, .f32⟩
  | 29 => ⟨S_, .f32⟩
  | 30 => ⟨S128x128, .f32⟩
  | 31 => ⟨S128x128, .f32⟩
  | 32 => ⟨S_, .f32⟩
  | 33 => ⟨S_, .f32⟩
  | 34 => ⟨S128x128, .f32⟩
  | 35 => ⟨S128x128, .f32⟩
  | 36 => ⟨S_, .i32⟩
  | 37 => ⟨S128x1, .i32⟩
  | 38 => ⟨S128x1, .i32⟩
  | 39 => ⟨S128x128, .i32⟩
  | 40 => ⟨S128x128, .i32⟩
  | 41 => ⟨S128x128, .i32⟩
  | 42 => ⟨S_, .i32⟩
  | 43 => ⟨S128x128, .i32⟩
  | 44 => ⟨S128x128, .i1⟩
  | 45 => ⟨S128x128, .f32⟩
  | 46 => ⟨S_, .f32⟩
  | 47 => ⟨S128x128, .f32⟩
  | 48 => ⟨S128x128, .f32⟩
  | 49 => ⟨S_, .f32⟩
  | 50 => ⟨S_, .f32⟩
  | 51 => ⟨S128x128, .f32⟩
  | 52 => ⟨S128x128, .f32⟩
  | 53 => ⟨S128x384, .f32⟩
  | 54 => ⟨S128x128, .i32⟩
  | 55 => ⟨S128x128, .i32⟩
  | 56 => ⟨S128x128, .i32⟩
  | 57 => ⟨S_, .i32⟩
  | 58 => ⟨S128x128, .i32⟩
  | 59 => ⟨S128x128, .i1⟩
  | 60 => ⟨S128x128, .f32⟩
  | 61 => ⟨S_, .f32⟩
  | 62 => ⟨S128x128, .f32⟩
  | 63 => ⟨S128x128, .f32⟩
  | 64 => ⟨S_, .f32⟩
  | 65 => ⟨S_, .f32⟩
  | 66 => ⟨S128x128, .f32⟩
  | 67 => ⟨S128x128, .f32⟩
  | 68 => ⟨S_, .i32⟩
  | 69 => ⟨S128x1, .i32⟩
  | 70 => ⟨S128x1, .i32⟩
  | 71 => ⟨S128x128, .i32⟩
  | 72 => ⟨S128x128, .i32⟩
  | 73 => ⟨S128x128, .i32⟩
  | 74 => ⟨S_, .i32⟩
  | 75 => ⟨S128x128, .i32⟩
  | 76 => ⟨S128x128, .i1⟩
  | 77 => ⟨S128x128, .f32⟩
  | 78 => ⟨S_, .f32⟩
  | 79 => ⟨S128x128, .f32⟩
  | 80 => ⟨S128x128, .f32⟩
  | 81 => ⟨S_, .f32⟩
  | 82 => ⟨S_, .f32⟩
  | 83 => ⟨S128x128, .f32⟩
  | 84 => ⟨S128x128, .f32⟩
  | 85 => ⟨S_, .i32⟩
  | 86 => ⟨S128x1, .i32⟩
  | 87 => ⟨S128x1, .i32⟩
  | 88 => ⟨S128x128, .i32⟩
  | 89 => ⟨S128x128, .i32⟩
  | 90 => ⟨S128x128, .i32⟩
  | 91 => ⟨S_, .i32⟩
  | 92 => ⟨S128x128, .i32⟩
  | 93 => ⟨S128x128, .i1⟩
  | 94 => ⟨S128x128, .f32⟩
  | 95 => ⟨S_, .f32⟩
  | 96 => ⟨S128x128, .f32⟩
  | 97 => ⟨S128x128, .f32⟩
  | 98 => ⟨S_, .f32⟩
  | 99 => ⟨S_, .f32⟩
  | 100 => ⟨S128x128, .f32⟩
  | 101 => ⟨S128x128, .f32⟩
  | 102 => ⟨S128x384, .f32⟩
  | 103 => ⟨S512x384, .f32⟩
  | 104 => ⟨S3x4x2048x512, .bf16⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | .local _ .vmem, ⟨0, _⟩ => ⟨S1x1x128x512, .bf16⟩
  | .local _ .vmem, ⟨1, _⟩ => ⟨S1x1x128x512, .bf16⟩
  | .local _ .vmem, ⟨2, _⟩ => ⟨S1x1x128x512, .bf16⟩
  | .local _ .vmem, ⟨3, _⟩ => ⟨S1x1x128x512, .bf16⟩
  | .local _ .vmem, ⟨4, _⟩ => ⟨S1x1x128x512, .bf16⟩
  | .local _ .vmem, ⟨5, _⟩ => ⟨S1x1x128x512, .bf16⟩
  | .local _ .vmem, ⟨6, _⟩ => ⟨S1x1x128x512, .bf16⟩
  | .local _ .vmem, ⟨7, _⟩ => ⟨S1x1x128x512, .bf16⟩
  | .local _ .vmem, ⟨8, _⟩ => ⟨S1x1x128x512, .bf16⟩
  | .local _ .vmem, ⟨9, _⟩ => ⟨S1x1x128x512, .bf16⟩
  | .local _ .vmem, ⟨10, _⟩ => ⟨S1x1x128x512, .bf16⟩
  | .local _ .vmem, ⟨11, _⟩ => ⟨S1x1x128x512, .bf16⟩
  | .local _ .vmem, ⟨12, _⟩ => ⟨S1x128x512, .bf16⟩
  | .local _ .vmem, ⟨13, _⟩ => ⟨S1x128x512, .bf16⟩
  | .local _ .vmem, ⟨14, _⟩ => ⟨S1x128x512, .bf16⟩
  | .local _ .vmem, ⟨15, _⟩ => ⟨S1x128x512, .bf16⟩
  | .local _ .vmem, ⟨16, _⟩ => ⟨S1x128x512, .f32⟩
  | .local _ .vmem, ⟨17, _⟩ => ⟨S1x128x512, .f32⟩
  | .local _ .vmem, ⟨18, _⟩ => ⟨S1x128x512, .f32⟩
  | .local _ .vmem, ⟨19, _⟩ => ⟨S1x128x512, .f32⟩
  | .local _ .vmem, ⟨20, _⟩ => ⟨S1x128x512, .f32⟩
  | .local _ .vmem, ⟨21, _⟩ => ⟨S1x128x512, .f32⟩
  | .local _ .vmem, ⟨22, _⟩ => ⟨S1x128x512, .f32⟩
  | .local _ .vmem, ⟨23, _⟩ => ⟨S1x128x512, .f32⟩
  | .local _ .vmem, ⟨24, _⟩ => ⟨S512x384, .f32⟩
  | .local _ .vmem, ⟨25, _⟩ => ⟨S3x1x128x512, .bf16⟩
  | .local _ .vmem, ⟨26, _⟩ => ⟨S3x1x128x512, .bf16⟩
  | .local _ .vmem, ⟨27, _⟩ => ⟨S512x384, .f32⟩
  | .local _ .vmem, ⟨28, _⟩ => ⟨S512x384, .f32⟩
  | .local _ .vmem, ⟨29, _⟩ => ⟨S512x384, .f32⟩
  | .local _ .vmem, ⟨30, _⟩ => ⟨S512x384, .f32⟩
  | .local _ .vmem, ⟨31, _⟩ => ⟨S512x384, .bf16⟩
  | .local _ .vmem, ⟨32, _⟩ => ⟨S512x384, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_cst_2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_6 : Ref sig .tc := ⟨.hbm, 54, rfl⟩
abbrev main_v41 : Ref sig .tc := ⟨.hbm, 55, rfl⟩
abbrev main_v42 : Ref sig .tc := ⟨.hbm, 56, rfl⟩
abbrev main_c_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_8 : Ref sig .tc := ⟨.hbm, 62, rfl⟩
abbrev main_v47 : Ref sig .tc := ⟨.hbm, 63, rfl⟩
abbrev main_v48 : Ref sig .tc := ⟨.hbm, 64, rfl⟩
abbrev main_c_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_10 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_c_11 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_12 : Ref sig .tc := ⟨.hbm, 92, rfl⟩
abbrev main_call0_v0 : Ref sig .tc := ⟨.hbm, 93, rfl⟩
abbrev main_call0_v1 : Ref sig .tc := ⟨.hbm, 94, rfl⟩
abbrev main_call0_v2 : Ref sig .tc := ⟨.hbm, 95, rfl⟩
abbrev main_v73 : Ref sig .tc := ⟨.hbm, 96, rfl⟩
abbrev main_cst_13 : Ref sig .tc := ⟨.hbm, 97, rfl⟩
abbrev main_v74 : Ref sig .tc := ⟨.hbm, 98, rfl⟩
abbrev main_v75 : Ref sig .tc := ⟨.hbm, 99, rfl⟩
abbrev main_cst_14 : Ref sig .tc := ⟨.hbm, 100, rfl⟩
abbrev main_v76 : Ref sig .tc := ⟨.hbm, 101, rfl⟩
abbrev main_v77 : Ref sig .tc := ⟨.hbm, 102, rfl⟩
abbrev main_cst_15 : Ref sig .tc := ⟨.hbm, 103, rfl⟩
abbrev main_call1_v0 : Ref sig .tc := ⟨.hbm, 104, rfl⟩
abbrev main_call1_v1 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_16 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_17 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_c_18 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_cst_19 : Ref sig .tc := ⟨.hbm, 170, rfl⟩
abbrev main_v139 : Ref sig .tc := ⟨.hbm, 171, rfl⟩
abbrev main_v140 : Ref sig .tc := ⟨.hbm, 172, rfl⟩
abbrev main_cst_20 : Ref sig .tc := ⟨.hbm, 173, rfl⟩
abbrev main_call2_v0 : Ref sig .tc := ⟨.hbm, 174, rfl⟩
abbrev main_call2_v1 : Ref sig .tc := ⟨.hbm, 175, rfl⟩
abbrev main_v141 : Ref sig .tc := ⟨.hbm, 176, rfl⟩
abbrev main_c_21 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_c_22 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_cst_23 : Ref sig .tc := ⟨.hbm, 187, rfl⟩
abbrev main_v150 : Ref sig .tc := ⟨.hbm, 188, rfl⟩
abbrev main_v151 : Ref sig .tc := ⟨.hbm, 189, rfl⟩
abbrev main_cst_24 : Ref sig .tc := ⟨.hbm, 190, rfl⟩
abbrev main_call3_v0 : Ref sig .tc := ⟨.hbm, 191, rfl⟩
abbrev main_call3_v1 : Ref sig .tc := ⟨.hbm, 192, rfl⟩
abbrev main_v152 : Ref sig .tc := ⟨.hbm, 193, rfl⟩
abbrev main_c_25 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_c_26 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_cst_27 : Ref sig .tc := ⟨.hbm, 204, rfl⟩
abbrev main_v161 : Ref sig .tc := ⟨.hbm, 205, rfl⟩
abbrev main_v162 : Ref sig .tc := ⟨.hbm, 206, rfl⟩
abbrev main_cst_28 : Ref sig .tc := ⟨.hbm, 207, rfl⟩
abbrev main_call4_v0 : Ref sig .tc := ⟨.hbm, 208, rfl⟩
abbrev main_call4_v1 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_c_29 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_cst_30 : Ref sig .tc := ⟨.hbm, 219, rfl⟩
abbrev main_v171 : Ref sig .tc := ⟨.hbm, 220, rfl⟩
abbrev main_v172 : Ref sig .tc := ⟨.hbm, 221, rfl⟩
abbrev main_cst_31 : Ref sig .tc := ⟨.hbm, 222, rfl⟩
abbrev main_call5_v0 : Ref sig .tc := ⟨.hbm, 223, rfl⟩
abbrev main_call5_v1 : Ref sig .tc := ⟨.hbm, 224, rfl⟩
abbrev main_v173 : Ref sig .tc := ⟨.hbm, 225, rfl⟩
abbrev main_c_32 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_c_33 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_cst_34 : Ref sig .tc := ⟨.hbm, 236, rfl⟩
abbrev main_v182 : Ref sig .tc := ⟨.hbm, 237, rfl⟩
abbrev main_v183 : Ref sig .tc := ⟨.hbm, 238, rfl⟩
abbrev main_cst_35 : Ref sig .tc := ⟨.hbm, 239, rfl⟩
abbrev main_call6_v0 : Ref sig .tc := ⟨.hbm, 240, rfl⟩
abbrev main_call6_v1 : Ref sig .tc := ⟨.hbm, 241, rfl⟩
abbrev main_v184 : Ref sig .tc := ⟨.hbm, 242, rfl⟩
abbrev main_c_36 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_c_37 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_cst_38 : Ref sig .tc := ⟨.hbm, 253, rfl⟩
abbrev main_v193 : Ref sig .tc := ⟨.hbm, 254, rfl⟩
abbrev main_v194 : Ref sig .tc := ⟨.hbm, 255, rfl⟩
abbrev main_cst_39 : Ref sig .tc := ⟨.hbm, 256, rfl⟩
abbrev main_call7_v0 : Ref sig .tc := ⟨.hbm, 257, rfl⟩
abbrev main_call7_v1 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_c_40 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_cst_41 : Ref sig .tc := ⟨.hbm, 268, rfl⟩
abbrev main_v203 : Ref sig .tc := ⟨.hbm, 269, rfl⟩
abbrev main_v204 : Ref sig .tc := ⟨.hbm, 270, rfl⟩
abbrev main_cst_42 : Ref sig .tc := ⟨.hbm, 271, rfl⟩
abbrev main_call8_v0 : Ref sig .tc := ⟨.hbm, 272, rfl⟩
abbrev main_call8_v1 : Ref sig .tc := ⟨.hbm, 273, rfl⟩
abbrev main_v205 : Ref sig .tc := ⟨.hbm, 274, rfl⟩
abbrev main_c_43 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_c_44 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_cst_45 : Ref sig .tc := ⟨.hbm, 285, rfl⟩
abbrev main_v214 : Ref sig .tc := ⟨.hbm, 286, rfl⟩
abbrev main_v215 : Ref sig .tc := ⟨.hbm, 287, rfl⟩
abbrev main_cst_46 : Ref sig .tc := ⟨.hbm, 288, rfl⟩
abbrev main_call9_v0 : Ref sig .tc := ⟨.hbm, 289, rfl⟩
abbrev main_call9_v1 : Ref sig .tc := ⟨.hbm, 290, rfl⟩
abbrev main_v216 : Ref sig .tc := ⟨.hbm, 291, rfl⟩
abbrev main_c_47 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_c_48 : Ref sig .tc := ⟨.hbm, 298, rfl⟩
abbrev main_v222 : Ref sig .tc := ⟨.hbm, 299, rfl⟩
abbrev main_v223 : Ref sig .tc := ⟨.hbm, 300, rfl⟩
abbrev main_v224 : Ref sig .tc := ⟨.hbm, 301, rfl⟩
abbrev main_cst_49 : Ref sig .tc := ⟨.hbm, 302, rfl⟩
abbrev main_v225 : Ref sig .tc := ⟨.hbm, 303, rfl⟩
abbrev main_v226 : Ref sig .tc := ⟨.hbm, 304, rfl⟩
abbrev main_cst_50 : Ref sig .tc := ⟨.hbm, 305, rfl⟩
abbrev main_call10_v0 : Ref sig .tc := ⟨.hbm, 306, rfl⟩
abbrev main_call10_v1 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_v230 : Ref sig .tc := ⟨.hbm, 311, rfl⟩
abbrev main_v231 : Ref sig .tc := ⟨.hbm, 312, rfl⟩
abbrev main_c_51 : Ref sig .tc := ⟨.hbm, 313, rfl⟩
abbrev main_v232 : Ref sig .tc := ⟨.hbm, 314, rfl⟩
abbrev main_v233 : Ref sig .tc := ⟨.hbm, 315, rfl⟩
abbrev main_v234 : Ref sig .tc := ⟨.hbm, 316, rfl⟩
abbrev main_cst_52 : Ref sig .tc := ⟨.hbm, 317, rfl⟩
abbrev main_v235 : Ref sig .tc := ⟨.hbm, 318, rfl⟩
abbrev main_v236 : Ref sig .tc := ⟨.hbm, 319, rfl⟩
abbrev main_cst_53 : Ref sig .tc := ⟨.hbm, 320, rfl⟩
abbrev main_call11_v0 : Ref sig .tc := ⟨.hbm, 321, rfl⟩
abbrev main_call11_v1 : Ref sig .tc := ⟨.hbm, 322, rfl⟩
abbrev main_v237 : Ref sig .tc := ⟨.hbm, 323, rfl⟩
abbrev main_c_54 : Ref sig .tc := ⟨.hbm, 324, rfl⟩
abbrev main_v238 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_c_55 : Ref sig .tc := ⟨.hbm, 330, rfl⟩
abbrev main_v243 : Ref sig .tc := ⟨.hbm, 331, rfl⟩
abbrev main_v244 : Ref sig .tc := ⟨.hbm, 332, rfl⟩
abbrev main_v245 : Ref sig .tc := ⟨.hbm, 333, rfl⟩
abbrev main_cst_56 : Ref sig .tc := ⟨.hbm, 334, rfl⟩
abbrev main_v246 : Ref sig .tc := ⟨.hbm, 335, rfl⟩
abbrev main_v247 : Ref sig .tc := ⟨.hbm, 336, rfl⟩
abbrev main_cst_57 : Ref sig .tc := ⟨.hbm, 337, rfl⟩
abbrev main_call12_v0 : Ref sig .tc := ⟨.hbm, 338, rfl⟩
abbrev main_call12_v1 : Ref sig .tc := ⟨.hbm, 339, rfl⟩
abbrev main_v248 : Ref sig .tc := ⟨.hbm, 340, rfl⟩
abbrev main_c_58 : Ref sig .tc := ⟨.hbm, 341, rfl⟩
abbrev main_v249 : Ref sig .tc := ⟨.hbm, 342, rfl⟩
abbrev main_v250 : Ref sig .tc := ⟨.hbm, 343, rfl⟩
abbrev main_v251 : Ref sig .tc := ⟨.hbm, 344, rfl⟩
abbrev main_v252 : Ref sig .tc := ⟨.hbm, 345, rfl⟩
abbrev main_v253 : Ref sig .tc := ⟨.hbm, 346, rfl⟩
abbrev main_c_59 : Ref sig .tc := ⟨.hbm, 347, rfl⟩
abbrev main_v254 : Ref sig .tc := ⟨.hbm, 348, rfl⟩
abbrev main_v255 : Ref sig .tc := ⟨.hbm, 349, rfl⟩
abbrev main_v256 : Ref sig .tc := ⟨.hbm, 350, rfl⟩
abbrev main_cst_60 : Ref sig .tc := ⟨.hbm, 351, rfl⟩
abbrev main_v257 : Ref sig .tc := ⟨.hbm, 352, rfl⟩
abbrev main_v258 : Ref sig .tc := ⟨.hbm, 353, rfl⟩
abbrev main_cst_61 : Ref sig .tc := ⟨.hbm, 354, rfl⟩
abbrev main_call13_v0 : Ref sig .tc := ⟨.hbm, 355, rfl⟩
abbrev main_call13_v1 : Ref sig .tc := ⟨.hbm, 356, rfl⟩
abbrev main_v259 : Ref sig .tc := ⟨.hbm, 357, rfl⟩
abbrev main_v260 : Ref sig .tc := ⟨.hbm, 358, rfl⟩
abbrev main_v261 : Ref sig .tc := ⟨.hbm, 359, rfl⟩
abbrev main_v262 : Ref sig .tc := ⟨.hbm, 360, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  let c0_i32_3 : BitVec 32 := 0#32
  ![c0_i32_1.toNat, arg0.toNat, v2.toNat, c0_i32_2.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![c0_i32_0.toNat, arg0.toNat, v2.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c1_i32 : BitVec 32 := 1#32
  let c0_i32_1 : BitVec 32 := 0#32
  let c0_i32_2 : BitVec 32 := 0#32
  ![c1_i32.toNat, arg0.toNat, v2.toNat, c0_i32_1.toNat]

def cc0_transform_3 (i : grid0.Coords) : Fin 4 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c15_i32 : BitVec 32 := 15#32
  let v1 : BitVec 32 := Scalar.maxsi c0_i32 v0
  let v2 : BitVec 32 := Scalar.minsi c15_i32 v1
  let c1_i32 : BitVec 32 := 1#32
  let c0_i32_0 : BitVec 32 := 0#32
  let c0_i32_1 : BitVec 32 := 0#32
  ![c1_i32.toNat, arg0.toNat, v2.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c2_i32 : BitVec 32 := 2#32
  let c0_i32_1 : BitVec 32 := 0#32
  let c0_i32_2 : BitVec 32 := 0#32
  ![c2_i32.toNat, arg0.toNat, v2.toNat, c0_i32_1.toNat]

def cc0_transform_5 (i : grid0.Coords) : Fin 4 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c15_i32 : BitVec 32 := 15#32
  let v1 : BitVec 32 := Scalar.maxsi c0_i32 v0
  let v2 : BitVec 32 := Scalar.minsi c15_i32 v1
  let c2_i32 : BitVec 32 := 2#32
  let c0_i32_0 : BitVec 32 := 0#32
  let c0_i32_1 : BitVec 32 := 0#32
  ![c2_i32.toNat, arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![arg0.toNat, v2.toNat, c0_i32_1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![arg0.toNat, v2.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![arg0.toNat, v2.toNat, c0_i32_1.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![arg0.toNat, v2.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![arg0.toNat, v2.toNat, c0_i32_1.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![arg0.toNat, v2.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S512x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S3x1x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
abbrev S8192x512 : Shape := ⟨2, ![8192, 512]⟩
abbrev S8192x4 : Shape := ⟨2, ![8192, 4]⟩
abbrev S_ : Shape := ⟨0, ![]⟩
abbrev S1 : Shape := ⟨1, ![1]⟩
abbrev S4 : Shape := ⟨1, ![4]⟩
abbrev S8192x4x128 : Shape := ⟨3, ![8192, 4, 128]⟩
abbrev S2048x4x4x128 : Shape := ⟨4, ![2048, 4, 4, 128]⟩
abbrev S4x2048x4x128 : Shape := ⟨4, ![4, 2048, 4, 128]⟩
abbrev S4x16x128x4x128 : Shape := ⟨5, ![4, 16, 128, 4, 128]⟩
abbrev S4x1x128x4x128 : Shape := ⟨5, ![4, 1, 128, 4, 128]⟩
abbrev S4x15x128x4x128 : Shape := ⟨5, ![4, 15, 128, 4, 128]⟩
abbrev S4x16x256x4x128 : Shape := ⟨5, ![4, 16, 256, 4, 128]⟩
abbrev S4x16x4x128x256 : Shape := ⟨5, ![4, 16, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x128x256 : Shape := ⟨3, ![1, 128, 256]⟩
abbrev S1x1x256 : Shape := ⟨3, ![1, 1, 256]⟩
abbrev S16x1x256 : Shape := ⟨3, ![16, 1, 256]⟩
abbrev S16x128x256 : Shape := ⟨3, ![16, 128, 256]⟩
abbrev S4x1x1 : Shape := ⟨3, ![4, 1, 1]⟩
abbrev S4x128x256 : Shape := ⟨3, ![4, 128, 256]⟩
abbrev S1x1x4x128x256 : Shape := ⟨5, ![1, 1, 4, 128, 256]⟩
abbrev S1x16x1x128x256 : Shape := ⟨5, ![1, 16, 1, 128, 256]⟩
abbrev S4x16x4x128 : Shape := ⟨4, ![4, 16, 4, 128]⟩
abbrev S4x16x4x128x1 : Shape := ⟨5, ![4, 16, 4, 128, 1]⟩
abbrev S4x16x4x128x128 : Shape := ⟨5, ![4, 16, 4, 128, 128]⟩
abbrev S4x16x128x4 : Shape := ⟨4, ![4, 16, 128, 4]⟩
abbrev S4x16x128x4x1 : Shape := ⟨5, ![4, 16, 128, 4, 1]⟩
abbrev S4x2048x4x1 : Shape := ⟨4, ![4, 2048, 4, 1]⟩
abbrev S2048x4x4x1 : Shape := ⟨4, ![2048, 4, 4, 1]⟩
abbrev S8192x4x1 : Shape := ⟨3, ![8192, 4, 1]⟩
abbrev S2048x4x512 : Shape := ⟨3, ![2048, 4, 512]⟩
abbrev S4x2048x512 : Shape := ⟨3, ![4, 2048, 512]⟩
abbrev S1x4x2048x512 : Shape := ⟨4, ![1, 4, 2048, 512]⟩
abbrev S3x4x2048x512 : Shape := ⟨4, ![3, 4, 2048, 512]⟩
abbrev S1x128 : Shape := ⟨2, ![1, 128]⟩
abbrev S128x128 : Shape := ⟨2, ![128, 128]⟩
abbrev S128x384 : Shape := ⟨2, ![128, 384]⟩
abbrev S512x384 : Shape := ⟨2, ![512, 384]⟩
abbrev S1x1x128x512 : Shape := ⟨4, ![1, 1, 128, 512]⟩
abbrev S1x128x512 : Shape := ⟨3, ![1, 128, 512]⟩
abbrev S3x1x128x512 : Shape := ⟨4, ![3, 1, 128, 512]⟩
abbrev S1x1x128x128 : Shape := ⟨4, ![1, 1, 128, 128]⟩
abbrev S1x128x128 : Shape := ⟨3, ![1, 128, 128]⟩

abbrev nBuf : Space → Nat
  | .hbm => 361
  | .vmem => 33
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x4, .f32⟩
  | 5 => ⟨S_, .f32⟩
  | 6 => ⟨S_, .f32⟩
  | 7 => ⟨S_, .f32⟩
  | 8 => ⟨S_, .f32⟩
  | 9 => ⟨S1, .f32⟩
  | 10 => ⟨S1, .f32⟩
  | 11 => ⟨S1, .f32⟩
  | 12 => ⟨S1, .f32⟩
  | 13 => ⟨S4, .f32⟩
  | 14 => ⟨S8192x4x128, .f32⟩
  | 15 => ⟨S8192x4x128, .f32⟩
  | 16 => ⟨S8192x4x128, .f32⟩
  | 17 => ⟨S2048x4x4x128, .f32⟩
  | 18 => ⟨S4x2048x4x128, .f32⟩
  | 19 => ⟨S4x16x128x4x128, .f32⟩
  | 20 => ⟨S2048x4x4x128, .f32⟩
  | 21 => ⟨S4x2048x4x128, .f32⟩
  | 22 => ⟨S4x16x128x4x128, .f32⟩
  | 23 => ⟨S4x1x128x4x128, .f32⟩
  | 24 => ⟨S_, .f32⟩
  | 25 => ⟨S4x1x128x4x128, .f32⟩
  | 26 => ⟨S4x15x128x4x128, .f32⟩
  | 27 => ⟨S4x16x128x4x128, .f32⟩
  | 28 => ⟨S4x16x256x4x128, .f32⟩
  | 29 => ⟨S2048x4x4x128, .f32⟩
  | 30 => ⟨S4x2048x4x128, .f32⟩
  | 31 => ⟨S4x16x128x4x128, .f32⟩
  | 32 => ⟨S4x1x128x4x128, .f32⟩
  | 33 => ⟨S_, .f32⟩
  | 34 => ⟨S4x1x128x4x128, .f32⟩
  | 35 => ⟨S4x15x128x4x128, .f32⟩
  | 36 => ⟨S4x16x128x4x128, .f32⟩
  | 37 => ⟨S4x16x256x4x128, .f32⟩
  | 38 => ⟨S4x16x4x128x256, .f32⟩
  | 39 => ⟨S_, .f32⟩
  | 40 => ⟨S4x16x4x128x256, .f32⟩
  | 41 => ⟨S4x16x4x128x256, .f32⟩
  | 42 => ⟨S128, .i32⟩
  | 43 => ⟨S128x1, .i32⟩
  | 44 => ⟨S256, .i32⟩
  | 45 => ⟨S1x256, .i32⟩
  | 46 => ⟨S_, .i32⟩
  | 47 => ⟨S128x1, .i32⟩
  | 48 => ⟨S128x1, .i32⟩
  | 49 => ⟨S128x256, .i32⟩
  | 50 => ⟨S128x256, .i32⟩
  | 51 => ⟨S128x256, .i32⟩
  | 52 => ⟨S16, .i32⟩
  | 53 => ⟨S16x1x1, .i32⟩
  | 54 => ⟨S_, .i32⟩
  | 55 => ⟨S128x256, .i32⟩
  | 56 => ⟨S128x256, .i1⟩
  | 57 => ⟨S_, .i32⟩
  | 58 => ⟨S128x256, .i32⟩
  | 59 => ⟨S128x256, .i1⟩
  | 60 => ⟨S128x256, .i1⟩
  | 61 => ⟨S1x128x256, .i1⟩
  | 62 => ⟨S_, .i32⟩
  | 63 => ⟨S16x1x1, .i32⟩
  | 64 => ⟨S16x1x1, .i32⟩
  | 65 => ⟨S_, .i32⟩
  | 66 => ⟨S16x1x1, .i32⟩
  | 67 => ⟨S16x1x1, .i32⟩
  | 68 => ⟨S1x1x256, .i32⟩
  | 69 => ⟨S16x1x256, .i32⟩
  | 70 => ⟨S16x1x256, .i32⟩
  | 71 => ⟨S16x1x256, .i32⟩
  | 72 => ⟨S_, .i32⟩
  | 73 => ⟨S16x1x256, .i32⟩
  | 74 => ⟨S16x1x256, .i1⟩
  | 75 => ⟨S16x128x256, .i1⟩
  | 76 => ⟨S16x128x256, .i1⟩
  | 77 => ⟨S16x128x256, .i1⟩
  | 78 => ⟨S4x1x1, .f32⟩
  | 79 => ⟨S4x1x1, .f32⟩
  | 80 => ⟨S_, .i32⟩
  | 81 => ⟨S128x256, .i32⟩
  | 82 => ⟨S128x256, .i32⟩
  | 83 => ⟨S128x256, .f32⟩
  | 84 => ⟨S1x128x256, .f32⟩
  | 85 => ⟨S4x128x256, .f32⟩
  | 86 => ⟨S4x128x256, .f32⟩
  | 87 => ⟨S4x128x256, .f32⟩
  | 88 => ⟨S1x1x4x128x256, .f32⟩
  | 89 => ⟨S4x16x4x128x256, .f32⟩
  | 90 => ⟨S4x16x4x128x256, .f32⟩
  | 91 => ⟨S1x16x1x128x256, .i1⟩
  | 92 => ⟨S_, .f32⟩
  | 93 => ⟨S_, .f32⟩
  | 94 => ⟨S4x16x4x128x256, .i1⟩
  | 95 => ⟨S4x16x4x128x256, .f32⟩
  | 96 => ⟨S4x16x4x128x256, .f32⟩
  | 97 => ⟨S_, .f32⟩
  | 98 => ⟨S4x16x4x128, .f32⟩
  | 99 => ⟨S4x16x4x128, .f32⟩
  | 100 => ⟨S_, .f32⟩
  | 101 => ⟨S4x16x4x128, .f32⟩
  | 102 => ⟨S4x16x4x128, .i1⟩
  | 103 => ⟨S_, .f32⟩
  | 104 => ⟨S_, .f32⟩
  | 105 => ⟨S4x16x4x128, .f32⟩
  | 106 => ⟨S4x16x4x128, .f32⟩
  | 107 => ⟨S4x16x4x128x1, .f32⟩
  | 108 => ⟨S4x16x4x128x256, .f32⟩
  | 109 => ⟨S4x16x4x128x256, .f32⟩
  | 110 => ⟨S4x16x4x128x256, .f32⟩
  | 111 => ⟨S_, .f32⟩
  | 112 => ⟨S4x16x4x128, .f32⟩
  | 113 => ⟨S4x16x4x128, .f32⟩
  | 114 => ⟨S4x16x4x128, .f32⟩
  | 115 => ⟨S4x16x4x128x1, .f32⟩
  | 116 => ⟨S4x16x4x128x256, .f32⟩
  | 117 => ⟨S4x16x4x128x256, .f32⟩
  | 118 => ⟨S4x16x4x128x256, .f32⟩
  | 119 => ⟨S4x16x4x128x128, .f32⟩
  | 120 => ⟨S4x16x128x4x128, .f32⟩
  | 121 => ⟨S4x16x128x4, .f32⟩
  | 122 => ⟨S4x16x128x4x1, .f32⟩
  | 123 => ⟨S4x2048x4x1, .f32⟩
  | 124 => ⟨S2048x4x4x1, .f32⟩
  | 125 => ⟨S8192x4x1, .f32⟩
  | 126 => ⟨S8192x4, .f32⟩
  | 127 => ⟨S4x2048x4x128, .f32⟩
  | _ => ⟨S8192x512, .f32⟩

abbrev hbmTy0_1 (i : Nat) : BufTy := match i % 128 with
  | 0 => ⟨S2048x4x4x128, .f32⟩
  | 1 => ⟨S8192x4x128, .f32⟩
  | 2 => ⟨S8192x4x128, .f32⟩
  | 3 => ⟨S8192x4x128, .f32⟩
  | 4 => ⟨S_, .f32⟩
  | 5 => ⟨S8192x4, .f32⟩
  | 6 => ⟨S8192x4, .f32⟩
  | 7 => ⟨S2048x4x512, .f32⟩
  | 8 => ⟨S4x2048x512, .f32⟩
  | 9 => ⟨S2048x4x512, .f32⟩
  | 10 => ⟨S4x2048x512, .f32⟩
  | 11 => ⟨S2048x4x512, .f32⟩
  | 12 => ⟨S4x2048x512, .f32⟩
  | 13 => ⟨S1x4x2048x512, .f32⟩
  | 14 => ⟨S1x4x2048x512, .f32⟩
  | 15 => ⟨S1x4x2048x512, .f32⟩
  | 16 => ⟨S3x4x2048x512, .f32⟩
  | 17 => ⟨S3x4x2048x512, .bf16⟩
  | 18 => ⟨S2048x4x512, .f32⟩
  | 19 => ⟨S4x2048x512, .f32⟩
  | 20 => ⟨S4x2048x512, .bf16⟩
  | 21 => ⟨S8192x4x1, .f32⟩
  | 22 => ⟨S8192x4x128, .f32⟩
  | 23 => ⟨S8192x512, .f32⟩
  | 24 => ⟨S2048x4x512, .f32⟩
  | 25 => ⟨S4x2048x512, .f32⟩
  | 26 => ⟨S8192x4x1, .f32⟩
  | 27 => ⟨S8192x4x128, .f32⟩
  | 28 => ⟨S8192x512, .f32⟩
  | 29 => ⟨S2048x4x512, .f32⟩
  | 30 => ⟨S4x2048x512, .f32⟩
  | 31 => ⟨S128, .i32⟩
  | 32 => ⟨S128x1, .i32⟩
  | 33 => ⟨S128, .i32⟩
  | 34 => ⟨S1x128, .i32⟩
  | 35 => ⟨S128x128, .i32⟩
  | 36 => ⟨S128x128, .i32⟩
  | 37 => ⟨S128x128, .i32⟩
  | 38 => ⟨S_, .i32⟩
  | 39 => ⟨S128x128, .i32⟩
  | 40 => ⟨S128x128, .i1⟩
  | 41 => ⟨S128x128, .f32⟩
  | 42 => ⟨S_, .f32⟩
  | 43 => ⟨S128x128, .f32⟩
  | 44 => ⟨S128x128, .f32⟩
  | 45 => ⟨S_, .f32⟩
  | 46 => ⟨S_, .f32⟩
  | 47 => ⟨S128x128, .f32⟩
  | 48 => ⟨S128x128, .f32⟩
  | 49 => ⟨S_, .i32⟩
  | 50 => ⟨S128x1, .i32⟩
  | 51 => ⟨S128x1, .i32⟩
  | 52 => ⟨S128x128, .i32⟩
  | 53 => ⟨S128x128, .i32⟩
  | 54 => ⟨S128x128, .i32⟩
  | 55 => ⟨S_, .i32⟩
  | 56 => ⟨S128x128, .i32⟩
  | 57 => ⟨S128x128, .i1⟩
  | 58 => ⟨S128x128, .f32⟩
  | 59 => ⟨S_, .f32⟩
  | 60 => ⟨S128x128, .f32⟩
  | 61 => ⟨S128x128, .f32⟩
  | 62 => ⟨S_, .f32⟩
  | 63 => ⟨S_, .f32⟩
  | 64 => ⟨S128x128, .f32⟩
  | 65 => ⟨S128x128, .f32⟩
  | 66 => ⟨S_, .i32⟩
  | 67 => ⟨S128x1, .i32⟩
  | 68 => ⟨S128x1, .i32⟩
  | 69 => ⟨S128x128, .i32⟩
  | 70 => ⟨S128x128, .i32⟩
  | 71 => ⟨S128x128, .i32⟩
  | 72 => ⟨S_, .i32⟩
  | 73 => ⟨S128x128, .i32⟩
  | 74 => ⟨S128x128, .i1⟩
  | 75 => ⟨S128x128, .f32⟩
  | 76 => ⟨S_, .f32⟩
  | 77 => ⟨S128x128, .f32⟩
  | 78 => ⟨S128x128, .f32⟩
  | 79 => ⟨S_, .f32⟩
  | 80 => ⟨S_, .f32⟩
  | 81 => ⟨S128x128, .f32⟩
  | 82 => ⟨S128x128, .f32⟩
  | 83 => ⟨S128x384, .f32⟩
  | 84 => ⟨S128x128, .i32⟩
  | 85 => ⟨S128x128, .i32⟩
  | 86 => ⟨S128x128, .i32⟩
  | 87 => ⟨S_, .i32⟩
  | 88 => ⟨S128x128, .i32⟩
  | 89 => ⟨S128x128, .i1⟩
  | 90 => ⟨S128x128, .f32⟩
  | 91 => ⟨S_, .f32⟩
  | 92 => ⟨S128x128, .f32⟩
  | 93 => ⟨S128x128, .f32⟩
  | 94 => ⟨S_, .f32⟩
  | 95 => ⟨S_, .f32⟩
  | 96 => ⟨S128x128, .f32⟩
  | 97 => ⟨S128x128, .f32⟩
  | 98 => ⟨S_, .i32⟩
  | 99 => ⟨S128x1, .i32⟩
  | 100 => ⟨S128x1, .i32⟩
  | 101 => ⟨S128x128, .i32⟩
  | 102 => ⟨S128x128, .i32⟩
  | 103 => ⟨S128x128, .i32⟩
  | 104 => ⟨S_, .i32⟩
  | 105 => ⟨S128x128, .i32⟩
  | 106 => ⟨S128x128, .i1⟩
  | 107 => ⟨S128x128, .f32⟩
  | 108 => ⟨S_, .f32⟩
  | 109 => ⟨S128x128, .f32⟩
  | 110 => ⟨S128x128, .f32⟩
  | 111 => ⟨S_, .f32⟩
  | 112 => ⟨S_, .f32⟩
  | 113 => ⟨S128x128, .f32⟩
  | 114 => ⟨S128x128, .f32⟩
  | 115 => ⟨S_, .i32⟩
  | 116 => ⟨S128x1, .i32⟩
  | 117 => ⟨S128x1, .i32⟩
  | 118 => ⟨S128x128, .i32⟩
  | 119 => ⟨S128x128, .i32⟩
  | 120 => ⟨S128x128, .i32⟩
  | 121 => ⟨S_, .i32⟩
  | 122 => ⟨S128x128, .i32⟩
  | 123 => ⟨S128x128, .i1⟩
  | 124 => ⟨S128x128, .f32⟩
  | 125 => ⟨S_, .f32⟩
  | 126 => ⟨S128x128, .f32⟩
  | 127 => ⟨S128x128, .f32⟩
  | _ => ⟨S8192x512, .f32⟩

abbrev hbmTy0_2 (i : Nat) : BufTy := match i % 128 with
  | 0 => ⟨S_, .f32⟩
  | 1 => ⟨S_, .f32⟩
  | 2 => ⟨S128x128, .f32⟩
  | 3 => ⟨S128x128, .f32⟩
  | 4 => ⟨S128x384, .f32⟩
  | 5 => ⟨S128x128, .i32⟩
  | 6 => ⟨S128x128, .i32⟩
  | 7 => ⟨S128x128, .i32⟩
  | 8 => ⟨S_, .i32⟩
  | 9 => ⟨S128x128, .i32⟩
  | 10 => ⟨S128x128, .i1⟩
  | 11 => ⟨S128x128, .f32⟩
  | 12 => ⟨S_, .f32⟩
  | 13 => ⟨S128x128, .f32⟩
  | 14 => ⟨S128x128, .f32⟩
  | 15 => ⟨S_, .f32⟩
  | 16 => ⟨S_, .f32⟩
  | 17 => ⟨S128x128, .f32⟩
  | 18 => ⟨S128x128, .f32⟩
  | 19 => ⟨S_, .i32⟩
  | 20 => ⟨S128x1, .i32⟩
  | 21 => ⟨S128x1, .i32⟩
  | 22 => ⟨S128x128, .i32⟩
  | 23 => ⟨S128x128, .i32⟩
  | 24 => ⟨S128x128, .i32⟩
  | 25 => ⟨S_, .i32⟩
  | 26 => ⟨S128x128, .i32⟩
  | 27 => ⟨S128x128, .i1⟩
  | 28 => ⟨S128x128, .f32⟩
  | 29 => ⟨S_, .f32⟩
  | 30 => ⟨S128x128, .f32⟩
  | 31 => ⟨S128x128, .f32⟩
  | 32 => ⟨S_, .f32⟩
  | 33 => ⟨S_, .f32⟩
  | 34 => ⟨S128x128, .f32⟩
  | 35 => ⟨S128x128, .f32⟩
  | 36 => ⟨S_, .i32⟩
  | 37 => ⟨S128x1, .i32⟩
  | 38 => ⟨S128x1, .i32⟩
  | 39 => ⟨S128x128, .i32⟩
  | 40 => ⟨S128x128, .i32⟩
  | 41 => ⟨S128x128, .i32⟩
  | 42 => ⟨S_, .i32⟩
  | 43 => ⟨S128x128, .i32⟩
  | 44 => ⟨S128x128, .i1⟩
  | 45 => ⟨S128x128, .f32⟩
  | 46 => ⟨S_, .f32⟩
  | 47 => ⟨S128x128, .f32⟩
  | 48 => ⟨S128x128, .f32⟩
  | 49 => ⟨S_, .f32⟩
  | 50 => ⟨S_, .f32⟩
  | 51 => ⟨S128x128, .f32⟩
  | 52 => ⟨S128x128, .f32⟩
  | 53 => ⟨S128x384, .f32⟩
  | 54 => ⟨S128x128, .i32⟩
  | 55 => ⟨S128x128, .i32⟩
  | 56 => ⟨S128x128, .i32⟩
  | 57 => ⟨S_, .i32⟩
  | 58 => ⟨S128x128, .i32⟩
  | 59 => ⟨S128x128, .i1⟩
  | 60 => ⟨S128x128, .f32⟩
  | 61 => ⟨S_, .f32⟩
  | 62 => ⟨S128x128, .f32⟩
  | 63 => ⟨S128x128, .f32⟩
  | 64 => ⟨S_, .f32⟩
  | 65 => ⟨S_, .f32⟩
  | 66 => ⟨S128x128, .f32⟩
  | 67 => ⟨S128x128, .f32⟩
  | 68 => ⟨S_, .i32⟩
  | 69 => ⟨S128x1, .i32⟩
  | 70 => ⟨S128x1, .i32⟩
  | 71 => ⟨S128x128, .i32⟩
  | 72 => ⟨S128x128, .i32⟩
  | 73 => ⟨S128x128, .i32⟩
  | 74 => ⟨S_, .i32⟩
  | 75 => ⟨S128x128, .i32⟩
  | 76 => ⟨S128x128, .i1⟩
  | 77 => ⟨S128x128, .f32⟩
  | 78 => ⟨S_, .f32⟩
  | 79 => ⟨S128x128, .f32⟩
  | 80 => ⟨S128x128, .f32⟩
  | 81 => ⟨S_, .f32⟩
  | 82 => ⟨S_, .f32⟩
  | 83 => ⟨S128x128, .f32⟩
  | 84 => ⟨S128x128, .f32⟩
  | 85 => ⟨S_, .i32⟩
  | 86 => ⟨S128x1, .i32⟩
  | 87 => ⟨S128x1, .i32⟩
  | 88 => ⟨S128x128, .i32⟩
  | 89 => ⟨S128x128, .i32⟩
  | 90 => ⟨S128x128, .i32⟩
  | 91 => ⟨S_, .i32⟩
  | 92 => ⟨S128x128, .i32⟩
  | 93 => ⟨S128x128, .i1⟩
  | 94 => ⟨S128x128, .f32⟩
  | 95 => ⟨S_, .f32⟩
  | 96 => ⟨S128x128, .f32⟩
  | 97 => ⟨S128x128, .f32⟩
  | 98 => ⟨S_, .f32⟩
  | 99 => ⟨S_, .f32⟩
  | 100 => ⟨S128x128, .f32⟩
  | 101 => ⟨S128x128, .f32⟩
  | 102 => ⟨S128x384, .f32⟩
  | 103 => ⟨S512x384, .f32⟩
  | 104 => ⟨S3x4x2048x512, .bf16⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | .local _ .vmem, ⟨0, _⟩ => ⟨S1x1x128x512, .bf16⟩
  | .local _ .vmem, ⟨1, _⟩ => ⟨S1x1x128x512, .bf16⟩
  | .local _ .vmem, ⟨2, _⟩ => ⟨S1x1x128x512, .bf16⟩
  | .local _ .vmem, ⟨3, _⟩ => ⟨S1x1x128x512, .bf16⟩
  | .local _ .vmem, ⟨4, _⟩ => ⟨S1x1x128x512, .bf16⟩
  | .local _ .vmem, ⟨5, _⟩ => ⟨S1x1x128x512, .bf16⟩
  | .local _ .vmem, ⟨6, _⟩ => ⟨S1x1x128x512, .bf16⟩
  | .local _ .vmem, ⟨7, _⟩ => ⟨S1x1x128x512, .bf16⟩
  | .local _ .vmem, ⟨8, _⟩ => ⟨S1x1x128x512, .bf16⟩
  | .local _ .vmem, ⟨9, _⟩ => ⟨S1x1x128x512, .bf16⟩
  | .local _ .vmem, ⟨10, _⟩ => ⟨S1x1x128x512, .bf16⟩
  | .local _ .vmem, ⟨11, _⟩ => ⟨S1x1x128x512, .bf16⟩
  | .local _ .vmem, ⟨12, _⟩ => ⟨S1x128x512, .bf16⟩
  | .local _ .vmem, ⟨13, _⟩ => ⟨S1x128x512, .bf16⟩
  | .local _ .vmem, ⟨14, _⟩ => ⟨S1x128x512, .bf16⟩
  | .local _ .vmem, ⟨15, _⟩ => ⟨S1x128x512, .bf16⟩
  | .local _ .vmem, ⟨16, _⟩ => ⟨S1x128x512, .f32⟩
  | .local _ .vmem, ⟨17, _⟩ => ⟨S1x128x512, .f32⟩
  | .local _ .vmem, ⟨18, _⟩ => ⟨S1x128x512, .f32⟩
  | .local _ .vmem, ⟨19, _⟩ => ⟨S1x128x512, .f32⟩
  | .local _ .vmem, ⟨20, _⟩ => ⟨S1x128x512, .f32⟩
  | .local _ .vmem, ⟨21, _⟩ => ⟨S1x128x512, .f32⟩
  | .local _ .vmem, ⟨22, _⟩ => ⟨S1x128x512, .f32⟩
  | .local _ .vmem, ⟨23, _⟩ => ⟨S1x128x512, .f32⟩
  | .local _ .vmem, ⟨24, _⟩ => ⟨S512x384, .f32⟩
  | .local _ .vmem, ⟨25, _⟩ => ⟨S3x1x128x512, .bf16⟩
  | .local _ .vmem, ⟨26, _⟩ => ⟨S3x1x128x512, .bf16⟩
  | .local _ .vmem, ⟨27, _⟩ => ⟨S512x384, .f32⟩
  | .local _ .vmem, ⟨28, _⟩ => ⟨S512x384, .f32⟩
  | .local _ .vmem, ⟨29, _⟩ => ⟨S512x384, .f32⟩
  | .local _ .vmem, ⟨30, _⟩ => ⟨S512x384, .f32⟩
  | .local _ .vmem, ⟨31, _⟩ => ⟨S512x384, .bf16⟩
  | .local _ .vmem, ⟨32, _⟩ => ⟨S512x384, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_cst_2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_6 : Ref sig .tc := ⟨.hbm, 54, rfl⟩
abbrev main_v41 : Ref sig .tc := ⟨.hbm, 55, rfl⟩
abbrev main_v42 : Ref sig .tc := ⟨.hbm, 56, rfl⟩
abbrev main_c_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_8 : Ref sig .tc := ⟨.hbm, 62, rfl⟩
abbrev main_v47 : Ref sig .tc := ⟨.hbm, 63, rfl⟩
abbrev main_v48 : Ref sig .tc := ⟨.hbm, 64, rfl⟩
abbrev main_c_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_10 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_c_11 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_12 : Ref sig .tc := ⟨.hbm, 92, rfl⟩
abbrev main_call0_v0 : Ref sig .tc := ⟨.hbm, 93, rfl⟩
abbrev main_call0_v1 : Ref sig .tc := ⟨.hbm, 94, rfl⟩
abbrev main_call0_v2 : Ref sig .tc := ⟨.hbm, 95, rfl⟩
abbrev main_v73 : Ref sig .tc := ⟨.hbm, 96, rfl⟩
abbrev main_cst_13 : Ref sig .tc := ⟨.hbm, 97, rfl⟩
abbrev main_v74 : Ref sig .tc := ⟨.hbm, 98, rfl⟩
abbrev main_v75 : Ref sig .tc := ⟨.hbm, 99, rfl⟩
abbrev main_cst_14 : Ref sig .tc := ⟨.hbm, 100, rfl⟩
abbrev main_v76 : Ref sig .tc := ⟨.hbm, 101, rfl⟩
abbrev main_v77 : Ref sig .tc := ⟨.hbm, 102, rfl⟩
abbrev main_cst_15 : Ref sig .tc := ⟨.hbm, 103, rfl⟩
abbrev main_call1_v0 : Ref sig .tc := ⟨.hbm, 104, rfl⟩
abbrev main_call1_v1 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_16 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_17 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_c_18 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_cst_19 : Ref sig .tc := ⟨.hbm, 170, rfl⟩
abbrev main_v139 : Ref sig .tc := ⟨.hbm, 171, rfl⟩
abbrev main_v140 : Ref sig .tc := ⟨.hbm, 172, rfl⟩
abbrev main_cst_20 : Ref sig .tc := ⟨.hbm, 173, rfl⟩
abbrev main_call2_v0 : Ref sig .tc := ⟨.hbm, 174, rfl⟩
abbrev main_call2_v1 : Ref sig .tc := ⟨.hbm, 175, rfl⟩
abbrev main_v141 : Ref sig .tc := ⟨.hbm, 176, rfl⟩
abbrev main_c_21 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_c_22 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_cst_23 : Ref sig .tc := ⟨.hbm, 187, rfl⟩
abbrev main_v150 : Ref sig .tc := ⟨.hbm, 188, rfl⟩
abbrev main_v151 : Ref sig .tc := ⟨.hbm, 189, rfl⟩
abbrev main_cst_24 : Ref sig .tc := ⟨.hbm, 190, rfl⟩
abbrev main_call3_v0 : Ref sig .tc := ⟨.hbm, 191, rfl⟩
abbrev main_call3_v1 : Ref sig .tc := ⟨.hbm, 192, rfl⟩
abbrev main_v152 : Ref sig .tc := ⟨.hbm, 193, rfl⟩
abbrev main_c_25 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_c_26 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_cst_27 : Ref sig .tc := ⟨.hbm, 204, rfl⟩
abbrev main_v161 : Ref sig .tc := ⟨.hbm, 205, rfl⟩
abbrev main_v162 : Ref sig .tc := ⟨.hbm, 206, rfl⟩
abbrev main_cst_28 : Ref sig .tc := ⟨.hbm, 207, rfl⟩
abbrev main_call4_v0 : Ref sig .tc := ⟨.hbm, 208, rfl⟩
abbrev main_call4_v1 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_c_29 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_cst_30 : Ref sig .tc := ⟨.hbm, 219, rfl⟩
abbrev main_v171 : Ref sig .tc := ⟨.hbm, 220, rfl⟩
abbrev main_v172 : Ref sig .tc := ⟨.hbm, 221, rfl⟩
abbrev main_cst_31 : Ref sig .tc := ⟨.hbm, 222, rfl⟩
abbrev main_call5_v0 : Ref sig .tc := ⟨.hbm, 223, rfl⟩
abbrev main_call5_v1 : Ref sig .tc := ⟨.hbm, 224, rfl⟩
abbrev main_v173 : Ref sig .tc := ⟨.hbm, 225, rfl⟩
abbrev main_c_32 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_c_33 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_cst_34 : Ref sig .tc := ⟨.hbm, 236, rfl⟩
abbrev main_v182 : Ref sig .tc := ⟨.hbm, 237, rfl⟩
abbrev main_v183 : Ref sig .tc := ⟨.hbm, 238, rfl⟩
abbrev main_cst_35 : Ref sig .tc := ⟨.hbm, 239, rfl⟩
abbrev main_call6_v0 : Ref sig .tc := ⟨.hbm, 240, rfl⟩
abbrev main_call6_v1 : Ref sig .tc := ⟨.hbm, 241, rfl⟩
abbrev main_v184 : Ref sig .tc := ⟨.hbm, 242, rfl⟩
abbrev main_c_36 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_c_37 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_cst_38 : Ref sig .tc := ⟨.hbm, 253, rfl⟩
abbrev main_v193 : Ref sig .tc := ⟨.hbm, 254, rfl⟩
abbrev main_v194 : Ref sig .tc := ⟨.hbm, 255, rfl⟩
abbrev main_cst_39 : Ref sig .tc := ⟨.hbm, 256, rfl⟩
abbrev main_call7_v0 : Ref sig .tc := ⟨.hbm, 257, rfl⟩
abbrev main_call7_v1 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_c_40 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_cst_41 : Ref sig .tc := ⟨.hbm, 268, rfl⟩
abbrev main_v203 : Ref sig .tc := ⟨.hbm, 269, rfl⟩
abbrev main_v204 : Ref sig .tc := ⟨.hbm, 270, rfl⟩
abbrev main_cst_42 : Ref sig .tc := ⟨.hbm, 271, rfl⟩
abbrev main_call8_v0 : Ref sig .tc := ⟨.hbm, 272, rfl⟩
abbrev main_call8_v1 : Ref sig .tc := ⟨.hbm, 273, rfl⟩
abbrev main_v205 : Ref sig .tc := ⟨.hbm, 274, rfl⟩
abbrev main_c_43 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_c_44 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_cst_45 : Ref sig .tc := ⟨.hbm, 285, rfl⟩
abbrev main_v214 : Ref sig .tc := ⟨.hbm, 286, rfl⟩
abbrev main_v215 : Ref sig .tc := ⟨.hbm, 287, rfl⟩
abbrev main_cst_46 : Ref sig .tc := ⟨.hbm, 288, rfl⟩
abbrev main_call9_v0 : Ref sig .tc := ⟨.hbm, 289, rfl⟩
abbrev main_call9_v1 : Ref sig .tc := ⟨.hbm, 290, rfl⟩
abbrev main_v216 : Ref sig .tc := ⟨.hbm, 291, rfl⟩
abbrev main_c_47 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_c_48 : Ref sig .tc := ⟨.hbm, 298, rfl⟩
abbrev main_v222 : Ref sig .tc := ⟨.hbm, 299, rfl⟩
abbrev main_v223 : Ref sig .tc := ⟨.hbm, 300, rfl⟩
abbrev main_v224 : Ref sig .tc := ⟨.hbm, 301, rfl⟩
abbrev main_cst_49 : Ref sig .tc := ⟨.hbm, 302, rfl⟩
abbrev main_v225 : Ref sig .tc := ⟨.hbm, 303, rfl⟩
abbrev main_v226 : Ref sig .tc := ⟨.hbm, 304, rfl⟩
abbrev main_cst_50 : Ref sig .tc := ⟨.hbm, 305, rfl⟩
abbrev main_call10_v0 : Ref sig .tc := ⟨.hbm, 306, rfl⟩
abbrev main_call10_v1 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_v230 : Ref sig .tc := ⟨.hbm, 311, rfl⟩
abbrev main_v231 : Ref sig .tc := ⟨.hbm, 312, rfl⟩
abbrev main_c_51 : Ref sig .tc := ⟨.hbm, 313, rfl⟩
abbrev main_v232 : Ref sig .tc := ⟨.hbm, 314, rfl⟩
abbrev main_v233 : Ref sig .tc := ⟨.hbm, 315, rfl⟩
abbrev main_v234 : Ref sig .tc := ⟨.hbm, 316, rfl⟩
abbrev main_cst_52 : Ref sig .tc := ⟨.hbm, 317, rfl⟩
abbrev main_v235 : Ref sig .tc := ⟨.hbm, 318, rfl⟩
abbrev main_v236 : Ref sig .tc := ⟨.hbm, 319, rfl⟩
abbrev main_cst_53 : Ref sig .tc := ⟨.hbm, 320, rfl⟩
abbrev main_call11_v0 : Ref sig .tc := ⟨.hbm, 321, rfl⟩
abbrev main_call11_v1 : Ref sig .tc := ⟨.hbm, 322, rfl⟩
abbrev main_v237 : Ref sig .tc := ⟨.hbm, 323, rfl⟩
abbrev main_c_54 : Ref sig .tc := ⟨.hbm, 324, rfl⟩
abbrev main_v238 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_c_55 : Ref sig .tc := ⟨.hbm, 330, rfl⟩
abbrev main_v243 : Ref sig .tc := ⟨.hbm, 331, rfl⟩
abbrev main_v244 : Ref sig .tc := ⟨.hbm, 332, rfl⟩
abbrev main_v245 : Ref sig .tc := ⟨.hbm, 333, rfl⟩
abbrev main_cst_56 : Ref sig .tc := ⟨.hbm, 334, rfl⟩
abbrev main_v246 : Ref sig .tc := ⟨.hbm, 335, rfl⟩
abbrev main_v247 : Ref sig .tc := ⟨.hbm, 336, rfl⟩
abbrev main_cst_57 : Ref sig .tc := ⟨.hbm, 337, rfl⟩
abbrev main_call12_v0 : Ref sig .tc := ⟨.hbm, 338, rfl⟩
abbrev main_call12_v1 : Ref sig .tc := ⟨.hbm, 339, rfl⟩
abbrev main_v248 : Ref sig .tc := ⟨.hbm, 340, rfl⟩
abbrev main_c_58 : Ref sig .tc := ⟨.hbm, 341, rfl⟩
abbrev main_v249 : Ref sig .tc := ⟨.hbm, 342, rfl⟩
abbrev main_v250 : Ref sig .tc := ⟨.hbm, 343, rfl⟩
abbrev main_v251 : Ref sig .tc := ⟨.hbm, 344, rfl⟩
abbrev main_v252 : Ref sig .tc := ⟨.hbm, 345, rfl⟩
abbrev main_v253 : Ref sig .tc := ⟨.hbm, 346, rfl⟩
abbrev main_c_59 : Ref sig .tc := ⟨.hbm, 347, rfl⟩
abbrev main_v254 : Ref sig .tc := ⟨.hbm, 348, rfl⟩
abbrev main_v255 : Ref sig .tc := ⟨.hbm, 349, rfl⟩
abbrev main_v256 : Ref sig .tc := ⟨.hbm, 350, rfl⟩
abbrev main_cst_60 : Ref sig .tc := ⟨.hbm, 351, rfl⟩
abbrev main_v257 : Ref sig .tc := ⟨.hbm, 352, rfl⟩
abbrev main_v258 : Ref sig .tc := ⟨.hbm, 353, rfl⟩
abbrev main_cst_61 : Ref sig .tc := ⟨.hbm, 354, rfl⟩
abbrev main_call13_v0 : Ref sig .tc := ⟨.hbm, 355, rfl⟩
abbrev main_call13_v1 : Ref sig .tc := ⟨.hbm, 356, rfl⟩
abbrev main_v259 : Ref sig .tc := ⟨.hbm, 357, rfl⟩
abbrev main_v260 : Ref sig .tc := ⟨.hbm, 358, rfl⟩
abbrev main_v261 : Ref sig .tc := ⟨.hbm, 359, rfl⟩
abbrev main_v262 : Ref sig .tc := ⟨.hbm, 360, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26

abbrev nD : Nat := 1
abbrev τ : Topo := Topo.v7x

variable {F : FTy → Type} [FloatOps F] [Named F]

def κ : String → Option EReal := fun
  | "mask" => some ⊥
  | _ => none

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  let c0_i32_3 : BitVec 32 := 0#32
  ![c0_i32_1.toNat, arg0.toNat, v2.toNat, c0_i32_2.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![c0_i32_0.toNat, arg0.toNat, v2.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c1_i32 : BitVec 32 := 1#32
  let c0_i32_1 : BitVec 32 := 0#32
  let c0_i32_2 : BitVec 32 := 0#32
  ![c1_i32.toNat, arg0.toNat, v2.toNat, c0_i32_1.toNat]

def cc0_transform_3 (i : grid0.Coords) : Fin 4 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c15_i32 : BitVec 32 := 15#32
  let v1 : BitVec 32 := Scalar.maxsi c0_i32 v0
  let v2 : BitVec 32 := Scalar.minsi c15_i32 v1
  let c1_i32 : BitVec 32 := 1#32
  let c0_i32_0 : BitVec 32 := 0#32
  let c0_i32_1 : BitVec 32 := 0#32
  ![c1_i32.toNat, arg0.toNat, v2.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c2_i32 : BitVec 32 := 2#32
  let c0_i32_1 : BitVec 32 := 0#32
  let c0_i32_2 : BitVec 32 := 0#32
  ![c2_i32.toNat, arg0.toNat, v2.toNat, c0_i32_1.toNat]

def cc0_transform_5 (i : grid0.Coords) : Fin 4 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c15_i32 : BitVec 32 := 15#32
  let v1 : BitVec 32 := Scalar.maxsi c0_i32 v0
  let v2 : BitVec 32 := Scalar.minsi c15_i32 v1
  let c2_i32 : BitVec 32 := 2#32
  let c0_i32_0 : BitVec 32 := 0#32
  let c0_i32_1 : BitVec 32 := 0#32
  ![c2_i32.toNat, arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![arg0.toNat, v2.toNat, c0_i32_1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![arg0.toNat, v2.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![arg0.toNat, v2.toNat, c0_i32_1.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![arg0.toNat, v2.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![arg0.toNat, v2.toNat, c0_i32_1.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![arg0.toNat, v2.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S512x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S3x1x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S8192x512 : Shape := ⟨2, ![8192, 512]⟩
abbrev S8192x4 : Shape := ⟨2, ![8192, 4]⟩
abbrev S8192x4x128 : Shape := ⟨3, ![8192, 4, 128]⟩
abbrev S_ : Shape := ⟨0, ![]⟩
abbrev S1 : Shape := ⟨1, ![1]⟩
abbrev S4 : Shape := ⟨1, ![4]⟩
abbrev S2048x4x4x128 : Shape := ⟨4, ![2048, 4, 4, 128]⟩
abbrev S4x2048x4x128 : Shape := ⟨4, ![4, 2048, 4, 128]⟩
abbrev S4x16x128x4x128 : Shape := ⟨5, ![4, 16, 128, 4, 128]⟩
abbrev S4x1x128x4x128 : Shape := ⟨5, ![4, 1, 128, 4, 128]⟩
abbrev S4x15x128x4x128 : Shape := ⟨5, ![4, 15, 128, 4, 128]⟩
abbrev S4x16x256x4x128 : Shape := ⟨5, ![4, 16, 256, 4, 128]⟩
abbrev S4x16x4x128x256 : Shape := ⟨5, ![4, 16, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x128x256 : Shape := ⟨3, ![1, 128, 256]⟩
abbrev S1x1x256 : Shape := ⟨3, ![1, 1, 256]⟩
abbrev S16x1x256 : Shape := ⟨3, ![16, 1, 256]⟩
abbrev S16x128x256 : Shape := ⟨3, ![16, 128, 256]⟩
abbrev S4x1x1 : Shape := ⟨3, ![4, 1, 1]⟩
abbrev S4x128x256 : Shape := ⟨3, ![4, 128, 256]⟩
abbrev S1x1x4x128x256 : Shape := ⟨5, ![1, 1, 4, 128, 256]⟩
abbrev S1x16x1x128x256 : Shape := ⟨5, ![1, 16, 1, 128, 256]⟩
abbrev S4x16x4x128 : Shape := ⟨4, ![4, 16, 4, 128]⟩
abbrev S4x16x4x128x1 : Shape := ⟨5, ![4, 16, 4, 128, 1]⟩
abbrev S4x16x4x128x128 : Shape := ⟨5, ![4, 16, 4, 128, 128]⟩
abbrev S4x16x128x4 : Shape := ⟨4, ![4, 16, 128, 4]⟩
abbrev S4x16x128x4x1 : Shape := ⟨5, ![4, 16, 128, 4, 1]⟩
abbrev S4x2048x4x1 : Shape := ⟨4, ![4, 2048, 4, 1]⟩
abbrev S2048x4x4x1 : Shape := ⟨4, ![2048, 4, 4, 1]⟩
abbrev S8192x4x1 : Shape := ⟨3, ![8192, 4, 1]⟩
abbrev S4x16x4x256x128 : Shape := ⟨5, ![4, 16, 4, 256, 128]⟩
abbrev S1x8192x512 : Shape := ⟨3, ![1, 8192, 512]⟩
abbrev S3x8192x512 : Shape := ⟨3, ![3, 8192, 512]⟩
abbrev S3x2048x4x512 : Shape := ⟨4, ![3, 2048, 4, 512]⟩
abbrev S3x4x2048x512 : Shape := ⟨4, ![3, 4, 2048, 512]⟩

abbrev nBuf : Space → Nat
  | .hbm => 212
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x4, .f32⟩
  | 5 => ⟨S8192x4x128, .f32⟩
  | 6 => ⟨S_, .f32⟩
  | 7 => ⟨S_, .f32⟩
  | 8 => ⟨S_, .f32⟩
  | 9 => ⟨S_, .f32⟩
  | 10 => ⟨S1, .f32⟩
  | 11 => ⟨S1, .f32⟩
  | 12 => ⟨S1, .f32⟩
  | 13 => ⟨S1, .f32⟩
  | 14 => ⟨S4, .f32⟩
  | 15 => ⟨S8192x4x128, .f32⟩
  | 16 => ⟨S8192x4x128, .f32⟩
  | 17 => ⟨S8192x4x128, .f32⟩
  | 18 => ⟨S2048x4x4x128, .f32⟩
  | 19 => ⟨S4x2048x4x128, .f32⟩
  | 20 => ⟨S4x16x128x4x128, .f32⟩
  | 21 => ⟨S2048x4x4x128, .f32⟩
  | 22 => ⟨S4x2048x4x128, .f32⟩
  | 23 => ⟨S4x16x128x4x128, .f32⟩
  | 24 => ⟨S4x1x128x4x128, .f32⟩
  | 25 => ⟨S_, .f32⟩
  | 26 => ⟨S4x1x128x4x128, .f32⟩
  | 27 => ⟨S4x15x128x4x128, .f32⟩
  | 28 => ⟨S4x16x128x4x128, .f32⟩
  | 29 => ⟨S_, .f32⟩
  | 30 => ⟨S4x1x128x4x128, .f32⟩
  | 31 => ⟨S4x16x256x4x128, .f32⟩
  | 32 => ⟨S2048x4x4x128, .f32⟩
  | 33 => ⟨S4x2048x4x128, .f32⟩
  | 34 => ⟨S4x16x128x4x128, .f32⟩
  | 35 => ⟨S4x1x128x4x128, .f32⟩
  | 36 => ⟨S_, .f32⟩
  | 37 => ⟨S4x1x128x4x128, .f32⟩
  | 38 => ⟨S4x15x128x4x128, .f32⟩
  | 39 => ⟨S4x16x128x4x128, .f32⟩
  | 40 => ⟨S_, .f32⟩
  | 41 => ⟨S4x1x128x4x128, .f32⟩
  | 42 => ⟨S4x16x256x4x128, .f32⟩
  | 43 => ⟨S4x16x4x128x256, .f32⟩
  | 44 => ⟨S_, .f32⟩
  | 45 => ⟨S4x16x4x128x256, .f32⟩
  | 46 => ⟨S4x16x4x128x256, .f32⟩
  | 47 => ⟨S128, .i32⟩
  | 48 => ⟨S128x1, .i32⟩
  | 49 => ⟨S256, .i32⟩
  | 50 => ⟨S1x256, .i32⟩
  | 51 => ⟨S_, .i32⟩
  | 52 => ⟨S128x1, .i32⟩
  | 53 => ⟨S128x1, .i32⟩
  | 54 => ⟨S128x256, .i32⟩
  | 55 => ⟨S128x256, .i32⟩
  | 56 => ⟨S128x256, .i32⟩
  | 57 => ⟨S16, .i32⟩
  | 58 => ⟨S16x1x1, .i32⟩
  | 59 => ⟨S_, .i32⟩
  | 60 => ⟨S128x256, .i32⟩
  | 61 => ⟨S128x256, .i1⟩
  | 62 => ⟨S_, .i32⟩
  | 63 => ⟨S128x256, .i32⟩
  | 64 => ⟨S128x256, .i1⟩
  | 65 => ⟨S128x256, .i1⟩
  | 66 => ⟨S1x128x256, .i1⟩
  | 67 => ⟨S_, .i32⟩
  | 68 => ⟨S16x1x1, .i32⟩
  | 69 => ⟨S16x1x1, .i32⟩
  | 70 => ⟨S_, .i32⟩
  | 71 => ⟨S16x1x1, .i32⟩
  | 72 => ⟨S16x1x1, .i32⟩
  | 73 => ⟨S1x1x256, .i32⟩
  | 74 => ⟨S16x1x256, .i32⟩
  | 75 => ⟨S16x1x256, .i32⟩
  | 76 => ⟨S16x1x256, .i32⟩
  | 77 => ⟨S_, .i32⟩
  | 78 => ⟨S16x1x256, .i32⟩
  | 79 => ⟨S16x1x256, .i1⟩
  | 80 => ⟨S16x128x256, .i1⟩
  | 81 => ⟨S16x128x256, .i1⟩
  | 82 => ⟨S16x128x256, .i1⟩
  | 83 => ⟨S4x1x1, .f32⟩
  | 84 => ⟨S4x1x1, .f32⟩
  | 85 => ⟨S_, .i32⟩
  | 86 => ⟨S128x256, .i32⟩
  | 87 => ⟨S128x256, .i32⟩
  | 88 => ⟨S128x256, .f32⟩
  | 89 => ⟨S1x128x256, .f32⟩
  | 90 => ⟨S4x128x256, .f32⟩
  | 91 => ⟨S4x128x256, .f32⟩
  | 92 => ⟨S4x128x256, .f32⟩
  | 93 => ⟨S1x1x4x128x256, .f32⟩
  | 94 => ⟨S4x16x4x128x256, .f32⟩
  | 95 => ⟨S4x16x4x128x256, .f32⟩
  | 96 => ⟨S1x16x1x128x256, .i1⟩
  | 97 => ⟨S_, .f32⟩
  | 98 => ⟨S_, .f32⟩
  | 99 => ⟨S4x16x4x128x256, .i1⟩
  | 100 => ⟨S4x16x4x128x256, .f32⟩
  | 101 => ⟨S4x16x4x128x256, .f32⟩
  | 102 => ⟨S_, .f32⟩
  | 103 => ⟨S4x16x4x128x256, .f32⟩
  | 104 => ⟨S_, .f32⟩
  | 105 => ⟨S4x16x4x128, .f32⟩
  | 106 => ⟨S4x16x4x128x1, .f32⟩
  | 107 => ⟨S4x16x4x128x256, .f32⟩
  | 108 => ⟨S4x16x4x128x256, .i1⟩
  | 109 => ⟨S4x16x4x128x256, .f32⟩
  | 110 => ⟨S_, .f32⟩
  | 111 => ⟨S4x16x4x128, .f32⟩
  | 112 => ⟨S4x16x4x128, .f32⟩
  | 113 => ⟨S_, .f32⟩
  | 114 => ⟨S4x16x4x128, .f32⟩
  | 115 => ⟨S4x16x4x128, .i1⟩
  | 116 => ⟨S_, .f32⟩
  | 117 => ⟨S_, .f32⟩
  | 118 => ⟨S4x16x4x128, .f32⟩
  | 119 => ⟨S4x16x4x128, .f32⟩
  | 120 => ⟨S4x16x4x128x1, .f32⟩
  | 121 => ⟨S4x16x4x128x256, .f32⟩
  | 122 => ⟨S4x16x4x128x256, .f32⟩
  | 123 => ⟨S4x16x4x128x256, .f32⟩
  | 124 => ⟨S_, .f32⟩
  | 125 => ⟨S4x16x4x128, .f32⟩
  | 126 => ⟨S4x16x4x128, .f32⟩
  | 127 => ⟨S4x16x4x128, .f32⟩
  | _ => ⟨S8192x512, .f32⟩

abbrev hbmTy0_1 (i : Nat) : BufTy := match i % 128 with
  | 0 => ⟨S4x16x4x128x1, .f32⟩
  | 1 => ⟨S4x16x4x128x256, .f32⟩
  | 2 => ⟨S4x16x4x128x256, .f32⟩
  | 3 => ⟨S4x16x4x128x256, .f32⟩
  | 4 => ⟨S4x16x4x128x128, .f32⟩
  | 5 => ⟨S4x16x128x4x128, .f32⟩
  | 6 => ⟨S4x16x128x4, .f32⟩
  | 7 => ⟨S4x16x128x4x1, .f32⟩
  | 8 => ⟨S4x2048x4x1, .f32⟩
  | 9 => ⟨S2048x4x4x1, .f32⟩
  | 10 => ⟨S8192x4x1, .f32⟩
  | 11 => ⟨S8192x4, .f32⟩
  | 12 => ⟨S4x2048x4x128, .f32⟩
  | 13 => ⟨S2048x4x4x128, .f32⟩
  | 14 => ⟨S8192x4x128, .f32⟩
  | 15 => ⟨S2048x4x4x128, .f32⟩
  | 16 => ⟨S4x2048x4x128, .f32⟩
  | 17 => ⟨S4x16x128x4x128, .f32⟩
  | 18 => ⟨S8192x4x1, .f32⟩
  | 19 => ⟨S2048x4x4x1, .f32⟩
  | 20 => ⟨S4x2048x4x1, .f32⟩
  | 21 => ⟨S4x16x128x4x1, .f32⟩
  | 22 => ⟨S_, .f32⟩
  | 23 => ⟨S4x16x128x4, .f32⟩
  | 24 => ⟨S4x16x4x128, .f32⟩
  | 25 => ⟨S4x16x4x128x128, .f32⟩
  | 26 => ⟨S4x16x4x128x256, .f32⟩
  | 27 => ⟨S4x16x4x128x256, .f32⟩
  | 28 => ⟨S4x16x256x4x128, .f32⟩
  | 29 => ⟨S4x16x4x128x256, .f32⟩
  | 30 => ⟨S4x16x4x128x256, .f32⟩
  | 31 => ⟨S_, .f32⟩
  | 32 => ⟨S4x16x4x128, .f32⟩
  | 33 => ⟨S4x16x4x128x1, .f32⟩
  | 34 => ⟨S_, .f32⟩
  | 35 => ⟨S4x16x4x128, .f32⟩
  | 36 => ⟨S4x16x4x128, .f32⟩
  | 37 => ⟨S4x16x4x128, .f32⟩
  | 38 => ⟨S4x16x4x128x256, .f32⟩
  | 39 => ⟨S4x16x4x128x256, .f32⟩
  | 40 => ⟨S4x16x4x128x256, .f32⟩
  | 41 => ⟨S_, .f32⟩
  | 42 => ⟨S4x16x4x128x256, .f32⟩
  | 43 => ⟨S4x16x4x128x256, .f32⟩
  | 44 => ⟨S_, .f32⟩
  | 45 => ⟨S4x16x4x128x256, .f32⟩
  | 46 => ⟨S4x16x4x128x256, .f32⟩
  | 47 => ⟨S4x16x4x256x128, .f32⟩
  | 48 => ⟨S4x16x256x4x128, .f32⟩
  | 49 => ⟨S4x16x4x128x128, .f32⟩
  | 50 => ⟨S4x16x128x4x128, .f32⟩
  | 51 => ⟨S4x16x128x4x128, .f32⟩
  | 52 => ⟨S4x16x128x4x128, .f32⟩
  | 53 => ⟨S4x1x128x4x128, .f32⟩
  | 54 => ⟨S4x15x128x4x128, .f32⟩
  | 55 => ⟨S_, .f32⟩
  | 56 => ⟨S4x16x128x4x128, .f32⟩
  | 57 => ⟨S4x16x128x4x128, .f32⟩
  | 58 => ⟨S4x2048x4x128, .f32⟩
  | 59 => ⟨S2048x4x4x128, .f32⟩
  | 60 => ⟨S8192x4x128, .f32⟩
  | 61 => ⟨S4x16x128x4x128, .f32⟩
  | 62 => ⟨S4x16x128x4x128, .f32⟩
  | 63 => ⟨S4x1x128x4x128, .f32⟩
  | 64 => ⟨S4x15x128x4x128, .f32⟩
  | 65 => ⟨S_, .f32⟩
  | 66 => ⟨S4x16x128x4x128, .f32⟩
  | 67 => ⟨S4x16x128x4x128, .f32⟩
  | 68 => ⟨S4x2048x4x128, .f32⟩
  | 69 => ⟨S2048x4x4x128, .f32⟩
  | 70 => ⟨S8192x4x128, .f32⟩
  | 71 => ⟨S4x2048x4x128, .f32⟩
  | 72 => ⟨S2048x4x4x128, .f32⟩
  | 73 => ⟨S8192x4x128, .f32⟩
  | 74 => ⟨S8192x512, .f32⟩
  | 75 => ⟨S8192x512, .f32⟩
  | 76 => ⟨S8192x512, .f32⟩
  | 77 => ⟨S1x8192x512, .f32⟩
  | 78 => ⟨S1x8192x512, .f32⟩
  | 79 => ⟨S1x8192x512, .f32⟩
  | 80 => ⟨S3x8192x512, .f32⟩
  | 81 => ⟨S3x2048x4x512, .f32⟩
  | 82 => ⟨S3x4x2048x512, .f32⟩
  | 83 => ⟨S3x4x2048x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_cst_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_8 : Ref sig .tc := ⟨.hbm, 59, rfl⟩
abbrev main_v44 : Ref sig .tc := ⟨.hbm, 60, rfl⟩
abbrev main_v45 : Ref sig .tc := ⟨.hbm, 61, rfl⟩
abbrev main_c_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_10 : Ref sig .tc := ⟨.hbm, 67, rfl⟩
abbrev main_v50 : Ref sig .tc := ⟨.hbm, 68, rfl⟩
abbrev main_v51 : Ref sig .tc := ⟨.hbm, 69, rfl⟩
abbrev main_c_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_c_13 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_14 : Ref sig .tc := ⟨.hbm, 97, rfl⟩
abbrev main_call0_v0 : Ref sig .tc := ⟨.hbm, 98, rfl⟩
abbrev main_v76_1 : Ref sig .tc := ⟨.hbm, 99, rfl⟩
abbrev main_call0_v2 : Ref sig .tc := ⟨.hbm, 100, rfl⟩
abbrev main_v76_0 : Ref sig .tc := ⟨.hbm, 101, rfl⟩
abbrev main_call0_cst : Ref sig .tc := ⟨.hbm, 102, rfl⟩
abbrev main_v76_2 : Ref sig .tc := ⟨.hbm, 103, rfl⟩
abbrev main_cst_15 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_16 : Ref sig .tc := ⟨.hbm, 110, rfl⟩
abbrev main_v82 : Ref sig .tc := ⟨.hbm, 111, rfl⟩
abbrev main_v83 : Ref sig .tc := ⟨.hbm, 112, rfl⟩
abbrev main_cst_17 : Ref sig .tc := ⟨.hbm, 113, rfl⟩
abbrev main_v84 : Ref sig .tc := ⟨.hbm, 114, rfl⟩
abbrev main_v85 : Ref sig .tc := ⟨.hbm, 115, rfl⟩
abbrev main_cst_18 : Ref sig .tc := ⟨.hbm, 116, rfl⟩
abbrev main_call1_v0 : Ref sig .tc := ⟨.hbm, 117, rfl⟩
abbrev main_call1_v1 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_19 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_cst_20 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_cst_21 : Ref sig .tc := ⟨.hbm, 159, rfl⟩
abbrev main_v124 : Ref sig .tc := ⟨.hbm, 160, rfl⟩
abbrev main_v125 : Ref sig .tc := ⟨.hbm, 161, rfl⟩
abbrev main_cst_22 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_call2_cst : Ref sig .tc := ⟨.hbm, 169, rfl⟩
abbrev main_call2_v0 : Ref sig .tc := ⟨.hbm, 170, rfl⟩
abbrev main_v132 : Ref sig .tc := ⟨.hbm, 171, rfl⟩
abbrev main_cst_23 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_24 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_cst_25 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩

abbrev nD : Nat := 1
abbrev τ : Topo := Topo.v7x

variable {F : FTy → Type} [FloatOps F]
-- ==== Kernel2.lean ====
abbrev S8192x5632 : Shape := ⟨2, ![8192, 5632]⟩
abbrev S2048x5632 : Shape := ⟨2, ![2048, 5632]⟩
abbrev S8192x2048 : Shape := ⟨2, ![8192, 2048]⟩
abbrev S512x5632 : Shape := ⟨2, ![512, 5632]⟩
abbrev S256x5632 : Shape := ⟨2, ![256, 5632]⟩
abbrev S512x256 : Shape := ⟨2, ![512, 256]⟩

abbrev nBuf : Space → Nat
  | .hbm => 9
  | .vmem => 10
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S2048x5632, .f32⟩
  | .hbm, ⟨3, _⟩ => ⟨S2048x5632, .f32⟩
  | .hbm, ⟨4, _⟩ => ⟨S8192x5632, .bf16⟩
  | .hbm, ⟨5, _⟩ => ⟨S8192x5632, .bf16⟩
  | .hbm, ⟨6, _⟩ => ⟨S2048x5632, .bf16⟩
  | .hbm, ⟨7, _⟩ => ⟨S2048x5632, .bf16⟩
  | .hbm, ⟨8, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S512x5632, .bf16⟩
  | .local _ .vmem, ⟨3, _⟩ => ⟨S512x5632, .bf16⟩
  | .local _ .vmem, ⟨4, _⟩ => ⟨S256x5632, .bf16⟩
  | .local _ .vmem, ⟨5, _⟩ => ⟨S256x5632, .bf16⟩
  | .local _ .vmem, ⟨6, _⟩ => ⟨S256x5632, .bf16⟩
  | .local _ .vmem, ⟨7, _⟩ => ⟨S256x5632, .bf16⟩
  | .local _ .vmem, ⟨8, _⟩ => ⟨S512x256, .f32⟩
  | .local _ .vmem, ⟨9, _⟩ => ⟨S512x256, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8192x5632 : Shape := ⟨2, ![8192, 5632]⟩
abbrev S2048x5632 : Shape := ⟨2, ![2048, 5632]⟩
abbrev S_ : Shape := ⟨0, ![]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S8192x2048, .f32⟩
  | .hbm, ⟨6, _⟩ => ⟨S8192x5632, .f32⟩
  | .hbm, ⟨7, _⟩ => ⟨S8192x5632, .f32⟩
  | .hbm, ⟨8, _⟩ => ⟨S8192x2048, .f32⟩
  | .hbm, ⟨9, _⟩ => ⟨S8192x2048, .f32⟩
  | .hbm, ⟨10, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel3.lean ====
abbrev S8192x2048 : Shape := ⟨2, ![8192, 2048]⟩
abbrev S8192x5632 : Shape := ⟨2, ![8192, 5632]⟩
abbrev S2048x5632 : Shape := ⟨2, ![2048, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S8192x2048, .bf16⟩
  | .hbm, ⟨3, _⟩ => ⟨S8192x5632, .bf16⟩
  | .hbm, ⟨4, _⟩ => ⟨S2048x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S_, .f32⟩
  | .hbm, ⟨3, _⟩ => ⟨S2048x5632, .f32⟩
  | .hbm, ⟨4, _⟩ => ⟨S8192x5632, .f32⟩
  | .hbm, ⟨5, _⟩ => ⟨S5632x2048, .f32⟩
  | .hbm, ⟨6, _⟩ => ⟨S2048x5632, .f32⟩
  | .hbm, ⟨7, _⟩ => ⟨S2048x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S8192x5632, .bf16⟩
  | .hbm, ⟨3, _⟩ => ⟨S8192x2048, .bf16⟩
  | .hbm, ⟨4, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S_, .f32⟩
  | .hbm, ⟨3, _⟩ => ⟨S5632x2048, .f32⟩
  | .hbm, ⟨4, _⟩ => ⟨S8192x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x5632 : Shape := ⟨2, ![8192, 5632]⟩
abbrev S5632x2048 : Shape := ⟨2, ![5632, 2048]⟩
abbrev S8192x2048 : Shape := ⟨2, ![8192, 2048]⟩
abbrev S2048x2048 : Shape := ⟨2, ![2048, 2048]⟩
abbrev S512x2048 : Shape := ⟨2, ![512, 2048]⟩
abbrev S2048x512 : Shape := ⟨2, ![2048, 512]⟩
abbrev S256x2048 : Shape := ⟨2, ![256, 2048]⟩
abbrev S2048x256 : Shape := ⟨2, ![2048, 256]⟩

abbrev nBuf : Space → Nat
  | .hbm => 10
  | .vmem => 12
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S5632x2048, .f32⟩
  | .hbm, ⟨3, _⟩ => ⟨S8192x2048, .f32⟩
  | .hbm, ⟨4, _⟩ => ⟨S8192x5632, .bf16⟩
  | .hbm, ⟨5, _⟩ => ⟨S8192x5632, .bf16⟩
  | .hbm, ⟨6, _⟩ => ⟨S5632x2048, .bf16⟩
  | .hbm, ⟨7, _⟩ => ⟨S8192x2048, .bf16⟩
  | .hbm, ⟨8, _⟩ => ⟨S8192x5632, .bf16⟩
  | .hbm, ⟨9, _⟩ => ⟨S8192x5632, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S5632x2048, .f32⟩
  | .hbm, ⟨3, _⟩ => ⟨S8192x2048, .f32⟩
  | .hbm, ⟨4, _⟩ => ⟨S8192x5632, .f32⟩
  | .hbm, ⟨5, _⟩ => ⟨S8192x5632, .f32⟩
  | .hbm, ⟨6, _⟩ => ⟨S_, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x2048, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .bf16⟩
  | .hbm, ⟨27, _⟩ => ⟨S8192x5632, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Kernel6.lean ====
abbrev S8192x2048 : Shape := ⟨2, ![8192, 2048]⟩
abbrev S2048x5632 : Shape := ⟨2, ![2048, 5632]⟩
abbrev S8192x5632 : Shape := ⟨2, ![8192, 5632]⟩
abbrev S2048x2048 : Shape := ⟨2, ![2048, 2048]⟩
abbrev S2048x512 : Shape := ⟨2, ![2048, 512]⟩
abbrev S2048x256 : Shape := ⟨2, ![2048, 256]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S8192x2048, .bf16⟩
  | .hbm, ⟨4, _⟩ => ⟨S2048x5632, .bf16⟩
  | .hbm, ⟨5, _⟩ => ⟨S2048x5632, .bf16⟩
  | .hbm, ⟨6, _⟩ => ⟨S8192x5632, .bf16⟩
  | .hbm, ⟨7, _⟩ => ⟨S8192x5632, .bf16⟩
  | .hbm, ⟨8, _⟩ => ⟨S8192x5632, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8192x2048 : Shape := ⟨2, ![8192, 2048]⟩
abbrev S2048x5632 : Shape := ⟨2, ![2048, 5632]⟩
abbrev S8192x5632 : Shape := ⟨2, ![8192, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S8192x5632, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .bf16⟩
  | .hbm, ⟨16, _⟩ => ⟨S8192x5632, .bf16⟩
  | .hbm, ⟨17, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel7.lean ====
abbrev S8192x5632 : Shape := ⟨2, ![8192, 5632]⟩
abbrev S5632x2048 : Shape := ⟨2, ![5632, 2048]⟩
abbrev S8192x2048 : Shape := ⟨2, ![8192, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x5632, .bf16⟩
  | .hbm, ⟨3, _⟩ => ⟨S5632x2048, .bf16⟩
  | .hbm, ⟨4, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel8.lean ====
abbrev S8192x2048 : Shape := ⟨2, ![8192, 2048]⟩
abbrev S2048x9728 : Shape := ⟨2, ![2048, 9728]⟩
abbrev S8192x9728 : Shape := ⟨2, ![8192, 9728]⟩
abbrev S2048x2048 : Shape := ⟨2, ![2048, 2048]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x9728, .f32⟩
  | .hbm, ⟨2, _⟩ => ⟨S8192x2048, .bf16⟩
  | .hbm, ⟨3, _⟩ => ⟨S2048x9728, .bf16⟩
  | .hbm, ⟨4, _⟩ => ⟨S8192x9728, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 19], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8192x2048 : Shape := ⟨2, ![8192, 2048]⟩
abbrev S2048x9728 : Shape := ⟨2, ![2048, 9728]⟩
abbrev S8192x9728 : Shape := ⟨2, ![8192, 9728]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x9728, .f32⟩
  | .hbm, ⟨2, _⟩ => ⟨S8192x9728, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S8192x2048 : Shape := ⟨2, ![8192, 2048]⟩
abbrev S8192x9728 : Shape := ⟨2, ![8192, 9728]⟩
abbrev S2048x9728 : Shape := ⟨2, ![2048, 9728]⟩
abbrev S1024x1024 : Shape := ⟨2, ![1024, 1024]⟩
abbrev S1024x2432 : Shape := ⟨2, ![1024, 2432]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x9728, .f32⟩
  | .hbm, ⟨2, _⟩ => ⟨S8192x2048, .bf16⟩
  | .hbm, ⟨3, _⟩ => ⟨S8192x9728, .bf16⟩
  | .hbm, ⟨4, _⟩ => ⟨S2048x9728, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2432, .bf16⟩
  | .local _ .vmem, ⟨3, _⟩ => ⟨S1024x2432, .bf16⟩
  | .local _ .vmem, ⟨4, _⟩ => ⟨S1024x2432, .bf16⟩
  | .local _ .vmem, ⟨5, _⟩ => ⟨S1024x2432, .bf16⟩
  | .local _ .vmem, ⟨6, _⟩ => ⟨S1024x2432, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S8192x9728 : Shape := ⟨2, ![8192, 9728]⟩
abbrev S_ : Shape := ⟨0, ![]⟩
abbrev S2048x9728 : Shape := ⟨2, ![2048, 9728]⟩
abbrev S9728x2048 : Shape := ⟨2, ![9728, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x9728, .f32⟩
  | .hbm, ⟨2, _⟩ => ⟨S_, .f32⟩
  | .hbm, ⟨3, _⟩ => ⟨S2048x9728, .f32⟩
  | .hbm, ⟨4, _⟩ => ⟨S8192x9728, .f32⟩
  | .hbm, ⟨5, _⟩ => ⟨S9728x2048, .f32⟩
  | .hbm, ⟨6, _⟩ => ⟨S2048x9728, .f32⟩
  | .hbm, ⟨7, _⟩ => ⟨S2048x9728, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x9728 : Shape := ⟨2, ![8192, 9728]⟩
abbrev S2048x9728 : Shape := ⟨2, ![2048, 9728]⟩
abbrev S8192x2048 : Shape := ⟨2, ![8192, 2048]⟩
abbrev S1024x2432 : Shape := ⟨2, ![1024, 2432]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x9728, .f32⟩
  | .hbm, ⟨1, _⟩ => ⟨S2048x9728, .f32⟩
  | .hbm, ⟨2, _⟩ => ⟨S8192x9728, .bf16⟩
  | .hbm, ⟨3, _⟩ => ⟨S2048x9728, .bf16⟩
  | .hbm, ⟨4, _⟩ => ⟨S8192x2048, .f32⟩
  | .local _ .vmem, ⟨0, _⟩ => ⟨S1024x2432, .bf16⟩
  | .local _ .vmem, ⟨1, _⟩ => ⟨S1024x2432, .bf16⟩
  | .local _ .vmem, ⟨2, _⟩ => ⟨S1024x2432, .bf16⟩
  | .local _ .vmem, ⟨3, _⟩ => ⟨S1024x2432, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x9728 : Shape := ⟨2, ![8192, 9728]⟩
abbrev S2048x9728 : Shape := ⟨2, ![2048, 9728]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x9728, .f32⟩
  | .hbm, ⟨1, _⟩ => ⟨S2048x9728, .f32⟩
  | .hbm, ⟨2, _⟩ => ⟨S_, .f32⟩
  | .hbm, ⟨3, _⟩ => ⟨S8192x2048, .f32⟩
  | .hbm, ⟨4, _⟩ => ⟨S8192x9728, .f32⟩
  | .hbm, ⟨5, _⟩ => ⟨S8192x2048, .f32⟩
  | _, _ => ⟨S8192x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S8192x9728 : Shape := ⟨2, ![8192, 9728]⟩
abbrev S8192x2048 : Shape := ⟨2, ![8192, 2048]⟩
abbrev S2048x2048 : Shape := ⟨2, ![2048, 2048]⟩
abbrev S256x2048 : Shape := ⟨2, ![256, 2048]⟩
abbrev S2048x256 : Shape := ⟨2, ![2048, 256]⟩

abbrev nBuf : Space → Nat
  | .hbm => 17
  | .vmem => 24
  | .smem => 0
  | _ => 0

abbrev bufTy : (tb : Table) → Fin (tcTables nBuf tb) → BufTy
  | .hbm, ⟨0, _⟩ => ⟨S8192x9728, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .bf16⟩
  | .hbm, ⟨7, _⟩ => ⟨S8192x2048, .bf16⟩
  | .hbm, ⟨8, _⟩ => ⟨S8192x2048, .bf16⟩
  | .hbm, ⟨9, _⟩ => ⟨S2048x2048, .bf16⟩
  | .hbm, ⟨10, _⟩ => ⟨S8192x2048, .bf16⟩
  | .hbm, ⟨11, _⟩ => ⟨S8192x9728, .bf16⟩
  | .hbm, ⟨12, _⟩ => ⟨S8192x2048, .bf16⟩
  | .hbm, ⟨13, _⟩ => ⟨S8192x2048, .bf16⟩
  | .hbm, ⟨14, _⟩ => ⟨S8192x2048, .bf16⟩
  | .hbm, ⟨15, _⟩ => ⟨S8192x2048, .bf16⟩
  | .hbm, ⟨16, _⟩ => ⟨S8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S256x2048, .bf16⟩
  | .local _ .vmem, ⟨3, _⟩ => ⟨S256x2048, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S2048x256, .bf16⟩
  | .local _ .vmem, ⟨23, _⟩ => ⟨S2048x256, .bf16⟩
  | _, _ => ⟨S8192x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference11Ideal.lean ====
abbrev S8192x9728 : Shape := ⟨2, ![8192, 9728]⟩
abbrev S8192x2048 : Shape := ⟨2, ![8192, 2048]⟩
abbrev S2048x2048 : Shape := ⟨2, ![2048, 2048]⟩
abbrev S8192x5632 : Shape := ⟨2, ![8192, 5632]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S8192x9728, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x5632, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .bf16⟩
  | .hbm, ⟨61, _⟩ => ⟨S8192x2048, .bf16⟩
  | .hbm, ⟨62, _⟩ => ⟨S8192x2048, .bf16⟩
  | .hbm, ⟨63, _⟩ => ⟨S8192x2048, .bf16⟩
  | .hbm, ⟨64, _⟩ => ⟨S8192x2048, .bf16⟩
  | _, _ => ⟨S8192x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Kernel12.lean ====
abbrev S8192x9728 : Shape := ⟨2, ![8192, 9728]⟩
abbrev S8192x512 : Shape := ⟨2, ![8192, 512]⟩
abbrev S8192x1024 : Shape := ⟨2, ![8192, 1024]⟩
abbrev S512x2048 : Shape := ⟨2, ![512, 2048]⟩
abbrev S1024x2048 : Shape := ⟨2, ![1024, 2048]⟩
abbrev S8192x2048 : Shape := ⟨2, ![8192, 2048]⟩
abbrev S2048x512 : Shape := ⟨2, ![2048, 512]⟩
abbrev S2048x1024 : Shape := ⟨2, ![2048, 1024]⟩
abbrev S512x256 : Shape := ⟨2, ![512, 256]⟩
abbrev S1024x256 : Shape := ⟨2, ![1024, 256]⟩
abbrev S2048x256 : Shape := ⟨2, ![2048, 256]⟩

abbrev nBuf : Space → Nat
  | .hbm => 15
  | .vmem => 22
  | .smem => 0
  | _ => 0

abbrev bufTy : (tb : Table) → Fin (tcTables nBuf tb) → BufTy
  | .hbm, ⟨0, _⟩ => ⟨S8192x9728, .f32⟩
  | .hbm, ⟨1, _⟩ => ⟨S8192x512, .f32⟩
  | .hbm, ⟨2, _⟩ => ⟨S8192x1024, .f32⟩
  | .hbm, ⟨3, _⟩ => ⟨S512x2048, .f32⟩
  | .hbm, ⟨4, _⟩ => ⟨S1024x2048, .f32⟩
  | .hbm, ⟨5, _⟩ => ⟨S1024x2048, .f32⟩
  | .hbm, ⟨6, _⟩ => ⟨S8192x512, .bf16⟩
  | .hbm, ⟨7, _⟩ => ⟨S8192x1024, .bf16⟩
  | .hbm, ⟨8, _⟩ => ⟨S512x2048, .bf16⟩
  | .hbm, ⟨9, _⟩ => ⟨S1024x2048, .bf16⟩
  | .hbm, ⟨10, _⟩ => ⟨S1024x2048, .bf16⟩
  | .hbm, ⟨11, _⟩ => ⟨S8192x2048, .bf16⟩
  | .hbm, ⟨12, _⟩ => ⟨S8192x2048, .bf16⟩
  | .hbm, ⟨13, _⟩ => ⟨S8192x2048, .bf16⟩
  | .hbm, ⟨14, _⟩ => ⟨S8192x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x256, .bf16⟩
  | .local _ .vmem, ⟨5, _⟩ => ⟨S512x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | _, _ => ⟨S8192x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference12Ideal.lean ====
abbrev S8192x9728 : Shape := ⟨2, ![8192, 9728]⟩
abbrev S8192x512 : Shape := ⟨2, ![8192, 512]⟩
abbrev S8192x1024 : Shape := ⟨2, ![8192, 1024]⟩
abbrev S512x2048 : Shape := ⟨2, ![512, 2048]⟩
abbrev S1024x2048 : Shape := ⟨2, ![1024, 2048]⟩
abbrev S8192x5632 : Shape := ⟨2, ![8192, 5632]⟩
abbrev S8192x2048 : Shape := ⟨2, ![8192, 2048]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8192x9728, .f32⟩
  | .hbm, ⟨1, _⟩ => ⟨S8192x512, .f32⟩
  | .hbm, ⟨2, _⟩ => ⟨S8192x1024, .f32⟩
  | .hbm, ⟨3, _⟩ => ⟨S512x2048, .f32⟩
  | .hbm, ⟨4, _⟩ => ⟨S1024x2048, .f32⟩
  | .hbm, ⟨5, _⟩ => ⟨S1024x2048, .f32⟩
  | .hbm, ⟨6, _⟩ => ⟨S8192x5632, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .bf16⟩
  | .hbm, ⟨41, _⟩ => ⟨S8192x2048, .bf16⟩
  | .hbm, ⟨42, _⟩ => ⟨S8192x2048, .bf16⟩
  | .hbm, ⟨43, _⟩ => ⟨S8192x2048, .bf16⟩
  | _, _ => ⟨S8192x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel13.lean ====
abbrev S8192x2048 : Shape := ⟨2, ![8192, 2048]⟩
abbrev S1024x2048 : Shape := ⟨2, ![1024, 2048]⟩
abbrev S8192x1024 : Shape := ⟨2, ![8192, 1024]⟩
abbrev S2048x2048 : Shape := ⟨2, ![2048, 2048]⟩
abbrev S256x2048 : Shape := ⟨2, ![256, 2048]⟩
abbrev S2048x256 : Shape := ⟨2, ![2048, 256]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1024x2048, .f32⟩
  | .hbm, ⟨3, _⟩ => ⟨S1024x2048, .f32⟩
  | .hbm, ⟨4, _⟩ => ⟨S8192x2048, .bf16⟩
  | .hbm, ⟨5, _⟩ => ⟨S8192x2048, .bf16⟩
  | .hbm, ⟨6, _⟩ => ⟨S1024x2048, .bf16⟩
  | .hbm, ⟨7, _⟩ => ⟨S1024x2048, .bf16⟩
  | .hbm, ⟨8, _⟩ => ⟨S8192x1024, .f32⟩
  | .local _ .vmem, ⟨0, _⟩ => ⟨S2048x2048, .bf16⟩
  | .local _ .vmem, ⟨1, _⟩ => ⟨S2048x2048, .bf16⟩
  | .local _ .vmem, ⟨2, _⟩ => ⟨S2048x2048, .bf16⟩
  | .local _ .vmem, ⟨3, _⟩ => ⟨S2048x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S2048x256, .f32⟩
  | .local _ .vmem, ⟨9, _⟩ => ⟨S2048x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference13Ideal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S8192x1024, .f32⟩
  | .hbm, ⟨6, _⟩ => ⟨S8192x2048, .f32⟩
  | .hbm, ⟨7, _⟩ => ⟨S8192x2048, .f32⟩
  | .hbm, ⟨8, _⟩ => ⟨S8192x1024, .f32⟩
  | .hbm, ⟨9, _⟩ => ⟨S8192x1024, .f32⟩
  | .hbm, ⟨10, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel14.lean ====
abbrev S8192x2048 : Shape := ⟨2, ![8192, 2048]⟩
abbrev S2048x2048 : Shape := ⟨2, ![2048, 2048]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S8192x2048 : Shape := ⟨2, ![8192, 2048]⟩
abbrev S512x2048 : Shape := ⟨2, ![512, 2048]⟩
abbrev S8192x512 : Shape := ⟨2, ![8192, 512]⟩
abbrev S2048x2048 : Shape := ⟨2, ![2048, 2048]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S8192x2048, .bf16⟩
  | .hbm, ⟨3, _⟩ => ⟨S512x2048, .bf16⟩
  | .hbm, ⟨4, _⟩ => ⟨S8192x512, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S8192x2048 : Shape := ⟨2, ![8192, 2048]⟩
abbrev S512x2048 : Shape := ⟨2, ![512, 2048]⟩
abbrev S_ : Shape := ⟨0, ![]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S_, .f32⟩
  | .hbm, ⟨3, _⟩ => ⟨S8192x512, .f32⟩
  | .hbm, ⟨4, _⟩ => ⟨S8192x2048, .f32⟩
  | .hbm, ⟨5, _⟩ => ⟨S8192x512, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel18.lean ====
abbrev S8192x512 : Shape := ⟨2, ![8192, 512]⟩
abbrev S8192x2048 : Shape := ⟨2, ![8192, 2048]⟩
abbrev S512x2048 : Shape := ⟨2, ![512, 2048]⟩
abbrev S2048x512 : Shape := ⟨2, ![2048, 512]⟩
abbrev S2048x2048 : Shape := ⟨2, ![2048, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S8192x512, .bf16⟩
  | .hbm, ⟨3, _⟩ => ⟨S8192x2048, .bf16⟩
  | .hbm, ⟨4, _⟩ => ⟨S512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S8192x512 : Shape := ⟨2, ![8192, 512]⟩
abbrev S8192x2048 : Shape := ⟨2, ![8192, 2048]⟩
abbrev S_ : Shape := ⟨0, ![]⟩
abbrev S512x2048 : Shape := ⟨2, ![512, 2048]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S_, .f32⟩
  | .hbm, ⟨3, _⟩ => ⟨S512x2048, .f32⟩
  | .hbm, ⟨4, _⟩ => ⟨S8192x2048, .f32⟩
  | .hbm, ⟨5, _⟩ => ⟨S2048x512, .f32⟩
  | .hbm, ⟨6, _⟩ => ⟨S512x2048, .f32⟩
  | .hbm, ⟨7, _⟩ => ⟨S512x2048, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S2048x2432 : Shape := ⟨2, ![2048, 2432]⟩
abbrev S128x2432 : Shape := ⟨2, ![128, 2432]⟩

abbrev nBuf : Space → Nat
  | .hbm => 9
  | .vmem => 18
  | .smem => 0
  | _ => 0

abbrev bufTy : (tb : Table) → Fin (tcTables nBuf tb) → BufTy
  | .hbm, ⟨0, _⟩ => ⟨S2048x2432, .f32⟩
  | .hbm, ⟨1, _⟩ => ⟨S2048x2432, .f32⟩
  | .hbm, ⟨2, _⟩ => ⟨S2048x2432, .f32⟩
  | .hbm, ⟨3, _⟩ => ⟨S2048x2432, .f32⟩
  | .hbm, ⟨4, _⟩ => ⟨S2048x2432, .f32⟩
  | .hbm, ⟨5, _⟩ => ⟨S2048x2432, .f32⟩
  | .hbm, ⟨6, _⟩ => ⟨S2048x2432, .f32⟩
  | .hbm, ⟨7, _⟩ => ⟨S2048x2432, .f32⟩
  | .hbm, ⟨8, _⟩ => ⟨S2048x2432, .f32⟩
  | .local _ .vmem, ⟨0, _⟩ => ⟨S128x2432, .f32⟩
  | .local _ .vmem, ⟨1, _⟩ => ⟨S128x2432, .f32⟩
  | .local _ .vmem, ⟨2, _⟩ => ⟨S128x2432, .f32⟩
  | .local _ .vmem, ⟨3, _⟩ => ⟨S128x2432, .f32⟩
  | .local _ .vmem, ⟨4, _⟩ => ⟨S128x2432, .f32⟩
  | .local _ .vmem, ⟨5, _⟩ => ⟨S128x2432, .f32⟩
  | .local _ .vmem, ⟨6, _⟩ => ⟨S128x2432, .f32⟩
  | .local _ .vmem, ⟨7, _⟩ => ⟨S128x2432, .f32⟩
  | .local _ .vmem, ⟨8, _⟩ => ⟨S128x2432, .f32⟩
  | .local _ .vmem, ⟨9, _⟩ => ⟨S128x2432, .f32⟩
  | .local _ .vmem, ⟨10, _⟩ => ⟨S128x2432, .f32⟩
  | .local _ .vmem, ⟨11, _⟩ => ⟨S128x2432, .f32⟩
  | .local _ .vmem, ⟨12, _⟩ => ⟨S128x2432, .f32⟩
  | .local _ .vmem, ⟨13, _⟩ => ⟨S128x2432, .f32⟩
  | .local _ .vmem, ⟨14, _⟩ => ⟨S128x2432, .f32⟩
  | .local _ .vmem, ⟨15, _⟩ => ⟨S128x2432, .f32⟩
  | .local _ .vmem, ⟨16, _⟩ => ⟨S128x2432, .f32⟩
  | .local _ .vmem, ⟨17, _⟩ => ⟨S128x2432, .f32⟩
  | _, _ => ⟨S2048x2432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2432 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2432 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2432 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2432 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2432 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2432 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2432 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2432 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel19Ideal.lean ====
abbrev S2048x2432 : Shape := ⟨2, ![2048, 2432]⟩
abbrev S128x2432 : Shape := ⟨2, ![128, 2432]⟩

abbrev nBuf : Space → Nat
  | .hbm => 9
  | .vmem => 18
  | .smem => 0
  | _ => 0

abbrev bufTy : (tb : Table) → Fin (tcTables nBuf tb) → BufTy
  | .hbm, ⟨0, _⟩ => ⟨S2048x2432, .f32⟩
  | .hbm, ⟨1, _⟩ => ⟨S2048x2432, .f32⟩
  | .hbm, ⟨2, _⟩ => ⟨S2048x2432, .f32⟩
  | .hbm, ⟨3, _⟩ => ⟨S2048x2432, .f32⟩
  | .hbm, ⟨4, _⟩ => ⟨S2048x2432, .f32⟩
  | .hbm, ⟨5, _⟩ => ⟨S2048x2432, .f32⟩
  | .hbm, ⟨6, _⟩ => ⟨S2048x2432, .f32⟩
  | .hbm, ⟨7, _⟩ => ⟨S2048x2432, .f32⟩
  | .hbm, ⟨8, _⟩ => ⟨S2048x2432, .f32⟩
  | .local _ .vmem, ⟨0, _⟩ => ⟨S128x2432, .f32⟩
  | .local _ .vmem, ⟨1, _⟩ => ⟨S128x2432, .f32⟩
  | .local _ .vmem, ⟨2, _⟩ => ⟨S128x2432, .f32⟩
  | .local _ .vmem, ⟨3, _⟩ => ⟨S128x2432, .f32⟩
  | .local _ .vmem, ⟨4, _⟩ => ⟨S128x2432, .f32⟩
  | .local _ .vmem, ⟨5, _⟩ => ⟨S128x2432, .f32⟩
  | .local _ .vmem, ⟨6, _⟩ => ⟨S128x2432, .f32⟩
  | .local _ .vmem, ⟨7, _⟩ => ⟨S128x2432, .f32⟩
  | .local _ .vmem, ⟨8, _⟩ => ⟨S128x2432, .f32⟩
  | .local _ .vmem, ⟨9, _⟩ => ⟨S128x2432, .f32⟩
  | .local _ .vmem, ⟨10, _⟩ => ⟨S128x2432, .f32⟩
  | .local _ .vmem, ⟨11, _⟩ => ⟨S128x2432, .f32⟩
  | .local _ .vmem, ⟨12, _⟩ => ⟨S128x2432, .f32⟩
  | .local _ .vmem, ⟨13, _⟩ => ⟨S128x2432, .f32⟩
  | .local _ .vmem, ⟨14, _⟩ => ⟨S128x2432, .f32⟩
  | .local _ .vmem, ⟨15, _⟩ => ⟨S128x2432, .f32⟩
  | .local _ .vmem, ⟨16, _⟩ => ⟨S128x2432, .f32⟩
  | .local _ .vmem, ⟨17, _⟩ => ⟨S128x2432, .f32⟩
  | _, _ => ⟨S2048x2432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2432 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2432 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2432 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2432 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2432 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2432 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2432 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2432 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S2048x2432 : Shape := ⟨2, ![2048, 2432]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x2432, .f32⟩
  | .hbm, ⟨1, _⟩ => ⟨S2048x2432, .f32⟩
  | .hbm, ⟨2, _⟩ => ⟨S2048x2432, .f32⟩
  | .hbm, ⟨3, _⟩ => ⟨S2048x2432, .f32⟩
  | .hbm, ⟨4, _⟩ => ⟨S2048x2432, .f32⟩
  | .hbm, ⟨5, _⟩ => ⟨S2048x2432, .f32⟩
  | .hbm, ⟨6, _⟩ => ⟨S_, .f32⟩
  | .hbm, ⟨7, _⟩ => ⟨S2048x2432, .f32⟩
  | .hbm, ⟨8, _⟩ => ⟨S2048x2432, .f32⟩
  | .hbm, ⟨9, _⟩ => ⟨S_, .f32⟩
  | .hbm, ⟨10, _⟩ => ⟨S2048x2432, .f32⟩
  | .hbm, ⟨11, _⟩ => ⟨S2048x2432, .f32⟩
  | .hbm, ⟨12, _⟩ => ⟨S2048x2432, .f32⟩
  | .hbm, ⟨13, _⟩ => ⟨S_, .f32⟩
  | .hbm, ⟨14, _⟩ => ⟨S2048x2432, .f32⟩
  | .hbm, ⟨15, _⟩ => ⟨S2048x2432, .f32⟩
  | .hbm, ⟨16, _⟩ => ⟨S2048x2432, .f32⟩
  | .hbm, ⟨17, _⟩ => ⟨S_, .f32⟩
  | .hbm, ⟨18, _⟩ => ⟨S2048x2432, .f32⟩
  | .hbm, ⟨19, _⟩ => ⟨S2048x2432, .f32⟩
  | .hbm, ⟨20, _⟩ => ⟨S2048x2432, .f32⟩
  | .hbm, ⟨21, _⟩ => ⟨S_, .f32⟩
  | .hbm, ⟨22, _⟩ => ⟨S2048x2432, .f32⟩
  | .hbm, ⟨23, _⟩ => ⟨S2048x2432, .f32⟩
  | .hbm, ⟨24, _⟩ => ⟨S_, .f32⟩
  | .hbm, ⟨25, _⟩ => ⟨S2048x2432, .f32⟩
  | .hbm, ⟨26, _⟩ => ⟨S2048x2432, .f32⟩
  | .hbm, ⟨27, _⟩ => ⟨S2048x2432, .f32⟩
  | .hbm, ⟨28, _⟩ => ⟨S_, .f32⟩
  | .hbm, ⟨29, _⟩ => ⟨S2048x2432, .f32⟩
  | .hbm, ⟨30, _⟩ => ⟨S2048x2432, .f32⟩
  | .hbm, ⟨31, _⟩ => ⟨S2048x2432, .f32⟩
  | .hbm, ⟨32, _⟩ => ⟨S_, .f32⟩
  | .hbm, ⟨33, _⟩ => ⟨S2048x2432, .f32⟩
  | .hbm, ⟨34, _⟩ => ⟨S2048x2432, .f32⟩
  | .hbm, ⟨35, _⟩ => ⟨S2048x2432, .f32⟩
  | .hbm, ⟨36, _⟩ => ⟨S_, .f32⟩
  | .hbm, ⟨37, _⟩ => ⟨S2048x2432, .f32⟩
  | .hbm, ⟨38, _⟩ => ⟨S2048x2432, .f32⟩
  | _, _ => ⟨S2048x2432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel20.lean ====
abbrev S512x512 : Shape := ⟨2, ![512, 512]⟩

abbrev nBuf : Space → Nat
  | .hbm => 9
  | .vmem => 9
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel20Ideal.lean ====
abbrev S512x512 : Shape := ⟨2, ![512, 512]⟩

abbrev nBuf : Space → Nat
  | .hbm => 9
  | .vmem => 9
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference20Ideal.lean ====
abbrev S512x512 : Shape := ⟨2, ![512, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S_, .f32⟩
  | .hbm, ⟨7, _⟩ => ⟨S512x512, .f32⟩
  | .hbm, ⟨8, _⟩ => ⟨S512x512, .f32⟩
  | .hbm, ⟨9, _⟩ => ⟨S_, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S_, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S_, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S_, .f32⟩
  | .hbm, ⟨22, _⟩ => ⟨S512x512, .f32⟩
  | .hbm, ⟨23, _⟩ => ⟨S512x512, .f32⟩
  | .hbm, ⟨24, _⟩ => ⟨S_, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S_, .f32⟩
  | .hbm, ⟨29, _⟩ => ⟨S512x512, .f32⟩
  | .hbm, ⟨30, _⟩ => ⟨S512x512, .f32⟩
  | .hbm, ⟨31, _⟩ => ⟨S512x512, .f32⟩
  | .hbm, ⟨32, _⟩ => ⟨S_, .f32⟩
  | .hbm, ⟨33, _⟩ => ⟨S512x512, .f32⟩
  | .hbm, ⟨34, _⟩ => ⟨S512x512, .f32⟩
  | .hbm, ⟨35, _⟩ => ⟨S512x512, .f32⟩
  | .hbm, ⟨36, _⟩ => ⟨S_, .f32⟩
  | .hbm, ⟨37, _⟩ => ⟨S512x512, .f32⟩
  | .hbm, ⟨38, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel21.lean ====
abbrev S1024x512 : Shape := ⟨2, ![1024, 512]⟩
abbrev S512x512 : Shape := ⟨2, ![512, 512]⟩

abbrev nBuf : Space → Nat
  | .hbm => 9
  | .vmem => 18
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel21Ideal.lean ====
abbrev S1024x512 : Shape := ⟨2, ![1024, 512]⟩
abbrev S512x512 : Shape := ⟨2, ![512, 512]⟩

abbrev nBuf : Space → Nat
  | .hbm => 9
  | .vmem => 18
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference21Ideal.lean ====
abbrev S1024x512 : Shape := ⟨2, ![1024, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S_, .f32⟩
  | .hbm, ⟨37, _⟩ => ⟨S1024x512, .f32⟩
  | .hbm, ⟨38, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel22.lean ====
abbrev S512x2048 : Shape := ⟨2, ![512, 2048]⟩
abbrev S256x2048 : Shape := ⟨2, ![256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel22Ideal.lean ====
abbrev S512x2048 : Shape := ⟨2, ![512, 2048]⟩
abbrev S256x2048 : Shape := ⟨2, ![256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference22Ideal.lean ====
abbrev S512x2048 : Shape := ⟨2, ![512, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S_, .f32⟩
  | .hbm, ⟨7, _⟩ => ⟨S512x2048, .f32⟩
  | .hbm, ⟨8, _⟩ => ⟨S512x2048, .f32⟩
  | .hbm, ⟨9, _⟩ => ⟨S_, .f32⟩
  | .hbm, ⟨10, _⟩ => ⟨S512x2048, .f32⟩
  | .hbm, ⟨11, _⟩ => ⟨S512x2048, .f32⟩
  | .hbm, ⟨12, _⟩ => ⟨S512x2048, .f32⟩
  | .hbm, ⟨13, _⟩ => ⟨S_, .f32⟩
  | .hbm, ⟨14, _⟩ => ⟨S512x2048, .f32⟩
  | .hbm, ⟨15, _⟩ => ⟨S512x2048, .f32⟩
  | .hbm, ⟨16, _⟩ => ⟨S512x2048, .f32⟩
  | .hbm, ⟨17, _⟩ => ⟨S_, .f32⟩
  | .hbm, ⟨18, _⟩ => ⟨S512x2048, .f32⟩
  | .hbm, ⟨19, _⟩ => ⟨S512x2048, .f32⟩
  | .hbm, ⟨20, _⟩ => ⟨S512x2048, .f32⟩
  | .hbm, ⟨21, _⟩ => ⟨S_, .f32⟩
  | .hbm, ⟨22, _⟩ => ⟨S512x2048, .f32⟩
  | .hbm, ⟨23, _⟩ => ⟨S512x2048, .f32⟩
  | .hbm, ⟨24, _⟩ => ⟨S_, .f32⟩
  | .hbm, ⟨25, _⟩ => ⟨S512x2048, .f32⟩
  | .hbm, ⟨26, _⟩ => ⟨S512x2048, .f32⟩
  | .hbm, ⟨27, _⟩ => ⟨S512x2048, .f32⟩
  | .hbm, ⟨28, _⟩ => ⟨S_, .f32⟩
  | .hbm, ⟨29, _⟩ => ⟨S512x2048, .f32⟩
  | .hbm, ⟨30, _⟩ => ⟨S512x2048, .f32⟩
  | .hbm, ⟨31, _⟩ => ⟨S512x2048, .f32⟩
  | .hbm, ⟨32, _⟩ => ⟨S_, .f32⟩
  | .hbm, ⟨33, _⟩ => ⟨S512x2048, .f32⟩
  | .hbm, ⟨34, _⟩ => ⟨S512x2048, .f32⟩
  | .hbm, ⟨35, _⟩ => ⟨S512x2048, .f32⟩
  | .hbm, ⟨36, _⟩ => ⟨S_, .f32⟩
  | .hbm, ⟨37, _⟩ => ⟨S512x2048, .f32⟩
  | .hbm, ⟨38, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel23.lean ====
abbrev S2048x1408 : Shape := ⟨2, ![2048, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel23Ideal.lean ====
abbrev S2048x1408 : Shape := ⟨2, ![2048, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference23Ideal.lean ====
abbrev S2048x1408 : Shape := ⟨2, ![2048, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S_, .f32⟩
  | .hbm, ⟨7, _⟩ => ⟨S2048x1408, .f32⟩
  | .hbm, ⟨8, _⟩ => ⟨S2048x1408, .f32⟩
  | .hbm, ⟨9, _⟩ => ⟨S_, .f32⟩
  | .hbm, ⟨10, _⟩ => ⟨S2048x1408, .f32⟩
  | .hbm, ⟨11, _⟩ => ⟨S2048x1408, .f32⟩
  | .hbm, ⟨12, _⟩ => ⟨S2048x1408, .f32⟩
  | .hbm, ⟨13, _⟩ => ⟨S_, .f32⟩
  | .hbm, ⟨14, _⟩ => ⟨S2048x1408, .f32⟩
  | .hbm, ⟨15, _⟩ => ⟨S2048x1408, .f32⟩
  | .hbm, ⟨16, _⟩ => ⟨S2048x1408, .f32⟩
  | .hbm, ⟨17, _⟩ => ⟨S_, .f32⟩
  | .hbm, ⟨18, _⟩ => ⟨S2048x1408, .f32⟩
  | .hbm, ⟨19, _⟩ => ⟨S2048x1408, .f32⟩
  | .hbm, ⟨20, _⟩ => ⟨S2048x1408, .f32⟩
  | .hbm, ⟨21, _⟩ => ⟨S_, .f32⟩
  | .hbm, ⟨22, _⟩ => ⟨S2048x1408, .f32⟩
  | .hbm, ⟨23, _⟩ => ⟨S2048x1408, .f32⟩
  | .hbm, ⟨24, _⟩ => ⟨S_, .f32⟩
  | .hbm, ⟨25, _⟩ => ⟨S2048x1408, .f32⟩
  | .hbm, ⟨26, _⟩ => ⟨S2048x1408, .f32⟩
  | .hbm, ⟨27, _⟩ => ⟨S2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S2048x1408, .f32⟩
  | .hbm, ⟨32, _⟩ => ⟨S_, .f32⟩
  | .hbm, ⟨33, _⟩ => ⟨S2048x1408, .f32⟩
  | .hbm, ⟨34, _⟩ => ⟨S2048x1408, .f32⟩
  | .hbm, ⟨35, _⟩ => ⟨S2048x1408, .f32⟩
  | .hbm, ⟨36, _⟩ => ⟨S_, .f32⟩
  | .hbm, ⟨37, _⟩ => ⟨S2048x1408, .f32⟩
  | .hbm, ⟨38, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel24.lean ====
abbrev S1408x2048 : Shape := ⟨2, ![1408, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .hbm, ⟨8, _⟩ => ⟨S1408x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference24Ideal.lean ====
abbrev S1408x2048 : Shape := ⟨2, ![1408, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S_, .f32⟩
  | .hbm, ⟨7, _⟩ => ⟨S1408x2048, .f32⟩
  | .hbm, ⟨8, _⟩ => ⟨S1408x2048, .f32⟩
  | .hbm, ⟨9, _⟩ => ⟨S_, .f32⟩
  | .hbm, ⟨10, _⟩ => ⟨S1408x2048, .f32⟩
  | .hbm, ⟨11, _⟩ => ⟨S1408x2048, .f32⟩
  | .hbm, ⟨12, _⟩ => ⟨S1408x2048, .f32⟩
  | .hbm, ⟨13, _⟩ => ⟨S_, .f32⟩
  | .hbm, ⟨14, _⟩ => ⟨S1408x2048, .f32⟩
  | .hbm, ⟨15, _⟩ => ⟨S1408x2048, .f32⟩
  | .hbm, ⟨16, _⟩ => ⟨S1408x2048, .f32⟩
  | .hbm, ⟨17, _⟩ => ⟨S_, .f32⟩
  | .hbm, ⟨18, _⟩ => ⟨S1408x2048, .f32⟩
  | .hbm, ⟨19, _⟩ => ⟨S1408x2048, .f32⟩
  | .hbm, ⟨20, _⟩ => ⟨S1408x2048, .f32⟩
  | .hbm, ⟨21, _⟩ => ⟨S_, .f32⟩
  | .hbm, ⟨22, _⟩ => ⟨S1408x2048, .f32⟩
  | .hbm, ⟨23, _⟩ => ⟨S1408x2048, .f32⟩
  | .hbm, ⟨24, _⟩ => ⟨S_, .f32⟩
  | .hbm, ⟨25, _⟩ => ⟨S1408x2048, .f32⟩
  | .hbm, ⟨26, _⟩ => ⟨S1408x2048, .f32⟩
  | .hbm, ⟨27, _⟩ => ⟨S1408x2048, .f32⟩
  | .hbm, ⟨28, _⟩ => ⟨S_, .f32⟩
  | .hbm, ⟨29, _⟩ => ⟨S1408x2048, .f32⟩
  | .hbm, ⟨30, _⟩ => ⟨S1408x2048, .f32⟩
  | .hbm, ⟨31, _⟩ => ⟨S1408x2048, .f32⟩
  | .hbm, ⟨32, _⟩ => ⟨S_, .f32⟩
  | .hbm, ⟨33, _⟩ => ⟨S1408x2048, .f32⟩
  | .hbm, ⟨34, _⟩ => ⟨S1408x2048, .f32⟩
  | .hbm, ⟨35, _⟩ => ⟨S1408x2048, .f32⟩
  | .hbm, ⟨36, _⟩ => ⟨S_, .f32⟩
  | .hbm, ⟨37, _⟩ => ⟨S1408x2048, .f32⟩
  | .hbm, ⟨38, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel25.lean ====
abbrev S2192x128 : Shape := ⟨2, ![2192, 128]⟩
abbrev S8x2192x128 : Shape := ⟨3, ![8, 2192, 128]⟩
abbrev S1x2192x128 : Shape := ⟨3, ![1, 2192, 128]⟩

abbrev nBuf : Space → Nat
  | .hbm => 8
  | .vmem => 8
  | .smem => 0
  | _ => 0

abbrev bufTy : (tb : Table) → Fin (tcTables nBuf tb) → BufTy
  | .hbm, ⟨0, _⟩ => ⟨S2192x128, .f32⟩
  | .hbm, ⟨1, _⟩ => ⟨S8x2192x128, .f32⟩
  | .hbm, ⟨2, _⟩ => ⟨S2192x128, .f32⟩
  | .hbm, ⟨3, _⟩ => ⟨S2192x128, .f32⟩
  | .hbm, ⟨4, _⟩ => ⟨S2192x128, .f32⟩
  | .hbm, ⟨5, _⟩ => ⟨S2192x128, .f32⟩
  | .hbm, ⟨6, _⟩ => ⟨S2192x128, .f32⟩
  | .hbm, ⟨7, _⟩ => ⟨S2192x128, .f32⟩
  | .local _ .vmem, ⟨0, _⟩ => ⟨S2192x128, .f32⟩
  | .local _ .vmem, ⟨1, _⟩ => ⟨S8x2192x128, .f32⟩
  | .local _ .vmem, ⟨2, _⟩ => ⟨S2192x128, .f32⟩
  | .local _ .vmem, ⟨3, _⟩ => ⟨S2192x128, .f32⟩
  | .local _ .vmem, ⟨4, _⟩ => ⟨S2192x128, .f32⟩
  | .local _ .vmem, ⟨5, _⟩ => ⟨S2192x128, .f32⟩
  | .local _ .vmem, ⟨6, _⟩ => ⟨S2192x128, .f32⟩
  | .local _ .vmem, ⟨7, _⟩ => ⟨S2192x128, .f32⟩
  | _, _ => ⟨S2192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x2192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2192x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference25Ideal.lean ====
abbrev S2192x128 : Shape := ⟨2, ![2192, 128]⟩
abbrev S8x2192x128 : Shape := ⟨3, ![8, 2192, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2192x128, .f32⟩
  | .hbm, ⟨1, _⟩ => ⟨S8x2192x128, .f32⟩
  | .hbm, ⟨2, _⟩ => ⟨S2192x128, .f32⟩
  | .hbm, ⟨3, _⟩ => ⟨S2192x128, .f32⟩
  | .hbm, ⟨4, _⟩ => ⟨S_, .f32⟩
  | .hbm, ⟨5, _⟩ => ⟨S2192x128, .f32⟩
  | .hbm, ⟨6, _⟩ => ⟨S_, .f32⟩
  | .hbm, ⟨7, _⟩ => ⟨S2192x128, .f32⟩
  | .hbm, ⟨8, _⟩ => ⟨S2192x128, .f32⟩
  | .hbm, ⟨9, _⟩ => ⟨S_, .f32⟩
  | .hbm, ⟨10, _⟩ => ⟨S2192x128, .f32⟩
  | .hbm, ⟨11, _⟩ => ⟨S2192x128, .f32⟩
  | .hbm, ⟨12, _⟩ => ⟨S2192x128, .f32⟩
  | .hbm, ⟨13, _⟩ => ⟨S_, .f32⟩
  | .hbm, ⟨14, _⟩ => ⟨S2192x128, .f32⟩
  | .hbm, ⟨15, _⟩ => ⟨S2192x128, .f32⟩
  | .hbm, ⟨16, _⟩ => ⟨S2192x128, .f32⟩
  | .hbm, ⟨17, _⟩ => ⟨S_, .f32⟩
  | .hbm, ⟨18, _⟩ => ⟨S2192x128, .f32⟩
  | .hbm, ⟨19, _⟩ => ⟨S2192x128, .f32⟩
  | .hbm, ⟨20, _⟩ => ⟨S2192x128, .f32⟩
  | .hbm, ⟨21, _⟩ => ⟨S_, .f32⟩
  | .hbm, ⟨22, _⟩ => ⟨S2192x128, .f32⟩
  | .hbm, ⟨23, _⟩ => ⟨S2192x128, .f32⟩
  | .hbm, ⟨24, _⟩ => ⟨S_, .f32⟩
  | .hbm, ⟨25, _⟩ => ⟨S2192x128, .f32⟩
  | .hbm, ⟨26, _⟩ => ⟨S2192x128, .f32⟩
  | .hbm, ⟨27, _⟩ => ⟨S2192x128, .f32⟩
  | .hbm, ⟨28, _⟩ => ⟨S_, .f32⟩
  | .hbm, ⟨29, _⟩ => ⟨S2192x128, .f32⟩
  | .hbm, ⟨30, _⟩ => ⟨S2192x128, .f32⟩
  | .hbm, ⟨31, _⟩ => ⟨S2192x128, .f32⟩
  | .hbm, ⟨32, _⟩ => ⟨S_, .f32⟩
  | .hbm, ⟨33, _⟩ => ⟨S2192x128, .f32⟩
  | .hbm, ⟨34, _⟩ => ⟨S2192x128, .f32⟩
  | .hbm, ⟨35, _⟩ => ⟨S2192x128, .f32⟩
  | .hbm, ⟨36, _⟩ => ⟨S_, .f32⟩
  | .hbm, ⟨37, _⟩ => ⟨S2192x128, .f32⟩
  | .hbm, ⟨38, _⟩ => ⟨S2192x128, .f32⟩
  | _, _ => ⟨S2192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel26.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference26Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel27.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference27Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S2048, .f32⟩
  | .hbm, ⟨23, _⟩ => ⟨S8192x2048, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S1x2048, .f32⟩
  | .hbm, ⟨37, _⟩ => ⟨S8192x2048, .f32⟩
  | .hbm, ⟨38, _⟩ => ⟨S8192x2048, .f32⟩
  | .hbm, ⟨39, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel28.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference28Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel29.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .bf16⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | .local _ .vmem, ⟨15, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference29Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 102
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S8192x2048, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x2048, .f32⟩
  | .hbm, ⟨70, _⟩ => ⟨S8192x2048, .f32⟩
  | .hbm, ⟨71, _⟩ => ⟨S1x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S8192x2048, .f32⟩
  | .hbm, ⟨79, _⟩ => ⟨S8192x2048, .f32⟩
  | .hbm, ⟨80, _⟩ => ⟨S_, .f32⟩
  | .hbm, ⟨81, _⟩ => ⟨S2048, .f32⟩
  | .hbm, ⟨82, _⟩ => ⟨S8192x2048, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S8192x2048, .f32⟩
  | .hbm, ⟨87, _⟩ => ⟨S8192x2048, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S_, .f32⟩
  | .hbm, ⟨93, _⟩ => ⟨S8192, .f32⟩
  | .hbm, ⟨94, _⟩ => ⟨S8192x2048, .f32⟩
  | .hbm, ⟨95, _⟩ => ⟨S8192x2048, .f32⟩
  | .hbm, ⟨96, _⟩ => ⟨S8192x2048, .f32⟩
  | .hbm, ⟨97, _⟩ => ⟨S8192x2048, .f32⟩
  | .hbm, ⟨98, _⟩ => ⟨S8192x2048, .f32⟩
  | .hbm, ⟨99, _⟩ => ⟨S8192x2048, .bf16⟩
  | .hbm, ⟨100, _⟩ => ⟨S1x2048, .f32⟩
  | .hbm, ⟨101, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Kernel30.lean ====
abbrev S8192x2048 : Shape := ⟨2, ![8192, 2048]⟩
abbrev S1x2048 : Shape := ⟨2, ![1, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S1x1, .f32⟩
  | .hbm, ⟨5, _⟩ => ⟨S8192x2048, .f32⟩
  | .hbm, ⟨6, _⟩ => ⟨S8192x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S1x1, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference30Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x1 : Shape := ⟨2, ![1, 1]⟩

abbrev nBuf : Space → Nat
  | .hbm => 77
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S2048, .f32⟩
  | .hbm, ⟨57, _⟩ => ⟨S8192x2048, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x2048, .f32⟩
  | .hbm, ⟨62, _⟩ => ⟨S8192x2048, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S1x1, .f32⟩
  | .hbm, ⟨75, _⟩ => ⟨S8192x2048, .bf16⟩
  | .hbm, ⟨76, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_cst_8 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_11 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_12 : Ref sig .tc := ⟨.hbm, 55, rfl⟩
abbrev main_v38 : Ref sig .tc := ⟨.hbm, 56, rfl⟩
abbrev main_v39 : Ref sig .tc := ⟨.hbm, 57, rfl⟩
abbrev main_cst_13 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_14 : Ref sig .tc := ⟨.hbm, 64, rfl⟩
abbrev main_v45 : Ref sig .tc := ⟨.hbm, 65, rfl⟩
abbrev main_v46 : Ref sig .tc := ⟨.hbm, 66, rfl⟩
abbrev main_cst_15 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Proof.Block.lean ====
module

public import proofs.«01_k».proof.Proof.Gen.KernelIdeal.Value
public import Idealize.ShloMosaic.Lib.Pipeline.ValueKit
public import Idealize.ShloMosaic.Lib.Pipeline.ReadBack

@[expose] public section
set_option maxRecDepth 16384
noncomputable section
namespace Cert.KernelIdeal.Blk
open Cert.KernelIdeal Cert.KernelIdeal.Gen Idealize.ShloMosaic Idealize.ShloMosaic.TcCoe Idealize.SL.Sem
open Idealize.ShloMosaic.Pipeline (Dat)

/-- Four-axis block of one group's rows: 128 rows of 512 lanes. -/
abbrev B4 := FVec Ideal S1x1x128x512 .bf16

/-- The lane of head `h` and element `e`. -/
def col (h : Fin 4) (e : Fin 128) : Fin 512 := ⟨128 * h.val + e.val, by omega⟩

/-- Head `h`'s product of row `i` of `a` with row `j` of `b`. -/
def dot4 (a b : B4) (h : Fin 4) (i j : Fin 128) : EReal :=
  ∑ e : Fin 128, a (ix4 0 0 i (col h e)) * b (ix4 0 0 j (col h e))

/-- The same with a three-axis left operand. -/
def dot34 (a : FVec Ideal S1x128x512 .bf16) (b : B4) (h : Fin 4) (i j : Fin 128) : EReal :=
  ∑ e : Fin 128, a (ix3 0 i (col h e)) * b (ix4 0 0 j (col h e))

/-- A row array read in head `h`'s lanes. -/
def pick (a : FVec Ideal S1x128x512 .f32) (h : Fin 4) (i j : Fin 128) : EReal := a (ix3 0 i (col h j))

/-- Three 128-column tiles side by side, the four heads' rows under one another. -/
def wide (a b c : Fin 4 → Fin 128 → Fin 128 → EReal) : FVec Ideal S512x384 .f32 := fun y =>
  let h : Fin 4 := ⟨(y 0).val / 128, by have := (y 0).isLt; simp at this; omega⟩
  let i : Fin 128 := ⟨(y 0).val % 128, Nat.mod_lt _ (by omega)⟩
  let j : Fin 128 := ⟨(y 1).val % 128, Nat.mod_lt _ (by omega)⟩
  if (y 1).val < 128 then a h i j else if (y 1).val < 256 then b h i j else c h i j

theorem wide_a (a b c) (y : S512x384.Idx) (h : Fin 4) (i j : Fin 128) (h0 : (y 0).val = 128 * h.val + i.val)
    (h1 : (y 1).val = j.val) : wide a b c y = a h i j := by
  have := i.isLt; have := j.isLt
  have e1 : (y 0).val / 128 = h.val := by omega
  have e2 : (y 0).val % 128 = i.val := by omega
  have e3 : (y 1).val % 128 = j.val := by omega
  simp only [wide, e1, e2, e3, if_pos (show (y 1).val < 128 by omega)]

theorem wide_b (a b c) (y : S512x384.Idx) (h : Fin 4) (i j : Fin 128) (h0 : (y 0).val = 128 * h.val + i.val)
    (h1 : (y 1).val = 128 + j.val) : wide a b c y = b h i j := by
  have := i.isLt; have := j.isLt
  have e1 : (y 0).val / 128 = h.val := by omega
  have e2 : (y 0).val % 128 = i.val := by omega
  have e3 : (y 1).val % 128 = j.val := by omega
  simp only [wide, e1, e2, e3, if_neg (show ¬ (y 1).val < 128 by omega), if_pos (show (y 1).val < 256 by omega)]

theorem wide_c (a b c) (y : S512x384.Idx) (h : Fin 4) (i j : Fin 128) (h0 : (y 0).val = 128 * h.val + i.val)
    (h1 : (y 1).val = 256 + j.val) : wide a b c y = c h i j := by
  have := i.isLt; have := j.isLt
  have e1 : (y 0).val / 128 = h.val := by omega
  have e2 : (y 0).val % 128 = i.val := by omega
  have e3 : (y 1).val % 128 = j.val := by omega
  simp only [wide, e1, e2, e3, if_neg (show ¬ (y 1).val < 128 by omega), if_neg (show ¬ (y 1).val < 256 by omega)]

theorem read_s {κ : _} {sp : _} (v : View sig κ sp S512x384 .f32) (x0 x1 x2 x3 : B4) :
    v.readCov (Val := Elt Ideal) [⟨Rect.unit (s := S512x384) ![384, 256] S128x128.size (by decide), shapeCast S128x128 (matmul (F := Ideal) (φ₁ := .bf16) (φ₂ := .bf16) dot_S128x128_S128x128_S128x128_1_1_0_0_n_n none
      (shapeCast S128x128 (View.ld (Val := Elt Ideal) (e' := .bf16) x1 (Rect.unit (s := S1x1x128x512) ![0, 0, 0, 384] S1x1x128x128.size (by decide))) shapeCasts_S1x1x128x128_S128x128)
      (shapeCast S128x128 (View.ld (Val := Elt Ideal) (e' := .bf16) x2 (Rect.unit (s := S1x1x128x512) ![0, 0, 0, 384] S1x1x128x128.size (by decide))) shapeCasts_S1x1x128x128_S128x128) (constant (F := Ideal) S128x128 FTy.f32 0#32)) (by decide : Shape.ShapeCasts S128x128 S128x128)⟩,
    ⟨Rect.unit (s := S512x384) ![384, 128] S128x128.size (by decide), shapeCast S128x128 (matmul (F := Ideal) (φ₁ := .bf16) (φ₂ := .bf16) dot_S128x128_S128x128_S128x128_1_1_0_0_n_n none
      (shapeCast S128x128 (View.ld (Val := Elt Ideal) (e' := .bf16) x0 (Rect.unit (s := S1x1x128x512) ![0, 0, 0, 384] S1x1x128x128.size (by decide))) shapeCasts_S1x1x128x128_S128x128)
      (shapeCast S128x128 (View.ld (Val := Elt Ideal) (e' := .bf16) x3 (Rect.unit (s := S1x1x128x512) ![0, 0, 0, 384] S1x1x128x128.size (by decide))) shapeCasts_S1x1x128x128_S128x128) (constant (F := Ideal) S128x128 FTy.f32 0#32)) (by decide : Shape.ShapeCasts S128x128 S128x128)⟩,
    ⟨Rect.unit (s := S512x384) ![384, 0] S128x128.size (by decide), shapeCast S128x128 (matmul (F := Ideal) (φ₁ := .bf16) (φ₂ := .bf16) dot_S128x128_S128x128_S128x128_1_1_0_0_n_n none
      (shapeCast S128x128 (View.ld (Val := Elt Ideal) (e' := .bf16) x0 (Rect.unit (s := S1x1x128x512) ![0, 0, 0, 384] S1x1x128x128.size (by decide))) shapeCasts_S1x1x128x128_S128x128)
      (shapeCast S128x128 (View.ld (Val := Elt Ideal) (e' := .bf16) x2 (Rect.unit (s := S1x1x128x512) ![0, 0, 0, 384] S1x1x128x128.size (by decide))) shapeCasts_S1x1x128x128_S128x128) (constant (F := Ideal) S128x128 FTy.f32 0#32)) (by decide : Shape.ShapeCasts S128x128 S128x128)⟩,
    ⟨Rect.unit (s := S512x384) ![256, 256] S128x128.size (by decide), shapeCast S128x128 (matmul (F := Ideal) (φ₁ := .bf16) (φ₂ := .bf16) dot_S128x128_S128x128_S128x128_1_1_0_0_n_n none
      (shapeCast S128x128 (View.ld (Val := Elt Ideal) (e' := .bf16) x1 (Rect.unit (s := S1x1x128x512) ![0, 0, 0, 256] S1x1x128x128.size (by decide))) shapeCasts_S1x1x128x128_S128x128)
      (shapeCast S128x128 (View.ld (Val := Elt Ideal) (e' := .bf16) x2 (Rect.unit (s := S1x1x128x512) ![0, 0, 0, 256] S1x1x128x128.size (by decide))) shapeCasts_S1x1x128x128_S128x128) (constant (F := Ideal) S128x128 FTy.f32 0#32)) (by decide : Shape.ShapeCasts S128x128 S128x128)⟩,
    ⟨Rect.unit (s := S512x384) ![256, 128] S128x128.size (by decide), shapeCast S128x128 (matmul (F := Ideal) (φ₁ := .bf16) (φ₂ := .bf16) dot_S128x128_S128x128_S128x128_1_1_0_0_n_n none
      (shapeCast S128x128 (View.ld (Val := Elt Ideal) (e' := .bf16) x0 (Rect.unit (s := S1x1x128x512) ![0, 0, 0, 256] S1x1x128x128.size (by decide))) shapeCasts_S1x1x128x128_S128x128)
      (shapeCast S128x128 (View.ld (Val := Elt Ideal) (e' := .bf16) x3 (Rect.unit (s := S1x1x128x512) ![0, 0, 0, 256] S1x1x128x128.size (by decide))) shapeCasts_S1x1x128x128_S128x128) (constant (F := Ideal) S128x128 FTy.f32 0#32)) (by decide : Shape.ShapeCasts S128x128 S128x128)⟩,
    ⟨Rect.unit (s := S512x384) ![256, 0] S128x128.size (by decide), shapeCast S128x128 (matmul (F := Ideal) (φ₁ := .bf16) (φ₂ := .bf16) dot_S128x128_S128x128_S128x128_1_1_0_0_n_n none
      (shapeCast S128x128 (View.ld (Val := Elt Ideal) (e' := .bf16) x0 (Rect.unit (s := S1x1x128x512) ![0, 0, 0, 256] S1x1x128x128.size (by decide))) shapeCasts_S1x1x128x128_S128x128)
      (shapeCast S128x128 (View.ld (Val := Elt Ideal) (e' := .bf16) x2 (Rect.unit (s := S1x1x128x512) ![0, 0, 0, 256] S1x1x128x128.size (by decide))) shapeCasts_S1x1x128x128_S128x128) (constant (F := Ideal) S128x128 FTy.f32 0#32)) (by decide : Shape.ShapeCasts S128x128 S128x128)⟩,
    ⟨Rect.unit (s := S512x384) ![128, 256] S128x128.size (by decide), shapeCast S128x128 (matmul (F := Ideal) (φ₁ := .bf16) (φ₂ := .bf16) dot_S128x128_S128x128_S128x128_1_1_0_0_n_n none
      (shapeCast S128x128 (View.ld (Val := Elt Ideal) (e' := .bf16) x1 (Rect.unit (s := S1x1x128x512) ![0, 0, 0, 128] S1x1x128x128.size (by decide))) shapeCasts_S1x1x128x128_S128x128)
      (shapeCast S128x128 (View.ld (Val := Elt Ideal) (e' := .bf16) x2 (Rect.unit (s := S1x1x128x512) ![0, 0, 0, 128] S1x1x128x128.size (by decide))) shapeCasts_S1x1x128x128_S128x128) (constant (F := Ideal) S128x128 FTy.f32 0#32)) (by decide : Shape.ShapeCasts S128x128 S128x128)⟩,
    ⟨Rect.unit (s := S512x384) ![128, 128] S128x128.size (by decide), shapeCast S128x128 (matmul (F := Ideal) (φ₁ := .bf16) (φ₂ := .bf16) dot_S128x128_S128x128_S128x128_1_1_0_0_n_n none
      (shapeCast S128x128 (View.ld (Val := Elt Ideal) (e' := .bf16) x0 (Rect.unit (s := S1x1x128x512) ![0, 0, 0, 128] S1x1x128x128.size (by decide))) shapeCasts_S1x1x128x128_S128x128)
      (shapeCast S128x128 (View.ld (Val := Elt Ideal) (e' := .bf16) x3 (Rect.unit (s := S1x1x128x512) ![0, 0, 0, 128] S1x1x128x128.size (by decide))) shapeCasts_S1x1x128x128_S128x128) (constant (F := Ideal) S128x128 FTy.f32 0#32)) (by decide : Shape.ShapeCasts S128x128 S128x128)⟩,
    ⟨Rect.unit (s := S512x384) ![128, 0] S128x128.size (by decide), shapeCast S128x128 (matmul (F := Ideal) (φ₁ := .bf16) (φ₂ := .bf16) dot_S128x128_S128x128_S128x128_1_1_0_0_n_n none
      (shapeCast S128x128 (View.ld (Val := Elt Ideal) (e' := .bf16) x0 (Rect.unit (s := S1x1x128x512) ![0, 0, 0, 128] S1x1x128x128.size (by decide))) shapeCasts_S1x1x128x128_S128x128)
      (shapeCast S128x128 (View.ld (Val := Elt Ideal) (e' := .bf16) x2 (Rect.unit (s := S1x1x128x512) ![0, 0, 0, 128] S1x1x128x128.size (by decide))) shapeCasts_S1x1x128x128_S128x128) (constant (F := Ideal) S128x128 FTy.f32 0#32)) (by decide : Shape.ShapeCasts S128x128 S128x128)⟩,
    ⟨Rect.unit (s := S512x384) ![0, 256] S128x128.size (by decide), shapeCast S128x128 (matmul (F := Ideal) (φ₁ := .bf16) (φ₂ := .bf16) dot_S128x128_S128x128_S128x128_1_1_0_0_n_n none
      (shapeCast S128x128 (View.ld (Val := Elt Ideal) (e' := .bf16) x1 (Rect.unit (s := S1x1x128x512) ![0, 0, 0, 0] S1x1x128x128.size (by decide))) shapeCasts_S1x1x128x128_S128x128)
      (shapeCast S128x128 (View.ld (Val := Elt Ideal) (e' := .bf16) x2 (Rect.unit (s := S1x1x128x512) ![0, 0, 0, 0] S1x1x128x128.size (by decide))) shapeCasts_S1x1x128x128_S128x128) (constant (F := Ideal) S128x128 FTy.f32 0#32)) (by decide : Shape.ShapeCasts S128x128 S128x128)⟩,
    ⟨Rect.unit (s := S512x384) ![0, 128] S128x128.size (by decide), shapeCast S128x128 (matmul (F := Ideal) (φ₁ := .bf16) (φ₂ := .bf16) dot_S128x128_S128x128_S128x128_1_1_0_0_n_n none
      (shapeCast S128x128 (View.ld (Val := Elt Ideal) (e' := .bf16) x0 (Rect.unit (s := S1x1x128x512) ![0, 0, 0, 0] S1x1x128x128.size (by decide))) shapeCasts_S1x1x128x128_S128x128)
      (shapeCast S128x128 (View.ld (Val := Elt Ideal) (e' := .bf16) x3 (Rect.unit (s := S1x1x128x512) ![0, 0, 0, 0] S1x1x128x128.size (by decide))) shapeCasts_S1x1x128x128_S128x128) (constant (F := Ideal) S128x128 FTy.f32 0#32)) (by decide : Shape.ShapeCasts S128x128 S128x128)⟩,
    ⟨Rect.unit (s := S512x384) ![0, 0] S128x128.size (by decide), shapeCast S128x128 (matmul (F := Ideal) (φ₁ := .bf16) (φ₂ := .bf16) dot_S128x128_S128x128_S128x128_1_1_0_0_n_n none
      (shapeCast S128x128 (View.ld (Val := Elt Ideal) (e' := .bf16) x0 (Rect.unit (s := S1x1x128x512) ![0, 0, 0, 0] S1x1x128x128.size (by decide))) shapeCasts_S1x1x128x128_S128x128)
      (shapeCast S128x128 (View.ld (Val := Elt Ideal) (e' := .bf16) x2 (Rect.unit (s := S1x1x128x512) ![0, 0, 0, 0] S1x1x128x128.size (by decide))) shapeCasts_S1x1x128x128_S128x128) (constant (F := Ideal) S128x128 FTy.f32 0#32)) (by decide : Shape.ShapeCasts S128x128 S128x128)⟩] (Rect.unit (s := S512x384) ![0, 0] S512x384.size (by decide)).toLoadRect = wide (dot4 x0 x2) (dot4 x0 x3) (dot4 x1 x2) := by
  rw [View.readCov_eq_canon_ld _ _ _ (fun y => View.cover_of_tiledL (s := S512x384) _ S128x128.size (by sl_kernel_rfl) y), View.ld_unit_lit _ _ (by decide)]
  funext y
  canon_tiles x h
  · rw [wide_c _ _ _ _ 3 (x 0) (x 1) (by simpa using h0) (by simpa using h1)]; pointwise; first | rfl | simp [pick, col]
  · rw [wide_b _ _ _ _ 3 (x 0) (x 1) (by simpa using h0) (by simpa using h1)]; pointwise; first | rfl | simp [pick, col]
  · rw [wide_a _ _ _ _ 3 (x 0) (x 1) (by simpa using h0) (by simpa using h1)]; pointwise; first | rfl | simp [pick, col]
  · rw [wide_c _ _ _ _ 2 (x 0) (x 1) (by simpa using h0) (by simpa using h1)]; pointwise; first | rfl | simp [pick, col]
  · rw [wide_b _ _ _ _ 2 (x 0) (x 1) (by simpa using h0) (by simpa using h1)]; pointwise; first | rfl | simp [pick, col]
  · rw [wide_a _ _ _ _ 2 (x 0) (x 1) (by simpa using h0) (by simpa using h1)]; pointwise; first | rfl | simp [pick, col]
  · rw [wide_c _ _ _ _ 1 (x 0) (x 1) (by simpa using h0) (by simpa using h1)]; pointwise; first | rfl | simp [pick, col]
  · rw [wide_b _ _ _ _ 1 (x 0) (x 1) (by simpa using h0) (by simpa using h1)]; pointwise; first | rfl | simp [pick, col]
  · rw [wide_a _ _ _ _ 1 (x 0) (x 1) (by simpa using h0) (by simpa using h1)]; pointwise; first | rfl | simp [pick, col]
  · rw [wide_c _ _ _ _ 0 (x 0) (x 1) (by simpa using h0) (by simpa using h1)]; pointwise; first | rfl | simp [pick, col]
  · rw [wide_b _ _ _ _ 0 (x 0) (x 1) (by simpa using h0) (by simpa using h1)]; pointwise; first | rfl | simp [pick, col]
  · rw [wide_a _ _ _ _ 0 (x 0) (x 1) (by simpa using h0) (by simpa using h1)]; pointwise; first | rfl | simp [pick, col]

theorem read_d {κ : _} {sp : _} (v : View sig κ sp S512x384 .f32) (x4 x5 : B4) (x6 x7 : FVec Ideal S1x128x512 .bf16) :
    v.readCov (Val := Elt Ideal) [⟨Rect.unit (s := S512x384) ![384, 256] S128x128.size (by decide), shapeCast S128x128 (matmul (F := Ideal) (φ₁ := .bf16) (φ₂ := .bf16) dot_S128x128_S128x128_S128x128_1_1_0_0_n_n none
      (shapeCast S128x128 (View.ld (Val := Elt Ideal) (e' := .bf16) x7 (Rect.unit (s := S1x128x512) ![0, 0, 384] S1x128x128.size (by decide))) shapeCasts_S1x128x128_S128x128)
      (shapeCast S128x128 (View.ld (Val := Elt Ideal) (e' := .bf16) x4 (Rect.unit (s := S1x1x128x512) ![0, 0, 0, 384] S1x1x128x128.size (by decide))) shapeCasts_S1x1x128x128_S128x128) (constant (F := Ideal) S128x128 FTy.f32 0#32)) (by decide : Shape.ShapeCasts S128x128 S128x128)⟩,
    ⟨Rect.unit (s := S512x384) ![384, 128] S128x128.size (by decide), shapeCast S128x128 (matmul (F := Ideal) (φ₁ := .bf16) (φ₂ := .bf16) dot_S128x128_S128x128_S128x128_1_1_0_0_n_n none
      (shapeCast S128x128 (View.ld (Val := Elt Ideal) (e' := .bf16) x6 (Rect.unit (s := S1x128x512) ![0, 0, 384] S1x128x128.size (by decide))) shapeCasts_S1x128x128_S128x128)
      (shapeCast S128x128 (View.ld (Val := Elt Ideal) (e' := .bf16) x5 (Rect.unit (s := S1x1x128x512) ![0, 0, 0, 384] S1x1x128x128.size (by decide))) shapeCasts_S1x1x128x128_S128x128) (constant (F := Ideal) S128x128 FTy.f32 0#32)) (by decide : Shape.ShapeCasts S128x128 S128x128)⟩,
    ⟨Rect.unit (s := S512x384) ![384, 0] S128x128.size (by decide), shapeCast S128x128 (matmul (F := Ideal) (φ₁ := .bf16) (φ₂ := .bf16) dot_S128x128_S128x128_S128x128_1_1_0_0_n_n none
      (shapeCast S128x128 (View.ld (Val := Elt Ideal) (e' := .bf16) x6 (Rect.unit (s := S1x128x512) ![0, 0, 384] S1x128x128.size (by decide))) shapeCasts_S1x128x128_S128x128)
      (shapeCast S128x128 (View.ld (Val := Elt Ideal) (e' := .bf16) x4 (Rect.unit (s := S1x1x128x512) ![0, 0, 0, 384] S1x1x128x128.size (by decide))) shapeCasts_S1x1x128x128_S128x128) (constant (F := Ideal) S128x128 FTy.f32 0#32)) (by decide : Shape.ShapeCasts S128x128 S128x128)⟩,
    ⟨Rect.unit (s := S512x384) ![256, 256] S128x128.size (by decide), shapeCast S128x128 (matmul (F := Ideal) (φ₁ := .bf16) (φ₂ := .bf16) dot_S128x128_S128x128_S128x128_1_1_0_0_n_n none
      (shapeCast S128x128 (View.ld (Val := Elt Ideal) (e' := .bf16) x7 (Rect.unit (s := S1x128x512) ![0, 0, 256] S1x128x128.size (by decide))) shapeCasts_S1x128x128_S128x128)
      (shapeCast S128x128 (View.ld (Val := Elt Ideal) (e' := .bf16) x4 (Rect.unit (s := S1x1x128x512) ![0, 0, 0, 256] S1x1x128x128.size (by decide))) shapeCasts_S1x1x128x128_S128x128) (constant (F := Ideal) S128x128 FTy.f32 0#32)) (by decide : Shape.ShapeCasts S128x128 S128x128)⟩,
    ⟨Rect.unit (s := S512x384) ![256, 128] S128x128.size (by decide), shapeCast S128x128 (matmul (F := Ideal) (φ₁ := .bf16) (φ₂ := .bf16) dot_S128x128_S128x128_S128x128_1_1_0_0_n_n none
      (shapeCast S128x128 (View.ld (Val := Elt Ideal) (e' := .bf16) x6 (Rect.unit (s := S1x128x512) ![0, 0, 256] S1x128x128.size (by decide))) shapeCasts_S1x128x128_S128x128)
      (shapeCast S128x128 (View.ld (Val := Elt Ideal) (e' := .bf16) x5 (Rect.unit (s := S1x1x128x512) ![0, 0, 0, 256] S1x1x128x128.size (by decide))) shapeCasts_S1x1x128x128_S128x128) (constant (F := Ideal) S128x128 FTy.f32 0#32)) (by decide : Shape.ShapeCasts S128x128 S128x128)⟩,
    ⟨Rect.unit (s := S512x384) ![256, 0] S128x128.size (by decide), shapeCast S128x128 (matmul (F := Ideal) (φ₁ := .bf16) (φ₂ := .bf16) dot_S128x128_S128x128_S128x128_1_1_0_0_n_n none
      (shapeCast S128x128 (View.ld (Val := Elt Ideal) (e' := .bf16) x6 (Rect.unit (s := S1x128x512) ![0, 0, 256] S1x128x128.size (by decide))) shapeCasts_S1x128x128_S128x128)
      (shapeCast S128x128 (View.ld (Val := Elt Ideal) (e' := .bf16) x4 (Rect.unit (s := S1x1x128x512) ![0, 0, 0, 256] S1x1x128x128.size (by decide))) shapeCasts_S1x1x128x128_S128x128) (constant (F := Ideal) S128x128 FTy.f32 0#32)) (by decide : Shape.ShapeCasts S128x128 S128x128)⟩,
    ⟨Rect.unit (s := S512x384) ![128, 256] S128x128.size (by decide), shapeCast S128x128 (matmul (F := Ideal) (φ₁ := .bf16) (φ₂ := .bf16) dot_S128x128_S128x128_S128x128_1_1_0_0_n_n none
      (shapeCast S128x128 (View.ld (Val := Elt Ideal) (e' := .bf16) x7 (Rect.unit (s := S1x128x512) ![0, 0, 128] S1x128x128.size (by decide))) shapeCasts_S1x128x128_S128x128)
      (shapeCast S128x128 (View.ld (Val := Elt Ideal) (e' := .bf16) x4 (Rect.unit (s := S1x1x128x512) ![0, 0, 0, 128] S1x1x128x128.size (by decide))) shapeCasts_S1x1x128x128_S128x128) (constant (F := Ideal) S128x128 FTy.f32 0#32)) (by decide : Shape.ShapeCasts S128x128 S128x128)⟩,
    ⟨Rect.unit (s := S512x384) ![128, 128] S128x128.size (by decide), shapeCast S128x128 (matmul (F := Ideal) (φ₁ := .bf16) (φ₂ := .bf16) dot_S128x128_S128x128_S128x128_1_1_0_0_n_n none
      (shapeCast S128x128 (View.ld (Val := Elt Ideal) (e' := .bf16) x6 (Rect.unit (s := S1x128x512) ![0, 0, 128] S1x128x128.size (by decide))) shapeCasts_S1x128x128_S128x128)
      (shapeCast S128x128 (View.ld (Val := Elt Ideal) (e' := .bf16) x5 (Rect.unit (s := S1x1x128x512) ![0, 0, 0, 128] S1x1x128x128.size (by decide))) shapeCasts_S1x1x128x128_S128x128) (constant (F := Ideal) S128x128 FTy.f32 0#32)) (by decide : Shape.ShapeCasts S128x128 S128x128)⟩,
    ⟨Rect.unit (s := S512x384) ![128, 0] S128x128.size (by decide), shapeCast S128x128 (matmul (F := Ideal) (φ₁ := .bf16) (φ₂ := .bf16) dot_S128x128_S128x128_S128x128_1_1_0_0_n_n none
      (shapeCast S128x128 (View.ld (Val := Elt Ideal) (e' := .bf16) x6 (Rect.unit (s := S1x128x512) ![0, 0, 128] S1x128x128.size (by decide))) shapeCasts_S1x128x128_S128x128)
      (shapeCast S128x128 (View.ld (Val := Elt Ideal) (e' := .bf16) x4 (Rect.unit (s := S1x1x128x512) ![0, 0, 0, 128] S1x1x128x128.size (by decide))) shapeCasts_S1x1x128x128_S128x128) (constant (F := Ideal) S128x128 FTy.f32 0#32)) (by decide : Shape.ShapeCasts S128x128 S128x128)⟩,
    ⟨Rect.unit (s := S512x384) ![0, 256] S128x128.size (by decide), shapeCast S128x128 (matmul (F := Ideal) (φ₁ := .bf16) (φ₂ := .bf16) dot_S128x128_S128x128_S128x128_1_1_0_0_n_n none
      (shapeCast S128x128 (View.ld (Val := Elt Ideal) (e' := .bf16) x7 (Rect.unit (s := S1x128x512) ![0, 0, 0] S1x128x128.size (by decide))) shapeCasts_S1x128x128_S128x128)
      (shapeCast S128x128 (View.ld (Val := Elt Ideal) (e' := .bf16) x4 (Rect.unit (s := S1x1x128x512) ![0, 0, 0, 0] S1x1x128x128.size (by decide))) shapeCasts_S1x1x128x128_S128x128) (constant (F := Ideal) S128x128 FTy.f32 0#32)) (by decide : Shape.ShapeCasts S128x128 S128x128)⟩,
    ⟨Rect.unit (s := S512x384) ![0, 128] S128x128.size (by decide), shapeCast S128x128 (matmul (F := Ideal) (φ₁ := .bf16) (φ₂ := .bf16) dot_S128x128_S128x128_S128x128_1_1_0_0_n_n none
      (shapeCast S128x128 (View.ld (Val := Elt Ideal) (e' := .bf16) x6 (Rect.unit (s := S1x128x512) ![0, 0, 0] S1x128x128.size (by decide))) shapeCasts_S1x128x128_S128x128)
      (shapeCast S128x128 (View.ld (Val := Elt Ideal) (e' := .bf16) x5 (Rect.unit (s := S1x1x128x512) ![0, 0, 0, 0] S1x1x128x128.size (by decide))) shapeCasts_S1x1x128x128_S128x128) (constant (F := Ideal) S128x128 FTy.f32 0#32)) (by decide : Shape.ShapeCasts S128x128 S128x128)⟩,
    ⟨Rect.unit (s := S512x384) ![0, 0] S128x128.size (by decide), shapeCast S128x128 (matmul (F := Ideal) (φ₁ := .bf16) (φ₂ := .bf16) dot_S128x128_S128x128_S128x128_1_1_0_0_n_n none
      (shapeCast S128x128 (View.ld (Val := Elt Ideal) (e' := .bf16) x6 (Rect.unit (s := S1x128x512) ![0, 0, 0] S1x128x128.size (by decide))) shapeCasts_S1x128x128_S128x128)
      (shapeCast S128x128 (View.ld (Val := Elt Ideal) (e' := .bf16) x4 (Rect.unit (s := S1x1x128x512) ![0, 0, 0, 0] S1x1x128x128.size (by decide))) shapeCasts_S1x1x128x128_S128x128) (constant (F := Ideal) S128x128 FTy.f32 0#32)) (by decide : Shape.ShapeCasts S128x128 S128x128)⟩] (Rect.unit (s := S512x384) ![0, 0] S512x384.size (by decide)).toLoadRect = wide (dot34 x6 x4) (dot34 x6 x5) (dot34 x7 x4) := by
  rw [View.readCov_eq_canon_ld _ _ _ (fun y => View.cover_of_tiledL (s := S512x384) _ S128x128.size (by sl_kernel_rfl) y), View.ld_unit_lit _ _ (by decide)]
  funext y
  canon_tiles x h
  · rw [wide_c _ _ _ _ 3 (x 0) (x 1) (by simpa using h0) (by simpa using h1)]; pointwise; first | rfl | simp [pick, col]
  · rw [wide_b _ _ _ _ 3 (x 0) (x 1) (by simpa using h0) (by simpa using h1)]; pointwise; first | rfl | simp [pick, col]
  · rw [wide_a _ _ _ _ 3 (x 0) (x 1) (by simpa using h0) (by simpa using h1)]; pointwise; first | rfl | simp [pick, col]
  · rw [wide_c _ _ _ _ 2 (x 0) (x 1) (by simpa using h0) (by simpa using h1)]; pointwise; first | rfl | simp [pick, col]
  · rw [wide_b _ _ _ _ 2 (x 0) (x 1) (by simpa using h0) (by simpa using h1)]; pointwise; first | rfl | simp [pick, col]
  · rw [wide_a _ _ _ _ 2 (x 0) (x 1) (by simpa using h0) (by simpa using h1)]; pointwise; first | rfl | simp [pick, col]
  · rw [wide_c _ _ _ _ 1 (x 0) (x 1) (by simpa using h0) (by simpa using h1)]; pointwise; first | rfl | simp [pick, col]
  · rw [wide_b _ _ _ _ 1 (x 0) (x 1) (by simpa using h0) (by simpa using h1)]; pointwise; first | rfl | simp [pick, col]
  · rw [wide_a _ _ _ _ 1 (x 0) (x 1) (by simpa using h0) (by simpa using h1)]; pointwise; first | rfl | simp [pick, col]
  · rw [wide_c _ _ _ _ 0 (x 0) (x 1) (by simpa using h0) (by simpa using h1)]; pointwise; first | rfl | simp [pick, col]
  · rw [wide_b _ _ _ _ 0 (x 0) (x 1) (by simpa using h0) (by simpa using h1)]; pointwise; first | rfl | simp [pick, col]
  · rw [wide_a _ _ _ _ 0 (x 0) (x 1) (by simpa using h0) (by simpa using h1)]; pointwise; first | rfl | simp [pick, col]

theorem read_l {κ : _} {sp : _} (v : View sig κ sp S512x384 .f32) (x8 x9 : FVec Ideal S1x128x512 .f32) :
    v.readCov (Val := Elt Ideal) [⟨Rect.unit (s := S512x384) ![384, 256] S128x128.size (by decide), shapeCast S128x128 (shapeCast S128x128 (View.ld (Val := Elt Ideal) (e' := .f32) x9 (Rect.unit (s := S1x128x512) ![0, 0, 384] S1x128x128.size (by decide))) shapeCasts_S1x128x128_S128x128) (by decide : Shape.ShapeCasts S128x128 S128x128)⟩,
    ⟨Rect.unit (s := S512x384) ![384, 128] S128x128.size (by decide), shapeCast S128x128 (shapeCast S128x128 (View.ld (Val := Elt Ideal) (e' := .f32) x8 (Rect.unit (s := S1x128x512) ![0, 0, 384] S1x128x128.size (by decide))) shapeCasts_S1x128x128_S128x128) (by decide : Shape.ShapeCasts S128x128 S128x128)⟩,
    ⟨Rect.unit (s := S512x384) ![384, 0] S128x128.size (by decide), shapeCast S128x128 (shapeCast S128x128 (View.ld (Val := Elt Ideal) (e' := .f32) x8 (Rect.unit (s := S1x128x512) ![0, 0, 384] S1x128x128.size (by decide))) shapeCasts_S1x128x128_S128x128) (by decide : Shape.ShapeCasts S128x128 S128x128)⟩,
    ⟨Rect.unit (s := S512x384) ![256, 256] S128x128.size (by decide), shapeCast S128x128 (shapeCast S128x128 (View.ld (Val := Elt Ideal) (e' := .f32) x9 (Rect.unit (s := S1x128x512) ![0, 0, 256] S1x128x128.size (by decide))) shapeCasts_S1x128x128_S128x128) (by decide : Shape.ShapeCasts S128x128 S128x128)⟩,
    ⟨Rect.unit (s := S512x384) ![256, 128] S128x128.size (by decide), shapeCast S128x128 (shapeCast S128x128 (View.ld (Val := Elt Ideal) (e' := .f32) x8 (Rect.unit (s := S1x128x512) ![0, 0, 256] S1x128x128.size (by decide))) shapeCasts_S1x128x128_S128x128) (by decide : Shape.ShapeCasts S128x128 S128x128)⟩,
    ⟨Rect.unit (s := S512x384) ![256, 0] S128x128.size (by decide), shapeCast S128x128 (shapeCast S128x128 (View.ld (Val := Elt Ideal) (e' := .f32) x8 (Rect.unit (s := S1x128x512) ![0, 0, 256] S1x128x128.size (by decide))) shapeCasts_S1x128x128_S128x128) (by decide : Shape.ShapeCasts S128x128 S128x128)⟩,
    ⟨Rect.unit (s := S512x384) ![128, 256] S128x128.size (by decide), shapeCast S128x128 (shapeCast S128x128 (View.ld (Val := Elt Ideal) (e' := .f32) x9 (Rect.unit (s := S1x128x512) ![0, 0, 128] S1x128x128.size (by decide))) shapeCasts_S1x128x128_S128x128) (by decide : Shape.ShapeCasts S128x128 S128x128)⟩,
    ⟨Rect.unit (s := S512x384) ![128, 128] S128x128.size (by decide), shapeCast S128x128 (shapeCast S128x128 (View.ld (Val := Elt Ideal) (e' := .f32) x8 (Rect.unit (s := S1x128x512) ![0, 0, 128] S1x128x128.size (by decide))) shapeCasts_S1x128x128_S128x128) (by decide : Shape.ShapeCasts S128x128 S128x128)⟩,
    ⟨Rect.unit (s := S512x384) ![128, 0] S128x128.size (by decide), shapeCast S128x128 (shapeCast S128x128 (View.ld (Val := Elt Ideal) (e' := .f32) x8 (Rect.unit (s := S1x128x512) ![0, 0, 128] S1x128x128.size (by decide))) shapeCasts_S1x128x128_S128x128) (by decide : Shape.ShapeCasts S128x128 S128x128)⟩,
    ⟨Rect.unit (s := S512x384) ![0, 256] S128x128.size (by decide), shapeCast S128x128 (shapeCast S128x128 (View.ld (Val := Elt Ideal) (e' := .f32) x9 (Rect.unit (s := S1x128x512) ![0, 0, 0] S1x128x128.size (by decide))) shapeCasts_S1x128x128_S128x128) (by decide : Shape.ShapeCasts S128x128 S128x128)⟩,
    ⟨Rect.unit (s := S512x384) ![0, 128] S128x128.size (by decide), shapeCast S128x128 (shapeCast S128x128 (View.ld (Val := Elt Ideal) (e' := .f32) x8 (Rect.unit (s := S1x128x512) ![0, 0, 0] S1x128x128.size (by decide))) shapeCasts_S1x128x128_S128x128) (by decide : Shape.ShapeCasts S128x128 S128x128)⟩,
    ⟨Rect.unit (s := S512x384) ![0, 0] S128x128.size (by decide), shapeCast S128x128 (shapeCast S128x128 (View.ld (Val := Elt Ideal) (e' := .f32) x8 (Rect.unit (s := S1x128x512) ![0, 0, 0] S1x128x128.size (by decide))) shapeCasts_S1x128x128_S128x128) (by decide : Shape.ShapeCasts S128x128 S128x128)⟩] (Rect.unit (s := S512x384) ![0, 0] S512x384.size (by decide)).toLoadRect = wide (pick x8) (pick x8) (pick x9) := by
  rw [View.readCov_eq_canon_ld _ _ _ (fun y => View.cover_of_tiledL (s := S512x384) _ S128x128.size (by sl_kernel_rfl) y), View.ld_unit_lit _ _ (by decide)]
  funext y
  canon_tiles x h
  · rw [wide_c _ _ _ _ 3 (x 0) (x 1) (by simpa using h0) (by simpa using h1)]; pointwise; first | rfl | simp [pick, col]
  · rw [wide_b _ _ _ _ 3 (x 0) (x 1) (by simpa using h0) (by simpa using h1)]; pointwise; first | rfl | simp [pick, col]
  · rw [wide_a _ _ _ _ 3 (x 0) (x 1) (by simpa using h0) (by simpa using h1)]; pointwise; first | rfl | simp [pick, col]
  · rw [wide_c _ _ _ _ 2 (x 0) (x 1) (by simpa using h0) (by simpa using h1)]; pointwise; first | rfl | simp [pick, col]
  · rw [wide_b _ _ _ _ 2 (x 0) (x 1) (by simpa using h0) (by simpa using h1)]; pointwise; first | rfl | simp [pick, col]
  · rw [wide_a _ _ _ _ 2 (x 0) (x 1) (by simpa using h0) (by simpa using h1)]; pointwise; first | rfl | simp [pick, col]
  · rw [wide_c _ _ _ _ 1 (x 0) (x 1) (by simpa using h0) (by simpa using h1)]; pointwise; first | rfl | simp [pick, col]
  · rw [wide_b _ _ _ _ 1 (x 0) (x 1) (by simpa using h0) (by simpa using h1)]; pointwise; first | rfl | simp [pick, col]
  · rw [wide_a _ _ _ _ 1 (x 0) (x 1) (by simpa using h0) (by simpa using h1)]; pointwise; first | rfl | simp [pick, col]
  · rw [wide_c _ _ _ _ 0 (x 0) (x 1) (by simpa using h0) (by simpa using h1)]; pointwise; first | rfl | simp [pick, col]
  · rw [wide_b _ _ _ _ 0 (x 0) (x 1) (by simpa using h0) (by simpa using h1)]; pointwise; first | rfl | simp [pick, col]
  · rw [wide_a _ _ _ _ 0 (x 0) (x 1) (by simpa using h0) (by simpa using h1)]; pointwise; first | rfl | simp [pick, col]

/-- The scale 1/√128 as the program's literal. -/
abbrev sc : EReal := Ideal.ofBits FTy.f32 1035273459#32

/-- One probability: the exponential of the scaled and biased score (the named mask where `g`), less the row's `lse`. -/
def prob (g : Prop) [Decidable g] (s b l : EReal) : EReal := Ideal.exp ((if g then ⊥ else s * sc + b) - l)

theorem tileMask : ∀ (a : Fin 384) (n : Fin 16),
    (IntOp.ori
            (IntOp.andi
              (IntOp.cmpi CmpIPredicate.eq
                (Scalar.select
                  (IntOp.andi
                    (IntOp.cmpi CmpIPredicate.ne
                      (IntOp.subi (BitVec.setWidth 32 (IntOp.cmpi CmpIPredicate.sgt (BitVec.ofNat 32 a.val) 0#32))
                        (BitVec.setWidth 32 (IntOp.cmpi CmpIPredicate.slt (BitVec.ofNat 32 a.val) 0#32)))
                      (Scalar.subi (1#32) (Scalar.extui 0#1)))
                    (IntOp.cmpi CmpIPredicate.ne (IntOp.remsi ArithUnit.vector (BitVec.ofNat 32 a.val) 128#32) 0#32))
                  (IntOp.subi (IntOp.divsi ArithUnit.vector (BitVec.ofNat 32 a.val) 128#32) 1#32)
                  (IntOp.divsi ArithUnit.vector (BitVec.ofNat 32 a.val) 128#32))
                1#32)
              (Scalar.cmpi CmpIPredicate.eq (BitVec.ofNat 32 n.val) 0#32))
            (IntOp.andi
              (IntOp.cmpi CmpIPredicate.eq
                (Scalar.select
                  (IntOp.andi
                    (IntOp.cmpi CmpIPredicate.ne
                      (IntOp.subi (BitVec.setWidth 32 (IntOp.cmpi CmpIPredicate.sgt (BitVec.ofNat 32 a.val) 0#32))
                        (BitVec.setWidth 32 (IntOp.cmpi CmpIPredicate.slt (BitVec.ofNat 32 a.val) 0#32)))
                      (Scalar.subi (1#32) (Scalar.extui 0#1)))
                    (IntOp.cmpi CmpIPredicate.ne (IntOp.remsi ArithUnit.vector (BitVec.ofNat 32 a.val) 128#32) 0#32))
                  (IntOp.subi (IntOp.divsi ArithUnit.vector (BitVec.ofNat 32 a.val) 128#32) 1#32)
                  (IntOp.divsi ArithUnit.vector (BitVec.ofNat 32 a.val) 128#32))
                2#32)
              (Scalar.cmpi CmpIPredicate.eq (BitVec.ofNat 32 n.val) 15#32)))
      = if (128 ≤ a.val ∧ a.val < 256 ∧ n.val = 0) ∨ (256 ≤ a.val ∧ n.val = 15) then 1#1 else 0#1 := by
  decide +kernel

/-- The bias array's entry for head `h`, row `i`, in the tile that starts at column `o`. -/
def biasAt (o : Nat) (ho : o ≤ 256) (b : FVec Ideal S512x384 .f32) (h : Fin 4) (i j : Fin 128) : EReal :=
  b (ix2 ⟨128 * h.val + i.val, by omega⟩ ⟨o + j.val, by omega⟩)

theorem mask_ideal : (Named.named (F := Ideal) κ "mask" (φ := .f32) 0xF149F2CA#32) = (⊥ : EReal) :=
  IdealRules.named_const.ideal_named_scalar _ _ _ _ rfl

theorem pay90 (n : Fin 16) (sa sb sc' la lb lc : Fin 4 → Fin 128 → Fin 128 → EReal) (b : FVec Ideal S512x384 .f32) :
    k0_pay90 (F := Ideal) (BitVec.ofNat 32 n.val) (iota Kind.tc S512x384 32 [1] iota_S512x384_d1_w32) (128#32) k0_pay88 k0_pay89
      (1#32) (0#1) (wide sa sb sc') b (wide la lb lc)
    = wide (fun h i j => prob False (sa h i j) (biasAt 0 (by omega) b h i j) (la h i j))
        (fun h i j => prob (n.val = 0) (sb h i j) (biasAt 128 (by omega) b h i j) (lb h i j))
        (fun h i j => prob (n.val = 15) (sc' h i j) (biasAt 256 (by omega) b h i j) (lc h i j)) := by
  funext y
  have hy0 : (y 0).val < 512 := (y 0).isLt
  have hy1 : (y 1).val < 384 := (y 1).isLt
  unfold k0_pay90 k0_pay88 k0_pay89
  pointwise
  rw [tileMask (y 1) n, mask_ideal]
  obtain ⟨h, i, hh⟩ : ∃ (h : Fin 4) (i : Fin 128), (y 0).val = 128 * h.val + i.val :=
    ⟨⟨(y 0).val / 128, by omega⟩, ⟨(y 0).val % 128, by omega⟩, by simp only []; omega⟩
  obtain ⟨o, j, ho, hj⟩ : ∃ (o : Nat) (j : Fin 128), (o = 0 ∨ o = 128 ∨ o = 256) ∧ (y 1).val = o + j.val :=
    ⟨128 * ((y 1).val / 128), ⟨(y 1).val % 128, by omega⟩, by omega, by simp only []; omega⟩
  have hjl := j.isLt
  have hb : ∀ (ho : o ≤ 256), b y = biasAt o ho b h i j := fun ho => by
    unfold biasAt
    congr 1
    funext a
    fin_cases a <;> apply Fin.ext <;> simp [hh, hj]
  rcases ho with rfl | rfl | rfl
  · rw [wide_a _ _ _ y h i j hh (by omega), wide_a _ _ _ y h i j hh (by omega), wide_a _ _ _ y h i j hh (by omega), hb (by omega), if_neg (by omega)]
    simp [prob, Scalar.select]
  · rw [wide_b _ _ _ y h i j hh (by omega), wide_b _ _ _ y h i j hh (by omega), wide_b _ _ _ y h i j hh (by omega), hb (by omega)]
    by_cases hn : n.val = 0
    · rw [if_pos (by omega)]; simp [prob, Scalar.select, hn]
    · rw [if_neg (by omega)]; simp [prob, Scalar.select, hn]
  · rw [wide_c _ _ _ y h i j hh (by omega), wide_c _ _ _ y h i j hh (by omega), wide_c _ _ _ y h i j hh (by omega), hb (by omega)]
    by_cases hn : n.val = 15
    · rw [if_pos (by omega)]; simp [prob, Scalar.select, hn]
    · rw [if_neg (by omega)]; simp [prob, Scalar.select, hn]

/-- Probabilities times the shifted products: one tile of score cotangents. -/
def dst (p dp c : Fin 4 → Fin 128 → Fin 128 → EReal) (h : Fin 4) (i j : Fin 128) : EReal := p h i j * (dp h i j + c h i j)

/-- A row of one tile against a four-axis block's column. -/
def rowBy (p : Fin 4 → Fin 128 → Fin 128 → EReal) (k : B4) (h : Fin 4) (i e : Fin 128) : EReal :=
  ∑ j : Fin 128, p h i j * k (ix4 0 0 j (col h e))

/-- A column of one tile against a four-axis block's column. -/
def colBy (p : Fin 4 → Fin 128 → Fin 128 → EReal) (k : B4) (h : Fin 4) (j e : Fin 128) : EReal :=
  ∑ i : Fin 128, p h i j * k (ix4 0 0 i (col h e))

/-- A column of one tile against a three-axis block's column. -/
def colBy3 (p : Fin 4 → Fin 128 → Fin 128 → EReal) (k : FVec Ideal S1x128x512 .bf16) (h : Fin 4) (j e : Fin 128) : EReal :=
  ∑ i : Fin 128, p h i j * k (ix3 0 i (col h e))

/-- Three functions of head, row and element, stacked. -/
def stack (a b c : Fin 4 → Fin 128 → Fin 128 → EReal) : FVec Ideal S3x1x128x512 .bf16 := fun y =>
  let h : Fin 4 := ⟨(y 3).val / 128, by have := (y 3).isLt; simp at this; omega⟩
  let e : Fin 128 := ⟨(y 3).val % 128, Nat.mod_lt _ (by omega)⟩
  let i : Fin 128 := ⟨(y 2).val, by have := (y 2).isLt; simpa using this⟩
  if (y 0).val = 0 then a h i e else if (y 0).val = 1 then b h i e else c h i e

theorem stack_a (a b c) (y : S3x1x128x512.Idx) (h : Fin 4) (i e : Fin 128) (h0 : (y 0).val = 0)
    (h2 : (y 2).val = i.val) (h3 : (y 3).val = 128 * h.val + e.val) : stack a b c y = a h i e := by
  have := e.isLt
  have e1 : (y 3).val / 128 = h.val := by omega
  have e2 : (y 3).val % 128 = e.val := by omega
  simp only [stack, e1, e2, h2, if_pos h0]

theorem stack_b (a b c) (y : S3x1x128x512.Idx) (h : Fin 4) (i e : Fin 128) (h0 : (y 0).val = 1)
    (h2 : (y 2).val = i.val) (h3 : (y 3).val = 128 * h.val + e.val) : stack a b c y = b h i e := by
  have := e.isLt
  have e1 : (y 3).val / 128 = h.val := by omega
  have e2 : (y 3).val % 128 = e.val := by omega
  simp only [stack, e1, e2, h2, if_pos h0, if_neg (show ¬ (y 0).val = 0 by omega)]

theorem stack_c (a b c) (y : S3x1x128x512.Idx) (h : Fin 4) (i e : Fin 128) (h0 : (y 0).val = 2)
    (h2 : (y 2).val = i.val) (h3 : (y 3).val = 128 * h.val + e.val) : stack a b c y = c h i e := by
  have := e.isLt
  have e1 : (y 3).val / 128 = h.val := by omega
  have e2 : (y 3).val % 128 = e.val := by omega
  simp only [stack, e1, e2, h2, if_neg (show ¬ (y 0).val = 0 by omega), if_neg (show ¬ (y 0).val = 1 by omega)]

section point
variable (n : Fin 16) (x0 x1 x2 x3 x4 x5 : B4) (x6 x7 : FVec Ideal S1x128x512 .bf16)
  (x8 x9 x10 x11 : FVec Ideal S1x128x512 .f32) (x12 : FVec Ideal S512x384 .f32)

/-- Own queries against own keys. -/
def pA (h : Fin 4) (i j : Fin 128) : EReal := prob False (dot4 x0 x2 h i j) (biasAt 0 (by omega) x12 h i j) (pick x8 h i j)
/-- Own queries against the previous block's keys. -/
def pB (h : Fin 4) (i j : Fin 128) : EReal := prob (n.val = 0) (dot4 x0 x3 h i j) (biasAt 128 (by omega) x12 h i j) (pick x8 h i j)
/-- The next block's queries against own keys. -/
def pC (h : Fin 4) (i j : Fin 128) : EReal := prob (n.val = 15) (dot4 x1 x2 h i j) (biasAt 256 (by omega) x12 h i j) (pick x9 h i j)

/-- What one grid point leaves: the three gradients of its block. -/
def outB : FVec Ideal S3x1x128x512 .bf16 :=
  stack
    (fun h i e => (rowBy (dst (pA x0 x2 x8 x12) (dot34 x6 x4) (pick x10)) x2 h i e
      + rowBy (dst (pB n x0 x3 x8 x12) (dot34 x6 x5) (pick x10)) x3 h i e) * sc)
    (fun h j e => (colBy (dst (pA x0 x2 x8 x12) (dot34 x6 x4) (pick x10)) x0 h j e
      + colBy (dst (pC n x1 x2 x9 x12) (dot34 x7 x4) (pick x11)) x1 h j e) * sc)
    (fun h j e => colBy3 (pA x0 x2 x8 x12) x6 h j e + colBy3 (pC n x1 x2 x9 x12) x7 h j e)
end point

theorem pay91 (n : Fin 16) (x0 x1 x2 x3 : B4) (x8 x9 : FVec Ideal S1x128x512 .f32) (x12 : FVec Ideal S512x384 .f32) :
    k0_pay91 (F := Ideal) (BitVec.ofNat 32 n.val) (iota Kind.tc S512x384 32 [1] iota_S512x384_d1_w32) (128#32) k0_pay88 k0_pay89
      (1#32) (0#1) (wide (dot4 x0 x2) (dot4 x0 x3) (dot4 x1 x2)) x12 (wide (pick x8) (pick x8) (pick x9))
    = wide (pA x0 x2 x8 x12) (pB n x0 x3 x8 x12) (pC n x1 x2 x9 x12) := by
  unfold k0_pay91
  rw [pay90]
  funext y
  pointwise
  rfl

theorem pay92 (pa pb pc da db dc ca cb cc : Fin 4 → Fin 128 → Fin 128 → EReal) :
    k0_pay92 (F := Ideal) (wide pa pb pc) (wide da db dc) (wide ca cb cc)
    = wide (dst pa da ca) (dst pb db cb) (dst pc dc cc) := by
  funext y
  unfold k0_pay92
  pointwise
  unfold wide dst
  dsimp only
  split_ifs <;> rfl

theorem ld_a3 (a b c : Fin 4 → Fin 128 → Fin 128 → EReal) (i j : Fin 128) (hb) (hc) :
    wide a b c (ix2 ⟨384 + i.val, hb⟩ ⟨j.val, hc⟩) = a 3 i j := wide_a a b c _ 3 i j (by simp) (by simp)
theorem ld_b3 (a b c : Fin 4 → Fin 128 → Fin 128 → EReal) (i j : Fin 128) (hb) (hc) :
    wide a b c (ix2 ⟨384 + i.val, hb⟩ ⟨128 + j.val, hc⟩) = b 3 i j := wide_b a b c _ 3 i j (by simp) (by simp)
theorem ld_c3 (a b c : Fin 4 → Fin 128 → Fin 128 → EReal) (i j : Fin 128) (hb) (hc) :
    wide a b c (ix2 ⟨384 + i.val, hb⟩ ⟨256 + j.val, hc⟩) = c 3 i j := wide_c a b c _ 3 i j (by simp) (by simp)
theorem ld_a2 (a b c : Fin 4 → Fin 128 → Fin 128 → EReal) (i j : Fin 128) (hb) (hc) :
    wide a b c (ix2 ⟨256 + i.val, hb⟩ ⟨j.val, hc⟩) = a 2 i j := wide_a a b c _ 2 i j (by simp) (by simp)
theorem ld_b2 (a b c : Fin 4 → Fin 128 → Fin 128 → EReal) (i j : Fin 128) (hb) (hc) :
    wide a b c (ix2 ⟨256 + i.val, hb⟩ ⟨128 + j.val, hc⟩) = b 2 i j := wide_b a b c _ 2 i j (by simp) (by simp)
theorem ld_c2 (a b c : Fin 4 → Fin 128 → Fin 128 → EReal) (i j : Fin 128) (hb) (hc) :
    wide a b c (ix2 ⟨256 + i.val, hb⟩ ⟨256 + j.val, hc⟩) = c 2 i j := wide_c a b c _ 2 i j (by simp) (by simp)
theorem ld_a1 (a b c : Fin 4 → Fin 128 → Fin 128 → EReal) (i j : Fin 128) (hb) (hc) :
    wide a b c (ix2 ⟨128 + i.val, hb⟩ ⟨j.val, hc⟩) = a 1 i j := wide_a a b c _ 1 i j (by simp) (by simp)
theorem ld_b1 (a b c : Fin 4 → Fin 128 → Fin 128 → EReal) (i j : Fin 128) (hb) (hc) :
    wide a b c (ix2 ⟨128 + i.val, hb⟩ ⟨128 + j.val, hc⟩) = b 1 i j := wide_b a b c _ 1 i j (by simp) (by simp)
theorem ld_c1 (a b c : Fin 4 → Fin 128 → Fin 128 → EReal) (i j : Fin 128) (hb) (hc) :
    wide a b c (ix2 ⟨128 + i.val, hb⟩ ⟨256 + j.val, hc⟩) = c 1 i j := wide_c a b c _ 1 i j (by simp) (by simp)
theorem ld_a0 (a b c : Fin 4 → Fin 128 → Fin 128 → EReal) (i j : Fin 128) (hb) (hc) :
    wide a b c (ix2 ⟨i.val, hb⟩ ⟨j.val, hc⟩) = a 0 i j := wide_a a b c _ 0 i j (by simp) (by simp)
theorem ld_b0 (a b c : Fin 4 → Fin 128 → Fin 128 → EReal) (i j : Fin 128) (hb) (hc) :
    wide a b c (ix2 ⟨i.val, hb⟩ ⟨128 + j.val, hc⟩) = b 0 i j := wide_b a b c _ 0 i j (by simp) (by simp)
theorem ld_c0 (a b c : Fin 4 → Fin 128 → Fin 128 → EReal) (i j : Fin 128) (hb) (hc) :
    wide a b c (ix2 ⟨i.val, hb⟩ ⟨256 + j.val, hc⟩) = c 0 i j := wide_c a b c _ 0 i j (by simp) (by simp)

variable (m : (ℓ : Loc nD τ sig) → Buf (Elt Ideal) ℓ)

theorem outsAt0_eq (c : Dev nD) (t : Fin cfg0.N) : outsAt0 m c t
    = outB ⟨(grid0.coords t 1).val, (grid0.coords t 1).isLt⟩ (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (iblk m c 12 t) := by
  unfold outsAt0
  obtain ⟨x0, hx0⟩ : ∃ x : B4, x = iblk m c 0 t := ⟨_, rfl⟩
  obtain ⟨x1, hx1⟩ : ∃ x : B4, x = iblk m c 1 t := ⟨_, rfl⟩
  obtain ⟨x2, hx2⟩ : ∃ x : B4, x = iblk m c 2 t := ⟨_, rfl⟩
  obtain ⟨x3, hx3⟩ : ∃ x : B4, x = iblk m c 3 t := ⟨_, rfl⟩
  obtain ⟨x4, hx4⟩ : ∃ x : B4, x = iblk m c 4 t := ⟨_, rfl⟩
  obtain ⟨x5, hx5⟩ : ∃ x : B4, x = iblk m c 5 t := ⟨_, rfl⟩
  obtain ⟨x6, hx6⟩ : ∃ x : FVec Ideal S1x128x512 .bf16, x = iblk m c 6 t := ⟨_, rfl⟩
  obtain ⟨x7, hx7⟩ : ∃ x : FVec Ideal S1x128x512 .bf16, x = iblk m c 7 t := ⟨_, rfl⟩
  obtain ⟨x8, hx8⟩ : ∃ x : FVec Ideal S1x128x512 .f32, x = iblk m c 8 t := ⟨_, rfl⟩
  obtain ⟨x9, hx9⟩ : ∃ x : FVec Ideal S1x128x512 .f32, x = iblk m c 9 t := ⟨_, rfl⟩
  obtain ⟨x10, hx10⟩ : ∃ x : FVec Ideal S1x128x512 .f32, x = iblk m c 10 t := ⟨_, rfl⟩
  obtain ⟨x11, hx11⟩ : ∃ x : FVec Ideal S1x128x512 .f32, x = iblk m c 11 t := ⟨_, rfl⟩
  obtain ⟨x12, hx12⟩ : ∃ x : FVec Ideal S512x384 .f32, x = iblk m c 12 t := ⟨_, rfl⟩
  rw [← hx0, ← hx1, ← hx2, ← hx3, ← hx4, ← hx5, ← hx6, ← hx7, ← hx8, ← hx9, ← hx10, ← hx11, ← hx12]
  obtain ⟨n, hn⟩ : ∃ n : Fin 16, n = ⟨(grid0.coords t 1).val, (grid0.coords t 1).isLt⟩ := ⟨_, rfl⟩
  have hn' : (grid0.coords t 1).val = n.val := by rw [hn]
  rw [← hn]
  unfold out0_A_13 kernelRun0_A
  dsimp only
  sl_unfold_words
  simp (disch := decide) only [↓ View.readCov_skip, ↓ View.readCov_cons_toLoadRect, ↓ View.readCov_fill]
  rw [View.read_writes_junk_eq_canon]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  rw [read_s, read_d, read_l, read_l]
  rw [hn']
  have e12 : View.ld (Val := Elt Ideal) (e' := .f32) x12 (Rect.unit (s := S512x384) ![0, 0] S512x384.size inb_S512x384_S512x384_0_0) = x12 :=
    by rw [View.ld_unit_lit _ _ (by decide)]
  first | rw [e12] | fail "AAA"
  have h91 := pay91 n x0 x1 x2 x3 x8 x9 x12
  have h92 := pay92 (pA x0 x2 x8 x12) (pB n x0 x3 x8 x12) (pC n x1 x2 x9 x12) (dot34 x6 x4) (dot34 x6 x5) (dot34 x7 x4)
    (pick x10) (pick x10) (pick x11)
  have h90 := pay90 n (dot4 x0 x2) (dot4 x0 x3) (dot4 x1 x2) (pick x8) (pick x8) (pick x9) x12
  change _ = wide (pA x0 x2 x8 x12) (pB n x0 x3 x8 x12) (pC n x1 x2 x9 x12) at h90
  unfold k0_pay88 k0_pay89 at h91 h90
  unfold k0_pay92 at h92
  dsimp only at h92
  rw [h91, h90, h92]
  clear h91 h90 h92 e12
  unfold outB
  funext y
  canon_tiles x h
  · rw [stack_c _ _ _ _ 3 (x 2) (x 3) (by simpa using h0) (by simpa using h2) (by simpa using h3)]
    try open_payloads
    pointwise
    exact (congrArg₂ (· + ·) (Finset.sum_congr rfl fun k _ => congrArg₂ (· * ·) (ld_a3 _ _ _ _ _ _ _) rfl)
      (Finset.sum_congr rfl fun k _ => congrArg₂ (· * ·) (ld_c3 _ _ _ _ _ _ _) rfl))
  · rw [stack_b _ _ _ _ 3 (x 2) (x 3) (by simpa using h0) (by simpa using h2) (by simpa using h3)]
    try open_payloads
    pointwise
    exact congrArg (· * sc) (congrArg₂ (· + ·) (Finset.sum_congr rfl fun k _ => congrArg₂ (· * ·) (ld_a3 _ _ _ _ _ _ _) rfl)
      (Finset.sum_congr rfl fun k _ => congrArg₂ (· * ·) (ld_c3 _ _ _ _ _ _ _) rfl))
  · rw [stack_a _ _ _ _ 3 (x 2) (x 3) (by simpa using h0) (by simpa using h2) (by simpa using h3)]
    try open_payloads
    pointwise
    exact congrArg (· * sc) (congrArg₂ (· + ·) (Finset.sum_congr rfl fun k _ => congrArg₂ (· * ·) (ld_a3 _ _ _ _ _ _ _) rfl)
      (Finset.sum_congr rfl fun k _ => congrArg₂ (· * ·) (ld_b3 _ _ _ _ _ _ _) rfl))
  · rw [stack_c _ _ _ _ 2 (x 2) (x 3) (by simpa using h0) (by simpa using h2) (by simpa using h3)]
    try open_payloads
    pointwise
    exact (congrArg₂ (· + ·) (Finset.sum_congr rfl fun k _ => congrArg₂ (· * ·) (ld_a2 _ _ _ _ _ _ _) rfl)
      (Finset.sum_congr rfl fun k _ => congrArg₂ (· * ·) (ld_c2 _ _ _ _ _ _ _) rfl))
  · rw [stack_b _ _ _ _ 2 (x 2) (x 3) (by simpa using h0) (by simpa using h2) (by simpa using h3)]
    try open_payloads
    pointwise
    exact congrArg (· * sc) (congrArg₂ (· + ·) (Finset.sum_congr rfl fun k _ => congrArg₂ (· * ·) (ld_a2 _ _ _ _ _ _ _) rfl)
      (Finset.sum_congr rfl fun k _ => congrArg₂ (· * ·) (ld_c2 _ _ _ _ _ _ _) rfl))
  · rw [stack_a _ _ _ _ 2 (x 2) (x 3) (by simpa using h0) (by simpa using h2) (by simpa using h3)]
    try open_payloads
    pointwise
    exact congrArg (· * sc) (congrArg₂ (· + ·) (Finset.sum_congr rfl fun k _ => congrArg₂ (· * ·) (ld_a2 _ _ _ _ _ _ _) rfl)
      (Finset.sum_congr rfl fun k _ => congrArg₂ (· * ·) (ld_b2 _ _ _ _ _ _ _) rfl))
  · rw [stack_c _ _ _ _ 1 (x 2) (x 3) (by simpa using h0) (by simpa using h2) (by simpa using h3)]
    try open_payloads
    pointwise
    exact (congrArg₂ (· + ·) (Finset.sum_congr rfl fun k _ => congrArg₂ (· * ·) (ld_a1 _ _ _ _ _ _ _) rfl)
      (Finset.sum_congr rfl fun k _ => congrArg₂ (· * ·) (ld_c1 _ _ _ _ _ _ _) rfl))
  · rw [stack_b _ _ _ _ 1 (x 2) (x 3) (by simpa using h0) (by simpa using h2) (by simpa using h3)]
    try open_payloads
    pointwise
    exact congrArg (· * sc) (congrArg₂ (· + ·) (Finset.sum_congr rfl fun k _ => congrArg₂ (· * ·) (ld_a1 _ _ _ _ _ _ _) rfl)
      (Finset.sum_congr rfl fun k _ => congrArg₂ (· * ·) (ld_c1 _ _ _ _ _ _ _) rfl))
  · rw [stack_a _ _ _ _ 1 (x 2) (x 3) (by simpa using h0) (by simpa using h2) (by simpa using h3)]
    try open_payloads
    pointwise
    exact congrArg (· * sc) (congrArg₂ (· + ·) (Finset.sum_congr rfl fun k _ => congrArg₂ (· * ·) (ld_a1 _ _ _ _ _ _ _) rfl)
      (Finset.sum_congr rfl fun k _ => congrArg₂ (· * ·) (ld_b1 _ _ _ _ _ _ _) rfl))
  · rw [stack_c _ _ _ _ 0 (x 2) (x 3) (by simpa using h0) (by simpa using h2) (by simpa using h3)]
    try open_payloads
    pointwise
    exact (congrArg₂ (· + ·) (Finset.sum_congr rfl fun k _ => congrArg₂ (· * ·) (ld_a0 _ _ _ _ _ _ _) (by simp [col]))
      (Finset.sum_congr rfl fun k _ => congrArg₂ (· * ·) (ld_c0 _ _ _ _ _ _ _) (by simp [col])))
  · rw [stack_b _ _ _ _ 0 (x 2) (x 3) (by simpa using h0) (by simpa using h2) (by simpa using h3)]
    try open_payloads
    pointwise
    exact congrArg (· * sc) (congrArg₂ (· + ·) (Finset.sum_congr rfl fun k _ => congrArg₂ (· * ·) (ld_a0 _ _ _ _ _ _ _) (by simp [col]))
      (Finset.sum_congr rfl fun k _ => congrArg₂ (· * ·) (ld_c0 _ _ _ _ _ _ _) (by simp [col])))
  · rw [stack_a _ _ _ _ 0 (x 2) (x 3) (by simpa using h0) (by simpa using h2) (by simpa using h3)]
    try open_payloads
    pointwise
    exact congrArg (· * sc) (congrArg₂ (· + ·) (Finset.sum_congr rfl fun k _ => congrArg₂ (· * ·) (ld_a0 _ _ _ _ _ _ _) (by simp [col]))
      (Finset.sum_congr rfl fun k _ => congrArg₂ (· * ·) (ld_b0 _ _ _ _ _ _ _) (by simp [col])))
end Cert.KernelIdeal.Blk
-- ==== Proof.Pre.lean ====
module

public import proofs.«01_k».proof.Proof.Gen.KernelIdeal.Value
public import proofs.«01_k».proof.Proof.Gen.ReferenceIdeal.Read
public import proofs.«01_k».proof.Proof.Block
public import Idealize.ShloMosaic.Lib.StableHlo.ReadAt
public import Idealize.ShloMosaic.Lib.StableHlo.RunRead

@[expose] public section

set_option maxRecDepth 16384

noncomputable section

namespace Cert.KernelIdeal.Pre

open Cert.KernelIdeal Cert.KernelIdeal.Gen Idealize.ShloMosaic Idealize.ShloMosaic.TcCoe Idealize.SL.Sem

/-- Running two lists one after the other. -/
theorem after_app {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op ops ih => exact ih _

variable (m : (ℓ : Loc nD τ sig) → Buf (Elt Ideal) ℓ) (c : Dev nD)

/-- The buffers once the masked scores are formed. -/
def W1 : Valuation τ sig (Elt Ideal) :=
  StableHlo.after (hostOps0 ++ hostOps0_1) (fun b => m (c, b))

/-- The buffers once the row maxima are formed. -/
def W2 : Valuation τ sig (Elt Ideal) := StableHlo.after hostOps0_2 (W1 m c)

/-- The buffers once the finite row maxima are formed. -/
def W3 : Valuation τ sig (Elt Ideal) := StableHlo.after hostOps0_3 (W2 m c)

/-- The buffers once everything but the bias table is formed. -/
def W4 : Valuation τ sig (Elt Ideal) := StableHlo.after hostOps0_4 (W3 m c)

theorem V_split (b : Ref sig .tc) :
    V m c b = StableHlo.after (hostOps0_5 ++ (hostOps0_6 ++ (hostOps0_7 ++ (hostOps0_8 ++ (hostOps0_9 ++ (hostOps0_10 ++ (hostOps0_11 ++ (hostOps0_12 ++ (hostOps0_13 ++ (hostOps0_14 ++ (hostOps0_15 ++ (hostOps0_16 ++ (hostOps0_17 ++ (hostOps0_18 ++ (hostOps0_19 ++ (hostOps0_20 ++ (hostOps0_21 ++ (hostOps0_22 ++ (hostOps0_23 ++ (hostOps0_24 ++ (hostOps0_25 ++ (hostOps0_26 ++ (hostOps0_27 ++ hostOps0_28))))))))))))))))))))))) (W4 m c) (Proc.devRef .tc b) := by
  unfold W4 W3 W2 W1
  rw [← after_app, ← after_app, ← after_app, ← after_app]
  show StableHlo.after _ _ _ = _
  rw [show ∀ l l' : List (HloOp τ sig (Elt Ideal)), l = l' → StableHlo.after l (fun b => m (c, b)) = StableHlo.after l' (fun b => m (c, b)) from fun _ _ h => by rw [h]]
  simp only [List.flatten_cons, List.flatten_nil, List.append_nil, List.append_assoc]

set_option maxHeartbeats 4000000 in
theorem W1_v73 : W1 m c (Proc.devRef .tc main_v73) = Cert.ReferenceIdeal.Read.val_main_v76_0 (F := Ideal) (m ((c : Thread nD τ).loc main_arg0)) (m ((c : Thread nD τ).loc main_arg1)) := by
  unfold W1
  after_reads_simp
  rfl

set_option maxHeartbeats 4000000 in
theorem W1_v26 : W1 m c (Proc.devRef .tc main_v26) = Cert.ReferenceIdeal.Read.val_main_v29 (F := Ideal) (m ((c : Thread nD τ).loc main_arg2)) := by
  unfold W1
  after_reads_simp
  rfl

set_option maxHeartbeats 4000000 in
theorem W2_v73 : W2 m c (Proc.devRef .tc main_v73) = Cert.ReferenceIdeal.Read.val_main_v76_0 (F := Ideal) (m ((c : Thread nD τ).loc main_arg0)) (m ((c : Thread nD τ).loc main_arg1)) := by
  unfold W2
  after_reads_simp
  exact W1_v73 m c

set_option maxHeartbeats 4000000 in
theorem W2_v26 : W2 m c (Proc.devRef .tc main_v26) = Cert.ReferenceIdeal.Read.val_main_v29 (F := Ideal) (m ((c : Thread nD τ).loc main_arg2)) := by
  unfold W2
  after_reads_simp
  exact W1_v26 m c

set_option maxHeartbeats 4000000 in
theorem W2_v74 : W2 m c (Proc.devRef .tc main_v74) = Cert.ReferenceIdeal.Read.val_main_v77 (F := Ideal) (m ((c : Thread nD τ).loc main_arg0)) (m ((c : Thread nD τ).loc main_arg1)) := by
  unfold W2
  after_reads_simp
  rw [W1_v73]
  rfl

set_option maxHeartbeats 4000000 in
theorem W2_v77 : W2 m c (Proc.devRef .tc main_v77) = Cert.ReferenceIdeal.Read.val_main_v85 (F := Ideal) (m ((c : Thread nD τ).loc main_arg0)) (m ((c : Thread nD τ).loc main_arg1)) := by
  unfold W2
  after_reads_simp
  rw [W1_v73]
  rfl

set_option maxHeartbeats 4000000 in
theorem W3_v73 : W3 m c (Proc.devRef .tc main_v73) = Cert.ReferenceIdeal.Read.val_main_v76_0 (F := Ideal) (m ((c : Thread nD τ).loc main_arg0)) (m ((c : Thread nD τ).loc main_arg1)) := by
  unfold W3
  after_reads_simp
  exact W2_v73 m c

set_option maxHeartbeats 4000000 in
theorem W3_v26 : W3 m c (Proc.devRef .tc main_v26) = Cert.ReferenceIdeal.Read.val_main_v29 (F := Ideal) (m ((c : Thread nD τ).loc main_arg2)) := by
  unfold W3
  after_reads_simp
  exact W2_v26 m c

set_option maxHeartbeats 4000000 in
theorem W2_cst_15 : W2 m c (Proc.devRef .tc main_cst_15) = constant (F := Ideal) S_ .f32 0x00000000#32 := by
  unfold W2
  after_reads_simp

set_option maxHeartbeats 4000000 in
theorem W3_v78 : W3 m c (Proc.devRef .tc main_v78) = Cert.ReferenceIdeal.Read.val_main_v86 (F := Ideal) (m ((c : Thread nD τ).loc main_arg0)) (m ((c : Thread nD τ).loc main_arg1)) := by
  unfold W3
  after_reads_simp
  rw [W2_v74, W2_v77, W2_cst_15]
  unfold Cert.ReferenceIdeal.Read.val_main_v86
  generalize Cert.ReferenceIdeal.Read.val_main_v85 (F := Ideal) _ _ = A
  generalize Cert.ReferenceIdeal.Read.val_main_v77 (F := Ideal) _ _ = B
  simp -implicitDefEqProofs only [StableHlo.TRef.ofBuf_toBuf, StableHlo.TRef.toBuf, StableHlo.TRef.ofBuf, cast_eq, id]
  rfl

set_option maxHeartbeats 4000000 in
theorem W4_v89 : W4 m c (Proc.devRef .tc main_v89) = Cert.ReferenceIdeal.Read.val_main_v97 (F := Ideal) (m ((c : Thread nD τ).loc main_arg0)) (m ((c : Thread nD τ).loc main_arg1)) := by
  unfold W4
  after_reads_simp
  rw [W3_v73, W3_v78]
  rfl

set_option maxHeartbeats 4000000 in
theorem W4_v97 : W4 m c (Proc.devRef .tc main_v97) = Cert.ReferenceIdeal.Read.val_main_v105 (F := Ideal) (m ((c : Thread nD τ).loc main_arg0)) (m ((c : Thread nD τ).loc main_arg1)) := by
  unfold W4
  after_reads_simp
  rw [W3_v73, W3_v78]
  rfl

set_option maxHeartbeats 4000000 in
theorem W4_v100 : W4 m c (Proc.devRef .tc main_v100) = Cert.ReferenceIdeal.Read.val_main_v108 (F := Ideal) (m ((c : Thread nD τ).loc main_arg0)) (m ((c : Thread nD τ).loc main_arg1)) (m ((c : Thread nD τ).loc main_arg2)) := by
  unfold W4
  after_reads_simp
  rw [W3_v73, W3_v78, W3_v26]
  rfl

set_option maxHeartbeats 4000000 in
theorem W1_arg0 : W1 m c (Proc.devRef .tc main_arg0) = m ((c : Thread nD τ).loc main_arg0) := by
  unfold W1
  after_reads_simp

set_option maxHeartbeats 4000000 in
theorem W2_arg0 : W2 m c (Proc.devRef .tc main_arg0) = m ((c : Thread nD τ).loc main_arg0) := by
  unfold W2
  after_reads_simp
  exact W1_arg0 m c

set_option maxHeartbeats 4000000 in
theorem W3_arg0 : W3 m c (Proc.devRef .tc main_arg0) = m ((c : Thread nD τ).loc main_arg0) := by
  unfold W3
  after_reads_simp
  exact W2_arg0 m c

set_option maxHeartbeats 4000000 in
theorem W1_arg1 : W1 m c (Proc.devRef .tc main_arg1) = m ((c : Thread nD τ).loc main_arg1) := by
  unfold W1
  after_reads_simp

set_option maxHeartbeats 4000000 in
theorem W2_arg1 : W2 m c (Proc.devRef .tc main_arg1) = m ((c : Thread nD τ).loc main_arg1) := by
  unfold W2
  after_reads_simp
  exact W1_arg1 m c

set_option maxHeartbeats 4000000 in
theorem W3_arg1 : W3 m c (Proc.devRef .tc main_arg1) = m ((c : Thread nD τ).loc main_arg1) := by
  unfold W3
  after_reads_simp
  exact W2_arg1 m c

set_option maxHeartbeats 4000000 in
theorem W1_arg2 : W1 m c (Proc.devRef .tc main_arg2) = m ((c : Thread nD τ).loc main_arg2) := by
  unfold W1
  after_reads_simp

set_option maxHeartbeats 4000000 in
theorem W2_arg2 : W2 m c (Proc.devRef .tc main_arg2) = m ((c : Thread nD τ).loc main_arg2) := by
  unfold W2
  after_reads_simp
  exact W1_arg2 m c

set_option maxHeartbeats 4000000 in
theorem W3_arg2 : W3 m c (Proc.devRef .tc main_arg2) = m ((c : Thread nD τ).loc main_arg2) := by
  unfold W3
  after_reads_simp
  exact W2_arg2 m c

set_option maxHeartbeats 4000000 in
theorem W1_arg3 : W1 m c (Proc.devRef .tc main_arg3) = m ((c : Thread nD τ).loc main_arg3) := by
  unfold W1
  after_reads_simp

set_option maxHeartbeats 4000000 in
theorem W2_arg3 : W2 m c (Proc.devRef .tc main_arg3) = m ((c : Thread nD τ).loc main_arg3) := by
  unfold W2
  after_reads_simp
  exact W1_arg3 m c

set_option maxHeartbeats 4000000 in
theorem W3_arg3 : W3 m c (Proc.devRef .tc main_arg3) = m ((c : Thread nD τ).loc main_arg3) := by
  unfold W3
  after_reads_simp
  exact W2_arg3 m c

set_option maxHeartbeats 4000000 in
theorem W1_arg4 : W1 m c (Proc.devRef .tc main_arg4) = m ((c : Thread nD τ).loc main_arg4) := by
  unfold W1
  after_reads_simp

set_option maxHeartbeats 4000000 in
theorem W2_arg4 : W2 m c (Proc.devRef .tc main_arg4) = m ((c : Thread nD τ).loc main_arg4) := by
  unfold W2
  after_reads_simp
  exact W1_arg4 m c

set_option maxHeartbeats 4000000 in
theorem W3_arg4 : W3 m c (Proc.devRef .tc main_arg4) = m ((c : Thread nD τ).loc main_arg4) := by
  unfold W3
  after_reads_simp
  exact W2_arg4 m c

set_option maxHeartbeats 4000000 in
theorem W4_v104 : W4 m c (Proc.devRef .tc main_v104) = (subf (F := Ideal) (m ((c : Thread nD τ).loc main_arg4)) (Host.reduceAdd (mulf (F := Ideal) (shapeCast S8192x4x128 (m ((c : Thread nD τ).loc main_arg3)) shapeCasts_S8192x512_S8192x4x128) (Cert.ReferenceIdeal.Read.val_main_v108 (F := Ideal) (m ((c : Thread nD τ).loc main_arg0)) (m ((c : Thread nD τ).loc main_arg1)) (m ((c : Thread nD τ).loc main_arg2)))) (constant (F := Ideal) S_ .f32 0#32) reducesTo_S8192x4x128_S8192x4_d2 h_S_) : FVec Ideal S8192x4 .f32) := by
  unfold W4
  after_reads_simp
  rw [W3_v73, W3_v78, W3_v26, W3_arg3, W3_arg4]
  rfl

/-- The queries. -/
abbrev aq : FVec Ideal S8192x512 .f32 := m ((c : Thread nD τ).loc main_arg0)
/-- The keys. -/
abbrev ak : FVec Ideal S8192x512 .f32 := m ((c : Thread nD τ).loc main_arg1)
/-- The values. -/
abbrev av : FVec Ideal S8192x512 .f32 := m ((c : Thread nD τ).loc main_arg2)
/-- The gradient of the output. -/
abbrev ad : FVec Ideal S8192x512 .f32 := m ((c : Thread nD τ).loc main_arg3)
/-- The gradient of the row normaliser. -/
abbrev al : FVec Ideal S8192x4 .f32 := m ((c : Thread nD τ).loc main_arg4)

/-- Row `y` of residue `r`: the sequence position `4 y + r`. -/
def pos (r : Fin 4) (y : Fin 2048) : Fin 8192 := ⟨y.val * 4 + r.val, by omega⟩

theorem lane_apply (x : FVec Ideal S8192x4 .f32) (r : Fin 4) (y : Fin 2048) (h : Fin 4) (e : Fin 128) :
    transpose S4x2048x512 [1, 0, 2] (shapeCast S2048x4x512 (shapeCast S8192x512 (broadcastInDim S8192x4x128 ![0, 1, 2] bcast_S8192x4x1_S8192x4x128_0_1_2 (broadcastInDim S8192x4x1 ![0, 1] bcast_S8192x4_S8192x4x1_0_1 x)) shapeCasts_S8192x4x128_S8192x512) shapeCasts_S8192x512_S2048x4x512) transposes_S2048x4x512_S4x2048x512_1_0_2 (ix3 r y (Blk.col h e)) = x (ix2 (pos r y) h) := by
  pointwise
  exact congrArg x (congrArg (ix2 _) (Fin.ext (by show (128 * h.val + e.val) / 128 = h.val; omega)))

set_option maxHeartbeats 4000000 in
theorem W4_at115_0 (r : Fin 4) (y : Fin 2048) (l : Fin 512) :
    W4 m c (Proc.devRef .tc main_v115) (ix4 0 r y l) = m ((c : Thread nD τ).loc main_arg0) (ix2 (pos r y) l) := by
  unfold W4
  after_reads_at
  after_reads_at
  rw [W3_arg0]
  rfl

set_option maxHeartbeats 4000000 in
theorem W4_at115_1 (r : Fin 4) (y : Fin 2048) (l : Fin 512) :
    W4 m c (Proc.devRef .tc main_v115) (ix4 1 r y l) = m ((c : Thread nD τ).loc main_arg1) (ix2 (pos r y) l) := by
  unfold W4
  after_reads_at
  after_reads_at
  rw [W3_arg1]
  rfl

set_option maxHeartbeats 4000000 in
theorem W4_at115_2 (r : Fin 4) (y : Fin 2048) (l : Fin 512) :
    W4 m c (Proc.devRef .tc main_v115) (ix4 2 r y l) = m ((c : Thread nD τ).loc main_arg2) (ix2 (pos r y) l) := by
  unfold W4
  after_reads_at
  after_reads_at
  rw [W3_arg2]
  rfl

set_option maxHeartbeats 4000000 in
theorem W4_at118 (r : Fin 4) (y : Fin 2048) (l : Fin 512) :
    W4 m c (Proc.devRef .tc main_v118) (ix3 r y l) = m ((c : Thread nD τ).loc main_arg3) (ix2 (pos r y) l) := by
  unfold W4
  after_reads_at
  rw [W3_arg3]
  rfl

set_option maxHeartbeats 4000000 in
theorem W4_at123 (r : Fin 4) (y : Fin 2048) (h : Fin 4) (e : Fin 128) :
    W4 m c (Proc.devRef .tc main_v123) (ix3 r y (Blk.col h e)) = (Cert.ReferenceIdeal.Read.val_main_v105 (F := Ideal) (m ((c : Thread nD τ).loc main_arg0)) (m ((c : Thread nD τ).loc main_arg1))) (ix2 (pos r y) h) := by
  refine Eq.trans ?_ (lane_apply _ r y h e)
  rw [← W4_v97]
  unfold W4
  after_reads_simp
  generalize addf (F := Ideal) (φ := .f32) (Host.log _) _ = z
  rfl

set_option maxHeartbeats 4000000 in
theorem W4_at128 (r : Fin 4) (y : Fin 2048) (h : Fin 4) (e : Fin 128) :
    W4 m c (Proc.devRef .tc main_v128) (ix3 r y (Blk.col h e)) = W4 m c (Proc.devRef .tc main_v104) (ix2 (pos r y) h) := by
  refine Eq.trans ?_ (lane_apply _ r y h e)
  unfold W4
  after_reads_simp
  generalize Host.reduceAdd (F := Ideal) (φ := .f32) _ _ reducesTo_S8192x4x128_S8192x4_d2 h_S_ = z
  rfl

set_option maxHeartbeats 4000000 in
theorem cc_apply (l : FVec Ideal S8192x4 .f32) (d : FVec Ideal S8192x512 .f32) (o : FVec Ideal S8192x4x128 .f32) (p : Fin 8192) (h : Fin 4) :
    (subf l (Host.reduceAdd (mulf (shapeCast S8192x4x128 d shapeCasts_S8192x512_S8192x4x128) o) (constant (F := Ideal) S_ .f32 0#32) reducesTo_S8192x4x128_S8192x4_d2 h_S_) : FVec Ideal S8192x4 .f32) (ix2 p h)
      = l (ix2 p h) - ∑ e : Fin 128, d (ix2 p (Blk.col h e)) * o (ix3 p h e) := by
  pointwise
  refine congrArg (fun z : EReal => l (ix2 p h) - z) (Finset.sum_congr rfl fun e _ => ?_)
  exact congrArg (fun z => d (ix2 p z) * o (ix3 p h e)) (Fin.ext (by show h.val * 128 + e.val = 128 * h.val + e.val; omega))

set_option maxHeartbeats 4000000 in
theorem W4_at104 (p : Fin 8192) (h : Fin 4) :
    W4 m c (Proc.devRef .tc main_v104) (ix2 p h) = al m c (ix2 p h) - ∑ e : Fin 128, ad m c (ix2 p (Blk.col h e)) * Cert.ReferenceIdeal.Read.val_main_v108 (F := Ideal) (aq m c) (ak m c) (av m c) (ix3 p h e) := by
  rw [W4_v104]
  exact cc_apply _ _ _ p h

set_option maxHeartbeats 4000000 in
theorem V_v115 : V m c main_v115 = W4 m c (Proc.devRef .tc main_v115) := by
  rw [V_split]
  after_reads_simp

set_option maxHeartbeats 4000000 in
theorem V_v118 : V m c main_v118 = W4 m c (Proc.devRef .tc main_v118) := by
  rw [V_split]
  after_reads_simp

set_option maxHeartbeats 4000000 in
theorem V_v123 : V m c main_v123 = W4 m c (Proc.devRef .tc main_v123) := by
  rw [V_split]
  after_reads_simp

set_option maxHeartbeats 4000000 in
theorem V_v128 : V m c main_v128 = W4 m c (Proc.devRef .tc main_v128) := by
  rw [V_split]
  after_reads_simp

end Cert.KernelIdeal.Pre
-- ==== Proof.Bias.lean ====
module

public import proofs.«01_k».proof.Proof.Pre
public import Idealize.ShloMosaic.Lib.Pipeline.ValueKit

@[expose] public section
set_option maxRecDepth 16384
noncomputable section
namespace Cert.KernelIdeal.Bias
open Cert.KernelIdeal Cert.KernelIdeal.Gen Idealize.ShloMosaic Idealize.ShloMosaic.TcCoe Idealize.SL.Sem

variable (m : (ℓ : Loc nD τ sig) → Buf (Elt Ideal) ℓ) (c : Dev nD)

/-- A tile of the table on the diagonal block: literal `w` times the distance where the key is not after the query. -/
def nearTile (w : BitVec 32) (i j : Fin 128) : EReal :=
  Scalar.select (IntOp.cmpi CmpIPredicate.sge (IntOp.subi (BitVec.ofNat 32 i.val) (BitVec.ofNat 32 j.val)) 0#32)
    (Ideal.ofBits .f32 w * FloatOps.sitofp (F := Ideal) .f32 (IntOp.subi (BitVec.ofNat 32 i.val) (BitVec.ofNat 32 j.val)))
    (Ideal.ofBits .f32 4286578688#32)

/-- A tile of the table one block before the diagonal. -/
def farTile (w : BitVec 32) (i j : Fin 128) : EReal :=
  Scalar.select (IntOp.cmpi CmpIPredicate.sle (IntOp.subi (IntOp.addi (128#32) (BitVec.ofNat 32 i.val)) (BitVec.ofNat 32 j.val)) 128#32)
    (Ideal.ofBits .f32 w * FloatOps.sitofp (F := Ideal) .f32 (IntOp.subi (IntOp.addi (128#32) (BitVec.ofNat 32 i.val)) (BitVec.ofNat 32 j.val)))
    (Ideal.ofBits .f32 4286578688#32)

theorem rows4 (u : Fin 4 → FVec Ideal S128x384 .f32) (k : Fin 4) (i : Fin 128) (x : Fin 384) :
    concatenate S512x384 0 [⟨S128x384, u 0⟩, ⟨S128x384, u 1⟩, ⟨S128x384, u 2⟩, ⟨S128x384, u 3⟩] concatenates_S128x384_S128x384_S128x384_S128x384_S512x384_d0 (ix2 (Blk.col k i) x) = u k (ix2 i x) := by
  have hb : ∀ b : Fin S128x384.rank, b.cast (rfl : S128x384.rank = S512x384.rank) ≠ 0 → ((ix2 i x : S128x384.Idx) b).val = ((ix2 (Blk.col k i) x : S512x384.Idx) (b.cast rfl)).val :=
    fun b => match b with
      | ⟨0, _⟩ => fun h => absurd rfl h
      | ⟨1, _⟩ => fun _ => rfl
  match k with
  | 0 => exact concatenate_apply_piece (t := S512x384) 0 [⟨S128x384, u 0⟩, ⟨S128x384, u 1⟩, ⟨S128x384, u 2⟩, ⟨S128x384, u 3⟩] concatenates_S128x384_S128x384_S128x384_S128x384_S512x384_d0 (ix2 (Blk.col 0 i) x) 0 (by show 0 < 4; decide) S128x384 (u 0) rfl rfl 0 rfl (ix2 i x) hb (by show 0 + i.val = 128 * 0 + i.val; omega)
  | 1 => exact concatenate_apply_piece (t := S512x384) 0 [⟨S128x384, u 0⟩, ⟨S128x384, u 1⟩, ⟨S128x384, u 2⟩, ⟨S128x384, u 3⟩] concatenates_S128x384_S128x384_S128x384_S128x384_S512x384_d0 (ix2 (Blk.col 1 i) x) 1 (by show 1 < 4; decide) S128x384 (u 1) rfl rfl 128 rfl (ix2 i x) hb (by show 128 + i.val = 128 * 1 + i.val; omega)
  | 2 => exact concatenate_apply_piece (t := S512x384) 0 [⟨S128x384, u 0⟩, ⟨S128x384, u 1⟩, ⟨S128x384, u 2⟩, ⟨S128x384, u 3⟩] concatenates_S128x384_S128x384_S128x384_S128x384_S512x384_d0 (ix2 (Blk.col 2 i) x) 2 (by show 2 < 4; decide) S128x384 (u 2) rfl rfl 256 rfl (ix2 i x) hb (by show 256 + i.val = 128 * 2 + i.val; omega)
  | 3 => exact concatenate_apply_piece (t := S512x384) 0 [⟨S128x384, u 0⟩, ⟨S128x384, u 1⟩, ⟨S128x384, u 2⟩, ⟨S128x384, u 3⟩] concatenates_S128x384_S128x384_S128x384_S128x384_S512x384_d0 (ix2 (Blk.col 3 i) x) 3 (by show 3 < 4; decide) S128x384 (u 3) rfl rfl 384 rfl (ix2 i x) hb (by show 384 + i.val = 128 * 3 + i.val; omega)

theorem cols3_0 (u0 u1 u2 : FVec Ideal S128x128 .f32) (i j : Fin 128) :
    concatenate S128x384 1 [⟨S128x128, u0⟩, ⟨S128x128, u1⟩, ⟨S128x128, u2⟩] concatenates_S128x128_S128x128_S128x128_S128x384_d1 (ix2 i ⟨0 + j.val, by omega⟩) = u0 (ix2 i j) :=
  concatenate_apply_piece (t := S128x384) 1 [⟨S128x128, u0⟩, ⟨S128x128, u1⟩, ⟨S128x128, u2⟩] concatenates_S128x128_S128x128_S128x128_S128x384_d1 (ix2 i ⟨0 + j.val, by omega⟩) 0 (by show 0 < 3; decide) S128x128 u0 rfl rfl 0 rfl (ix2 i j)
    (fun b => match b with
      | ⟨1, _⟩ => fun h => absurd rfl h
      | ⟨0, _⟩ => fun _ => rfl) rfl

theorem cols3_1 (u0 u1 u2 : FVec Ideal S128x128 .f32) (i j : Fin 128) :
    concatenate S128x384 1 [⟨S128x128, u0⟩, ⟨S128x128, u1⟩, ⟨S128x128, u2⟩] concatenates_S128x128_S128x128_S128x128_S128x384_d1 (ix2 i ⟨128 + j.val, by omega⟩) = u1 (ix2 i j) :=
  concatenate_apply_piece (t := S128x384) 1 [⟨S128x128, u0⟩, ⟨S128x128, u1⟩, ⟨S128x128, u2⟩] concatenates_S128x128_S128x128_S128x128_S128x384_d1 (ix2 i ⟨128 + j.val, by omega⟩) 1 (by show 1 < 3; decide) S128x128 u1 rfl rfl 128 rfl (ix2 i j)
    (fun b => match b with
      | ⟨1, _⟩ => fun h => absurd rfl h
      | ⟨0, _⟩ => fun _ => rfl) rfl

theorem cols3_2 (u0 u1 u2 : FVec Ideal S128x128 .f32) (i j : Fin 128) :
    concatenate S128x384 1 [⟨S128x128, u0⟩, ⟨S128x128, u1⟩, ⟨S128x128, u2⟩] concatenates_S128x128_S128x128_S128x128_S128x384_d1 (ix2 i ⟨256 + j.val, by omega⟩) = u2 (ix2 i j) :=
  concatenate_apply_piece (t := S128x384) 1 [⟨S128x128, u0⟩, ⟨S128x128, u1⟩, ⟨S128x128, u2⟩] concatenates_S128x128_S128x128_S128x128_S128x384_d1 (ix2 i ⟨256 + j.val, by omega⟩) 2 (by show 2 < 3; decide) S128x128 u2 rfl rfl 256 rfl (ix2 i j)
    (fun b => match b with
      | ⟨1, _⟩ => fun h => absurd rfl h
      | ⟨0, _⟩ => fun _ => rfl) rfl

/-- The buffers before the bands of head 0 are joined. -/
def U0 : Valuation τ sig (Elt Ideal) := StableHlo.after (List.flatten [hostOps0, hostOps0_1, hostOps0_2, hostOps0_3, hostOps0_4, hostOps0_5, hostOps0_6, hostOps0_7, hostOps0_8, hostOps0_9]) (fun b => m (c, b))

theorem V_U0 (b : Ref sig .tc) : V m c b = StableHlo.after (List.flatten [hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28]) (U0 m c) (Proc.devRef .tc b) := by
  unfold U0
  rw [← Pre.after_app]
  show StableHlo.after _ _ _ = _
  rw [show ∀ l l' : List (HloOp τ sig (Elt Ideal)), l = l' → StableHlo.after l (fun b => m (c, b)) = StableHlo.after l' (fun b => m (c, b)) from fun _ _ h => by rw [h]]
  simp only [List.flatten_cons, List.flatten_nil, List.append_nil, List.append_assoc]

/-- The buffers before the bands of head 1 are joined. -/
def U1 : Valuation τ sig (Elt Ideal) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) (fun b => m (c, b))

theorem V_U1 (b : Ref sig .tc) : V m c b = StableHlo.after (List.flatten [hostOps0_16, hostOps0_17, hostOps0_18, hostOps0_19, hostOps0_20, hostOps0_21, hostOps0_22, hostOps0_23, hostOps0_24, hostOps0_25, hostOps0_26, hostOps0_27, hostOps0_28]) (U1 m c) (Proc.devRef .tc b) := by
  unfold U1
  rw [← Pre.after_app]
  show StableHlo.after _ _ _ = _
  rw [show ∀ l l' : List (HloOp τ sig (Elt Ideal)), l = l' → StableHlo.after l (fun b => m (c, b)) = StableHlo.after l' (fun b => m (c, b)) from fun _ _ h => by rw [h]]
  simp only [List.flatten_cons, List.flatten_nil, List.append_nil, List.append_assoc]

/-- The buffers before the bands of head 2 are joined. -/
def U2 : Valuation τ sig (Elt Ideal) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]) (fun b => m (c, b))

theorem V_U2 (b : Ref sig .tc) : V m c b = StableHlo.after (List.flatten [hostOps0_22, hostOps0_23, hostOps0_24, hostOps0_25, hostOps0_26, hostOps0_27, hostOps0_28]) (U2 m c) (Proc.devRef .tc b) := by
  unfold U2
  rw [← Pre.after_app]
  show StableHlo.after _ _ _ = _
  rw [show ∀ l l' : List (HloOp τ sig (Elt Ideal)), l = l' → StableHlo.after l (fun b => m (c, b)) = StableHlo.after l' (fun b => m (c, b)) from fun _ _ h => by rw [h]]
  simp only [List.flatten_cons, List.flatten_nil, List.append_nil, List.append_assoc]

/-- The buffers before the bands of head 3 are joined. -/
def U3 : Valuation τ sig (Elt Ideal) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27]) (fun b => m (c, b))

theorem V_U3 (b : Ref sig .tc) : V m c b = StableHlo.after (List.flatten [hostOps0_28]) (U3 m c) (Proc.devRef .tc b) := by
  unfold U3
  rw [← Pre.after_app]
  show StableHlo.after _ _ _ = _
  rw [show ∀ l l' : List (HloOp τ sig (Elt Ideal)), l = l' → StableHlo.after l (fun b => m (c, b)) = StableHlo.after l' (fun b => m (c, b)) from fun _ _ h => by rw [h]]
  simp only [List.flatten_cons, List.flatten_nil, List.append_nil, List.append_assoc]

set_option maxHeartbeats 4000000 in
theorem t141 (i j : Fin 128) : V m c main_v141 (ix2 i j) = nearTile 0xBECB2FF5#32 i j := by
  after_reads_at
  rfl

set_option maxHeartbeats 4000000 in
theorem t152 (i j : Fin 128) : V m c main_v152 (ix2 i j) = farTile 0xBECB2FF5#32 i j := by
  after_reads_at
  rfl

set_option maxHeartbeats 4000000 in
theorem t163 (i j : Fin 128) : V m c main_v163 (ix2 i j) = farTile 0xBECB2FF5#32 i j := by
  after_reads_at
  rfl

set_option maxHeartbeats 4000000 in
theorem r141 (i j : Fin 128) : V m c main_v164 (ix2 i ⟨0 + j.val, by omega⟩) = V m c main_v141 (ix2 i j) := by
  rw [V_U0, V_U0]
  after_reads_simp
  exact cols3_0 _ _ _ i j

set_option maxHeartbeats 4000000 in
theorem r152 (i j : Fin 128) : V m c main_v164 (ix2 i ⟨128 + j.val, by omega⟩) = V m c main_v152 (ix2 i j) := by
  rw [V_U0, V_U0]
  after_reads_simp
  exact cols3_1 _ _ _ i j

set_option maxHeartbeats 4000000 in
theorem r163 (i j : Fin 128) : V m c main_v164 (ix2 i ⟨256 + j.val, by omega⟩) = V m c main_v163 (ix2 i j) := by
  rw [V_U0, V_U0]
  after_reads_simp
  exact cols3_2 _ _ _ i j

set_option maxHeartbeats 4000000 in
theorem r164 (i : Fin 128) (x : Fin 384) : V m c main_v261 (ix2 (Blk.col 0 i) x) = V m c main_v164 (ix2 i x) := by
  rw [V_U3, V_U3]
  after_reads_simp
  exact rows4 ![_, _, _, _] 0 i x

set_option maxHeartbeats 4000000 in
theorem t173 (i j : Fin 128) : V m c main_v173 (ix2 i j) = nearTile 0xBE800000#32 i j := by
  after_reads_at
  rfl

set_option maxHeartbeats 4000000 in
theorem t184 (i j : Fin 128) : V m c main_v184 (ix2 i j) = farTile 0xBE800000#32 i j := by
  after_reads_at
  rfl

set_option maxHeartbeats 4000000 in
theorem t195 (i j : Fin 128) : V m c main_v195 (ix2 i j) = farTile 0xBE800000#32 i j := by
  after_reads_at
  rfl

set_option maxHeartbeats 4000000 in
theorem r173 (i j : Fin 128) : V m c main_v196 (ix2 i ⟨0 + j.val, by omega⟩) = V m c main_v173 (ix2 i j) := by
  rw [V_U1, V_U1]
  after_reads_simp
  exact cols3_0 _ _ _ i j

set_option maxHeartbeats 4000000 in
theorem r184 (i j : Fin 128) : V m c main_v196 (ix2 i ⟨128 + j.val, by omega⟩) = V m c main_v184 (ix2 i j) := by
  rw [V_U1, V_U1]
  after_reads_simp
  exact cols3_1 _ _ _ i j

set_option maxHeartbeats 4000000 in
theorem r195 (i j : Fin 128) : V m c main_v196 (ix2 i ⟨256 + j.val, by omega⟩) = V m c main_v195 (ix2 i j) := by
  rw [V_U1, V_U1]
  after_reads_simp
  exact cols3_2 _ _ _ i j

set_option maxHeartbeats 4000000 in
theorem r196 (i : Fin 128) (x : Fin 384) : V m c main_v261 (ix2 (Blk.col 1 i) x) = V m c main_v196 (ix2 i x) := by
  rw [V_U3, V_U3]
  after_reads_simp
  exact rows4 ![_, _, _, _] 1 i x

set_option maxHeartbeats 4000000 in
theorem t205 (i j : Fin 128) : V m c main_v205 (ix2 i j) = nearTile 0xBE214518#32 i j := by
  after_reads_at
  rfl

set_option maxHeartbeats 4000000 in
theorem t216 (i j : Fin 128) : V m c main_v216 (ix2 i j) = farTile 0xBE214518#32 i j := by
  after_reads_at
  rfl

set_option maxHeartbeats 4000000 in
theorem t227 (i j : Fin 128) : V m c main_v227 (ix2 i j) = farTile 0xBE214518#32 i j := by
  after_reads_at
  rfl

set_option maxHeartbeats 4000000 in
theorem r205 (i j : Fin 128) : V m c main_v228 (ix2 i ⟨0 + j.val, by omega⟩) = V m c main_v205 (ix2 i j) := by
  rw [V_U2, V_U2]
  after_reads_simp
  exact cols3_0 _ _ _ i j

set_option maxHeartbeats 4000000 in
theorem r216 (i j : Fin 128) : V m c main_v228 (ix2 i ⟨128 + j.val, by omega⟩) = V m c main_v216 (ix2 i j) := by
  rw [V_U2, V_U2]
  after_reads_simp
  exact cols3_1 _ _ _ i j

set_option maxHeartbeats 4000000 in
theorem r227 (i j : Fin 128) : V m c main_v228 (ix2 i ⟨256 + j.val, by omega⟩) = V m c main_v227 (ix2 i j) := by
  rw [V_U2, V_U2]
  after_reads_simp
  exact cols3_2 _ _ _ i j

set_option maxHeartbeats 4000000 in
theorem r228 (i : Fin 128) (x : Fin 384) : V m c main_v261 (ix2 (Blk.col 2 i) x) = V m c main_v228 (ix2 i x) := by
  rw [V_U3, V_U3]
  after_reads_simp
  exact rows4 ![_, _, _, _] 2 i x

set_option maxHeartbeats 4000000 in
theorem t237 (i j : Fin 128) : V m c main_v237 (ix2 i j) = nearTile 0xBDCB2FF5#32 i j := by
  after_reads_at
  rfl

set_option maxHeartbeats 4000000 in
theorem t248 (i j : Fin 128) : V m c main_v248 (ix2 i j) = farTile 0xBDCB2FF5#32 i j := by
  after_reads_at
  rfl

set_option maxHeartbeats 4000000 in
theorem t259 (i j : Fin 128) : V m c main_v259 (ix2 i j) = farTile 0xBDCB2FF5#32 i j := by
  after_reads_at
  rfl

set_option maxHeartbeats 4000000 in
theorem r237 (i j : Fin 128) : V m c main_v260 (ix2 i ⟨0 + j.val, by omega⟩) = V m c main_v237 (ix2 i j) := by
  rw [V_U3, V_U3]
  after_reads_simp
  exact cols3_0 _ _ _ i j

set_option maxHeartbeats 4000000 in
theorem r248 (i j : Fin 128) : V m c main_v260 (ix2 i ⟨128 + j.val, by omega⟩) = V m c main_v248 (ix2 i j) := by
  rw [V_U3, V_U3]
  after_reads_simp
  exact cols3_1 _ _ _ i j

set_option maxHeartbeats 4000000 in
theorem r259 (i j : Fin 128) : V m c main_v260 (ix2 i ⟨256 + j.val, by omega⟩) = V m c main_v259 (ix2 i j) := by
  rw [V_U3, V_U3]
  after_reads_simp
  exact cols3_2 _ _ _ i j

set_option maxHeartbeats 4000000 in
theorem q237 (i j : Fin 128) : V m c main_v261 (ix2 (Blk.col 3 i) ⟨0 + j.val, by omega⟩) = V m c main_v237 (ix2 i j) := by
  rw [V_U3, V_U3]
  after_reads_simp
  refine (rows4 ![_, _, _, _] 3 i _).trans ?_
  exact cols3_0 _ _ _ i j

set_option maxHeartbeats 4000000 in
theorem q248 (i j : Fin 128) : V m c main_v261 (ix2 (Blk.col 3 i) ⟨128 + j.val, by omega⟩) = V m c main_v248 (ix2 i j) := by
  rw [V_U3, V_U3]
  after_reads_simp
  refine (rows4 ![_, _, _, _] 3 i _).trans ?_
  exact cols3_1 _ _ _ i j

set_option maxHeartbeats 4000000 in
theorem q259 (i j : Fin 128) : V m c main_v261 (ix2 (Blk.col 3 i) ⟨256 + j.val, by omega⟩) = V m c main_v259 (ix2 i j) := by
  rw [V_U3, V_U3]
  after_reads_simp
  refine (rows4 ![_, _, _, _] 3 i _).trans ?_
  exact cols3_2 _ _ _ i j

end Cert.KernelIdeal.Bias
-- ==== Proof.Row.lean ====
module

public import Idealize.ShloMosaic.PureOps.Ideal.Laws
public import Idealize.ShloMosaic.Lib.ValueIdx

@[expose] public section

set_option maxRecDepth 16384

noncomputable section

/- One row of a softmax and of its gradient over the extended reals. -/

namespace Cert.Row

open Idealize.ShloMosaic

/-- The total weight of a row of scores, shifted by `m0`. -/
def tot (s : Fin 256 → EReal) (m0 : EReal) : EReal := ∑ k, Ideal.exp (s k - m0)

/-- The logarithm of the total weight of a row, shifted back. -/
def lse (s : Fin 256 → EReal) (m0 : EReal) : EReal := Ideal.log (tot s m0) + m0

/-- The weight of one entry of a row. -/
def wt (s : Fin 256 → EReal) (m0 : EReal) (k : Fin 256) : EReal := Ideal.exp (s k - lse s m0)

/-- The largest score where it is a real number, and zero otherwise. -/
def Guard (s : Fin 256 → EReal) (m0 : EReal) : Prop :=
  ∃ m : EReal, (∀ k, s k ≤ m) ∧ (∃ k, s k = m) ∧ m0 = if m = ⊤ ∨ m = ⊥ then 0 else m

theorem coe_sum {ι : Type} [Fintype ι] (f : ι → ℝ) : ((∑ i, f i : ℝ) : EReal) = ∑ i, (f i : EReal) := by
  classical
  refine Finset.induction_on (Finset.univ : Finset ι) (by simp) fun a t ha ih => ?_
  rw [Finset.sum_insert ha, Finset.sum_insert ha, EReal.coe_add, ih]

theorem exp_nonneg (x : EReal) : 0 ≤ Ideal.exp x := by
  induction x with
  | bot => exact le_refl _
  | top => exact le_top
  | coe r => exact EReal.coe_nonneg.mpr (Real.exp_pos r).le

/-- Either every weight is zero, or the row is a softmax of real numbers. -/
theorem cases_row (s : Fin 256 → EReal) (m0 : EReal) (h : Guard s m0) :
    ((∀ k, wt s m0 k = 0) ∧ (tot s m0 = ⊤ ∨ ∀ k, Ideal.exp (s k - m0) = 0))
    ∨ ∃ (E : Fin 256 → ℝ) (Z : ℝ), 0 < Z ∧ tot s m0 = (Z : EReal) ∧ (∀ k, 0 ≤ E k) ∧ (∀ k, Ideal.exp (s k - m0) = (E k : EReal))
      ∧ ∀ k, wt s m0 k = ((E k / Z : ℝ) : EReal) := by
  obtain ⟨m, hle, ⟨k0, hk0⟩, h0⟩ := h
  induction m with
  | top =>
    left
    have h0' : m0 = 0 := by simpa using h0
    have hZ : tot s m0 = ⊤ := by
      refine top_le_iff.mp ?_
      have := Finset.single_le_sum (f := fun k => Ideal.exp (s k - m0)) (fun k _ => exp_nonneg _) (Finset.mem_univ k0)
      refine le_trans (le_of_eq ?_) this
      show ⊤ = Ideal.exp (s k0 - m0)
      rw [hk0, h0', sub_zero]; rfl
    refine ⟨fun k => ?_, Or.inl hZ⟩
    unfold wt lse
    rw [hZ, h0', add_zero]
    show Ideal.exp (s k - ⊤) = 0
    rw [EReal.sub_top]; rfl
  | bot =>
    left
    have h0' : m0 = 0 := by simpa using h0
    have hs : ∀ k, s k = ⊥ := fun k => le_bot_iff.mp (hle k)
    have he : ∀ k, Ideal.exp (s k - m0) = 0 := fun k => by rw [hs, h0', sub_zero]; rfl
    have hZ : tot s m0 = ((0 : ℝ) : EReal) := by unfold tot; simp [he]
    refine ⟨fun k => ?_, Or.inr he⟩
    unfold wt
    rw [hs, EReal.bot_sub]; rfl
  | coe m =>
    right
    have h0' : m0 = (m : EReal) := by simpa using h0
    subst h0'
    have hE : ∀ k, ∃ x : ℝ, 0 ≤ x ∧ Ideal.exp (s k - (m : EReal)) = (x : EReal) ∧
        ∀ Z : ℝ, 0 < Z → Ideal.exp (s k - (((Real.log Z : ℝ) : EReal) + (m : EReal))) = ((x / Z : ℝ) : EReal) := by
      intro k
      have hk := hle k
      generalize s k = y at hk
      induction y with
      | top => exact absurd hk (by simp)
      | bot => exact ⟨0, le_refl _, by rw [EReal.bot_sub]; rfl, fun Z _ => by rw [EReal.bot_sub, zero_div]; rfl⟩
      | coe y =>
        refine ⟨Real.exp (y - m), (Real.exp_pos _).le, rfl, fun Z hZ => ?_⟩
        show ((Real.exp (y - (Real.log Z + m)) : ℝ) : EReal) = _
        rw [show y - (Real.log Z + m) = (y - m) - Real.log Z by ring, Real.exp_sub (y - m), Real.exp_log hZ]
    choose E hE0 hE1 hE2 using hE
    have hZs : tot s (m : EReal) = ((∑ k, E k : ℝ) : EReal) := by
      unfold tot
      rw [coe_sum]
      exact Finset.sum_congr rfl fun k _ => hE1 k
    have hk1 : E k0 = 1 := by
      have := hE1 k0
      rw [hk0, ← EReal.coe_sub, sub_self] at this
      have h2 : ((Real.exp 0 : ℝ) : EReal) = (E k0 : EReal) := this
      rw [Real.exp_zero] at h2
      exact (EReal.coe_eq_coe_iff.mp h2).symm
    have hpos : 0 < ∑ k, E k :=
      lt_of_lt_of_le (by rw [hk1]; norm_num) (Finset.single_le_sum (f := E) (fun k _ => hE0 k) (Finset.mem_univ k0))
    refine ⟨E, ∑ k, E k, hpos, hZs, hE0, hE1, fun k => ?_⟩
    unfold wt lse
    rw [hZs]
    have hl : Ideal.log ((∑ k, E k : ℝ) : EReal) = ((Real.log (∑ k, E k) : ℝ) : EReal) := by
      show (if (∑ k, E k) ≤ 0 then (⊥ : EReal) else _) = _
      rw [if_neg (not_le.mpr hpos)]
    rw [hl, hE2 k _ hpos]

/-- The weights of a row are real numbers. -/
theorem wt_real (s : Fin 256 → EReal) (m0 : EReal) (h : Guard s m0) : ∃ P : Fin 256 → ℝ, ∀ k, wt s m0 k = (P k : EReal) := by
  rcases cases_row s m0 h with ⟨h1, _⟩ | ⟨E, Z, _, _, _, _, h1⟩
  · exact ⟨fun _ => 0, fun k => by rw [h1 k]; rfl⟩
  · exact ⟨_, h1⟩

theorem div_top (x : EReal) : Ideal.div x ⊤ = 0 := by
  unfold Ideal.div
  rw [if_neg (by simp), EReal.inv_top, mul_zero]

theorem div_coe (x : EReal) (z : ℝ) (hz : 0 < z) : Ideal.div x (z : EReal) = x * ((z⁻¹ : ℝ) : EReal) := by
  unfold Ideal.div
  rw [if_neg (by exact_mod_cast hz.ne'), EReal.coe_inv]

/-- The gradient of a score: the transpose of the exponential and of the logarithm of the total, against the closed form. -/
theorem grad (s : Fin 256 → EReal) (m0 : EReal) (h : Guard s m0) (dp : Fin 256 → ℝ) (dl : EReal) (k : Fin 256) :
    (dp k : EReal) * wt s m0 k + Ideal.div (dl + ∑ k', -((dp k' : EReal) * wt s m0 k')) (tot s m0) * Ideal.exp (s k - m0)
      = wt s m0 k * ((dp k : EReal) + (dl - ∑ k', (dp k' : EReal) * wt s m0 k')) := by
  rcases cases_row s m0 h with ⟨h1, h2⟩ | ⟨E, Z, hZ, hZ', hE0, hE, hw⟩
  · rw [h1 k, mul_zero, zero_mul, zero_add]
    rcases h2 with h2 | h2
    · rw [h2, div_top, zero_mul]
    · rw [h2 k, mul_zero]
  · have hD : ∑ k', (dp k' : EReal) * wt s m0 k' = ((∑ k', dp k' * (E k' / Z) : ℝ) : EReal) := by
      rw [coe_sum]
      exact Finset.sum_congr rfl fun k' _ => by rw [hw, EReal.coe_mul]
    have hD' : ∑ k', -((dp k' : EReal) * wt s m0 k') = ((-∑ k', dp k' * (E k' / Z) : ℝ) : EReal) := by
      rw [← Finset.sum_neg_distrib, coe_sum]
      exact Finset.sum_congr rfl fun k' _ => by rw [hw, EReal.coe_neg, EReal.coe_mul]
    rw [hD, hD', hZ', hE, hw, div_coe _ _ hZ]
    generalize (∑ k', dp k' * (E k' / Z)) = D
    have hZi : 0 < Z⁻¹ := inv_pos.mpr hZ
    have hEk := hE0 k
    induction dl with
    | coe dl =>
      rw [← EReal.coe_add, ← EReal.coe_mul, ← EReal.coe_mul, ← EReal.coe_mul, ← EReal.coe_add, ← EReal.coe_sub, ← EReal.coe_add, ← EReal.coe_mul]
      congr 1
      field_simp
      ring
    | top =>
      rw [EReal.top_add_coe, EReal.top_mul_coe_of_pos hZi, EReal.top_sub_coe, EReal.coe_add_top]
      rcases hEk.eq_or_lt with he | he
      · rw [← he]; simp
      · rw [EReal.top_mul_coe_of_pos he, EReal.coe_mul_top_of_pos (div_pos he hZ), ← EReal.coe_mul, EReal.coe_add_top]
    | bot =>
      rw [EReal.bot_add, EReal.bot_mul_coe_of_pos hZi, EReal.bot_sub, EReal.add_bot]
      rcases hEk.eq_or_lt with he | he
      · rw [← he]; simp
      · rw [EReal.bot_mul_coe_of_pos he, EReal.coe_mul_bot_of_pos (div_pos he hZ), EReal.add_bot]

/-- The gradient of the output against the output: both orders of the double sum. -/
theorem out_dot (s : Fin 256 → EReal) (m0 : EReal) (h : Guard s m0) (g : Fin 128 → ℝ) (v : Fin 256 → Fin 128 → ℝ) :
    ∑ e, (g e : EReal) * ∑ k, (v k e : EReal) * wt s m0 k = ∑ k, ((∑ e, g e * v k e : ℝ) : EReal) * wt s m0 k := by
  obtain ⟨P, hP⟩ := wt_real s m0 h
  have h1 : ∀ e, (g e : EReal) * ∑ k, (v k e : EReal) * wt s m0 k = ((g e * ∑ k, v k e * P k : ℝ) : EReal) := fun e => by
    rw [EReal.coe_mul, coe_sum]
    exact congrArg _ (Finset.sum_congr rfl fun k _ => by rw [hP, EReal.coe_mul])
  have h2 : ∀ k, ((∑ e, g e * v k e : ℝ) : EReal) * wt s m0 k = (((∑ e, g e * v k e) * P k : ℝ) : EReal) := fun k => by
    rw [hP, EReal.coe_mul]
  rw [Finset.sum_congr rfl fun e _ => h1 e, Finset.sum_congr rfl fun k _ => h2 k, ← coe_sum, ← coe_sum]
  congr 1
  simp only [Finset.mul_sum, Finset.sum_mul]
  rw [Finset.sum_comm]
  exact Finset.sum_congr rfl fun k _ => Finset.sum_congr rfl fun e _ => by ring

end Cert.Row
-- ==== Proof.RefBlk.lean ====
module

public import proofs.«01_k».proof.Proof.Pre
public import proofs.«01_k».proof.Proof.Row

@[expose] public section

set_option maxRecDepth 16384

noncomputable section

/- The reference's blocks, scores and weights, one entry at a time. -/

namespace Cert.ReferenceIdeal.Ref

open Cert.ReferenceIdeal Cert.ReferenceIdeal.Gen Cert.ReferenceIdeal.Read Idealize.ShloMosaic Idealize.ShloMosaic.TcCoe Idealize.SL.Sem
open Cert.KernelIdeal.Blk (col)
open Cert.KernelIdeal.Pre (pos)

/-- An array of the sequence by the features of every head. -/
abbrev X := FVec Ideal S8192x512 .f32

/-- Row `i` of block `n` of one residue. -/
def row (n : Fin 16) (i : Fin 128) : Fin 2048 := ⟨n.val * 128 + i.val, by omega⟩

variable (q k v d : X) (l : FVec Ideal S8192x4 .f32)
variable (r : Fin 4) (n : Fin 16) (i : Fin 128) (h : Fin 4) (e : Fin 128) (y : Fin 2048) (p : Fin 8192) (w : Fin 256)

theorem s6 : val_main_v6 (F := Ideal) q (ix3 p h e) = q (ix2 p (col h e)) := by
  rw [val_main_v6_apply]
  refine congrArg (q) (funext fun a => Fin.ext ?_)
  match a with
  | ⟨0, _⟩ => first | rfl | (simp only [ix1, ix2, ix3, ix4, ix5, pos, row, col]; have hh : h.val < 4 := h.isLt; have he : e.val < 128 := e.isLt; have hp : p.val < 8192 := p.isLt; omega)
  | ⟨1, _⟩ => first | rfl | (simp only [ix1, ix2, ix3, ix4, ix5, pos, row, col]; have hh : h.val < 4 := h.isLt; have he : e.val < 128 := e.isLt; have hp : p.val < 8192 := p.isLt; omega)

theorem s9 : val_main_v9 (F := Ideal) q (ix4 y r h e) = val_main_v6 (F := Ideal) q (ix3 (pos r y) h e) := by
  rw [val_main_v9_apply]
  refine congrArg (val_main_v6 (F := Ideal) q) (funext fun a => Fin.ext ?_)
  match a with
  | ⟨0, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨1, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨2, _⟩ => first | rfl | (simp only [ix1, ix2, ix3, ix4, ix5, pos, row, col]; have hr : r.val < 4 := r.isLt; have hh : h.val < 4 := h.isLt; have he : e.val < 128 := e.isLt; have hy : y.val < 2048 := y.isLt; omega)

theorem s10 : val_main_v10 (F := Ideal) q (ix4 r y h e) = val_main_v9 (F := Ideal) q (ix4 y r h e) := by
  rw [val_main_v10_apply]
  refine congrArg (val_main_v9 (F := Ideal) q) (funext fun a => Fin.ext ?_)
  match a with
  | ⟨0, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨1, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨2, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨3, _⟩ => first | rfl | (simp only [ix1, ix2, ix3, ix4, ix5, pos, row, col]; have hr : r.val < 4 := r.isLt; have hh : h.val < 4 := h.isLt; have he : e.val < 128 := e.isLt; have hy : y.val < 2048 := y.isLt; omega)

theorem s11 : val_main_v11 (F := Ideal) q (ix5 r n i h e) = val_main_v10 (F := Ideal) q (ix4 r (row n i) h e) := by
  rw [val_main_v11_apply]
  refine congrArg (val_main_v10 (F := Ideal) q) (funext fun a => Fin.ext ?_)
  match a with
  | ⟨0, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨1, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨2, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨3, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)

theorem b11 : val_main_v11 (F := Ideal) q (ix5 r n i h e) = q (ix2 (pos r (row n i)) (col h e)) := by
  rw [s11, s10, s9, s6]

theorem s7 : val_main_v7 (F := Ideal) k (ix3 p h e) = k (ix2 p (col h e)) := by
  rw [val_main_v7_apply]
  refine congrArg (k) (funext fun a => Fin.ext ?_)
  match a with
  | ⟨0, _⟩ => first | rfl | (simp only [ix1, ix2, ix3, ix4, ix5, pos, row, col]; have hh : h.val < 4 := h.isLt; have he : e.val < 128 := e.isLt; have hp : p.val < 8192 := p.isLt; omega)
  | ⟨1, _⟩ => first | rfl | (simp only [ix1, ix2, ix3, ix4, ix5, pos, row, col]; have hh : h.val < 4 := h.isLt; have he : e.val < 128 := e.isLt; have hp : p.val < 8192 := p.isLt; omega)

theorem s12 : val_main_v12 (F := Ideal) k (ix4 y r h e) = val_main_v7 (F := Ideal) k (ix3 (pos r y) h e) := by
  rw [val_main_v12_apply]
  refine congrArg (val_main_v7 (F := Ideal) k) (funext fun a => Fin.ext ?_)
  match a with
  | ⟨0, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨1, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨2, _⟩ => first | rfl | (simp only [ix1, ix2, ix3, ix4, ix5, pos, row, col]; have hr : r.val < 4 := r.isLt; have hh : h.val < 4 := h.isLt; have he : e.val < 128 := e.isLt; have hy : y.val < 2048 := y.isLt; omega)

theorem s13 : val_main_v13 (F := Ideal) k (ix4 r y h e) = val_main_v12 (F := Ideal) k (ix4 y r h e) := by
  rw [val_main_v13_apply]
  refine congrArg (val_main_v12 (F := Ideal) k) (funext fun a => Fin.ext ?_)
  match a with
  | ⟨0, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨1, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨2, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨3, _⟩ => first | rfl | (simp only [ix1, ix2, ix3, ix4, ix5, pos, row, col]; have hr : r.val < 4 := r.isLt; have hh : h.val < 4 := h.isLt; have he : e.val < 128 := e.isLt; have hy : y.val < 2048 := y.isLt; omega)

theorem s14 : val_main_v14 (F := Ideal) k (ix5 r n i h e) = val_main_v13 (F := Ideal) k (ix4 r (row n i) h e) := by
  rw [val_main_v14_apply]
  refine congrArg (val_main_v13 (F := Ideal) k) (funext fun a => Fin.ext ?_)
  match a with
  | ⟨0, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨1, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨2, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨3, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)

theorem b14 : val_main_v14 (F := Ideal) k (ix5 r n i h e) = k (ix2 (pos r (row n i)) (col h e)) := by
  rw [s14, s13, s12, s7]

theorem s8 : val_main_v8 (F := Ideal) v (ix3 p h e) = v (ix2 p (col h e)) := by
  rw [val_main_v8_apply]
  refine congrArg (v) (funext fun a => Fin.ext ?_)
  match a with
  | ⟨0, _⟩ => first | rfl | (simp only [ix1, ix2, ix3, ix4, ix5, pos, row, col]; have hh : h.val < 4 := h.isLt; have he : e.val < 128 := e.isLt; have hp : p.val < 8192 := p.isLt; omega)
  | ⟨1, _⟩ => first | rfl | (simp only [ix1, ix2, ix3, ix4, ix5, pos, row, col]; have hh : h.val < 4 := h.isLt; have he : e.val < 128 := e.isLt; have hp : p.val < 8192 := p.isLt; omega)

theorem s21 : val_main_v21 (F := Ideal) v (ix4 y r h e) = val_main_v8 (F := Ideal) v (ix3 (pos r y) h e) := by
  rw [val_main_v21_apply]
  refine congrArg (val_main_v8 (F := Ideal) v) (funext fun a => Fin.ext ?_)
  match a with
  | ⟨0, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨1, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨2, _⟩ => first | rfl | (simp only [ix1, ix2, ix3, ix4, ix5, pos, row, col]; have hr : r.val < 4 := r.isLt; have hh : h.val < 4 := h.isLt; have he : e.val < 128 := e.isLt; have hy : y.val < 2048 := y.isLt; omega)

theorem s22 : val_main_v22 (F := Ideal) v (ix4 r y h e) = val_main_v21 (F := Ideal) v (ix4 y r h e) := by
  rw [val_main_v22_apply]
  refine congrArg (val_main_v21 (F := Ideal) v) (funext fun a => Fin.ext ?_)
  match a with
  | ⟨0, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨1, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨2, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨3, _⟩ => first | rfl | (simp only [ix1, ix2, ix3, ix4, ix5, pos, row, col]; have hr : r.val < 4 := r.isLt; have hh : h.val < 4 := h.isLt; have he : e.val < 128 := e.isLt; have hy : y.val < 2048 := y.isLt; omega)

theorem s23 : val_main_v23 (F := Ideal) v (ix5 r n i h e) = val_main_v22 (F := Ideal) v (ix4 r (row n i) h e) := by
  rw [val_main_v23_apply]
  refine congrArg (val_main_v22 (F := Ideal) v) (funext fun a => Fin.ext ?_)
  match a with
  | ⟨0, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨1, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨2, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨3, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)

theorem b23 : val_main_v23 (F := Ideal) v (ix5 r n i h e) = v (ix2 (pos r (row n i)) (col h e)) := by
  rw [s23, s22, s21, s8]

theorem s0 : val_main_v0 (F := Ideal) d (ix3 p h e) = d (ix2 p (col h e)) := by
  rw [val_main_v0_apply]
  refine congrArg (d) (funext fun a => Fin.ext ?_)
  match a with
  | ⟨0, _⟩ => first | rfl | (simp only [ix1, ix2, ix3, ix4, ix5, pos, row, col]; have hh : h.val < 4 := h.isLt; have he : e.val < 128 := e.isLt; have hp : p.val < 8192 := p.isLt; omega)
  | ⟨1, _⟩ => first | rfl | (simp only [ix1, ix2, ix3, ix4, ix5, pos, row, col]; have hh : h.val < 4 := h.isLt; have he : e.val < 128 := e.isLt; have hp : p.val < 8192 := p.isLt; omega)

theorem s109 : val_main_v109 (F := Ideal) d (ix4 y r h e) = val_main_v0 (F := Ideal) d (ix3 (pos r y) h e) := by
  rw [val_main_v109_apply]
  refine congrArg (val_main_v0 (F := Ideal) d) (funext fun a => Fin.ext ?_)
  match a with
  | ⟨0, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨1, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨2, _⟩ => first | rfl | (simp only [ix1, ix2, ix3, ix4, ix5, pos, row, col]; have hr : r.val < 4 := r.isLt; have hh : h.val < 4 := h.isLt; have he : e.val < 128 := e.isLt; have hy : y.val < 2048 := y.isLt; omega)

theorem s110 : val_main_v110 (F := Ideal) d (ix4 r y h e) = val_main_v109 (F := Ideal) d (ix4 y r h e) := by
  rw [val_main_v110_apply]
  refine congrArg (val_main_v109 (F := Ideal) d) (funext fun a => Fin.ext ?_)
  match a with
  | ⟨0, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨1, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨2, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨3, _⟩ => first | rfl | (simp only [ix1, ix2, ix3, ix4, ix5, pos, row, col]; have hr : r.val < 4 := r.isLt; have hh : h.val < 4 := h.isLt; have he : e.val < 128 := e.isLt; have hy : y.val < 2048 := y.isLt; omega)

theorem s111 : val_main_v111 (F := Ideal) d (ix5 r n i h e) = val_main_v110 (F := Ideal) d (ix4 r (row n i) h e) := by
  rw [val_main_v111_apply]
  refine congrArg (val_main_v110 (F := Ideal) d) (funext fun a => Fin.ext ?_)
  match a with
  | ⟨0, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨1, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨2, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨3, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)

theorem b111 : val_main_v111 (F := Ideal) d (ix5 r n i h e) = d (ix2 (pos r (row n i)) (col h e)) := by
  rw [s111, s110, s109, s0]

theorem zero_word : FloatOps.ofBits (F := Ideal) .f32 0x00000000#32 = 0 := Ideal.ofBits_zero_f32

/-- Key or value `w` of the window of block `n`: rows of the block before and of the block, zero before the first. -/
def win (x : X) (r : Fin 4) (n : Fin 16) (w : Fin 256) (h : Fin 4) (e : Fin 128) : EReal :=
  if hw : n.val * 128 + w.val < 128 then 0 else x (ix2 (pos r ⟨n.val * 128 + w.val - 128, by omega⟩) (col h e))

theorem b18 : val_main_v18 (F := Ideal) k (ix5 r n i h e) = if hn : n.val = 0 then 0 else k (ix2 (pos r (row ⟨n.val - 1, by omega⟩ i)) (col h e)) := by
  unfold val_main_v18
  by_cases hn : n.val = 0
  · rw [dif_pos hn]
    refine (concatenate_pair_apply_left (t := S4x16x128x4x128) (s₁ := S4x1x128x4x128) (s₂ := S4x15x128x4x128) 1 _ _ _ _ rfl (ix5 r 0 i h e) (fun b => ?_)).trans ?_
    · match b with
      | ⟨0, _⟩ => rfl
      | ⟨1, _⟩ => exact hn.symm
      | ⟨2, _⟩ => rfl
      | ⟨3, _⟩ => rfl
      | ⟨4, _⟩ => rfl
    · rw [val_main_v16_apply, val_main_cst_3_apply]; exact zero_word
  · rw [dif_neg hn]
    refine (concatenate_pair_apply_right (t := S4x16x128x4x128) (s₁ := S4x1x128x4x128) (s₂ := S4x15x128x4x128) 1 _ _ _ _ rfl rfl (ix5 r ⟨n.val - 1, by omega⟩ i h e) (fun b => ?_) ?_).trans ?_
    · match b with
      | ⟨0, _⟩ => exact fun _ => rfl
      | ⟨1, _⟩ => exact fun hb => absurd rfl hb
      | ⟨2, _⟩ => exact fun _ => rfl
      | ⟨3, _⟩ => exact fun _ => rfl
      | ⟨4, _⟩ => exact fun _ => rfl
    · show n.val - 1 + 1 = n.val
      omega
    · rw [val_main_v17_apply]
      refine Eq.trans (congrArg (val_main_v14 (F := Ideal) k) (funext fun a => ?_)) (b14 k r ⟨n.val - 1, by omega⟩ i h e)
      match a with
      | ⟨0, _⟩ => rfl
      | ⟨1, _⟩ => rfl
      | ⟨2, _⟩ => rfl
      | ⟨3, _⟩ => rfl
      | ⟨4, _⟩ => rfl

theorem b20 : val_main_v20 (F := Ideal) k (ix5 r n w h e) = win k r n w h e := by
  unfold val_main_v20 win
  by_cases hw : w.val < 128
  · refine (concatenate_pair_apply_left (t := S4x16x256x4x128) (s₁ := S4x16x128x4x128) (s₂ := S4x16x128x4x128) 2 _ _ _ _ rfl (ix5 r n ⟨w.val, hw⟩ h e) (fun b => ?_)).trans ?_
    · match b with
      | ⟨0, _⟩ => rfl
      | ⟨1, _⟩ => rfl
      | ⟨2, _⟩ => rfl
      | ⟨3, _⟩ => rfl
      | ⟨4, _⟩ => rfl
    · rw [b18]
      by_cases hn : n.val = 0
      · rw [dif_pos hn, dif_pos (by omega)]
      · rw [dif_neg hn, dif_neg (by omega)]
        exact congrArg (fun z => k (ix2 (pos r z) (col h e))) (Fin.ext (by simp only [row]; omega))
  · refine (concatenate_pair_apply_right (t := S4x16x256x4x128) (s₁ := S4x16x128x4x128) (s₂ := S4x16x128x4x128) 2 _ _ _ _ rfl rfl (ix5 r n ⟨w.val - 128, by omega⟩ h e) (fun b => ?_) ?_).trans ?_
    · match b with
      | ⟨0, _⟩ => exact fun _ => rfl
      | ⟨1, _⟩ => exact fun _ => rfl
      | ⟨2, _⟩ => exact fun hb => absurd rfl hb
      | ⟨3, _⟩ => exact fun _ => rfl
      | ⟨4, _⟩ => exact fun _ => rfl
    · show w.val - 128 + 128 = w.val
      omega
    · rw [b14, dif_neg (by omega)]
      exact congrArg (fun z => k (ix2 (pos r z) (col h e))) (Fin.ext (by simp only [row]; omega))

theorem b27 : val_main_v27 (F := Ideal) v (ix5 r n i h e) = if hn : n.val = 0 then 0 else v (ix2 (pos r (row ⟨n.val - 1, by omega⟩ i)) (col h e)) := by
  unfold val_main_v27
  by_cases hn : n.val = 0
  · rw [dif_pos hn]
    refine (concatenate_pair_apply_left (t := S4x16x128x4x128) (s₁ := S4x1x128x4x128) (s₂ := S4x15x128x4x128) 1 _ _ _ _ rfl (ix5 r 0 i h e) (fun b => ?_)).trans ?_
    · match b with
      | ⟨0, _⟩ => rfl
      | ⟨1, _⟩ => exact hn.symm
      | ⟨2, _⟩ => rfl
      | ⟨3, _⟩ => rfl
      | ⟨4, _⟩ => rfl
    · rw [val_main_v25_apply, val_main_cst_5_apply]; exact zero_word
  · rw [dif_neg hn]
    refine (concatenate_pair_apply_right (t := S4x16x128x4x128) (s₁ := S4x1x128x4x128) (s₂ := S4x15x128x4x128) 1 _ _ _ _ rfl rfl (ix5 r ⟨n.val - 1, by omega⟩ i h e) (fun b => ?_) ?_).trans ?_
    · match b with
      | ⟨0, _⟩ => exact fun _ => rfl
      | ⟨1, _⟩ => exact fun hb => absurd rfl hb
      | ⟨2, _⟩ => exact fun _ => rfl
      | ⟨3, _⟩ => exact fun _ => rfl
      | ⟨4, _⟩ => exact fun _ => rfl
    · show n.val - 1 + 1 = n.val
      omega
    · rw [val_main_v26_apply]
      refine Eq.trans (congrArg (val_main_v23 (F := Ideal) v) (funext fun a => ?_)) (b23 v r ⟨n.val - 1, by omega⟩ i h e)
      match a with
      | ⟨0, _⟩ => rfl
      | ⟨1, _⟩ => rfl
      | ⟨2, _⟩ => rfl
      | ⟨3, _⟩ => rfl
      | ⟨4, _⟩ => rfl

theorem b29 : val_main_v29 (F := Ideal) v (ix5 r n w h e) = win v r n w h e := by
  unfold val_main_v29 win
  by_cases hw : w.val < 128
  · refine (concatenate_pair_apply_left (t := S4x16x256x4x128) (s₁ := S4x16x128x4x128) (s₂ := S4x16x128x4x128) 2 _ _ _ _ rfl (ix5 r n ⟨w.val, hw⟩ h e) (fun b => ?_)).trans ?_
    · match b with
      | ⟨0, _⟩ => rfl
      | ⟨1, _⟩ => rfl
      | ⟨2, _⟩ => rfl
      | ⟨3, _⟩ => rfl
      | ⟨4, _⟩ => rfl
    · rw [b27]
      by_cases hn : n.val = 0
      · rw [dif_pos hn, dif_pos (by omega)]
      · rw [dif_neg hn, dif_neg (by omega)]
        exact congrArg (fun z => v (ix2 (pos r z) (col h e))) (Fin.ext (by simp only [row]; omega))
  · refine (concatenate_pair_apply_right (t := S4x16x256x4x128) (s₁ := S4x16x128x4x128) (s₂ := S4x16x128x4x128) 2 _ _ _ _ rfl rfl (ix5 r n ⟨w.val - 128, by omega⟩ h e) (fun b => ?_) ?_).trans ?_
    · match b with
      | ⟨0, _⟩ => exact fun _ => rfl
      | ⟨1, _⟩ => exact fun _ => rfl
      | ⟨2, _⟩ => exact fun hb => absurd rfl hb
      | ⟨3, _⟩ => exact fun _ => rfl
      | ⟨4, _⟩ => exact fun _ => rfl
    · show w.val - 128 + 128 = w.val
      omega
    · rw [b23, dif_neg (by omega)]
      exact congrArg (fun z => v (ix2 (pos r z) (col h e))) (Fin.ext (by simp only [row]; omega))

/-- The scale of the scores. -/
def sc : EReal := Ideal.ofBits .f32 0x3DB504F3#32

theorem b32 : val_main_v32 (F := Ideal) q k (ix5 r n h i w) = (∑ e : Fin 128, q (ix2 (pos r (row n i)) (col h e)) * win k r n w h e) * sc := by
  rw [val_main_v32_apply, val_main_v31_apply, val_main_cst_7_apply, val_main_v30_apply]
  refine congrArg (fun z : EReal => z * sc) (Finset.sum_congr rfl fun e _ => ?_)
  rw [show lidx_main_v30 (ix5 r n h i w) e = ix5 r n i h e from funext fun a => match a with | ⟨0, _⟩ => rfl | ⟨1, _⟩ => rfl | ⟨2, _⟩ => rfl | ⟨3, _⟩ => rfl | ⟨4, _⟩ => rfl, show ridx_main_v30 (ix5 r n h i w) e = ix5 r n w h e from funext fun a => match a with | ⟨0, _⟩ => rfl | ⟨1, _⟩ => rfl | ⟨2, _⟩ => rfl | ⟨3, _⟩ => rfl | ⟨4, _⟩ => rfl, b11, b20]

/-- Whether query `i` of block `n` sees entry `w` of its window. -/
def ok (n : Fin 16) (i : Fin 128) (w : Fin 256) : Prop := i.val ≤ w.val ∧ w.val ≤ 128 + i.val ∧ 128 ≤ n.val * 128 + w.val

instance : Decidable (ok n i w) := by unfold ok; infer_instance

theorem near_word : ∀ (i : Fin 128) (w : Fin 256), IntOp.andi (IntOp.cmpi .sge (IntOp.subi (IntOp.addi 128#32 (BitVec.ofNat 32 i.val)) (BitVec.ofNat 32 w.val)) 0#32) (IntOp.cmpi .sle (IntOp.subi (IntOp.addi 128#32 (BitVec.ofNat 32 i.val)) (BitVec.ofNat 32 w.val)) 128#32) = if i.val ≤ w.val ∧ w.val ≤ 128 + i.val then 1#1 else 0#1 := by
  decide +kernel

theorem first_word : ∀ (n : Fin 16) (w : Fin 256), IntOp.cmpi .sge (IntOp.addi (IntOp.subi (IntOp.muli (BitVec.ofNat 32 n.val) 128#32) 128#32) (BitVec.ofNat 32 w.val)) 0#32 = if 128 ≤ n.val * 128 + w.val then 1#1 else 0#1 := by
  decide +kernel

theorem b62 : val_main_v62 (F := Ideal) (ix3 n i w) = if ok n i w then 1#1 else 0#1 := by
  have h1 : val_main_v60 (F := Ideal) (ix3 n i w) = _ := near_word i w
  have h2 : val_main_v61 (F := Ideal) (ix3 n i w) = _ := first_word n w
  rw [val_main_v62_apply, h1, h2]
  by_cases g : i.val ≤ w.val ∧ w.val ≤ 128 + i.val
  · by_cases g' : 128 ≤ n.val * 128 + w.val
    · rw [if_pos g, if_pos g', if_pos (show ok n i w from ⟨g.1, g.2, g'⟩)]; rfl
    · rw [if_pos g, if_neg g', if_neg fun z : ok n i w => g' z.2.2]; rfl
  · rw [if_neg g, if_neg fun z : ok n i w => g ⟨z.1, z.2.1⟩]
    by_cases g' : 128 ≤ n.val * 128 + w.val
    · rw [if_pos g']; rfl
    · rw [if_neg g']; rfl

/-- The masked score of query `i` of block `n` against entry `w` of its window. -/
def S (q k : X) (r : Fin 4) (n : Fin 16) (h : Fin 4) (i : Fin 128) (w : Fin 256) : EReal :=
  if ok n i w then (∑ e : Fin 128, q (ix2 (pos r (row n i)) (col h e)) * win k r n w h e) * sc + val_main_v71 (F := Ideal) (ix3 h i w) else ⊥

theorem b76_1 : val_main_v76_1 (F := Ideal) (ix5 r n h i w) = if ok n i w then 1#1 else 0#1 := by
  rw [val_main_v76_1_apply, val_main_v75_apply, ← b62]
  exact congrArg (val_main_v62 (F := Ideal)) (funext fun a => match a with | ⟨0, _⟩ => rfl | ⟨1, _⟩ => rfl | ⟨2, _⟩ => rfl)

theorem b73 : val_main_v73 (F := Ideal) (ix5 r n h i w) = val_main_v71 (F := Ideal) (ix3 h i w) := by
  rw [val_main_v73_apply, val_main_v72_apply]
  exact congrArg (val_main_v71 (F := Ideal)) (funext fun a => match a with | ⟨0, _⟩ => rfl | ⟨1, _⟩ => rfl | ⟨2, _⟩ => rfl)

theorem bot_word : FloatOps.ofBits (F := Ideal) .f32 0xFF800000#32 = (⊥ : EReal) := by
  show Ideal.ofBits .f32 0xFF800000#32 = ⊥
  simp [Ideal.ofBits, Ideal.ieee]

theorem top_word : FloatOps.ofBits (F := Ideal) .f32 0x7F800000#32 = (⊤ : EReal) := by
  show Ideal.ofBits .f32 0x7F800000#32 = ⊤
  simp [Ideal.ofBits, Ideal.ieee]

theorem b76 : val_main_v76_0 (F := Ideal) q k (ix5 r n h i w) = S q k r n h i w := by
  rw [val_main_v76_0_apply, b76_1, val_main_v74_apply, b73, b32, val_main_call0_v2_apply]
  unfold S
  by_cases g : ok n i w
  · rw [if_pos g, if_pos g]; rfl
  · rw [if_neg g, if_neg g]; exact bot_word

end Cert.ReferenceIdeal.Ref
-- ==== Proof.RefRow.lean ====
module

public import proofs.«01_k».proof.Proof.RefBlk
public import Idealize.ShloMosaic.Lib.KernelVsHost

@[expose] public section

set_option maxRecDepth 16384

noncomputable section

/- The reference's weights and the gradient of its scores, one entry at a time. -/

namespace Cert.ReferenceIdeal.Ref

open Cert.ReferenceIdeal Cert.ReferenceIdeal.Gen Cert.ReferenceIdeal.Read Idealize.ShloMosaic Idealize.ShloMosaic.TcCoe Idealize.SL.Sem
open Cert.KernelIdeal.Blk (col)
open Cert.KernelIdeal.Pre (pos)

/-- The one index of an axis of size one. -/
def one : Fin 1 := ⟨0, Nat.zero_lt_one⟩

variable (q k v d : X) (l : FVec Ideal S8192x4 .f32)
variable (r : Fin 4) (n : Fin 16) (i : Fin 128) (h : Fin 4) (e : Fin 128) (y : Fin 2048) (p : Fin 8192) (w : Fin 256)

/-- The largest masked score of a row. -/
def mx (q k : X) (r : Fin 4) (n : Fin 16) (h : Fin 4) (i : Fin 128) : EReal := Finset.univ.sup (S q k r n h i)

theorem b77 : val_main_v77 (F := Ideal) q k (ix4 r n h i) = mx q k r n h i := by
  unfold val_main_v77 val_main_cst_15
  have hf : FKind.Formats .f32 := by decide
  have hr : S4x16x4x128x256.Reduces [4] S4x16x4x128 := by decide
  have hn : 4286578688#32 = FKind.maximumf.neutral .f32 hf := rfl
  rw [hostReduce_maximumf_eq_multiReduction (F := Ideal) (val_main_v76_0 (F := Ideal) q k) 4286578688#32 reducesTo_S4x16x4x128x256_S4x16x4x128_d4 h_S_ hr hf hn]
  rw [Ideal.multiReduction_maximumf_single]
  refine Eq.trans (b := (Finset.univ : Finset (Fin 256)).fold max (⊥ : EReal) (S q k r n h i)) (congrArg₂ (fun z f => (Finset.univ : Finset (Fin 256)).fold max z f) bot_word (funext fun w => ?_)) rfl
  refine Eq.trans (congrArg (val_main_v76_0 (F := Ideal) q k) (?_ : _ = ix5 r n h i w)) (b76 q k r n i h w)
  exact funext fun a => Fin.ext (by match a with | ⟨0, _⟩ => rfl | ⟨1, _⟩ => rfl | ⟨2, _⟩ => rfl | ⟨3, _⟩ => rfl | ⟨4, _⟩ => rfl)

/-- The largest masked score of a row where it is a real number, and zero otherwise. -/
def m0 (q k : X) (r : Fin 4) (n : Fin 16) (h : Fin 4) (i : Fin 128) : EReal :=
  if mx q k r n h i = ⊤ ∨ mx q k r n h i = ⊥ then 0 else mx q k r n h i

theorem guard_m0 : Row.Guard (S q k r n h i) (m0 q k r n h i) := by
  refine ⟨mx q k r n h i, fun w => Finset.le_sup (Finset.mem_univ w), ?_, rfl⟩
  obtain ⟨w, _, hw⟩ := Finset.exists_mem_eq_sup (Finset.univ : Finset (Fin 256)) ⟨0, Finset.mem_univ _⟩ (S q k r n h i)
  exact ⟨w, hw.symm⟩

theorem abs_lt_top (x : EReal) : Ideal.cmp .olt (max x (-x)) ⊤ = if x = ⊤ ∨ x = ⊥ then 0#1 else 1#1 := by
  induction x with
  | bot => simp [Ideal.cmp]
  | top => simp [Ideal.cmp]
  | coe x =>
    have : max (x : EReal) (-(x : EReal)) < ⊤ := max_lt (EReal.coe_lt_top x) (by rw [← EReal.coe_neg]; exact EReal.coe_lt_top _)
    simp [Ideal.cmp, this]

theorem b86 : val_main_v86 (F := Ideal) q k (ix4 r n h i) = m0 q k r n h i := by
  rw [val_main_v86_apply, val_main_v85_apply, val_main_v83_apply, val_main_v84_apply, val_main_cst_17_apply, val_main_call1_v1_apply, val_main_call1_v0_apply, val_main_cst_18_apply, b77, top_word, zero_word]
  unfold m0
  generalize mx q k r n h i = x
  show Scalar.select (Ideal.cmp .olt (max x (-x)) ⊤) x 0 = _
  rw [abs_lt_top]
  by_cases g : x = ⊤ ∨ x = ⊥
  · rw [if_pos g, if_pos g]; rfl
  · rw [if_neg g, if_neg g]; rfl

theorem s87 : val_main_v87 (F := Ideal) q k (ix5 r n h i one) = val_main_v86 (F := Ideal) q k (ix4 r n h i) := by
  rw [val_main_v87_apply]
  refine congrArg (val_main_v86 (F := Ideal) q k) (funext fun a => Fin.ext ?_)
  match a with
  | ⟨0, _⟩ => first | rfl | (simp only [ix1, ix2, ix3, ix4, ix5, pos, row, col, one]; have hr : r.val < 4 := r.isLt; have hn : n.val < 16 := n.isLt; have hi : i.val < 128 := i.isLt; have hh : h.val < 4 := h.isLt; omega)
  | ⟨1, _⟩ => first | rfl | (simp only [ix1, ix2, ix3, ix4, ix5, pos, row, col, one]; have hr : r.val < 4 := r.isLt; have hn : n.val < 16 := n.isLt; have hi : i.val < 128 := i.isLt; have hh : h.val < 4 := h.isLt; omega)
  | ⟨2, _⟩ => first | rfl | (simp only [ix1, ix2, ix3, ix4, ix5, pos, row, col, one]; have hr : r.val < 4 := r.isLt; have hn : n.val < 16 := n.isLt; have hi : i.val < 128 := i.isLt; have hh : h.val < 4 := h.isLt; omega)
  | ⟨3, _⟩ => first | rfl | (simp only [ix1, ix2, ix3, ix4, ix5, pos, row, col, one]; have hr : r.val < 4 := r.isLt; have hn : n.val < 16 := n.isLt; have hi : i.val < 128 := i.isLt; have hh : h.val < 4 := h.isLt; omega)

theorem s88 : val_main_v88 (F := Ideal) q k (ix5 r n h i w) = val_main_v87 (F := Ideal) q k (ix5 r n h i one) := by
  rw [val_main_v88_apply]
  refine congrArg (val_main_v87 (F := Ideal) q k) (funext fun a => Fin.ext ?_)
  match a with
  | ⟨0, _⟩ => first | rfl | (simp only [ix1, ix2, ix3, ix4, ix5, pos, row, col, one]; have hr : r.val < 4 := r.isLt; have hn : n.val < 16 := n.isLt; have hi : i.val < 128 := i.isLt; have hh : h.val < 4 := h.isLt; have hw : w.val < 256 := w.isLt; omega)
  | ⟨1, _⟩ => first | rfl | (simp only [ix1, ix2, ix3, ix4, ix5, pos, row, col, one]; have hr : r.val < 4 := r.isLt; have hn : n.val < 16 := n.isLt; have hi : i.val < 128 := i.isLt; have hh : h.val < 4 := h.isLt; have hw : w.val < 256 := w.isLt; omega)
  | ⟨2, _⟩ => first | rfl | (simp only [ix1, ix2, ix3, ix4, ix5, pos, row, col, one]; have hr : r.val < 4 := r.isLt; have hn : n.val < 16 := n.isLt; have hi : i.val < 128 := i.isLt; have hh : h.val < 4 := h.isLt; have hw : w.val < 256 := w.isLt; omega)
  | ⟨3, _⟩ => first | rfl | (simp only [ix1, ix2, ix3, ix4, ix5, pos, row, col, one]; have hr : r.val < 4 := r.isLt; have hn : n.val < 16 := n.isLt; have hi : i.val < 128 := i.isLt; have hh : h.val < 4 := h.isLt; have hw : w.val < 256 := w.isLt; omega)
  | ⟨4, _⟩ => first | rfl | (simp only [ix1, ix2, ix3, ix4, ix5, pos, row, col, one]; have hr : r.val < 4 := r.isLt; have hn : n.val < 16 := n.isLt; have hi : i.val < 128 := i.isLt; have hh : h.val < 4 := h.isLt; have hw : w.val < 256 := w.isLt; omega)

theorem b90 : val_main_v90 (F := Ideal) q k (ix5 r n h i w) = Ideal.exp (S q k r n h i w - m0 q k r n h i) := by
  rw [val_main_v90_apply, val_main_v89_apply, b76, s88, s87, b86]
  rfl

theorem b91 : val_main_v91 (F := Ideal) q k (ix4 r n h i) = Row.tot (S q k r n h i) (m0 q k r n h i) := by
  rw [val_main_v91_apply, val_main_cst_19_apply, zero_word, zero_add]
  refine Finset.sum_congr rfl fun w _ => ?_
  rw [show idx_main_v91 (ix4 r n h i) w = ix5 r n h i w from funext fun a => match a with | ⟨0, _⟩ => rfl | ⟨1, _⟩ => rfl | ⟨2, _⟩ => rfl | ⟨3, _⟩ => rfl | ⟨4, _⟩ => rfl, b90]

theorem b93 : val_main_v93 (F := Ideal) q k (ix4 r n h i) = Row.lse (S q k r n h i) (m0 q k r n h i) := by
  rw [val_main_v93_apply, val_main_v92_apply, b91, b86]
  rfl

theorem s94 : val_main_v94 (F := Ideal) q k (ix5 r n h i one) = val_main_v93 (F := Ideal) q k (ix4 r n h i) := by
  rw [val_main_v94_apply]
  refine congrArg (val_main_v93 (F := Ideal) q k) (funext fun a => Fin.ext ?_)
  match a with
  | ⟨0, _⟩ => first | rfl | (simp only [ix1, ix2, ix3, ix4, ix5, pos, row, col, one]; have hr : r.val < 4 := r.isLt; have hn : n.val < 16 := n.isLt; have hi : i.val < 128 := i.isLt; have hh : h.val < 4 := h.isLt; omega)
  | ⟨1, _⟩ => first | rfl | (simp only [ix1, ix2, ix3, ix4, ix5, pos, row, col, one]; have hr : r.val < 4 := r.isLt; have hn : n.val < 16 := n.isLt; have hi : i.val < 128 := i.isLt; have hh : h.val < 4 := h.isLt; omega)
  | ⟨2, _⟩ => first | rfl | (simp only [ix1, ix2, ix3, ix4, ix5, pos, row, col, one]; have hr : r.val < 4 := r.isLt; have hn : n.val < 16 := n.isLt; have hi : i.val < 128 := i.isLt; have hh : h.val < 4 := h.isLt; omega)
  | ⟨3, _⟩ => first | rfl | (simp only [ix1, ix2, ix3, ix4, ix5, pos, row, col, one]; have hr : r.val < 4 := r.isLt; have hn : n.val < 16 := n.isLt; have hi : i.val < 128 := i.isLt; have hh : h.val < 4 := h.isLt; omega)

theorem s95 : val_main_v95 (F := Ideal) q k (ix5 r n h i w) = val_main_v94 (F := Ideal) q k (ix5 r n h i one) := by
  rw [val_main_v95_apply]
  refine congrArg (val_main_v94 (F := Ideal) q k) (funext fun a => Fin.ext ?_)
  match a with
  | ⟨0, _⟩ => first | rfl | (simp only [ix1, ix2, ix3, ix4, ix5, pos, row, col, one]; have hr : r.val < 4 := r.isLt; have hn : n.val < 16 := n.isLt; have hi : i.val < 128 := i.isLt; have hh : h.val < 4 := h.isLt; have hw : w.val < 256 := w.isLt; omega)
  | ⟨1, _⟩ => first | rfl | (simp only [ix1, ix2, ix3, ix4, ix5, pos, row, col, one]; have hr : r.val < 4 := r.isLt; have hn : n.val < 16 := n.isLt; have hi : i.val < 128 := i.isLt; have hh : h.val < 4 := h.isLt; have hw : w.val < 256 := w.isLt; omega)
  | ⟨2, _⟩ => first | rfl | (simp only [ix1, ix2, ix3, ix4, ix5, pos, row, col, one]; have hr : r.val < 4 := r.isLt; have hn : n.val < 16 := n.isLt; have hi : i.val < 128 := i.isLt; have hh : h.val < 4 := h.isLt; have hw : w.val < 256 := w.isLt; omega)
  | ⟨3, _⟩ => first | rfl | (simp only [ix1, ix2, ix3, ix4, ix5, pos, row, col, one]; have hr : r.val < 4 := r.isLt; have hn : n.val < 16 := n.isLt; have hi : i.val < 128 := i.isLt; have hh : h.val < 4 := h.isLt; have hw : w.val < 256 := w.isLt; omega)
  | ⟨4, _⟩ => first | rfl | (simp only [ix1, ix2, ix3, ix4, ix5, pos, row, col, one]; have hr : r.val < 4 := r.isLt; have hn : n.val < 16 := n.isLt; have hi : i.val < 128 := i.isLt; have hh : h.val < 4 := h.isLt; have hw : w.val < 256 := w.isLt; omega)

/-- The weight of entry `w` for query `i`. -/
def W (q k : X) (r : Fin 4) (n : Fin 16) (h : Fin 4) (i : Fin 128) (w : Fin 256) : EReal := Row.wt (S q k r n h i) (m0 q k r n h i) w

theorem b97 : val_main_v97 (F := Ideal) q k (ix5 r n h i w) = W q k r n h i w := by
  rw [val_main_v97_apply, val_main_v96_apply, b76, s95, s94, b93]
  rfl

theorem b98 : val_main_v98 (F := Ideal) q k v (ix5 r n h e i) = ∑ w : Fin 256, win v r n w h e * W q k r n h i w := by
  rw [val_main_v98_apply]
  refine Finset.sum_congr rfl fun w _ => ?_
  rw [show lidx_main_v98 (ix5 r n h e i) w = ix5 r n w h e from funext fun a => match a with | ⟨0, _⟩ => rfl | ⟨1, _⟩ => rfl | ⟨2, _⟩ => rfl | ⟨3, _⟩ => rfl | ⟨4, _⟩ => rfl, show ridx_main_v98 (ix5 r n h e i) w = ix5 r n h i w from funext fun a => match a with | ⟨0, _⟩ => rfl | ⟨1, _⟩ => rfl | ⟨2, _⟩ => rfl | ⟨3, _⟩ => rfl | ⟨4, _⟩ => rfl, b29, b97]

theorem s99 : val_main_v99 (F := Ideal) q k v (ix5 r n i h e) = val_main_v98 (F := Ideal) q k v (ix5 r n h e i) := by
  rw [val_main_v99_apply]
  refine congrArg (val_main_v98 (F := Ideal) q k v) (funext fun a => Fin.ext ?_)
  match a with
  | ⟨0, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨1, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨2, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨3, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨4, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)

theorem s106 : val_main_v106 (F := Ideal) q k v (ix4 r (row n i) h e) = val_main_v99 (F := Ideal) q k v (ix5 r n i h e) := by
  rw [val_main_v106_apply]
  refine congrArg (val_main_v99 (F := Ideal) q k v) (funext fun a => Fin.ext ?_)
  match a with
  | ⟨0, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨1, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨2, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨3, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨4, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)

theorem s107 : val_main_v107 (F := Ideal) q k v (ix4 y r h e) = val_main_v106 (F := Ideal) q k v (ix4 r y h e) := by
  rw [val_main_v107_apply]
  refine congrArg (val_main_v106 (F := Ideal) q k v) (funext fun a => Fin.ext ?_)
  match a with
  | ⟨0, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨1, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨2, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨3, _⟩ => first | rfl | (simp only [ix1, ix2, ix3, ix4, ix5, pos, row, col]; have hr : r.val < 4 := r.isLt; have hh : h.val < 4 := h.isLt; have he : e.val < 128 := e.isLt; have hy : y.val < 2048 := y.isLt; omega)

theorem s108 : val_main_v108 (F := Ideal) q k v (ix3 (pos r y) h e) = val_main_v107 (F := Ideal) q k v (ix4 y r h e) := by
  rw [val_main_v108_apply]
  refine congrArg (val_main_v107 (F := Ideal) q k v) (funext fun a => Fin.ext ?_)
  match a with
  | ⟨0, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨1, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨2, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨3, _⟩ => first | rfl | (simp only [ix1, ix2, ix3, ix4, ix5, pos, row, col]; have hr : r.val < 4 := r.isLt; have hh : h.val < 4 := h.isLt; have he : e.val < 128 := e.isLt; have hy : y.val < 2048 := y.isLt; omega)

theorem b108 : val_main_v108 (F := Ideal) q k v (ix3 (pos r (row n i)) h e) = ∑ w : Fin 256, win v r n w h e * W q k r n h i w := by
  rw [s108, s107, s106, s99, b98]

theorem s100 : val_main_v100 (F := Ideal) q k (ix4 r n i h) = val_main_v93 (F := Ideal) q k (ix4 r n h i) := by
  rw [val_main_v100_apply]
  refine congrArg (val_main_v93 (F := Ideal) q k) (funext fun a => Fin.ext ?_)
  match a with
  | ⟨0, _⟩ => first | rfl | (simp only [ix1, ix2, ix3, ix4, ix5, pos, row, col]; have hr : r.val < 4 := r.isLt; have hn : n.val < 16 := n.isLt; have hi : i.val < 128 := i.isLt; have hh : h.val < 4 := h.isLt; omega)
  | ⟨1, _⟩ => first | rfl | (simp only [ix1, ix2, ix3, ix4, ix5, pos, row, col]; have hr : r.val < 4 := r.isLt; have hn : n.val < 16 := n.isLt; have hi : i.val < 128 := i.isLt; have hh : h.val < 4 := h.isLt; omega)
  | ⟨2, _⟩ => first | rfl | (simp only [ix1, ix2, ix3, ix4, ix5, pos, row, col]; have hr : r.val < 4 := r.isLt; have hn : n.val < 16 := n.isLt; have hi : i.val < 128 := i.isLt; have hh : h.val < 4 := h.isLt; omega)
  | ⟨3, _⟩ => first | rfl | (simp only [ix1, ix2, ix3, ix4, ix5, pos, row, col]; have hr : r.val < 4 := r.isLt; have hn : n.val < 16 := n.isLt; have hi : i.val < 128 := i.isLt; have hh : h.val < 4 := h.isLt; omega)

theorem s101 : val_main_v101 (F := Ideal) q k (ix5 r n i h one) = val_main_v100 (F := Ideal) q k (ix4 r n i h) := by
  rw [val_main_v101_apply]
  refine congrArg (val_main_v100 (F := Ideal) q k) (funext fun a => Fin.ext ?_)
  match a with
  | ⟨0, _⟩ => first | rfl | (simp only [ix1, ix2, ix3, ix4, ix5, pos, row, col, one]; have hr : r.val < 4 := r.isLt; have hn : n.val < 16 := n.isLt; have hi : i.val < 128 := i.isLt; have hh : h.val < 4 := h.isLt; omega)
  | ⟨1, _⟩ => first | rfl | (simp only [ix1, ix2, ix3, ix4, ix5, pos, row, col, one]; have hr : r.val < 4 := r.isLt; have hn : n.val < 16 := n.isLt; have hi : i.val < 128 := i.isLt; have hh : h.val < 4 := h.isLt; omega)
  | ⟨2, _⟩ => first | rfl | (simp only [ix1, ix2, ix3, ix4, ix5, pos, row, col, one]; have hr : r.val < 4 := r.isLt; have hn : n.val < 16 := n.isLt; have hi : i.val < 128 := i.isLt; have hh : h.val < 4 := h.isLt; omega)
  | ⟨3, _⟩ => first | rfl | (simp only [ix1, ix2, ix3, ix4, ix5, pos, row, col, one]; have hr : r.val < 4 := r.isLt; have hn : n.val < 16 := n.isLt; have hi : i.val < 128 := i.isLt; have hh : h.val < 4 := h.isLt; omega)

theorem s102 : val_main_v102 (F := Ideal) q k (ix4 r (row n i) h one) = val_main_v101 (F := Ideal) q k (ix5 r n i h one) := by
  rw [val_main_v102_apply]
  refine congrArg (val_main_v101 (F := Ideal) q k) (funext fun a => Fin.ext ?_)
  match a with
  | ⟨0, _⟩ => first | rfl | (simp only [ix1, ix2, ix3, ix4, ix5, pos, row, col, one]; have hr : r.val < 4 := r.isLt; have hn : n.val < 16 := n.isLt; have hi : i.val < 128 := i.isLt; have hh : h.val < 4 := h.isLt; omega)
  | ⟨1, _⟩ => first | rfl | (simp only [ix1, ix2, ix3, ix4, ix5, pos, row, col, one]; have hr : r.val < 4 := r.isLt; have hn : n.val < 16 := n.isLt; have hi : i.val < 128 := i.isLt; have hh : h.val < 4 := h.isLt; omega)
  | ⟨2, _⟩ => first | rfl | (simp only [ix1, ix2, ix3, ix4, ix5, pos, row, col, one]; have hr : r.val < 4 := r.isLt; have hn : n.val < 16 := n.isLt; have hi : i.val < 128 := i.isLt; have hh : h.val < 4 := h.isLt; omega)
  | ⟨3, _⟩ => first | rfl | (simp only [ix1, ix2, ix3, ix4, ix5, pos, row, col, one]; have hr : r.val < 4 := r.isLt; have hn : n.val < 16 := n.isLt; have hi : i.val < 128 := i.isLt; have hh : h.val < 4 := h.isLt; omega)
  | ⟨4, _⟩ => first | rfl | (simp only [ix1, ix2, ix3, ix4, ix5, pos, row, col, one]; have hr : r.val < 4 := r.isLt; have hn : n.val < 16 := n.isLt; have hi : i.val < 128 := i.isLt; have hh : h.val < 4 := h.isLt; omega)

theorem s103 : val_main_v103 (F := Ideal) q k (ix4 y r h one) = val_main_v102 (F := Ideal) q k (ix4 r y h one) := by
  rw [val_main_v103_apply]
  refine congrArg (val_main_v102 (F := Ideal) q k) (funext fun a => Fin.ext ?_)
  match a with
  | ⟨0, _⟩ => first | rfl | (simp only [ix1, ix2, ix3, ix4, ix5, pos, row, col, one]; have hr : r.val < 4 := r.isLt; have hh : h.val < 4 := h.isLt; have hy : y.val < 2048 := y.isLt; omega)
  | ⟨1, _⟩ => first | rfl | (simp only [ix1, ix2, ix3, ix4, ix5, pos, row, col, one]; have hr : r.val < 4 := r.isLt; have hh : h.val < 4 := h.isLt; have hy : y.val < 2048 := y.isLt; omega)
  | ⟨2, _⟩ => first | rfl | (simp only [ix1, ix2, ix3, ix4, ix5, pos, row, col, one]; have hr : r.val < 4 := r.isLt; have hh : h.val < 4 := h.isLt; have hy : y.val < 2048 := y.isLt; omega)
  | ⟨3, _⟩ => first | rfl | (simp only [ix1, ix2, ix3, ix4, ix5, pos, row, col, one]; have hr : r.val < 4 := r.isLt; have hh : h.val < 4 := h.isLt; have hy : y.val < 2048 := y.isLt; omega)

theorem s104 : val_main_v104 (F := Ideal) q k (ix3 (pos r y) h one) = val_main_v103 (F := Ideal) q k (ix4 y r h one) := by
  rw [val_main_v104_apply]
  refine congrArg (val_main_v103 (F := Ideal) q k) (funext fun a => Fin.ext ?_)
  match a with
  | ⟨0, _⟩ => first | rfl | (simp only [ix1, ix2, ix3, ix4, ix5, pos, row, col, one]; have hr : r.val < 4 := r.isLt; have hh : h.val < 4 := h.isLt; have hy : y.val < 2048 := y.isLt; omega)
  | ⟨1, _⟩ => first | rfl | (simp only [ix1, ix2, ix3, ix4, ix5, pos, row, col, one]; have hr : r.val < 4 := r.isLt; have hh : h.val < 4 := h.isLt; have hy : y.val < 2048 := y.isLt; omega)
  | ⟨2, _⟩ => first | rfl | (simp only [ix1, ix2, ix3, ix4, ix5, pos, row, col, one]; have hr : r.val < 4 := r.isLt; have hh : h.val < 4 := h.isLt; have hy : y.val < 2048 := y.isLt; omega)
  | ⟨3, _⟩ => first | rfl | (simp only [ix1, ix2, ix3, ix4, ix5, pos, row, col, one]; have hr : r.val < 4 := r.isLt; have hh : h.val < 4 := h.isLt; have hy : y.val < 2048 := y.isLt; omega)

theorem s105 : val_main_v105 (F := Ideal) q k (ix2 p h) = val_main_v104 (F := Ideal) q k (ix3 p h one) := by
  rw [val_main_v105_apply]
  refine congrArg (val_main_v104 (F := Ideal) q k) (funext fun a => Fin.ext ?_)
  match a with
  | ⟨0, _⟩ => first | rfl | (simp only [ix1, ix2, ix3, ix4, ix5, pos, row, col, one]; have hh : h.val < 4 := h.isLt; have hp : p.val < 8192 := p.isLt; omega)
  | ⟨1, _⟩ => first | rfl | (simp only [ix1, ix2, ix3, ix4, ix5, pos, row, col, one]; have hh : h.val < 4 := h.isLt; have hp : p.val < 8192 := p.isLt; omega)
  | ⟨2, _⟩ => first | rfl | (simp only [ix1, ix2, ix3, ix4, ix5, pos, row, col, one]; have hh : h.val < 4 := h.isLt; have hp : p.val < 8192 := p.isLt; omega)

theorem b105 : val_main_v105 (F := Ideal) q k (ix2 (pos r (row n i)) h) = Row.lse (S q k r n h i) (m0 q k r n h i) := by
  rw [s105, s104, s103, s102, s101, s100, b93]

theorem s112 : val_main_v112 (F := Ideal) l (ix3 p h one) = l (ix2 p h) := by
  rw [val_main_v112_apply]
  refine congrArg (l) (funext fun a => Fin.ext ?_)
  match a with
  | ⟨0, _⟩ => first | rfl | (simp only [ix1, ix2, ix3, ix4, ix5, pos, row, col, one]; have hh : h.val < 4 := h.isLt; have hp : p.val < 8192 := p.isLt; omega)
  | ⟨1, _⟩ => first | rfl | (simp only [ix1, ix2, ix3, ix4, ix5, pos, row, col, one]; have hh : h.val < 4 := h.isLt; have hp : p.val < 8192 := p.isLt; omega)

theorem s113 : val_main_v113 (F := Ideal) l (ix4 y r h one) = val_main_v112 (F := Ideal) l (ix3 (pos r y) h one) := by
  rw [val_main_v113_apply]
  refine congrArg (val_main_v112 (F := Ideal) l) (funext fun a => Fin.ext ?_)
  match a with
  | ⟨0, _⟩ => first | rfl | (simp only [ix1, ix2, ix3, ix4, ix5, pos, row, col, one]; have hr : r.val < 4 := r.isLt; have hh : h.val < 4 := h.isLt; have hy : y.val < 2048 := y.isLt; omega)
  | ⟨1, _⟩ => first | rfl | (simp only [ix1, ix2, ix3, ix4, ix5, pos, row, col, one]; have hr : r.val < 4 := r.isLt; have hh : h.val < 4 := h.isLt; have hy : y.val < 2048 := y.isLt; omega)
  | ⟨2, _⟩ => first | rfl | (simp only [ix1, ix2, ix3, ix4, ix5, pos, row, col, one]; have hr : r.val < 4 := r.isLt; have hh : h.val < 4 := h.isLt; have hy : y.val < 2048 := y.isLt; omega)

theorem s114 : val_main_v114 (F := Ideal) l (ix4 r y h one) = val_main_v113 (F := Ideal) l (ix4 y r h one) := by
  rw [val_main_v114_apply]
  refine congrArg (val_main_v113 (F := Ideal) l) (funext fun a => Fin.ext ?_)
  match a with
  | ⟨0, _⟩ => first | rfl | (simp only [ix1, ix2, ix3, ix4, ix5, pos, row, col, one]; have hr : r.val < 4 := r.isLt; have hh : h.val < 4 := h.isLt; have hy : y.val < 2048 := y.isLt; omega)
  | ⟨1, _⟩ => first | rfl | (simp only [ix1, ix2, ix3, ix4, ix5, pos, row, col, one]; have hr : r.val < 4 := r.isLt; have hh : h.val < 4 := h.isLt; have hy : y.val < 2048 := y.isLt; omega)
  | ⟨2, _⟩ => first | rfl | (simp only [ix1, ix2, ix3, ix4, ix5, pos, row, col, one]; have hr : r.val < 4 := r.isLt; have hh : h.val < 4 := h.isLt; have hy : y.val < 2048 := y.isLt; omega)
  | ⟨3, _⟩ => first | rfl | (simp only [ix1, ix2, ix3, ix4, ix5, pos, row, col, one]; have hr : r.val < 4 := r.isLt; have hh : h.val < 4 := h.isLt; have hy : y.val < 2048 := y.isLt; omega)

theorem s115 : val_main_v115 (F := Ideal) l (ix5 r n i h one) = val_main_v114 (F := Ideal) l (ix4 r (row n i) h one) := by
  rw [val_main_v115_apply]
  refine congrArg (val_main_v114 (F := Ideal) l) (funext fun a => Fin.ext ?_)
  match a with
  | ⟨0, _⟩ => first | rfl | (simp only [ix1, ix2, ix3, ix4, ix5, pos, row, col, one]; have hr : r.val < 4 := r.isLt; have hn : n.val < 16 := n.isLt; have hi : i.val < 128 := i.isLt; have hh : h.val < 4 := h.isLt; omega)
  | ⟨1, _⟩ => first | rfl | (simp only [ix1, ix2, ix3, ix4, ix5, pos, row, col, one]; have hr : r.val < 4 := r.isLt; have hn : n.val < 16 := n.isLt; have hi : i.val < 128 := i.isLt; have hh : h.val < 4 := h.isLt; omega)
  | ⟨2, _⟩ => first | rfl | (simp only [ix1, ix2, ix3, ix4, ix5, pos, row, col, one]; have hr : r.val < 4 := r.isLt; have hn : n.val < 16 := n.isLt; have hi : i.val < 128 := i.isLt; have hh : h.val < 4 := h.isLt; omega)
  | ⟨3, _⟩ => first | rfl | (simp only [ix1, ix2, ix3, ix4, ix5, pos, row, col, one]; have hr : r.val < 4 := r.isLt; have hn : n.val < 16 := n.isLt; have hi : i.val < 128 := i.isLt; have hh : h.val < 4 := h.isLt; omega)

theorem b116 : val_main_v116 (F := Ideal) l (ix4 r n i h) = l (ix2 (pos r (row n i)) h) := by
  rw [val_main_v116_apply, val_main_cst_20_apply, zero_word, zero_add, Fin.sum_univ_one]
  rw [show idx_main_v116 (ix4 r n i h) 0 = ix5 r n i h one from funext fun a => match a with | ⟨0, _⟩ => rfl | ⟨1, _⟩ => rfl | ⟨2, _⟩ => rfl | ⟨3, _⟩ => rfl | ⟨4, _⟩ => rfl, s115, s114, s113, s112]

theorem s117 : val_main_v117 (F := Ideal) l (ix4 r n h i) = val_main_v116 (F := Ideal) l (ix4 r n i h) := by
  rw [val_main_v117_apply]
  refine congrArg (val_main_v116 (F := Ideal) l) (funext fun a => Fin.ext ?_)
  match a with
  | ⟨0, _⟩ => first | rfl | (simp only [ix1, ix2, ix3, ix4, ix5, pos, row, col]; have hr : r.val < 4 := r.isLt; have hn : n.val < 16 := n.isLt; have hi : i.val < 128 := i.isLt; have hh : h.val < 4 := h.isLt; omega)
  | ⟨1, _⟩ => first | rfl | (simp only [ix1, ix2, ix3, ix4, ix5, pos, row, col]; have hr : r.val < 4 := r.isLt; have hn : n.val < 16 := n.isLt; have hi : i.val < 128 := i.isLt; have hh : h.val < 4 := h.isLt; omega)
  | ⟨2, _⟩ => first | rfl | (simp only [ix1, ix2, ix3, ix4, ix5, pos, row, col]; have hr : r.val < 4 := r.isLt; have hn : n.val < 16 := n.isLt; have hi : i.val < 128 := i.isLt; have hh : h.val < 4 := h.isLt; omega)
  | ⟨3, _⟩ => first | rfl | (simp only [ix1, ix2, ix3, ix4, ix5, pos, row, col]; have hr : r.val < 4 := r.isLt; have hn : n.val < 16 := n.isLt; have hi : i.val < 128 := i.isLt; have hh : h.val < 4 := h.isLt; omega)

theorem s118 : val_main_v118 (F := Ideal) d (ix5 r n h e i) = val_main_v111 (F := Ideal) d (ix5 r n i h e) := by
  rw [val_main_v118_apply]
  refine congrArg (val_main_v111 (F := Ideal) d) (funext fun a => Fin.ext ?_)
  match a with
  | ⟨0, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨1, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨2, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨3, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨4, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)

/-- The gradient of the output of query `i` against entry `w` of the values. -/
def dp (v d : X) (r : Fin 4) (n : Fin 16) (h : Fin 4) (i : Fin 128) (w : Fin 256) : EReal :=
  ∑ e : Fin 128, d (ix2 (pos r (row n i)) (col h e)) * win v r n w h e

theorem b119 : val_main_v119 (F := Ideal) v d (ix5 r n h i w) = dp v d r n h i w := by
  rw [val_main_v119_apply]
  refine Finset.sum_congr rfl fun e _ => ?_
  rw [show lidx_main_v119 (ix5 r n h i w) e = ix5 r n h e i from funext fun a => match a with | ⟨0, _⟩ => rfl | ⟨1, _⟩ => rfl | ⟨2, _⟩ => rfl | ⟨3, _⟩ => rfl | ⟨4, _⟩ => rfl, show ridx_main_v119 (ix5 r n h i w) e = ix5 r n w h e from funext fun a => match a with | ⟨0, _⟩ => rfl | ⟨1, _⟩ => rfl | ⟨2, _⟩ => rfl | ⟨3, _⟩ => rfl | ⟨4, _⟩ => rfl, s118, b111, b29]

theorem b122 : val_main_v122 (F := Ideal) q k v d (ix5 r n h i w) = dp v d r n h i w * W q k r n h i w := by
  rw [val_main_v122_apply, b119, b97]
  rfl

theorem b124 : val_main_v124 (F := Ideal) q k v d (ix4 r n h i) = ∑ w : Fin 256, -(dp v d r n h i w * W q k r n h i w) := by
  rw [val_main_v124_apply, val_main_cst_21_apply, zero_word, zero_add]
  refine Finset.sum_congr rfl fun w _ => ?_
  rw [show idx_main_v124 (ix4 r n h i) w = ix5 r n h i w from funext fun a => match a with | ⟨0, _⟩ => rfl | ⟨1, _⟩ => rfl | ⟨2, _⟩ => rfl | ⟨3, _⟩ => rfl | ⟨4, _⟩ => rfl, val_main_v123_apply, b122]
  rfl

theorem s125 : val_main_v125 (F := Ideal) q k v d (ix5 r n h i one) = val_main_v124 (F := Ideal) q k v d (ix4 r n h i) := by
  rw [val_main_v125_apply]
  refine congrArg (val_main_v124 (F := Ideal) q k v d) (funext fun a => Fin.ext ?_)
  match a with
  | ⟨0, _⟩ => first | rfl | (simp only [ix1, ix2, ix3, ix4, ix5, pos, row, col, one]; have hr : r.val < 4 := r.isLt; have hn : n.val < 16 := n.isLt; have hi : i.val < 128 := i.isLt; have hh : h.val < 4 := h.isLt; omega)
  | ⟨1, _⟩ => first | rfl | (simp only [ix1, ix2, ix3, ix4, ix5, pos, row, col, one]; have hr : r.val < 4 := r.isLt; have hn : n.val < 16 := n.isLt; have hi : i.val < 128 := i.isLt; have hh : h.val < 4 := h.isLt; omega)
  | ⟨2, _⟩ => first | rfl | (simp only [ix1, ix2, ix3, ix4, ix5, pos, row, col, one]; have hr : r.val < 4 := r.isLt; have hn : n.val < 16 := n.isLt; have hi : i.val < 128 := i.isLt; have hh : h.val < 4 := h.isLt; omega)
  | ⟨3, _⟩ => first | rfl | (simp only [ix1, ix2, ix3, ix4, ix5, pos, row, col, one]; have hr : r.val < 4 := r.isLt; have hn : n.val < 16 := n.isLt; have hi : i.val < 128 := i.isLt; have hh : h.val < 4 := h.isLt; omega)

theorem b126 : val_main_v126 (F := Ideal) q k v d (ix4 r n h i) = ∑ w : Fin 256, -(dp v d r n h i w * W q k r n h i w) := by
  rw [val_main_v126_apply, val_main_cst_22_apply, zero_word, zero_add, Fin.sum_univ_one]
  rw [show idx_main_v126 (ix4 r n h i) 0 = ix5 r n h i one from funext fun a => match a with | ⟨0, _⟩ => rfl | ⟨1, _⟩ => rfl | ⟨2, _⟩ => rfl | ⟨3, _⟩ => rfl | ⟨4, _⟩ => rfl, s125, b124]

theorem s129 : val_main_v129 (F := Ideal) q k v d l (ix5 r n h i w) = val_main_v128 (F := Ideal) q k v d l (ix4 r n h i) := by
  rw [val_main_v129_apply]
  refine congrArg (val_main_v128 (F := Ideal) q k v d l) (funext fun a => Fin.ext ?_)
  match a with
  | ⟨0, _⟩ => first | rfl | (simp only [ix1, ix2, ix3, ix4, ix5, pos, row, col]; have hr : r.val < 4 := r.isLt; have hn : n.val < 16 := n.isLt; have hi : i.val < 128 := i.isLt; have hh : h.val < 4 := h.isLt; have hw : w.val < 256 := w.isLt; omega)
  | ⟨1, _⟩ => first | rfl | (simp only [ix1, ix2, ix3, ix4, ix5, pos, row, col]; have hr : r.val < 4 := r.isLt; have hn : n.val < 16 := n.isLt; have hi : i.val < 128 := i.isLt; have hh : h.val < 4 := h.isLt; have hw : w.val < 256 := w.isLt; omega)
  | ⟨2, _⟩ => first | rfl | (simp only [ix1, ix2, ix3, ix4, ix5, pos, row, col]; have hr : r.val < 4 := r.isLt; have hn : n.val < 16 := n.isLt; have hi : i.val < 128 := i.isLt; have hh : h.val < 4 := h.isLt; have hw : w.val < 256 := w.isLt; omega)
  | ⟨3, _⟩ => first | rfl | (simp only [ix1, ix2, ix3, ix4, ix5, pos, row, col]; have hr : r.val < 4 := r.isLt; have hn : n.val < 16 := n.isLt; have hi : i.val < 128 := i.isLt; have hh : h.val < 4 := h.isLt; have hw : w.val < 256 := w.isLt; omega)

/-- The gradient of a row's normaliser less the gradient of its output against its output. -/
def cc (q k v d : X) (l : FVec Ideal S8192x4 .f32) (r : Fin 4) (n : Fin 16) (h : Fin 4) (i : Fin 128) : EReal :=
  l (ix2 (pos r (row n i)) h) - ∑ e : Fin 128, d (ix2 (pos r (row n i)) (col h e)) * val_main_v108 (F := Ideal) q k v (ix3 (pos r (row n i)) h e)

/-- The gradient of the scaled score. -/
def dS (q k v d : X) (l : FVec Ideal S8192x4 .f32) (r : Fin 4) (n : Fin 16) (h : Fin 4) (i : Fin 128) (w : Fin 256) : EReal :=
  W q k r n h i w * (dp v d r n h i w + cc q k v d l r n h i)

variable {q k v d l r n i h e w}

theorem win_real (hv : ∀ j, ∃ z : ℝ, v j = (z : EReal)) : ∃ z : ℝ, win v r n w h e = (z : EReal) := by
  unfold win
  by_cases hw : n.val * 128 + w.val < 128
  · exact ⟨0, by rw [dif_pos hw]; rfl⟩
  · rw [dif_neg hw]; exact hv _

theorem masked (g : ¬ ok n i w) : W q k r n h i w = 0 := by
  have hs : S q k r n h i w = ⊥ := if_neg g
  unfold W Row.wt
  rw [hs, EReal.bot_sub]; rfl

theorem b131 (hv : ∀ j, ∃ z : ℝ, v j = (z : EReal)) (hd : ∀ j, ∃ z : ℝ, d j = (z : EReal)) :
    val_main_v131 (F := Ideal) q k v d l (ix5 r n h i w) = dS q k v d l r n h i w := by
  rw [val_main_v131_apply, val_main_v130_apply, s129, val_main_v128_apply, val_main_v127_apply, b122, b90, b91, b126, s117, b116]
  choose dr hdr using fun e => hd (ix2 (pos r (row n i)) (col h e))
  choose vr hvr using fun (w : Fin 256) e => win_real (r := r) (n := n) (h := h) (w := w) (e := e) hv
  have hdp : ∀ w, dp v d r n h i w = ((∑ e : Fin 128, dr e * vr w e : ℝ) : EReal) := fun w => by
    unfold dp
    rw [Row.coe_sum]
    exact Finset.sum_congr rfl fun e _ => by rw [hdr, hvr, EReal.coe_mul]
  have hcc : cc q k v d l r n h i = l (ix2 (pos r (row n i)) h) - ∑ w : Fin 256, dp v d r n h i w * W q k r n h i w := by
    unfold cc
    refine congrArg (fun z : EReal => l (ix2 (pos r (row n i)) h) - z) ?_
    have := Row.out_dot (S q k r n h i) (m0 q k r n h i) (guard_m0 q k r n i h) dr vr
    refine Eq.trans (Finset.sum_congr rfl fun e _ => ?_) (this.trans (Finset.sum_congr rfl fun w _ => ?_))
    · rw [hdr, b108]
      exact congrArg _ (Finset.sum_congr rfl fun w _ => by rw [hvr]; rfl)
    · rw [hdp]; rfl
  unfold dS
  rw [hcc]
  have hg := Row.grad (S q k r n h i) (m0 q k r n h i) (guard_m0 q k r n i h) (fun w => ∑ e : Fin 128, dr e * vr w e) (l (ix2 (pos r (row n i)) h)) w
  simp only [← hdp] at hg
  exact hg

theorem b134 (hv : ∀ j, ∃ z : ℝ, v j = (z : EReal)) (hd : ∀ j, ∃ z : ℝ, d j = (z : EReal)) :
    val_main_v134 (F := Ideal) q k v d l (ix5 r n h i w) = (if ok n i w then dS q k v d l r n h i w else 0) * sc := by
  rw [val_main_v134_apply, val_main_v133_apply, val_main_cst_23_apply, val_main_v132_apply, val_main_call2_v0_apply, val_main_call2_cst_apply, b76_1, b131 hv hd]
  refine congrArg (fun z : EReal => z * sc) ?_
  by_cases g : ok n i w
  · rw [if_pos g, if_pos g]; rfl
  · rw [if_neg g, if_neg g]; exact zero_word

theorem masked_dS (g : ¬ ok n i w) : dS q k v d l r n h i w = 0 := by
  unfold dS
  rw [masked g, zero_mul]

theorem b134' (hv : ∀ j, ∃ z : ℝ, v j = (z : EReal)) (hd : ∀ j, ∃ z : ℝ, d j = (z : EReal)) :
    val_main_v134 (F := Ideal) q k v d l (ix5 r n h i w) = dS q k v d l r n h i w * sc := by
  rw [b134 hv hd]
  by_cases g : ok n i w
  · rw [if_pos g]
  · rw [if_neg g, masked_dS g]

end Cert.ReferenceIdeal.Ref
-- ==== Proof.RefOut.lean ====
module

public import proofs.«01_k».proof.Proof.RefRow

@[expose] public section

set_option maxRecDepth 16384

noncomputable section

/- The reference's three gradients, one entry at a time. -/

namespace Cert.ReferenceIdeal.Ref

open Cert.ReferenceIdeal Cert.ReferenceIdeal.Gen Cert.ReferenceIdeal.Read Idealize.ShloMosaic Idealize.ShloMosaic.TcCoe Idealize.SL.Sem
open Cert.KernelIdeal.Blk (col)
open Cert.KernelIdeal.Pre (pos)

/-- An entry of the first half of a window. -/
def lo (i : Fin 128) : Fin 256 := ⟨i.val, by omega⟩

/-- An entry of the second half of a window. -/
def hi (i : Fin 128) : Fin 256 := ⟨128 + i.val, by omega⟩

variable (q k v d : X) (l : FVec Ideal S8192x4 .f32)
variable (r : Fin 4) (n : Fin 16) (i : Fin 128) (h : Fin 4) (e : Fin 128) (y : Fin 2048) (p : Fin 8192) (w : Fin 256)

theorem s138 : val_main_v138 (F := Ideal) q k v d l (ix5 r n i h e) = val_main_v137 (F := Ideal) q k v d l (ix5 r n h i e) := by
  rw [val_main_v138_apply]
  refine congrArg (val_main_v137 (F := Ideal) q k v d l) (funext fun a => Fin.ext ?_)
  match a with
  | ⟨0, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨1, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨2, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨3, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨4, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)

theorem s157 : val_main_v157 (F := Ideal) q k v d l (ix4 r (row n i) h e) = val_main_v138 (F := Ideal) q k v d l (ix5 r n i h e) := by
  rw [val_main_v157_apply]
  refine congrArg (val_main_v138 (F := Ideal) q k v d l) (funext fun a => Fin.ext ?_)
  match a with
  | ⟨0, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨1, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨2, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨3, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨4, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)

theorem s158 : val_main_v158 (F := Ideal) q k v d l (ix4 y r h e) = val_main_v157 (F := Ideal) q k v d l (ix4 r y h e) := by
  rw [val_main_v158_apply]
  refine congrArg (val_main_v157 (F := Ideal) q k v d l) (funext fun a => Fin.ext ?_)
  match a with
  | ⟨0, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨1, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨2, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨3, _⟩ => first | rfl | (simp only [ix1, ix2, ix3, ix4, ix5, pos, row, col]; have hr : r.val < 4 := r.isLt; have hh : h.val < 4 := h.isLt; have he : e.val < 128 := e.isLt; have hy : y.val < 2048 := y.isLt; omega)

theorem s159 : val_main_v159 (F := Ideal) q k v d l (ix3 (pos r y) h e) = val_main_v158 (F := Ideal) q k v d l (ix4 y r h e) := by
  rw [val_main_v159_apply]
  refine congrArg (val_main_v158 (F := Ideal) q k v d l) (funext fun a => Fin.ext ?_)
  match a with
  | ⟨0, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨1, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨2, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨3, _⟩ => first | rfl | (simp only [ix1, ix2, ix3, ix4, ix5, pos, row, col]; have hr : r.val < 4 := r.isLt; have hh : h.val < 4 := h.isLt; have he : e.val < 128 := e.isLt; have hy : y.val < 2048 := y.isLt; omega)

theorem s162 : val_main_v162 (F := Ideal) q k v d l (ix2 p (col h e)) = val_main_v159 (F := Ideal) q k v d l (ix3 p h e) := by
  rw [val_main_v162_apply]
  refine congrArg (val_main_v159 (F := Ideal) q k v d l) (funext fun a => Fin.ext ?_)
  match a with
  | ⟨0, _⟩ => first | rfl | (simp only [ix1, ix2, ix3, ix4, ix5, pos, row, col]; have hh : h.val < 4 := h.isLt; have he : e.val < 128 := e.isLt; have hp : p.val < 8192 := p.isLt; omega)
  | ⟨1, _⟩ => first | rfl | (simp only [ix1, ix2, ix3, ix4, ix5, pos, row, col]; have hh : h.val < 4 := h.isLt; have he : e.val < 128 := e.isLt; have hp : p.val < 8192 := p.isLt; omega)
  | ⟨2, _⟩ => first | rfl | (simp only [ix1, ix2, ix3, ix4, ix5, pos, row, col]; have hh : h.val < 4 := h.isLt; have he : e.val < 128 := e.isLt; have hp : p.val < 8192 := p.isLt; omega)

theorem s136 : val_main_v136 (F := Ideal) q k v d l (ix5 r n w h e) = val_main_v135 (F := Ideal) q k v d l (ix5 r n h w e) := by
  rw [val_main_v136_apply]
  refine congrArg (val_main_v135 (F := Ideal) q k v d l) (funext fun a => Fin.ext ?_)
  match a with
  | ⟨0, _⟩ => first | rfl | (simp only [ix1, ix2, ix3, ix4, ix5, pos, row, col]; have hr : r.val < 4 := r.isLt; have hn : n.val < 16 := n.isLt; have hh : h.val < 4 := h.isLt; have he : e.val < 128 := e.isLt; have hw : w.val < 256 := w.isLt; omega)
  | ⟨1, _⟩ => first | rfl | (simp only [ix1, ix2, ix3, ix4, ix5, pos, row, col]; have hr : r.val < 4 := r.isLt; have hn : n.val < 16 := n.isLt; have hh : h.val < 4 := h.isLt; have he : e.val < 128 := e.isLt; have hw : w.val < 256 := w.isLt; omega)
  | ⟨2, _⟩ => first | rfl | (simp only [ix1, ix2, ix3, ix4, ix5, pos, row, col]; have hr : r.val < 4 := r.isLt; have hn : n.val < 16 := n.isLt; have hh : h.val < 4 := h.isLt; have he : e.val < 128 := e.isLt; have hw : w.val < 256 := w.isLt; omega)
  | ⟨3, _⟩ => first | rfl | (simp only [ix1, ix2, ix3, ix4, ix5, pos, row, col]; have hr : r.val < 4 := r.isLt; have hn : n.val < 16 := n.isLt; have hh : h.val < 4 := h.isLt; have he : e.val < 128 := e.isLt; have hw : w.val < 256 := w.isLt; omega)
  | ⟨4, _⟩ => first | rfl | (simp only [ix1, ix2, ix3, ix4, ix5, pos, row, col]; have hr : r.val < 4 := r.isLt; have hn : n.val < 16 := n.isLt; have hh : h.val < 4 := h.isLt; have he : e.val < 128 := e.isLt; have hw : w.val < 256 := w.isLt; omega)

theorem s121 : val_main_v121 (F := Ideal) q k d (ix5 r n w h e) = val_main_v120 (F := Ideal) q k d (ix5 r n h e w) := by
  rw [val_main_v121_apply]
  refine congrArg (val_main_v120 (F := Ideal) q k d) (funext fun a => Fin.ext ?_)
  match a with
  | ⟨0, _⟩ => first | rfl | (simp only [ix1, ix2, ix3, ix4, ix5, pos, row, col]; have hr : r.val < 4 := r.isLt; have hn : n.val < 16 := n.isLt; have hh : h.val < 4 := h.isLt; have he : e.val < 128 := e.isLt; have hw : w.val < 256 := w.isLt; omega)
  | ⟨1, _⟩ => first | rfl | (simp only [ix1, ix2, ix3, ix4, ix5, pos, row, col]; have hr : r.val < 4 := r.isLt; have hn : n.val < 16 := n.isLt; have hh : h.val < 4 := h.isLt; have he : e.val < 128 := e.isLt; have hw : w.val < 256 := w.isLt; omega)
  | ⟨2, _⟩ => first | rfl | (simp only [ix1, ix2, ix3, ix4, ix5, pos, row, col]; have hr : r.val < 4 := r.isLt; have hn : n.val < 16 := n.isLt; have hh : h.val < 4 := h.isLt; have he : e.val < 128 := e.isLt; have hw : w.val < 256 := w.isLt; omega)
  | ⟨3, _⟩ => first | rfl | (simp only [ix1, ix2, ix3, ix4, ix5, pos, row, col]; have hr : r.val < 4 := r.isLt; have hn : n.val < 16 := n.isLt; have hh : h.val < 4 := h.isLt; have he : e.val < 128 := e.isLt; have hw : w.val < 256 := w.isLt; omega)
  | ⟨4, _⟩ => first | rfl | (simp only [ix1, ix2, ix3, ix4, ix5, pos, row, col]; have hr : r.val < 4 := r.isLt; have hn : n.val < 16 := n.isLt; have hh : h.val < 4 := h.isLt; have he : e.val < 128 := e.isLt; have hw : w.val < 256 := w.isLt; omega)

theorem s148 : val_main_v148 (F := Ideal) q k v d l (ix5 r n i h e) = val_main_v136 (F := Ideal) q k v d l (ix5 r n (lo i) h e) := by
  rw [val_main_v148_apply]
  refine congrArg (val_main_v136 (F := Ideal) q k v d l) (funext fun a => Fin.ext ?_)
  match a with
  | ⟨0, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨1, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨2, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨3, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨4, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)

theorem s149 : val_main_v149 (F := Ideal) q k v d l (ix5 r n i h e) = val_main_v136 (F := Ideal) q k v d l (ix5 r n (hi i) h e) := by
  rw [val_main_v149_apply]
  refine congrArg (val_main_v136 (F := Ideal) q k v d l) (funext fun a => Fin.ext ?_)
  match a with
  | ⟨0, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨1, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨2, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨3, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨4, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)

theorem s151 (n' : Fin 15) : val_main_v151 (F := Ideal) q k v d l (ix5 r n' i h e) = val_main_v148 (F := Ideal) q k v d l (ix5 r ⟨1 + n'.val, by omega⟩ i h e) := by
  rw [val_main_v151_apply]
  exact congrArg (val_main_v148 (F := Ideal) q k v d l) (funext fun a => match a with | ⟨0, _⟩ => rfl | ⟨1, _⟩ => rfl | ⟨2, _⟩ => rfl | ⟨3, _⟩ => rfl | ⟨4, _⟩ => rfl)

theorem s152 : val_main_v152 (F := Ideal) q k v d l (ix5 r n i h e) = if hn : n.val < 15 then val_main_v136 (F := Ideal) q k v d l (ix5 r ⟨1 + n.val, by omega⟩ (lo i) h e) else 0 := by
  unfold val_main_v152
  by_cases hn : n.val < 15
  · rw [dif_pos hn]
    refine (pad_apply_of_inside _ _ _ _ _ _ _ _ (ix5 r (⟨n.val, hn⟩ : Fin 15) i h e) fun a => ?_).trans ?_
    · match a with
      | ⟨0, _⟩ => exact (by show r.val = 0 + r.val * (0 + 1); omega)
      | ⟨1, _⟩ => exact (by show n.val = 0 + n.val * (0 + 1); omega)
      | ⟨2, _⟩ => exact (by show i.val = 0 + i.val * (0 + 1); omega)
      | ⟨3, _⟩ => exact (by show h.val = 0 + h.val * (0 + 1); omega)
      | ⟨4, _⟩ => exact (by show e.val = 0 + e.val * (0 + 1); omega)
    · rw [s151, s148]
  · rw [dif_neg hn]
    refine (pad_apply_of_not_inside _ _ _ _ _ _ _ _ 1 ?_).trans ?_
    · show ¬ (0 ≤ n.val ∧ (n.val - 0) % (0 + 1) = 0 ∧ (n.val - 0) / (0 + 1) < 15)
      omega
    · rw [val_main_cst_25_apply]; exact zero_word

theorem b153 : val_main_v153 (F := Ideal) q k v d l (ix5 r n i h e) = val_main_v136 (F := Ideal) q k v d l (ix5 r n (hi i) h e) + if hn : n.val < 15 then val_main_v136 (F := Ideal) q k v d l (ix5 r ⟨1 + n.val, by omega⟩ (lo i) h e) else 0 := by
  rw [val_main_v153_apply, s149, s152]
  rfl

theorem s154 : val_main_v154 (F := Ideal) q k v d l (ix4 r (row n i) h e) = val_main_v153 (F := Ideal) q k v d l (ix5 r n i h e) := by
  rw [val_main_v154_apply]
  refine congrArg (val_main_v153 (F := Ideal) q k v d l) (funext fun a => Fin.ext ?_)
  match a with
  | ⟨0, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨1, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨2, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨3, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨4, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)

theorem s155 : val_main_v155 (F := Ideal) q k v d l (ix4 y r h e) = val_main_v154 (F := Ideal) q k v d l (ix4 r y h e) := by
  rw [val_main_v155_apply]
  refine congrArg (val_main_v154 (F := Ideal) q k v d l) (funext fun a => Fin.ext ?_)
  match a with
  | ⟨0, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨1, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨2, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨3, _⟩ => first | rfl | (simp only [ix1, ix2, ix3, ix4, ix5, pos, row, col]; have hr : r.val < 4 := r.isLt; have hh : h.val < 4 := h.isLt; have he : e.val < 128 := e.isLt; have hy : y.val < 2048 := y.isLt; omega)

theorem s156 : val_main_v156 (F := Ideal) q k v d l (ix3 (pos r y) h e) = val_main_v155 (F := Ideal) q k v d l (ix4 y r h e) := by
  rw [val_main_v156_apply]
  refine congrArg (val_main_v155 (F := Ideal) q k v d l) (funext fun a => Fin.ext ?_)
  match a with
  | ⟨0, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨1, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨2, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨3, _⟩ => first | rfl | (simp only [ix1, ix2, ix3, ix4, ix5, pos, row, col]; have hr : r.val < 4 := r.isLt; have hh : h.val < 4 := h.isLt; have he : e.val < 128 := e.isLt; have hy : y.val < 2048 := y.isLt; omega)

theorem s161 : val_main_v161 (F := Ideal) q k v d l (ix2 p (col h e)) = val_main_v156 (F := Ideal) q k v d l (ix3 p h e) := by
  rw [val_main_v161_apply]
  refine congrArg (val_main_v156 (F := Ideal) q k v d l) (funext fun a => Fin.ext ?_)
  match a with
  | ⟨0, _⟩ => first | rfl | (simp only [ix1, ix2, ix3, ix4, ix5, pos, row, col]; have hh : h.val < 4 := h.isLt; have he : e.val < 128 := e.isLt; have hp : p.val < 8192 := p.isLt; omega)
  | ⟨1, _⟩ => first | rfl | (simp only [ix1, ix2, ix3, ix4, ix5, pos, row, col]; have hh : h.val < 4 := h.isLt; have he : e.val < 128 := e.isLt; have hp : p.val < 8192 := p.isLt; omega)
  | ⟨2, _⟩ => first | rfl | (simp only [ix1, ix2, ix3, ix4, ix5, pos, row, col]; have hh : h.val < 4 := h.isLt; have he : e.val < 128 := e.isLt; have hp : p.val < 8192 := p.isLt; omega)

theorem s139 : val_main_v139 (F := Ideal) q k d (ix5 r n i h e) = val_main_v121 (F := Ideal) q k d (ix5 r n (lo i) h e) := by
  rw [val_main_v139_apply]
  refine congrArg (val_main_v121 (F := Ideal) q k d) (funext fun a => Fin.ext ?_)
  match a with
  | ⟨0, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨1, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨2, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨3, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨4, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)

theorem s140 : val_main_v140 (F := Ideal) q k d (ix5 r n i h e) = val_main_v121 (F := Ideal) q k d (ix5 r n (hi i) h e) := by
  rw [val_main_v140_apply]
  refine congrArg (val_main_v121 (F := Ideal) q k d) (funext fun a => Fin.ext ?_)
  match a with
  | ⟨0, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨1, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨2, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨3, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨4, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)

theorem s142 (n' : Fin 15) : val_main_v142 (F := Ideal) q k d (ix5 r n' i h e) = val_main_v139 (F := Ideal) q k d (ix5 r ⟨1 + n'.val, by omega⟩ i h e) := by
  rw [val_main_v142_apply]
  exact congrArg (val_main_v139 (F := Ideal) q k d) (funext fun a => match a with | ⟨0, _⟩ => rfl | ⟨1, _⟩ => rfl | ⟨2, _⟩ => rfl | ⟨3, _⟩ => rfl | ⟨4, _⟩ => rfl)

theorem s143 : val_main_v143 (F := Ideal) q k d (ix5 r n i h e) = if hn : n.val < 15 then val_main_v121 (F := Ideal) q k d (ix5 r ⟨1 + n.val, by omega⟩ (lo i) h e) else 0 := by
  unfold val_main_v143
  by_cases hn : n.val < 15
  · rw [dif_pos hn]
    refine (pad_apply_of_inside _ _ _ _ _ _ _ _ (ix5 r (⟨n.val, hn⟩ : Fin 15) i h e) fun a => ?_).trans ?_
    · match a with
      | ⟨0, _⟩ => exact (by show r.val = 0 + r.val * (0 + 1); omega)
      | ⟨1, _⟩ => exact (by show n.val = 0 + n.val * (0 + 1); omega)
      | ⟨2, _⟩ => exact (by show i.val = 0 + i.val * (0 + 1); omega)
      | ⟨3, _⟩ => exact (by show h.val = 0 + h.val * (0 + 1); omega)
      | ⟨4, _⟩ => exact (by show e.val = 0 + e.val * (0 + 1); omega)
    · rw [s142, s139]
  · rw [dif_neg hn]
    refine (pad_apply_of_not_inside _ _ _ _ _ _ _ _ 1 ?_).trans ?_
    · show ¬ (0 ≤ n.val ∧ (n.val - 0) % (0 + 1) = 0 ∧ (n.val - 0) / (0 + 1) < 15)
      omega
    · rw [val_main_cst_24_apply]; exact zero_word

theorem b144 : val_main_v144 (F := Ideal) q k d (ix5 r n i h e) = val_main_v121 (F := Ideal) q k d (ix5 r n (hi i) h e) + if hn : n.val < 15 then val_main_v121 (F := Ideal) q k d (ix5 r ⟨1 + n.val, by omega⟩ (lo i) h e) else 0 := by
  rw [val_main_v144_apply, s140, s143]
  rfl

theorem s145 : val_main_v145 (F := Ideal) q k d (ix4 r (row n i) h e) = val_main_v144 (F := Ideal) q k d (ix5 r n i h e) := by
  rw [val_main_v145_apply]
  refine congrArg (val_main_v144 (F := Ideal) q k d) (funext fun a => Fin.ext ?_)
  match a with
  | ⟨0, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨1, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨2, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨3, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)
  | ⟨4, _⟩ => first | rfl | (simp only [ix1, ix2, ix3, ix4, ix5, pos, row, col]; have hr : r.val < 4 := r.isLt; have hn : n.val < 16 := n.isLt; have hi : i.val < 128 := i.isLt; have hh : h.val < 4 := h.isLt; have he : e.val < 128 := e.isLt; omega)

theorem s146 : val_main_v146 (F := Ideal) q k d (ix4 y r h e) = val_main_v145 (F := Ideal) q k d (ix4 r y h e) := by
  rw [val_main_v146_apply]
  refine congrArg (val_main_v145 (F := Ideal) q k d) (funext fun a => Fin.ext ?_)
  match a with
  | ⟨0, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨1, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨2, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨3, _⟩ => first | rfl | (simp only [ix1, ix2, ix3, ix4, ix5, pos, row, col]; have hr : r.val < 4 := r.isLt; have hh : h.val < 4 := h.isLt; have he : e.val < 128 := e.isLt; have hy : y.val < 2048 := y.isLt; omega)

theorem s147 : val_main_v147 (F := Ideal) q k d (ix3 (pos r y) h e) = val_main_v146 (F := Ideal) q k d (ix4 y r h e) := by
  rw [val_main_v147_apply]
  refine congrArg (val_main_v146 (F := Ideal) q k d) (funext fun a => Fin.ext ?_)
  match a with
  | ⟨0, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨1, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨2, _⟩ => first | rfl | (simp only [ix1, ix2, ix3, ix4, ix5, pos, row, col]; have hr : r.val < 4 := r.isLt; have hh : h.val < 4 := h.isLt; have he : e.val < 128 := e.isLt; have hy : y.val < 2048 := y.isLt; omega)
  | ⟨3, _⟩ => first | rfl | (simp only [ix1, ix2, ix3, ix4, ix5, pos, row, col]; have hr : r.val < 4 := r.isLt; have hh : h.val < 4 := h.isLt; have he : e.val < 128 := e.isLt; have hy : y.val < 2048 := y.isLt; omega)

theorem s160 : val_main_v160 (F := Ideal) q k d (ix2 p (col h e)) = val_main_v147 (F := Ideal) q k d (ix3 p h e) := by
  rw [val_main_v160_apply]
  refine congrArg (val_main_v147 (F := Ideal) q k d) (funext fun a => Fin.ext ?_)
  match a with
  | ⟨0, _⟩ => first | rfl | (simp only [ix1, ix2, ix3, ix4, ix5, pos, row, col]; have hh : h.val < 4 := h.isLt; have he : e.val < 128 := e.isLt; have hp : p.val < 8192 := p.isLt; omega)
  | ⟨1, _⟩ => first | rfl | (simp only [ix1, ix2, ix3, ix4, ix5, pos, row, col]; have hh : h.val < 4 := h.isLt; have he : e.val < 128 := e.isLt; have hp : p.val < 8192 := p.isLt; omega)
  | ⟨2, _⟩ => first | rfl | (simp only [ix1, ix2, ix3, ix4, ix5, pos, row, col]; have hh : h.val < 4 := h.isLt; have he : e.val < 128 := e.isLt; have hp : p.val < 8192 := p.isLt; omega)

theorem s163 (f : Fin 512) : val_main_v163 (F := Ideal) q k v d l (ix3 one p f) = val_main_v162 (F := Ideal) q k v d l (ix2 p f) := by
  rw [val_main_v163_apply]
  exact congrArg (val_main_v162 (F := Ideal) q k v d l) (funext fun a => match a with | ⟨0, _⟩ => rfl | ⟨1, _⟩ => rfl)

theorem s164 (f : Fin 512) : val_main_v164 (F := Ideal) q k v d l (ix3 one p f) = val_main_v161 (F := Ideal) q k v d l (ix2 p f) := by
  rw [val_main_v164_apply]
  exact congrArg (val_main_v161 (F := Ideal) q k v d l) (funext fun a => match a with | ⟨0, _⟩ => rfl | ⟨1, _⟩ => rfl)

theorem s165 (f : Fin 512) : val_main_v165 (F := Ideal) q k d (ix3 one p f) = val_main_v160 (F := Ideal) q k d (ix2 p f) := by
  rw [val_main_v165_apply]
  exact congrArg (val_main_v160 (F := Ideal) q k d) (funext fun a => match a with | ⟨0, _⟩ => rfl | ⟨1, _⟩ => rfl)

theorem s166_0 (f : Fin 512) : val_main_v166 (F := Ideal) q k v d l (ix3 0 p f) = val_main_v163 (F := Ideal) q k v d l (ix3 one p f) := by
  unfold val_main_v166
  exact concatenate_apply_piece (t := S3x8192x512) 0 [⟨S1x8192x512, val_main_v163 (F := Ideal) q k v d l⟩, ⟨S1x8192x512, val_main_v164 (F := Ideal) q k v d l⟩, ⟨S1x8192x512, val_main_v165 (F := Ideal) q k d⟩] concatenates_S1x8192x512_S1x8192x512_S1x8192x512_S3x8192x512_d0 (ix3 0 p f) 0 (by show 0 < 3; decide) S1x8192x512 (val_main_v163 (F := Ideal) q k v d l) rfl rfl 0 rfl (ix3 one p f)
    (fun b => match b with
      | ⟨0, _⟩ => fun h => absurd rfl h
      | ⟨1, _⟩ => fun _ => rfl
      | ⟨2, _⟩ => fun _ => rfl) rfl

theorem s166_1 (f : Fin 512) : val_main_v166 (F := Ideal) q k v d l (ix3 1 p f) = val_main_v164 (F := Ideal) q k v d l (ix3 one p f) := by
  unfold val_main_v166
  exact concatenate_apply_piece (t := S3x8192x512) 0 [⟨S1x8192x512, val_main_v163 (F := Ideal) q k v d l⟩, ⟨S1x8192x512, val_main_v164 (F := Ideal) q k v d l⟩, ⟨S1x8192x512, val_main_v165 (F := Ideal) q k d⟩] concatenates_S1x8192x512_S1x8192x512_S1x8192x512_S3x8192x512_d0 (ix3 1 p f) 1 (by show 1 < 3; decide) S1x8192x512 (val_main_v164 (F := Ideal) q k v d l) rfl rfl 1 rfl (ix3 one p f)
    (fun b => match b with
      | ⟨0, _⟩ => fun h => absurd rfl h
      | ⟨1, _⟩ => fun _ => rfl
      | ⟨2, _⟩ => fun _ => rfl) rfl

theorem s166_2 (f : Fin 512) : val_main_v166 (F := Ideal) q k v d l (ix3 2 p f) = val_main_v165 (F := Ideal) q k d (ix3 one p f) := by
  unfold val_main_v166
  exact concatenate_apply_piece (t := S3x8192x512) 0 [⟨S1x8192x512, val_main_v163 (F := Ideal) q k v d l⟩, ⟨S1x8192x512, val_main_v164 (F := Ideal) q k v d l⟩, ⟨S1x8192x512, val_main_v165 (F := Ideal) q k d⟩] concatenates_S1x8192x512_S1x8192x512_S1x8192x512_S3x8192x512_d0 (ix3 2 p f) 2 (by show 2 < 3; decide) S1x8192x512 (val_main_v165 (F := Ideal) q k d) rfl rfl 2 rfl (ix3 one p f)
    (fun b => match b with
      | ⟨0, _⟩ => fun h => absurd rfl h
      | ⟨1, _⟩ => fun _ => rfl
      | ⟨2, _⟩ => fun _ => rfl) rfl

theorem s167 (j : Fin 3) (f : Fin 512) : val_main_v167 (F := Ideal) q k v d l (ix4 j y r f) = val_main_v166 (F := Ideal) q k v d l (ix3 j (pos r y) f) := by
  rw [val_main_v167_apply]
  refine congrArg (val_main_v166 (F := Ideal) q k v d l) (funext fun a => Fin.ext ?_)
  have hj : j.val < 3 := j.isLt
  have hy : y.val < 2048 := y.isLt
  have hr : r.val < 4 := r.isLt
  have hf : f.val < 512 := f.isLt
  match a with
  | ⟨0, _⟩ => simp only [ix3, ix4, pos]; omega
  | ⟨1, _⟩ => simp only [ix3, ix4, pos]; omega
  | ⟨2, _⟩ => simp only [ix3, ix4, pos]; omega

theorem s169 (j : Fin 3) (f : Fin 512) : val_main_v169 (F := Ideal) q k v d l (ix4 j r y f) = val_main_v166 (F := Ideal) q k v d l (ix3 j (pos r y) f) := by
  rw [val_main_v169_apply, val_main_v168_apply, ← s167]
  exact congrArg (val_main_v167 (F := Ideal) q k v d l) (funext fun a => match a with | ⟨0, _⟩ => rfl | ⟨1, _⟩ => rfl | ⟨2, _⟩ => rfl | ⟨3, _⟩ => rfl)

variable {q k v d l r n i h e w}

/-- The gradient of the queries. -/
theorem at_dq (hv : ∀ j, ∃ z : ℝ, v j = (z : EReal)) (hd : ∀ j, ∃ z : ℝ, d j = (z : EReal)) :
    val_main_v169 (F := Ideal) q k v d l (ix4 0 r (row n i) (col h e)) = ∑ w : Fin 256, dS q k v d l r n h i w * sc * win k r n w h e := by
  rw [s169, s166_0, s163, s162, s159, s158, s157, s138, val_main_v137_apply]
  refine Finset.sum_congr rfl fun w _ => ?_
  rw [show lidx_main_v137 (ix5 r n h i e) w = ix5 r n h i w from funext fun a => match a with | ⟨0, _⟩ => rfl | ⟨1, _⟩ => rfl | ⟨2, _⟩ => rfl | ⟨3, _⟩ => rfl | ⟨4, _⟩ => rfl, show ridx_main_v137 (ix5 r n h i e) w = ix5 r n w h e from funext fun a => match a with | ⟨0, _⟩ => rfl | ⟨1, _⟩ => rfl | ⟨2, _⟩ => rfl | ⟨3, _⟩ => rfl | ⟨4, _⟩ => rfl, b134' hv hd, b20]

/-- One window's share of the gradient of the keys. -/
def dkw (q k v d : X) (l : FVec Ideal S8192x4 .f32) (r : Fin 4) (n : Fin 16) (w : Fin 256) (h : Fin 4) (e : Fin 128) : EReal :=
  ∑ i : Fin 128, dS q k v d l r n h i w * sc * q (ix2 (pos r (row n i)) (col h e))

theorem b136 (hv : ∀ j, ∃ z : ℝ, v j = (z : EReal)) (hd : ∀ j, ∃ z : ℝ, d j = (z : EReal)) :
    val_main_v136 (F := Ideal) q k v d l (ix5 r n w h e) = dkw q k v d l r n w h e := by
  rw [s136, val_main_v135_apply]
  refine Finset.sum_congr rfl fun i _ => ?_
  rw [show lidx_main_v135 (ix5 r n h w e) i = ix5 r n h i w from funext fun a => match a with | ⟨0, _⟩ => rfl | ⟨1, _⟩ => rfl | ⟨2, _⟩ => rfl | ⟨3, _⟩ => rfl | ⟨4, _⟩ => rfl, show ridx_main_v135 (ix5 r n h w e) i = ix5 r n i h e from funext fun a => match a with | ⟨0, _⟩ => rfl | ⟨1, _⟩ => rfl | ⟨2, _⟩ => rfl | ⟨3, _⟩ => rfl | ⟨4, _⟩ => rfl, b134' hv hd, b11]

/-- The gradient of the keys. -/
theorem at_dk (hv : ∀ j, ∃ z : ℝ, v j = (z : EReal)) (hd : ∀ j, ∃ z : ℝ, d j = (z : EReal)) :
    val_main_v169 (F := Ideal) q k v d l (ix4 1 r (row n i) (col h e)) = dkw q k v d l r n (hi i) h e + if hn : n.val < 15 then dkw q k v d l r ⟨1 + n.val, by omega⟩ (lo i) h e else 0 := by
  rw [s169, s166_1, s164, s161, s156, s155, s154, b153, b136 hv hd]
  simp only [b136 hv hd]

/-- One window's share of the gradient of the values. -/
def dvw (q k d : X) (r : Fin 4) (n : Fin 16) (w : Fin 256) (h : Fin 4) (e : Fin 128) : EReal :=
  ∑ i : Fin 128, d (ix2 (pos r (row n i)) (col h e)) * W q k r n h i w

theorem b121 : val_main_v121 (F := Ideal) q k d (ix5 r n w h e) = dvw q k d r n w h e := by
  rw [s121, val_main_v120_apply]
  refine Finset.sum_congr rfl fun i _ => ?_
  rw [show lidx_main_v120 (ix5 r n h e w) i = ix5 r n h e i from funext fun a => match a with | ⟨0, _⟩ => rfl | ⟨1, _⟩ => rfl | ⟨2, _⟩ => rfl | ⟨3, _⟩ => rfl | ⟨4, _⟩ => rfl, show ridx_main_v120 (ix5 r n h e w) i = ix5 r n h i w from funext fun a => match a with | ⟨0, _⟩ => rfl | ⟨1, _⟩ => rfl | ⟨2, _⟩ => rfl | ⟨3, _⟩ => rfl | ⟨4, _⟩ => rfl, s118, b111, b97]

/-- The gradient of the values. -/
theorem at_dv :
    val_main_v169 (F := Ideal) q k v d l (ix4 2 r (row n i) (col h e)) = dvw q k d r n (hi i) h e + if hn : n.val < 15 then dvw q k d r ⟨1 + n.val, by omega⟩ (lo i) h e else 0 := by
  rw [s169, s166_2, s165, s160, s147, s146, s145, b144, b121]
  simp only [b121]

end Cert.ReferenceIdeal.Ref
-- ==== Proof.Band.lean ====
module

public import proofs.«01_k».proof.Proof.Bias
public import proofs.«01_k».proof.Proof.RefOut

@[expose] public section

/-! The table of distance penalties the host gives the body, against the penalties of the reference. -/

set_option maxRecDepth 16384
noncomputable section

namespace Cert.Band
open Cert.KernelIdeal Cert.KernelIdeal.Gen Idealize.ShloMosaic Idealize.ShloMosaic.TcCoe Idealize.SL.Sem
open Cert.KernelIdeal.Bias (nearTile farTile)
open Cert.ReferenceIdeal.Read

/-- The reference's slope of each head, as a literal. -/
def slopeWord : Fin 4 → BitVec 32 := ![0x3DCB2FF5#32, 0x3D800000#32, 0x3D214518#32, 0x3CCB2FF5#32]

/-- The kernel's factor of each head, as a literal. -/
def tileWord : Fin 4 → BitVec 32 := ![0xBECB2FF5#32, 0xBE800000#32, 0xBE214518#32, 0xBDCB2FF5#32]

/-- The slope of each head. -/
def slope : Fin 4 → ℝ := ![13316085 / 2 ^ 27, 8388608 / 2 ^ 27, 10568984 / 2 ^ 28, 13316085 / 2 ^ 29]

theorem slope_eq (h : Fin 4) : Ideal.ofBits .f32 (slopeWord h) = (slope h : EReal) := by
  fin_cases h <;> simp [slopeWord, slope, Ideal.ofBits, Ideal.ieee, -EReal.coe_mul] <;> norm_num

theorem tile_eq (h : Fin 4) : Ideal.ofBits .f32 (tileWord h) = ((-(4 * slope h) : ℝ) : EReal) := by
  fin_cases h <;> simp [tileWord, slope, Ideal.ofBits, Ideal.ieee, -EReal.coe_mul] <;> norm_num

theorem near_int : ∀ i j : Fin 128, (IntOp.muli (IntOp.subi (IntOp.addi 128#32 (BitVec.ofNat 32 i.val)) (BitVec.ofNat 32 (128 + j.val))) 4#32).toInt = (IntOp.subi (BitVec.ofNat 32 i.val) (BitVec.ofNat 32 j.val)).toInt * 4 := by
  decide +kernel

theorem far_int : ∀ i j : Fin 128, (IntOp.muli (IntOp.subi (IntOp.addi 128#32 (BitVec.ofNat 32 i.val)) (BitVec.ofNat 32 j.val)) 4#32).toInt = (IntOp.subi (IntOp.addi 128#32 (BitVec.ofNat 32 i.val)) (BitVec.ofNat 32 j.val)).toInt * 4 := by
  decide +kernel

theorem near_bit : ∀ i j : Fin 128, IntOp.cmpi .sge (IntOp.subi (BitVec.ofNat 32 i.val) (BitVec.ofNat 32 j.val)) 0#32 = if j.val ≤ i.val then 1#1 else 0#1 := by
  decide +kernel

theorem far_bit : ∀ i j : Fin 128, IntOp.cmpi .sle (IntOp.subi (IntOp.addi 128#32 (BitVec.ofNat 32 i.val)) (BitVec.ofNat 32 j.val)) 128#32 = if i.val ≤ j.val then 1#1 else 0#1 := by
  decide +kernel

theorem bot_eq : Ideal.ofBits .f32 4286578688#32 = (⊥ : EReal) := by
  simp [Ideal.ofBits, Ideal.ieee]

/-- The factor times a distance is minus the slope times the distance over the whole sequence. -/
theorem scaled (h : Fin 4) (x y : BitVec 32) (hxy : y.toInt = x.toInt * 4) :
    Ideal.ofBits .f32 (tileWord h) * FloatOps.sitofp (F := Ideal) .f32 x = -Ideal.ofBits .f32 (slopeWord h) * FloatOps.sitofp (F := Ideal) .f32 y := by
  show Ideal.ofBits .f32 (tileWord h) * ((x.toInt : ℝ) : EReal) = -Ideal.ofBits .f32 (slopeWord h) * ((y.toInt : ℝ) : EReal)
  rw [slope_eq, tile_eq, hxy, ← EReal.coe_neg, ← EReal.coe_mul, ← EReal.coe_mul]
  have e : -(4 * slope h) * ((x.toInt : ℤ) : ℝ) = -slope h * ((x.toInt * 4 : ℤ) : ℝ) := by
    push_cast
    ring
  rw [e]

theorem slopes (h : Fin 4) : val_main_v5 (F := Ideal) (ix1 h) = Ideal.ofBits .f32 (slopeWord h) := by
  unfold val_main_v5
  match h with
  | ⟨0, _⟩ =>
    refine (concatenate_apply_piece (t := Cert.ReferenceIdeal.S4) 0 [⟨S1, val_main_v1 (F := Ideal)⟩, ⟨S1, val_main_v2 (F := Ideal)⟩, ⟨S1, val_main_v3 (F := Ideal)⟩, ⟨S1, val_main_v4 (F := Ideal)⟩] Cert.ReferenceIdeal.Gen.concatenates_S1_S1_S1_S1_S4_d0 (ix1 0) 0 (by show 0 < 4; decide) Cert.ReferenceIdeal.S1 (val_main_v1 (F := Ideal)) rfl rfl 0 rfl (ix1 Cert.ReferenceIdeal.Ref.one)
      (fun b => match b with
        | ⟨0, _⟩ => fun h => absurd rfl h) rfl).trans ?_
    rw [val_main_v1_apply, val_main_cst_apply]
    rfl
  | ⟨1, _⟩ =>
    refine (concatenate_apply_piece (t := Cert.ReferenceIdeal.S4) 0 [⟨S1, val_main_v1 (F := Ideal)⟩, ⟨S1, val_main_v2 (F := Ideal)⟩, ⟨S1, val_main_v3 (F := Ideal)⟩, ⟨S1, val_main_v4 (F := Ideal)⟩] Cert.ReferenceIdeal.Gen.concatenates_S1_S1_S1_S1_S4_d0 (ix1 1) 1 (by show 1 < 4; decide) Cert.ReferenceIdeal.S1 (val_main_v2 (F := Ideal)) rfl rfl 1 rfl (ix1 Cert.ReferenceIdeal.Ref.one)
      (fun b => match b with
        | ⟨0, _⟩ => fun h => absurd rfl h) rfl).trans ?_
    rw [val_main_v2_apply, val_main_cst_0_apply]
    rfl
  | ⟨2, _⟩ =>
    refine (concatenate_apply_piece (t := Cert.ReferenceIdeal.S4) 0 [⟨S1, val_main_v1 (F := Ideal)⟩, ⟨S1, val_main_v2 (F := Ideal)⟩, ⟨S1, val_main_v3 (F := Ideal)⟩, ⟨S1, val_main_v4 (F := Ideal)⟩] Cert.ReferenceIdeal.Gen.concatenates_S1_S1_S1_S1_S4_d0 (ix1 2) 2 (by show 2 < 4; decide) Cert.ReferenceIdeal.S1 (val_main_v3 (F := Ideal)) rfl rfl 2 rfl (ix1 Cert.ReferenceIdeal.Ref.one)
      (fun b => match b with
        | ⟨0, _⟩ => fun h => absurd rfl h) rfl).trans ?_
    rw [val_main_v3_apply, val_main_cst_1_apply]
    rfl
  | ⟨3, _⟩ =>
    refine (concatenate_apply_piece (t := Cert.ReferenceIdeal.S4) 0 [⟨S1, val_main_v1 (F := Ideal)⟩, ⟨S1, val_main_v2 (F := Ideal)⟩, ⟨S1, val_main_v3 (F := Ideal)⟩, ⟨S1, val_main_v4 (F := Ideal)⟩] Cert.ReferenceIdeal.Gen.concatenates_S1_S1_S1_S1_S4_d0 (ix1 3) 3 (by show 3 < 4; decide) Cert.ReferenceIdeal.S1 (val_main_v4 (F := Ideal)) rfl rfl 3 rfl (ix1 Cert.ReferenceIdeal.Ref.one)
      (fun b => match b with
        | ⟨0, _⟩ => fun h => absurd rfl h) rfl).trans ?_
    rw [val_main_v4_apply, val_main_cst_2_apply]
    rfl

/-- The reference's penalty at an index. -/
theorem b71 (h : Fin 4) (i : Fin 128) (w : Fin 256) :
    val_main_v71 (F := Ideal) (ix3 h i w) = -Ideal.ofBits .f32 (slopeWord h) * FloatOps.sitofp (F := Ideal) .f32 (IntOp.muli (IntOp.subi (IntOp.addi 128#32 (BitVec.ofNat 32 i.val)) (BitVec.ofNat 32 w.val)) 4#32) := by
  rw [val_main_v71_apply, val_main_v69_apply, val_main_v64_apply, val_main_v63_apply, ← slopes, val_main_v70_apply, val_main_v68_apply]
  have e1 : idx_main_v63 (idx_main_v69 (ix3 h i w)) = ix1 h := funext fun a => match a with | ⟨0, _⟩ => rfl
  rw [e1]
  rfl

theorem near_eq (h : Fin 4) (i j : Fin 128) :
    nearTile (tileWord h) i j = if j.val ≤ i.val then val_main_v71 (F := Ideal) (ix3 h i (Cert.ReferenceIdeal.Ref.hi j)) else ⊥ := by
  unfold nearTile
  rw [near_bit, scaled h _ _ (near_int i j), b71, bot_eq]
  by_cases g : j.val ≤ i.val
  · rw [if_pos g, if_pos g]; rfl
  · rw [if_neg g, if_neg g]; rfl

theorem far_eq (h : Fin 4) (i j : Fin 128) :
    farTile (tileWord h) i j = if i.val ≤ j.val then val_main_v71 (F := Ideal) (ix3 h i (Cert.ReferenceIdeal.Ref.lo j)) else ⊥ := by
  unfold farTile
  rw [far_bit, scaled h _ _ (far_int i j), b71, bot_eq]
  by_cases g : i.val ≤ j.val
  · rw [if_pos g, if_pos g]; rfl
  · rw [if_neg g, if_neg g]; rfl

variable (m : (ℓ : Loc nD τ sig) → Buf (Elt Ideal) ℓ) (c : Dev nD)
open Cert.KernelIdeal.Bias

theorem bias_near_0 (i j : Fin 128) :
    V m c main_v261 (ix2 (Blk.col 0 i) ⟨0 + j.val, by omega⟩) = nearTile 0xBECB2FF5#32 i j :=
  ((r164 m c i ⟨0 + j.val, by omega⟩).trans (r141 m c i j)).trans (t141 m c i j)

theorem bias_near_1 (i j : Fin 128) :
    V m c main_v261 (ix2 (Blk.col 1 i) ⟨0 + j.val, by omega⟩) = nearTile 0xBE800000#32 i j :=
  ((r196 m c i ⟨0 + j.val, by omega⟩).trans (r173 m c i j)).trans (t173 m c i j)

theorem bias_near_2 (i j : Fin 128) :
    V m c main_v261 (ix2 (Blk.col 2 i) ⟨0 + j.val, by omega⟩) = nearTile 0xBE214518#32 i j :=
  ((r228 m c i ⟨0 + j.val, by omega⟩).trans (r205 m c i j)).trans (t205 m c i j)

theorem bias_near_3 (i j : Fin 128) :
    V m c main_v261 (ix2 (Blk.col 3 i) ⟨0 + j.val, by omega⟩) = nearTile 0xBDCB2FF5#32 i j :=
  (q237 m c i j).trans (t237 m c i j)

theorem bias_near (h : Fin 4) (i j : Fin 128) :
    Blk.biasAt 0 (by omega) (V m c main_v261) h i j = if j.val ≤ i.val then val_main_v71 (F := Ideal) (ix3 h i (Cert.ReferenceIdeal.Ref.hi j)) else ⊥ := by
  rw [← near_eq]
  unfold Blk.biasAt
  generalize hX : V m c main_v261 = X
  match h with
  | ⟨0, _⟩ =>
    have e := bias_near_0 m c i j
    rw [hX] at e
    exact e
  | ⟨1, _⟩ =>
    have e := bias_near_1 m c i j
    rw [hX] at e
    exact e
  | ⟨2, _⟩ =>
    have e := bias_near_2 m c i j
    rw [hX] at e
    exact e
  | ⟨3, _⟩ =>
    have e := bias_near_3 m c i j
    rw [hX] at e
    exact e

theorem bias_prev_0 (i j : Fin 128) :
    V m c main_v261 (ix2 (Blk.col 0 i) ⟨128 + j.val, by omega⟩) = farTile 0xBECB2FF5#32 i j :=
  ((r164 m c i ⟨128 + j.val, by omega⟩).trans (r152 m c i j)).trans (t152 m c i j)

theorem bias_prev_1 (i j : Fin 128) :
    V m c main_v261 (ix2 (Blk.col 1 i) ⟨128 + j.val, by omega⟩) = farTile 0xBE800000#32 i j :=
  ((r196 m c i ⟨128 + j.val, by omega⟩).trans (r184 m c i j)).trans (t184 m c i j)

theorem bias_prev_2 (i j : Fin 128) :
    V m c main_v261 (ix2 (Blk.col 2 i) ⟨128 + j.val, by omega⟩) = farTile 0xBE214518#32 i j :=
  ((r228 m c i ⟨128 + j.val, by omega⟩).trans (r216 m c i j)).trans (t216 m c i j)

theorem bias_prev_3 (i j : Fin 128) :
    V m c main_v261 (ix2 (Blk.col 3 i) ⟨128 + j.val, by omega⟩) = farTile 0xBDCB2FF5#32 i j :=
  (q248 m c i j).trans (t248 m c i j)

theorem bias_prev (h : Fin 4) (i j : Fin 128) :
    Blk.biasAt 128 (by omega) (V m c main_v261) h i j = if i.val ≤ j.val then val_main_v71 (F := Ideal) (ix3 h i (Cert.ReferenceIdeal.Ref.lo j)) else ⊥ := by
  rw [← far_eq]
  unfold Blk.biasAt
  generalize hX : V m c main_v261 = X
  match h with
  | ⟨0, _⟩ =>
    have e := bias_prev_0 m c i j
    rw [hX] at e
    exact e
  | ⟨1, _⟩ =>
    have e := bias_prev_1 m c i j
    rw [hX] at e
    exact e
  | ⟨2, _⟩ =>
    have e := bias_prev_2 m c i j
    rw [hX] at e
    exact e
  | ⟨3, _⟩ =>
    have e := bias_prev_3 m c i j
    rw [hX] at e
    exact e

theorem bias_next_0 (i j : Fin 128) :
    V m c main_v261 (ix2 (Blk.col 0 i) ⟨256 + j.val, by omega⟩) = farTile 0xBECB2FF5#32 i j :=
  ((r164 m c i ⟨256 + j.val, by omega⟩).trans (r163 m c i j)).trans (t163 m c i j)

theorem bias_next_1 (i j : Fin 128) :
    V m c main_v261 (ix2 (Blk.col 1 i) ⟨256 + j.val, by omega⟩) = farTile 0xBE800000#32 i j :=
  ((r196 m c i ⟨256 + j.val, by omega⟩).trans (r195 m c i j)).trans (t195 m c i j)

theorem bias_next_2 (i j : Fin 128) :
    V m c main_v261 (ix2 (Blk.col 2 i) ⟨256 + j.val, by omega⟩) = farTile 0xBE214518#32 i j :=
  ((r228 m c i ⟨256 + j.val, by omega⟩).trans (r227 m c i j)).trans (t227 m c i j)

theorem bias_next_3 (i j : Fin 128) :
    V m c main_v261 (ix2 (Blk.col 3 i) ⟨256 + j.val, by omega⟩) = farTile 0xBDCB2FF5#32 i j :=
  (q259 m c i j).trans (t259 m c i j)

theorem bias_next (h : Fin 4) (i j : Fin 128) :
    Blk.biasAt 256 (by omega) (V m c main_v261) h i j = if i.val ≤ j.val then val_main_v71 (F := Ideal) (ix3 h i (Cert.ReferenceIdeal.Ref.lo j)) else ⊥ := by
  rw [← far_eq]
  unfold Blk.biasAt
  generalize hX : V m c main_v261 = X
  match h with
  | ⟨0, _⟩ =>
    have e := bias_next_0 m c i j
    rw [hX] at e
    exact e
  | ⟨1, _⟩ =>
    have e := bias_next_1 m c i j
    rw [hX] at e
    exact e
  | ⟨2, _⟩ =>
    have e := bias_next_2 m c i j
    rw [hX] at e
    exact e
  | ⟨3, _⟩ =>
    have e := bias_next_3 m c i j
    rw [hX] at e
    exact e

end Cert.Band
-- ==== Proof.Join.lean ====
module

public import proofs.«01_k».proof.Proof.Block
public import proofs.«01_k».proof.Proof.RefOut

@[expose] public section

/-! One grid point's three gradients are the reference's, given what the point's blocks hold. -/

set_option maxRecDepth 16384
noncomputable section

namespace Cert.Join
open Cert.ReferenceIdeal.Read Cert.ReferenceIdeal.Ref Idealize.ShloMosaic Idealize.ShloMosaic.TcCoe Idealize.SL.Sem
open Cert.KernelIdeal (S1x128x512 S512x384)
open Cert.KernelIdeal.Blk (B4 col dot4 dot34 pick prob biasAt dst rowBy colBy colBy3 pA pB pC outB stack_a stack_b stack_c)
open Cert.KernelIdeal.Pre (pos)

/-- The next block, the last one being its own. -/
def nx (n : Fin 16) : Fin 16 := ⟨min (n.val + 1) 15, by omega⟩

/-- The previous block, the first one being its own. -/
def pv (n : Fin 16) : Fin 16 := ⟨n.val - 1, by omega⟩

variable (x : X) (r : Fin 4) (n : Fin 16) (h : Fin 4) (i j e : Fin 128)

theorem win_hi : win x r n (hi j) h e = x (ix2 (pos r (row n j)) (col h e)) := by
  unfold win
  have hj : (hi j).val = 128 + j.val := rfl
  rw [dif_neg (by omega)]
  have e1 : (⟨n.val * 128 + (hi j).val - 128, by omega⟩ : Fin 2048) = row n j := Fin.ext (by simp only [hj, row]; omega)
  rw [e1]

theorem win_lo (hn : n.val ≠ 0) : win x r n (lo j) h e = x (ix2 (pos r (row (pv n) j)) (col h e)) := by
  unfold win
  have hj : (lo j).val = j.val := rfl
  rw [dif_neg (by omega)]
  have e1 : (⟨n.val * 128 + (lo j).val - 128, by omega⟩ : Fin 2048) = row (pv n) j := Fin.ext (by simp only [hj, row, pv]; omega)
  rw [e1]

theorem win_first (hn : n.val = 0) : win x r n (lo j) h e = 0 := by
  unfold win
  have hj : (lo j).val = j.val := rfl
  rw [dif_pos (by omega)]

theorem pv_nx (hn : n.val < 15) : pv (nx n) = n := Fin.ext (by simp only [pv, nx]; omega)

theorem nx_eq (hn : n.val < 15) : nx n = ⟨1 + n.val, by omega⟩ := Fin.ext (by simp only [nx]; omega)

theorem ok_hi : ok n i (hi j) ↔ j.val ≤ i.val := by
  have hj : (hi j).val = 128 + j.val := rfl
  unfold ok
  omega

theorem ok_lo (hn : n.val ≠ 0) : ok n i (lo j) ↔ i.val ≤ j.val := by
  have hj : (lo j).val = j.val := rfl
  unfold ok
  omega

theorem ok_first (hn : n.val = 0) : ¬ ok n i (lo j) := by
  have hj : (lo j).val = j.val := rfl
  unfold ok
  omega

theorem sum_window (f : Fin 256 → EReal) : ∑ w, f w = ∑ j, f (lo j) + ∑ j, f (hi j) :=
  Fin.sum_univ_add (a := 128) (b := 128) f

theorem sc_nonneg : 0 ≤ sc ∧ sc ≠ ⊤ := by
  have e : sc = ((11863283 / 2 ^ 27 : ℝ) : EReal) := by
    simp [sc, Ideal.ofBits, Ideal.ieee, -EReal.coe_mul]; norm_num
  rw [e]
  exact ⟨by exact_mod_cast (by positivity : (0 : ℝ) ≤ 11863283 / 2 ^ 27), EReal.coe_ne_top _⟩

theorem add_mul_sc (a b : EReal) : (a + b) * sc = a * sc + b * sc := by
  rw [mul_comm, EReal.left_distrib_of_nonneg_of_ne_top sc_nonneg.1 sc_nonneg.2, mul_comm a, mul_comm b]

/-- The scale taken out of a sum of products. -/
theorem sum_sc {ι : Type} (s : Finset ι) (a b : ι → EReal) : ∑ y ∈ s, a y * sc * b y = (∑ y ∈ s, a y * b y) * sc := by
  classical
  induction s using Finset.induction_on with
  | empty => simp
  | insert y s hy ih => rw [Finset.sum_insert hy, Finset.sum_insert hy, ih, add_mul_sc, mul_assoc, mul_comm sc, ← mul_assoc]

variable (q k v d : X) (l : FVec Ideal Cert.ReferenceIdeal.S8192x4 .f32)
variable (x0 x1 x2 x3 x4 x5 : B4) (x6 x7 : FVec Ideal S1x128x512 .bf16)
variable (x8 x9 x10 x11 : FVec Ideal S1x128x512 .f32) (x12 : FVec Ideal S512x384 .f32)

/-- What the thirteen blocks hold at the point of residue `r` and block `n`. -/
structure Holds : Prop where
  h0 : ∀ (i : Fin 128) (f : Fin 512), x0 (ix4 0 0 i f) = q (ix2 (pos r (row n i)) f)
  h1 : ∀ (i : Fin 128) (f : Fin 512), x1 (ix4 0 0 i f) = q (ix2 (pos r (row (nx n) i)) f)
  h2 : ∀ (i : Fin 128) (f : Fin 512), x2 (ix4 0 0 i f) = k (ix2 (pos r (row n i)) f)
  h3 : ∀ (i : Fin 128) (f : Fin 512), x3 (ix4 0 0 i f) = k (ix2 (pos r (row (pv n) i)) f)
  h4 : ∀ (i : Fin 128) (f : Fin 512), x4 (ix4 0 0 i f) = v (ix2 (pos r (row n i)) f)
  h5 : ∀ (i : Fin 128) (f : Fin 512), x5 (ix4 0 0 i f) = v (ix2 (pos r (row (pv n) i)) f)
  h6 : ∀ (i : Fin 128) (f : Fin 512), x6 (ix3 0 i f) = d (ix2 (pos r (row n i)) f)
  h7 : ∀ (i : Fin 128) (f : Fin 512), x7 (ix3 0 i f) = d (ix2 (pos r (row (nx n) i)) f)
  h8 : ∀ (h : Fin 4) (i j : Fin 128), x8 (ix3 0 i (col h j)) = val_main_v105 (F := Ideal) q k (ix2 (pos r (row n i)) h)
  h9 : ∀ (h : Fin 4) (i j : Fin 128), x9 (ix3 0 i (col h j)) = val_main_v105 (F := Ideal) q k (ix2 (pos r (row (nx n) i)) h)
  h10 : ∀ (h : Fin 4) (i j : Fin 128), x10 (ix3 0 i (col h j)) = cc q k v d l r n h i
  h11 : ∀ (h : Fin 4) (i j : Fin 128), x11 (ix3 0 i (col h j)) = cc q k v d l r (nx n) h i
  b0 : ∀ (h : Fin 4) (i j : Fin 128), biasAt 0 (by omega) x12 h i j = if j.val ≤ i.val then val_main_v71 (F := Ideal) (ix3 h i (hi j)) else ⊥
  b1 : ∀ (h : Fin 4) (i j : Fin 128), biasAt 128 (by omega) x12 h i j = if i.val ≤ j.val then val_main_v71 (F := Ideal) (ix3 h i (lo j)) else ⊥
  b2 : ∀ (h : Fin 4) (i j : Fin 128), biasAt 256 (by omega) x12 h i j = if i.val ≤ j.val then val_main_v71 (F := Ideal) (ix3 h i (lo j)) else ⊥

variable {q k v d l r n x0 x1 x2 x3 x4 x5 x6 x7 x8 x9 x10 x11 x12}

theorem masked_prob (g : Prop) [Decidable g] (hg : g) (s b l : EReal) : prob g s b l = 0 := by
  unfold prob
  rw [if_pos hg, EReal.bot_sub]
  rfl

/-- A kernel probability over a window entry is the reference's weight there. -/
theorem prob_eq (n : Fin 16) (w : Fin 256) (g g' : Prop) [Decidable g] [Decidable g'] (hg : ¬ g) (hw : ok n i w ↔ g') (s b l : EReal)
    (hs : s = ∑ e : Fin 128, q (ix2 (pos r (row n i)) (col h e)) * win k r n w h e)
    (hb : b = if g' then val_main_v71 (F := Ideal) (ix3 h i w) else ⊥)
    (hl : l = val_main_v105 (F := Ideal) q k (ix2 (pos r (row n i)) h)) :
    prob g s b l = W q k r n h i w := by
  have e : S q k r n h i w = s * sc + b := by
    unfold S
    rw [hb, hs]
    by_cases g2 : g'
    · rw [if_pos (hw.2 g2), if_pos g2]
    · rw [if_neg fun z => g2 (hw.1 z), if_neg g2, EReal.add_bot]
  unfold prob W Row.wt
  rw [if_neg hg, hl, b105, e]
  rfl

section
variable (H : Holds r n q k v d l x0 x1 x2 x3 x4 x5 x6 x7 x8 x9 x10 x11 x12)
include H

theorem pA_eq : pA x0 x2 x8 x12 h i j = W q k r n h i (hi j) :=
  prob_eq h i n (hi j) False _ not_false (ok_hi n i j) _ _ _
    (Finset.sum_congr rfl fun e _ => by rw [H.h0, H.h2, win_hi]) (H.b0 h i j) (H.h8 h i j)

theorem pB_eq : pB n x0 x3 x8 x12 h i j = W q k r n h i (lo j) := by
  by_cases hn : n.val = 0
  · rw [masked (ok_first n i j hn)]
    exact masked_prob _ hn _ _ _
  · exact prob_eq h i n (lo j) _ _ hn (ok_lo n i j hn) _ _ _
      (Finset.sum_congr rfl fun e _ => by rw [H.h0, H.h3, win_lo k r n h j e hn]) (H.b1 h i j) (H.h8 h i j)

theorem pC_last (hn : n.val = 15) : pC n x1 x2 x9 x12 h i j = 0 := masked_prob _ hn _ _ _

theorem nx_ne (hn : n.val < 15) : (nx n).val ≠ 0 := by simp only [nx]; omega

theorem pC_eq (hn : n.val < 15) : pC n x1 x2 x9 x12 h i j = W q k r (nx n) h i (lo j) :=
  prob_eq h i (nx n) (lo j) _ _ (by omega) (ok_lo (nx n) i j (nx_ne H hn)) _ _ _
    (Finset.sum_congr rfl fun e _ => by rw [H.h1, H.h2, win_lo k r (nx n) h j e (nx_ne H hn), pv_nx n hn]) (H.b2 h i j) (H.h9 h i j)

theorem dA_eq : dst (pA x0 x2 x8 x12) (dot34 x6 x4) (pick x10) h i j = dS q k v d l r n h i (hi j) := by
  unfold dst dS
  rw [pA_eq h i j H]
  have e1 : dot34 x6 x4 h i j = dp v d r n h i (hi j) := Finset.sum_congr rfl fun e _ => by rw [H.h6, H.h4, win_hi]
  have e2 : pick x10 h i j = cc q k v d l r n h i := H.h10 h i j
  rw [e1, e2]

theorem dB_eq : dst (pB n x0 x3 x8 x12) (dot34 x6 x5) (pick x10) h i j = dS q k v d l r n h i (lo j) := by
  unfold dst
  rw [pB_eq h i j H]
  by_cases hn : n.val = 0
  · rw [masked_dS (ok_first n i j hn), masked (ok_first n i j hn), zero_mul]
  · have e1 : dot34 x6 x5 h i j = dp v d r n h i (lo j) := Finset.sum_congr rfl fun e _ => by rw [H.h6, H.h5, win_lo v r n h j e hn]
    have e2 : pick x10 h i j = cc q k v d l r n h i := H.h10 h i j
    rw [e1, e2]
    rfl

theorem dC_last (hn : n.val = 15) : dst (pC n x1 x2 x9 x12) (dot34 x7 x4) (pick x11) h i j = 0 := by
  unfold dst
  rw [pC_last h i j H hn, zero_mul]

theorem dC_eq (hn : n.val < 15) : dst (pC n x1 x2 x9 x12) (dot34 x7 x4) (pick x11) h i j = dS q k v d l r (nx n) h i (lo j) := by
  unfold dst dS
  rw [pC_eq h i j H hn]
  have e1 : dot34 x7 x4 h i j = dp v d r (nx n) h i (lo j) := Finset.sum_congr rfl fun e _ => by
    rw [H.h7, H.h4, win_lo v r (nx n) h j e (nx_ne H hn), pv_nx n hn]
  have e2 : pick x11 h i j = cc q k v d l r (nx n) h i := H.h11 h i j
  rw [e1, e2]

/-- The gradient of the queries. -/
theorem dq_eq (hv : ∀ j, ∃ z : ℝ, v j = (z : EReal)) (hd : ∀ j, ∃ z : ℝ, d j = (z : EReal)) :
    (rowBy (dst (pA x0 x2 x8 x12) (dot34 x6 x4) (pick x10)) x2 h i e
      + rowBy (dst (pB n x0 x3 x8 x12) (dot34 x6 x5) (pick x10)) x3 h i e) * sc
    = val_main_v169 (F := Ideal) q k v d l (ix4 0 r (row n i) (col h e)) := by
  rw [at_dq hv hd, sum_sc, sum_window, add_comm (∑ j, dS q k v d l r n h i (lo j) * _)]
  refine congrArg (· * sc) (congrArg₂ (· + ·) ?_ ?_)
  · exact Finset.sum_congr rfl fun j _ => by rw [dA_eq h i j H, H.h2, win_hi]
  · refine Finset.sum_congr rfl fun j _ => ?_
    rw [dB_eq h i j H, H.h3]
    by_cases hn : n.val = 0
    · rw [masked_dS (ok_first n i j hn), zero_mul, zero_mul]
    · rw [win_lo k r n h j e hn]

/-- The gradient of the keys. -/
theorem dk_eq (hv : ∀ j, ∃ z : ℝ, v j = (z : EReal)) (hd : ∀ j, ∃ z : ℝ, d j = (z : EReal)) :
    (colBy (dst (pA x0 x2 x8 x12) (dot34 x6 x4) (pick x10)) x0 h j e
      + colBy (dst (pC n x1 x2 x9 x12) (dot34 x7 x4) (pick x11)) x1 h j e) * sc
    = val_main_v169 (F := Ideal) q k v d l (ix4 1 r (row n j) (col h e)) := by
  rw [at_dk hv hd, add_mul_sc]
  refine congrArg₂ (· + ·) ?_ ?_
  · unfold dkw
    rw [sum_sc]
    exact congrArg (· * sc) (Finset.sum_congr rfl fun i _ => by rw [dA_eq h i j H, H.h0])
  · by_cases hn : n.val < 15
    · rw [dif_pos hn, ← nx_eq n hn]
      unfold dkw
      rw [sum_sc]
      exact congrArg (· * sc) (Finset.sum_congr rfl fun i _ => by rw [dC_eq h i j H hn, H.h1])
    · rw [dif_neg hn]
      have hl : n.val = 15 := by omega
      have e0 : colBy (dst (pC n x1 x2 x9 x12) (dot34 x7 x4) (pick x11)) x1 h j e = 0 :=
        Finset.sum_eq_zero fun i _ => by rw [dC_last h i j H hl, zero_mul]
      rw [e0, zero_mul]

/-- The gradient of the values. -/
theorem dv_eq :
    colBy3 (pA x0 x2 x8 x12) x6 h j e + colBy3 (pC n x1 x2 x9 x12) x7 h j e
    = val_main_v169 (F := Ideal) q k v d l (ix4 2 r (row n j) (col h e)) := by
  rw [at_dv]
  refine congrArg₂ (· + ·) ?_ ?_
  · exact Finset.sum_congr rfl fun i _ => by rw [pA_eq h i j H, H.h6, mul_comm]
  · by_cases hn : n.val < 15
    · rw [dif_pos hn, ← nx_eq n hn]
      exact Finset.sum_congr rfl fun i _ => by rw [pC_eq h i j H hn, H.h7, mul_comm]
    · rw [dif_neg hn]
      have hl : n.val = 15 := by omega
      exact Finset.sum_eq_zero fun i _ => by rw [pC_last h i j H hl, zero_mul]

end

/-- A point's three gradients, stacked, are the reference's. -/
theorem out_eq (H : Holds r n q k v d l x0 x1 x2 x3 x4 x5 x6 x7 x8 x9 x10 x11 x12)
    (hv : ∀ j, ∃ z : ℝ, v j = (z : EReal)) (hd : ∀ j, ∃ z : ℝ, d j = (z : EReal))
    (y : Cert.KernelIdeal.S3x1x128x512.Idx) (z : Cert.KernelIdeal.S3x4x2048x512.Idx)
    (z0 : (z 0).val = (y 0).val) (z1 : (z 1).val = r.val) (z2 : (z 2).val = n.val * 128 + (y 2).val) (z3 : (z 3).val = (y 3).val) :
    outB n x0 x1 x2 x3 x4 x5 x6 x7 x8 x9 x10 x11 x12 y = val_main_v169 (F := Ideal) q k v d l z := by
  have hy0 : (y 0).val < 3 := (y 0).isLt
  have hy2 : (y 2).val < 128 := (y 2).isLt
  have hy3 : (y 3).val < 512 := (y 3).isLt
  obtain ⟨h, hh⟩ : ∃ h : Fin 4, h.val = (y 3).val / 128 := ⟨⟨(y 3).val / 128, by omega⟩, rfl⟩
  obtain ⟨e, he⟩ : ∃ e : Fin 128, e.val = (y 3).val % 128 := ⟨⟨(y 3).val % 128, by omega⟩, rfl⟩
  obtain ⟨i, hi'⟩ : ∃ i : Fin 128, i.val = (y 2).val := ⟨⟨(y 2).val, hy2⟩, rfl⟩
  have hc : (y 3).val = 128 * h.val + e.val := by omega
  have hz : ∀ g : Fin 3, g.val = (y 0).val → z = ix4 g r (row n i) (col h e) := fun g hg => funext fun a => Fin.ext (match a with
    | ⟨0, _⟩ => z0.trans hg.symm
    | ⟨1, _⟩ => z1
    | ⟨2, _⟩ => by show (z 2).val = n.val * 128 + i.val; omega
    | ⟨3, _⟩ => by show (z 3).val = 128 * h.val + e.val; omega)
  unfold outB
  by_cases g0 : (y 0).val = 0
  · rw [stack_a _ _ _ y h i e g0 hi'.symm hc, hz 0 g0.symm, ← dq_eq h i e H hv hd]
    rfl
  · by_cases g1 : (y 0).val = 1
    · rw [stack_b _ _ _ y h i e g1 hi'.symm hc, hz 1 g1.symm, ← dk_eq h i e H hv hd]
      rfl
    · have g2 : (y 0).val = 2 := by omega
      rw [stack_c _ _ _ y h i e g2 hi'.symm hc, hz 2 g2.symm, ← dv_eq h i e H]

end Cert.Join
-- ==== Proof.Array.lean ====
module

public import proofs.«01_k».proof.Proof.Band
public import proofs.«01_k».proof.Proof.Join
public import proofs.«01_k».proof.Proof.Gen.KernelIdeal.Value

@[expose] public section

/-! The kernel's final array is the reference's result. -/

set_option maxRecDepth 16384
noncomputable section

namespace Cert.Array
open Cert.KernelIdeal Cert.KernelIdeal.Gen Idealize.ShloMosaic Idealize.ShloMosaic.TcCoe Idealize.SL.Sem
open Idealize.ShloMosaic.Pipeline (Dat)
open Cert.KernelIdeal.Blk (col outsAt0_eq)
open Cert.KernelIdeal.Pre
open Cert.ReferenceIdeal.Ref (row)
open Cert.Join (nx pv Holds)

variable (m : (ℓ : Loc nD τ sig) → Buf (Elt Ideal) ℓ) (c : Dev nD)

/-- The residue of a grid point. -/
def rr (t : Fin cfg0.N) : Fin 4 := ⟨(grid0.coords t 0).val, (grid0.coords t 0).isLt⟩

/-- The block of a grid point. -/
def nn (t : Fin cfg0.N) : Fin 16 := ⟨(grid0.coords t 1).val, (grid0.coords t 1).isLt⟩

/-! Where each window's block sits at a grid point. -/

theorem q0 : ∀ t : Fin cfg0.N, win0_0.index t = ![0, (rr t).val, (nn t).val, 0] :=
  (by decide +kernel : ∀ t : Fin grid0.N, win0_0.index t = ![0, (rr t).val, (nn t).val, 0])

theorem q1 : ∀ t : Fin cfg0.N, win0_1.index t = ![0, (rr t).val, (nx (nn t)).val, 0] :=
  (by decide +kernel : ∀ t : Fin grid0.N, win0_1.index t = ![0, (rr t).val, (nx (nn t)).val, 0])

theorem q2 : ∀ t : Fin cfg0.N, win0_2.index t = ![1, (rr t).val, (nn t).val, 0] :=
  (by decide +kernel : ∀ t : Fin grid0.N, win0_2.index t = ![1, (rr t).val, (nn t).val, 0])

theorem q3 : ∀ t : Fin cfg0.N, win0_3.index t = ![1, (rr t).val, (pv (nn t)).val, 0] :=
  (by decide +kernel : ∀ t : Fin grid0.N, win0_3.index t = ![1, (rr t).val, (pv (nn t)).val, 0])

theorem q4 : ∀ t : Fin cfg0.N, win0_4.index t = ![2, (rr t).val, (nn t).val, 0] :=
  (by decide +kernel : ∀ t : Fin grid0.N, win0_4.index t = ![2, (rr t).val, (nn t).val, 0])

theorem q5 : ∀ t : Fin cfg0.N, win0_5.index t = ![2, (rr t).val, (pv (nn t)).val, 0] :=
  (by decide +kernel : ∀ t : Fin grid0.N, win0_5.index t = ![2, (rr t).val, (pv (nn t)).val, 0])

theorem q6 : ∀ t : Fin cfg0.N, win0_6.index t = ![(rr t).val, (nn t).val, 0] :=
  (by decide +kernel : ∀ t : Fin grid0.N, win0_6.index t = ![(rr t).val, (nn t).val, 0])

theorem q7 : ∀ t : Fin cfg0.N, win0_7.index t = ![(rr t).val, (nx (nn t)).val, 0] :=
  (by decide +kernel : ∀ t : Fin grid0.N, win0_7.index t = ![(rr t).val, (nx (nn t)).val, 0])

theorem q8 : ∀ t : Fin cfg0.N, win0_8.index t = ![(rr t).val, (nn t).val, 0] :=
  (by decide +kernel : ∀ t : Fin grid0.N, win0_8.index t = ![(rr t).val, (nn t).val, 0])

theorem q9 : ∀ t : Fin cfg0.N, win0_9.index t = ![(rr t).val, (nx (nn t)).val, 0] :=
  (by decide +kernel : ∀ t : Fin grid0.N, win0_9.index t = ![(rr t).val, (nx (nn t)).val, 0])

theorem q10 : ∀ t : Fin cfg0.N, win0_10.index t = ![(rr t).val, (nn t).val, 0] :=
  (by decide +kernel : ∀ t : Fin grid0.N, win0_10.index t = ![(rr t).val, (nn t).val, 0])

theorem q11 : ∀ t : Fin cfg0.N, win0_11.index t = ![(rr t).val, (nx (nn t)).val, 0] :=
  (by decide +kernel : ∀ t : Fin grid0.N, win0_11.index t = ![(rr t).val, (nx (nn t)).val, 0])

theorem q12 : ∀ t : Fin cfg0.N, win0_12.index t = ![0, 0] :=
  (by decide +kernel : ∀ t : Fin grid0.N, win0_12.index t = ![0, 0])

theorem q13 : ∀ t : Fin cfg0.N, win0_13.index t = ![0, (rr t).val, (nn t).val, 0] :=
  (by decide +kernel : ∀ t : Fin grid0.N, win0_13.index t = ![0, (rr t).val, (nn t).val, 0])

theorem x0 (t : Fin cfg0.N) (i : Fin 128) (f : Fin 512) : iblk m c 0 t (ix4 0 0 i f) = aq m c (ix2 (pos (rr t) (row (nn t) i)) f) := by
  have e : iblk m c 0 t (ix4 0 0 i f) = V m c main_v115 (ix4 0 (rr t) (row (nn t) i) f) := by
    blk_ext [iblk, q0 t, row]
  rw [e, V_v115]
  exact W4_at115_0 m c _ _ _

theorem x1 (t : Fin cfg0.N) (i : Fin 128) (f : Fin 512) : iblk m c 1 t (ix4 0 0 i f) = aq m c (ix2 (pos (rr t) (row (nx (nn t)) i)) f) := by
  have e : iblk m c 1 t (ix4 0 0 i f) = V m c main_v115 (ix4 0 (rr t) (row (nx (nn t)) i) f) := by
    blk_ext [iblk, q1 t, row]
  rw [e, V_v115]
  exact W4_at115_0 m c _ _ _

theorem x2 (t : Fin cfg0.N) (i : Fin 128) (f : Fin 512) : iblk m c 2 t (ix4 0 0 i f) = ak m c (ix2 (pos (rr t) (row (nn t) i)) f) := by
  have e : iblk m c 2 t (ix4 0 0 i f) = V m c main_v115 (ix4 1 (rr t) (row (nn t) i) f) := by
    blk_ext [iblk, q2 t, row]
  rw [e, V_v115]
  exact W4_at115_1 m c _ _ _

theorem x3 (t : Fin cfg0.N) (i : Fin 128) (f : Fin 512) : iblk m c 3 t (ix4 0 0 i f) = ak m c (ix2 (pos (rr t) (row (pv (nn t)) i)) f) := by
  have e : iblk m c 3 t (ix4 0 0 i f) = V m c main_v115 (ix4 1 (rr t) (row (pv (nn t)) i) f) := by
    blk_ext [iblk, q3 t, row]
  rw [e, V_v115]
  exact W4_at115_1 m c _ _ _

theorem x4 (t : Fin cfg0.N) (i : Fin 128) (f : Fin 512) : iblk m c 4 t (ix4 0 0 i f) = av m c (ix2 (pos (rr t) (row (nn t) i)) f) := by
  have e : iblk m c 4 t (ix4 0 0 i f) = V m c main_v115 (ix4 2 (rr t) (row (nn t) i) f) := by
    blk_ext [iblk, q4 t, row]
  rw [e, V_v115]
  exact W4_at115_2 m c _ _ _

theorem x5 (t : Fin cfg0.N) (i : Fin 128) (f : Fin 512) : iblk m c 5 t (ix4 0 0 i f) = av m c (ix2 (pos (rr t) (row (pv (nn t)) i)) f) := by
  have e : iblk m c 5 t (ix4 0 0 i f) = V m c main_v115 (ix4 2 (rr t) (row (pv (nn t)) i) f) := by
    blk_ext [iblk, q5 t, row]
  rw [e, V_v115]
  exact W4_at115_2 m c _ _ _

theorem x6 (t : Fin cfg0.N) (i : Fin 128) (f : Fin 512) : iblk m c 6 t (ix3 0 i f) = ad m c (ix2 (pos (rr t) (row (nn t) i)) f) := by
  have e : iblk m c 6 t (ix3 0 i f) = V m c main_v118 (ix3 (rr t) (row (nn t) i) f) := by
    blk_ext [iblk, q6 t, row]
  rw [e, V_v118]
  exact W4_at118 m c _ _ _

theorem x7 (t : Fin cfg0.N) (i : Fin 128) (f : Fin 512) : iblk m c 7 t (ix3 0 i f) = ad m c (ix2 (pos (rr t) (row (nx (nn t)) i)) f) := by
  have e : iblk m c 7 t (ix3 0 i f) = V m c main_v118 (ix3 (rr t) (row (nx (nn t)) i) f) := by
    blk_ext [iblk, q7 t, row]
  rw [e, V_v118]
  exact W4_at118 m c _ _ _

theorem x8 (t : Fin cfg0.N) (h : Fin 4) (i j : Fin 128) : iblk m c 8 t (ix3 0 i (col h j)) = Cert.ReferenceIdeal.Read.val_main_v105 (F := Ideal) (aq m c) (ak m c) (ix2 (pos (rr t) (row (nn t) i)) h) := by
  have e : iblk m c 8 t (ix3 0 i (col h j)) = V m c main_v123 (ix3 (rr t) (row (nn t) i) (col h j)) := by
    blk_ext [iblk, q8 t, row]
  rw [e, V_v123]
  exact W4_at123 m c _ _ _ _

theorem x9 (t : Fin cfg0.N) (h : Fin 4) (i j : Fin 128) : iblk m c 9 t (ix3 0 i (col h j)) = Cert.ReferenceIdeal.Read.val_main_v105 (F := Ideal) (aq m c) (ak m c) (ix2 (pos (rr t) (row (nx (nn t)) i)) h) := by
  have e : iblk m c 9 t (ix3 0 i (col h j)) = V m c main_v123 (ix3 (rr t) (row (nx (nn t)) i) (col h j)) := by
    blk_ext [iblk, q9 t, row]
  rw [e, V_v123]
  exact W4_at123 m c _ _ _ _

theorem x10 (t : Fin cfg0.N) (h : Fin 4) (i j : Fin 128) : iblk m c 10 t (ix3 0 i (col h j)) = Cert.ReferenceIdeal.Ref.cc (aq m c) (ak m c) (av m c) (ad m c) (al m c) (rr t) (nn t) h i := by
  have e : iblk m c 10 t (ix3 0 i (col h j)) = V m c main_v128 (ix3 (rr t) (row (nn t) i) (col h j)) := by
    blk_ext [iblk, q10 t, row]
  rw [e, V_v128, W4_at128]
  exact W4_at104 m c _ _

theorem x11 (t : Fin cfg0.N) (h : Fin 4) (i j : Fin 128) : iblk m c 11 t (ix3 0 i (col h j)) = Cert.ReferenceIdeal.Ref.cc (aq m c) (ak m c) (av m c) (ad m c) (al m c) (rr t) (nx (nn t)) h i := by
  have e : iblk m c 11 t (ix3 0 i (col h j)) = V m c main_v128 (ix3 (rr t) (row (nx (nn t)) i) (col h j)) := by
    blk_ext [iblk, q11 t, row]
  rw [e, V_v128, W4_at128]
  exact W4_at104 m c _ _

theorem x12 (t : Fin cfg0.N) : (iblk m c 12 t : FVec Ideal S512x384 .f32) = V m c main_v261 := by
  funext y
  blk_ext [iblk, q12 t]

theorem holds (t : Fin cfg0.N) : Holds (rr t) (nn t) (aq m c) (ak m c) (av m c) (ad m c) (al m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) where
  h0 := x0 m c t
  h1 := x1 m c t
  h2 := x2 m c t
  h3 := x3 m c t
  h4 := x4 m c t
  h5 := x5 m c t
  h6 := x6 m c t
  h7 := x7 m c t
  h8 := x8 m c t
  h9 := x9 m c t
  h10 := x10 m c t
  h11 := x11 m c t
  b0 h i j := by
    rw [x12]
    exact Cert.Band.bias_near m c h i j
  b1 h i j := by
    rw [x12]
    exact Cert.Band.bias_prev m c h i j
  b2 h i j := by
    rw [x12]
    exact Cert.Band.bias_next m c h i j

/-- The kernel's final array, with real values and cotangents. -/
theorem final (hv : ∀ j, ∃ z : ℝ, av m c j = (z : EReal)) (hd : ∀ j, ∃ z : ℝ, ad m c j = (z : EReal)) :
    (dats m 0 c).arrAt 13 cfg0.N = Cert.ReferenceIdeal.Read.val_main_v169 (F := Ideal) (aq m c) (ak m c) (av m c) (ad m c) (al m c) := by
  refine (dats m 0 c).arrAt_eq_of_covers 13 _ (by decide +kernel) fun t hf y => ?_
  blk_simp
  rw [after0_13, outsAt0_eq]
  refine Cert.Join.out_eq (holds m c t) hv hd y _ ?_ ?_ ?_ ?_
  · blk_simp [q13 t]
  · blk_simp [q13 t]
  · blk_simp [q13 t]
  · blk_simp [q13 t]

end Cert.Array
-- ==== Proof.Claims.lean ====
module

public import proofs.«01_k».proof.Defs
public import proofs.«01_k».proof.Proof.Array
public import proofs.«01_k».proof.Proof.Gen.Kernel.Frame

@[expose] public section

/-! The claims of the attention gradient's programs. -/

set_option maxRecDepth 16384
noncomputable section

namespace Cert.Claims
open Idealize.ShloMosaic Idealize.ShloMosaic.TcCoe Idealize.SL.Sem

theorem preFacts : Cert.Pre_finite.Facts := ⟨by decide⟩

instance : Cert.Pre_finite.Facts := preFacts

theorem frameP : Cert.quiescent_Kernel := fun m ρ _ => Cert.Kernel.Gen.frame m ρ

theorem framePI : Cert.quiescent_KernelIdeal := fun m ρ _ => Cert.KernelIdeal.Gen.frame m ρ

theorem frameRI : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem kept : Cert.preserves_Kernel_KernelIdeal :=
  IdealRules.named_const.statement Cert.KernelIdeal.κ "mask" .f32 0xF149F2CA#32 ⊥ rfl

/-- An array below infinity in absolute value holds reals. -/
theorem real_of_lt (x : EReal) (h : Ideal.cmp .olt (max x (-x)) (Ideal.ofBits .f32 0x7F800000#32) = 1#1) : ∃ z : ℝ, x = z := by
  have ht : Ideal.ofBits .f32 0x7F800000#32 = ⊤ := Cert.ReferenceIdeal.Ref.top_word
  rw [ht, Cert.ReferenceIdeal.Ref.abs_lt_top] at h
  induction x with
  | bot => simp at h
  | top => simp at h
  | coe x => exact ⟨x, rfl⟩

theorem both : ∀ a b : BitVec 1, IntOp.andi a b = 1#1 → a = 1#1 ∧ b = 1#1 := by decide

theorem reals (m : (ℓ : Loc Cert.KernelIdeal.nD Cert.KernelIdeal.τ Cert.KernelIdeal.sig) → Buf (Elt Ideal) ℓ)
    (h : Cert.Pre_KernelIdeal_finite m) (c : Dev Cert.KernelIdeal.nD) :
    (∀ j, ∃ z : ℝ, Cert.KernelIdeal.Pre.av m c j = (z : EReal)) ∧ (∀ j, ∃ z : ℝ, Cert.KernelIdeal.Pre.ad m c j = (z : EReal)) := by
  have e := h c
  refine ⟨fun j => ?_, fun j => ?_⟩
  · exact real_of_lt _ (both _ _ (congrFun e j)).1
  · exact real_of_lt _ (both _ _ (congrFun e j)).2

theorem equal : Cert.algebraic_KernelIdeal_ReferenceIdeal_pre_finite := by
  intro m ρ m' ρ' hpre hag
  refine ⟨fun c => Cert.ReferenceIdeal.Read.val_main_v169 (F := Ideal) (Cert.KernelIdeal.Pre.aq m c) (Cert.KernelIdeal.Pre.ak m c) (Cert.KernelIdeal.Pre.av m c) (Cert.KernelIdeal.Pre.ad m c) (Cert.KernelIdeal.Pre.al m c), ?_, ?_⟩
  · exact (θ_run Cert.KernelIdeal.defs _ _).mono
      (fun r h c => ⟨(h c).1.trans (Cert.Array.final m c (reals m hpre c).1 (reals m hpre c).2), (h c).2⟩)
      (Cert.KernelIdeal.Value.run_blocks m ρ)
  · refine (θ_run Cert.ReferenceIdeal.defs _ _).mono (fun r h c => ⟨?_, (h c).2⟩) (Cert.ReferenceIdeal.Value.run m' ρ')
    refine ((h c).1.trans (Cert.ReferenceIdeal.Read.val_main_v169_eq (F := Ideal) (StableHlo.launchContents m' c))).trans ?_
    have e := hag c
    exact congr (congr (congr (congr (congrArg (Cert.ReferenceIdeal.Read.val_main_v169 (F := Ideal)) e.1) e.2.1) e.2.2.1) e.2.2.2.1) e.2.2.2.2

end Cert.Claims
-- ==== Proof.Mat.lean ====
module

public import Idealize.ShloMosaic.Lib.Pipeline.ValueKit
public import Idealize.ShloMosaic.Lib.Pipeline.ReadBack
public import Idealize.ShloMosaic.Lib.MatmulPlain

@[expose] public section

/-! Block products over the extended reals, read at an entry. -/

noncomputable section

namespace Cert.Mat
open Idealize.ShloMosaic
open scoped BigOperators

variable {M K N : ℕ}

theorem hz : (![0, 0] : Fin 2 → Nat) = fun _ => 0 := funext fun a => match a with
  | ⟨0, _⟩ => rfl
  | ⟨1, _⟩ => rfl

/-- Every entry is one by its coordinates. -/
theorem eta {a b : ℕ} (y : (⟨2, ![a, b]⟩ : Shape).Idx) : ∃ i j, y = ix2 i j :=
  ⟨y 0, y 1, funext fun a => match a with
    | ⟨0, _⟩ => rfl
    | ⟨1, _⟩ => rfl⟩

/-- Rows against rows, onto zero. -/
theorem nt (x : FVec Ideal ⟨2, ![M, K]⟩ .bf16) (y : FVec Ideal ⟨2, ![N, K]⟩ .bf16) (i : Fin M) (j : Fin N) :
    FloatOps.matmul (DotDims.transposedRhs M K N) none x y (constant (F := Ideal) ⟨2, ![M, N]⟩ FTy.f32 0#32) (ix2 i j) =
      ∑ k : Fin K, x (ix2 i k) * y (ix2 j k) := by
  have e := Ideal.matmul_transposedRhs_apply none x y (constant (F := Ideal) ⟨2, ![M, N]⟩ FTy.f32 0#32) i j
  have z : constant (F := Ideal) ⟨2, ![M, N]⟩ FTy.f32 0#32 (ValueIdx.ix2 i j) = (0 : EReal) := Ideal.ofBits_zero_f32
  rw [z, zero_add] at e
  exact e

/-- Rows against columns, onto zero. -/
theorem nn (x : FVec Ideal ⟨2, ![M, K]⟩ .bf16) (y : FVec Ideal ⟨2, ![K, N]⟩ .bf16) (i : Fin M) (j : Fin N) :
    FloatOps.matmul (DotDims.plain M K N) none x y (constant (F := Ideal) ⟨2, ![M, N]⟩ FTy.f32 0#32) (ix2 i j) =
      ∑ k : Fin K, x (ix2 i k) * y (ix2 k j) := by
  have e := Ideal.matmul_plain_apply none x y (constant (F := Ideal) ⟨2, ![M, N]⟩ FTy.f32 0#32) i j
  have z : constant (F := Ideal) ⟨2, ![M, N]⟩ FTy.f32 0#32 (ValueIdx.ix2 i j) = (0 : EReal) := Ideal.ofBits_zero_f32
  rw [z, zero_add] at e
  exact e

/-- The dimension numbers of a product of columns against columns. -/
def cols (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, (by decide : ([1, 0] : List (Fin 2)).Perm (List.finRange 2)),
    (by decide : ([1, 0] : List (Fin 2)).Perm (List.finRange 2)), rfl, Nat.two_pos, fun b => by fin_cases b <;> rfl⟩

/-- Columns against columns, onto zero. -/
theorem tn (x : FVec Ideal ⟨2, ![K, M]⟩ .bf16) (y : FVec Ideal ⟨2, ![K, N]⟩ .bf16) (i : Fin M) (j : Fin N) :
    FloatOps.matmul (cols M K N) none x y (constant (F := Ideal) ⟨2, ![M, N]⟩ FTy.f32 0#32) (ix2 i j) =
      ∑ k : Fin K, x (ix2 k i) * y (ix2 k j) := by
  rw [Ideal.matmul_apply]
  have z : constant (F := Ideal) ⟨2, ![M, N]⟩ FTy.f32 0#32 (ix2 i j) = (0 : EReal) := Ideal.ofBits_zero_f32
  rw [z, zero_add, ← Equiv.sum_comp (ValueIdx.contrEquiv1 (cols M K N) K rfl rfl).symm]
  refine Finset.sum_congr rfl fun k _ => ?_
  have hk := ValueIdx.contrEquiv1_symm_val (cols M K N) K rfl rfl k
  have el : (cols M K N).lhsIdx (ix2 i j) ((ValueIdx.contrEquiv1 (cols M K N) K rfl rfl).symm k) = ix2 k i := by
    funext a; apply Fin.ext
    match a with
    | ⟨0, _⟩ => exact hk
    | ⟨1, _⟩ => rfl
  have er : (cols M K N).rhsIdx (ix2 i j) ((ValueIdx.contrEquiv1 (cols M K N) K rfl rfl).symm k) = ix2 k j := by
    funext a; apply Fin.ext
    match a with
    | ⟨0, _⟩ => exact hk
    | ⟨1, _⟩ => rfl
  rw [el, er]

/-- A sum over all positions, band by band. -/
theorem split {S K : ℕ} (f : Fin (S * K) → EReal) {p : Fin S → Fin K → Fin (S * K)} (hp : ∀ s k, (p s k).val = s.val * K + k.val) :
    ∑ k, f k = ∑ s : Fin S, ∑ k : Fin K, f (p s k) := by
  rw [← Equiv.sum_comp finProdFinEquiv f, Fintype.sum_prod_type]
  refine Finset.sum_congr rfl fun s _ => Finset.sum_congr rfl fun k _ => congrArg f (Fin.ext ?_)
  rw [hp]
  show k.val + K * s.val = s.val * K + k.val
  rw [Nat.mul_comm, Nat.add_comm]

/-- Position `k` of band `s` in four bands of 2048. -/
def at4 (s : Fin 4) (k : Fin 2048) : Fin 8192 := ⟨s.val * 2048 + k.val, by omega⟩

/-- The same for the four bands of 2048. -/
theorem bands (f : Fin 8192 → EReal) : ∑ k, f k = ∑ s : Fin 4, ∑ k : Fin 2048, f (at4 s k) :=
  split (S := 4) (K := 2048) f fun _ _ => rfl

end Cert.Mat
-- ==== Proof.Dh2.lean ====
module

public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Mat
public import proofs.«01_k».proof.Defs
public import Idealize.ShloMosaic.Lib.Quiescent
public import Idealize.ShloMosaic.Lib.StableHlo.ReadAt
public import Idealize.ShloMosaic.Lib.StableHlo.RunRead

@[expose] public section

/-! The gradient at the feed-forward input: two products with a transposed right factor, added. -/

set_option maxRecDepth 16384
noncomputable section

namespace Cert.Dh2
open Cert.Kernel2Ideal Cert.Kernel2Ideal.Gen Idealize.ShloMosaic Idealize.ShloMosaic.TcCoe Idealize.SL.Sem
open Idealize.ShloMosaic.Pipeline (Dat)
open scoped BigOperators

/-- The block written at a grid point: the two products of the blocks read there. -/
theorem block (x0 x1 : FVec Ideal S512x5632 .bf16) (x2 x3 : FVec Ideal S256x5632 .bf16) (i : Fin 512) (j : Fin 256) :
    out0_4 (F := Ideal) x0 x1 x2 x3 (ix2 i j) = (∑ k : Fin 5632, x0 (ix2 i k) * x2 (ix2 j k)) + ∑ k : Fin 5632, x1 (ix2 i k) * x3 (ix2 j k) := by
  have hd : dot_S512x5632_S256x5632_S512x256_1_1_0_0_n_n = DotDims.transposedRhs 512 5632 256 := rfl
  unfold out0_4
  rw [View.canon_unit_zero Mat.hz]
  unfold k0_pay1
  simp only [View.ld_unit_zero (S := S512x5632) Mat.hz, View.ld_unit_zero (S := S256x5632) Mat.hz, shapeCast_self, hd]
  refine congrArg₂ (· + ·) ?_ ?_
  · exact Mat.nt _ _ i j
  · exact Mat.nt _ _ i j

variable (m : (ℓ : Loc nD τ sig) → Buf (Elt Ideal) ℓ) (c : Dev nD)

/-- The gate's gradient. -/
abbrev ag : S8192x5632.Idx → EReal := m ((c : Thread nD τ).loc main_arg0)
/-- The up projection's gradient. -/
abbrev au : S8192x5632.Idx → EReal := m ((c : Thread nD τ).loc main_arg1)
/-- The gate's weights. -/
abbrev wg : S2048x5632.Idx → EReal := m ((c : Thread nD τ).loc main_arg2)
/-- The up projection's weights. -/
abbrev wu : S2048x5632.Idx → EReal := m ((c : Thread nD τ).loc main_arg3)

theorem V0 : V m c main_v0 = ag m c := by
  after_reads_simp
  rfl

theorem V1 : V m c main_v1 = au m c := by
  after_reads_simp
  rfl

theorem V2 : V m c main_v2 = wg m c := by
  after_reads_simp
  rfl

theorem V3 : V m c main_v3 = wu m c := by
  after_reads_simp
  rfl

/-- The row block of a grid point. -/
def rb (t : Fin cfg0.N) : Fin 16 := ⟨(grid0.coords t 0).val, (grid0.coords t 0).isLt⟩

/-- The column block of a grid point. -/
def cb (t : Fin cfg0.N) : Fin 8 := ⟨(grid0.coords t 1).val, (grid0.coords t 1).isLt⟩

theorem q0 : ∀ t : Fin cfg0.N, win0_0.index t = ![(rb t).val, 0] :=
  (by decide +kernel : ∀ t : Fin grid0.N, win0_0.index t = ![(rb t).val, 0])

theorem q1 : ∀ t : Fin cfg0.N, win0_1.index t = ![(rb t).val, 0] :=
  (by decide +kernel : ∀ t : Fin grid0.N, win0_1.index t = ![(rb t).val, 0])

theorem q2 : ∀ t : Fin cfg0.N, win0_2.index t = ![(cb t).val, 0] :=
  (by decide +kernel : ∀ t : Fin grid0.N, win0_2.index t = ![(cb t).val, 0])

theorem q3 : ∀ t : Fin cfg0.N, win0_3.index t = ![(cb t).val, 0] :=
  (by decide +kernel : ∀ t : Fin grid0.N, win0_3.index t = ![(cb t).val, 0])

theorem q4 : ∀ t : Fin cfg0.N, win0_4.index t = ![(rb t).val, (cb t).val] :=
  (by decide +kernel : ∀ t : Fin grid0.N, win0_4.index t = ![(rb t).val, (cb t).val])

/-- Row `i` of row block `a`. -/
def row (a : Fin 16) (i : Fin 512) : Fin 8192 := ⟨a.val * 512 + i.val, by omega⟩

/-- Column `j` of column block `b`. -/
def col (b : Fin 8) (j : Fin 256) : Fin 2048 := ⟨b.val * 256 + j.val, by omega⟩

theorem x0 (t : Fin cfg0.N) (i : Fin 512) (k : Fin 5632) : iblk m c 0 t (ix2 i k) = ag m c (ix2 (row (rb t) i) k) := by
  have e : iblk m c 0 t (ix2 i k) = V m c main_v0 (ix2 (row (rb t) i) k) := by
    blk_ext [iblk, q0 t, row]
  rw [e, V0]

theorem x1 (t : Fin cfg0.N) (i : Fin 512) (k : Fin 5632) : iblk m c 1 t (ix2 i k) = au m c (ix2 (row (rb t) i) k) := by
  have e : iblk m c 1 t (ix2 i k) = V m c main_v1 (ix2 (row (rb t) i) k) := by
    blk_ext [iblk, q1 t, row]
  rw [e, V1]

theorem x2 (t : Fin cfg0.N) (j : Fin 256) (k : Fin 5632) : iblk m c 2 t (ix2 j k) = wg m c (ix2 (col (cb t) j) k) := by
  have e : iblk m c 2 t (ix2 j k) = V m c main_v2 (ix2 (col (cb t) j) k) := by
    blk_ext [iblk, q2 t, col]
  rw [e, V2]

theorem x3 (t : Fin cfg0.N) (j : Fin 256) (k : Fin 5632) : iblk m c 3 t (ix2 j k) = wu m c (ix2 (col (cb t) j) k) := by
  have e : iblk m c 3 t (ix2 j k) = V m c main_v3 (ix2 (col (cb t) j) k) := by
    blk_ext [iblk, q3 t, col]
  rw [e, V3]

/-- The reference's result at an entry. -/
theorem ref (a b : S8192x5632.Idx → EReal) (p q : S2048x5632.Idx → EReal) (i : Fin 8192) (j : Fin 2048) :
    Cert.Reference2Ideal.Read.val_main_v5 (F := Ideal) a b p q (ix2 i j) =
      (∑ k : Fin 5632, b (ix2 i k) * q (ix2 j k)) + ∑ k : Fin 5632, a (ix2 i k) * p (ix2 j k) := by
  rw [Cert.Reference2Ideal.Read.val_main_v5_apply, Cert.Reference2Ideal.Read.val_main_v3_apply, Cert.Reference2Ideal.Read.val_main_v4_apply]
  have l3 (k : Fin 5632) : Cert.Reference2Ideal.Read.lidx_main_v3 (ix2 i j) k = ix2 i k := funext fun a => match a with
    | ⟨0, _⟩ => rfl
    | ⟨1, _⟩ => rfl
  have r3 (k : Fin 5632) : Cert.Reference2Ideal.Read.ridx_main_v3 (ix2 i j) k = ix2 j k := funext fun a => match a with
    | ⟨0, _⟩ => rfl
    | ⟨1, _⟩ => rfl
  have l4 (k : Fin 5632) : Cert.Reference2Ideal.Read.lidx_main_v4 (ix2 i j) k = ix2 i k := funext fun a => match a with
    | ⟨0, _⟩ => rfl
    | ⟨1, _⟩ => rfl
  have r4 (k : Fin 5632) : Cert.Reference2Ideal.Read.ridx_main_v4 (ix2 i j) k = ix2 j k := funext fun a => match a with
    | ⟨0, _⟩ => rfl
    | ⟨1, _⟩ => rfl
  simp only [l3, r3, l4, r4]
  rfl

/-- What a grid point writes is the reference's result there. -/
theorem point (t : Fin cfg0.N) (y : S512x256.Idx) (j : S8192x2048.Idx) (h0 : (j 0).val = (rb t).val * 512 + (y 0).val)
    (h1 : (j 1).val = (cb t).val * 256 + (y 1).val) :
    out0_4 (iblk m c 0 t) (iblk m c 1 t) (iblk m c 2 t) (iblk m c 3 t) y =
      Cert.Reference2Ideal.Read.val_main_v5 (F := Ideal) (ag m c) (au m c) (wg m c) (wu m c) j := by
  obtain ⟨p, q, rfl⟩ := Mat.eta y
  have ej : j = ix2 (row (rb t) p) (col (cb t) q) := funext fun a => match a with
    | ⟨0, _⟩ => Fin.ext h0
    | ⟨1, _⟩ => Fin.ext h1
  rw [ej, block, ref, add_comm]
  refine congrArg₂ (· + ·) (Finset.sum_congr rfl fun k _ => ?_) (Finset.sum_congr rfl fun k _ => ?_)
  · exact congrArg₂ (· * ·) (x1 m c t _ k) (x3 m c t _ k)
  · exact congrArg₂ (· * ·) (x0 m c t _ k) (x2 m c t _ k)

/-- The final array. -/
theorem final : (dats m 0 c).arrAt 4 cfg0.N =
    Cert.Reference2Ideal.Read.val_main_v5 (F := Ideal) (ag m c) (au m c) (wg m c) (wu m c) := by
  refine (dats m 0 c).arrAt_eq_of_covers 4 _ (by decide +kernel) fun t hf y => ?_
  blk_simp
  rw [after0_4]
  refine point m c t y _ ?_ ?_
  · blk_simp [q4 t]
  · blk_simp [q4 t]

theorem frameP : Cert.quiescent_Kernel2 := fun m ρ _ => Cert.Kernel2.Gen.frame m ρ

theorem framePI : Cert.quiescent_Kernel2Ideal := fun m ρ _ => Cert.Kernel2Ideal.Gen.frame m ρ

theorem frameRI : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

theorem equal : Cert.algebraic_Kernel2Ideal_Reference2Ideal := by
  intro m ρ m' ρ' _ hag
  refine ⟨fun c => Cert.Reference2Ideal.Read.val_main_v5 (F := Ideal) (ag m c) (au m c) (wg m c) (wu m c), ?_, ?_⟩
  · exact (θ_run Cert.Kernel2Ideal.defs _ _).mono (fun r h c => ⟨(h c).1.trans (final m c), (h c).2⟩)
      (Cert.Kernel2Ideal.Value.run_blocks m ρ)
  · refine (θ_run Cert.Reference2Ideal.defs _ _).mono (fun r h c => ⟨?_, (h c).2⟩) (Cert.Reference2Ideal.Value.run m' ρ')
    have e := hag c
    refine ((h c).1.trans (Cert.Reference2Ideal.Read.val_main_v5_eq (F := Ideal) _ _ _ _)).trans ?_
    exact congr (congr (congr (congrArg (Cert.Reference2Ideal.Read.val_main_v5 (F := Ideal)) e.1) e.2.1) e.2.2.1) e.2.2.2

end Cert.Dh2
-- ==== Proof.DwUp.lean ====
module

public import proofs.«01_k».proof.Proof.Gen.Kernel3.Frame
public import proofs.«01_k».proof.Proof.Gen.Kernel3Ideal.Frame
public import Idealize.ShloMosaic.Lib.Pipeline.Value
public import proofs.«01_k».proof.Proof.Gen.Reference3Ideal.Run
public import proofs.«01_k».proof.Proof.Gen.Reference3Ideal.Read
public import proofs.«01_k».proof.Proof.Mat
public import proofs.«01_k».proof.Defs
public import Idealize.ShloMosaic.Lib.Quiescent
public import Idealize.ShloMosaic.Lib.StableHlo.ReadAt
public import Idealize.ShloMosaic.Lib.StableHlo.RunRead

@[expose] public section

/-! The weight gradient of an up projection: columns against columns, band by band. -/

set_option maxRecDepth 16384
noncomputable section

namespace Cert.DwUp
open Cert.Kernel3Ideal Cert.Kernel3Ideal.Gen Idealize.ShloMosaic Idealize.ShloMosaic.TcCoe Idealize.SL.Sem
open Idealize.ShloMosaic.Pipeline (Dat)
open scoped BigOperators

theorem hd : dot_S2048x1024_S2048x1408_S1024x1408_0_0_1_1_n_n = Mat.cols 1024 2048 1408 := rfl

/-- A band's share of a block: columns against columns. -/
def part (x0 : FVec Ideal S2048x1024 .bf16) (x1 : FVec Ideal S2048x1408 .bf16) (i : Fin 1024) (j : Fin 1408) : EReal :=
  ∑ k : Fin 2048, x0 (ix2 k i) * x1 (ix2 k j)

/-- The accumulator after a step. -/
theorem step (acc : FVec Ideal S1024x1408 .f32) (x0 : FVec Ideal S2048x1024 .bf16) (x1 : FVec Ideal S2048x1408 .bf16) (i : Fin 1024) (j : Fin 1408) :
    k0_pay2 (F := Ideal) acc x0 x1 (ix2 i j) = acc (ix2 i j) + part x0 x1 i j := by
  unfold k0_pay2
  simp only [shapeCast_self, hd]
  exact congrArg (acc (ix2 i j) + ·) (Mat.tn x0 x1 i j)

section
variable {F : FTy → Type} [FloatOps F]

/-- The first band: the accumulator starts at zero. -/
theorem first (c : Dev nD) (i : grid0.Coords) (a3 : Memref sig .tc .vmem S2048x1024 .bf16) (h3 : a3.IsWhole) (a4 : Memref sig .tc .vmem S2048x1408 .bf16) (h4 : a4.IsWhole)
    (a5 : Memref sig .tc .vmem S1024x1408 .bf16) (h5 : a5.IsWhole) (a6 : Memref sig .tc .vmem S1024x1408 .f32) (h6 : a6.IsWhole)
    (hc0 : cond0_0 i) (hc1 : cond0_1 i) (hc2 : ¬cond0_2 i) (x0 : Vec F S2048x1024 .bf16) (x1 : Vec F S2048x1408 .bf16) :
    sout0_A_0 (F := F) c i a3 h3 a4 h4 a5 h5 a6 h6 hc0 hc1 hc2 x0 x1 = k0_pay2 (F := F) (k0_pay1 (F := F)) x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_cons_unit_zero (S := S1024x1408) Mat.hz, View.readCov_unit_zero (S := S1024x1408) _ Mat.hz]
  simp only [View.readAt_eq_ld, h3.read_unread, h4.read_unread, View.ld_unit_zero (S := S2048x1024) Mat.hz, View.ld_unit_zero (S := S2048x1408) Mat.hz]

/-- A later band: its share is added. -/
theorem next (c : Dev nD) (i : grid0.Coords) (a3 : Memref sig .tc .vmem S2048x1024 .bf16) (h3 : a3.IsWhole) (a4 : Memref sig .tc .vmem S2048x1408 .bf16) (h4 : a4.IsWhole)
    (a5 : Memref sig .tc .vmem S1024x1408 .bf16) (h5 : a5.IsWhole) (a6 : Memref sig .tc .vmem S1024x1408 .f32) (h6 : a6.IsWhole)
    (hc0 : ¬cond0_0 i) (hc1 : cond0_1 i) (hc2 : ¬cond0_2 i) (x0 : Vec F S2048x1024 .bf16) (x1 : Vec F S2048x1408 .bf16) (acc : Vec F S1024x1408 .f32) :
    sout0_B_0 (F := F) c i a3 h3 a4 h4 a5 h5 a6 h6 hc0 hc1 hc2 x0 x1 acc = k0_pay2 (F := F) acc x0 x1 := by
  unfold sout0_B_0
  rw [View.read_writes_eq_canon _ _ _ (scover0_B_0 c i a3 h3 a4 h4 a5 h5 a6 h6 hc0 hc1 hc2 x0 x1 acc)]
  unfold kernelRun0_B
  dsimp only
  rw [View.canon_unit_zero (S := S1024x1408) Mat.hz]
  simp only [View.readAt_eq_ld, h3.read_unread, h4.read_unread, h6.read_unread, View.ld_unit_zero (S := S2048x1024) Mat.hz, View.ld_unit_zero (S := S2048x1408) Mat.hz,
    View.ld_unit_zero (S := S1024x1408) Mat.hz]

/-- The last band: its share is added and the block goes out. -/
theorem last (c : Dev nD) (i : grid0.Coords) (a3 : Memref sig .tc .vmem S2048x1024 .bf16) (h3 : a3.IsWhole) (a4 : Memref sig .tc .vmem S2048x1408 .bf16) (h4 : a4.IsWhole)
    (a5 : Memref sig .tc .vmem S1024x1408 .bf16) (h5 : a5.IsWhole) (a6 : Memref sig .tc .vmem S1024x1408 .f32) (h6 : a6.IsWhole)
    (hc0 : ¬cond0_0 i) (hc1 : cond0_1 i) (hc2 : cond0_2 i) (x0 : Vec F S2048x1024 .bf16) (x1 : Vec F S2048x1408 .bf16) (acc : Vec F S1024x1408 .f32) :
    out0_C_2 (F := F) c i a3 h3 a4 h4 a5 h5 a6 h6 hc0 hc1 hc2 x0 x1 acc = k0_pay3 (F := F) (k0_pay2 (F := F) acc x0 x1) := by
  unfold out0_C_2
  rw [View.read_writes_eq_canon _ _ _ (cover0_C_2 c i a3 h3 a4 h4 a5 h5 a6 h6 hc0 hc1 hc2 x0 x1 acc)]
  unfold kernelRun0_C
  dsimp only
  sl_unfold_words
  rw [View.canon_unit_zero (S := S1024x1408) Mat.hz, View.readCov_unit_zero (S := S1024x1408) _ Mat.hz]
  simp only [View.readAt_eq_ld, h3.read_unread, h4.read_unread, h6.read_unread, View.ld_unit_zero (S := S2048x1024) Mat.hz, View.ld_unit_zero (S := S2048x1408) Mat.hz,
    View.ld_unit_zero (S := S1024x1408) Mat.hz]

end

variable (m : (ℓ : Loc nD τ sig) → Buf (Elt Ideal) ℓ) (c : Dev nD)

/-- The share of the band at a grid point. -/
def share (t : Fin cfg0.N) (i : Fin 1024) (j : Fin 1408) : EReal := part (iblk m c 0 t) (iblk m c 1 t) i j

theorem acc_first (t : Fin cfg0.N) (h : t.val % 4 = 0) (i : Fin 1024) (j : Fin 1408) :
    (outsAt0 m c t.val t.isLt).2 (ix2 i j) = share m c t i j := by
  rw [outsAt0_A m c t h (by omega)]
  dsimp only
  rw [first, step]
  have z : k0_pay1 (F := Ideal) (ix2 i j) = (0 : EReal) := by
    unfold k0_pay1
    simp only [shapeCast_self]
    exact Ideal.ofBits_zero_f32
  rw [z, zero_add]
  rfl

theorem acc_next (n : ℕ) (hn : n + 1 < cfg0.N) (h0 : ¬(n + 1) % 4 = 0) (h2 : ¬(n + 1) % 4 = 3) (i : Fin 1024) (j : Fin 1408) :
    (outsAt0 m c (n + 1) hn).2 (ix2 i j) = (outsAt0 m c n (by omega)).2 (ix2 i j) + share m c ⟨n + 1, hn⟩ i j := by
  rw [outsAt0_B m c ⟨n + 1, hn⟩ h0 h2]
  dsimp only
  rw [next, step]
  rfl

theorem acc_last (n : ℕ) (hn : n + 1 < cfg0.N) (h2 : (n + 1) % 4 = 3) (i : Fin 1024) (j : Fin 1408) :
    (outsAt0 m c (n + 1) hn).1 (ix2 i j) = (outsAt0 m c n (by omega)).2 (ix2 i j) + share m c ⟨n + 1, hn⟩ i j := by
  rw [outsAt0_C m c ⟨n + 1, hn⟩ (by dsimp only; omega) h2]
  dsimp only
  rw [last]
  exact step _ _ _ i j

/-- The grid point of band `s` of run `r`. -/
def pt (r : Fin 8) (s : Fin 4) : Fin cfg0.N := ⟨4 * r.val + s.val, by rw [show cfg0.N = 32 from N_0]; omega⟩

/-- The block that goes out of a run: the four shares added. -/
theorem run_block (r : Fin 8) (i : Fin 1024) (j : Fin 1408) :
    (outsAt0 m c (pt r 3).val (pt r 3).isLt).1 (ix2 i j) = ∑ s : Fin 4, share m c (pt r s) i j := by
  have e3 := acc_last m c (4 * r.val + 2) (pt r 3).isLt (by omega) i j
  have e2 := acc_next m c (4 * r.val + 1) (pt r 2).isLt (by omega) (by omega) i j
  have e1 := acc_next m c (4 * r.val) (pt r 1).isLt (by omega) (by omega) i j
  have e0 := acc_first m c (pt r 0) (by show (4 * r.val + 0) % 4 = 0; omega) i j
  rw [Fin.sum_univ_four]
  exact e3.trans (congrArg (· + _) (e2.trans (congrArg (· + _) (e1.trans (congrArg (· + _) e0)))))

/-- The left factor. -/
abbrev la : S8192x2048.Idx → EReal := m ((c : Thread nD τ).loc main_arg0)
/-- The right factor. -/
abbrev ra : S8192x5632.Idx → EReal := m ((c : Thread nD τ).loc main_arg1)

theorem V0 : V m c main_v0 = la m c := by
  after_reads_simp
  rfl

theorem V1 : V m c main_v1 = ra m c := by
  after_reads_simp
  rfl

/-- The row block of a run. -/
def rb (r : Fin 8) : Fin 2 := ⟨r.val / 4, by omega⟩

/-- The column block of a run. -/
def cb (r : Fin 8) : Fin 4 := ⟨r.val % 4, by omega⟩

theorem q0 : ∀ (r : Fin 8) (s : Fin 4), win0_0.index (pt r s) = ![s.val, (rb r).val] := by decide +kernel

theorem q1 : ∀ (r : Fin 8) (s : Fin 4), win0_1.index (pt r s) = ![s.val, (cb r).val] := by decide +kernel

theorem q2 : ∀ r : Fin 8, win0_2.index (pt r 3) = ![(rb r).val, (cb r).val] := by decide +kernel

/-- Row `i` of row block `a`. -/
def row (a : Fin 2) (i : Fin 1024) : Fin 2048 := ⟨a.val * 1024 + i.val, by omega⟩

/-- Column `j` of column block `b`. -/
def col (b : Fin 4) (j : Fin 1408) : Fin 5632 := ⟨b.val * 1408 + j.val, by omega⟩

theorem x0 (r : Fin 8) (s : Fin 4) (k : Fin 2048) (i : Fin 1024) : iblk m c 0 (pt r s) (ix2 k i) = la m c (ix2 (Mat.at4 s k) (row (rb r) i)) := by
  have e : iblk m c 0 (pt r s) (ix2 k i) = V m c main_v0 (ix2 (Mat.at4 s k) (row (rb r) i)) := by
    blk_ext [iblk, q0 r s, row, Mat.at4]
  rw [e, V0]

theorem x1 (r : Fin 8) (s : Fin 4) (k : Fin 2048) (j : Fin 1408) : iblk m c 1 (pt r s) (ix2 k j) = ra m c (ix2 (Mat.at4 s k) (col (cb r) j)) := by
  have e : iblk m c 1 (pt r s) (ix2 k j) = V m c main_v1 (ix2 (Mat.at4 s k) (col (cb r) j)) := by
    blk_ext [iblk, q1 r s, col, Mat.at4]
  rw [e, V1]

/-- The reference's result at an entry. -/
theorem ref (a : S8192x2048.Idx → EReal) (b : S8192x5632.Idx → EReal) (i : Fin 2048) (j : Fin 5632) :
    Cert.Reference3Ideal.Read.val_main_v4 (F := Ideal) a b (ix2 i j) = ∑ k : Fin 8192, a (ix2 k i) * b (ix2 k j) := by
  rw [Cert.Reference3Ideal.Read.val_main_v4_apply, Cert.Reference3Ideal.Read.val_main_v3_apply, Cert.Reference3Ideal.Read.val_main_v2_apply]
  have l (k : Fin 8192) : Cert.Reference3Ideal.Read.lidx_main_v2 (Cert.Reference3Ideal.Read.idx_main_v3 (ix2 i j)) k = ix2 k j := funext fun a => match a with
    | ⟨0, _⟩ => rfl
    | ⟨1, _⟩ => rfl
  have r (k : Fin 8192) : Cert.Reference3Ideal.Read.ridx_main_v2 (Cert.Reference3Ideal.Read.idx_main_v3 (ix2 i j)) k = ix2 k i := funext fun a => match a with
    | ⟨0, _⟩ => rfl
    | ⟨1, _⟩ => rfl
  simp only [l, r]
  exact Finset.sum_congr rfl fun k _ => mul_comm _ _

/-- What a run writes is the reference's result there. -/
theorem point (r : Fin 8) (y : S1024x1408.Idx) (j : S2048x5632.Idx) (h0 : (j 0).val = (rb r).val * 1024 + (y 0).val)
    (h1 : (j 1).val = (cb r).val * 1408 + (y 1).val) :
    (outsAt0 m c (pt r 3).val (pt r 3).isLt).1 y = Cert.Reference3Ideal.Read.val_main_v4 (F := Ideal) (la m c) (ra m c) j := by
  obtain ⟨p, q, rfl⟩ := Mat.eta y
  have ej : j = ix2 (row (rb r) p) (col (cb r) q) := funext fun a => match a with
    | ⟨0, _⟩ => Fin.ext h0
    | ⟨1, _⟩ => Fin.ext h1
  rw [ej, run_block, ref, Mat.bands]
  unfold share part
  refine Finset.sum_congr rfl fun s _ => Finset.sum_congr rfl fun k _ => ?_
  exact congrArg₂ (· * ·) (x0 m c r s k _) (x1 m c r s k _)

/-- The final array. -/
theorem final : (dats m 0 c).arrAt 2 cfg0.N = Cert.Reference3Ideal.Read.val_main_v4 (F := Ideal) (la m c) (ra m c) := by
  refine (dats m 0 c).arrAt_eq_of_covers 2 _ (by decide +kernel) fun t hf y => ?_
  have ht := (flush0_2 t).mp hf
  have hN : t.val < 32 := lt_of_lt_of_eq t.isLt N_0
  obtain ⟨r, rfl⟩ : ∃ r : Fin 8, t = pt r 3 := ⟨⟨t.val / 4, by omega⟩, Fin.ext (by show t.val = 4 * (t.val / 4) + 3; omega)⟩
  blk_simp
  rw [after0_2]
  refine point m c r y _ ?_ ?_
  · blk_simp [q2 r]
  · blk_simp [q2 r]

/-- The run, with its result named. -/
theorem run (ρ : Dev nD → PrngReg) : θ_run defs (onTc (τ := τ) (main (F := Ideal))) ⟨m, fun _ => 0, ρ⟩ fun r => ∀ c : Dev nD,
    r.2.mem ((c : Thread nD τ).loc main_v2) = Cert.Reference3Ideal.Read.val_main_v4 (F := Ideal) (la m c) (ra m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 2).trans (final m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c)⟩) (run_main m ρ)

theorem frameP : Cert.quiescent_Kernel3 := fun m ρ _ => Cert.Kernel3.Gen.frame m ρ

theorem framePI : Cert.quiescent_Kernel3Ideal := fun m ρ _ => Cert.Kernel3Ideal.Gen.frame m ρ

theorem frameRI : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

theorem equal : Cert.algebraic_Kernel3Ideal_Reference3Ideal := by
  intro m ρ m' ρ' _ hag
  refine ⟨fun c => Cert.Reference3Ideal.Read.val_main_v4 (F := Ideal) (la m c) (ra m c), ?_, ?_⟩
  · exact run m ρ
  · refine (θ_run Cert.Reference3Ideal.defs _ _).mono (fun r h c => ⟨?_, (h c).2⟩) (Cert.Reference3Ideal.Value.run m' ρ')
    have e := hag c
    refine ((h c).1.trans (Cert.Reference3Ideal.Read.val_main_v4_eq (F := Ideal) _ _)).trans ?_
    exact congr (congrArg (Cert.Reference3Ideal.Read.val_main_v4 (F := Ideal)) e.1) e.2

end Cert.DwUp
-- ==== Proof.DwDown.lean ====
module

public import proofs.«01_k».proof.Proof.Gen.Kernel4.Frame
public import proofs.«01_k».proof.Proof.Gen.Kernel4Ideal.Frame
public import Idealize.ShloMosaic.Lib.Pipeline.Value
public import proofs.«01_k».proof.Proof.Gen.Reference4Ideal.Run
public import proofs.«01_k».proof.Proof.Gen.Reference4Ideal.Read
public import proofs.«01_k».proof.Proof.Mat
public import proofs.«01_k».proof.Defs
public import Idealize.ShloMosaic.Lib.Quiescent
public import Idealize.ShloMosaic.Lib.StableHlo.ReadAt
public import Idealize.ShloMosaic.Lib.StableHlo.RunRead

@[expose] public section

/-! The weight gradient of the down projection: columns against columns, band by band. -/

set_option maxRecDepth 16384
noncomputable section

namespace Cert.DwDown
open Cert.Kernel4Ideal Cert.Kernel4Ideal.Gen Idealize.ShloMosaic Idealize.ShloMosaic.TcCoe Idealize.SL.Sem
open Idealize.ShloMosaic.Pipeline (Dat)
open scoped BigOperators

theorem hd : dot_S2048x1408_S2048x1024_S1408x1024_0_0_1_1_n_n = Mat.cols 1408 2048 1024 := rfl

/-- A band's share of a block: columns against columns. -/
def part (x0 : FVec Ideal S2048x1408 .bf16) (x1 : FVec Ideal S2048x1024 .bf16) (i : Fin 1408) (j : Fin 1024) : EReal :=
  ∑ k : Fin 2048, x0 (ix2 k i) * x1 (ix2 k j)

/-- The accumulator after a step. -/
theorem step (acc : FVec Ideal S1408x1024 .f32) (x0 : FVec Ideal S2048x1408 .bf16) (x1 : FVec Ideal S2048x1024 .bf16) (i : Fin 1408) (j : Fin 1024) :
    k0_pay2 (F := Ideal) acc x0 x1 (ix2 i j) = acc (ix2 i j) + part x0 x1 i j := by
  unfold k0_pay2
  simp only [shapeCast_self, hd]
  exact congrArg (acc (ix2 i j) + ·) (Mat.tn x0 x1 i j)

section
variable {F : FTy → Type} [FloatOps F]

/-- The first band: the accumulator starts at zero. -/
theorem first (c : Dev nD) (i : grid0.Coords) (a3 : Memref sig .tc .vmem S2048x1408 .bf16) (h3 : a3.IsWhole) (a4 : Memref sig .tc .vmem S2048x1024 .bf16) (h4 : a4.IsWhole)
    (a5 : Memref sig .tc .vmem S1408x1024 .bf16) (h5 : a5.IsWhole) (a6 : Memref sig .tc .vmem S1408x1024 .f32) (h6 : a6.IsWhole)
    (hc0 : cond0_0 i) (hc1 : cond0_1 i) (hc2 : ¬cond0_2 i) (x0 : Vec F S2048x1408 .bf16) (x1 : Vec F S2048x1024 .bf16) :
    sout0_A_0 (F := F) c i a3 h3 a4 h4 a5 h5 a6 h6 hc0 hc1 hc2 x0 x1 = k0_pay2 (F := F) (k0_pay1 (F := F)) x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_cons_unit_zero (S := S1408x1024) Mat.hz, View.readCov_unit_zero (S := S1408x1024) _ Mat.hz]
  simp only [View.readAt_eq_ld, h3.read_unread, h4.read_unread, View.ld_unit_zero (S := S2048x1408) Mat.hz, View.ld_unit_zero (S := S2048x1024) Mat.hz]

/-- A later band: its share is added. -/
theorem next (c : Dev nD) (i : grid0.Coords) (a3 : Memref sig .tc .vmem S2048x1408 .bf16) (h3 : a3.IsWhole) (a4 : Memref sig .tc .vmem S2048x1024 .bf16) (h4 : a4.IsWhole)
    (a5 : Memref sig .tc .vmem S1408x1024 .bf16) (h5 : a5.IsWhole) (a6 : Memref sig .tc .vmem S1408x1024 .f32) (h6 : a6.IsWhole)
    (hc0 : ¬cond0_0 i) (hc1 : cond0_1 i) (hc2 : ¬cond0_2 i) (x0 : Vec F S2048x1408 .bf16) (x1 : Vec F S2048x1024 .bf16) (acc : Vec F S1408x1024 .f32) :
    sout0_B_0 (F := F) c i a3 h3 a4 h4 a5 h5 a6 h6 hc0 hc1 hc2 x0 x1 acc = k0_pay2 (F := F) acc x0 x1 := by
  unfold sout0_B_0
  rw [View.read_writes_eq_canon _ _ _ (scover0_B_0 c i a3 h3 a4 h4 a5 h5 a6 h6 hc0 hc1 hc2 x0 x1 acc)]
  unfold kernelRun0_B
  dsimp only
  rw [View.canon_unit_zero (S := S1408x1024) Mat.hz]
  simp only [View.readAt_eq_ld, h3.read_unread, h4.read_unread, h6.read_unread, View.ld_unit_zero (S := S2048x1408) Mat.hz, View.ld_unit_zero (S := S2048x1024) Mat.hz,
    View.ld_unit_zero (S := S1408x1024) Mat.hz]

/-- The last band: its share is added and the block goes out. -/
theorem last (c : Dev nD) (i : grid0.Coords) (a3 : Memref sig .tc .vmem S2048x1408 .bf16) (h3 : a3.IsWhole) (a4 : Memref sig .tc .vmem S2048x1024 .bf16) (h4 : a4.IsWhole)
    (a5 : Memref sig .tc .vmem S1408x1024 .bf16) (h5 : a5.IsWhole) (a6 : Memref sig .tc .vmem S1408x1024 .f32) (h6 : a6.IsWhole)
    (hc0 : ¬cond0_0 i) (hc1 : cond0_1 i) (hc2 : cond0_2 i) (x0 : Vec F S2048x1408 .bf16) (x1 : Vec F S2048x1024 .bf16) (acc : Vec F S1408x1024 .f32) :
    out0_C_2 (F := F) c i a3 h3 a4 h4 a5 h5 a6 h6 hc0 hc1 hc2 x0 x1 acc = k0_pay3 (F := F) (k0_pay2 (F := F) acc x0 x1) := by
  unfold out0_C_2
  rw [View.read_writes_eq_canon _ _ _ (cover0_C_2 c i a3 h3 a4 h4 a5 h5 a6 h6 hc0 hc1 hc2 x0 x1 acc)]
  unfold kernelRun0_C
  dsimp only
  sl_unfold_words
  rw [View.canon_unit_zero (S := S1408x1024) Mat.hz, View.readCov_unit_zero (S := S1408x1024) _ Mat.hz]
  simp only [View.readAt_eq_ld, h3.read_unread, h4.read_unread, h6.read_unread, View.ld_unit_zero (S := S2048x1408) Mat.hz, View.ld_unit_zero (S := S2048x1024) Mat.hz,
    View.ld_unit_zero (S := S1408x1024) Mat.hz]

end

variable (m : (ℓ : Loc nD τ sig) → Buf (Elt Ideal) ℓ) (c : Dev nD)

/-- The share of the band at a grid point. -/
def share (t : Fin cfg0.N) (i : Fin 1408) (j : Fin 1024) : EReal := part (iblk m c 0 t) (iblk m c 1 t) i j

theorem acc_first (t : Fin cfg0.N) (h : t.val % 4 = 0) (i : Fin 1408) (j : Fin 1024) :
    (outsAt0 m c t.val t.isLt).2 (ix2 i j) = share m c t i j := by
  rw [outsAt0_A m c t h (by omega)]
  dsimp only
  rw [first, step]
  have z : k0_pay1 (F := Ideal) (ix2 i j) = (0 : EReal) := by
    unfold k0_pay1
    simp only [shapeCast_self]
    exact Ideal.ofBits_zero_f32
  rw [z, zero_add]
  rfl

theorem acc_next (n : ℕ) (hn : n + 1 < cfg0.N) (h0 : ¬(n + 1) % 4 = 0) (h2 : ¬(n + 1) % 4 = 3) (i : Fin 1408) (j : Fin 1024) :
    (outsAt0 m c (n + 1) hn).2 (ix2 i j) = (outsAt0 m c n (by omega)).2 (ix2 i j) + share m c ⟨n + 1, hn⟩ i j := by
  rw [outsAt0_B m c ⟨n + 1, hn⟩ h0 h2]
  dsimp only
  rw [next, step]
  rfl

theorem acc_last (n : ℕ) (hn : n + 1 < cfg0.N) (h2 : (n + 1) % 4 = 3) (i : Fin 1408) (j : Fin 1024) :
    (outsAt0 m c (n + 1) hn).1 (ix2 i j) = (outsAt0 m c n (by omega)).2 (ix2 i j) + share m c ⟨n + 1, hn⟩ i j := by
  rw [outsAt0_C m c ⟨n + 1, hn⟩ (by dsimp only; omega) h2]
  dsimp only
  rw [last]
  exact step _ _ _ i j

/-- The grid point of band `s` of run `r`. -/
def pt (r : Fin 8) (s : Fin 4) : Fin cfg0.N := ⟨4 * r.val + s.val, by rw [show cfg0.N = 32 from N_0]; omega⟩

/-- The block that goes out of a run: the four shares added. -/
theorem run_block (r : Fin 8) (i : Fin 1408) (j : Fin 1024) :
    (outsAt0 m c (pt r 3).val (pt r 3).isLt).1 (ix2 i j) = ∑ s : Fin 4, share m c (pt r s) i j := by
  have e3 := acc_last m c (4 * r.val + 2) (pt r 3).isLt (by omega) i j
  have e2 := acc_next m c (4 * r.val + 1) (pt r 2).isLt (by omega) (by omega) i j
  have e1 := acc_next m c (4 * r.val) (pt r 1).isLt (by omega) (by omega) i j
  have e0 := acc_first m c (pt r 0) (by show (4 * r.val + 0) % 4 = 0; omega) i j
  rw [Fin.sum_univ_four]
  exact e3.trans (congrArg (· + _) (e2.trans (congrArg (· + _) (e1.trans (congrArg (· + _) e0)))))

/-- The left factor. -/
abbrev la : S8192x5632.Idx → EReal := m ((c : Thread nD τ).loc main_arg0)
/-- The right factor. -/
abbrev ra : S8192x2048.Idx → EReal := m ((c : Thread nD τ).loc main_arg1)

theorem V0 : V m c main_v0 = la m c := by
  after_reads_simp
  rfl

theorem V1 : V m c main_v1 = ra m c := by
  after_reads_simp
  rfl

/-- The row block of a run. -/
def rb (r : Fin 8) : Fin 4 := ⟨r.val / 2, by omega⟩

/-- The column block of a run. -/
def cb (r : Fin 8) : Fin 2 := ⟨r.val % 2, by omega⟩

theorem q0 : ∀ (r : Fin 8) (s : Fin 4), win0_0.index (pt r s) = ![s.val, (rb r).val] := by decide +kernel

theorem q1 : ∀ (r : Fin 8) (s : Fin 4), win0_1.index (pt r s) = ![s.val, (cb r).val] := by decide +kernel

theorem q2 : ∀ r : Fin 8, win0_2.index (pt r 3) = ![(rb r).val, (cb r).val] := by decide +kernel

/-- Row `i` of row block `a`. -/
def row (a : Fin 4) (i : Fin 1408) : Fin 5632 := ⟨a.val * 1408 + i.val, by omega⟩

/-- Column `j` of column block `b`. -/
def col (b : Fin 2) (j : Fin 1024) : Fin 2048 := ⟨b.val * 1024 + j.val, by omega⟩

theorem x0 (r : Fin 8) (s : Fin 4) (k : Fin 2048) (i : Fin 1408) : iblk m c 0 (pt r s) (ix2 k i) = la m c (ix2 (Mat.at4 s k) (row (rb r) i)) := by
  have e : iblk m c 0 (pt r s) (ix2 k i) = V m c main_v0 (ix2 (Mat.at4 s k) (row (rb r) i)) := by
    blk_ext [iblk, q0 r s, row, Mat.at4]
  rw [e, V0]

theorem x1 (r : Fin 8) (s : Fin 4) (k : Fin 2048) (j : Fin 1024) : iblk m c 1 (pt r s) (ix2 k j) = ra m c (ix2 (Mat.at4 s k) (col (cb r) j)) := by
  have e : iblk m c 1 (pt r s) (ix2 k j) = V m c main_v1 (ix2 (Mat.at4 s k) (col (cb r) j)) := by
    blk_ext [iblk, q1 r s, col, Mat.at4]
  rw [e, V1]

/-- The reference's result at an entry. -/
theorem ref (a : S8192x5632.Idx → EReal) (b : S8192x2048.Idx → EReal) (i : Fin 5632) (j : Fin 2048) :
    Cert.Reference4Ideal.Read.val_main_v4 (F := Ideal) a b (ix2 i j) = ∑ k : Fin 8192, a (ix2 k i) * b (ix2 k j) := by
  rw [Cert.Reference4Ideal.Read.val_main_v4_apply, Cert.Reference4Ideal.Read.val_main_v3_apply, Cert.Reference4Ideal.Read.val_main_v2_apply]
  have l (k : Fin 8192) : Cert.Reference4Ideal.Read.lidx_main_v2 (Cert.Reference4Ideal.Read.idx_main_v3 (ix2 i j)) k = ix2 k j := funext fun a => match a with
    | ⟨0, _⟩ => rfl
    | ⟨1, _⟩ => rfl
  have r (k : Fin 8192) : Cert.Reference4Ideal.Read.ridx_main_v2 (Cert.Reference4Ideal.Read.idx_main_v3 (ix2 i j)) k = ix2 k i := funext fun a => match a with
    | ⟨0, _⟩ => rfl
    | ⟨1, _⟩ => rfl
  simp only [l, r]
  exact Finset.sum_congr rfl fun k _ => mul_comm _ _

/-- What a run writes is the reference's result there. -/
theorem point (r : Fin 8) (y : S1408x1024.Idx) (j : S5632x2048.Idx) (h0 : (j 0).val = (rb r).val * 1408 + (y 0).val)
    (h1 : (j 1).val = (cb r).val * 1024 + (y 1).val) :
    (outsAt0 m c (pt r 3).val (pt r 3).isLt).1 y = Cert.Reference4Ideal.Read.val_main_v4 (F := Ideal) (la m c) (ra m c) j := by
  obtain ⟨p, q, rfl⟩ := Mat.eta y
  have ej : j = ix2 (row (rb r) p) (col (cb r) q) := funext fun a => match a with
    | ⟨0, _⟩ => Fin.ext h0
    | ⟨1, _⟩ => Fin.ext h1
  rw [ej, run_block, ref, Mat.bands]
  unfold share part
  refine Finset.sum_congr rfl fun s _ => Finset.sum_congr rfl fun k _ => ?_
  exact congrArg₂ (· * ·) (x0 m c r s k _) (x1 m c r s k _)

/-- The final array. -/
theorem final : (dats m 0 c).arrAt 2 cfg0.N = Cert.Reference4Ideal.Read.val_main_v4 (F := Ideal) (la m c) (ra m c) := by
  refine (dats m 0 c).arrAt_eq_of_covers 2 _ (by decide +kernel) fun t hf y => ?_
  have ht := (flush0_2 t).mp hf
  have hN : t.val < 32 := lt_of_lt_of_eq t.isLt N_0
  obtain ⟨r, rfl⟩ : ∃ r : Fin 8, t = pt r 3 := ⟨⟨t.val / 4, by omega⟩, Fin.ext (by show t.val = 4 * (t.val / 4) + 3; omega)⟩
  blk_simp
  rw [after0_2]
  refine point m c r y _ ?_ ?_
  · blk_simp [q2 r]
  · blk_simp [q2 r]

/-- The run, with its result named. -/
theorem run (ρ : Dev nD → PrngReg) : θ_run defs (onTc (τ := τ) (main (F := Ideal))) ⟨m, fun _ => 0, ρ⟩ fun r => ∀ c : Dev nD,
    r.2.mem ((c : Thread nD τ).loc main_v2) = Cert.Reference4Ideal.Read.val_main_v4 (F := Ideal) (la m c) (ra m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 2).trans (final m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c)⟩) (run_main m ρ)

theorem frameP : Cert.quiescent_Kernel4 := fun m ρ _ => Cert.Kernel4.Gen.frame m ρ

theorem framePI : Cert.quiescent_Kernel4Ideal := fun m ρ _ => Cert.Kernel4Ideal.Gen.frame m ρ

theorem frameRI : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

theorem equal : Cert.algebraic_Kernel4Ideal_Reference4Ideal := by
  intro m ρ m' ρ' _ hag
  refine ⟨fun c => Cert.Reference4Ideal.Read.val_main_v4 (F := Ideal) (la m c) (ra m c), ?_, ?_⟩
  · exact run m ρ
  · refine (θ_run Cert.Reference4Ideal.defs _ _).mono (fun r h c => ⟨?_, (h c).2⟩) (Cert.Reference4Ideal.Value.run m' ρ')
    have e := hag c
    refine ((h c).1.trans (Cert.Reference4Ideal.Read.val_main_v4_eq (F := Ideal) _ _)).trans ?_
    exact congr (congrArg (Cert.Reference4Ideal.Read.val_main_v4 (F := Ideal)) e.1) e.2

end Cert.DwDown
-- ==== Proof.Half.lean ====
module

public import proofs.«01_k».proof.Proof.Mat

@[expose] public section

/-! Blocks of 512 columns written in two halves, and of 512 rows or columns read in two halves. -/

noncomputable section

namespace Cert.Half
open Idealize.ShloMosaic

/-- Column `j` of the left half. -/
def lo (j : Fin 256) : Fin 512 := ⟨j.val, by omega⟩

/-- Column `j` of the right half. -/
def hi (j : Fin 256) : Fin 512 := ⟨256 + j.val, by omega⟩

theorem left (h : ∀ a, (![0, 0] : Fin 2 → ℕ) a + (![2048, 256] : Fin 2 → ℕ) a ≤ (⟨2, ![2048, 512]⟩ : Shape).size a) (i : Fin 2048) (j : Fin 256) :
    (Rect.unit (s := ⟨2, ![2048, 512]⟩) ![0, 0] ![2048, 256] h).emb (ix2 i j) = ix2 i (lo j) := funext fun a => match a with
  | ⟨0, _⟩ => Fin.ext (show 0 + 1 * i.val = i.val by omega)
  | ⟨1, _⟩ => Fin.ext (show 0 + 1 * j.val = j.val by omega)

theorem right (h : ∀ a, (![0, 256] : Fin 2 → ℕ) a + (![2048, 256] : Fin 2 → ℕ) a ≤ (⟨2, ![2048, 512]⟩ : Shape).size a) (i : Fin 2048) (j : Fin 256) :
    (Rect.unit (s := ⟨2, ![2048, 512]⟩) ![0, 256] ![2048, 256] h).emb (ix2 i j) = ix2 i (hi j) := funext fun a => match a with
  | ⟨0, _⟩ => Fin.ext (show 0 + 1 * i.val = i.val by omega)
  | ⟨1, _⟩ => Fin.ext (show 256 + 1 * j.val = 256 + j.val by omega)

theorem upper (h : ∀ a, (![0, 0] : Fin 2 → ℕ) a + (![256, 2048] : Fin 2 → ℕ) a ≤ (⟨2, ![512, 2048]⟩ : Shape).size a) (j : Fin 256) (k : Fin 2048) :
    (Rect.unit (s := ⟨2, ![512, 2048]⟩) ![0, 0] ![256, 2048] h).emb (ix2 j k) = ix2 (lo j) k := funext fun a => match a with
  | ⟨0, _⟩ => Fin.ext (show 0 + 1 * j.val = j.val by omega)
  | ⟨1, _⟩ => Fin.ext (show 0 + 1 * k.val = k.val by omega)

theorem lower (h : ∀ a, (![256, 0] : Fin 2 → ℕ) a + (![256, 2048] : Fin 2 → ℕ) a ≤ (⟨2, ![512, 2048]⟩ : Shape).size a) (j : Fin 256) (k : Fin 2048) :
    (Rect.unit (s := ⟨2, ![512, 2048]⟩) ![256, 0] ![256, 2048] h).emb (ix2 j k) = ix2 (hi j) k := funext fun a => match a with
  | ⟨0, _⟩ => Fin.ext (show 256 + 1 * j.val = 256 + j.val by omega)
  | ⟨1, _⟩ => Fin.ext (show 0 + 1 * k.val = k.val by omega)

/-- Two halves that agree with one function make it. -/
theorem join (h0 : ∀ a, (![0, 0] : Fin 2 → ℕ) a + (![2048, 256] : Fin 2 → ℕ) a ≤ (⟨2, ![2048, 512]⟩ : Shape).size a)
    (h1 : ∀ a, (![0, 256] : Fin 2 → ℕ) a + (![2048, 256] : Fin 2 → ℕ) a ≤ (⟨2, ![2048, 512]⟩ : Shape).size a)
    (w1 w0 : Vec Ideal ⟨2, ![2048, 256]⟩ .bf16) (G : Fin 2048 → Fin 512 → EReal)
    (cov : ∀ y, ∃ p ∈ ([⟨Rect.unit (s := ⟨2, ![2048, 512]⟩) ![0, 256] ![2048, 256] h1, w1⟩, ⟨Rect.unit (s := ⟨2, ![2048, 512]⟩) ![0, 0] ![2048, 256] h0, w0⟩] : List (View.Piece (Elt Ideal) ⟨2, ![2048, 512]⟩ .bf16)), y ∈ p.1.set)
    (e1 : ∀ i j, w1 (ix2 i j) = G i (hi j)) (e0 : ∀ i j, w0 (ix2 i j) = G i (lo j)) (i : Fin 2048) (j : Fin 512) :
    View.canon ([⟨Rect.unit (s := ⟨2, ![2048, 512]⟩) ![0, 256] ![2048, 256] h1, w1⟩, ⟨Rect.unit (s := ⟨2, ![2048, 512]⟩) ![0, 0] ![2048, 256] h0, w0⟩] : List (View.Piece (Elt Ideal) ⟨2, ![2048, 512]⟩ .bf16)) (ix2 i j) = G i j := by
  refine View.canon_apply_of_pieces (fun y => G (y 0) (y 1)) _ (fun p hp z => ?_) (ix2 i j) (cov _)
  rcases List.mem_cons.mp hp with rfl | hp
  · obtain ⟨a, b, rfl⟩ := Mat.eta z
    rw [right h1 a b]
    exact e1 a b
  · obtain rfl := List.mem_singleton.mp hp
    obtain ⟨a, b, rfl⟩ := Mat.eta z
    rw [left h0 a b]
    exact e0 a b

end Cert.Half
-- ==== Proof.Sigmoid.lean ====
module

public import Idealize.ShloMosaic.Lib.Pipeline.ValueKit
public import Idealize.ShloMosaic.Lib.IdealHost

@[expose] public section

/-! The kernel's sigmoid, through the hyperbolic tangent, is the logistic function at every extended real. -/

noncomputable section

namespace Cert.Sigmoid
open Idealize.ShloMosaic

/-- The word of one half. -/
theorem half : Ideal.ofBits .f32 0x3F000000#32 = ((2⁻¹ : ℝ) : EReal) := by
  simp [Ideal.ofBits, Ideal.ieee]
  rw [← EReal.coe_mul]
  norm_num

theorem real (r : ℝ) : 2⁻¹ * Real.tanh (2⁻¹ * r) + 2⁻¹ = (1 + Real.exp (-r))⁻¹ := by
  have e : Real.exp (-r) = Real.exp (-(2⁻¹ * r)) * Real.exp (-(2⁻¹ * r)) := by
    rw [← Real.exp_add]; congr 1; ring
  have o : Real.exp (2⁻¹ * r) * Real.exp (-(2⁻¹ * r)) = 1 := by
    rw [← Real.exp_add, add_neg_cancel, Real.exp_zero]
  have p := Real.exp_pos (2⁻¹ * r)
  have q := Real.exp_pos (-(2⁻¹ * r))
  rw [Real.tanh_eq_sinh_div_cosh, Real.sinh_eq, Real.cosh_eq, e]
  generalize Real.exp (2⁻¹ * r) = x at *
  generalize Real.exp (-(2⁻¹ * r)) = y at *
  have s : 0 < x + y := by positivity
  have t : 0 < 1 + y * y := by positivity
  field_simp
  linear_combination 2 * y * o

/-- The kernel's expression. -/
def sg (x : EReal) : EReal := Ideal.ofBits .f32 0x3F000000#32 * Ideal.tanh (Ideal.ofBits .f32 0x3F000000#32 * x) + Ideal.ofBits .f32 0x3F000000#32

theorem eq (x : EReal) : sg x = Ideal.logistic x := by
  have h0 : (0 : ℝ) < 2⁻¹ := by norm_num
  unfold sg
  rw [half]
  induction x using EReal.rec with
  | bot =>
    rw [EReal.coe_mul_bot_of_pos h0, Ideal.tanh_bot, Ideal.logistic_bot]
    have e : (((2⁻¹ : ℝ) : EReal) * -1 + ((2⁻¹ : ℝ) : EReal)) = ((2⁻¹ * -1 + 2⁻¹ : ℝ) : EReal) := by push_cast; rfl
    rw [e]
    norm_num
  | top =>
    rw [EReal.coe_mul_top_of_pos h0, Ideal.tanh_top, Ideal.logistic_top, mul_one, ← EReal.coe_add]
    norm_num
  | coe r =>
    rw [← EReal.coe_mul, Ideal.tanh_coe, ← EReal.coe_mul, ← EReal.coe_add, real, Ideal.logistic_coe]

end Cert.Sigmoid
-- ==== Proof.DAct.lean ====
module

public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Half
public import proofs.«01_k».proof.Proof.Sigmoid
public import proofs.«01_k».proof.Proof.Claims
public import Idealize.ShloMosaic.Lib.Quiescent
public import Idealize.ShloMosaic.Lib.StableHlo.ReadAt
public import Idealize.ShloMosaic.Lib.StableHlo.RunRead

@[expose] public section

/-! The gradient of the gate's two factors: one product and the gate's derivative, in two column halves. -/

set_option maxRecDepth 16384
noncomputable section

namespace Cert.DAct
open Cert.Kernel5Ideal Cert.Kernel5Ideal.Gen Idealize.ShloMosaic Idealize.ShloMosaic.TcCoe Idealize.SL.Sem
open Idealize.ShloMosaic.Pipeline (Dat)
open scoped BigOperators

/-- The gate's derivative, as the kernel has it. -/
def da (d a b : EReal) : EReal := d * b * Ideal.logistic a * (1 + a * (1 - Ideal.logistic a))

/-- The gradient of the other factor. -/
def db (d a : EReal) : EReal := d * a * Ideal.logistic a

/-- Where the incoming gradient is finite, the derivative is the one by the rule for products. -/
theorem pull (a c : EReal) (hc : ∃ z : ℝ, c = z) :
    c * Ideal.logistic a * (1 + a * (1 - Ideal.logistic a)) = c * Ideal.logistic a + a * c * (Ideal.logistic a * (1 - Ideal.logistic a)) := by
  obtain ⟨z, rfl⟩ := hc
  induction a using EReal.rec with
  | bot => simp only [Ideal.logistic_bot, mul_zero, zero_mul, add_zero]
  | top =>
    have e : (1 : EReal) - 1 = 0 := by rw [← EReal.coe_one, ← EReal.coe_sub, sub_self, EReal.coe_zero]
    simp only [Ideal.logistic_top, e, mul_zero, mul_one, add_zero]
  | coe r =>
    rw [Ideal.logistic_coe]
    generalize (1 + Real.exp (-r))⁻¹ = s
    rw [← EReal.coe_one]
    simp only [← EReal.coe_mul, ← EReal.coe_sub, ← EReal.coe_add]
    exact congrArg _ (by ring)

/-- Rows against rows. -/
def dot {R C : ℕ} (x : (⟨2, ![R, 2048]⟩ : Shape).Idx → EReal) (w : (⟨2, ![C, 2048]⟩ : Shape).Idx → EReal) (i : Fin R) (j : Fin C) : EReal :=
  ∑ k : Fin 2048, x (ix2 i k) * w (ix2 j k)

theorem finite {R C : ℕ} (x : (⟨2, ![R, 2048]⟩ : Shape).Idx → EReal) (w : (⟨2, ![C, 2048]⟩ : Shape).Idx → EReal)
    (hx : ∀ j, ∃ z : ℝ, x j = z) (hw : ∀ j, ∃ z : ℝ, w j = z) (i : Fin R) (j : Fin C) : ∃ z : ℝ, dot x w i j = z := by
  choose f hf using hx
  choose g hg using hw
  refine ⟨∑ k : Fin 2048, f (ix2 i k) * g (ix2 j k), ?_⟩
  rw [Cert.Row.coe_sum]
  exact Finset.sum_congr rfl fun k _ => by rw [hf, hg, EReal.coe_mul]

/-- The product of the rows read and a half of the weights' rows. -/
theorem prod (x : Vec Ideal S2048x2048 .bf16) (w : Vec Ideal S256x2048 .bf16) (i : Fin 2048) (j : Fin 256) :
    k0_pay6 (F := Ideal) (View.ld x r0_0) w (ix2 i j) = dot x w i j := by
  have hd : dot_S2048x2048_S256x2048_S2048x256_1_1_0_0_n_n = DotDims.transposedRhs 2048 2048 256 := rfl
  unfold k0_pay6
  simp only [View.ld_unit_zero (S := S2048x2048) Mat.hz, shapeCast_self, hd]
  exact Mat.nt _ _ i j

theorem prodL (x : Vec Ideal S2048x2048 .bf16) (w : Vec Ideal S512x2048 .bf16) (i : Fin 2048) (j : Fin 256) :
    k0_pay6 (F := Ideal) (View.ld x r0_0) (View.ld w r0_1) (ix2 i j) = dot x w i (Half.lo j) :=
  (prod x _ i j).trans (Finset.sum_congr rfl fun k _ => congrArg (x (ix2 i k) * w ·) (Half.upper _ j k))

theorem prodR (x : Vec Ideal S2048x2048 .bf16) (w : Vec Ideal S512x2048 .bf16) (i : Fin 2048) (j : Fin 256) :
    k0_pay6 (F := Ideal) (View.ld x r0_0) (View.ld w r0_3) (ix2 i j) = dot x w i (Half.hi j) :=
  (prod x _ i j).trans (Finset.sum_congr rfl fun k _ => congrArg (x (ix2 i k) * w ·) (Half.lower _ j k))

theorem word1 : Ideal.ofBits .f32 0x3F800000#32 = (1 : EReal) := Ideal.ofBits_one_f32

theorem act (x : Vec Ideal S2048x2048 .bf16) (w : Vec Ideal S256x2048 .bf16) (a b : Vec Ideal S2048x256 .bf16) (i : S2048x256.Idx) :
    k0_pay9 (F := Ideal) x w a b i = da (k0_pay6 (F := Ideal) x w i) (a i) (b i) := by
  have e : k0_pay9 (F := Ideal) x w a b i = k0_pay6 (F := Ideal) x w i * b i * Sigmoid.sg (a i) * (Ideal.ofBits .f32 0x3F800000#32 + a i * (Ideal.ofBits .f32 0x3F800000#32 - Sigmoid.sg (a i))) := by
    unfold k0_pay9 k0_pay8 k0_pay7
    simp only [shapeCast_self]
    rfl
  rw [e, Sigmoid.eq, word1]
  rfl

theorem act2 (x : Vec Ideal S2048x2048 .bf16) (w : Vec Ideal S256x2048 .bf16) (a : Vec Ideal S2048x256 .bf16) (i : S2048x256.Idx) :
    k0_pay10 (F := Ideal) x w a i = db (k0_pay6 (F := Ideal) x w i) (a i) := by
  have e : k0_pay10 (F := Ideal) x w a i = k0_pay6 (F := Ideal) x w i * a i * Sigmoid.sg (a i) := by
    unfold k0_pay10 k0_pay8 k0_pay7
    simp only [shapeCast_self]
    rfl
  rw [e, Sigmoid.eq]
  rfl

/-- The blocks written at a grid point. -/
theorem block4 (x0 : Vec Ideal S2048x2048 .bf16) (x1 : Vec Ideal S512x2048 .bf16) (x2 x3 : Vec Ideal S2048x512 .bf16) (i : Fin 2048) (j : Fin 512) :
    out0_4 (F := Ideal) x0 x1 x2 x3 (ix2 i j) = da (dot x0 x1 i j) (x2 (ix2 i j)) (x3 (ix2 i j)) := by
  unfold out0_4
  refine Half.join _ _ _ _ (fun i j => da (dot x0 x1 i j) (x2 (ix2 i j)) (x3 (ix2 i j))) (cover0_4 _ _) (fun i j => ?_) (fun i j => ?_) i j
  · refine (act (View.ld x0 r0_0) (View.ld x1 r0_3) (View.ld x2 r0_4) (View.ld x3 r0_4) (ix2 i j)).trans ?_
    rw [prodR]
    exact congrArg₂ (da _) (congrArg x2 (Half.right _ i j)) (congrArg x3 (Half.right _ i j))
  · refine (act (View.ld x0 r0_0) (View.ld x1 r0_1) (View.ld x2 r0_2) (View.ld x3 r0_2) (ix2 i j)).trans ?_
    rw [prodL]
    exact congrArg₂ (da _) (congrArg x2 (Half.left _ i j)) (congrArg x3 (Half.left _ i j))

theorem block5 (x0 : Vec Ideal S2048x2048 .bf16) (x1 : Vec Ideal S512x2048 .bf16) (x2 x3 : Vec Ideal S2048x512 .bf16) (i : Fin 2048) (j : Fin 512) :
    out0_5 (F := Ideal) x0 x1 x2 x3 (ix2 i j) = db (dot x0 x1 i j) (x2 (ix2 i j)) := by
  unfold out0_5
  refine Half.join _ _ _ _ (fun i j => db (dot x0 x1 i j) (x2 (ix2 i j))) (cover0_5 _ _) (fun i j => ?_) (fun i j => ?_) i j
  · refine (act2 (View.ld x0 r0_0) (View.ld x1 r0_3) (View.ld x2 r0_4) (ix2 i j)).trans ?_
    rw [prodR]
    exact congrArg (db _) (congrArg x2 (Half.right _ i j))
  · refine (act2 (View.ld x0 r0_0) (View.ld x1 r0_1) (View.ld x2 r0_2) (ix2 i j)).trans ?_
    rw [prodL]
    exact congrArg (db _) (congrArg x2 (Half.left _ i j))

variable (m : (ℓ : Loc nD τ sig) → Buf (Elt Ideal) ℓ) (c : Dev nD)

/-- The gate's factor. -/
abbrev fa : S8192x5632.Idx → EReal := m ((c : Thread nD τ).loc main_arg0)
/-- The other factor. -/
abbrev fb : S8192x5632.Idx → EReal := m ((c : Thread nD τ).loc main_arg1)
/-- The weights. -/
abbrev wd : S5632x2048.Idx → EReal := m ((c : Thread nD τ).loc main_arg2)
/-- The gradient that comes in. -/
abbrev df : S8192x2048.Idx → EReal := m ((c : Thread nD τ).loc main_arg3)

theorem V0 : V m c main_v0 = fa m c := by
  after_reads_simp
  rfl

theorem V1 : V m c main_v1 = fb m c := by
  after_reads_simp
  rfl

theorem V2 : V m c main_v2 = wd m c := by
  after_reads_simp
  rfl

theorem V3 : V m c main_v3 = df m c := by
  after_reads_simp
  rfl

/-- The row block of a grid point. -/
def rb (t : Fin cfg0.N) : Fin 4 := ⟨(grid0.coords t 0).val, (grid0.coords t 0).isLt⟩

/-- The column block of a grid point. -/
def cb (t : Fin cfg0.N) : Fin 11 := ⟨(grid0.coords t 1).val, (grid0.coords t 1).isLt⟩

theorem q0 : ∀ t : Fin cfg0.N, win0_0.index t = ![(rb t).val, 0] :=
  (by decide +kernel : ∀ t : Fin grid0.N, win0_0.index t = ![(rb t).val, 0])

theorem q1 : ∀ t : Fin cfg0.N, win0_1.index t = ![(cb t).val, 0] :=
  (by decide +kernel : ∀ t : Fin grid0.N, win0_1.index t = ![(cb t).val, 0])

theorem q2 : ∀ t : Fin cfg0.N, win0_2.index t = ![(rb t).val, (cb t).val] :=
  (by decide +kernel : ∀ t : Fin grid0.N, win0_2.index t = ![(rb t).val, (cb t).val])

theorem q3 : ∀ t : Fin cfg0.N, win0_3.index t = ![(rb t).val, (cb t).val] :=
  (by decide +kernel : ∀ t : Fin grid0.N, win0_3.index t = ![(rb t).val, (cb t).val])

theorem q4 : ∀ t : Fin cfg0.N, win0_4.index t = ![(rb t).val, (cb t).val] :=
  (by decide +kernel : ∀ t : Fin grid0.N, win0_4.index t = ![(rb t).val, (cb t).val])

theorem q5 : ∀ t : Fin cfg0.N, win0_5.index t = ![(rb t).val, (cb t).val] :=
  (by decide +kernel : ∀ t : Fin grid0.N, win0_5.index t = ![(rb t).val, (cb t).val])

/-- Row `i` of row block `a`. -/
def row (a : Fin 4) (i : Fin 2048) : Fin 8192 := ⟨a.val * 2048 + i.val, by omega⟩

/-- Column `j` of column block `b`. -/
def col (b : Fin 11) (j : Fin 512) : Fin 5632 := ⟨b.val * 512 + j.val, by omega⟩

theorem x0 (t : Fin cfg0.N) (i : Fin 2048) (k : Fin 2048) : iblk m c 0 t (ix2 i k) = df m c (ix2 (row (rb t) i) k) := by
  have e : iblk m c 0 t (ix2 i k) = V m c main_v3 (ix2 (row (rb t) i) k) := by
    blk_ext [iblk, q0 t, row, col]
  rw [e, V3]

theorem x1 (t : Fin cfg0.N) (j : Fin 512) (k : Fin 2048) : iblk m c 1 t (ix2 j k) = wd m c (ix2 (col (cb t) j) k) := by
  have e : iblk m c 1 t (ix2 j k) = V m c main_v2 (ix2 (col (cb t) j) k) := by
    blk_ext [iblk, q1 t, row, col]
  rw [e, V2]

theorem x2 (t : Fin cfg0.N) (i : Fin 2048) (j : Fin 512) : iblk m c 2 t (ix2 i j) = fa m c (ix2 (row (rb t) i) (col (cb t) j)) := by
  have e : iblk m c 2 t (ix2 i j) = V m c main_v0 (ix2 (row (rb t) i) (col (cb t) j)) := by
    blk_ext [iblk, q2 t, row, col]
  rw [e, V0]

theorem x3 (t : Fin cfg0.N) (i : Fin 2048) (j : Fin 512) : iblk m c 3 t (ix2 i j) = fb m c (ix2 (row (rb t) i) (col (cb t) j)) := by
  have e : iblk m c 3 t (ix2 i j) = V m c main_v1 (ix2 (row (rb t) i) (col (cb t) j)) := by
    blk_ext [iblk, q3 t, row, col]
  rw [e, V1]

theorem dots (t : Fin cfg0.N) (i : Fin 2048) (j : Fin 512) : dot (iblk m c 0 t) (iblk m c 1 t) i j = dot (df m c) (wd m c) (row (rb t) i) (col (cb t) j) :=
  Finset.sum_congr rfl fun k _ => congrArg₂ (· * ·) (x0 m c t i k) (x1 m c t j k)

section
open Cert.Reference5Ideal.Read

/-- The reference's product at an entry. -/
theorem ref3 (w : S5632x2048.Idx → EReal) (d : S8192x2048.Idx → EReal) (i : Fin 8192) (j : Fin 5632) :
    val_main_v3 (F := Ideal) w d (ix2 i j) = dot d w i j := by
  rw [val_main_v3_apply]
  have l (k : Fin 2048) : lidx_main_v3 (ix2 i j) k = ix2 i k := funext fun a => match a with
    | ⟨0, _⟩ => rfl
    | ⟨1, _⟩ => rfl
  have r (k : Fin 2048) : ridx_main_v3 (ix2 i j) k = ix2 j k := funext fun a => match a with
    | ⟨0, _⟩ => rfl
    | ⟨1, _⟩ => rfl
  simp only [l, r]
  rfl

/-- The reference's logistic function at an entry. -/
theorem refS (a : S8192x5632.Idx → EReal) (y : S8192x5632.Idx) : val_main_v0_2 (F := Ideal) a y = Ideal.logistic (a y) := by
  have one : val_main_call0_v2 (F := Ideal) y = (1 : EReal) := by
    rw [val_main_call0_v2_apply]
    exact Ideal.ofBits_one_f32
  have one' : val_main_call0_v4 (F := Ideal) y = (1 : EReal) := by
    rw [val_main_call0_v4_apply]
    exact Ideal.ofBits_one_f32
  rw [val_main_v0_2_apply, val_main_call0_v3_apply, one, one']
  rfl

/-- The reference's first result at an entry. -/
theorem ref7 (a b : S8192x5632.Idx → EReal) (w : S5632x2048.Idx → EReal) (d : S8192x2048.Idx → EReal) (i : Fin 8192) (j : Fin 5632)
    (hb : ∃ z : ℝ, b (ix2 i j) = z) (hd : ∃ z : ℝ, dot d w i j = z) :
    val_main_v7 (F := Ideal) a b w d (ix2 i j) = da (dot d w i j) (a (ix2 i j)) (b (ix2 i j)) := by
  have one : val_main_call0_v6 (F := Ideal) (ix2 i j) = (1 : EReal) := by
    rw [val_main_call0_v6_apply]
    exact Ideal.ofBits_one_f32
  have e : val_main_v7 (F := Ideal) a b w d (ix2 i j) = val_main_v3 (F := Ideal) w d (ix2 i j) * b (ix2 i j) * val_main_v0_2 (F := Ideal) a (ix2 i j)
      + a (ix2 i j) * (val_main_v3 (F := Ideal) w d (ix2 i j) * b (ix2 i j)) * (val_main_v0_2 (F := Ideal) a (ix2 i j) * (val_main_call0_v6 (F := Ideal) (ix2 i j) - val_main_v0_2 (F := Ideal) a (ix2 i j))) := rfl
  rw [e, refS, ref3, one]
  obtain ⟨y, hy⟩ := hb
  obtain ⟨z, hz⟩ := hd
  exact (pull _ _ ⟨z * y, by rw [hy, hz, EReal.coe_mul]⟩).symm

/-- The reference's second result at an entry. -/
theorem ref8 (a : S8192x5632.Idx → EReal) (w : S5632x2048.Idx → EReal) (d : S8192x2048.Idx → EReal) (i : Fin 8192) (j : Fin 5632) :
    val_main_v8 (F := Ideal) a w d (ix2 i j) = db (dot d w i j) (a (ix2 i j)) := by
  have e : val_main_v8 (F := Ideal) a w d (ix2 i j) = a (ix2 i j) * val_main_v0_2 (F := Ideal) a (ix2 i j) * val_main_v3 (F := Ideal) w d (ix2 i j) := rfl
  rw [e, refS, ref3, mul_comm, ← mul_assoc]
  rfl

end

/-- What a grid point writes is the reference's result there. -/
theorem point4 (hb : ∀ j, ∃ z : ℝ, fb m c j = z) (hw : ∀ j, ∃ z : ℝ, wd m c j = z) (hd : ∀ j, ∃ z : ℝ, df m c j = z)
    (t : Fin cfg0.N) (y : S2048x512.Idx) (j : S8192x5632.Idx) (h0 : (j 0).val = (rb t).val * 2048 + (y 0).val)
    (h1 : (j 1).val = (cb t).val * 512 + (y 1).val) :
    out0_4 (iblk m c 0 t) (iblk m c 1 t) (iblk m c 2 t) (iblk m c 3 t) y = Cert.Reference5Ideal.Read.val_main_v7 (F := Ideal) (fa m c) (fb m c) (wd m c) (df m c) j := by
  obtain ⟨p, q, rfl⟩ := Mat.eta y
  have ej : j = ix2 (row (rb t) p) (col (cb t) q) := funext fun a => match a with
    | ⟨0, _⟩ => Fin.ext h0
    | ⟨1, _⟩ => Fin.ext h1
  rw [ej, block4, ref7 _ _ _ _ _ _ (hb _) (finite _ _ hd hw _ _), dots]
  exact congrArg₂ (da _) (x2 m c t p q) (x3 m c t p q)

theorem point5 (t : Fin cfg0.N) (y : S2048x512.Idx) (j : S8192x5632.Idx) (h0 : (j 0).val = (rb t).val * 2048 + (y 0).val)
    (h1 : (j 1).val = (cb t).val * 512 + (y 1).val) :
    out0_5 (iblk m c 0 t) (iblk m c 1 t) (iblk m c 2 t) (iblk m c 3 t) y = Cert.Reference5Ideal.Read.val_main_v8 (F := Ideal) (fa m c) (wd m c) (df m c) j := by
  obtain ⟨p, q, rfl⟩ := Mat.eta y
  have ej : j = ix2 (row (rb t) p) (col (cb t) q) := funext fun a => match a with
    | ⟨0, _⟩ => Fin.ext h0
    | ⟨1, _⟩ => Fin.ext h1
  rw [ej, block5, ref8, dots]
  exact congrArg (db _) (x2 m c t p q)

/-- The final arrays. -/
theorem final4 (hb : ∀ j, ∃ z : ℝ, fb m c j = z) (hw : ∀ j, ∃ z : ℝ, wd m c j = z) (hd : ∀ j, ∃ z : ℝ, df m c j = z) :
    (dats m 0 c).arrAt 4 cfg0.N = Cert.Reference5Ideal.Read.val_main_v7 (F := Ideal) (fa m c) (fb m c) (wd m c) (df m c) := by
  refine (dats m 0 c).arrAt_eq_of_covers 4 _ (by decide +kernel) fun t hf y => ?_
  blk_simp
  rw [after0_4]
  refine point4 m c hb hw hd t y _ ?_ ?_
  · blk_simp [q4 t]
  · blk_simp [q4 t]

theorem final5 : (dats m 0 c).arrAt 5 cfg0.N = Cert.Reference5Ideal.Read.val_main_v8 (F := Ideal) (fa m c) (wd m c) (df m c) := by
  refine (dats m 0 c).arrAt_eq_of_covers 5 _ (by decide +kernel) fun t hf y => ?_
  blk_simp
  rw [after0_5]
  refine point5 m c t y _ ?_ ?_
  · blk_simp [q5 t]
  · blk_simp [q5 t]

theorem preFacts : Cert.Pre_pullback_finite.Facts := ⟨by decide, by decide, by decide⟩

instance : Cert.Pre_pullback_finite.Facts := preFacts

theorem frameP : Cert.quiescent_Kernel5 := fun m ρ _ => Cert.Kernel5.Gen.frame m ρ

theorem framePI : Cert.quiescent_Kernel5Ideal := fun m ρ _ => Cert.Kernel5Ideal.Gen.frame m ρ

theorem frameRI : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run m ρ)

theorem equal : Cert.algebraic_Kernel5Ideal_Reference5Ideal_pre_pullback_finite := by
  intro m ρ m' ρ' hpre hag
  refine ⟨fun c => Cert.Reference5Ideal.Read.val_main_v7 (F := Ideal) (fa m c) (fb m c) (wd m c) (df m c),
    fun c => Cert.Reference5Ideal.Read.val_main_v8 (F := Ideal) (fa m c) (wd m c) (df m c), ?_, ?_⟩
  · refine (θ_run Cert.Kernel5Ideal.defs _ _).mono (fun r h c => ?_) (Cert.Kernel5Ideal.Value.run_blocks m ρ)
    have e := hpre c
    exact ⟨(h c).1.trans (final4 m c (fun j => Claims.real_of_lt _ (congrFun e.1 j)) (fun j => Claims.real_of_lt _ (congrFun e.2.1 j))
      (fun j => Claims.real_of_lt _ (congrFun e.2.2 j))), (h c).2.1.trans (final5 m c), (h c).2.2⟩
  · refine (θ_run Cert.Reference5Ideal.defs _ _).mono (fun r h c => ⟨?_, ?_, (h c).2.2⟩) (Cert.Reference5Ideal.Value.run m' ρ')
    · have e := hag c
      refine ((h c).1.trans (Cert.Reference5Ideal.Read.val_main_v7_eq (F := Ideal) _ _ _ _)).trans ?_
      exact congr (congr (congr (congrArg (Cert.Reference5Ideal.Read.val_main_v7 (F := Ideal)) e.1) e.2.1) e.2.2.1) e.2.2.2
    · have e := hag c
      refine ((h c).2.1.trans (Cert.Reference5Ideal.Read.val_main_v8_eq (F := Ideal) _ _ _)).trans ?_
      exact congr (congr (congrArg (Cert.Reference5Ideal.Read.val_main_v8 (F := Ideal)) e.1) e.2.2.1) e.2.2.2

end Cert.DAct
-- ==== Proof.FfnUp.lean ====
module

public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Half
public import proofs.«01_k».proof.Proof.Sigmoid
public import proofs.«01_k».proof.Defs
public import Idealize.ShloMosaic.Lib.Quiescent
public import Idealize.ShloMosaic.Lib.StableHlo.ReadAt
public import Idealize.ShloMosaic.Lib.StableHlo.RunRead

@[expose] public section

/-! The feed-forward gate and its two projections: two products and the gate's activation, in two column halves. -/

set_option maxRecDepth 16384
noncomputable section

namespace Cert.FfnUp
open Cert.Kernel6Ideal Cert.Kernel6Ideal.Gen Idealize.ShloMosaic Idealize.ShloMosaic.TcCoe Idealize.SL.Sem
open Idealize.ShloMosaic.Pipeline (Dat)
open scoped BigOperators

/-- The gate's activation times the other projection. -/
def gate (a b : EReal) : EReal := a * Ideal.logistic a * b

/-- Rows against columns. -/
def dot {R C : ℕ} (x : (⟨2, ![R, 2048]⟩ : Shape).Idx → EReal) (w : (⟨2, ![2048, C]⟩ : Shape).Idx → EReal) (i : Fin R) (j : Fin C) : EReal :=
  ∑ k : Fin 2048, x (ix2 i k) * w (ix2 k j)

/-- The product of the rows read and a half of the columns. -/
theorem prod (x : Vec Ideal S2048x2048 .bf16) (w : Vec Ideal S2048x256 .bf16) (i : Fin 2048) (j : Fin 256) :
    k0_pay5 (F := Ideal) (View.ld x r0_0) w (ix2 i j) = dot x w i j := by
  have hd : dot_S2048x2048_S2048x256_S2048x256_1_0_0_1_n_n = DotDims.plain 2048 2048 256 := rfl
  unfold k0_pay5
  simp only [View.ld_unit_zero (S := S2048x2048) Mat.hz, shapeCast_self, hd]
  exact Mat.nn _ _ i j

theorem prodL (x : Vec Ideal S2048x2048 .bf16) (w : Vec Ideal S2048x512 .bf16) (i : Fin 2048) (j : Fin 256) :
    k0_pay5 (F := Ideal) (View.ld x r0_0) (View.ld w r0_1) (ix2 i j) = dot x w i (Half.lo j) :=
  (prod x _ i j).trans (Finset.sum_congr rfl fun k _ => congrArg (x (ix2 i k) * w ·) (Half.left _ k j))

theorem prodR (x : Vec Ideal S2048x2048 .bf16) (w : Vec Ideal S2048x512 .bf16) (i : Fin 2048) (j : Fin 256) :
    k0_pay5 (F := Ideal) (View.ld x r0_0) (View.ld w r0_2) (ix2 i j) = dot x w i (Half.hi j) :=
  (prod x _ i j).trans (Finset.sum_congr rfl fun k _ => congrArg (x (ix2 i k) * w ·) (Half.right _ k j))

theorem act (a b : FVec Ideal S2048x256 .f32) (x : Vec Ideal S2048x2048 .bf16) (w : Vec Ideal S2048x256 .bf16) (i : S2048x256.Idx) (h : k0_pay1 (F := Ideal) x w = b) :
    k0_pay2 (F := Ideal) a x w i = gate (a i) (b i) := by
  subst h
  exact congrArg (a i * · * k0_pay1 (F := Ideal) x w i) (Sigmoid.eq (a i))

/-- The blocks written at a grid point. -/
theorem block3 (x0 : Vec Ideal S2048x2048 .bf16) (x1 x2 : Vec Ideal S2048x512 .bf16) (i : Fin 2048) (j : Fin 512) :
    out0_3 (F := Ideal) x0 x1 x2 (ix2 i j) = gate (dot x0 x1 i j) (dot x0 x2 i j) := by
  unfold out0_3
  refine Half.join _ _ _ _ (fun i j => gate (dot x0 x1 i j) (dot x0 x2 i j)) (cover0_3 _ _) (fun i j => ?_) (fun i j => ?_) i j
  · exact (act _ _ _ _ (ix2 i j) rfl).trans (congrArg₂ gate (prodR x0 x1 i j) (prodR x0 x2 i j))
  · exact (act (k0_pay5 (View.ld x0 r0_0) (View.ld x1 r0_1)) _ _ _ (ix2 i j) rfl).trans (congrArg₂ gate (prodL x0 x1 i j) (prodL x0 x2 i j))

theorem block4 (x0 : Vec Ideal S2048x2048 .bf16) (x1 x2 : Vec Ideal S2048x512 .bf16) (i : Fin 2048) (j : Fin 512) :
    out0_4 (F := Ideal) x0 x1 x2 (ix2 i j) = dot x0 x1 i j := by
  unfold out0_4
  exact Half.join _ _ _ _ (fun i j => dot x0 x1 i j) (cover0_4 _ _) (prodR x0 x1) (prodL x0 x1) i j

theorem block5 (x0 : Vec Ideal S2048x2048 .bf16) (x1 x2 : Vec Ideal S2048x512 .bf16) (i : Fin 2048) (j : Fin 512) :
    out0_5 (F := Ideal) x0 x1 x2 (ix2 i j) = dot x0 x2 i j := by
  unfold out0_5
  exact Half.join _ _ _ _ (fun i j => dot x0 x2 i j) (cover0_5 _ _) (prodR x0 x2) (prodL x0 x2) i j

variable (m : (ℓ : Loc nD τ sig) → Buf (Elt Ideal) ℓ) (c : Dev nD)

/-- The tokens. -/
abbrev tok : S8192x2048.Idx → EReal := m ((c : Thread nD τ).loc main_arg0)
/-- The gate's weights. -/
abbrev wg : S2048x5632.Idx → EReal := m ((c : Thread nD τ).loc main_arg1)
/-- The other weights. -/
abbrev wu : S2048x5632.Idx → EReal := m ((c : Thread nD τ).loc main_arg2)

theorem V0 : V m c main_v0 = tok m c := by
  after_reads_simp
  rfl

theorem V1 : V m c main_v1 = wg m c := by
  after_reads_simp
  rfl

theorem V2 : V m c main_v2 = wu m c := by
  after_reads_simp
  rfl

/-- The row block of a grid point. -/
def rb (t : Fin cfg0.N) : Fin 4 := ⟨(grid0.coords t 0).val, (grid0.coords t 0).isLt⟩

/-- The column block of a grid point. -/
def cb (t : Fin cfg0.N) : Fin 11 := ⟨(grid0.coords t 1).val, (grid0.coords t 1).isLt⟩

theorem q0 : ∀ t : Fin cfg0.N, win0_0.index t = ![(rb t).val, 0] :=
  (by decide +kernel : ∀ t : Fin grid0.N, win0_0.index t = ![(rb t).val, 0])

theorem q1 : ∀ t : Fin cfg0.N, win0_1.index t = ![0, (cb t).val] :=
  (by decide +kernel : ∀ t : Fin grid0.N, win0_1.index t = ![0, (cb t).val])

theorem q2 : ∀ t : Fin cfg0.N, win0_2.index t = ![0, (cb t).val] :=
  (by decide +kernel : ∀ t : Fin grid0.N, win0_2.index t = ![0, (cb t).val])

theorem q3 : ∀ t : Fin cfg0.N, win0_3.index t = ![(rb t).val, (cb t).val] :=
  (by decide +kernel : ∀ t : Fin grid0.N, win0_3.index t = ![(rb t).val, (cb t).val])

theorem q4 : ∀ t : Fin cfg0.N, win0_4.index t = ![(rb t).val, (cb t).val] :=
  (by decide +kernel : ∀ t : Fin grid0.N, win0_4.index t = ![(rb t).val, (cb t).val])

theorem q5 : ∀ t : Fin cfg0.N, win0_5.index t = ![(rb t).val, (cb t).val] :=
  (by decide +kernel : ∀ t : Fin grid0.N, win0_5.index t = ![(rb t).val, (cb t).val])

/-- Row `i` of row block `a`. -/
def row (a : Fin 4) (i : Fin 2048) : Fin 8192 := ⟨a.val * 2048 + i.val, by omega⟩

/-- Column `j` of column block `b`. -/
def col (b : Fin 11) (j : Fin 512) : Fin 5632 := ⟨b.val * 512 + j.val, by omega⟩

theorem x0 (t : Fin cfg0.N) (i : Fin 2048) (k : Fin 2048) : iblk m c 0 t (ix2 i k) = tok m c (ix2 (row (rb t) i) k) := by
  have e : iblk m c 0 t (ix2 i k) = V m c main_v0 (ix2 (row (rb t) i) k) := by
    blk_ext [iblk, q0 t, row]
  rw [e, V0]

theorem x1 (t : Fin cfg0.N) (k : Fin 2048) (j : Fin 512) : iblk m c 1 t (ix2 k j) = wg m c (ix2 k (col (cb t) j)) := by
  have e : iblk m c 1 t (ix2 k j) = V m c main_v1 (ix2 k (col (cb t) j)) := by
    blk_ext [iblk, q1 t, col]
  rw [e, V1]

theorem x2 (t : Fin cfg0.N) (k : Fin 2048) (j : Fin 512) : iblk m c 2 t (ix2 k j) = wu m c (ix2 k (col (cb t) j)) := by
  have e : iblk m c 2 t (ix2 k j) = V m c main_v2 (ix2 k (col (cb t) j)) := by
    blk_ext [iblk, q2 t, col]
  rw [e, V2]

theorem dotG (t : Fin cfg0.N) (i : Fin 2048) (j : Fin 512) : dot (iblk m c 0 t) (iblk m c 1 t) i j = dot (tok m c) (wg m c) (row (rb t) i) (col (cb t) j) :=
  Finset.sum_congr rfl fun k _ => congrArg₂ (· * ·) (x0 m c t i k) (x1 m c t k j)

theorem dotU (t : Fin cfg0.N) (i : Fin 2048) (j : Fin 512) : dot (iblk m c 0 t) (iblk m c 2 t) i j = dot (tok m c) (wu m c) (row (rb t) i) (col (cb t) j) :=
  Finset.sum_congr rfl fun k _ => congrArg₂ (· * ·) (x0 m c t i k) (x2 m c t k j)

/-- The reference's first product at an entry. -/
theorem ref0 (h : S8192x2048.Idx → EReal) (w : S2048x5632.Idx → EReal) (i : Fin 8192) (j : Fin 5632) :
    Cert.Reference6Ideal.Read.val_main_v0 (F := Ideal) h w (ix2 i j) = dot h w i j := by
  rw [Cert.Reference6Ideal.Read.val_main_v0_apply]
  have l (k : Fin 2048) : Cert.Reference6Ideal.Read.lidx_main_v0 (ix2 i j) k = ix2 i k := funext fun a => match a with
    | ⟨0, _⟩ => rfl
    | ⟨1, _⟩ => rfl
  have r (k : Fin 2048) : Cert.Reference6Ideal.Read.ridx_main_v0 (ix2 i j) k = ix2 k j := funext fun a => match a with
    | ⟨0, _⟩ => rfl
    | ⟨1, _⟩ => rfl
  simp only [l, r]
  rfl

/-- The reference's first result at an entry. -/
theorem ref4 (h : S8192x2048.Idx → EReal) (w1 w2 : S2048x5632.Idx → EReal) (i : Fin 8192) (j : Fin 5632) :
    Cert.Reference6Ideal.Read.val_main_v4 (F := Ideal) h w1 w2 (ix2 i j) = gate (dot h w1 i j) (dot h w2 i j) := by
  have one : Cert.Reference6Ideal.Read.val_main_call0_v2 (F := Ideal) (ix2 i j) = (1 : EReal) := by
    rw [Cert.Reference6Ideal.Read.val_main_call0_v2_apply]
    exact Ideal.ofBits_one_f32
  have one' : Cert.Reference6Ideal.Read.val_main_call0_v4 (F := Ideal) (ix2 i j) = (1 : EReal) := by
    rw [Cert.Reference6Ideal.Read.val_main_call0_v4_apply]
    exact Ideal.ofBits_one_f32
  have s : Cert.Reference6Ideal.Read.val_main_call0_v5 (F := Ideal) h w1 (ix2 i j) = Ideal.logistic (dot h w1 i j) := by
    rw [Cert.Reference6Ideal.Read.val_main_call0_v5_apply, Cert.Reference6Ideal.Read.val_main_call0_v3_apply, one, one', ← ref0]
    rfl
  rw [← ref0, ← ref0] at *
  exact congrArg (Cert.Reference6Ideal.Read.val_main_v0 (F := Ideal) h w1 (ix2 i j) * · * Cert.Reference6Ideal.Read.val_main_v0 (F := Ideal) h w2 (ix2 i j)) s

/-- What a grid point writes is the reference's result there. -/
theorem point3 (t : Fin cfg0.N) (y : S2048x512.Idx) (j : S8192x5632.Idx) (h0 : (j 0).val = (rb t).val * 2048 + (y 0).val)
    (h1 : (j 1).val = (cb t).val * 512 + (y 1).val) :
    out0_3 (iblk m c 0 t) (iblk m c 1 t) (iblk m c 2 t) y = Cert.Reference6Ideal.Read.val_main_v4 (F := Ideal) (tok m c) (wg m c) (wu m c) j := by
  obtain ⟨p, q, rfl⟩ := Mat.eta y
  have ej : j = ix2 (row (rb t) p) (col (cb t) q) := funext fun a => match a with
    | ⟨0, _⟩ => Fin.ext h0
    | ⟨1, _⟩ => Fin.ext h1
  rw [ej, block3, ref4, dotG, dotU]

theorem point4 (t : Fin cfg0.N) (y : S2048x512.Idx) (j : S8192x5632.Idx) (h0 : (j 0).val = (rb t).val * 2048 + (y 0).val)
    (h1 : (j 1).val = (cb t).val * 512 + (y 1).val) :
    out0_4 (iblk m c 0 t) (iblk m c 1 t) (iblk m c 2 t) y = Cert.Reference6Ideal.Read.val_main_v5 (F := Ideal) (tok m c) (wg m c) j := by
  obtain ⟨p, q, rfl⟩ := Mat.eta y
  have ej : j = ix2 (row (rb t) p) (col (cb t) q) := funext fun a => match a with
    | ⟨0, _⟩ => Fin.ext h0
    | ⟨1, _⟩ => Fin.ext h1
  rw [ej, block4, dotG]
  exact (ref0 _ _ _ _).symm

theorem point5 (t : Fin cfg0.N) (y : S2048x512.Idx) (j : S8192x5632.Idx) (h0 : (j 0).val = (rb t).val * 2048 + (y 0).val)
    (h1 : (j 1).val = (cb t).val * 512 + (y 1).val) :
    out0_5 (iblk m c 0 t) (iblk m c 1 t) (iblk m c 2 t) y = Cert.Reference6Ideal.Read.val_main_v6 (F := Ideal) (tok m c) (wu m c) j := by
  obtain ⟨p, q, rfl⟩ := Mat.eta y
  have ej : j = ix2 (row (rb t) p) (col (cb t) q) := funext fun a => match a with
    | ⟨0, _⟩ => Fin.ext h0
    | ⟨1, _⟩ => Fin.ext h1
  rw [ej, block5, dotU]
  exact (ref0 _ _ _ _).symm

/-- The final arrays. -/
theorem final3 : (dats m 0 c).arrAt 3 cfg0.N = Cert.Reference6Ideal.Read.val_main_v4 (F := Ideal) (tok m c) (wg m c) (wu m c) := by
  refine (dats m 0 c).arrAt_eq_of_covers 3 _ (by decide +kernel) fun t hf y => ?_
  blk_simp
  rw [after0_3]
  refine point3 m c t y _ ?_ ?_
  · blk_simp [q3 t]
  · blk_simp [q3 t]

theorem final4 : (dats m 0 c).arrAt 4 cfg0.N = Cert.Reference6Ideal.Read.val_main_v5 (F := Ideal) (tok m c) (wg m c) := by
  refine (dats m 0 c).arrAt_eq_of_covers 4 _ (by decide +kernel) fun t hf y => ?_
  blk_simp
  rw [after0_4]
  refine point4 m c t y _ ?_ ?_
  · blk_simp [q4 t]
  · blk_simp [q4 t]

theorem final5 : (dats m 0 c).arrAt 5 cfg0.N = Cert.Reference6Ideal.Read.val_main_v6 (F := Ideal) (tok m c) (wu m c) := by
  refine (dats m 0 c).arrAt_eq_of_covers 5 _ (by decide +kernel) fun t hf y => ?_
  blk_simp
  rw [after0_5]
  refine point5 m c t y _ ?_ ?_
  · blk_simp [q5 t]
  · blk_simp [q5 t]

theorem frameP : Cert.quiescent_Kernel6 := fun m ρ _ => Cert.Kernel6.Gen.frame m ρ

theorem framePI : Cert.quiescent_Kernel6Ideal := fun m ρ _ => Cert.Kernel6Ideal.Gen.frame m ρ

theorem frameRI : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run m ρ)

theorem equal : Cert.algebraic_Kernel6Ideal_Reference6Ideal := by
  intro m ρ m' ρ' _ hag
  refine ⟨fun c => Cert.Reference6Ideal.Read.val_main_v4 (F := Ideal) (tok m c) (wg m c) (wu m c),
    fun c => Cert.Reference6Ideal.Read.val_main_v5 (F := Ideal) (tok m c) (wg m c),
    fun c => Cert.Reference6Ideal.Read.val_main_v6 (F := Ideal) (tok m c) (wu m c), ?_, ?_⟩
  · exact (θ_run Cert.Kernel6Ideal.defs _ _).mono
      (fun r h c => ⟨(h c).1.trans (final3 m c), (h c).2.1.trans (final4 m c), (h c).2.2.1.trans (final5 m c), (h c).2.2.2⟩)
      (Cert.Kernel6Ideal.Value.run_blocks m ρ)
  · refine (θ_run Cert.Reference6Ideal.defs _ _).mono (fun r h c => ⟨?_, ?_, ?_, (h c).2.2.2⟩) (Cert.Reference6Ideal.Value.run m' ρ')
    · have e := hag c
      refine ((h c).1.trans (Cert.Reference6Ideal.Read.val_main_v4_eq (F := Ideal) _ _ _)).trans ?_
      exact congr (congr (congrArg (Cert.Reference6Ideal.Read.val_main_v4 (F := Ideal)) e.1) e.2.1) e.2.2
    · have e := hag c
      refine ((h c).2.1.trans (Cert.Reference6Ideal.Read.val_main_v5_eq (F := Ideal) _ _)).trans ?_
      exact congr (congrArg (Cert.Reference6Ideal.Read.val_main_v5 (F := Ideal)) e.1) e.2.1
    · have e := hag c
      refine ((h c).2.2.1.trans (Cert.Reference6Ideal.Read.val_main_v6_eq (F := Ideal) _ _)).trans ?_
      exact congr (congrArg (Cert.Reference6Ideal.Read.val_main_v6 (F := Ideal)) e.1) e.2.2

end Cert.FfnUp
-- ==== Proof.FfnDown.lean ====
module

public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Mat
public import proofs.«01_k».proof.Defs
public import Idealize.ShloMosaic.Lib.Quiescent
public import Idealize.ShloMosaic.Lib.StableHlo.ReadAt
public import Idealize.ShloMosaic.Lib.StableHlo.RunRead

@[expose] public section

/-! The feed-forward output: one product. -/

set_option maxRecDepth 16384
noncomputable section

namespace Cert.FfnDown
open Cert.Kernel7Ideal Cert.Kernel7Ideal.Gen Idealize.ShloMosaic Idealize.ShloMosaic.TcCoe Idealize.SL.Sem
open Idealize.ShloMosaic.Pipeline (Dat)
open scoped BigOperators

/-- The block written at a grid point: the product of the blocks read there. -/
theorem block (x0 : FVec Ideal S1024x5632 .bf16) (x1 : FVec Ideal S5632x512 .bf16) (i : Fin 1024) (j : Fin 512) :
    out0_2 (F := Ideal) x0 x1 (ix2 i j) = ∑ k : Fin 5632, x0 (ix2 i k) * x1 (ix2 k j) := by
  have hd : dot_S1024x5632_S5632x512_S1024x512_1_0_0_1_n_n = DotDims.plain 1024 5632 512 := rfl
  unfold out0_2
  rw [View.canon_unit_zero Mat.hz]
  unfold k0_pay1
  simp only [View.ld_unit_zero (S := S1024x5632) Mat.hz, View.ld_unit_zero (S := S5632x512) Mat.hz, shapeCast_self, hd]
  exact Mat.nn _ _ i j

variable (m : (ℓ : Loc nD τ sig) → Buf (Elt Ideal) ℓ) (c : Dev nD)

/-- The activations. -/
abbrev act : S8192x5632.Idx → EReal := m ((c : Thread nD τ).loc main_arg0)
/-- The weights. -/
abbrev wd : S5632x2048.Idx → EReal := m ((c : Thread nD τ).loc main_arg1)

theorem V0 : V m c main_v0 = act m c := by
  after_reads_simp
  rfl

theorem V1 : V m c main_v1 = wd m c := by
  after_reads_simp
  rfl

/-- The row block of a grid point. -/
def rb (t : Fin cfg0.N) : Fin 8 := ⟨(grid0.coords t 0).val, (grid0.coords t 0).isLt⟩

/-- The column block of a grid point. -/
def cb (t : Fin cfg0.N) : Fin 4 := ⟨(grid0.coords t 1).val, (grid0.coords t 1).isLt⟩

theorem q0 : ∀ t : Fin cfg0.N, win0_0.index t = ![(rb t).val, 0] :=
  (by decide +kernel : ∀ t : Fin grid0.N, win0_0.index t = ![(rb t).val, 0])

theorem q1 : ∀ t : Fin cfg0.N, win0_1.index t = ![0, (cb t).val] :=
  (by decide +kernel : ∀ t : Fin grid0.N, win0_1.index t = ![0, (cb t).val])

theorem q2 : ∀ t : Fin cfg0.N, win0_2.index t = ![(rb t).val, (cb t).val] :=
  (by decide +kernel : ∀ t : Fin grid0.N, win0_2.index t = ![(rb t).val, (cb t).val])

/-- Row `i` of row block `a`. -/
def row (a : Fin 8) (i : Fin 1024) : Fin 8192 := ⟨a.val * 1024 + i.val, by omega⟩

/-- Column `j` of column block `b`. -/
def col (b : Fin 4) (j : Fin 512) : Fin 2048 := ⟨b.val * 512 + j.val, by omega⟩

theorem x0 (t : Fin cfg0.N) (i : Fin 1024) (k : Fin 5632) : iblk m c 0 t (ix2 i k) = act m c (ix2 (row (rb t) i) k) := by
  have e : iblk m c 0 t (ix2 i k) = V m c main_v0 (ix2 (row (rb t) i) k) := by
    blk_ext [iblk, q0 t, row]
  rw [e, V0]

theorem x1 (t : Fin cfg0.N) (k : Fin 5632) (j : Fin 512) : iblk m c 1 t (ix2 k j) = wd m c (ix2 k (col (cb t) j)) := by
  have e : iblk m c 1 t (ix2 k j) = V m c main_v1 (ix2 k (col (cb t) j)) := by
    blk_ext [iblk, q1 t, col]
  rw [e, V1]

/-- The reference's result at an entry. -/
theorem ref (a : S8192x5632.Idx → EReal) (w : S5632x2048.Idx → EReal) (i : Fin 8192) (j : Fin 2048) :
    Cert.Reference7Ideal.Read.val_main_v0 (F := Ideal) a w (ix2 i j) = ∑ k : Fin 5632, a (ix2 i k) * w (ix2 k j) := by
  rw [Cert.Reference7Ideal.Read.val_main_v0_apply]
  have l (k : Fin 5632) : Cert.Reference7Ideal.Read.lidx_main_v0 (ix2 i j) k = ix2 i k := funext fun a => match a with
    | ⟨0, _⟩ => rfl
    | ⟨1, _⟩ => rfl
  have r (k : Fin 5632) : Cert.Reference7Ideal.Read.ridx_main_v0 (ix2 i j) k = ix2 k j := funext fun a => match a with
    | ⟨0, _⟩ => rfl
    | ⟨1, _⟩ => rfl
  simp only [l, r]

/-- What a grid point writes is the reference's result there. -/
theorem point (t : Fin cfg0.N) (y : S1024x512.Idx) (j : S8192x2048.Idx) (h0 : (j 0).val = (rb t).val * 1024 + (y 0).val)
    (h1 : (j 1).val = (cb t).val * 512 + (y 1).val) :
    out0_2 (iblk m c 0 t) (iblk m c 1 t) y = Cert.Reference7Ideal.Read.val_main_v0 (F := Ideal) (act m c) (wd m c) j := by
  obtain ⟨p, q, rfl⟩ := Mat.eta y
  have ej : j = ix2 (row (rb t) p) (col (cb t) q) := funext fun a => match a with
    | ⟨0, _⟩ => Fin.ext h0
    | ⟨1, _⟩ => Fin.ext h1
  rw [ej, block, ref]
  exact Finset.sum_congr rfl fun k _ => congrArg₂ (· * ·) (x0 m c t _ k) (x1 m c t k _)

/-- The final array. -/
theorem final : (dats m 0 c).arrAt 2 cfg0.N = Cert.Reference7Ideal.Read.val_main_v0 (F := Ideal) (act m c) (wd m c) := by
  refine (dats m 0 c).arrAt_eq_of_covers 2 _ (by decide +kernel) fun t hf y => ?_
  blk_simp
  rw [after0_2]
  refine point m c t y _ ?_ ?_
  · blk_simp [q2 t]
  · blk_simp [q2 t]

theorem frameP : Cert.quiescent_Kernel7 := fun m ρ _ => Cert.Kernel7.Gen.frame m ρ

theorem framePI : Cert.quiescent_Kernel7Ideal := fun m ρ _ => Cert.Kernel7Ideal.Gen.frame m ρ

theorem frameRI : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

theorem equal : Cert.algebraic_Kernel7Ideal_Reference7Ideal := by
  intro m ρ m' ρ' _ hag
  refine ⟨fun c => Cert.Reference7Ideal.Read.val_main_v0 (F := Ideal) (act m c) (wd m c), ?_, ?_⟩
  · exact (θ_run Cert.Kernel7Ideal.defs _ _).mono (fun r h c => ⟨(h c).1.trans (final m c), (h c).2⟩)
      (Cert.Kernel7Ideal.Value.run_blocks m ρ)
  · refine (θ_run Cert.Reference7Ideal.defs _ _).mono (fun r h c => ⟨?_, (h c).2⟩) (Cert.Reference7Ideal.Value.run m' ρ')
    have e := hag c
    refine ((h c).1.trans (Cert.Reference7Ideal.Read.val_main_v0_eq (F := Ideal) _ _)).trans ?_
    exact congr (congrArg (Cert.Reference7Ideal.Read.val_main_v0 (F := Ideal)) e.1) e.2

end Cert.FfnDown
-- ==== Proof.InProj.lean ====
module

public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Mat
public import proofs.«01_k».proof.Defs
public import Idealize.ShloMosaic.Lib.Quiescent
public import Idealize.ShloMosaic.Lib.StableHlo.ReadAt
public import Idealize.ShloMosaic.Lib.StableHlo.RunRead

@[expose] public section

/-! The input projection: one product. -/

set_option maxRecDepth 16384
noncomputable section

namespace Cert.InProj
open Cert.Kernel8Ideal Cert.Kernel8Ideal.Gen Idealize.ShloMosaic Idealize.ShloMosaic.TcCoe Idealize.SL.Sem
open Idealize.ShloMosaic.Pipeline (Dat)
open scoped BigOperators

/-- The block written at a grid point: the product of the blocks read there. -/
theorem block (x0 : FVec Ideal S2048x2048 .bf16) (x1 : FVec Ideal S2048x512 .bf16) (i : Fin 2048) (j : Fin 512) :
    out0_2 (F := Ideal) x0 x1 (ix2 i j) = ∑ k : Fin 2048, x0 (ix2 i k) * x1 (ix2 k j) := by
  have hd : dot_S2048x2048_S2048x512_S2048x512_1_0_0_1_n_n = DotDims.plain 2048 2048 512 := rfl
  unfold out0_2
  rw [View.canon_unit_zero Mat.hz]
  unfold k0_pay1
  simp only [View.ld_unit_zero (S := S2048x2048) Mat.hz, View.ld_unit_zero (S := S2048x512) Mat.hz, shapeCast_self, hd]
  exact Mat.nn _ _ i j

variable (m : (ℓ : Loc nD τ sig) → Buf (Elt Ideal) ℓ) (c : Dev nD)

/-- The activations. -/
abbrev act : S8192x2048.Idx → EReal := m ((c : Thread nD τ).loc main_arg0)
/-- The weights. -/
abbrev wd : S2048x9728.Idx → EReal := m ((c : Thread nD τ).loc main_arg1)

theorem V0 : V m c main_v0 = act m c := by
  after_reads_simp
  rfl

theorem V1 : V m c main_v1 = wd m c := by
  after_reads_simp
  rfl

/-- The row block of a grid point. -/
def rb (t : Fin cfg0.N) : Fin 4 := ⟨(grid0.coords t 0).val, (grid0.coords t 0).isLt⟩

/-- The column block of a grid point. -/
def cb (t : Fin cfg0.N) : Fin 19 := ⟨(grid0.coords t 1).val, (grid0.coords t 1).isLt⟩

theorem q0 : ∀ t : Fin cfg0.N, win0_0.index t = ![(rb t).val, 0] :=
  (by decide +kernel : ∀ t : Fin grid0.N, win0_0.index t = ![(rb t).val, 0])

theorem q1 : ∀ t : Fin cfg0.N, win0_1.index t = ![0, (cb t).val] :=
  (by decide +kernel : ∀ t : Fin grid0.N, win0_1.index t = ![0, (cb t).val])

theorem q2 : ∀ t : Fin cfg0.N, win0_2.index t = ![(rb t).val, (cb t).val] :=
  (by decide +kernel : ∀ t : Fin grid0.N, win0_2.index t = ![(rb t).val, (cb t).val])

/-- Row `i` of row block `a`. -/
def row (a : Fin 4) (i : Fin 2048) : Fin 8192 := ⟨a.val * 2048 + i.val, by omega⟩

/-- Column `j` of column block `b`. -/
def col (b : Fin 19) (j : Fin 512) : Fin 9728 := ⟨b.val * 512 + j.val, by omega⟩

theorem x0 (t : Fin cfg0.N) (i : Fin 2048) (k : Fin 2048) : iblk m c 0 t (ix2 i k) = act m c (ix2 (row (rb t) i) k) := by
  have e : iblk m c 0 t (ix2 i k) = V m c main_v0 (ix2 (row (rb t) i) k) := by
    blk_ext [iblk, q0 t, row]
  rw [e, V0]

theorem x1 (t : Fin cfg0.N) (k : Fin 2048) (j : Fin 512) : iblk m c 1 t (ix2 k j) = wd m c (ix2 k (col (cb t) j)) := by
  have e : iblk m c 1 t (ix2 k j) = V m c main_v1 (ix2 k (col (cb t) j)) := by
    blk_ext [iblk, q1 t, col]
  rw [e, V1]

/-- The reference's result at an entry. -/
theorem ref (a : S8192x2048.Idx → EReal) (w : S2048x9728.Idx → EReal) (i : Fin 8192) (j : Fin 9728) :
    Cert.Reference8Ideal.Read.val_main_v0 (F := Ideal) a w (ix2 i j) = ∑ k : Fin 2048, a (ix2 i k) * w (ix2 k j) := by
  rw [Cert.Reference8Ideal.Read.val_main_v0_apply]
  have l (k : Fin 2048) : Cert.Reference8Ideal.Read.lidx_main_v0 (ix2 i j) k = ix2 i k := funext fun a => match a with
    | ⟨0, _⟩ => rfl
    | ⟨1, _⟩ => rfl
  have r (k : Fin 2048) : Cert.Reference8Ideal.Read.ridx_main_v0 (ix2 i j) k = ix2 k j := funext fun a => match a with
    | ⟨0, _⟩ => rfl
    | ⟨1, _⟩ => rfl
  simp only [l, r]

/-- What a grid point writes is the reference's result there. -/
theorem point (t : Fin cfg0.N) (y : S2048x512.Idx) (j : S8192x9728.Idx) (h0 : (j 0).val = (rb t).val * 2048 + (y 0).val)
    (h1 : (j 1).val = (cb t).val * 512 + (y 1).val) :
    out0_2 (iblk m c 0 t) (iblk m c 1 t) y = Cert.Reference8Ideal.Read.val_main_v0 (F := Ideal) (act m c) (wd m c) j := by
  obtain ⟨p, q, rfl⟩ := Mat.eta y
  have ej : j = ix2 (row (rb t) p) (col (cb t) q) := funext fun a => match a with
    | ⟨0, _⟩ => Fin.ext h0
    | ⟨1, _⟩ => Fin.ext h1
  rw [ej, block, ref]
  exact Finset.sum_congr rfl fun k _ => congrArg₂ (· * ·) (x0 m c t _ k) (x1 m c t k _)

/-- The final array. -/
theorem final : (dats m 0 c).arrAt 2 cfg0.N = Cert.Reference8Ideal.Read.val_main_v0 (F := Ideal) (act m c) (wd m c) := by
  refine (dats m 0 c).arrAt_eq_of_covers 2 _ (by decide +kernel) fun t hf y => ?_
  blk_simp
  rw [after0_2]
  refine point m c t y _ ?_ ?_
  · blk_simp [q2 t]
  · blk_simp [q2 t]

theorem frameP : Cert.quiescent_Kernel8 := fun m ρ _ => Cert.Kernel8.Gen.frame m ρ

theorem framePI : Cert.quiescent_Kernel8Ideal := fun m ρ _ => Cert.Kernel8Ideal.Gen.frame m ρ

theorem frameRI : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

theorem equal : Cert.algebraic_Kernel8Ideal_Reference8Ideal := by
  intro m ρ m' ρ' _ hag
  refine ⟨fun c => Cert.Reference8Ideal.Read.val_main_v0 (F := Ideal) (act m c) (wd m c), ?_, ?_⟩
  · exact (θ_run Cert.Kernel8Ideal.defs _ _).mono (fun r h c => ⟨(h c).1.trans (final m c), (h c).2⟩)
      (Cert.Kernel8Ideal.Value.run_blocks m ρ)
  · refine (θ_run Cert.Reference8Ideal.defs _ _).mono (fun r h c => ⟨?_, (h c).2⟩) (Cert.Reference8Ideal.Value.run m' ρ')
    have e := hag c
    refine ((h c).1.trans (Cert.Reference8Ideal.Read.val_main_v0_eq (F := Ideal) _ _)).trans ?_
    exact congr (congrArg (Cert.Reference8Ideal.Read.val_main_v0 (F := Ideal)) e.1) e.2

end Cert.InProj
-- ==== Proof.DwIn.lean ====
module

public import proofs.«01_k».proof.Proof.Gen.Kernel9.Frame
public import proofs.«01_k».proof.Proof.Gen.Kernel9Ideal.Frame
public import Idealize.ShloMosaic.Lib.Pipeline.Value
public import proofs.«01_k».proof.Proof.Gen.Reference9Ideal.Run
public import proofs.«01_k».proof.Proof.Gen.Reference9Ideal.Read
public import proofs.«01_k».proof.Proof.Mat
public import proofs.«01_k».proof.Defs
public import Idealize.ShloMosaic.Lib.Quiescent
public import Idealize.ShloMosaic.Lib.StableHlo.ReadAt
public import Idealize.ShloMosaic.Lib.StableHlo.RunRead

@[expose] public section

/-! The weight gradient of the input projection: columns against columns, band by band. -/

set_option maxRecDepth 16384
noncomputable section

namespace Cert.DwIn
open Cert.Kernel9Ideal Cert.Kernel9Ideal.Gen Idealize.ShloMosaic Idealize.ShloMosaic.TcCoe Idealize.SL.Sem
open Idealize.ShloMosaic.Pipeline (Dat)
open scoped BigOperators

theorem hd : dot_S1024x1024_S1024x2432_S1024x2432_0_0_1_1_n_n = Mat.cols 1024 1024 2432 := rfl

/-- A band's share of a block: columns against columns. -/
def part (x0 : FVec Ideal S1024x1024 .bf16) (x1 : FVec Ideal S1024x2432 .bf16) (i : Fin 1024) (j : Fin 2432) : EReal :=
  ∑ k : Fin 1024, x0 (ix2 k i) * x1 (ix2 k j)

/-- The accumulator after a step. -/
theorem step (acc : FVec Ideal S1024x2432 .f32) (x0 : FVec Ideal S1024x1024 .bf16) (x1 : FVec Ideal S1024x2432 .bf16) (i : Fin 1024) (j : Fin 2432) :
    k0_pay2 (F := Ideal) acc x0 x1 (ix2 i j) = acc (ix2 i j) + part x0 x1 i j := by
  unfold k0_pay2
  simp only [shapeCast_self, hd]
  exact congrArg (acc (ix2 i j) + ·) (Mat.tn x0 x1 i j)

section
variable {F : FTy → Type} [FloatOps F]

/-- The first band: the accumulator starts at zero. -/
theorem first (c : Dev nD) (i : grid0.Coords) (a3 : Memref sig .tc .vmem S1024x1024 .bf16) (h3 : a3.IsWhole) (a4 : Memref sig .tc .vmem S1024x2432 .bf16) (h4 : a4.IsWhole)
    (a5 : Memref sig .tc .vmem S1024x2432 .bf16) (h5 : a5.IsWhole) (a6 : Memref sig .tc .vmem S1024x2432 .f32) (h6 : a6.IsWhole)
    (hc0 : cond0_0 i) (hc1 : cond0_1 i) (hc2 : ¬cond0_2 i) (x0 : Vec F S1024x1024 .bf16) (x1 : Vec F S1024x2432 .bf16) :
    sout0_A_0 (F := F) c i a3 h3 a4 h4 a5 h5 a6 h6 hc0 hc1 hc2 x0 x1 = k0_pay2 (F := F) (k0_pay1 (F := F)) x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_cons_unit_zero (S := S1024x2432) Mat.hz, View.readCov_unit_zero (S := S1024x2432) _ Mat.hz]
  simp only [View.readAt_eq_ld, h3.read_unread, h4.read_unread, View.ld_unit_zero (S := S1024x1024) Mat.hz, View.ld_unit_zero (S := S1024x2432) Mat.hz]

/-- A later band: its share is added. -/
theorem next (c : Dev nD) (i : grid0.Coords) (a3 : Memref sig .tc .vmem S1024x1024 .bf16) (h3 : a3.IsWhole) (a4 : Memref sig .tc .vmem S1024x2432 .bf16) (h4 : a4.IsWhole)
    (a5 : Memref sig .tc .vmem S1024x2432 .bf16) (h5 : a5.IsWhole) (a6 : Memref sig .tc .vmem S1024x2432 .f32) (h6 : a6.IsWhole)
    (hc0 : ¬cond0_0 i) (hc1 : cond0_1 i) (hc2 : ¬cond0_2 i) (x0 : Vec F S1024x1024 .bf16) (x1 : Vec F S1024x2432 .bf16) (acc : Vec F S1024x2432 .f32) :
    sout0_B_0 (F := F) c i a3 h3 a4 h4 a5 h5 a6 h6 hc0 hc1 hc2 x0 x1 acc = k0_pay2 (F := F) acc x0 x1 := by
  unfold sout0_B_0
  rw [View.read_writes_eq_canon _ _ _ (scover0_B_0 c i a3 h3 a4 h4 a5 h5 a6 h6 hc0 hc1 hc2 x0 x1 acc)]
  unfold kernelRun0_B
  dsimp only
  rw [View.canon_unit_zero (S := S1024x2432) Mat.hz]
  simp only [View.readAt_eq_ld, h3.read_unread, h4.read_unread, h6.read_unread, View.ld_unit_zero (S := S1024x1024) Mat.hz, View.ld_unit_zero (S := S1024x2432) Mat.hz,
    View.ld_unit_zero (S := S1024x2432) Mat.hz]

/-- The last band: its share is added and the block goes out. -/
theorem last (c : Dev nD) (i : grid0.Coords) (a3 : Memref sig .tc .vmem S1024x1024 .bf16) (h3 : a3.IsWhole) (a4 : Memref sig .tc .vmem S1024x2432 .bf16) (h4 : a4.IsWhole)
    (a5 : Memref sig .tc .vmem S1024x2432 .bf16) (h5 : a5.IsWhole) (a6 : Memref sig .tc .vmem S1024x2432 .f32) (h6 : a6.IsWhole)
    (hc0 : ¬cond0_0 i) (hc1 : cond0_1 i) (hc2 : cond0_2 i) (x0 : Vec F S1024x1024 .bf16) (x1 : Vec F S1024x2432 .bf16) (acc : Vec F S1024x2432 .f32) :
    out0_C_2 (F := F) c i a3 h3 a4 h4 a5 h5 a6 h6 hc0 hc1 hc2 x0 x1 acc = k0_pay3 (F := F) (k0_pay2 (F := F) acc x0 x1) := by
  unfold out0_C_2
  rw [View.read_writes_eq_canon _ _ _ (cover0_C_2 c i a3 h3 a4 h4 a5 h5 a6 h6 hc0 hc1 hc2 x0 x1 acc)]
  unfold kernelRun0_C
  dsimp only
  sl_unfold_words
  rw [View.canon_unit_zero (S := S1024x2432) Mat.hz, View.readCov_unit_zero (S := S1024x2432) _ Mat.hz]
  simp only [View.readAt_eq_ld, h3.read_unread, h4.read_unread, h6.read_unread, View.ld_unit_zero (S := S1024x1024) Mat.hz, View.ld_unit_zero (S := S1024x2432) Mat.hz,
    View.ld_unit_zero (S := S1024x2432) Mat.hz]

end

variable (m : (ℓ : Loc nD τ sig) → Buf (Elt Ideal) ℓ) (c : Dev nD)

/-- The share of the band at a grid point. -/
def share (t : Fin cfg0.N) (i : Fin 1024) (j : Fin 2432) : EReal := part (iblk m c 0 t) (iblk m c 1 t) i j

theorem acc_first (t : Fin cfg0.N) (h : t.val % 8 = 0) (i : Fin 1024) (j : Fin 2432) :
    (outsAt0 m c t.val t.isLt).2 (ix2 i j) = share m c t i j := by
  rw [outsAt0_A m c t h (by omega)]
  dsimp only
  rw [first, step]
  have z : k0_pay1 (F := Ideal) (ix2 i j) = (0 : EReal) := by
    unfold k0_pay1
    simp only [shapeCast_self]
    exact Ideal.ofBits_zero_f32
  rw [z, zero_add]
  rfl

theorem acc_next (n : ℕ) (hn : n + 1 < cfg0.N) (h0 : ¬(n + 1) % 8 = 0) (h2 : ¬(n + 1) % 8 = 7) (i : Fin 1024) (j : Fin 2432) :
    (outsAt0 m c (n + 1) hn).2 (ix2 i j) = (outsAt0 m c n (by omega)).2 (ix2 i j) + share m c ⟨n + 1, hn⟩ i j := by
  rw [outsAt0_B m c ⟨n + 1, hn⟩ h0 h2]
  dsimp only
  rw [next, step]
  rfl

theorem acc_last (n : ℕ) (hn : n + 1 < cfg0.N) (h2 : (n + 1) % 8 = 7) (i : Fin 1024) (j : Fin 2432) :
    (outsAt0 m c (n + 1) hn).1 (ix2 i j) = (outsAt0 m c n (by omega)).2 (ix2 i j) + share m c ⟨n + 1, hn⟩ i j := by
  rw [outsAt0_C m c ⟨n + 1, hn⟩ (by dsimp only; omega) h2]
  dsimp only
  rw [last]
  exact step _ _ _ i j

/-- The grid point of band `s` of run `r`. -/
def pt (r : Fin 8) (s : Fin 8) : Fin cfg0.N := ⟨8 * r.val + s.val, by rw [show cfg0.N = 64 from N_0]; omega⟩

/-- The block that goes out of a run: the shares added. -/
theorem run_block (r : Fin 8) (i : Fin 1024) (j : Fin 2432) :
    (outsAt0 m c (pt r 7).val (pt r 7).isLt).1 (ix2 i j) = ∑ s : Fin 8, share m c (pt r s) i j := by
  have e7 := acc_last m c (8 * r.val + 6) (pt r 7).isLt (by omega) i j
  have e6 := acc_next m c (8 * r.val + 5) (pt r 6).isLt (by omega) (by omega) i j
  have e5 := acc_next m c (8 * r.val + 4) (pt r 5).isLt (by omega) (by omega) i j
  have e4 := acc_next m c (8 * r.val + 3) (pt r 4).isLt (by omega) (by omega) i j
  have e3 := acc_next m c (8 * r.val + 2) (pt r 3).isLt (by omega) (by omega) i j
  have e2 := acc_next m c (8 * r.val + 1) (pt r 2).isLt (by omega) (by omega) i j
  have e1 := acc_next m c (8 * r.val) (pt r 1).isLt (by omega) (by omega) i j
  have e0 := acc_first m c (pt r 0) (by show (8 * r.val + 0) % 8 = 0; omega) i j
  rw [Fin.sum_univ_eight]
  exact e7.trans (congrArg (· + _) (e6.trans (congrArg (· + _) (e5.trans (congrArg (· + _) (e4.trans (congrArg (· + _) (e3.trans (congrArg (· + _) (e2.trans (congrArg (· + _) (e1.trans (congrArg (· + _) e0)))))))))))))

/-- The left factor. -/
abbrev la : S8192x2048.Idx → EReal := m ((c : Thread nD τ).loc main_arg0)
/-- The right factor. -/
abbrev ra : S8192x9728.Idx → EReal := m ((c : Thread nD τ).loc main_arg1)

theorem V0 : V m c main_v0 = la m c := by
  after_reads_simp
  rfl

theorem V1 : V m c main_v1 = ra m c := by
  after_reads_simp
  rfl

/-- Position `k` of band `s`. -/
def at_ (s : Fin 8) (k : Fin 1024) : Fin 8192 := ⟨s.val * 1024 + k.val, by omega⟩

/-- A sum over all positions, band by band. -/
theorem bands (f : Fin 8192 → EReal) : ∑ k, f k = ∑ s : Fin 8, ∑ k : Fin 1024, f (at_ s k) :=
  Mat.split (S := 8) (K := 1024) f fun _ _ => rfl

/-- The row block of a run. -/
def rb (r : Fin 8) : Fin 2 := ⟨r.val / 4, by omega⟩

/-- The column block of a run. -/
def cb (r : Fin 8) : Fin 4 := ⟨r.val % 4, by omega⟩

theorem q0 : ∀ (r : Fin 8) (s : Fin 8), win0_0.index (pt r s) = ![s.val, (rb r).val] := by decide +kernel

theorem q1 : ∀ (r : Fin 8) (s : Fin 8), win0_1.index (pt r s) = ![s.val, (cb r).val] := by decide +kernel

theorem q2 : ∀ r : Fin 8, win0_2.index (pt r 7) = ![(rb r).val, (cb r).val] := by decide +kernel

/-- Row `i` of row block `a`. -/
def row (a : Fin 2) (i : Fin 1024) : Fin 2048 := ⟨a.val * 1024 + i.val, by omega⟩

/-- Column `j` of column block `b`. -/
def col (b : Fin 4) (j : Fin 2432) : Fin 9728 := ⟨b.val * 2432 + j.val, by omega⟩

theorem x0 (r : Fin 8) (s : Fin 8) (k : Fin 1024) (i : Fin 1024) : iblk m c 0 (pt r s) (ix2 k i) = la m c (ix2 (at_ s k) (row (rb r) i)) := by
  have e : iblk m c 0 (pt r s) (ix2 k i) = V m c main_v0 (ix2 (at_ s k) (row (rb r) i)) := by
    blk_ext [iblk, q0 r s, row, at_]
  rw [e, V0]

theorem x1 (r : Fin 8) (s : Fin 8) (k : Fin 1024) (j : Fin 2432) : iblk m c 1 (pt r s) (ix2 k j) = ra m c (ix2 (at_ s k) (col (cb r) j)) := by
  have e : iblk m c 1 (pt r s) (ix2 k j) = V m c main_v1 (ix2 (at_ s k) (col (cb r) j)) := by
    blk_ext [iblk, q1 r s, col, at_]
  rw [e, V1]

/-- The reference's result at an entry. -/
theorem ref (a : S8192x2048.Idx → EReal) (b : S8192x9728.Idx → EReal) (i : Fin 2048) (j : Fin 9728) :
    Cert.Reference9Ideal.Read.val_main_v4 (F := Ideal) a b (ix2 i j) = ∑ k : Fin 8192, a (ix2 k i) * b (ix2 k j) := by
  rw [Cert.Reference9Ideal.Read.val_main_v4_apply, Cert.Reference9Ideal.Read.val_main_v3_apply, Cert.Reference9Ideal.Read.val_main_v2_apply]
  have l (k : Fin 8192) : Cert.Reference9Ideal.Read.lidx_main_v2 (Cert.Reference9Ideal.Read.idx_main_v3 (ix2 i j)) k = ix2 k j := funext fun a => match a with
    | ⟨0, _⟩ => rfl
    | ⟨1, _⟩ => rfl
  have r (k : Fin 8192) : Cert.Reference9Ideal.Read.ridx_main_v2 (Cert.Reference9Ideal.Read.idx_main_v3 (ix2 i j)) k = ix2 k i := funext fun a => match a with
    | ⟨0, _⟩ => rfl
    | ⟨1, _⟩ => rfl
  simp only [l, r]
  exact Finset.sum_congr rfl fun k _ => mul_comm _ _

/-- What a run writes is the reference's result there. -/
theorem point (r : Fin 8) (y : S1024x2432.Idx) (j : S2048x9728.Idx) (h0 : (j 0).val = (rb r).val * 1024 + (y 0).val)
    (h1 : (j 1).val = (cb r).val * 2432 + (y 1).val) :
    (outsAt0 m c (pt r 7).val (pt r 7).isLt).1 y = Cert.Reference9Ideal.Read.val_main_v4 (F := Ideal) (la m c) (ra m c) j := by
  obtain ⟨p, q, rfl⟩ := Mat.eta y
  have ej : j = ix2 (row (rb r) p) (col (cb r) q) := funext fun a => match a with
    | ⟨0, _⟩ => Fin.ext h0
    | ⟨1, _⟩ => Fin.ext h1
  rw [ej, run_block, ref, bands]
  unfold share part
  refine Finset.sum_congr rfl fun s _ => Finset.sum_congr rfl fun k _ => ?_
  exact congrArg₂ (· * ·) (x0 m c r s k _) (x1 m c r s k _)

/-- The final array. -/
theorem final : (dats m 0 c).arrAt 2 cfg0.N = Cert.Reference9Ideal.Read.val_main_v4 (F := Ideal) (la m c) (ra m c) := by
  refine (dats m 0 c).arrAt_eq_of_covers 2 _ (by decide +kernel) fun t hf y => ?_
  have ht := (flush0_2 t).mp hf
  have hN : t.val < 64 := lt_of_lt_of_eq t.isLt N_0
  obtain ⟨r, rfl⟩ : ∃ r : Fin 8, t = pt r 7 := ⟨⟨t.val / 8, by omega⟩, Fin.ext (by show t.val = 8 * (t.val / 8) + 7; omega)⟩
  blk_simp
  rw [after0_2]
  refine point m c r y _ ?_ ?_
  · blk_simp [q2 r]
  · blk_simp [q2 r]

/-- The run, with its result named. -/
theorem run (ρ : Dev nD → PrngReg) : θ_run defs (onTc (τ := τ) (main (F := Ideal))) ⟨m, fun _ => 0, ρ⟩ fun r => ∀ c : Dev nD,
    r.2.mem ((c : Thread nD τ).loc main_v2) = Cert.Reference9Ideal.Read.val_main_v4 (F := Ideal) (la m c) (ra m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 2).trans (final m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c)⟩) (run_main m ρ)

theorem frameP : Cert.quiescent_Kernel9 := fun m ρ _ => Cert.Kernel9.Gen.frame m ρ

theorem framePI : Cert.quiescent_Kernel9Ideal := fun m ρ _ => Cert.Kernel9Ideal.Gen.frame m ρ

theorem frameRI : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

theorem equal : Cert.algebraic_Kernel9Ideal_Reference9Ideal := by
  intro m ρ m' ρ' _ hag
  refine ⟨fun c => Cert.Reference9Ideal.Read.val_main_v4 (F := Ideal) (la m c) (ra m c), ?_, ?_⟩
  · exact run m ρ
  · refine (θ_run Cert.Reference9Ideal.defs _ _).mono (fun r h c => ⟨?_, (h c).2⟩) (Cert.Reference9Ideal.Value.run m' ρ')
    have e := hag c
    refine ((h c).1.trans (Cert.Reference9Ideal.Read.val_main_v4_eq (F := Ideal) _ _)).trans ?_
    exact congr (congrArg (Cert.Reference9Ideal.Read.val_main_v4 (F := Ideal)) e.1) e.2

end Cert.DwIn
-- ==== Proof.DH1.lean ====
module

public import proofs.«01_k».proof.Proof.Gen.Kernel10.Frame
public import proofs.«01_k».proof.Proof.Gen.Kernel10Ideal.Frame
public import Idealize.ShloMosaic.Lib.Pipeline.Value
public import proofs.«01_k».proof.Proof.Gen.Reference10Ideal.Run
public import proofs.«01_k».proof.Proof.Gen.Reference10Ideal.Read
public import proofs.«01_k».proof.Proof.Mat
public import proofs.«01_k».proof.Defs
public import Idealize.ShloMosaic.Lib.Quiescent
public import Idealize.ShloMosaic.Lib.StableHlo.ReadAt
public import Idealize.ShloMosaic.Lib.StableHlo.RunRead

@[expose] public section

/-! The gradient at the mixer's input: a product with a transposed right factor, band by band. -/

set_option maxRecDepth 16384
noncomputable section

namespace Cert.DH1
open Cert.Kernel10Ideal Cert.Kernel10Ideal.Gen Idealize.ShloMosaic Idealize.ShloMosaic.TcCoe Idealize.SL.Sem
open Idealize.ShloMosaic.Pipeline (Dat)
open scoped BigOperators

theorem hd : dot_S1024x2432_S1024x2432_S1024x1024_1_1_0_0_n_n = DotDims.transposedRhs 1024 2432 1024 := rfl

/-- A band's share of a block: rows against rows. -/
def part (x0 : FVec Ideal S1024x2432 .bf16) (x1 : FVec Ideal S1024x2432 .bf16) (i : Fin 1024) (j : Fin 1024) : EReal :=
  ∑ k : Fin 2432, x0 (ix2 i k) * x1 (ix2 j k)

/-- The accumulator after a step. -/
theorem step (acc : FVec Ideal S1024x1024 .f32) (x0 : FVec Ideal S1024x2432 .bf16) (x1 : FVec Ideal S1024x2432 .bf16) (i : Fin 1024) (j : Fin 1024) :
    k0_pay2 (F := Ideal) acc x0 x1 (ix2 i j) = acc (ix2 i j) + part x0 x1 i j := by
  unfold k0_pay2
  simp only [shapeCast_self, hd]
  exact congrArg (acc (ix2 i j) + ·) (Mat.nt x0 x1 i j)

section
variable {F : FTy → Type} [FloatOps F]

/-- The first band: the accumulator starts at zero. -/
theorem first (c : Dev nD) (i : grid0.Coords) (a3 : Memref sig .tc .vmem S1024x2432 .bf16) (h3 : a3.IsWhole) (a4 : Memref sig .tc .vmem S1024x2432 .bf16) (h4 : a4.IsWhole)
    (a5 : Memref sig .tc .vmem S1024x1024 .f32) (h5 : a5.IsWhole) (a6 : Memref sig .tc .vmem S1024x1024 .f32) (h6 : a6.IsWhole)
    (hc0 : cond0_0 i) (hc1 : cond0_1 i) (hc2 : ¬cond0_2 i) (x0 : Vec F S1024x2432 .bf16) (x1 : Vec F S1024x2432 .bf16) :
    sout0_A_0 (F := F) c i a3 h3 a4 h4 a5 h5 a6 h6 hc0 hc1 hc2 x0 x1 = k0_pay2 (F := F) (k0_pay1 (F := F)) x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_cons_unit_zero (S := S1024x1024) Mat.hz, View.readCov_unit_zero (S := S1024x1024) _ Mat.hz]
  simp only [View.readAt_eq_ld, h3.read_unread, h4.read_unread, View.ld_unit_zero (S := S1024x2432) Mat.hz, View.ld_unit_zero (S := S1024x2432) Mat.hz]

/-- A later band: its share is added. -/
theorem next (c : Dev nD) (i : grid0.Coords) (a3 : Memref sig .tc .vmem S1024x2432 .bf16) (h3 : a3.IsWhole) (a4 : Memref sig .tc .vmem S1024x2432 .bf16) (h4 : a4.IsWhole)
    (a5 : Memref sig .tc .vmem S1024x1024 .f32) (h5 : a5.IsWhole) (a6 : Memref sig .tc .vmem S1024x1024 .f32) (h6 : a6.IsWhole)
    (hc0 : ¬cond0_0 i) (hc1 : cond0_1 i) (hc2 : ¬cond0_2 i) (x0 : Vec F S1024x2432 .bf16) (x1 : Vec F S1024x2432 .bf16) (acc : Vec F S1024x1024 .f32) :
    sout0_B_0 (F := F) c i a3 h3 a4 h4 a5 h5 a6 h6 hc0 hc1 hc2 x0 x1 acc = k0_pay2 (F := F) acc x0 x1 := by
  unfold sout0_B_0
  rw [View.read_writes_eq_canon _ _ _ (scover0_B_0 c i a3 h3 a4 h4 a5 h5 a6 h6 hc0 hc1 hc2 x0 x1 acc)]
  unfold kernelRun0_B
  dsimp only
  rw [View.canon_unit_zero (S := S1024x1024) Mat.hz]
  simp only [View.readAt_eq_ld, h3.read_unread, h4.read_unread, h6.read_unread, View.ld_unit_zero (S := S1024x2432) Mat.hz, View.ld_unit_zero (S := S1024x2432) Mat.hz,
    View.ld_unit_zero (S := S1024x1024) Mat.hz]

/-- The last band: its share is added and the block goes out. -/
theorem last (c : Dev nD) (i : grid0.Coords) (a3 : Memref sig .tc .vmem S1024x2432 .bf16) (h3 : a3.IsWhole) (a4 : Memref sig .tc .vmem S1024x2432 .bf16) (h4 : a4.IsWhole)
    (a5 : Memref sig .tc .vmem S1024x1024 .f32) (h5 : a5.IsWhole) (a6 : Memref sig .tc .vmem S1024x1024 .f32) (h6 : a6.IsWhole)
    (hc0 : ¬cond0_0 i) (hc1 : cond0_1 i) (hc2 : cond0_2 i) (x0 : Vec F S1024x2432 .bf16) (x1 : Vec F S1024x2432 .bf16) (acc : Vec F S1024x1024 .f32) :
    out0_C_2 (F := F) c i a3 h3 a4 h4 a5 h5 a6 h6 hc0 hc1 hc2 x0 x1 acc = k0_pay2 (F := F) acc x0 x1 := by
  unfold out0_C_2
  rw [View.read_writes_eq_canon _ _ _ (cover0_C_2 c i a3 h3 a4 h4 a5 h5 a6 h6 hc0 hc1 hc2 x0 x1 acc)]
  unfold kernelRun0_C
  dsimp only
  sl_unfold_words
  rw [View.canon_unit_zero (S := S1024x1024) Mat.hz, View.readCov_unit_zero (S := S1024x1024) _ Mat.hz]
  simp only [View.readAt_eq_ld, h3.read_unread, h4.read_unread, h6.read_unread, View.ld_unit_zero (S := S1024x2432) Mat.hz, View.ld_unit_zero (S := S1024x2432) Mat.hz,
    View.ld_unit_zero (S := S1024x1024) Mat.hz]

end

variable (m : (ℓ : Loc nD τ sig) → Buf (Elt Ideal) ℓ) (c : Dev nD)

/-- The share of the band at a grid point. -/
def share (t : Fin cfg0.N) (i : Fin 1024) (j : Fin 1024) : EReal := part (iblk m c 0 t) (iblk m c 1 t) i j

theorem acc_first (t : Fin cfg0.N) (h : t.val % 4 = 0) (i : Fin 1024) (j : Fin 1024) :
    (outsAt0 m c t.val t.isLt).2 (ix2 i j) = share m c t i j := by
  rw [outsAt0_A m c t h (by omega)]
  dsimp only
  rw [first, step]
  have z : k0_pay1 (F := Ideal) (ix2 i j) = (0 : EReal) := by
    unfold k0_pay1
    simp only [shapeCast_self]
    exact Ideal.ofBits_zero_f32
  rw [z, zero_add]
  rfl

theorem acc_next (n : ℕ) (hn : n + 1 < cfg0.N) (h0 : ¬(n + 1) % 4 = 0) (h2 : ¬(n + 1) % 4 = 3) (i : Fin 1024) (j : Fin 1024) :
    (outsAt0 m c (n + 1) hn).2 (ix2 i j) = (outsAt0 m c n (by omega)).2 (ix2 i j) + share m c ⟨n + 1, hn⟩ i j := by
  rw [outsAt0_B m c ⟨n + 1, hn⟩ h0 h2]
  dsimp only
  rw [next, step]
  rfl

theorem acc_last (n : ℕ) (hn : n + 1 < cfg0.N) (h2 : (n + 1) % 4 = 3) (i : Fin 1024) (j : Fin 1024) :
    (outsAt0 m c (n + 1) hn).1 (ix2 i j) = (outsAt0 m c n (by omega)).2 (ix2 i j) + share m c ⟨n + 1, hn⟩ i j := by
  rw [outsAt0_C m c ⟨n + 1, hn⟩ (by dsimp only; omega) h2]
  dsimp only
  rw [last, step]
  rfl

/-- The grid point of band `s` of run `r`. -/
def pt (r : Fin 16) (s : Fin 4) : Fin cfg0.N := ⟨4 * r.val + s.val, by rw [show cfg0.N = 64 from N_0]; omega⟩

/-- The block that goes out of a run: the shares added. -/
theorem run_block (r : Fin 16) (i : Fin 1024) (j : Fin 1024) :
    (outsAt0 m c (pt r 3).val (pt r 3).isLt).1 (ix2 i j) = ∑ s : Fin 4, share m c (pt r s) i j := by
  have e3 := acc_last m c (4 * r.val + 2) (pt r 3).isLt (by omega) i j
  have e2 := acc_next m c (4 * r.val + 1) (pt r 2).isLt (by omega) (by omega) i j
  have e1 := acc_next m c (4 * r.val) (pt r 1).isLt (by omega) (by omega) i j
  have e0 := acc_first m c (pt r 0) (by show (4 * r.val + 0) % 4 = 0; omega) i j
  rw [Fin.sum_univ_four]
  exact e3.trans (congrArg (· + _) (e2.trans (congrArg (· + _) (e1.trans (congrArg (· + _) e0)))))

/-- The left factor. -/
abbrev la : S8192x9728.Idx → EReal := m ((c : Thread nD τ).loc main_arg0)
/-- The right factor. -/
abbrev ra : S2048x9728.Idx → EReal := m ((c : Thread nD τ).loc main_arg1)

theorem V0 : V m c main_v0 = la m c := by
  after_reads_simp
  rfl

theorem V1 : V m c main_v1 = ra m c := by
  after_reads_simp
  rfl

/-- Position `k` of band `s`. -/
def at_ (s : Fin 4) (k : Fin 2432) : Fin 9728 := ⟨s.val * 2432 + k.val, by omega⟩

/-- A sum over all positions, band by band. -/
theorem bands (f : Fin 9728 → EReal) : ∑ k, f k = ∑ s : Fin 4, ∑ k : Fin 2432, f (at_ s k) :=
  Mat.split (S := 4) (K := 2432) f fun _ _ => rfl

/-- The row block of a run. -/
def rb (r : Fin 16) : Fin 8 := ⟨r.val / 2, by omega⟩

/-- The column block of a run. -/
def cb (r : Fin 16) : Fin 2 := ⟨r.val % 2, by omega⟩

theorem q0 : ∀ (r : Fin 16) (s : Fin 4), win0_0.index (pt r s) = ![(rb r).val, s.val] := by decide +kernel

theorem q1 : ∀ (r : Fin 16) (s : Fin 4), win0_1.index (pt r s) = ![(cb r).val, s.val] := by decide +kernel

theorem q2 : ∀ r : Fin 16, win0_2.index (pt r 3) = ![(rb r).val, (cb r).val] := by decide +kernel

/-- Row `i` of row block `a`. -/
def row (a : Fin 8) (i : Fin 1024) : Fin 8192 := ⟨a.val * 1024 + i.val, by omega⟩

/-- Column `j` of column block `b`. -/
def col (b : Fin 2) (j : Fin 1024) : Fin 2048 := ⟨b.val * 1024 + j.val, by omega⟩

theorem x0 (r : Fin 16) (s : Fin 4) (k : Fin 2432) (i : Fin 1024) : iblk m c 0 (pt r s) (ix2 i k) = la m c (ix2 (row (rb r) i) (at_ s k)) := by
  have e : iblk m c 0 (pt r s) (ix2 i k) = V m c main_v0 (ix2 (row (rb r) i) (at_ s k)) := by
    blk_ext [iblk, q0 r s, row, at_]
  rw [e, V0]

theorem x1 (r : Fin 16) (s : Fin 4) (k : Fin 2432) (j : Fin 1024) : iblk m c 1 (pt r s) (ix2 j k) = ra m c (ix2 (col (cb r) j) (at_ s k)) := by
  have e : iblk m c 1 (pt r s) (ix2 j k) = V m c main_v1 (ix2 (col (cb r) j) (at_ s k)) := by
    blk_ext [iblk, q1 r s, col, at_]
  rw [e, V1]

/-- The reference's result at an entry. -/
theorem ref (a : S8192x9728.Idx → EReal) (b : S2048x9728.Idx → EReal) (i : Fin 8192) (j : Fin 2048) :
    Cert.Reference10Ideal.Read.val_main_v2 (F := Ideal) a b (ix2 i j) = ∑ k : Fin 9728, a (ix2 i k) * b (ix2 j k) := by
  rw [Cert.Reference10Ideal.Read.val_main_v2_apply]
  have l (k : Fin 9728) : Cert.Reference10Ideal.Read.lidx_main_v2 (ix2 i j) k = ix2 i k := funext fun a => match a with
    | ⟨0, _⟩ => rfl
    | ⟨1, _⟩ => rfl
  have r (k : Fin 9728) : Cert.Reference10Ideal.Read.ridx_main_v2 (ix2 i j) k = ix2 j k := funext fun a => match a with
    | ⟨0, _⟩ => rfl
    | ⟨1, _⟩ => rfl
  simp only [l, r]

/-- What a run writes is the reference's result there. -/
theorem point (r : Fin 16) (y : S1024x1024.Idx) (j : S8192x2048.Idx) (h0 : (j 0).val = (rb r).val * 1024 + (y 0).val)
    (h1 : (j 1).val = (cb r).val * 1024 + (y 1).val) :
    (outsAt0 m c (pt r 3).val (pt r 3).isLt).1 y = Cert.Reference10Ideal.Read.val_main_v2 (F := Ideal) (la m c) (ra m c) j := by
  obtain ⟨p, q, rfl⟩ := Mat.eta y
  have ej : j = ix2 (row (rb r) p) (col (cb r) q) := funext fun a => match a with
    | ⟨0, _⟩ => Fin.ext h0
    | ⟨1, _⟩ => Fin.ext h1
  rw [ej, run_block, ref, bands]
  unfold share part
  refine Finset.sum_congr rfl fun s _ => Finset.sum_congr rfl fun k _ => ?_
  exact congrArg₂ (· * ·) (x0 m c r s k _) (x1 m c r s k _)

/-- The final array. -/
theorem final : (dats m 0 c).arrAt 2 cfg0.N = Cert.Reference10Ideal.Read.val_main_v2 (F := Ideal) (la m c) (ra m c) := by
  refine (dats m 0 c).arrAt_eq_of_covers 2 _ (by decide +kernel) fun t hf y => ?_
  have ht := (flush0_2 t).mp hf
  have hN : t.val < 64 := lt_of_lt_of_eq t.isLt N_0
  obtain ⟨r, rfl⟩ : ∃ r : Fin 16, t = pt r 3 := ⟨⟨t.val / 4, by omega⟩, Fin.ext (by show t.val = 4 * (t.val / 4) + 3; omega)⟩
  blk_simp
  rw [after0_2]
  refine point m c r y _ ?_ ?_
  · blk_simp [q2 r]
  · blk_simp [q2 r]

/-- The run, with its result named. -/
theorem run (ρ : Dev nD → PrngReg) : θ_run defs (onTc (τ := τ) (main (F := Ideal))) ⟨m, fun _ => 0, ρ⟩ fun r => ∀ c : Dev nD,
    r.2.mem ((c : Thread nD τ).loc main_v2) = Cert.Reference10Ideal.Read.val_main_v2 (F := Ideal) (la m c) (ra m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 2).trans (final m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c)⟩) (run_main m ρ)

theorem frameP : Cert.quiescent_Kernel10 := fun m ρ _ => Cert.Kernel10.Gen.frame m ρ

theorem framePI : Cert.quiescent_Kernel10Ideal := fun m ρ _ => Cert.Kernel10Ideal.Gen.frame m ρ

theorem frameRI : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

theorem equal : Cert.algebraic_Kernel10Ideal_Reference10Ideal := by
  intro m ρ m' ρ' _ hag
  refine ⟨fun c => Cert.Reference10Ideal.Read.val_main_v2 (F := Ideal) (la m c) (ra m c), ?_, ?_⟩
  · exact run m ρ
  · refine (θ_run Cert.Reference10Ideal.defs _ _).mono (fun r h c => ⟨?_, (h c).2⟩) (Cert.Reference10Ideal.Value.run m' ρ')
    have e := hag c
    refine ((h c).1.trans (Cert.Reference10Ideal.Read.val_main_v2_eq (F := Ideal) _ _)).trans ?_
    exact congr (congrArg (Cert.Reference10Ideal.Read.val_main_v2 (F := Ideal)) e.1) e.2

end Cert.DH1
-- ==== Proof.DGates.lean ====
module

public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Reference11Ideal.Read
public import proofs.«01_k».proof.Proof.Mat
public import proofs.«01_k».proof.Proof.Sigmoid
public import proofs.«01_k».proof.Defs
public import Idealize.ShloMosaic.Lib.Pipeline.Value
public import Idealize.ShloMosaic.Lib.Quiescent
public import Idealize.ShloMosaic.Lib.StableHlo.ReadAt
public import Idealize.ShloMosaic.Lib.StableHlo.RunRead

@[expose] public section

/-! The gradients of the merge: the incoming rows against the weights' rows, and the rule for products through the gates. -/

set_option maxRecDepth 16384
noncomputable section

namespace Cert.DGates
open Cert.Kernel11Ideal Cert.Kernel11Ideal.Gen Idealize.ShloMosaic Idealize.ShloMosaic.TcCoe Idealize.SL.Sem
open Idealize.ShloMosaic.Pipeline (Dat)
open scoped BigOperators

/-- The gradient through one gate: the incoming gradient times the branch, times the gate's derivative. -/
def gate (e p : EReal) : EReal := e * (Ideal.logistic p * (1 - Ideal.logistic p))

/-- Rows against rows. -/
def dot {R C : ℕ} (x : (⟨2, ![R, 2048]⟩ : Shape).Idx → EReal) (w : (⟨2, ![C, 2048]⟩ : Shape).Idx → EReal) (i : Fin R) (j : Fin C) : EReal :=
  ∑ k : Fin 2048, x (ix2 i k) * w (ix2 j k)

section
variable (d a v s l : FVec Ideal S2048x256 .f32) (i : S2048x256.Idx)

theorem pay3 : k0_pay3 (F := Ideal) d a s i = d i * a i * s i * (1 - s i) := by
  rw [← Ideal.ofBits_one_f32]
  rfl

theorem pay4 : k0_pay4 (F := Ideal) d v s l i = d i * v i * k0_pay1 (F := Ideal) l i * s i * (1 - s i) := by
  rw [← Ideal.ofBits_one_f32]
  rfl

theorem pay6 : k0_pay6 (F := Ideal) d s l i = d i * s i * k0_pay1 (F := Ideal) l i := rfl

theorem pay7 : k0_pay7 (F := Ideal) d v s l i = d i * s i * v i * k0_pay1 (F := Ideal) l i * (1 - k0_pay1 (F := Ideal) l i) := by
  rw [← Ideal.ofBits_one_f32]
  rfl

end

section
variable (x0 : Vec Ideal S2048x2048 .bf16) (x1 : Vec Ideal S256x2048 .bf16) (x2 x3 : Vec Ideal S2048x256 .f32) (x4 x5 x6 : Vec Ideal S2048x256 .bf16)
  (i : Fin 2048) (j : Fin 256)

/-- The product of the incoming rows and the weights' rows. -/
theorem prod : k0_pay14 (F := Ideal) x0 x1 x2 x3 x4 x5 x6 (ix2 i j) = dot x0 x1 i j := by
  have hd : dot_S2048x2048_S256x2048_S2048x256_1_1_0_0_n_n = DotDims.transposedRhs 2048 2048 256 := rfl
  unfold k0_pay14 k0_pay8
  simp only [View.ld_unit_zero (S := S2048x2048) Mat.hz, View.ld_unit_zero (S := S256x2048) Mat.hz, shapeCast_self, hd]
  exact Mat.nt _ _ i j

theorem att : k0_pay9 (F := Ideal) (View.ld x4 r0_2) (ix2 i j) = x4 (ix2 i j) := by
  unfold k0_pay9
  simp only [View.ld_unit_zero (S := S2048x256) Mat.hz, shapeCast_self]
  rfl

theorem val : k0_pay15 (F := Ideal) x0 x1 x2 x3 x4 x5 x6 (ix2 i j) = x5 (ix2 i j) := by
  unfold k0_pay15 k0_pay10
  simp only [View.ld_unit_zero (S := S2048x256) Mat.hz, shapeCast_self]
  rfl

theorem gateA : k0_pay16 (F := Ideal) x0 x1 x2 x3 x4 x5 x6 (ix2 i j) = Ideal.logistic (x2 (ix2 i j)) := by
  unfold k0_pay16
  rw [View.ld_unit_zero (S := S2048x256) Mat.hz]
  exact Sigmoid.eq _

theorem gateS : k0_pay17 (F := Ideal) x0 x1 x2 x3 x4 x5 x6 (ix2 i j) = Ideal.logistic (x3 (ix2 i j)) := by
  unfold k0_pay17
  rw [View.ld_unit_zero (S := S2048x256) Mat.hz]
  exact Sigmoid.eq _

theorem gateG : k0_pay1 (F := Ideal) (k0_pay18 x0 x1 x2 x3 x4 x5 x6) (ix2 i j) = Ideal.logistic (x6 (ix2 i j)) := by
  unfold k0_pay18 k0_pay13
  simp only [View.ld_unit_zero (S := S2048x256) Mat.hz, shapeCast_self]
  exact Sigmoid.eq _

/-- The blocks written at a grid point. -/
theorem block7 : out0_7 (F := Ideal) x0 x1 x2 x3 x4 x5 x6 (ix2 i j) = gate (dot x0 x1 i j * x4 (ix2 i j)) (x2 (ix2 i j)) := by
  unfold out0_7
  rw [View.canon_unit_zero (S := S2048x256) Mat.hz, pay3, prod, att, gateA, mul_assoc]
  rfl

theorem block8 : out0_8 (F := Ideal) x0 x1 x2 x3 x4 x5 x6 (ix2 i j) =
    gate (dot x0 x1 i j * (x5 (ix2 i j) * Ideal.logistic (x6 (ix2 i j)))) (x3 (ix2 i j)) := by
  unfold out0_8 gate
  rw [View.canon_unit_zero (S := S2048x256) Mat.hz, pay4, prod, val, gateS, gateG]
  simp only [mul_assoc]

theorem block9 : out0_9 (F := Ideal) x0 x1 x2 x3 x4 x5 x6 (ix2 i j) = Ideal.logistic (x2 (ix2 i j)) * dot x0 x1 i j := by
  unfold out0_9
  rw [View.canon_unit_zero (S := S2048x256) Mat.hz, mul_comm, ← prod x0 x1 x2 x3 x4 x5 x6, ← gateA x0 x1 x2 x3 x4 x5 x6]
  rfl

theorem block10 : out0_10 (F := Ideal) x0 x1 x2 x3 x4 x5 x6 (ix2 i j) = Ideal.logistic (x3 (ix2 i j)) * dot x0 x1 i j * Ideal.logistic (x6 (ix2 i j)) := by
  unfold out0_10
  rw [View.canon_unit_zero (S := S2048x256) Mat.hz, pay6, prod, gateS, gateG, mul_comm (dot x0 x1 i j)]

theorem block11 : out0_11 (F := Ideal) x0 x1 x2 x3 x4 x5 x6 (ix2 i j) =
    gate (x5 (ix2 i j) * (Ideal.logistic (x3 (ix2 i j)) * dot x0 x1 i j)) (x6 (ix2 i j)) := by
  unfold out0_11 gate
  rw [View.canon_unit_zero (S := S2048x256) Mat.hz, pay7, prod, val, gateS, gateG, mul_comm (dot x0 x1 i j),
    mul_comm (Ideal.logistic (x3 (ix2 i j)) * dot x0 x1 i j), mul_assoc]

end

variable (m : (ℓ : Loc nD τ sig) → Buf (Elt Ideal) ℓ) (c : Dev nD)

/-- The projected state. -/
abbrev st : S8192x9728.Idx → EReal := m ((c : Thread nD τ).loc main_arg0)
/-- The attention branch. -/
abbrev ab : S8192x2048.Idx → EReal := m ((c : Thread nD τ).loc main_arg1)
/-- The linear unit's value. -/
abbrev gv : S8192x2048.Idx → EReal := m ((c : Thread nD τ).loc main_arg2)
/-- The linear unit's gate. -/
abbrev gg : S8192x2048.Idx → EReal := m ((c : Thread nD τ).loc main_arg3)
/-- The weights. -/
abbrev wo : S2048x2048.Idx → EReal := m ((c : Thread nD τ).loc main_arg4)
/-- The incoming gradient. -/
abbrev dm : S8192x2048.Idx → EReal := m ((c : Thread nD τ).loc main_arg5)

theorem host0 : V m c main_v0 = ab m c := by
  after_reads_simp
  rfl

theorem host1 : V m c main_v1 = gv m c := by
  after_reads_simp
  rfl

theorem host2 : V m c main_v2 = gg m c := by
  after_reads_simp
  rfl

theorem host3 : V m c main_v3 = wo m c := by
  after_reads_simp
  rfl

theorem host4 : V m c main_v4 = dm m c := by
  after_reads_simp
  rfl

/-- The row block of a grid point. -/
def rb (t : Fin cfg0.N) : Fin 4 := ⟨(grid0.coords t 0).val, (grid0.coords t 0).isLt⟩

/-- The column block of a grid point. -/
def cb (t : Fin cfg0.N) : Fin 8 := ⟨(grid0.coords t 1).val, (grid0.coords t 1).isLt⟩

theorem q0 : ∀ t : Fin cfg0.N, win0_0.index t = ![(rb t).val, 0] :=
  (by decide +kernel : ∀ t : Fin grid0.N, win0_0.index t = ![(rb t).val, 0])

theorem q1 : ∀ t : Fin cfg0.N, win0_1.index t = ![(cb t).val, 0] :=
  (by decide +kernel : ∀ t : Fin grid0.N, win0_1.index t = ![(cb t).val, 0])

theorem q2 : ∀ t : Fin cfg0.N, win0_2.index t = ![(rb t).val, 22 + (cb t).val] :=
  (by decide +kernel : ∀ t : Fin grid0.N, win0_2.index t = ![(rb t).val, 22 + (cb t).val])

theorem q3 : ∀ t : Fin cfg0.N, win0_3.index t = ![(rb t).val, 30 + (cb t).val] :=
  (by decide +kernel : ∀ t : Fin grid0.N, win0_3.index t = ![(rb t).val, 30 + (cb t).val])

theorem q4 : ∀ t : Fin cfg0.N, win0_4.index t = ![(rb t).val, (cb t).val] :=
  (by decide +kernel : ∀ t : Fin grid0.N, win0_4.index t = ![(rb t).val, (cb t).val])

theorem q5 : ∀ t : Fin cfg0.N, win0_5.index t = ![(rb t).val, (cb t).val] :=
  (by decide +kernel : ∀ t : Fin grid0.N, win0_5.index t = ![(rb t).val, (cb t).val])

theorem q6 : ∀ t : Fin cfg0.N, win0_6.index t = ![(rb t).val, (cb t).val] :=
  (by decide +kernel : ∀ t : Fin grid0.N, win0_6.index t = ![(rb t).val, (cb t).val])

theorem q7 : ∀ t : Fin cfg0.N, win0_7.index t = ![(rb t).val, 22 + (cb t).val] :=
  (by decide +kernel : ∀ t : Fin grid0.N, win0_7.index t = ![(rb t).val, 22 + (cb t).val])

theorem q8 : ∀ t : Fin cfg0.N, win0_8.index t = ![(rb t).val, (cb t).val] :=
  (by decide +kernel : ∀ t : Fin grid0.N, win0_8.index t = ![(rb t).val, (cb t).val])

theorem q9 : ∀ t : Fin cfg0.N, win0_9.index t = ![(rb t).val, (cb t).val] :=
  (by decide +kernel : ∀ t : Fin grid0.N, win0_9.index t = ![(rb t).val, (cb t).val])

theorem q10 : ∀ t : Fin cfg0.N, win0_10.index t = ![(rb t).val, (cb t).val] :=
  (by decide +kernel : ∀ t : Fin grid0.N, win0_10.index t = ![(rb t).val, (cb t).val])

theorem q11 : ∀ t : Fin cfg0.N, win0_11.index t = ![(rb t).val, (cb t).val] :=
  (by decide +kernel : ∀ t : Fin grid0.N, win0_11.index t = ![(rb t).val, (cb t).val])

/-- Row `i` of row block `a`. -/
def row (a : Fin 4) (i : Fin 2048) : Fin 8192 := ⟨a.val * 2048 + i.val, by omega⟩

/-- Column `j` of column block `b`. -/
def col (b : Fin 8) (j : Fin 256) : Fin 2048 := ⟨b.val * 256 + j.val, by omega⟩

/-- The attention gate's column of the state. -/
def ga (j : Fin 2048) : Fin 9728 := ⟨5632 + j.val, by omega⟩

/-- The linear unit's gate's column of the state. -/
def gs (j : Fin 2048) : Fin 9728 := ⟨7680 + j.val, by omega⟩

theorem b0 (t : Fin cfg0.N) (i : Fin 2048) (k : Fin 2048) : iblk m c 0 t (ix2 i k) = dm m c (ix2 (row (rb t) i) k) := by
  have e : iblk m c 0 t (ix2 i k) = V m c main_v4 (ix2 (row (rb t) i) k) := by
    blk_ext [iblk, q0 t, row]
  rw [e, host4]

theorem b1 (t : Fin cfg0.N) (j : Fin 256) (k : Fin 2048) : iblk m c 1 t (ix2 j k) = wo m c (ix2 (col (cb t) j) k) := by
  have e : iblk m c 1 t (ix2 j k) = V m c main_v3 (ix2 (col (cb t) j) k) := by
    blk_ext [iblk, q1 t, col]
  rw [e, host3]

theorem b2 (t : Fin cfg0.N) (i : Fin 2048) (j : Fin 256) : iblk m c 2 t (ix2 i j) = st m c (ix2 (row (rb t) i) (ga (col (cb t) j))) := by
  have e : iblk m c 2 t (ix2 i j) = V m c main_arg0 (ix2 (row (rb t) i) (ga (col (cb t) j))) := by
    blk_ext [iblk, q2 t, row, col, ga]
  rw [e, V_main_arg0]

theorem b3 (t : Fin cfg0.N) (i : Fin 2048) (j : Fin 256) : iblk m c 3 t (ix2 i j) = st m c (ix2 (row (rb t) i) (gs (col (cb t) j))) := by
  have e : iblk m c 3 t (ix2 i j) = V m c main_arg0 (ix2 (row (rb t) i) (gs (col (cb t) j))) := by
    blk_ext [iblk, q3 t, row, col, gs]
  rw [e, V_main_arg0]

theorem b4 (t : Fin cfg0.N) (i : Fin 2048) (j : Fin 256) : iblk m c 4 t (ix2 i j) = ab m c (ix2 (row (rb t) i) (col (cb t) j)) := by
  have e : iblk m c 4 t (ix2 i j) = V m c main_v0 (ix2 (row (rb t) i) (col (cb t) j)) := by
    blk_ext [iblk, q4 t, row, col]
  rw [e, host0]

theorem b5 (t : Fin cfg0.N) (i : Fin 2048) (j : Fin 256) : iblk m c 5 t (ix2 i j) = gv m c (ix2 (row (rb t) i) (col (cb t) j)) := by
  have e : iblk m c 5 t (ix2 i j) = V m c main_v1 (ix2 (row (rb t) i) (col (cb t) j)) := by
    blk_ext [iblk, q5 t, row, col]
  rw [e, host1]

theorem b6 (t : Fin cfg0.N) (i : Fin 2048) (j : Fin 256) : iblk m c 6 t (ix2 i j) = gg m c (ix2 (row (rb t) i) (col (cb t) j)) := by
  have e : iblk m c 6 t (ix2 i j) = V m c main_v2 (ix2 (row (rb t) i) (col (cb t) j)) := by
    blk_ext [iblk, q6 t, row, col]
  rw [e, host2]

theorem dots (t : Fin cfg0.N) (i : Fin 2048) (j : Fin 256) : dot (iblk m c 0 t) (iblk m c 1 t) i j = dot (dm m c) (wo m c) (row (rb t) i) (col (cb t) j) :=
  Finset.sum_congr rfl fun k _ => congrArg₂ (· * ·) (b0 m c t i k) (b1 m c t j k)

theorem ref35 (w : S2048x2048.Idx → EReal) (d : S8192x2048.Idx → EReal) (i : Fin 8192) (j : Fin 2048) :
    Cert.Reference11Ideal.Read.val_main_v35 (F := Ideal) w d (ix2 i j) = dot d w i j := by
  rw [Cert.Reference11Ideal.Read.val_main_v35_apply]
  have l (k : Fin 2048) : Cert.Reference11Ideal.Read.lidx_main_v35 (ix2 i j) k = ix2 i k := funext fun a => match a with
    | ⟨0, _⟩ => rfl
    | ⟨1, _⟩ => rfl
  have r (k : Fin 2048) : Cert.Reference11Ideal.Read.ridx_main_v35 (ix2 i j) k = ix2 j k := funext fun a => match a with
    | ⟨0, _⟩ => rfl
    | ⟨1, _⟩ => rfl
  simp only [l, r]
  rfl

theorem one9 (i : S8192x2048.Idx) : Cert.Reference11Ideal.Read.val_main_v9 (F := Ideal) i = (1 : EReal) := by
  rw [Cert.Reference11Ideal.Read.val_main_v9_apply]
  exact Ideal.ofBits_one_f32

theorem one19 (i : S8192x2048.Idx) : Cert.Reference11Ideal.Read.val_main_v19 (F := Ideal) i = (1 : EReal) := by
  rw [Cert.Reference11Ideal.Read.val_main_v19_apply]
  exact Ideal.ofBits_one_f32

theorem one28 (i : S8192x2048.Idx) : Cert.Reference11Ideal.Read.val_main_v28 (F := Ideal) i = (1 : EReal) := by
  rw [Cert.Reference11Ideal.Read.val_main_v28_apply]
  exact Ideal.ofBits_one_f32

theorem ref1 (z : S8192x9728.Idx → EReal) (i : Fin 8192) (j : Fin 2048) :
    Cert.Reference11Ideal.Read.val_main_v1 (F := Ideal) z (ix2 i j) = z (ix2 i (ga j)) := by
  rw [Cert.Reference11Ideal.Read.val_main_v1_apply]
  exact congrArg z (funext fun a => match a with
    | ⟨0, _⟩ => rfl
    | ⟨1, _⟩ => rfl)

theorem ref2 (z : S8192x9728.Idx → EReal) (i : Fin 8192) (j : Fin 2048) :
    Cert.Reference11Ideal.Read.val_main_v2 (F := Ideal) z (ix2 i j) = z (ix2 i (gs j)) := by
  rw [Cert.Reference11Ideal.Read.val_main_v2_apply]
  exact congrArg z (funext fun a => match a with
    | ⟨0, _⟩ => rfl
    | ⟨1, _⟩ => rfl)

theorem refA (z : S8192x9728.Idx → EReal) (i : Fin 8192) (j : Fin 2048) :
    Cert.Reference11Ideal.Read.val_main_v8 (F := Ideal) z (ix2 i j) = Ideal.logistic (z (ix2 i (ga j))) := by
  have one : Cert.Reference11Ideal.Read.val_main_v7 (F := Ideal) (ix2 i j) = (1 : EReal) := by
    rw [Cert.Reference11Ideal.Read.val_main_v7_apply]
    exact Ideal.ofBits_one_f32
  have one' : Cert.Reference11Ideal.Read.val_main_v5 (F := Ideal) (ix2 i j) = (1 : EReal) := by
    rw [Cert.Reference11Ideal.Read.val_main_v5_apply]
    exact Ideal.ofBits_one_f32
  rw [Cert.Reference11Ideal.Read.val_main_v8_apply, Cert.Reference11Ideal.Read.val_main_v6_apply, one, one', ← ref1 z i j]
  rfl

theorem refS (z : S8192x9728.Idx → EReal) (i : Fin 8192) (j : Fin 2048) :
    Cert.Reference11Ideal.Read.val_main_v18 (F := Ideal) z (ix2 i j) = Ideal.logistic (z (ix2 i (gs j))) := by
  have one : Cert.Reference11Ideal.Read.val_main_v17 (F := Ideal) (ix2 i j) = (1 : EReal) := by
    rw [Cert.Reference11Ideal.Read.val_main_v17_apply]
    exact Ideal.ofBits_one_f32
  have one' : Cert.Reference11Ideal.Read.val_main_v15 (F := Ideal) (ix2 i j) = (1 : EReal) := by
    rw [Cert.Reference11Ideal.Read.val_main_v15_apply]
    exact Ideal.ofBits_one_f32
  rw [Cert.Reference11Ideal.Read.val_main_v18_apply, Cert.Reference11Ideal.Read.val_main_v16_apply, one, one', ← ref2 z i j]
  rfl

theorem refG (g : S8192x2048.Idx → EReal) (i : Fin 8192) (j : Fin 2048) :
    Cert.Reference11Ideal.Read.val_main_v27 (F := Ideal) g (ix2 i j) = Ideal.logistic (g (ix2 i j)) := by
  have one : Cert.Reference11Ideal.Read.val_main_v26 (F := Ideal) (ix2 i j) = (1 : EReal) := by
    rw [Cert.Reference11Ideal.Read.val_main_v26_apply]
    exact Ideal.ofBits_one_f32
  have one' : Cert.Reference11Ideal.Read.val_main_v24 (F := Ideal) (ix2 i j) = (1 : EReal) := by
    rw [Cert.Reference11Ideal.Read.val_main_v24_apply]
    exact Ideal.ofBits_one_f32
  rw [Cert.Reference11Ideal.Read.val_main_v27_apply, Cert.Reference11Ideal.Read.val_main_v25_apply, one, one']
  rfl

section
variable (z : S8192x9728.Idx → EReal) (a v g : S8192x2048.Idx → EReal) (w : S2048x2048.Idx → EReal) (d : S8192x2048.Idx → EReal) (i : Fin 8192) (j : Fin 2048)

/-- The reference's results at an entry. -/
theorem ref45 : Cert.Reference11Ideal.Read.val_main_v45 (F := Ideal) z a w d (ix2 i j) =
    gate (dot d w i j * a (ix2 i j)) (z (ix2 i (ga j))) := by
  unfold gate
  rw [← refA, ← ref35, ← one9 (ix2 i j)]
  rfl

theorem ref46 : Cert.Reference11Ideal.Read.val_main_v46 (F := Ideal) z v g w d (ix2 i j) =
    gate (dot d w i j * (v (ix2 i j) * Ideal.logistic (g (ix2 i j)))) (z (ix2 i (gs j))) := by
  unfold gate
  rw [← refS, ← refG, ← ref35, ← one19 (ix2 i j)]
  rfl

theorem ref47 : Cert.Reference11Ideal.Read.val_main_v47 (F := Ideal) z w d (ix2 i j) =
    Ideal.logistic (z (ix2 i (ga j))) * dot d w i j := by
  rw [← refA, ← ref35]
  rfl

theorem ref48 : Cert.Reference11Ideal.Read.val_main_v48 (F := Ideal) z g w d (ix2 i j) =
    Ideal.logistic (z (ix2 i (gs j))) * dot d w i j * Ideal.logistic (g (ix2 i j)) := by
  rw [← refS, ← refG, ← ref35]
  rfl

theorem ref49 : Cert.Reference11Ideal.Read.val_main_v49 (F := Ideal) z v g w d (ix2 i j) =
    gate (v (ix2 i j) * (Ideal.logistic (z (ix2 i (gs j))) * dot d w i j)) (g (ix2 i j)) := by
  unfold gate
  rw [← refS, ← refG, ← ref35, ← one28 (ix2 i j)]
  rfl

end

/-- The first array, at the columns that are written: the first result, put at the attention gate's columns. -/
def wide : S8192x9728.Idx → EReal := fun q =>
  Cert.Reference11Ideal.Read.val_main_v45 (F := Ideal) (st m c) (ab m c) (wo m c) (dm m c) (ix2 (q 0) ⟨((q 1).val - 5632) % 2048, Nat.mod_lt _ (by decide)⟩)

theorem wide_ga (i : Fin 8192) (j : Fin 2048) : wide m c (ix2 i (ga j)) = Cert.Reference11Ideal.Read.val_main_v45 (F := Ideal) (st m c) (ab m c) (wo m c) (dm m c) (ix2 i j) := by
  have e : (⟨((ga j).val - 5632) % 2048, Nat.mod_lt _ (by decide)⟩ : Fin 2048) = j := Fin.ext (by
    show (5632 + j.val - 5632) % 2048 = j.val
    omega)
  exact congrArg (fun k => Cert.Reference11Ideal.Read.val_main_v45 (F := Ideal) (st m c) (ab m c) (wo m c) (dm m c) (ix2 i k)) e

/-- What a grid point writes is the reference's result there. -/
theorem point7 (t : Fin cfg0.N) (y : S2048x256.Idx) (j : S8192x9728.Idx) (h0 : (j 0).val = (rb t).val * 2048 + (y 0).val)
    (h1 : (j 1).val = (22 + (cb t).val) * 256 + (y 1).val) :
    out0_7 (iblk m c 0 t) (iblk m c 1 t) (iblk m c 2 t) (iblk m c 3 t) (iblk m c 4 t) (iblk m c 5 t) (iblk m c 6 t) y = wide m c j := by
  obtain ⟨p, q, rfl⟩ := Mat.eta y
  have h1' : (j 1).val = (22 + (cb t).val) * 256 + q.val := h1
  have ej : j = ix2 (row (rb t) p) (ga (col (cb t) q)) := funext fun a => match a with
    | ⟨0, _⟩ => Fin.ext h0
    | ⟨1, _⟩ => Fin.ext (by
        show (j 1).val = 5632 + ((cb t).val * 256 + q.val)
        omega)
  rw [ej, wide_ga, block7, ref45, dots, b2, b4]

theorem point8 (t : Fin cfg0.N) (y : S2048x256.Idx) (j : S8192x2048.Idx) (h0 : (j 0).val = (rb t).val * 2048 + (y 0).val)
    (h1 : (j 1).val = (cb t).val * 256 + (y 1).val) :
    out0_8 (iblk m c 0 t) (iblk m c 1 t) (iblk m c 2 t) (iblk m c 3 t) (iblk m c 4 t) (iblk m c 5 t) (iblk m c 6 t) y = Cert.Reference11Ideal.Read.val_main_v46 (F := Ideal) (st m c) (gv m c) (gg m c) (wo m c) (dm m c) j := by
  obtain ⟨p, q, rfl⟩ := Mat.eta y
  have ej : j = ix2 (row (rb t) p) (col (cb t) q) := funext fun a => match a with
    | ⟨0, _⟩ => Fin.ext h0
    | ⟨1, _⟩ => Fin.ext h1
  rw [ej, block8, ref46, dots, b3, b5, b6]

theorem point9 (t : Fin cfg0.N) (y : S2048x256.Idx) (j : S8192x2048.Idx) (h0 : (j 0).val = (rb t).val * 2048 + (y 0).val)
    (h1 : (j 1).val = (cb t).val * 256 + (y 1).val) :
    out0_9 (iblk m c 0 t) (iblk m c 1 t) (iblk m c 2 t) (iblk m c 3 t) (iblk m c 4 t) (iblk m c 5 t) (iblk m c 6 t) y = Cert.Reference11Ideal.Read.val_main_v47 (F := Ideal) (st m c) (wo m c) (dm m c) j := by
  obtain ⟨p, q, rfl⟩ := Mat.eta y
  have ej : j = ix2 (row (rb t) p) (col (cb t) q) := funext fun a => match a with
    | ⟨0, _⟩ => Fin.ext h0
    | ⟨1, _⟩ => Fin.ext h1
  rw [ej, block9, ref47, dots, b2]

theorem point10 (t : Fin cfg0.N) (y : S2048x256.Idx) (j : S8192x2048.Idx) (h0 : (j 0).val = (rb t).val * 2048 + (y 0).val)
    (h1 : (j 1).val = (cb t).val * 256 + (y 1).val) :
    out0_10 (iblk m c 0 t) (iblk m c 1 t) (iblk m c 2 t) (iblk m c 3 t) (iblk m c 4 t) (iblk m c 5 t) (iblk m c 6 t) y = Cert.Reference11Ideal.Read.val_main_v48 (F := Ideal) (st m c) (gg m c) (wo m c) (dm m c) j := by
  obtain ⟨p, q, rfl⟩ := Mat.eta y
  have ej : j = ix2 (row (rb t) p) (col (cb t) q) := funext fun a => match a with
    | ⟨0, _⟩ => Fin.ext h0
    | ⟨1, _⟩ => Fin.ext h1
  rw [ej, block10, ref48, dots, b3, b6]

theorem point11 (t : Fin cfg0.N) (y : S2048x256.Idx) (j : S8192x2048.Idx) (h0 : (j 0).val = (rb t).val * 2048 + (y 0).val)
    (h1 : (j 1).val = (cb t).val * 256 + (y 1).val) :
    out0_11 (iblk m c 0 t) (iblk m c 1 t) (iblk m c 2 t) (iblk m c 3 t) (iblk m c 4 t) (iblk m c 5 t) (iblk m c 6 t) y = Cert.Reference11Ideal.Read.val_main_v49 (F := Ideal) (st m c) (gv m c) (gg m c) (wo m c) (dm m c) j := by
  obtain ⟨p, q, rfl⟩ := Mat.eta y
  have ej : j = ix2 (row (rb t) p) (col (cb t) q) := funext fun a => match a with
    | ⟨0, _⟩ => Fin.ext h0
    | ⟨1, _⟩ => Fin.ext h1
  rw [ej, block11, ref49, dots, b3, b5, b6]

/-- The final arrays: of the first only a band of columns is written. -/
theorem final7 (i : Fin 8192) (j : Fin 2048) : (dats m 0 c).arrAt 7 cfg0.N (ix2 i (ga j)) = Cert.Reference11Ideal.Read.val_main_v45 (F := Ideal) (st m c) (ab m c) (wo m c) (dm m c) (ix2 i j) := by
  have e := (dats m 0 c).arrAt_apply_of_coversWhere 7 (wide m c) (P := fun q : S8192x9728.Idx => 22 ≤ (q 1).val / 256 ∧ (q 1).val / 256 < 30)
    (fun β => 22 ≤ β (1 : Fin _) ∧ β (1 : Fin _) < 30) (by decide +kernel) (fun t hf y => by
      blk_simp
      rw [after0_7]
      refine point7 m c t y _ ?_ ?_
      · blk_simp [q7 t]
      · blk_simp [q7 t]) (fun q => Iff.rfl) (ix2 i (ga j))
  have h : 22 ≤ (5632 + j.val) / 256 ∧ (5632 + j.val) / 256 < 30 := by omega
  exact e.trans ((if_pos h).trans (wide_ga m c i j))

theorem final8 : (dats m 0 c).arrAt 8 cfg0.N = Cert.Reference11Ideal.Read.val_main_v46 (F := Ideal) (st m c) (gv m c) (gg m c) (wo m c) (dm m c) := by
  refine (dats m 0 c).arrAt_eq_of_covers 8 _ (by decide +kernel) fun t hf y => ?_
  blk_simp
  rw [after0_8]
  refine point8 m c t y _ ?_ ?_
  · blk_simp [q8 t]
  · blk_simp [q8 t]

theorem final9 : (dats m 0 c).arrAt 9 cfg0.N = Cert.Reference11Ideal.Read.val_main_v47 (F := Ideal) (st m c) (wo m c) (dm m c) := by
  refine (dats m 0 c).arrAt_eq_of_covers 9 _ (by decide +kernel) fun t hf y => ?_
  blk_simp
  rw [after0_9]
  refine point9 m c t y _ ?_ ?_
  · blk_simp [q9 t]
  · blk_simp [q9 t]

theorem final10 : (dats m 0 c).arrAt 10 cfg0.N = Cert.Reference11Ideal.Read.val_main_v48 (F := Ideal) (st m c) (gg m c) (wo m c) (dm m c) := by
  refine (dats m 0 c).arrAt_eq_of_covers 10 _ (by decide +kernel) fun t hf y => ?_
  blk_simp
  rw [after0_10]
  refine point10 m c t y _ ?_ ?_
  · blk_simp [q10 t]
  · blk_simp [q10 t]

theorem final11 : (dats m 0 c).arrAt 11 cfg0.N = Cert.Reference11Ideal.Read.val_main_v49 (F := Ideal) (st m c) (gv m c) (gg m c) (wo m c) (dm m c) := by
  refine (dats m 0 c).arrAt_eq_of_covers 11 _ (by decide +kernel) fun t hf y => ?_
  blk_simp
  rw [after0_11]
  refine point11 m c t y _ ?_ ?_
  · blk_simp [q11 t]
  · blk_simp [q11 t]

/-- After the call, the written band of the first array is taken out. -/
theorem tail : Pipeline.afterTail₀ cfgs (dats m) 0 (V0 m) [hostOps1] c main_v6 = Cert.Reference11Ideal.Read.val_main_v45 (F := Ideal) (st m c) (ab m c) (wo m c) (dm m c) := by
  have e : Pipeline.withArrays spec0 c (V0 m c) (fun w => (dats m 0 c).arrAt w cfg0.N) (Proc.devRef .tc main_v5_0) = (dats m 0 c).arrAt 7 cfg0.N :=
    (dats m 0 c).withArrays_arrAt sharedIn0 (V0 m c) (A_eq m c) 7
  have h : Pipeline.afterTail₀ cfgs (dats m) 0 (V0 m) [hostOps1] c main_v6 =
      extractStridedSlice S8192x2048 ![0, 5632] (Pipeline.withArrays spec0 c (V0 m c) (fun w => (dats m 0 c).arrAt w cfg0.N) (Proc.devRef .tc main_v5_0))
        slices_S8192x9728_S8192x2048_0_5632 := by
    show StableHlo.after hostOps1 _ (Proc.devRef .tc main_v6) = _
    after_reads_simp
  rw [h, e]
  funext y
  obtain ⟨i, j, rfl⟩ := Mat.eta y
  refine Eq.trans ?_ (final7 m c i j)
  exact congrArg ((dats m 0 c).arrAt 7 cfg0.N) (funext fun a => match a with
    | ⟨0, _⟩ => Fin.ext (Nat.zero_add _)
    | ⟨1, _⟩ => rfl)

theorem frameP : Cert.quiescent_Kernel11 := fun m ρ _ => Cert.Kernel11.Gen.frame m ρ

theorem framePI : Cert.quiescent_Kernel11Ideal := fun m ρ _ => Cert.Kernel11Ideal.Gen.frame m ρ

theorem frameRI : Cert.quiescent_Reference11Ideal := fun m ρ _ =>
  (θ_run Cert.Reference11Ideal.defs _ _).mono (fun r h => ⟨fun c => (h c).2.2.2.2.2, sem_eq_zero_of_no_sems (by decide) r.2⟩)
    (Cert.Reference11Ideal.Value.run m ρ)

theorem equal : Cert.algebraic_Kernel11Ideal_Reference11Ideal := by
  intro m ρ m' ρ' _ hag
  refine ⟨fun c => Cert.Reference11Ideal.Read.val_main_v45 (F := Ideal) (st m c) (ab m c) (wo m c) (dm m c),
    fun c => Cert.Reference11Ideal.Read.val_main_v46 (F := Ideal) (st m c) (gv m c) (gg m c) (wo m c) (dm m c),
    fun c => Cert.Reference11Ideal.Read.val_main_v47 (F := Ideal) (st m c) (wo m c) (dm m c),
    fun c => Cert.Reference11Ideal.Read.val_main_v48 (F := Ideal) (st m c) (gg m c) (wo m c) (dm m c),
    fun c => Cert.Reference11Ideal.Read.val_main_v49 (F := Ideal) (st m c) (gv m c) (gg m c) (wo m c) (dm m c), ?_, ?_⟩
  · exact (θ_run Cert.Kernel11Ideal.defs _ _).mono
      (fun r h c => ⟨((h.1 c).2 main_v6 (Pipeline.mem_restRefs_of main_v6 (by decide) (by decide))).trans (tail m c), ((h.1 c).1 8).trans (final8 m c),
        ((h.1 c).1 9).trans (final9 m c), ((h.1 c).1 10).trans (final10 m c), ((h.1 c).1 11).trans (final11 m c), h.2 c⟩)
      (θ_run_and (run_main m ρ) (Cert.Kernel11Ideal.Gen.unchanged m ρ))
  · refine (θ_run Cert.Reference11Ideal.defs _ _).mono (fun r h c => ⟨?_, ?_, ?_, ?_, ?_, (h c).2.2.2.2.2⟩) (Cert.Reference11Ideal.Value.run m' ρ')
    · have e := hag c
      refine ((h c).1.trans (Cert.Reference11Ideal.Read.val_main_v45_eq (F := Ideal) _ _ _ _)).trans ?_
      exact congr (congr (congr (congrArg (Cert.Reference11Ideal.Read.val_main_v45 (F := Ideal)) e.1) e.2.1) e.2.2.2.2.1) e.2.2.2.2.2
    · have e := hag c
      refine ((h c).2.1.trans (Cert.Reference11Ideal.Read.val_main_v46_eq (F := Ideal) _ _ _ _ _)).trans ?_
      exact congr (congr (congr (congr (congrArg (Cert.Reference11Ideal.Read.val_main_v46 (F := Ideal)) e.1) e.2.2.1) e.2.2.2.1) e.2.2.2.2.1) e.2.2.2.2.2
    · have e := hag c
      refine ((h c).2.2.1.trans (Cert.Reference11Ideal.Read.val_main_v47_eq (F := Ideal) _ _ _)).trans ?_
      exact congr (congr (congrArg (Cert.Reference11Ideal.Read.val_main_v47 (F := Ideal)) e.1) e.2.2.2.2.1) e.2.2.2.2.2
    · have e := hag c
      refine ((h c).2.2.2.1.trans (Cert.Reference11Ideal.Read.val_main_v48_eq (F := Ideal) _ _ _ _)).trans ?_
      exact congr (congr (congr (congrArg (Cert.Reference11Ideal.Read.val_main_v48 (F := Ideal)) e.1) e.2.2.2.1) e.2.2.2.2.1) e.2.2.2.2.2
    · have e := hag c
      refine ((h c).2.2.2.2.1.trans (Cert.Reference11Ideal.Read.val_main_v49_eq (F := Ideal) _ _ _ _ _)).trans ?_
      exact congr (congr (congr (congr (congrArg (Cert.Reference11Ideal.Read.val_main_v49 (F := Ideal)) e.1) e.2.2.1) e.2.2.2.1) e.2.2.2.2.1) e.2.2.2.2.2

end Cert.DGates
-- ==== Proof.Merge.lean ====
module

public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Mat
public import proofs.«01_k».proof.Proof.Sigmoid
public import proofs.«01_k».proof.Defs
public import Idealize.ShloMosaic.Lib.Quiescent
public import Idealize.ShloMosaic.Lib.StableHlo.ReadAt
public import Idealize.ShloMosaic.Lib.StableHlo.RunRead

@[expose] public section

/-! The merge of the two branches: three products, and the gated sum of the attention branch and the linear unit. -/

set_option maxRecDepth 16384
noncomputable section

namespace Cert.Merge
open Cert.Kernel12Ideal Cert.Kernel12Ideal.Gen Idealize.ShloMosaic Idealize.ShloMosaic.TcCoe Idealize.SL.Sem
open Idealize.ShloMosaic.Pipeline (Dat)
open scoped BigOperators

/-- The two branches, gated and added: gates `p`, `q`, the attention branch `a`, the linear unit's value `v` and gate `g`. -/
def blend (p q a v g : EReal) : EReal := Ideal.logistic p * a + Ideal.logistic q * (v * Ideal.logistic g)

/-- Rows against columns. -/
def dot {R K C : ℕ} (x : (⟨2, ![R, K]⟩ : Shape).Idx → EReal) (w : (⟨2, ![K, C]⟩ : Shape).Idx → EReal) (i : Fin R) (j : Fin C) : EReal :=
  ∑ k : Fin K, x (ix2 i k) * w (ix2 k j)

theorem prodA (x : Vec Ideal S2048x512 .bf16) (w : Vec Ideal S512x256 .bf16) (i : Fin 2048) (j : Fin 256) :
    k0_pay5 (F := Ideal) (View.ld x r0_0) (View.ld w r0_1) (ix2 i j) = dot x w i j := by
  have hd : dot_S2048x512_S512x256_S2048x256_1_0_0_1_n_n = DotDims.plain 2048 512 256 := rfl
  unfold k0_pay5
  simp only [View.ld_unit_zero (S := S2048x512) Mat.hz, View.ld_unit_zero (S := S512x256) Mat.hz, shapeCast_self, hd]
  exact Mat.nn _ _ i j

theorem prodY (x : Vec Ideal S2048x1024 .bf16) (w : Vec Ideal S1024x256 .bf16) (i : Fin 2048) (j : Fin 256) :
    k0_pay6 (F := Ideal) (View.ld x r0_2) (View.ld w r0_3) (ix2 i j) = dot x w i j := by
  have hd : dot_S2048x1024_S1024x256_S2048x256_1_0_0_1_n_n = DotDims.plain 2048 1024 256 := rfl
  unfold k0_pay6
  simp only [View.ld_unit_zero (S := S2048x1024) Mat.hz, View.ld_unit_zero (S := S1024x256) Mat.hz, shapeCast_self, hd]
  exact Mat.nn _ _ i j

/-- A gate times a branch. -/
theorem gateA (x : Vec Ideal S2048x512 .bf16) (w : Vec Ideal S512x256 .bf16) (z : Vec Ideal S2048x256 .f32) (i : Fin 2048) (j : Fin 256) :
    k0_pay8 (F := Ideal) (View.ld x r0_0) (View.ld w r0_1) z (ix2 i j) = Ideal.logistic (z (ix2 i j)) * dot x w i j := by
  rw [← prodA, ← Sigmoid.eq]
  rfl

theorem gateY (x : Vec Ideal S2048x1024 .bf16) (w : Vec Ideal S1024x256 .bf16) (z : Vec Ideal S2048x256 .f32) (i : Fin 2048) (j : Fin 256) :
    k0_pay9 (F := Ideal) (View.ld x r0_2) (View.ld w r0_3) z (ix2 i j) = Ideal.logistic (z (ix2 i j)) * dot x w i j := by
  rw [← prodY, ← Sigmoid.eq]
  rfl

theorem sum (g a v : FVec Ideal S2048x256 .f32) (i : S2048x256.Idx) :
    k0_pay1 (F := Ideal) g a v i = a i + v i * Ideal.logistic (g i) :=
  congrArg (a i + v i * ·) (Sigmoid.eq (g i))

section
variable (x0 : Vec Ideal S2048x512 .bf16) (x1 : Vec Ideal S2048x1024 .bf16) (x2 : Vec Ideal S512x256 .bf16) (x3 x4 : Vec Ideal S1024x256 .bf16)
  (x5 x6 : Vec Ideal S2048x256 .f32) (i : Fin 2048) (j : Fin 256)

/-- The blocks written at a grid point. -/
theorem block7 : out0_7 (F := Ideal) x0 x1 x2 x3 x4 x5 x6 (ix2 i j) = blend (x5 (ix2 i j)) (x6 (ix2 i j)) (dot x0 x2 i j) (dot x1 x3 i j) (dot x1 x4 i j) := by
  unfold out0_7
  rw [View.canon_unit_zero (S := S2048x256) Mat.hz, sum, View.ld_unit_zero (S := S2048x256) Mat.hz, View.ld_unit_zero (S := S2048x256) Mat.hz, gateA, gateY, mul_assoc]
  exact congrArg (fun e => Ideal.logistic (x5 (ix2 i j)) * dot x0 x2 i j + Ideal.logistic (x6 (ix2 i j)) * (dot x1 x3 i j * Ideal.logistic e)) (prodY x1 x4 i j)

theorem block8 : out0_8 (F := Ideal) x0 x1 x2 x3 x4 x5 x6 (ix2 i j) = dot x0 x2 i j := by
  unfold out0_8
  rw [View.canon_unit_zero (S := S2048x256) Mat.hz]
  exact prodA x0 x2 i j

theorem block9 : out0_9 (F := Ideal) x0 x1 x2 x3 x4 x5 x6 (ix2 i j) = dot x1 x3 i j := by
  unfold out0_9
  rw [View.canon_unit_zero (S := S2048x256) Mat.hz]
  exact prodY x1 x3 i j

theorem block10 : out0_10 (F := Ideal) x0 x1 x2 x3 x4 x5 x6 (ix2 i j) = dot x1 x4 i j := by
  unfold out0_10
  rw [View.canon_unit_zero (S := S2048x256) Mat.hz]
  exact prodY x1 x4 i j

end

variable (m : (ℓ : Loc nD τ sig) → Buf (Elt Ideal) ℓ) (c : Dev nD)

/-- The projected state. -/
abbrev st : S8192x9728.Idx → EReal := m ((c : Thread nD τ).loc main_arg0)
/-- The attention rows. -/
abbrev att : S8192x512.Idx → EReal := m ((c : Thread nD τ).loc main_arg1)
/-- The linear unit's rows. -/
abbrev ys : S8192x1024.Idx → EReal := m ((c : Thread nD τ).loc main_arg2)
/-- The attention branch's weights. -/
abbrev wa : S512x2048.Idx → EReal := m ((c : Thread nD τ).loc main_arg3)
/-- The linear unit's weights. -/
abbrev wv : S1024x2048.Idx → EReal := m ((c : Thread nD τ).loc main_arg4)
/-- The linear unit's gate weights. -/
abbrev wg : S1024x2048.Idx → EReal := m ((c : Thread nD τ).loc main_arg5)

theorem V0 : V m c main_v0 = att m c := by
  after_reads_simp
  rfl

theorem V1 : V m c main_v1 = ys m c := by
  after_reads_simp
  rfl

theorem V2 : V m c main_v2 = wa m c := by
  after_reads_simp
  rfl

theorem V3 : V m c main_v3 = wv m c := by
  after_reads_simp
  rfl

theorem V4 : V m c main_v4 = wg m c := by
  after_reads_simp
  rfl

/-- The row block of a grid point. -/
def rb (t : Fin cfg0.N) : Fin 4 := ⟨(grid0.coords t 0).val, (grid0.coords t 0).isLt⟩

/-- The column block of a grid point. -/
def cb (t : Fin cfg0.N) : Fin 8 := ⟨(grid0.coords t 1).val, (grid0.coords t 1).isLt⟩

theorem q0 : ∀ t : Fin cfg0.N, win0_0.index t = ![(rb t).val, 0] :=
  (by decide +kernel : ∀ t : Fin grid0.N, win0_0.index t = ![(rb t).val, 0])

theorem q1 : ∀ t : Fin cfg0.N, win0_1.index t = ![(rb t).val, 0] :=
  (by decide +kernel : ∀ t : Fin grid0.N, win0_1.index t = ![(rb t).val, 0])

theorem q2 : ∀ t : Fin cfg0.N, win0_2.index t = ![0, (cb t).val] :=
  (by decide +kernel : ∀ t : Fin grid0.N, win0_2.index t = ![0, (cb t).val])

theorem q3 : ∀ t : Fin cfg0.N, win0_3.index t = ![0, (cb t).val] :=
  (by decide +kernel : ∀ t : Fin grid0.N, win0_3.index t = ![0, (cb t).val])

theorem q4 : ∀ t : Fin cfg0.N, win0_4.index t = ![0, (cb t).val] :=
  (by decide +kernel : ∀ t : Fin grid0.N, win0_4.index t = ![0, (cb t).val])

theorem q5 : ∀ t : Fin cfg0.N, win0_5.index t = ![(rb t).val, 22 + (cb t).val] :=
  (by decide +kernel : ∀ t : Fin grid0.N, win0_5.index t = ![(rb t).val, 22 + (cb t).val])

theorem q6 : ∀ t : Fin cfg0.N, win0_6.index t = ![(rb t).val, 30 + (cb t).val] :=
  (by decide +kernel : ∀ t : Fin grid0.N, win0_6.index t = ![(rb t).val, 30 + (cb t).val])

theorem q7 : ∀ t : Fin cfg0.N, win0_7.index t = ![(rb t).val, (cb t).val] :=
  (by decide +kernel : ∀ t : Fin grid0.N, win0_7.index t = ![(rb t).val, (cb t).val])

theorem q8 : ∀ t : Fin cfg0.N, win0_8.index t = ![(rb t).val, (cb t).val] :=
  (by decide +kernel : ∀ t : Fin grid0.N, win0_8.index t = ![(rb t).val, (cb t).val])

theorem q9 : ∀ t : Fin cfg0.N, win0_9.index t = ![(rb t).val, (cb t).val] :=
  (by decide +kernel : ∀ t : Fin grid0.N, win0_9.index t = ![(rb t).val, (cb t).val])

theorem q10 : ∀ t : Fin cfg0.N, win0_10.index t = ![(rb t).val, (cb t).val] :=
  (by decide +kernel : ∀ t : Fin grid0.N, win0_10.index t = ![(rb t).val, (cb t).val])

/-- Row `i` of row block `a`. -/
def row (a : Fin 4) (i : Fin 2048) : Fin 8192 := ⟨a.val * 2048 + i.val, by omega⟩

/-- Column `j` of column block `b`. -/
def col (b : Fin 8) (j : Fin 256) : Fin 2048 := ⟨b.val * 256 + j.val, by omega⟩

/-- The attention gate's column of the state. -/
def ga (j : Fin 2048) : Fin 9728 := ⟨5632 + j.val, by omega⟩

/-- The linear unit's gate's column of the state. -/
def gs (j : Fin 2048) : Fin 9728 := ⟨7680 + j.val, by omega⟩

theorem x0 (t : Fin cfg0.N) (i : Fin 2048) (k : Fin 512) : iblk m c 0 t (ix2 i k) = att m c (ix2 (row (rb t) i) k) := by
  have e : iblk m c 0 t (ix2 i k) = V m c main_v0 (ix2 (row (rb t) i) k) := by
    blk_ext [iblk, q0 t, row]
  rw [e, V0]

theorem x1 (t : Fin cfg0.N) (i : Fin 2048) (k : Fin 1024) : iblk m c 1 t (ix2 i k) = ys m c (ix2 (row (rb t) i) k) := by
  have e : iblk m c 1 t (ix2 i k) = V m c main_v1 (ix2 (row (rb t) i) k) := by
    blk_ext [iblk, q1 t, row]
  rw [e, V1]

theorem x2 (t : Fin cfg0.N) (k : Fin 512) (j : Fin 256) : iblk m c 2 t (ix2 k j) = wa m c (ix2 k (col (cb t) j)) := by
  have e : iblk m c 2 t (ix2 k j) = V m c main_v2 (ix2 k (col (cb t) j)) := by
    blk_ext [iblk, q2 t, col]
  rw [e, V2]

theorem x3 (t : Fin cfg0.N) (k : Fin 1024) (j : Fin 256) : iblk m c 3 t (ix2 k j) = wv m c (ix2 k (col (cb t) j)) := by
  have e : iblk m c 3 t (ix2 k j) = V m c main_v3 (ix2 k (col (cb t) j)) := by
    blk_ext [iblk, q3 t, col]
  rw [e, V3]

theorem x4 (t : Fin cfg0.N) (k : Fin 1024) (j : Fin 256) : iblk m c 4 t (ix2 k j) = wg m c (ix2 k (col (cb t) j)) := by
  have e : iblk m c 4 t (ix2 k j) = V m c main_v4 (ix2 k (col (cb t) j)) := by
    blk_ext [iblk, q4 t, col]
  rw [e, V4]

theorem x5 (t : Fin cfg0.N) (i : Fin 2048) (j : Fin 256) : iblk m c 5 t (ix2 i j) = st m c (ix2 (row (rb t) i) (ga (col (cb t) j))) := by
  have e : iblk m c 5 t (ix2 i j) = V m c main_arg0 (ix2 (row (rb t) i) (ga (col (cb t) j))) := by
    blk_ext [iblk, q5 t, row, col, ga]
  rw [e, V_main_arg0]

theorem x6 (t : Fin cfg0.N) (i : Fin 2048) (j : Fin 256) : iblk m c 6 t (ix2 i j) = st m c (ix2 (row (rb t) i) (gs (col (cb t) j))) := by
  have e : iblk m c 6 t (ix2 i j) = V m c main_arg0 (ix2 (row (rb t) i) (gs (col (cb t) j))) := by
    blk_ext [iblk, q6 t, row, col, gs]
  rw [e, V_main_arg0]

theorem dotA (t : Fin cfg0.N) (i : Fin 2048) (j : Fin 256) : dot (iblk m c 0 t) (iblk m c 2 t) i j = dot (att m c) (wa m c) (row (rb t) i) (col (cb t) j) :=
  Finset.sum_congr rfl fun k _ => congrArg₂ (· * ·) (x0 m c t i k) (x2 m c t k j)

theorem dotV (t : Fin cfg0.N) (i : Fin 2048) (j : Fin 256) : dot (iblk m c 1 t) (iblk m c 3 t) i j = dot (ys m c) (wv m c) (row (rb t) i) (col (cb t) j) :=
  Finset.sum_congr rfl fun k _ => congrArg₂ (· * ·) (x1 m c t i k) (x3 m c t k j)

theorem dotG (t : Fin cfg0.N) (i : Fin 2048) (j : Fin 256) : dot (iblk m c 1 t) (iblk m c 4 t) i j = dot (ys m c) (wg m c) (row (rb t) i) (col (cb t) j) :=
  Finset.sum_congr rfl fun k _ => congrArg₂ (· * ·) (x1 m c t i k) (x4 m c t k j)

theorem ref3 (h : S8192x512.Idx → EReal) (w : S512x2048.Idx → EReal) (i : Fin 8192) (j : Fin 2048) :
    Cert.Reference12Ideal.Read.val_main_v3 (F := Ideal) h w (ix2 i j) = dot h w i j := by
  rw [Cert.Reference12Ideal.Read.val_main_v3_apply]
  have l (k : Fin 512) : Cert.Reference12Ideal.Read.lidx_main_v3 (ix2 i j) k = ix2 i k := funext fun a => match a with
    | ⟨0, _⟩ => rfl
    | ⟨1, _⟩ => rfl
  have r (k : Fin 512) : Cert.Reference12Ideal.Read.ridx_main_v3 (ix2 i j) k = ix2 k j := funext fun a => match a with
    | ⟨0, _⟩ => rfl
    | ⟨1, _⟩ => rfl
  simp only [l, r]
  rfl

theorem ref4 (h : S8192x1024.Idx → EReal) (w : S1024x2048.Idx → EReal) (i : Fin 8192) (j : Fin 2048) :
    Cert.Reference12Ideal.Read.val_main_v4 (F := Ideal) h w (ix2 i j) = dot h w i j := by
  rw [Cert.Reference12Ideal.Read.val_main_v4_apply]
  have l (k : Fin 1024) : Cert.Reference12Ideal.Read.lidx_main_v4 (ix2 i j) k = ix2 i k := funext fun a => match a with
    | ⟨0, _⟩ => rfl
    | ⟨1, _⟩ => rfl
  have r (k : Fin 1024) : Cert.Reference12Ideal.Read.ridx_main_v4 (ix2 i j) k = ix2 k j := funext fun a => match a with
    | ⟨0, _⟩ => rfl
    | ⟨1, _⟩ => rfl
  simp only [l, r]
  rfl

theorem ref5 (h : S8192x1024.Idx → EReal) (w : S1024x2048.Idx → EReal) (i : Fin 8192) (j : Fin 2048) :
    Cert.Reference12Ideal.Read.val_main_v5 (F := Ideal) h w (ix2 i j) = dot h w i j := by
  rw [Cert.Reference12Ideal.Read.val_main_v5_apply]
  have l (k : Fin 1024) : Cert.Reference12Ideal.Read.lidx_main_v5 (ix2 i j) k = ix2 i k := funext fun a => match a with
    | ⟨0, _⟩ => rfl
    | ⟨1, _⟩ => rfl
  have r (k : Fin 1024) : Cert.Reference12Ideal.Read.ridx_main_v5 (ix2 i j) k = ix2 k j := funext fun a => match a with
    | ⟨0, _⟩ => rfl
    | ⟨1, _⟩ => rfl
  simp only [l, r]
  rfl

theorem ref1 (z : S8192x9728.Idx → EReal) (i : Fin 8192) (j : Fin 2048) :
    Cert.Reference12Ideal.Read.val_main_v1 (F := Ideal) z (ix2 i j) = z (ix2 i (ga j)) := by
  rw [Cert.Reference12Ideal.Read.val_main_v1_apply]
  exact congrArg z (funext fun a => match a with
    | ⟨0, _⟩ => rfl
    | ⟨1, _⟩ => rfl)

theorem ref2 (z : S8192x9728.Idx → EReal) (i : Fin 8192) (j : Fin 2048) :
    Cert.Reference12Ideal.Read.val_main_v2 (F := Ideal) z (ix2 i j) = z (ix2 i (gs j)) := by
  rw [Cert.Reference12Ideal.Read.val_main_v2_apply]
  exact congrArg z (funext fun a => match a with
    | ⟨0, _⟩ => rfl
    | ⟨1, _⟩ => rfl)

theorem refA (z : S8192x9728.Idx → EReal) (i : Fin 8192) (j : Fin 2048) :
    Cert.Reference12Ideal.Read.val_main_v11 (F := Ideal) z (ix2 i j) = Ideal.logistic (z (ix2 i (ga j))) := by
  have one : Cert.Reference12Ideal.Read.val_main_v10 (F := Ideal) (ix2 i j) = (1 : EReal) := by
    rw [Cert.Reference12Ideal.Read.val_main_v10_apply]
    exact Ideal.ofBits_one_f32
  have one' : Cert.Reference12Ideal.Read.val_main_v8 (F := Ideal) (ix2 i j) = (1 : EReal) := by
    rw [Cert.Reference12Ideal.Read.val_main_v8_apply]
    exact Ideal.ofBits_one_f32
  rw [Cert.Reference12Ideal.Read.val_main_v11_apply, Cert.Reference12Ideal.Read.val_main_v9_apply, one, one', ← ref1 z i j]
  rfl

theorem refS (z : S8192x9728.Idx → EReal) (i : Fin 8192) (j : Fin 2048) :
    Cert.Reference12Ideal.Read.val_main_v18 (F := Ideal) z (ix2 i j) = Ideal.logistic (z (ix2 i (gs j))) := by
  have one : Cert.Reference12Ideal.Read.val_main_v17 (F := Ideal) (ix2 i j) = (1 : EReal) := by
    rw [Cert.Reference12Ideal.Read.val_main_v17_apply]
    exact Ideal.ofBits_one_f32
  have one' : Cert.Reference12Ideal.Read.val_main_v15 (F := Ideal) (ix2 i j) = (1 : EReal) := by
    rw [Cert.Reference12Ideal.Read.val_main_v15_apply]
    exact Ideal.ofBits_one_f32
  rw [Cert.Reference12Ideal.Read.val_main_v18_apply, Cert.Reference12Ideal.Read.val_main_v16_apply, one, one', ← ref2 z i j]
  rfl

theorem refG (y : S8192x1024.Idx → EReal) (w : S1024x2048.Idx → EReal) (i : Fin 8192) (j : Fin 2048) :
    Cert.Reference12Ideal.Read.val_main_v24 (F := Ideal) y w (ix2 i j) = Ideal.logistic (dot y w i j) := by
  have one : Cert.Reference12Ideal.Read.val_main_v23 (F := Ideal) (ix2 i j) = (1 : EReal) := by
    rw [Cert.Reference12Ideal.Read.val_main_v23_apply]
    exact Ideal.ofBits_one_f32
  have one' : Cert.Reference12Ideal.Read.val_main_v21 (F := Ideal) (ix2 i j) = (1 : EReal) := by
    rw [Cert.Reference12Ideal.Read.val_main_v21_apply]
    exact Ideal.ofBits_one_f32
  rw [Cert.Reference12Ideal.Read.val_main_v24_apply, Cert.Reference12Ideal.Read.val_main_v22_apply, one, one', ← ref5 y w i j]
  rfl

/-- The reference's first result at an entry. -/
theorem ref28 (z : S8192x9728.Idx → EReal) (h : S8192x512.Idx → EReal) (y : S8192x1024.Idx → EReal) (w3 : S512x2048.Idx → EReal) (w4 w5 : S1024x2048.Idx → EReal)
    (i : Fin 8192) (j : Fin 2048) :
    Cert.Reference12Ideal.Read.val_main_v28 (F := Ideal) z h y w3 w4 w5 (ix2 i j) =
      blend (z (ix2 i (ga j))) (z (ix2 i (gs j))) (dot h w3 i j) (dot y w4 i j) (dot y w5 i j) := by
  unfold blend
  rw [← refA, ← refS, ← refG, ← ref3, ← ref4]
  rfl

/-- What a grid point writes is the reference's result there. -/
theorem point7 (t : Fin cfg0.N) (y : S2048x256.Idx) (j : S8192x2048.Idx) (h0 : (j 0).val = (rb t).val * 2048 + (y 0).val)
    (h1 : (j 1).val = (cb t).val * 256 + (y 1).val) :
    out0_7 (iblk m c 0 t) (iblk m c 1 t) (iblk m c 2 t) (iblk m c 3 t) (iblk m c 4 t) (iblk m c 5 t) (iblk m c 6 t) y =
      Cert.Reference12Ideal.Read.val_main_v28 (F := Ideal) (st m c) (att m c) (ys m c) (wa m c) (wv m c) (wg m c) j := by
  obtain ⟨p, q, rfl⟩ := Mat.eta y
  have ej : j = ix2 (row (rb t) p) (col (cb t) q) := funext fun a => match a with
    | ⟨0, _⟩ => Fin.ext h0
    | ⟨1, _⟩ => Fin.ext h1
  rw [ej, block7, ref28, dotA, dotV, dotG, x5, x6]

theorem point8 (t : Fin cfg0.N) (y : S2048x256.Idx) (j : S8192x2048.Idx) (h0 : (j 0).val = (rb t).val * 2048 + (y 0).val)
    (h1 : (j 1).val = (cb t).val * 256 + (y 1).val) :
    out0_8 (iblk m c 0 t) (iblk m c 1 t) (iblk m c 2 t) (iblk m c 3 t) (iblk m c 4 t) (iblk m c 5 t) (iblk m c 6 t) y =
      Cert.Reference12Ideal.Read.val_main_v29 (F := Ideal) (att m c) (wa m c) j := by
  obtain ⟨p, q, rfl⟩ := Mat.eta y
  have ej : j = ix2 (row (rb t) p) (col (cb t) q) := funext fun a => match a with
    | ⟨0, _⟩ => Fin.ext h0
    | ⟨1, _⟩ => Fin.ext h1
  rw [ej, block8, dotA]
  exact (ref3 _ _ _ _).symm

theorem point9 (t : Fin cfg0.N) (y : S2048x256.Idx) (j : S8192x2048.Idx) (h0 : (j 0).val = (rb t).val * 2048 + (y 0).val)
    (h1 : (j 1).val = (cb t).val * 256 + (y 1).val) :
    out0_9 (iblk m c 0 t) (iblk m c 1 t) (iblk m c 2 t) (iblk m c 3 t) (iblk m c 4 t) (iblk m c 5 t) (iblk m c 6 t) y =
      Cert.Reference12Ideal.Read.val_main_v30 (F := Ideal) (ys m c) (wv m c) j := by
  obtain ⟨p, q, rfl⟩ := Mat.eta y
  have ej : j = ix2 (row (rb t) p) (col (cb t) q) := funext fun a => match a with
    | ⟨0, _⟩ => Fin.ext h0
    | ⟨1, _⟩ => Fin.ext h1
  rw [ej, block9, dotV]
  exact (ref4 _ _ _ _).symm

theorem point10 (t : Fin cfg0.N) (y : S2048x256.Idx) (j : S8192x2048.Idx) (h0 : (j 0).val = (rb t).val * 2048 + (y 0).val)
    (h1 : (j 1).val = (cb t).val * 256 + (y 1).val) :
    out0_10 (iblk m c 0 t) (iblk m c 1 t) (iblk m c 2 t) (iblk m c 3 t) (iblk m c 4 t) (iblk m c 5 t) (iblk m c 6 t) y =
      Cert.Reference12Ideal.Read.val_main_v31 (F := Ideal) (ys m c) (wg m c) j := by
  obtain ⟨p, q, rfl⟩ := Mat.eta y
  have ej : j = ix2 (row (rb t) p) (col (cb t) q) := funext fun a => match a with
    | ⟨0, _⟩ => Fin.ext h0
    | ⟨1, _⟩ => Fin.ext h1
  rw [ej, block10, dotG]
  exact (ref5 _ _ _ _).symm

/-- The final arrays. -/
theorem final7 : (dats m 0 c).arrAt 7 cfg0.N = Cert.Reference12Ideal.Read.val_main_v28 (F := Ideal) (st m c) (att m c) (ys m c) (wa m c) (wv m c) (wg m c) := by
  refine (dats m 0 c).arrAt_eq_of_covers 7 _ (by decide +kernel) fun t hf y => ?_
  blk_simp
  rw [after0_7]
  refine point7 m c t y _ ?_ ?_
  · blk_simp [q7 t]
  · blk_simp [q7 t]

theorem final8 : (dats m 0 c).arrAt 8 cfg0.N = Cert.Reference12Ideal.Read.val_main_v29 (F := Ideal) (att m c) (wa m c) := by
  refine (dats m 0 c).arrAt_eq_of_covers 8 _ (by decide +kernel) fun t hf y => ?_
  blk_simp
  rw [after0_8]
  refine point8 m c t y _ ?_ ?_
  · blk_simp [q8 t]
  · blk_simp [q8 t]

theorem final9 : (dats m 0 c).arrAt 9 cfg0.N = Cert.Reference12Ideal.Read.val_main_v30 (F := Ideal) (ys m c) (wv m c) := by
  refine (dats m 0 c).arrAt_eq_of_covers 9 _ (by decide +kernel) fun t hf y => ?_
  blk_simp
  rw [after0_9]
  refine point9 m c t y _ ?_ ?_
  · blk_simp [q9 t]
  · blk_simp [q9 t]

theorem final10 : (dats m 0 c).arrAt 10 cfg0.N = Cert.Reference12Ideal.Read.val_main_v31 (F := Ideal) (ys m c) (wg m c) := by
  refine (dats m 0 c).arrAt_eq_of_covers 10 _ (by decide +kernel) fun t hf y => ?_
  blk_simp
  rw [after0_10]
  refine point10 m c t y _ ?_ ?_
  · blk_simp [q10 t]
  · blk_simp [q10 t]

theorem frameP : Cert.quiescent_Kernel12 := fun m ρ _ => Cert.Kernel12.Gen.frame m ρ

theorem framePI : Cert.quiescent_Kernel12Ideal := fun m ρ _ => Cert.Kernel12Ideal.Gen.frame m ρ

theorem frameRI : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run m ρ)

theorem equal : Cert.algebraic_Kernel12Ideal_Reference12Ideal := by
  intro m ρ m' ρ' _ hag
  refine ⟨fun c => Cert.Reference12Ideal.Read.val_main_v28 (F := Ideal) (st m c) (att m c) (ys m c) (wa m c) (wv m c) (wg m c),
    fun c => Cert.Reference12Ideal.Read.val_main_v29 (F := Ideal) (att m c) (wa m c),
    fun c => Cert.Reference12Ideal.Read.val_main_v30 (F := Ideal) (ys m c) (wv m c),
    fun c => Cert.Reference12Ideal.Read.val_main_v31 (F := Ideal) (ys m c) (wg m c), ?_, ?_⟩
  · exact (θ_run Cert.Kernel12Ideal.defs _ _).mono
      (fun r h c => ⟨(h c).1.trans (final7 m c), (h c).2.1.trans (final8 m c), (h c).2.2.1.trans (final9 m c), (h c).2.2.2.1.trans (final10 m c), (h c).2.2.2.2⟩)
      (Cert.Kernel12Ideal.Value.run_blocks m ρ)
  · refine (θ_run Cert.Reference12Ideal.defs _ _).mono (fun r h c => ⟨?_, ?_, ?_, ?_, (h c).2.2.2.2⟩) (Cert.Reference12Ideal.Value.run m' ρ')
    · have e := hag c
      refine ((h c).1.trans (Cert.Reference12Ideal.Read.val_main_v28_eq (F := Ideal) _ _ _ _ _ _)).trans ?_
      exact congr (congr (congr (congr (congr (congrArg (Cert.Reference12Ideal.Read.val_main_v28 (F := Ideal)) e.1) e.2.1) e.2.2.1) e.2.2.2.1) e.2.2.2.2.1) e.2.2.2.2.2
    · have e := hag c
      refine ((h c).2.1.trans (Cert.Reference12Ideal.Read.val_main_v29_eq (F := Ideal) _ _)).trans ?_
      exact congr (congrArg (Cert.Reference12Ideal.Read.val_main_v29 (F := Ideal)) e.2.1) e.2.2.2.1
    · have e := hag c
      refine ((h c).2.2.1.trans (Cert.Reference12Ideal.Read.val_main_v30_eq (F := Ideal) _ _)).trans ?_
      exact congr (congrArg (Cert.Reference12Ideal.Read.val_main_v30 (F := Ideal)) e.2.2.1) e.2.2.2.2.1
    · have e := hag c
      refine ((h c).2.2.2.1.trans (Cert.Reference12Ideal.Read.val_main_v31_eq (F := Ideal) _ _)).trans ?_
      exact congr (congrArg (Cert.Reference12Ideal.Read.val_main_v31 (F := Ideal)) e.2.2.1) e.2.2.2.2.2

end Cert.Merge
-- ==== Proof.DYg.lean ====
module

public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Mat
public import proofs.«01_k».proof.Defs
public import Idealize.ShloMosaic.Lib.Quiescent
public import Idealize.ShloMosaic.Lib.StableHlo.ReadAt
public import Idealize.ShloMosaic.Lib.StableHlo.RunRead

@[expose] public section

/-! The gradient at the linear unit: two products with a transposed right factor, added. -/

set_option maxRecDepth 16384
noncomputable section

namespace Cert.DYg
open Cert.Kernel13Ideal Cert.Kernel13Ideal.Gen Idealize.ShloMosaic Idealize.ShloMosaic.TcCoe Idealize.SL.Sem
open Idealize.ShloMosaic.Pipeline (Dat)
open scoped BigOperators

/-- The block written at a grid point: the two products of the blocks read there. -/
theorem block (x0 x1 : FVec Ideal S2048x2048 .bf16) (x2 x3 : FVec Ideal S256x2048 .bf16) (i : Fin 2048) (j : Fin 256) :
    out0_4 (F := Ideal) x0 x1 x2 x3 (ix2 i j) = (∑ k : Fin 2048, x0 (ix2 i k) * x2 (ix2 j k)) + ∑ k : Fin 2048, x1 (ix2 i k) * x3 (ix2 j k) := by
  have hd : dot_S2048x2048_S256x2048_S2048x256_1_1_0_0_n_n = DotDims.transposedRhs 2048 2048 256 := rfl
  unfold out0_4
  rw [View.canon_unit_zero Mat.hz]
  unfold k0_pay1
  simp only [View.ld_unit_zero (S := S2048x2048) Mat.hz, View.ld_unit_zero (S := S256x2048) Mat.hz, shapeCast_self, hd]
  refine congrArg₂ (· + ·) ?_ ?_
  · exact Mat.nt _ _ i j
  · exact Mat.nt _ _ i j

variable (m : (ℓ : Loc nD τ sig) → Buf (Elt Ideal) ℓ) (c : Dev nD)

/-- The value's gradient. -/
abbrev ag : S8192x2048.Idx → EReal := m ((c : Thread nD τ).loc main_arg0)
/-- The gate's gradient. -/
abbrev au : S8192x2048.Idx → EReal := m ((c : Thread nD τ).loc main_arg1)
/-- The value's weights. -/
abbrev wg : S1024x2048.Idx → EReal := m ((c : Thread nD τ).loc main_arg2)
/-- The gate's weights. -/
abbrev wu : S1024x2048.Idx → EReal := m ((c : Thread nD τ).loc main_arg3)

theorem V0 : V m c main_v0 = ag m c := by
  after_reads_simp
  rfl

theorem V1 : V m c main_v1 = au m c := by
  after_reads_simp
  rfl

theorem V2 : V m c main_v2 = wg m c := by
  after_reads_simp
  rfl

theorem V3 : V m c main_v3 = wu m c := by
  after_reads_simp
  rfl

/-- The row block of a grid point. -/
def rb (t : Fin cfg0.N) : Fin 4 := ⟨(grid0.coords t 0).val, (grid0.coords t 0).isLt⟩

/-- The column block of a grid point. -/
def cb (t : Fin cfg0.N) : Fin 4 := ⟨(grid0.coords t 1).val, (grid0.coords t 1).isLt⟩

theorem q0 : ∀ t : Fin cfg0.N, win0_0.index t = ![(rb t).val, 0] :=
  (by decide +kernel : ∀ t : Fin grid0.N, win0_0.index t = ![(rb t).val, 0])

theorem q1 : ∀ t : Fin cfg0.N, win0_1.index t = ![(rb t).val, 0] :=
  (by decide +kernel : ∀ t : Fin grid0.N, win0_1.index t = ![(rb t).val, 0])

theorem q2 : ∀ t : Fin cfg0.N, win0_2.index t = ![(cb t).val, 0] :=
  (by decide +kernel : ∀ t : Fin grid0.N, win0_2.index t = ![(cb t).val, 0])

theorem q3 : ∀ t : Fin cfg0.N, win0_3.index t = ![(cb t).val, 0] :=
  (by decide +kernel : ∀ t : Fin grid0.N, win0_3.index t = ![(cb t).val, 0])

theorem q4 : ∀ t : Fin cfg0.N, win0_4.index t = ![(rb t).val, (cb t).val] :=
  (by decide +kernel : ∀ t : Fin grid0.N, win0_4.index t = ![(rb t).val, (cb t).val])

/-- Row `i` of row block `a`. -/
def row (a : Fin 4) (i : Fin 2048) : Fin 8192 := ⟨a.val * 2048 + i.val, by omega⟩

/-- Column `j` of column block `b`. -/
def col (b : Fin 4) (j : Fin 256) : Fin 1024 := ⟨b.val * 256 + j.val, by omega⟩

theorem x0 (t : Fin cfg0.N) (i : Fin 2048) (k : Fin 2048) : iblk m c 0 t (ix2 i k) = ag m c (ix2 (row (rb t) i) k) := by
  have e : iblk m c 0 t (ix2 i k) = V m c main_v0 (ix2 (row (rb t) i) k) := by
    blk_ext [iblk, q0 t, row]
  rw [e, V0]

theorem x1 (t : Fin cfg0.N) (i : Fin 2048) (k : Fin 2048) : iblk m c 1 t (ix2 i k) = au m c (ix2 (row (rb t) i) k) := by
  have e : iblk m c 1 t (ix2 i k) = V m c main_v1 (ix2 (row (rb t) i) k) := by
    blk_ext [iblk, q1 t, row]
  rw [e, V1]

theorem x2 (t : Fin cfg0.N) (j : Fin 256) (k : Fin 2048) : iblk m c 2 t (ix2 j k) = wg m c (ix2 (col (cb t) j) k) := by
  have e : iblk m c 2 t (ix2 j k) = V m c main_v2 (ix2 (col (cb t) j) k) := by
    blk_ext [iblk, q2 t, col]
  rw [e, V2]

theorem x3 (t : Fin cfg0.N) (j : Fin 256) (k : Fin 2048) : iblk m c 3 t (ix2 j k) = wu m c (ix2 (col (cb t) j) k) := by
  have e : iblk m c 3 t (ix2 j k) = V m c main_v3 (ix2 (col (cb t) j) k) := by
    blk_ext [iblk, q3 t, col]
  rw [e, V3]

/-- The reference's result at an entry. -/
theorem ref (a b : S8192x2048.Idx → EReal) (p q : S1024x2048.Idx → EReal) (i : Fin 8192) (j : Fin 1024) :
    Cert.Reference13Ideal.Read.val_main_v5 (F := Ideal) a b p q (ix2 i j) =
      (∑ k : Fin 2048, b (ix2 i k) * q (ix2 j k)) + ∑ k : Fin 2048, a (ix2 i k) * p (ix2 j k) := by
  rw [Cert.Reference13Ideal.Read.val_main_v5_apply, Cert.Reference13Ideal.Read.val_main_v3_apply, Cert.Reference13Ideal.Read.val_main_v4_apply]
  have l3 (k : Fin 2048) : Cert.Reference13Ideal.Read.lidx_main_v3 (ix2 i j) k = ix2 i k := funext fun a => match a with
    | ⟨0, _⟩ => rfl
    | ⟨1, _⟩ => rfl
  have r3 (k : Fin 2048) : Cert.Reference13Ideal.Read.ridx_main_v3 (ix2 i j) k = ix2 j k := funext fun a => match a with
    | ⟨0, _⟩ => rfl
    | ⟨1, _⟩ => rfl
  have l4 (k : Fin 2048) : Cert.Reference13Ideal.Read.lidx_main_v4 (ix2 i j) k = ix2 i k := funext fun a => match a with
    | ⟨0, _⟩ => rfl
    | ⟨1, _⟩ => rfl
  have r4 (k : Fin 2048) : Cert.Reference13Ideal.Read.ridx_main_v4 (ix2 i j) k = ix2 j k := funext fun a => match a with
    | ⟨0, _⟩ => rfl
    | ⟨1, _⟩ => rfl
  simp only [l3, r3, l4, r4]
  rfl

/-- What a grid point writes is the reference's result there. -/
theorem point (t : Fin cfg0.N) (y : S2048x256.Idx) (j : S8192x1024.Idx) (h0 : (j 0).val = (rb t).val * 2048 + (y 0).val)
    (h1 : (j 1).val = (cb t).val * 256 + (y 1).val) :
    out0_4 (iblk m c 0 t) (iblk m c 1 t) (iblk m c 2 t) (iblk m c 3 t) y =
      Cert.Reference13Ideal.Read.val_main_v5 (F := Ideal) (ag m c) (au m c) (wg m c) (wu m c) j := by
  obtain ⟨p, q, rfl⟩ := Mat.eta y
  have ej : j = ix2 (row (rb t) p) (col (cb t) q) := funext fun a => match a with
    | ⟨0, _⟩ => Fin.ext h0
    | ⟨1, _⟩ => Fin.ext h1
  rw [ej, block, ref, add_comm]
  refine congrArg₂ (· + ·) (Finset.sum_congr rfl fun k _ => ?_) (Finset.sum_congr rfl fun k _ => ?_)
  · exact congrArg₂ (· * ·) (x1 m c t _ k) (x3 m c t _ k)
  · exact congrArg₂ (· * ·) (x0 m c t _ k) (x2 m c t _ k)

/-- The final array. -/
theorem final : (dats m 0 c).arrAt 4 cfg0.N =
    Cert.Reference13Ideal.Read.val_main_v5 (F := Ideal) (ag m c) (au m c) (wg m c) (wu m c) := by
  refine (dats m 0 c).arrAt_eq_of_covers 4 _ (by decide +kernel) fun t hf y => ?_
  blk_simp
  rw [after0_4]
  refine point m c t y _ ?_ ?_
  · blk_simp [q4 t]
  · blk_simp [q4 t]

theorem frameP : Cert.quiescent_Kernel13 := fun m ρ _ => Cert.Kernel13.Gen.frame m ρ

theorem framePI : Cert.quiescent_Kernel13Ideal := fun m ρ _ => Cert.Kernel13Ideal.Gen.frame m ρ

theorem frameRI : Cert.quiescent_Reference13Ideal := fun m ρ _ =>
  (θ_run Cert.Reference13Ideal.defs _ _).mono (fun r h => ⟨fun c => (h c).2, sem_eq_zero_of_no_sems (by decide) r.2⟩)
    (Cert.Reference13Ideal.Value.run m ρ)

theorem equal : Cert.algebraic_Kernel13Ideal_Reference13Ideal := by
  intro m ρ m' ρ' _ hag
  refine ⟨fun c => Cert.Reference13Ideal.Read.val_main_v5 (F := Ideal) (ag m c) (au m c) (wg m c) (wu m c), ?_, ?_⟩
  · exact (θ_run Cert.Kernel13Ideal.defs _ _).mono (fun r h c => ⟨(h c).1.trans (final m c), (h c).2⟩)
      (Cert.Kernel13Ideal.Value.run_blocks m ρ)
  · refine (θ_run Cert.Reference13Ideal.defs _ _).mono (fun r h c => ⟨?_, (h c).2⟩) (Cert.Reference13Ideal.Value.run m' ρ')
    have e := hag c
    refine ((h c).1.trans (Cert.Reference13Ideal.Read.val_main_v5_eq (F := Ideal) _ _ _ _)).trans ?_
    exact congr (congr (congr (congrArg (Cert.Reference13Ideal.Read.val_main_v5 (F := Ideal)) e.1) e.2.1) e.2.2.1) e.2.2.2

end Cert.DYg
-- ==== Proof.MixOut.lean ====
module

public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Mat
public import proofs.«01_k».proof.Defs
public import Idealize.ShloMosaic.Lib.Quiescent
public import Idealize.ShloMosaic.Lib.StableHlo.ReadAt
public import Idealize.ShloMosaic.Lib.StableHlo.RunRead

@[expose] public section

/-! The projection out: one product. -/

set_option maxRecDepth 16384
noncomputable section

namespace Cert.MixOut
open Cert.Kernel14Ideal Cert.Kernel14Ideal.Gen Idealize.ShloMosaic Idealize.ShloMosaic.TcCoe Idealize.SL.Sem
open Idealize.ShloMosaic.Pipeline (Dat)
open scoped BigOperators

/-- The block written at a grid point: the product of the blocks read there. -/
theorem block (x0 : FVec Ideal S2048x2048 .bf16) (x1 : FVec Ideal S2048x512 .bf16) (i : Fin 2048) (j : Fin 512) :
    out0_2 (F := Ideal) x0 x1 (ix2 i j) = ∑ k : Fin 2048, x0 (ix2 i k) * x1 (ix2 k j) := by
  have hd : dot_S2048x2048_S2048x512_S2048x512_1_0_0_1_n_n = DotDims.plain 2048 2048 512 := rfl
  unfold out0_2
  rw [View.canon_unit_zero Mat.hz]
  unfold k0_pay1
  simp only [View.ld_unit_zero (S := S2048x2048) Mat.hz, View.ld_unit_zero (S := S2048x512) Mat.hz, shapeCast_self, hd]
  exact Mat.nn _ _ i j

variable (m : (ℓ : Loc nD τ sig) → Buf (Elt Ideal) ℓ) (c : Dev nD)

/-- The merged branches. -/
abbrev act : S8192x2048.Idx → EReal := m ((c : Thread nD τ).loc main_arg0)
/-- The weights. -/
abbrev wd : S2048x2048.Idx → EReal := m ((c : Thread nD τ).loc main_arg1)

theorem V0 : V m c main_v0 = act m c := by
  after_reads_simp
  rfl

theorem V1 : V m c main_v1 = wd m c := by
  after_reads_simp
  rfl

/-- The row block of a grid point. -/
def rb (t : Fin cfg0.N) : Fin 4 := ⟨(grid0.coords t 0).val, (grid0.coords t 0).isLt⟩

/-- The column block of a grid point. -/
def cb (t : Fin cfg0.N) : Fin 4 := ⟨(grid0.coords t 1).val, (grid0.coords t 1).isLt⟩

theorem q0 : ∀ t : Fin cfg0.N, win0_0.index t = ![(rb t).val, 0] :=
  (by decide +kernel : ∀ t : Fin grid0.N, win0_0.index t = ![(rb t).val, 0])

theorem q1 : ∀ t : Fin cfg0.N, win0_1.index t = ![0, (cb t).val] :=
  (by decide +kernel : ∀ t : Fin grid0.N, win0_1.index t = ![0, (cb t).val])

theorem q2 : ∀ t : Fin cfg0.N, win0_2.index t = ![(rb t).val, (cb t).val] :=
  (by decide +kernel : ∀ t : Fin grid0.N, win0_2.index t = ![(rb t).val, (cb t).val])

/-- Row `i` of row block `a`. -/
def row (a : Fin 4) (i : Fin 2048) : Fin 8192 := ⟨a.val * 2048 + i.val, by omega⟩

/-- Column `j` of column block `b`. -/
def col (b : Fin 4) (j : Fin 512) : Fin 2048 := ⟨b.val * 512 + j.val, by omega⟩

theorem x0 (t : Fin cfg0.N) (i : Fin 2048) (k : Fin 2048) : iblk m c 0 t (ix2 i k) = act m c (ix2 (row (rb t) i) k) := by
  have e : iblk m c 0 t (ix2 i k) = V m c main_v0 (ix2 (row (rb t) i) k) := by
    blk_ext [iblk, q0 t, row]
  rw [e, V0]

theorem x1 (t : Fin cfg0.N) (k : Fin 2048) (j : Fin 512) : iblk m c 1 t (ix2 k j) = wd m c (ix2 k (col (cb t) j)) := by
  have e : iblk m c 1 t (ix2 k j) = V m c main_v1 (ix2 k (col (cb t) j)) := by
    blk_ext [iblk, q1 t, col]
  rw [e, V1]

/-- The reference's result at an entry. -/
theorem ref (a : S8192x2048.Idx → EReal) (w : S2048x2048.Idx → EReal) (i : Fin 8192) (j : Fin 2048) :
    Cert.Reference14Ideal.Read.val_main_v0 (F := Ideal) a w (ix2 i j) = ∑ k : Fin 2048, a (ix2 i k) * w (ix2 k j) := by
  rw [Cert.Reference14Ideal.Read.val_main_v0_apply]
  have l (k : Fin 2048) : Cert.Reference14Ideal.Read.lidx_main_v0 (ix2 i j) k = ix2 i k := funext fun a => match a with
    | ⟨0, _⟩ => rfl
    | ⟨1, _⟩ => rfl
  have r (k : Fin 2048) : Cert.Reference14Ideal.Read.ridx_main_v0 (ix2 i j) k = ix2 k j := funext fun a => match a with
    | ⟨0, _⟩ => rfl
    | ⟨1, _⟩ => rfl
  simp only [l, r]

/-- What a grid point writes is the reference's result there. -/
theorem point (t : Fin cfg0.N) (y : S2048x512.Idx) (j : S8192x2048.Idx) (h0 : (j 0).val = (rb t).val * 2048 + (y 0).val)
    (h1 : (j 1).val = (cb t).val * 512 + (y 1).val) :
    out0_2 (iblk m c 0 t) (iblk m c 1 t) y = Cert.Reference14Ideal.Read.val_main_v0 (F := Ideal) (act m c) (wd m c) j := by
  obtain ⟨p, q, rfl⟩ := Mat.eta y
  have ej : j = ix2 (row (rb t) p) (col (cb t) q) := funext fun a => match a with
    | ⟨0, _⟩ => Fin.ext h0
    | ⟨1, _⟩ => Fin.ext h1
  rw [ej, block, ref]
  exact Finset.sum_congr rfl fun k _ => congrArg₂ (· * ·) (x0 m c t _ k) (x1 m c t k _)

/-- The final array. -/
theorem final : (dats m 0 c).arrAt 2 cfg0.N = Cert.Reference14Ideal.Read.val_main_v0 (F := Ideal) (act m c) (wd m c) := by
  refine (dats m 0 c).arrAt_eq_of_covers 2 _ (by decide +kernel) fun t hf y => ?_
  blk_simp
  rw [after0_2]
  refine point m c t y _ ?_ ?_
  · blk_simp [q2 t]
  · blk_simp [q2 t]

theorem frameP : Cert.quiescent_Kernel14 := fun m ρ _ => Cert.Kernel14.Gen.frame m ρ

theorem framePI : Cert.quiescent_Kernel14Ideal := fun m ρ _ => Cert.Kernel14Ideal.Gen.frame m ρ

theorem frameRI : Cert.quiescent_Reference14Ideal := fun m ρ _ =>
  (θ_run Cert.Reference14Ideal.defs _ _).mono (fun r h => ⟨fun c => (h c).2, sem_eq_zero_of_no_sems (by decide) r.2⟩)
    (Cert.Reference14Ideal.Value.run m ρ)

theorem equal : Cert.algebraic_Kernel14Ideal_Reference14Ideal := by
  intro m ρ m' ρ' _ hag
  refine ⟨fun c => Cert.Reference14Ideal.Read.val_main_v0 (F := Ideal) (act m c) (wd m c), ?_, ?_⟩
  · exact (θ_run Cert.Kernel14Ideal.defs _ _).mono (fun r h c => ⟨(h c).1.trans (final m c), (h c).2⟩)
      (Cert.Kernel14Ideal.Value.run_blocks m ρ)
  · refine (θ_run Cert.Reference14Ideal.defs _ _).mono (fun r h c => ⟨?_, (h c).2⟩) (Cert.Reference14Ideal.Value.run m' ρ')
    have e := hag c
    refine ((h c).1.trans (Cert.Reference14Ideal.Read.val_main_v0_eq (F := Ideal) _ _)).trans ?_
    exact congr (congrArg (Cert.Reference14Ideal.Read.val_main_v0 (F := Ideal)) e.1) e.2

end Cert.MixOut
-- ==== Proof.DwOut.lean ====
module

public import proofs.«01_k».proof.Proof.Gen.Kernel15.Frame
public import proofs.«01_k».proof.Proof.Gen.Kernel15Ideal.Frame
public import Idealize.ShloMosaic.Lib.Pipeline.Value
public import proofs.«01_k».proof.Proof.Gen.Reference15Ideal.Run
public import proofs.«01_k».proof.Proof.Gen.Reference15Ideal.Read
public import proofs.«01_k».proof.Proof.Mat
public import proofs.«01_k».proof.Defs
public import Idealize.ShloMosaic.Lib.Quiescent
public import Idealize.ShloMosaic.Lib.StableHlo.ReadAt
public import Idealize.ShloMosaic.Lib.StableHlo.RunRead

@[expose] public section

/-! The weight gradient of the projection out: columns against columns, band by band. -/

set_option maxRecDepth 16384
noncomputable section

namespace Cert.DwOut
open Cert.Kernel15Ideal Cert.Kernel15Ideal.Gen Idealize.ShloMosaic Idealize.ShloMosaic.TcCoe Idealize.SL.Sem
open Idealize.ShloMosaic.Pipeline (Dat)
open scoped BigOperators

theorem hd : dot_S2048x1024_S2048x1024_S1024x1024_0_0_1_1_n_n = Mat.cols 1024 2048 1024 := rfl

/-- A band's share of a block: columns against columns. -/
def part (x0 : FVec Ideal S2048x1024 .bf16) (x1 : FVec Ideal S2048x1024 .bf16) (i : Fin 1024) (j : Fin 1024) : EReal :=
  ∑ k : Fin 2048, x0 (ix2 k i) * x1 (ix2 k j)

/-- The accumulator after a step. -/
theorem step (acc : FVec Ideal S1024x1024 .f32) (x0 : FVec Ideal S2048x1024 .bf16) (x1 : FVec Ideal S2048x1024 .bf16) (i : Fin 1024) (j : Fin 1024) :
    k0_pay2 (F := Ideal) acc x0 x1 (ix2 i j) = acc (ix2 i j) + part x0 x1 i j := by
  unfold k0_pay2
  simp only [shapeCast_self, hd]
  exact congrArg (acc (ix2 i j) + ·) (Mat.tn x0 x1 i j)

section
variable {F : FTy → Type} [FloatOps F]

/-- The first band: the accumulator starts at zero. -/
theorem first (c : Dev nD) (i : grid0.Coords) (a3 : Memref sig .tc .vmem S2048x1024 .bf16) (h3 : a3.IsWhole) (a4 : Memref sig .tc .vmem S2048x1024 .bf16) (h4 : a4.IsWhole)
    (a5 : Memref sig .tc .vmem S1024x1024 .bf16) (h5 : a5.IsWhole) (a6 : Memref sig .tc .vmem S1024x1024 .f32) (h6 : a6.IsWhole)
    (hc0 : cond0_0 i) (hc1 : cond0_1 i) (hc2 : ¬cond0_2 i) (x0 : Vec F S2048x1024 .bf16) (x1 : Vec F S2048x1024 .bf16) :
    sout0_A_0 (F := F) c i a3 h3 a4 h4 a5 h5 a6 h6 hc0 hc1 hc2 x0 x1 = k0_pay2 (F := F) (k0_pay1 (F := F)) x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_cons_unit_zero (S := S1024x1024) Mat.hz, View.readCov_unit_zero (S := S1024x1024) _ Mat.hz]
  simp only [View.readAt_eq_ld, h3.read_unread, h4.read_unread, View.ld_unit_zero (S := S2048x1024) Mat.hz, View.ld_unit_zero (S := S2048x1024) Mat.hz]

/-- A later band: its share is added. -/
theorem next (c : Dev nD) (i : grid0.Coords) (a3 : Memref sig .tc .vmem S2048x1024 .bf16) (h3 : a3.IsWhole) (a4 : Memref sig .tc .vmem S2048x1024 .bf16) (h4 : a4.IsWhole)
    (a5 : Memref sig .tc .vmem S1024x1024 .bf16) (h5 : a5.IsWhole) (a6 : Memref sig .tc .vmem S1024x1024 .f32) (h6 : a6.IsWhole)
    (hc0 : ¬cond0_0 i) (hc1 : cond0_1 i) (hc2 : ¬cond0_2 i) (x0 : Vec F S2048x1024 .bf16) (x1 : Vec F S2048x1024 .bf16) (acc : Vec F S1024x1024 .f32) :
    sout0_B_0 (F := F) c i a3 h3 a4 h4 a5 h5 a6 h6 hc0 hc1 hc2 x0 x1 acc = k0_pay2 (F := F) acc x0 x1 := by
  unfold sout0_B_0
  rw [View.read_writes_eq_canon _ _ _ (scover0_B_0 c i a3 h3 a4 h4 a5 h5 a6 h6 hc0 hc1 hc2 x0 x1 acc)]
  unfold kernelRun0_B
  dsimp only
  rw [View.canon_unit_zero (S := S1024x1024) Mat.hz]
  simp only [View.readAt_eq_ld, h3.read_unread, h4.read_unread, h6.read_unread, View.ld_unit_zero (S := S2048x1024) Mat.hz, View.ld_unit_zero (S := S2048x1024) Mat.hz,
    View.ld_unit_zero (S := S1024x1024) Mat.hz]

/-- The last band: its share is added and the block goes out. -/
theorem last (c : Dev nD) (i : grid0.Coords) (a3 : Memref sig .tc .vmem S2048x1024 .bf16) (h3 : a3.IsWhole) (a4 : Memref sig .tc .vmem S2048x1024 .bf16) (h4 : a4.IsWhole)
    (a5 : Memref sig .tc .vmem S1024x1024 .bf16) (h5 : a5.IsWhole) (a6 : Memref sig .tc .vmem S1024x1024 .f32) (h6 : a6.IsWhole)
    (hc0 : ¬cond0_0 i) (hc1 : cond0_1 i) (hc2 : cond0_2 i) (x0 : Vec F S2048x1024 .bf16) (x1 : Vec F S2048x1024 .bf16) (acc : Vec F S1024x1024 .f32) :
    out0_C_2 (F := F) c i a3 h3 a4 h4 a5 h5 a6 h6 hc0 hc1 hc2 x0 x1 acc = k0_pay3 (F := F) (k0_pay2 (F := F) acc x0 x1) := by
  unfold out0_C_2
  rw [View.read_writes_eq_canon _ _ _ (cover0_C_2 c i a3 h3 a4 h4 a5 h5 a6 h6 hc0 hc1 hc2 x0 x1 acc)]
  unfold kernelRun0_C
  dsimp only
  sl_unfold_words
  rw [View.canon_unit_zero (S := S1024x1024) Mat.hz, View.readCov_unit_zero (S := S1024x1024) _ Mat.hz]
  simp only [View.readAt_eq_ld, h3.read_unread, h4.read_unread, h6.read_unread, View.ld_unit_zero (S := S2048x1024) Mat.hz, View.ld_unit_zero (S := S2048x1024) Mat.hz,
    View.ld_unit_zero (S := S1024x1024) Mat.hz]

end

variable (m : (ℓ : Loc nD τ sig) → Buf (Elt Ideal) ℓ) (c : Dev nD)

/-- The share of the band at a grid point. -/
def share (t : Fin cfg0.N) (i : Fin 1024) (j : Fin 1024) : EReal := part (iblk m c 0 t) (iblk m c 1 t) i j

theorem acc_first (t : Fin cfg0.N) (h : t.val % 4 = 0) (i : Fin 1024) (j : Fin 1024) :
    (outsAt0 m c t.val t.isLt).2 (ix2 i j) = share m c t i j := by
  rw [outsAt0_A m c t h (by omega)]
  dsimp only
  rw [first, step]
  have z : k0_pay1 (F := Ideal) (ix2 i j) = (0 : EReal) := by
    unfold k0_pay1
    simp only [shapeCast_self]
    exact Ideal.ofBits_zero_f32
  rw [z, zero_add]
  rfl

theorem acc_next (n : ℕ) (hn : n + 1 < cfg0.N) (h0 : ¬(n + 1) % 4 = 0) (h2 : ¬(n + 1) % 4 = 3) (i : Fin 1024) (j : Fin 1024) :
    (outsAt0 m c (n + 1) hn).2 (ix2 i j) = (outsAt0 m c n (by omega)).2 (ix2 i j) + share m c ⟨n + 1, hn⟩ i j := by
  rw [outsAt0_B m c ⟨n + 1, hn⟩ h0 h2]
  dsimp only
  rw [next, step]
  rfl

theorem acc_last (n : ℕ) (hn : n + 1 < cfg0.N) (h2 : (n + 1) % 4 = 3) (i : Fin 1024) (j : Fin 1024) :
    (outsAt0 m c (n + 1) hn).1 (ix2 i j) = (outsAt0 m c n (by omega)).2 (ix2 i j) + share m c ⟨n + 1, hn⟩ i j := by
  rw [outsAt0_C m c ⟨n + 1, hn⟩ (by dsimp only; omega) h2]
  dsimp only
  rw [last]
  exact step _ _ _ i j

/-- The grid point of band `s` of run `r`. -/
def pt (r : Fin 4) (s : Fin 4) : Fin cfg0.N := ⟨4 * r.val + s.val, by rw [show cfg0.N = 16 from N_0]; omega⟩

/-- The block that goes out of a run: the four shares added. -/
theorem run_block (r : Fin 4) (i : Fin 1024) (j : Fin 1024) :
    (outsAt0 m c (pt r 3).val (pt r 3).isLt).1 (ix2 i j) = ∑ s : Fin 4, share m c (pt r s) i j := by
  have e3 := acc_last m c (4 * r.val + 2) (pt r 3).isLt (by omega) i j
  have e2 := acc_next m c (4 * r.val + 1) (pt r 2).isLt (by omega) (by omega) i j
  have e1 := acc_next m c (4 * r.val) (pt r 1).isLt (by omega) (by omega) i j
  have e0 := acc_first m c (pt r 0) (by show (4 * r.val + 0) % 4 = 0; omega) i j
  rw [Fin.sum_univ_four]
  exact e3.trans (congrArg (· + _) (e2.trans (congrArg (· + _) (e1.trans (congrArg (· + _) e0)))))

/-- The left factor. -/
abbrev la : S8192x2048.Idx → EReal := m ((c : Thread nD τ).loc main_arg0)
/-- The right factor. -/
abbrev ra : S8192x2048.Idx → EReal := m ((c : Thread nD τ).loc main_arg1)

theorem V0 : V m c main_v0 = la m c := by
  after_reads_simp
  rfl

theorem V1 : V m c main_v1 = ra m c := by
  after_reads_simp
  rfl

/-- The row block of a run. -/
def rb (r : Fin 4) : Fin 2 := ⟨r.val / 2, by omega⟩

/-- The column block of a run. -/
def cb (r : Fin 4) : Fin 2 := ⟨r.val % 2, by omega⟩

theorem q0 : ∀ (r : Fin 4) (s : Fin 4), win0_0.index (pt r s) = ![s.val, (rb r).val] := by decide +kernel

theorem q1 : ∀ (r : Fin 4) (s : Fin 4), win0_1.index (pt r s) = ![s.val, (cb r).val] := by decide +kernel

theorem q2 : ∀ r : Fin 4, win0_2.index (pt r 3) = ![(rb r).val, (cb r).val] := by decide +kernel

/-- Row `i` of row block `a`. -/
def row (a : Fin 2) (i : Fin 1024) : Fin 2048 := ⟨a.val * 1024 + i.val, by omega⟩

/-- Column `j` of column block `b`. -/
def col (b : Fin 2) (j : Fin 1024) : Fin 2048 := ⟨b.val * 1024 + j.val, by omega⟩

theorem x0 (r : Fin 4) (s : Fin 4) (k : Fin 2048) (i : Fin 1024) : iblk m c 0 (pt r s) (ix2 k i) = la m c (ix2 (Mat.at4 s k) (row (rb r) i)) := by
  have e : iblk m c 0 (pt r s) (ix2 k i) = V m c main_v0 (ix2 (Mat.at4 s k) (row (rb r) i)) := by
    blk_ext [iblk, q0 r s, row, Mat.at4]
  rw [e, V0]

theorem x1 (r : Fin 4) (s : Fin 4) (k : Fin 2048) (j : Fin 1024) : iblk m c 1 (pt r s) (ix2 k j) = ra m c (ix2 (Mat.at4 s k) (col (cb r) j)) := by
  have e : iblk m c 1 (pt r s) (ix2 k j) = V m c main_v1 (ix2 (Mat.at4 s k) (col (cb r) j)) := by
    blk_ext [iblk, q1 r s, col, Mat.at4]
  rw [e, V1]

/-- The reference's result at an entry. -/
theorem ref (a : S8192x2048.Idx → EReal) (b : S8192x2048.Idx → EReal) (i : Fin 2048) (j : Fin 2048) :
    Cert.Reference15Ideal.Read.val_main_v4 (F := Ideal) a b (ix2 i j) = ∑ k : Fin 8192, a (ix2 k i) * b (ix2 k j) := by
  rw [Cert.Reference15Ideal.Read.val_main_v4_apply, Cert.Reference15Ideal.Read.val_main_v3_apply, Cert.Reference15Ideal.Read.val_main_v2_apply]
  have l (k : Fin 8192) : Cert.Reference15Ideal.Read.lidx_main_v2 (Cert.Reference15Ideal.Read.idx_main_v3 (ix2 i j)) k = ix2 k j := funext fun a => match a with
    | ⟨0, _⟩ => rfl
    | ⟨1, _⟩ => rfl
  have r (k : Fin 8192) : Cert.Reference15Ideal.Read.ridx_main_v2 (Cert.Reference15Ideal.Read.idx_main_v3 (ix2 i j)) k = ix2 k i := funext fun a => match a with
    | ⟨0, _⟩ => rfl
    | ⟨1, _⟩ => rfl
  simp only [l, r]
  exact Finset.sum_congr rfl fun k _ => mul_comm _ _

/-- What a run writes is the reference's result there. -/
theorem point (r : Fin 4) (y : S1024x1024.Idx) (j : S2048x2048.Idx) (h0 : (j 0).val = (rb r).val * 1024 + (y 0).val)
    (h1 : (j 1).val = (cb r).val * 1024 + (y 1).val) :
    (outsAt0 m c (pt r 3).val (pt r 3).isLt).1 y = Cert.Reference15Ideal.Read.val_main_v4 (F := Ideal) (la m c) (ra m c) j := by
  obtain ⟨p, q, rfl⟩ := Mat.eta y
  have ej : j = ix2 (row (rb r) p) (col (cb r) q) := funext fun a => match a with
    | ⟨0, _⟩ => Fin.ext h0
    | ⟨1, _⟩ => Fin.ext h1
  rw [ej, run_block, ref, Mat.bands]
  unfold share part
  refine Finset.sum_congr rfl fun s _ => Finset.sum_congr rfl fun k _ => ?_
  exact congrArg₂ (· * ·) (x0 m c r s k _) (x1 m c r s k _)

/-- The final array. -/
theorem final : (dats m 0 c).arrAt 2 cfg0.N = Cert.Reference15Ideal.Read.val_main_v4 (F := Ideal) (la m c) (ra m c) := by
  refine (dats m 0 c).arrAt_eq_of_covers 2 _ (by decide +kernel) fun t hf y => ?_
  have ht := (flush0_2 t).mp hf
  have hN : t.val < 16 := lt_of_lt_of_eq t.isLt N_0
  obtain ⟨r, rfl⟩ : ∃ r : Fin 4, t = pt r 3 := ⟨⟨t.val / 4, by omega⟩, Fin.ext (by show t.val = 4 * (t.val / 4) + 3; omega)⟩
  blk_simp
  rw [after0_2]
  refine point m c r y _ ?_ ?_
  · blk_simp [q2 r]
  · blk_simp [q2 r]

/-- The run, with its result named. -/
theorem run (ρ : Dev nD → PrngReg) : θ_run defs (onTc (τ := τ) (main (F := Ideal))) ⟨m, fun _ => 0, ρ⟩ fun r => ∀ c : Dev nD,
    r.2.mem ((c : Thread nD τ).loc main_v2) = Cert.Reference15Ideal.Read.val_main_v4 (F := Ideal) (la m c) (ra m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 2).trans (final m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c)⟩) (run_main m ρ)

theorem frameP : Cert.quiescent_Kernel15 := fun m ρ _ => Cert.Kernel15.Gen.frame m ρ

theorem framePI : Cert.quiescent_Kernel15Ideal := fun m ρ _ => Cert.Kernel15Ideal.Gen.frame m ρ

theorem frameRI : Cert.quiescent_Reference15Ideal := fun m ρ _ =>
  (θ_run Cert.Reference15Ideal.defs _ _).mono (fun r h => ⟨fun c => (h c).2, sem_eq_zero_of_no_sems (by decide) r.2⟩)
    (Cert.Reference15Ideal.Value.run m ρ)

theorem equal : Cert.algebraic_Kernel15Ideal_Reference15Ideal := by
  intro m ρ m' ρ' _ hag
  refine ⟨fun c => Cert.Reference15Ideal.Read.val_main_v4 (F := Ideal) (la m c) (ra m c), ?_, ?_⟩
  · exact run m ρ
  · refine (θ_run Cert.Reference15Ideal.defs _ _).mono (fun r h c => ⟨?_, (h c).2⟩) (Cert.Reference15Ideal.Value.run m' ρ')
    have e := hag c
    refine ((h c).1.trans (Cert.Reference15Ideal.Read.val_main_v4_eq (F := Ideal) _ _)).trans ?_
    exact congr (congrArg (Cert.Reference15Ideal.Read.val_main_v4 (F := Ideal)) e.1) e.2

end Cert.DwOut
-- ==== Proof.DwGlu.lean ====
module

public import proofs.«01_k».proof.Proof.Gen.Kernel16.Frame
public import proofs.«01_k».proof.Proof.Gen.Kernel16Ideal.Frame
public import Idealize.ShloMosaic.Lib.Pipeline.Value
public import proofs.«01_k».proof.Proof.Gen.Reference16Ideal.Run
public import proofs.«01_k».proof.Proof.Gen.Reference16Ideal.Read
public import proofs.«01_k».proof.Proof.Mat
public import proofs.«01_k».proof.Defs
public import Idealize.ShloMosaic.Lib.Quiescent
public import Idealize.ShloMosaic.Lib.StableHlo.ReadAt
public import Idealize.ShloMosaic.Lib.StableHlo.RunRead

@[expose] public section

/-! The weight gradient of a half of the linear unit: columns against columns, band by band. -/

set_option maxRecDepth 16384
noncomputable section

namespace Cert.DwGlu
open Cert.Kernel16Ideal Cert.Kernel16Ideal.Gen Idealize.ShloMosaic Idealize.ShloMosaic.TcCoe Idealize.SL.Sem
open Idealize.ShloMosaic.Pipeline (Dat)
open scoped BigOperators

theorem hd : dot_S2048x1024_S2048x1024_S1024x1024_0_0_1_1_n_n = Mat.cols 1024 2048 1024 := rfl

/-- A band's share of a block: columns against columns. -/
def part (x0 : FVec Ideal S2048x1024 .bf16) (x1 : FVec Ideal S2048x1024 .bf16) (i : Fin 1024) (j : Fin 1024) : EReal :=
  ∑ k : Fin 2048, x0 (ix2 k i) * x1 (ix2 k j)

/-- The accumulator after a step. -/
theorem step (acc : FVec Ideal S1024x1024 .f32) (x0 : FVec Ideal S2048x1024 .bf16) (x1 : FVec Ideal S2048x1024 .bf16) (i : Fin 1024) (j : Fin 1024) :
    k0_pay2 (F := Ideal) acc x0 x1 (ix2 i j) = acc (ix2 i j) + part x0 x1 i j := by
  unfold k0_pay2
  simp only [shapeCast_self, hd]
  exact congrArg (acc (ix2 i j) + ·) (Mat.tn x0 x1 i j)

section
variable {F : FTy → Type} [FloatOps F]

/-- The first band: the accumulator starts at zero. -/
theorem first (c : Dev nD) (i : grid0.Coords) (a3 : Memref sig .tc .vmem S2048x1024 .bf16) (h3 : a3.IsWhole) (a4 : Memref sig .tc .vmem S2048x1024 .bf16) (h4 : a4.IsWhole)
    (a5 : Memref sig .tc .vmem S1024x1024 .bf16) (h5 : a5.IsWhole) (a6 : Memref sig .tc .vmem S1024x1024 .f32) (h6 : a6.IsWhole)
    (hc0 : cond0_0 i) (hc1 : cond0_1 i) (hc2 : ¬cond0_2 i) (x0 : Vec F S2048x1024 .bf16) (x1 : Vec F S2048x1024 .bf16) :
    sout0_A_0 (F := F) c i a3 h3 a4 h4 a5 h5 a6 h6 hc0 hc1 hc2 x0 x1 = k0_pay2 (F := F) (k0_pay1 (F := F)) x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_cons_unit_zero (S := S1024x1024) Mat.hz, View.readCov_unit_zero (S := S1024x1024) _ Mat.hz]
  simp only [View.readAt_eq_ld, h3.read_unread, h4.read_unread, View.ld_unit_zero (S := S2048x1024) Mat.hz, View.ld_unit_zero (S := S2048x1024) Mat.hz]

/-- A later band: its share is added. -/
theorem next (c : Dev nD) (i : grid0.Coords) (a3 : Memref sig .tc .vmem S2048x1024 .bf16) (h3 : a3.IsWhole) (a4 : Memref sig .tc .vmem S2048x1024 .bf16) (h4 : a4.IsWhole)
    (a5 : Memref sig .tc .vmem S1024x1024 .bf16) (h5 : a5.IsWhole) (a6 : Memref sig .tc .vmem S1024x1024 .f32) (h6 : a6.IsWhole)
    (hc0 : ¬cond0_0 i) (hc1 : cond0_1 i) (hc2 : ¬cond0_2 i) (x0 : Vec F S2048x1024 .bf16) (x1 : Vec F S2048x1024 .bf16) (acc : Vec F S1024x1024 .f32) :
    sout0_B_0 (F := F) c i a3 h3 a4 h4 a5 h5 a6 h6 hc0 hc1 hc2 x0 x1 acc = k0_pay2 (F := F) acc x0 x1 := by
  unfold sout0_B_0
  rw [View.read_writes_eq_canon _ _ _ (scover0_B_0 c i a3 h3 a4 h4 a5 h5 a6 h6 hc0 hc1 hc2 x0 x1 acc)]
  unfold kernelRun0_B
  dsimp only
  rw [View.canon_unit_zero (S := S1024x1024) Mat.hz]
  simp only [View.readAt_eq_ld, h3.read_unread, h4.read_unread, h6.read_unread, View.ld_unit_zero (S := S2048x1024) Mat.hz, View.ld_unit_zero (S := S2048x1024) Mat.hz,
    View.ld_unit_zero (S := S1024x1024) Mat.hz]

/-- The last band: its share is added and the block goes out. -/
theorem last (c : Dev nD) (i : grid0.Coords) (a3 : Memref sig .tc .vmem S2048x1024 .bf16) (h3 : a3.IsWhole) (a4 : Memref sig .tc .vmem S2048x1024 .bf16) (h4 : a4.IsWhole)
    (a5 : Memref sig .tc .vmem S1024x1024 .bf16) (h5 : a5.IsWhole) (a6 : Memref sig .tc .vmem S1024x1024 .f32) (h6 : a6.IsWhole)
    (hc0 : ¬cond0_0 i) (hc1 : cond0_1 i) (hc2 : cond0_2 i) (x0 : Vec F S2048x1024 .bf16) (x1 : Vec F S2048x1024 .bf16) (acc : Vec F S1024x1024 .f32) :
    out0_C_2 (F := F) c i a3 h3 a4 h4 a5 h5 a6 h6 hc0 hc1 hc2 x0 x1 acc = k0_pay3 (F := F) (k0_pay2 (F := F) acc x0 x1) := by
  unfold out0_C_2
  rw [View.read_writes_eq_canon _ _ _ (cover0_C_2 c i a3 h3 a4 h4 a5 h5 a6 h6 hc0 hc1 hc2 x0 x1 acc)]
  unfold kernelRun0_C
  dsimp only
  sl_unfold_words
  rw [View.canon_unit_zero (S := S1024x1024) Mat.hz, View.readCov_unit_zero (S := S1024x1024) _ Mat.hz]
  simp only [View.readAt_eq_ld, h3.read_unread, h4.read_unread, h6.read_unread, View.ld_unit_zero (S := S2048x1024) Mat.hz, View.ld_unit_zero (S := S2048x1024) Mat.hz,
    View.ld_unit_zero (S := S1024x1024) Mat.hz]

end

variable (m : (ℓ : Loc nD τ sig) → Buf (Elt Ideal) ℓ) (c : Dev nD)

/-- The share of the band at a grid point. -/
def share (t : Fin cfg0.N) (i : Fin 1024) (j : Fin 1024) : EReal := part (iblk m c 0 t) (iblk m c 1 t) i j

theorem acc_first (t : Fin cfg0.N) (h : t.val % 4 = 0) (i : Fin 1024) (j : Fin 1024) :
    (outsAt0 m c t.val t.isLt).2 (ix2 i j) = share m c t i j := by
  rw [outsAt0_A m c t h (by omega)]
  dsimp only
  rw [first, step]
  have z : k0_pay1 (F := Ideal) (ix2 i j) = (0 : EReal) := by
    unfold k0_pay1
    simp only [shapeCast_self]
    exact Ideal.ofBits_zero_f32
  rw [z, zero_add]
  rfl

theorem acc_next (n : ℕ) (hn : n + 1 < cfg0.N) (h0 : ¬(n + 1) % 4 = 0) (h2 : ¬(n + 1) % 4 = 3) (i : Fin 1024) (j : Fin 1024) :
    (outsAt0 m c (n + 1) hn).2 (ix2 i j) = (outsAt0 m c n (by omega)).2 (ix2 i j) + share m c ⟨n + 1, hn⟩ i j := by
  rw [outsAt0_B m c ⟨n + 1, hn⟩ h0 h2]
  dsimp only
  rw [next, step]
  rfl

theorem acc_last (n : ℕ) (hn : n + 1 < cfg0.N) (h2 : (n + 1) % 4 = 3) (i : Fin 1024) (j : Fin 1024) :
    (outsAt0 m c (n + 1) hn).1 (ix2 i j) = (outsAt0 m c n (by omega)).2 (ix2 i j) + share m c ⟨n + 1, hn⟩ i j := by
  rw [outsAt0_C m c ⟨n + 1, hn⟩ (by dsimp only; omega) h2]
  dsimp only
  rw [last]
  exact step _ _ _ i j

/-- The grid point of band `s` of run `r`. -/
def pt (r : Fin 2) (s : Fin 4) : Fin cfg0.N := ⟨4 * r.val + s.val, by rw [show cfg0.N = 8 from N_0]; omega⟩

/-- The block that goes out of a run: the four shares added. -/
theorem run_block (r : Fin 2) (i : Fin 1024) (j : Fin 1024) :
    (outsAt0 m c (pt r 3).val (pt r 3).isLt).1 (ix2 i j) = ∑ s : Fin 4, share m c (pt r s) i j := by
  have e3 := acc_last m c (4 * r.val + 2) (pt r 3).isLt (by omega) i j
  have e2 := acc_next m c (4 * r.val + 1) (pt r 2).isLt (by omega) (by omega) i j
  have e1 := acc_next m c (4 * r.val) (pt r 1).isLt (by omega) (by omega) i j
  have e0 := acc_first m c (pt r 0) (by show (4 * r.val + 0) % 4 = 0; omega) i j
  rw [Fin.sum_univ_four]
  exact e3.trans (congrArg (· + _) (e2.trans (congrArg (· + _) (e1.trans (congrArg (· + _) e0)))))

/-- The left factor. -/
abbrev la : S8192x1024.Idx → EReal := m ((c : Thread nD τ).loc main_arg0)
/-- The right factor. -/
abbrev ra : S8192x2048.Idx → EReal := m ((c : Thread nD τ).loc main_arg1)

theorem V0 : V m c main_v0 = la m c := by
  after_reads_simp
  rfl

theorem V1 : V m c main_v1 = ra m c := by
  after_reads_simp
  rfl

/-- The row block of a run. -/
def rb (r : Fin 2) : Fin 1 := ⟨r.val / 2, by omega⟩

/-- The column block of a run. -/
def cb (r : Fin 2) : Fin 2 := ⟨r.val % 2, by omega⟩

theorem q0 : ∀ (r : Fin 2) (s : Fin 4), win0_0.index (pt r s) = ![s.val, (rb r).val] := by decide +kernel

theorem q1 : ∀ (r : Fin 2) (s : Fin 4), win0_1.index (pt r s) = ![s.val, (cb r).val] := by decide +kernel

theorem q2 : ∀ r : Fin 2, win0_2.index (pt r 3) = ![(rb r).val, (cb r).val] := by decide +kernel

/-- Row `i` of row block `a`. -/
def row (a : Fin 1) (i : Fin 1024) : Fin 1024 := ⟨a.val * 1024 + i.val, by omega⟩

/-- Column `j` of column block `b`. -/
def col (b : Fin 2) (j : Fin 1024) : Fin 2048 := ⟨b.val * 1024 + j.val, by omega⟩

theorem x0 (r : Fin 2) (s : Fin 4) (k : Fin 2048) (i : Fin 1024) : iblk m c 0 (pt r s) (ix2 k i) = la m c (ix2 (Mat.at4 s k) (row (rb r) i)) := by
  have e : iblk m c 0 (pt r s) (ix2 k i) = V m c main_v0 (ix2 (Mat.at4 s k) (row (rb r) i)) := by
    blk_ext [iblk, q0 r s, row, Mat.at4]
  rw [e, V0]

theorem x1 (r : Fin 2) (s : Fin 4) (k : Fin 2048) (j : Fin 1024) : iblk m c 1 (pt r s) (ix2 k j) = ra m c (ix2 (Mat.at4 s k) (col (cb r) j)) := by
  have e : iblk m c 1 (pt r s) (ix2 k j) = V m c main_v1 (ix2 (Mat.at4 s k) (col (cb r) j)) := by
    blk_ext [iblk, q1 r s, col, Mat.at4]
  rw [e, V1]

/-- The reference's result at an entry. -/
theorem ref (a : S8192x1024.Idx → EReal) (b : S8192x2048.Idx → EReal) (i : Fin 1024) (j : Fin 2048) :
    Cert.Reference16Ideal.Read.val_main_v4 (F := Ideal) a b (ix2 i j) = ∑ k : Fin 8192, a (ix2 k i) * b (ix2 k j) := by
  rw [Cert.Reference16Ideal.Read.val_main_v4_apply, Cert.Reference16Ideal.Read.val_main_v3_apply, Cert.Reference16Ideal.Read.val_main_v2_apply]
  have l (k : Fin 8192) : Cert.Reference16Ideal.Read.lidx_main_v2 (Cert.Reference16Ideal.Read.idx_main_v3 (ix2 i j)) k = ix2 k j := funext fun a => match a with
    | ⟨0, _⟩ => rfl
    | ⟨1, _⟩ => rfl
  have r (k : Fin 8192) : Cert.Reference16Ideal.Read.ridx_main_v2 (Cert.Reference16Ideal.Read.idx_main_v3 (ix2 i j)) k = ix2 k i := funext fun a => match a with
    | ⟨0, _⟩ => rfl
    | ⟨1, _⟩ => rfl
  simp only [l, r]
  exact Finset.sum_congr rfl fun k _ => mul_comm _ _

/-- What a run writes is the reference's result there. -/
theorem point (r : Fin 2) (y : S1024x1024.Idx) (j : S1024x2048.Idx) (h0 : (j 0).val = (rb r).val * 1024 + (y 0).val)
    (h1 : (j 1).val = (cb r).val * 1024 + (y 1).val) :
    (outsAt0 m c (pt r 3).val (pt r 3).isLt).1 y = Cert.Reference16Ideal.Read.val_main_v4 (F := Ideal) (la m c) (ra m c) j := by
  obtain ⟨p, q, rfl⟩ := Mat.eta y
  have ej : j = ix2 (row (rb r) p) (col (cb r) q) := funext fun a => match a with
    | ⟨0, _⟩ => Fin.ext h0
    | ⟨1, _⟩ => Fin.ext h1
  rw [ej, run_block, ref, Mat.bands]
  unfold share part
  refine Finset.sum_congr rfl fun s _ => Finset.sum_congr rfl fun k _ => ?_
  exact congrArg₂ (· * ·) (x0 m c r s k _) (x1 m c r s k _)

/-- The final array. -/
theorem final : (dats m 0 c).arrAt 2 cfg0.N = Cert.Reference16Ideal.Read.val_main_v4 (F := Ideal) (la m c) (ra m c) := by
  refine (dats m 0 c).arrAt_eq_of_covers 2 _ (by decide +kernel) fun t hf y => ?_
  have ht := (flush0_2 t).mp hf
  have hN : t.val < 8 := lt_of_lt_of_eq t.isLt N_0
  obtain ⟨r, rfl⟩ : ∃ r : Fin 2, t = pt r 3 := ⟨⟨t.val / 4, by omega⟩, Fin.ext (by show t.val = 4 * (t.val / 4) + 3; omega)⟩
  blk_simp
  rw [after0_2]
  refine point m c r y _ ?_ ?_
  · blk_simp [q2 r]
  · blk_simp [q2 r]

/-- The run, with its result named. -/
theorem run (ρ : Dev nD → PrngReg) : θ_run defs (onTc (τ := τ) (main (F := Ideal))) ⟨m, fun _ => 0, ρ⟩ fun r => ∀ c : Dev nD,
    r.2.mem ((c : Thread nD τ).loc main_v2) = Cert.Reference16Ideal.Read.val_main_v4 (F := Ideal) (la m c) (ra m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 2).trans (final m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c)⟩) (run_main m ρ)

theorem frameP : Cert.quiescent_Kernel16 := fun m ρ _ => Cert.Kernel16.Gen.frame m ρ

theorem framePI : Cert.quiescent_Kernel16Ideal := fun m ρ _ => Cert.Kernel16Ideal.Gen.frame m ρ

theorem frameRI : Cert.quiescent_Reference16Ideal := fun m ρ _ =>
  (θ_run Cert.Reference16Ideal.defs _ _).mono (fun r h => ⟨fun c => (h c).2, sem_eq_zero_of_no_sems (by decide) r.2⟩)
    (Cert.Reference16Ideal.Value.run m ρ)

theorem equal : Cert.algebraic_Kernel16Ideal_Reference16Ideal := by
  intro m ρ m' ρ' _ hag
  refine ⟨fun c => Cert.Reference16Ideal.Read.val_main_v4 (F := Ideal) (la m c) (ra m c), ?_, ?_⟩
  · exact run m ρ
  · refine (θ_run Cert.Reference16Ideal.defs _ _).mono (fun r h c => ⟨?_, (h c).2⟩) (Cert.Reference16Ideal.Value.run m' ρ')
    have e := hag c
    refine ((h c).1.trans (Cert.Reference16Ideal.Read.val_main_v4_eq (F := Ideal) _ _)).trans ?_
    exact congr (congrArg (Cert.Reference16Ideal.Read.val_main_v4 (F := Ideal)) e.1) e.2

end Cert.DwGlu
-- ==== Proof.DAttn.lean ====
module

public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Mat
public import proofs.«01_k».proof.Defs
public import Idealize.ShloMosaic.Lib.Quiescent
public import Idealize.ShloMosaic.Lib.StableHlo.ReadAt
public import Idealize.ShloMosaic.Lib.StableHlo.RunRead

@[expose] public section

/-! The gradient at the attention: one product with a transposed right factor. -/

set_option maxRecDepth 16384
noncomputable section

namespace Cert.DAttn
open Cert.Kernel17Ideal Cert.Kernel17Ideal.Gen Idealize.ShloMosaic Idealize.ShloMosaic.TcCoe Idealize.SL.Sem
open Idealize.ShloMosaic.Pipeline (Dat)
open scoped BigOperators

/-- The block written at a grid point: the product of the blocks read there. -/
theorem block (x0 : FVec Ideal S2048x2048 .bf16) (x1 : FVec Ideal S512x2048 .bf16) (i : Fin 2048) (j : Fin 512) :
    out0_2 (F := Ideal) x0 x1 (ix2 i j) = ∑ k : Fin 2048, x0 (ix2 i k) * x1 (ix2 j k) := by
  have hd : dot_S2048x2048_S512x2048_S2048x512_1_1_0_0_n_n = DotDims.transposedRhs 2048 2048 512 := rfl
  unfold out0_2
  rw [View.canon_unit_zero Mat.hz]
  unfold k0_pay1
  simp only [View.ld_unit_zero (S := S2048x2048) Mat.hz, View.ld_unit_zero (S := S512x2048) Mat.hz, shapeCast_self, hd]
  exact Mat.nt _ _ i j

variable (m : (ℓ : Loc nD τ sig) → Buf (Elt Ideal) ℓ) (c : Dev nD)

/-- The gradient at the projection's result. -/
abbrev dab : S8192x2048.Idx → EReal := m ((c : Thread nD τ).loc main_arg0)
/-- The weights. -/
abbrev wd : S512x2048.Idx → EReal := m ((c : Thread nD τ).loc main_arg1)

theorem V0 : V m c main_v0 = dab m c := by
  after_reads_simp
  rfl

theorem V1 : V m c main_v1 = wd m c := by
  after_reads_simp
  rfl

/-- The row block of a grid point. -/
def rb (t : Fin cfg0.N) : Fin 4 := ⟨(grid0.coords t 0).val, (grid0.coords t 0).isLt⟩

/-- The column block of a grid point. -/
def cb (t : Fin cfg0.N) : Fin 1 := ⟨(grid0.coords t 1).val, (grid0.coords t 1).isLt⟩

theorem q0 : ∀ t : Fin cfg0.N, win0_0.index t = ![(rb t).val, 0] :=
  (by decide +kernel : ∀ t : Fin grid0.N, win0_0.index t = ![(rb t).val, 0])

theorem q1 : ∀ t : Fin cfg0.N, win0_1.index t = ![(cb t).val, 0] :=
  (by decide +kernel : ∀ t : Fin grid0.N, win0_1.index t = ![(cb t).val, 0])

theorem q2 : ∀ t : Fin cfg0.N, win0_2.index t = ![(rb t).val, (cb t).val] :=
  (by decide +kernel : ∀ t : Fin grid0.N, win0_2.index t = ![(rb t).val, (cb t).val])

/-- Row `i` of row block `a`. -/
def row (a : Fin 4) (i : Fin 2048) : Fin 8192 := ⟨a.val * 2048 + i.val, by omega⟩

/-- Column `j` of column block `b`. -/
def col (b : Fin 1) (j : Fin 512) : Fin 512 := ⟨b.val * 512 + j.val, by omega⟩

theorem x0 (t : Fin cfg0.N) (i : Fin 2048) (k : Fin 2048) : iblk m c 0 t (ix2 i k) = dab m c (ix2 (row (rb t) i) k) := by
  have e : iblk m c 0 t (ix2 i k) = V m c main_v0 (ix2 (row (rb t) i) k) := by
    blk_ext [iblk, q0 t, row]
  rw [e, V0]

theorem x1 (t : Fin cfg0.N) (k : Fin 2048) (j : Fin 512) : iblk m c 1 t (ix2 j k) = wd m c (ix2 (col (cb t) j) k) := by
  have e : iblk m c 1 t (ix2 j k) = V m c main_v1 (ix2 (col (cb t) j) k) := by
    blk_ext [iblk, q1 t, col]
  rw [e, V1]

/-- The reference's result at an entry. -/
theorem ref (a : S8192x2048.Idx → EReal) (w : S512x2048.Idx → EReal) (i : Fin 8192) (j : Fin 512) :
    Cert.Reference17Ideal.Read.val_main_v2 (F := Ideal) a w (ix2 i j) = ∑ k : Fin 2048, a (ix2 i k) * w (ix2 j k) := by
  rw [Cert.Reference17Ideal.Read.val_main_v2_apply]
  have l (k : Fin 2048) : Cert.Reference17Ideal.Read.lidx_main_v2 (ix2 i j) k = ix2 i k := funext fun a => match a with
    | ⟨0, _⟩ => rfl
    | ⟨1, _⟩ => rfl
  have r (k : Fin 2048) : Cert.Reference17Ideal.Read.ridx_main_v2 (ix2 i j) k = ix2 j k := funext fun a => match a with
    | ⟨0, _⟩ => rfl
    | ⟨1, _⟩ => rfl
  simp only [l, r]

/-- What a grid point writes is the reference's result there. -/
theorem point (t : Fin cfg0.N) (y : S2048x512.Idx) (j : S8192x512.Idx) (h0 : (j 0).val = (rb t).val * 2048 + (y 0).val)
    (h1 : (j 1).val = (cb t).val * 512 + (y 1).val) :
    out0_2 (iblk m c 0 t) (iblk m c 1 t) y = Cert.Reference17Ideal.Read.val_main_v2 (F := Ideal) (dab m c) (wd m c) j := by
  obtain ⟨p, q, rfl⟩ := Mat.eta y
  have ej : j = ix2 (row (rb t) p) (col (cb t) q) := funext fun a => match a with
    | ⟨0, _⟩ => Fin.ext h0
    | ⟨1, _⟩ => Fin.ext h1
  rw [ej, block, ref]
  exact Finset.sum_congr rfl fun k _ => congrArg₂ (· * ·) (x0 m c t _ k) (x1 m c t k _)

/-- The final array. -/
theorem final : (dats m 0 c).arrAt 2 cfg0.N = Cert.Reference17Ideal.Read.val_main_v2 (F := Ideal) (dab m c) (wd m c) := by
  refine (dats m 0 c).arrAt_eq_of_covers 2 _ (by decide +kernel) fun t hf y => ?_
  blk_simp
  rw [after0_2]
  refine point m c t y _ ?_ ?_
  · blk_simp [q2 t]
  · blk_simp [q2 t]

theorem frameP : Cert.quiescent_Kernel17 := fun m ρ _ => Cert.Kernel17.Gen.frame m ρ

theorem framePI : Cert.quiescent_Kernel17Ideal := fun m ρ _ => Cert.Kernel17Ideal.Gen.frame m ρ

theorem frameRI : Cert.quiescent_Reference17Ideal := fun m ρ _ =>
  (θ_run Cert.Reference17Ideal.defs _ _).mono (fun r h => ⟨fun c => (h c).2, sem_eq_zero_of_no_sems (by decide) r.2⟩)
    (Cert.Reference17Ideal.Value.run m ρ)

theorem equal : Cert.algebraic_Kernel17Ideal_Reference17Ideal := by
  intro m ρ m' ρ' _ hag
  refine ⟨fun c => Cert.Reference17Ideal.Read.val_main_v2 (F := Ideal) (dab m c) (wd m c), ?_, ?_⟩
  · exact (θ_run Cert.Kernel17Ideal.defs _ _).mono (fun r h c => ⟨(h c).1.trans (final m c), (h c).2⟩)
      (Cert.Kernel17Ideal.Value.run_blocks m ρ)
  · refine (θ_run Cert.Reference17Ideal.defs _ _).mono (fun r h c => ⟨?_, (h c).2⟩) (Cert.Reference17Ideal.Value.run m' ρ')
    have e := hag c
    refine ((h c).1.trans (Cert.Reference17Ideal.Read.val_main_v2_eq (F := Ideal) _ _)).trans ?_
    exact congr (congrArg (Cert.Reference17Ideal.Read.val_main_v2 (F := Ideal)) e.1) e.2

end Cert.DAttn
-- ==== Proof.DwAttnUp.lean ====
module

public import proofs.«01_k».proof.Proof.Gen.Kernel18.Frame
public import proofs.«01_k».proof.Proof.Gen.Kernel18Ideal.Frame
public import Idealize.ShloMosaic.Lib.Pipeline.Value
public import proofs.«01_k».proof.Proof.Gen.Reference18Ideal.Run
public import proofs.«01_k».proof.Proof.Gen.Reference18Ideal.Read
public import proofs.«01_k».proof.Proof.Mat
public import proofs.«01_k».proof.Defs
public import Idealize.ShloMosaic.Lib.Quiescent
public import Idealize.ShloMosaic.Lib.StableHlo.ReadAt
public import Idealize.ShloMosaic.Lib.StableHlo.RunRead

@[expose] public section

/-! The weight gradient of the attention's projection: columns against columns, band by band. -/

set_option maxRecDepth 16384
noncomputable section

namespace Cert.DwAttnUp
open Cert.Kernel18Ideal Cert.Kernel18Ideal.Gen Idealize.ShloMosaic Idealize.ShloMosaic.TcCoe Idealize.SL.Sem
open Idealize.ShloMosaic.Pipeline (Dat)
open scoped BigOperators

theorem hd : dot_S2048x512_S2048x2048_S512x2048_0_0_1_1_n_n = Mat.cols 512 2048 2048 := rfl

/-- A band's share of a block: columns against columns. -/
def part (x0 : FVec Ideal S2048x512 .bf16) (x1 : FVec Ideal S2048x2048 .bf16) (i : Fin 512) (j : Fin 2048) : EReal :=
  ∑ k : Fin 2048, x0 (ix2 k i) * x1 (ix2 k j)

/-- The accumulator after a step. -/
theorem step (acc : FVec Ideal S512x2048 .f32) (x0 : FVec Ideal S2048x512 .bf16) (x1 : FVec Ideal S2048x2048 .bf16) (i : Fin 512) (j : Fin 2048) :
    k0_pay2 (F := Ideal) acc x0 x1 (ix2 i j) = acc (ix2 i j) + part x0 x1 i j := by
  unfold k0_pay2
  simp only [shapeCast_self, hd]
  exact congrArg (acc (ix2 i j) + ·) (Mat.tn x0 x1 i j)

section
variable {F : FTy → Type} [FloatOps F]

/-- The first band: the accumulator starts at zero. -/
theorem first (c : Dev nD) (i : grid0.Coords) (a3 : Memref sig .tc .vmem S2048x512 .bf16) (h3 : a3.IsWhole) (a4 : Memref sig .tc .vmem S2048x2048 .bf16) (h4 : a4.IsWhole)
    (a5 : Memref sig .tc .vmem S512x2048 .bf16) (h5 : a5.IsWhole) (a6 : Memref sig .tc .vmem S512x2048 .f32) (h6 : a6.IsWhole)
    (hc0 : cond0_0 i) (hc1 : cond0_1 i) (hc2 : ¬cond0_2 i) (x0 : Vec F S2048x512 .bf16) (x1 : Vec F S2048x2048 .bf16) :
    sout0_A_0 (F := F) c i a3 h3 a4 h4 a5 h5 a6 h6 hc0 hc1 hc2 x0 x1 = k0_pay2 (F := F) (k0_pay1 (F := F)) x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_cons_unit_zero (S := S512x2048) Mat.hz, View.readCov_unit_zero (S := S512x2048) _ Mat.hz]
  simp only [View.readAt_eq_ld, h3.read_unread, h4.read_unread, View.ld_unit_zero (S := S2048x512) Mat.hz, View.ld_unit_zero (S := S2048x2048) Mat.hz]

/-- A later band: its share is added. -/
theorem next (c : Dev nD) (i : grid0.Coords) (a3 : Memref sig .tc .vmem S2048x512 .bf16) (h3 : a3.IsWhole) (a4 : Memref sig .tc .vmem S2048x2048 .bf16) (h4 : a4.IsWhole)
    (a5 : Memref sig .tc .vmem S512x2048 .bf16) (h5 : a5.IsWhole) (a6 : Memref sig .tc .vmem S512x2048 .f32) (h6 : a6.IsWhole)
    (hc0 : ¬cond0_0 i) (hc1 : cond0_1 i) (hc2 : ¬cond0_2 i) (x0 : Vec F S2048x512 .bf16) (x1 : Vec F S2048x2048 .bf16) (acc : Vec F S512x2048 .f32) :
    sout0_B_0 (F := F) c i a3 h3 a4 h4 a5 h5 a6 h6 hc0 hc1 hc2 x0 x1 acc = k0_pay2 (F := F) acc x0 x1 := by
  unfold sout0_B_0
  rw [View.read_writes_eq_canon _ _ _ (scover0_B_0 c i a3 h3 a4 h4 a5 h5 a6 h6 hc0 hc1 hc2 x0 x1 acc)]
  unfold kernelRun0_B
  dsimp only
  rw [View.canon_unit_zero (S := S512x2048) Mat.hz]
  simp only [View.readAt_eq_ld, h3.read_unread, h4.read_unread, h6.read_unread, View.ld_unit_zero (S := S2048x512) Mat.hz, View.ld_unit_zero (S := S2048x2048) Mat.hz,
    View.ld_unit_zero (S := S512x2048) Mat.hz]

/-- The last band: its share is added and the block goes out. -/
theorem last (c : Dev nD) (i : grid0.Coords) (a3 : Memref sig .tc .vmem S2048x512 .bf16) (h3 : a3.IsWhole) (a4 : Memref sig .tc .vmem S2048x2048 .bf16) (h4 : a4.IsWhole)
    (a5 : Memref sig .tc .vmem S512x2048 .bf16) (h5 : a5.IsWhole) (a6 : Memref sig .tc .vmem S512x2048 .f32) (h6 : a6.IsWhole)
    (hc0 : ¬cond0_0 i) (hc1 : cond0_1 i) (hc2 : cond0_2 i) (x0 : Vec F S2048x512 .bf16) (x1 : Vec F S2048x2048 .bf16) (acc : Vec F S512x2048 .f32) :
    out0_C_2 (F := F) c i a3 h3 a4 h4 a5 h5 a6 h6 hc0 hc1 hc2 x0 x1 acc = k0_pay3 (F := F) (k0_pay2 (F := F) acc x0 x1) := by
  unfold out0_C_2
  rw [View.read_writes_eq_canon _ _ _ (cover0_C_2 c i a3 h3 a4 h4 a5 h5 a6 h6 hc0 hc1 hc2 x0 x1 acc)]
  unfold kernelRun0_C
  dsimp only
  sl_unfold_words
  rw [View.canon_unit_zero (S := S512x2048) Mat.hz, View.readCov_unit_zero (S := S512x2048) _ Mat.hz]
  simp only [View.readAt_eq_ld, h3.read_unread, h4.read_unread, h6.read_unread, View.ld_unit_zero (S := S2048x512) Mat.hz, View.ld_unit_zero (S := S2048x2048) Mat.hz,
    View.ld_unit_zero (S := S512x2048) Mat.hz]

end

variable (m : (ℓ : Loc nD τ sig) → Buf (Elt Ideal) ℓ) (c : Dev nD)

/-- The share of the band at a grid point. -/
def share (t : Fin cfg0.N) (i : Fin 512) (j : Fin 2048) : EReal := part (iblk m c 0 t) (iblk m c 1 t) i j

theorem acc_first (t : Fin cfg0.N) (h : t.val % 4 = 0) (i : Fin 512) (j : Fin 2048) :
    (outsAt0 m c t.val t.isLt).2 (ix2 i j) = share m c t i j := by
  rw [outsAt0_A m c t h (by omega)]
  dsimp only
  rw [first, step]
  have z : k0_pay1 (F := Ideal) (ix2 i j) = (0 : EReal) := by
    unfold k0_pay1
    simp only [shapeCast_self]
    exact Ideal.ofBits_zero_f32
  rw [z, zero_add]
  rfl

theorem acc_next (n : ℕ) (hn : n + 1 < cfg0.N) (h0 : ¬(n + 1) % 4 = 0) (h2 : ¬(n + 1) % 4 = 3) (i : Fin 512) (j : Fin 2048) :
    (outsAt0 m c (n + 1) hn).2 (ix2 i j) = (outsAt0 m c n (by omega)).2 (ix2 i j) + share m c ⟨n + 1, hn⟩ i j := by
  rw [outsAt0_B m c ⟨n + 1, hn⟩ h0 h2]
  dsimp only
  rw [next, step]
  rfl

theorem acc_last (n : ℕ) (hn : n + 1 < cfg0.N) (h2 : (n + 1) % 4 = 3) (i : Fin 512) (j : Fin 2048) :
    (outsAt0 m c (n + 1) hn).1 (ix2 i j) = (outsAt0 m c n (by omega)).2 (ix2 i j) + share m c ⟨n + 1, hn⟩ i j := by
  rw [outsAt0_C m c ⟨n + 1, hn⟩ (by dsimp only; omega) h2]
  dsimp only
  rw [last]
  exact step _ _ _ i j

/-- The grid point of band `s` of run `r`. -/
def pt (r : Fin 1) (s : Fin 4) : Fin cfg0.N := ⟨4 * r.val + s.val, by rw [show cfg0.N = 4 from N_0]; omega⟩

/-- The block that goes out of a run: the four shares added. -/
theorem run_block (r : Fin 1) (i : Fin 512) (j : Fin 2048) :
    (outsAt0 m c (pt r 3).val (pt r 3).isLt).1 (ix2 i j) = ∑ s : Fin 4, share m c (pt r s) i j := by
  have e3 := acc_last m c (4 * r.val + 2) (pt r 3).isLt (by omega) i j
  have e2 := acc_next m c (4 * r.val + 1) (pt r 2).isLt (by omega) (by omega) i j
  have e1 := acc_next m c (4 * r.val) (pt r 1).isLt (by omega) (by omega) i j
  have e0 := acc_first m c (pt r 0) (by show (4 * r.val + 0) % 4 = 0; omega) i j
  rw [Fin.sum_univ_four]
  exact e3.trans (congrArg (· + _) (e2.trans (congrArg (· + _) (e1.trans (congrArg (· + _) e0)))))

/-- The left factor. -/
abbrev la : S8192x512.Idx → EReal := m ((c : Thread nD τ).loc main_arg0)
/-- The right factor. -/
abbrev ra : S8192x2048.Idx → EReal := m ((c : Thread nD τ).loc main_arg1)

theorem V0 : V m c main_v0 = la m c := by
  after_reads_simp
  rfl

theorem V1 : V m c main_v1 = ra m c := by
  after_reads_simp
  rfl

/-- The row block of a run. -/
def rb (r : Fin 1) : Fin 1 := ⟨r.val / 1, by omega⟩

/-- The column block of a run. -/
def cb (r : Fin 1) : Fin 1 := ⟨r.val % 1, by omega⟩

theorem q0 : ∀ (r : Fin 1) (s : Fin 4), win0_0.index (pt r s) = ![s.val, (rb r).val] := by decide +kernel

theorem q1 : ∀ (r : Fin 1) (s : Fin 4), win0_1.index (pt r s) = ![s.val, (cb r).val] := by decide +kernel

theorem q2 : ∀ r : Fin 1, win0_2.index (pt r 3) = ![(rb r).val, (cb r).val] := by decide +kernel

/-- Row `i` of row block `a`. -/
def row (a : Fin 1) (i : Fin 512) : Fin 512 := ⟨a.val * 512 + i.val, by omega⟩

/-- Column `j` of column block `b`. -/
def col (b : Fin 1) (j : Fin 2048) : Fin 2048 := ⟨b.val * 2048 + j.val, by omega⟩

theorem x0 (r : Fin 1) (s : Fin 4) (k : Fin 2048) (i : Fin 512) : iblk m c 0 (pt r s) (ix2 k i) = la m c (ix2 (Mat.at4 s k) (row (rb r) i)) := by
  have e : iblk m c 0 (pt r s) (ix2 k i) = V m c main_v0 (ix2 (Mat.at4 s k) (row (rb r) i)) := by
    blk_ext [iblk, q0 r s, row, Mat.at4]
  rw [e, V0]

theorem x1 (r : Fin 1) (s : Fin 4) (k : Fin 2048) (j : Fin 2048) : iblk m c 1 (pt r s) (ix2 k j) = ra m c (ix2 (Mat.at4 s k) (col (cb r) j)) := by
  have e : iblk m c 1 (pt r s) (ix2 k j) = V m c main_v1 (ix2 (Mat.at4 s k) (col (cb r) j)) := by
    blk_ext [iblk, q1 r s, col, Mat.at4]
  rw [e, V1]

/-- The reference's result at an entry. -/
theorem ref (a : S8192x512.Idx → EReal) (b : S8192x2048.Idx → EReal) (i : Fin 512) (j : Fin 2048) :
    Cert.Reference18Ideal.Read.val_main_v4 (F := Ideal) a b (ix2 i j) = ∑ k : Fin 8192, a (ix2 k i) * b (ix2 k j) := by
  rw [Cert.Reference18Ideal.Read.val_main_v4_apply, Cert.Reference18Ideal.Read.val_main_v3_apply, Cert.Reference18Ideal.Read.val_main_v2_apply]
  have l (k : Fin 8192) : Cert.Reference18Ideal.Read.lidx_main_v2 (Cert.Reference18Ideal.Read.idx_main_v3 (ix2 i j)) k = ix2 k j := funext fun a => match a with
    | ⟨0, _⟩ => rfl
    | ⟨1, _⟩ => rfl
  have r (k : Fin 8192) : Cert.Reference18Ideal.Read.ridx_main_v2 (Cert.Reference18Ideal.Read.idx_main_v3 (ix2 i j)) k = ix2 k i := funext fun a => match a with
    | ⟨0, _⟩ => rfl
    | ⟨1, _⟩ => rfl
  simp only [l, r]
  exact Finset.sum_congr rfl fun k _ => mul_comm _ _

/-- What a run writes is the reference's result there. -/
theorem point (r : Fin 1) (y : S512x2048.Idx) (j : S512x2048.Idx) (h0 : (j 0).val = (rb r).val * 512 + (y 0).val)
    (h1 : (j 1).val = (cb r).val * 2048 + (y 1).val) :
    (outsAt0 m c (pt r 3).val (pt r 3).isLt).1 y = Cert.Reference18Ideal.Read.val_main_v4 (F := Ideal) (la m c) (ra m c) j := by
  obtain ⟨p, q, rfl⟩ := Mat.eta y
  have ej : j = ix2 (row (rb r) p) (col (cb r) q) := funext fun a => match a with
    | ⟨0, _⟩ => Fin.ext h0
    | ⟨1, _⟩ => Fin.ext h1
  rw [ej, run_block, ref, Mat.bands]
  unfold share part
  refine Finset.sum_congr rfl fun s _ => Finset.sum_congr rfl fun k _ => ?_
  exact congrArg₂ (· * ·) (x0 m c r s k _) (x1 m c r s k _)

/-- The final array. -/
theorem final : (dats m 0 c).arrAt 2 cfg0.N = Cert.Reference18Ideal.Read.val_main_v4 (F := Ideal) (la m c) (ra m c) := by
  refine (dats m 0 c).arrAt_eq_of_covers 2 _ (by decide +kernel) fun t hf y => ?_
  have ht := (flush0_2 t).mp hf
  have hN : t.val < 4 := lt_of_lt_of_eq t.isLt N_0
  obtain ⟨r, rfl⟩ : ∃ r : Fin 1, t = pt r 3 := ⟨⟨t.val / 4, by omega⟩, Fin.ext (by show t.val = 4 * (t.val / 4) + 3; omega)⟩
  blk_simp
  rw [after0_2]
  refine point m c r y _ ?_ ?_
  · blk_simp [q2 r]
  · blk_simp [q2 r]

/-- The run, with its result named. -/
theorem run (ρ : Dev nD → PrngReg) : θ_run defs (onTc (τ := τ) (main (F := Ideal))) ⟨m, fun _ => 0, ρ⟩ fun r => ∀ c : Dev nD,
    r.2.mem ((c : Thread nD τ).loc main_v2) = Cert.Reference18Ideal.Read.val_main_v4 (F := Ideal) (la m c) (ra m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h c).1 2).trans (final m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c)⟩) (run_main m ρ)

theorem frameP : Cert.quiescent_Kernel18 := fun m ρ _ => Cert.Kernel18.Gen.frame m ρ

theorem framePI : Cert.quiescent_Kernel18Ideal := fun m ρ _ => Cert.Kernel18Ideal.Gen.frame m ρ

theorem frameRI : Cert.quiescent_Reference18Ideal := fun m ρ _ =>
  (θ_run Cert.Reference18Ideal.defs _ _).mono (fun r h => ⟨fun c => (h c).2, sem_eq_zero_of_no_sems (by decide) r.2⟩)
    (Cert.Reference18Ideal.Value.run m ρ)

theorem equal : Cert.algebraic_Kernel18Ideal_Reference18Ideal := by
  intro m ρ m' ρ' _ hag
  refine ⟨fun c => Cert.Reference18Ideal.Read.val_main_v4 (F := Ideal) (la m c) (ra m c), ?_, ?_⟩
  · exact run m ρ
  · refine (θ_run Cert.Reference18Ideal.defs _ _).mono (fun r h c => ⟨?_, (h c).2⟩) (Cert.Reference18Ideal.Value.run m' ρ')
    have e := hag c
    refine ((h c).1.trans (Cert.Reference18Ideal.Read.val_main_v4_eq (F := Ideal) _ _)).trans ?_
    exact congr (congrArg (Cert.Reference18Ideal.Read.val_main_v4 (F := Ideal)) e.1) e.2

end Cert.DwAttnUp
-- ==== Proof.AdamIn.lean ====
module

public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Mat
public import proofs.«01_k».proof.Defs
public import Idealize.ShloMosaic.Lib.Quiescent

@[expose] public section

/-! The optimiser's step on the input projection's shard. -/

set_option maxRecDepth 16384
noncomputable section

namespace Cert.AdamIn
open Cert.Kernel19Ideal Cert.Kernel19Ideal.Gen Idealize.ShloMosaic Idealize.ShloMosaic.TcCoe Idealize.SL.Sem
open Cert.Kernel19Ideal.Value (G5 G6 G7 G8)

/-- The gradient's two parts added. -/
theorem grad (a b : S2048x2432.Idx → EReal) : Cert.Reference19Ideal.Read.val_main_v0 (F := Ideal) a b = G5 (F := Ideal) a b := rfl

/-- The first moment. -/
theorem fst (a b mo : S2048x2432.Idx → EReal) : Cert.Reference19Ideal.Read.val_main_v5 (F := Ideal) a b mo = G7 (F := Ideal) a b mo := by
  funext i
  simp only [Cert.Reference19Ideal.Read.val_main_v5_apply, Cert.Reference19Ideal.Read.val_main_v4_apply, Cert.Reference19Ideal.Read.val_main_v3_apply,
    Cert.Reference19Ideal.Read.val_main_cst_0_apply, Cert.Reference19Ideal.Read.val_main_v2_apply, Cert.Reference19Ideal.Read.val_main_v1_apply,
    Cert.Reference19Ideal.Read.val_main_cst_apply, grad]

/-- The second moment. -/
theorem snd (a b mo : S2048x2432.Idx → EReal) : Cert.Reference19Ideal.Read.val_main_v11 (F := Ideal) a b mo = G8 (F := Ideal) a b mo := by
  funext i
  simp only [Cert.Reference19Ideal.Read.val_main_v11_apply, Cert.Reference19Ideal.Read.val_main_v10_apply, Cert.Reference19Ideal.Read.val_main_v9_apply,
    Cert.Reference19Ideal.Read.val_main_cst_2_apply, Cert.Reference19Ideal.Read.val_main_v8_apply, Cert.Reference19Ideal.Read.val_main_v7_apply,
    Cert.Reference19Ideal.Read.val_main_v6_apply, Cert.Reference19Ideal.Read.val_main_cst_1_apply, grad]

/-- The change of the weight. -/
theorem delta (w a b mo ve : S2048x2432.Idx → EReal) :
    Cert.Reference19Ideal.Read.val_main_v24 (F := Ideal) w a b mo ve = G6 (F := Ideal) a b w mo ve := by
  funext i
  simp only [Cert.Reference19Ideal.Read.val_main_v24_apply, Cert.Reference19Ideal.Read.val_main_v23_apply, Cert.Reference19Ideal.Read.val_main_cst_7_apply,
    Cert.Reference19Ideal.Read.val_main_v22_apply, Cert.Reference19Ideal.Read.val_main_v21_apply, Cert.Reference19Ideal.Read.val_main_v20_apply,
    Cert.Reference19Ideal.Read.val_main_cst_6_apply, Cert.Reference19Ideal.Read.val_main_v19_apply, Cert.Reference19Ideal.Read.val_main_v18_apply,
    Cert.Reference19Ideal.Read.val_main_v17_apply, Cert.Reference19Ideal.Read.val_main_cst_5_apply, Cert.Reference19Ideal.Read.val_main_v16_apply,
    Cert.Reference19Ideal.Read.val_main_v15_apply, Cert.Reference19Ideal.Read.val_main_v14_apply, Cert.Reference19Ideal.Read.val_main_cst_4_apply,
    Cert.Reference19Ideal.Read.val_main_v13_apply, Cert.Reference19Ideal.Read.val_main_v12_apply, Cert.Reference19Ideal.Read.val_main_cst_3_apply, fst, snd]
  rfl

theorem frameP : Cert.quiescent_Kernel19 := fun m ρ _ => Cert.Kernel19.Gen.frame m ρ

theorem framePI : Cert.quiescent_Kernel19Ideal := fun m ρ _ => Cert.Kernel19Ideal.Gen.frame m ρ

theorem frameRI : Cert.quiescent_Reference19Ideal := fun m ρ _ =>
  (θ_run Cert.Reference19Ideal.defs _ _).mono (fun r h => ⟨fun c => (h c).2.2.2.2, sem_eq_zero_of_no_sems (by decide) r.2⟩)
    (Cert.Reference19Ideal.Value.run m ρ)

theorem equal : Cert.algebraic_Kernel19Ideal_Reference19Ideal := by
  intro m ρ m' ρ' _ hag
  refine ⟨_, _, _, _, Cert.Kernel19Ideal.Value.run m ρ, ?_⟩
  refine (θ_run Cert.Reference19Ideal.defs _ _).mono (fun r h c => ⟨?_, ?_, ?_, ?_, (h c).2.2.2.2⟩) (Cert.Reference19Ideal.Value.run m' ρ')
  · have e := hag c
    refine (((h c).1.trans (Cert.Reference19Ideal.Read.val_main_v0_eq (F := Ideal) _ _)).trans (grad _ _)).trans ?_
    exact congr (congrArg (G5 (F := Ideal)) e.2.1) e.2.2.1
  · have e := hag c
    refine (((h c).2.1.trans (Cert.Reference19Ideal.Read.val_main_v24_eq (F := Ideal) _ _ _ _ _)).trans (delta _ _ _ _ _)).trans ?_
    exact congr (congr (congr (congr (congrArg (G6 (F := Ideal)) e.2.1) e.2.2.1) e.1) e.2.2.2.1) e.2.2.2.2
  · have e := hag c
    refine (((h c).2.2.1.trans (Cert.Reference19Ideal.Read.val_main_v5_eq (F := Ideal) _ _ _)).trans (fst _ _ _)).trans ?_
    exact congr (congr (congrArg (G7 (F := Ideal)) e.2.1) e.2.2.1) e.2.2.2.1
  · have e := hag c
    refine (((h c).2.2.2.1.trans (Cert.Reference19Ideal.Read.val_main_v11_eq (F := Ideal) _ _ _)).trans (snd _ _ _)).trans ?_
    exact congr (congr (congrArg (G8 (F := Ideal)) e.2.1) e.2.2.1) e.2.2.2.2

end Cert.AdamIn
-- ==== Proof.AdamAttnUp.lean ====
module

public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Mat
public import proofs.«01_k».proof.Defs
public import Idealize.ShloMosaic.Lib.Quiescent

@[expose] public section

/-! The optimiser's step on the shard of the attention's projection. -/

set_option maxRecDepth 16384
noncomputable section

namespace Cert.AdamAttnUp
open Cert.Kernel20Ideal Cert.Kernel20Ideal.Gen Idealize.ShloMosaic Idealize.ShloMosaic.TcCoe Idealize.SL.Sem
open Cert.Kernel20Ideal.Value (G5 G6 G7 G8)

/-- The gradient's two parts added. -/
theorem grad (a b : S512x512.Idx → EReal) : Cert.Reference20Ideal.Read.val_main_v0 (F := Ideal) a b = G5 (F := Ideal) a b := rfl

/-- The first moment. -/
theorem fst (a b mo : S512x512.Idx → EReal) : Cert.Reference20Ideal.Read.val_main_v5 (F := Ideal) a b mo = G7 (F := Ideal) a b mo := by
  funext i
  simp only [Cert.Reference20Ideal.Read.val_main_v5_apply, Cert.Reference20Ideal.Read.val_main_v4_apply, Cert.Reference20Ideal.Read.val_main_v3_apply,
    Cert.Reference20Ideal.Read.val_main_cst_0_apply, Cert.Reference20Ideal.Read.val_main_v2_apply, Cert.Reference20Ideal.Read.val_main_v1_apply,
    Cert.Reference20Ideal.Read.val_main_cst_apply, grad]

/-- The second moment. -/
theorem snd (a b mo : S512x512.Idx → EReal) : Cert.Reference20Ideal.Read.val_main_v11 (F := Ideal) a b mo = G8 (F := Ideal) a b mo := by
  funext i
  simp only [Cert.Reference20Ideal.Read.val_main_v11_apply, Cert.Reference20Ideal.Read.val_main_v10_apply, Cert.Reference20Ideal.Read.val_main_v9_apply,
    Cert.Reference20Ideal.Read.val_main_cst_2_apply, Cert.Reference20Ideal.Read.val_main_v8_apply, Cert.Reference20Ideal.Read.val_main_v7_apply,
    Cert.Reference20Ideal.Read.val_main_v6_apply, Cert.Reference20Ideal.Read.val_main_cst_1_apply, grad]

/-- The change of the weight. -/
theorem delta (w a b mo ve : S512x512.Idx → EReal) :
    Cert.Reference20Ideal.Read.val_main_v24 (F := Ideal) w a b mo ve = G6 (F := Ideal) a b w mo ve := by
  funext i
  simp only [Cert.Reference20Ideal.Read.val_main_v24_apply, Cert.Reference20Ideal.Read.val_main_v23_apply, Cert.Reference20Ideal.Read.val_main_cst_7_apply,
    Cert.Reference20Ideal.Read.val_main_v22_apply, Cert.Reference20Ideal.Read.val_main_v21_apply, Cert.Reference20Ideal.Read.val_main_v20_apply,
    Cert.Reference20Ideal.Read.val_main_cst_6_apply, Cert.Reference20Ideal.Read.val_main_v19_apply, Cert.Reference20Ideal.Read.val_main_v18_apply,
    Cert.Reference20Ideal.Read.val_main_v17_apply, Cert.Reference20Ideal.Read.val_main_cst_5_apply, Cert.Reference20Ideal.Read.val_main_v16_apply,
    Cert.Reference20Ideal.Read.val_main_v15_apply, Cert.Reference20Ideal.Read.val_main_v14_apply, Cert.Reference20Ideal.Read.val_main_cst_4_apply,
    Cert.Reference20Ideal.Read.val_main_v13_apply, Cert.Reference20Ideal.Read.val_main_v12_apply, Cert.Reference20Ideal.Read.val_main_cst_3_apply, fst, snd]
  rfl

theorem frameP : Cert.quiescent_Kernel20 := fun m ρ _ => Cert.Kernel20.Gen.frame m ρ

theorem framePI : Cert.quiescent_Kernel20Ideal := fun m ρ _ => Cert.Kernel20Ideal.Gen.frame m ρ

theorem frameRI : Cert.quiescent_Reference20Ideal := fun m ρ _ =>
  (θ_run Cert.Reference20Ideal.defs _ _).mono (fun r h => ⟨fun c => (h c).2.2.2.2, sem_eq_zero_of_no_sems (by decide) r.2⟩)
    (Cert.Reference20Ideal.Value.run m ρ)

theorem equal : Cert.algebraic_Kernel20Ideal_Reference20Ideal := by
  intro m ρ m' ρ' _ hag
  refine ⟨_, _, _, _, Cert.Kernel20Ideal.Value.run m ρ, ?_⟩
  refine (θ_run Cert.Reference20Ideal.defs _ _).mono (fun r h c => ⟨?_, ?_, ?_, ?_, (h c).2.2.2.2⟩) (Cert.Reference20Ideal.Value.run m' ρ')
  · have e := hag c
    refine (((h c).1.trans (Cert.Reference20Ideal.Read.val_main_v0_eq (F := Ideal) _ _)).trans (grad _ _)).trans ?_
    exact congr (congrArg (G5 (F := Ideal)) e.2.1) e.2.2.1
  · have e := hag c
    refine (((h c).2.1.trans (Cert.Reference20Ideal.Read.val_main_v24_eq (F := Ideal) _ _ _ _ _)).trans (delta _ _ _ _ _)).trans ?_
    exact congr (congr (congr (congr (congrArg (G6 (F := Ideal)) e.2.1) e.2.2.1) e.1) e.2.2.2.1) e.2.2.2.2
  · have e := hag c
    refine (((h c).2.2.1.trans (Cert.Reference20Ideal.Read.val_main_v5_eq (F := Ideal) _ _ _)).trans (fst _ _ _)).trans ?_
    exact congr (congr (congrArg (G7 (F := Ideal)) e.2.1) e.2.2.1) e.2.2.2.1
  · have e := hag c
    refine (((h c).2.2.2.1.trans (Cert.Reference20Ideal.Read.val_main_v11_eq (F := Ideal) _ _ _)).trans (snd _ _ _)).trans ?_
    exact congr (congr (congrArg (G8 (F := Ideal)) e.2.1) e.2.2.1) e.2.2.2.2

end Cert.AdamAttnUp
-- ==== Proof.AdamGlu.lean ====
module

public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Mat
public import proofs.«01_k».proof.Defs
public import Idealize.ShloMosaic.Lib.Quiescent

@[expose] public section

/-! The optimiser's step on a shard of the linear unit. -/

set_option maxRecDepth 16384
noncomputable section

namespace Cert.AdamGlu
open Cert.Kernel21Ideal Cert.Kernel21Ideal.Gen Idealize.ShloMosaic Idealize.ShloMosaic.TcCoe Idealize.SL.Sem
open Cert.Kernel21Ideal.Value (G5 G6 G7 G8)

/-- The gradient's two parts added. -/
theorem grad (a b : S1024x512.Idx → EReal) : Cert.Reference21Ideal.Read.val_main_v0 (F := Ideal) a b = G5 (F := Ideal) a b := rfl

/-- The first moment. -/
theorem fst (a b mo : S1024x512.Idx → EReal) : Cert.Reference21Ideal.Read.val_main_v5 (F := Ideal) a b mo = G7 (F := Ideal) a b mo := by
  funext i
  simp only [Cert.Reference21Ideal.Read.val_main_v5_apply, Cert.Reference21Ideal.Read.val_main_v4_apply, Cert.Reference21Ideal.Read.val_main_v3_apply,
    Cert.Reference21Ideal.Read.val_main_cst_0_apply, Cert.Reference21Ideal.Read.val_main_v2_apply, Cert.Reference21Ideal.Read.val_main_v1_apply,
    Cert.Reference21Ideal.Read.val_main_cst_apply, grad]

/-- The second moment. -/
theorem snd (a b mo : S1024x512.Idx → EReal) : Cert.Reference21Ideal.Read.val_main_v11 (F := Ideal) a b mo = G8 (F := Ideal) a b mo := by
  funext i
  simp only [Cert.Reference21Ideal.Read.val_main_v11_apply, Cert.Reference21Ideal.Read.val_main_v10_apply, Cert.Reference21Ideal.Read.val_main_v9_apply,
    Cert.Reference21Ideal.Read.val_main_cst_2_apply, Cert.Reference21Ideal.Read.val_main_v8_apply, Cert.Reference21Ideal.Read.val_main_v7_apply,
    Cert.Reference21Ideal.Read.val_main_v6_apply, Cert.Reference21Ideal.Read.val_main_cst_1_apply, grad]

/-- The change of the weight. -/
theorem delta (w a b mo ve : S1024x512.Idx → EReal) :
    Cert.Reference21Ideal.Read.val_main_v24 (F := Ideal) w a b mo ve = G6 (F := Ideal) a b w mo ve := by
  funext i
  simp only [Cert.Reference21Ideal.Read.val_main_v24_apply, Cert.Reference21Ideal.Read.val_main_v23_apply, Cert.Reference21Ideal.Read.val_main_cst_7_apply,
    Cert.Reference21Ideal.Read.val_main_v22_apply, Cert.Reference21Ideal.Read.val_main_v21_apply, Cert.Reference21Ideal.Read.val_main_v20_apply,
    Cert.Reference21Ideal.Read.val_main_cst_6_apply, Cert.Reference21Ideal.Read.val_main_v19_apply, Cert.Reference21Ideal.Read.val_main_v18_apply,
    Cert.Reference21Ideal.Read.val_main_v17_apply, Cert.Reference21Ideal.Read.val_main_cst_5_apply, Cert.Reference21Ideal.Read.val_main_v16_apply,
    Cert.Reference21Ideal.Read.val_main_v15_apply, Cert.Reference21Ideal.Read.val_main_v14_apply, Cert.Reference21Ideal.Read.val_main_cst_4_apply,
    Cert.Reference21Ideal.Read.val_main_v13_apply, Cert.Reference21Ideal.Read.val_main_v12_apply, Cert.Reference21Ideal.Read.val_main_cst_3_apply, fst, snd]
  rfl

theorem frameP : Cert.quiescent_Kernel21 := fun m ρ _ => Cert.Kernel21.Gen.frame m ρ

theorem framePI : Cert.quiescent_Kernel21Ideal := fun m ρ _ => Cert.Kernel21Ideal.Gen.frame m ρ

theorem frameRI : Cert.quiescent_Reference21Ideal := fun m ρ _ =>
  (θ_run Cert.Reference21Ideal.defs _ _).mono (fun r h => ⟨fun c => (h c).2.2.2.2, sem_eq_zero_of_no_sems (by decide) r.2⟩)
    (Cert.Reference21Ideal.Value.run m ρ)

theorem equal : Cert.algebraic_Kernel21Ideal_Reference21Ideal := by
  intro m ρ m' ρ' _ hag
  refine ⟨_, _, _, _, Cert.Kernel21Ideal.Value.run m ρ, ?_⟩
  refine (θ_run Cert.Reference21Ideal.defs _ _).mono (fun r h c => ⟨?_, ?_, ?_, ?_, (h c).2.2.2.2⟩) (Cert.Reference21Ideal.Value.run m' ρ')
  · have e := hag c
    refine (((h c).1.trans (Cert.Reference21Ideal.Read.val_main_v0_eq (F := Ideal) _ _)).trans (grad _ _)).trans ?_
    exact congr (congrArg (G5 (F := Ideal)) e.2.1) e.2.2.1
  · have e := hag c
    refine (((h c).2.1.trans (Cert.Reference21Ideal.Read.val_main_v24_eq (F := Ideal) _ _ _ _ _)).trans (delta _ _ _ _ _)).trans ?_
    exact congr (congr (congr (congr (congrArg (G6 (F := Ideal)) e.2.1) e.2.2.1) e.1) e.2.2.2.1) e.2.2.2.2
  · have e := hag c
    refine (((h c).2.2.1.trans (Cert.Reference21Ideal.Read.val_main_v5_eq (F := Ideal) _ _ _)).trans (fst _ _ _)).trans ?_
    exact congr (congr (congrArg (G7 (F := Ideal)) e.2.1) e.2.2.1) e.2.2.2.1
  · have e := hag c
    refine (((h c).2.2.2.1.trans (Cert.Reference21Ideal.Read.val_main_v11_eq (F := Ideal) _ _ _)).trans (snd _ _ _)).trans ?_
    exact congr (congr (congrArg (G8 (F := Ideal)) e.2.1) e.2.2.1) e.2.2.2.2

end Cert.AdamGlu
-- ==== Proof.AdamOut.lean ====
module

public import proofs.«01_k».proof.Proof.Gen.Kernel22.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Mat
public import proofs.«01_k».proof.Defs
public import Idealize.ShloMosaic.Lib.Quiescent

@[expose] public section

/-! The optimiser's step on the shard of the projection out. -/

set_option maxRecDepth 16384
noncomputable section

namespace Cert.AdamOut
open Cert.Kernel22Ideal Cert.Kernel22Ideal.Gen Idealize.ShloMosaic Idealize.ShloMosaic.TcCoe Idealize.SL.Sem
open Cert.Kernel22Ideal.Value (G5 G6 G7 G8)

/-- The gradient's two parts added. -/
theorem grad (a b : S512x2048.Idx → EReal) : Cert.Reference22Ideal.Read.val_main_v0 (F := Ideal) a b = G5 (F := Ideal) a b := rfl

/-- The first moment. -/
theorem fst (a b mo : S512x2048.Idx → EReal) : Cert.Reference22Ideal.Read.val_main_v5 (F := Ideal) a b mo = G7 (F := Ideal) a b mo := by
  funext i
  simp only [Cert.Reference22Ideal.Read.val_main_v5_apply, Cert.Reference22Ideal.Read.val_main_v4_apply, Cert.Reference22Ideal.Read.val_main_v3_apply,
    Cert.Reference22Ideal.Read.val_main_cst_0_apply, Cert.Reference22Ideal.Read.val_main_v2_apply, Cert.Reference22Ideal.Read.val_main_v1_apply,
    Cert.Reference22Ideal.Read.val_main_cst_apply, grad]

/-- The second moment. -/
theorem snd (a b mo : S512x2048.Idx → EReal) : Cert.Reference22Ideal.Read.val_main_v11 (F := Ideal) a b mo = G8 (F := Ideal) a b mo := by
  funext i
  simp only [Cert.Reference22Ideal.Read.val_main_v11_apply, Cert.Reference22Ideal.Read.val_main_v10_apply, Cert.Reference22Ideal.Read.val_main_v9_apply,
    Cert.Reference22Ideal.Read.val_main_cst_2_apply, Cert.Reference22Ideal.Read.val_main_v8_apply, Cert.Reference22Ideal.Read.val_main_v7_apply,
    Cert.Reference22Ideal.Read.val_main_v6_apply, Cert.Reference22Ideal.Read.val_main_cst_1_apply, grad]

/-- The change of the weight. -/
theorem delta (w a b mo ve : S512x2048.Idx → EReal) :
    Cert.Reference22Ideal.Read.val_main_v24 (F := Ideal) w a b mo ve = G6 (F := Ideal) a b w mo ve := by
  funext i
  simp only [Cert.Reference22Ideal.Read.val_main_v24_apply, Cert.Reference22Ideal.Read.val_main_v23_apply, Cert.Reference22Ideal.Read.val_main_cst_7_apply,
    Cert.Reference22Ideal.Read.val_main_v22_apply, Cert.Reference22Ideal.Read.val_main_v21_apply, Cert.Reference22Ideal.Read.val_main_v20_apply,
    Cert.Reference22Ideal.Read.val_main_cst_6_apply, Cert.Reference22Ideal.Read.val_main_v19_apply, Cert.Reference22Ideal.Read.val_main_v18_apply,
    Cert.Reference22Ideal.Read.val_main_v17_apply, Cert.Reference22Ideal.Read.val_main_cst_5_apply, Cert.Reference22Ideal.Read.val_main_v16_apply,
    Cert.Reference22Ideal.Read.val_main_v15_apply, Cert.Reference22Ideal.Read.val_main_v14_apply, Cert.Reference22Ideal.Read.val_main_cst_4_apply,
    Cert.Reference22Ideal.Read.val_main_v13_apply, Cert.Reference22Ideal.Read.val_main_v12_apply, Cert.Reference22Ideal.Read.val_main_cst_3_apply, fst, snd]
  rfl

theorem frameP : Cert.quiescent_Kernel22 := fun m ρ _ => Cert.Kernel22.Gen.frame m ρ

theorem framePI : Cert.quiescent_Kernel22Ideal := fun m ρ _ => Cert.Kernel22Ideal.Gen.frame m ρ

theorem frameRI : Cert.quiescent_Reference22Ideal := fun m ρ _ =>
  (θ_run Cert.Reference22Ideal.defs _ _).mono (fun r h => ⟨fun c => (h c).2.2.2.2, sem_eq_zero_of_no_sems (by decide) r.2⟩)
    (Cert.Reference22Ideal.Value.run m ρ)

theorem equal : Cert.algebraic_Kernel22Ideal_Reference22Ideal := by
  intro m ρ m' ρ' _ hag
  refine ⟨_, _, _, _, Cert.Kernel22Ideal.Value.run m ρ, ?_⟩
  refine (θ_run Cert.Reference22Ideal.defs _ _).mono (fun r h c => ⟨?_, ?_, ?_, ?_, (h c).2.2.2.2⟩) (Cert.Reference22Ideal.Value.run m' ρ')
  · have e := hag c
    refine (((h c).1.trans (Cert.Reference22Ideal.Read.val_main_v0_eq (F := Ideal) _ _)).trans (grad _ _)).trans ?_
    exact congr (congrArg (G5 (F := Ideal)) e.2.1) e.2.2.1
  · have e := hag c
    refine (((h c).2.1.trans (Cert.Reference22Ideal.Read.val_main_v24_eq (F := Ideal) _ _ _ _ _)).trans (delta _ _ _ _ _)).trans ?_
    exact congr (congr (congr (congr (congrArg (G6 (F := Ideal)) e.2.1) e.2.2.1) e.1) e.2.2.2.1) e.2.2.2.2
  · have e := hag c
    refine (((h c).2.2.1.trans (Cert.Reference22Ideal.Read.val_main_v5_eq (F := Ideal) _ _ _)).trans (fst _ _ _)).trans ?_
    exact congr (congr (congrArg (G7 (F := Ideal)) e.2.1) e.2.2.1) e.2.2.2.1
  · have e := hag c
    refine (((h c).2.2.2.1.trans (Cert.Reference22Ideal.Read.val_main_v11_eq (F := Ideal) _ _ _)).trans (snd _ _ _)).trans ?_
    exact congr (congr (congrArg (G8 (F := Ideal)) e.2.1) e.2.2.1) e.2.2.2.2

end Cert.AdamOut
-- ==== Proof.AdamFfnUp.lean ====
module

public import proofs.«01_k».proof.Proof.Gen.Kernel23.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Mat
public import proofs.«01_k».proof.Defs
public import Idealize.ShloMosaic.Lib.Quiescent

@[expose] public section

/-! The optimiser's step on a shard of the block's first products. -/

set_option maxRecDepth 16384
noncomputable section

namespace Cert.AdamFfnUp
open Cert.Kernel23Ideal Cert.Kernel23Ideal.Gen Idealize.ShloMosaic Idealize.ShloMosaic.TcCoe Idealize.SL.Sem
open Cert.Kernel23Ideal.Value (G5 G6 G7 G8)

/-- The gradient's two parts added. -/
theorem grad (a b : S2048x1408.Idx → EReal) : Cert.Reference23Ideal.Read.val_main_v0 (F := Ideal) a b = G5 (F := Ideal) a b := rfl

/-- The first moment. -/
theorem fst (a b mo : S2048x1408.Idx → EReal) : Cert.Reference23Ideal.Read.val_main_v5 (F := Ideal) a b mo = G7 (F := Ideal) a b mo := by
  funext i
  simp only [Cert.Reference23Ideal.Read.val_main_v5_apply, Cert.Reference23Ideal.Read.val_main_v4_apply, Cert.Reference23Ideal.Read.val_main_v3_apply,
    Cert.Reference23Ideal.Read.val_main_cst_0_apply, Cert.Reference23Ideal.Read.val_main_v2_apply, Cert.Reference23Ideal.Read.val_main_v1_apply,
    Cert.Reference23Ideal.Read.val_main_cst_apply, grad]

/-- The second moment. -/
theorem snd (a b mo : S2048x1408.Idx → EReal) : Cert.Reference23Ideal.Read.val_main_v11 (F := Ideal) a b mo = G8 (F := Ideal) a b mo := by
  funext i
  simp only [Cert.Reference23Ideal.Read.val_main_v11_apply, Cert.Reference23Ideal.Read.val_main_v10_apply, Cert.Reference23Ideal.Read.val_main_v9_apply,
    Cert.Reference23Ideal.Read.val_main_cst_2_apply, Cert.Reference23Ideal.Read.val_main_v8_apply, Cert.Reference23Ideal.Read.val_main_v7_apply,
    Cert.Reference23Ideal.Read.val_main_v6_apply, Cert.Reference23Ideal.Read.val_main_cst_1_apply, grad]

/-- The change of the weight. -/
theorem delta (w a b mo ve : S2048x1408.Idx → EReal) :
    Cert.Reference23Ideal.Read.val_main_v24 (F := Ideal) w a b mo ve = G6 (F := Ideal) a b w mo ve := by
  funext i
  simp only [Cert.Reference23Ideal.Read.val_main_v24_apply, Cert.Reference23Ideal.Read.val_main_v23_apply, Cert.Reference23Ideal.Read.val_main_cst_7_apply,
    Cert.Reference23Ideal.Read.val_main_v22_apply, Cert.Reference23Ideal.Read.val_main_v21_apply, Cert.Reference23Ideal.Read.val_main_v20_apply,
    Cert.Reference23Ideal.Read.val_main_cst_6_apply, Cert.Reference23Ideal.Read.val_main_v19_apply, Cert.Reference23Ideal.Read.val_main_v18_apply,
    Cert.Reference23Ideal.Read.val_main_v17_apply, Cert.Reference23Ideal.Read.val_main_cst_5_apply, Cert.Reference23Ideal.Read.val_main_v16_apply,
    Cert.Reference23Ideal.Read.val_main_v15_apply, Cert.Reference23Ideal.Read.val_main_v14_apply, Cert.Reference23Ideal.Read.val_main_cst_4_apply,
    Cert.Reference23Ideal.Read.val_main_v13_apply, Cert.Reference23Ideal.Read.val_main_v12_apply, Cert.Reference23Ideal.Read.val_main_cst_3_apply, fst, snd]
  rfl

theorem frameP : Cert.quiescent_Kernel23 := fun m ρ _ => Cert.Kernel23.Gen.frame m ρ

theorem framePI : Cert.quiescent_Kernel23Ideal := fun m ρ _ => Cert.Kernel23Ideal.Gen.frame m ρ

theorem frameRI : Cert.quiescent_Reference23Ideal := fun m ρ _ =>
  (θ_run Cert.Reference23Ideal.defs _ _).mono (fun r h => ⟨fun c => (h c).2.2.2.2, sem_eq_zero_of_no_sems (by decide) r.2⟩)
    (Cert.Reference23Ideal.Value.run m ρ)

theorem equal : Cert.algebraic_Kernel23Ideal_Reference23Ideal := by
  intro m ρ m' ρ' _ hag
  refine ⟨_, _, _, _, Cert.Kernel23Ideal.Value.run m ρ, ?_⟩
  refine (θ_run Cert.Reference23Ideal.defs _ _).mono (fun r h c => ⟨?_, ?_, ?_, ?_, (h c).2.2.2.2⟩) (Cert.Reference23Ideal.Value.run m' ρ')
  · have e := hag c
    refine (((h c).1.trans (Cert.Reference23Ideal.Read.val_main_v0_eq (F := Ideal) _ _)).trans (grad _ _)).trans ?_
    exact congr (congrArg (G5 (F := Ideal)) e.2.1) e.2.2.1
  · have e := hag c
    refine (((h c).2.1.trans (Cert.Reference23Ideal.Read.val_main_v24_eq (F := Ideal) _ _ _ _ _)).trans (delta _ _ _ _ _)).trans ?_
    exact congr (congr (congr (congr (congrArg (G6 (F := Ideal)) e.2.1) e.2.2.1) e.1) e.2.2.2.1) e.2.2.2.2
  · have e := hag c
    refine (((h c).2.2.1.trans (Cert.Reference23Ideal.Read.val_main_v5_eq (F := Ideal) _ _ _)).trans (fst _ _ _)).trans ?_
    exact congr (congr (congrArg (G7 (F := Ideal)) e.2.1) e.2.2.1) e.2.2.2.1
  · have e := hag c
    refine (((h c).2.2.2.1.trans (Cert.Reference23Ideal.Read.val_main_v11_eq (F := Ideal) _ _ _)).trans (snd _ _ _)).trans ?_
    exact congr (congr (congrArg (G8 (F := Ideal)) e.2.1) e.2.2.1) e.2.2.2.2

end Cert.AdamFfnUp
-- ==== Proof.AdamFfnDown.lean ====
module

public import proofs.«01_k».proof.Proof.Gen.Kernel24.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Mat
public import proofs.«01_k».proof.Defs
public import Idealize.ShloMosaic.Lib.Quiescent

@[expose] public section

/-! The optimiser's step on the shard of the down projection. -/

set_option maxRecDepth 16384
noncomputable section

namespace Cert.AdamFfnDown
open Cert.Kernel24Ideal Cert.Kernel24Ideal.Gen Idealize.ShloMosaic Idealize.ShloMosaic.TcCoe Idealize.SL.Sem
open Cert.Kernel24Ideal.Value (G5 G6 G7 G8)

/-- The gradient's two parts added. -/
theorem grad (a b : S1408x2048.Idx → EReal) : Cert.Reference24Ideal.Read.val_main_v0 (F := Ideal) a b = G5 (F := Ideal) a b := rfl

/-- The first moment. -/
theorem fst (a b mo : S1408x2048.Idx → EReal) : Cert.Reference24Ideal.Read.val_main_v5 (F := Ideal) a b mo = G7 (F := Ideal) a b mo := by
  funext i
  simp only [Cert.Reference24Ideal.Read.val_main_v5_apply, Cert.Reference24Ideal.Read.val_main_v4_apply, Cert.Reference24Ideal.Read.val_main_v3_apply,
    Cert.Reference24Ideal.Read.val_main_cst_0_apply, Cert.Reference24Ideal.Read.val_main_v2_apply, Cert.Reference24Ideal.Read.val_main_v1_apply,
    Cert.Reference24Ideal.Read.val_main_cst_apply, grad]

/-- The second moment. -/
theorem snd (a b mo : S1408x2048.Idx → EReal) : Cert.Reference24Ideal.Read.val_main_v11 (F := Ideal) a b mo = G8 (F := Ideal) a b mo := by
  funext i
  simp only [Cert.Reference24Ideal.Read.val_main_v11_apply, Cert.Reference24Ideal.Read.val_main_v10_apply, Cert.Reference24Ideal.Read.val_main_v9_apply,
    Cert.Reference24Ideal.Read.val_main_cst_2_apply, Cert.Reference24Ideal.Read.val_main_v8_apply, Cert.Reference24Ideal.Read.val_main_v7_apply,
    Cert.Reference24Ideal.Read.val_main_v6_apply, Cert.Reference24Ideal.Read.val_main_cst_1_apply, grad]

/-- The change of the weight. -/
theorem delta (w a b mo ve : S1408x2048.Idx → EReal) :
    Cert.Reference24Ideal.Read.val_main_v24 (F := Ideal) w a b mo ve = G6 (F := Ideal) a b w mo ve := by
  funext i
  simp only [Cert.Reference24Ideal.Read.val_main_v24_apply, Cert.Reference24Ideal.Read.val_main_v23_apply, Cert.Reference24Ideal.Read.val_main_cst_7_apply,
    Cert.Reference24Ideal.Read.val_main_v22_apply, Cert.Reference24Ideal.Read.val_main_v21_apply, Cert.Reference24Ideal.Read.val_main_v20_apply,
    Cert.Reference24Ideal.Read.val_main_cst_6_apply, Cert.Reference24Ideal.Read.val_main_v19_apply, Cert.Reference24Ideal.Read.val_main_v18_apply,
    Cert.Reference24Ideal.Read.val_main_v17_apply, Cert.Reference24Ideal.Read.val_main_cst_5_apply, Cert.Reference24Ideal.Read.val_main_v16_apply,
    Cert.Reference24Ideal.Read.val_main_v15_apply, Cert.Reference24Ideal.Read.val_main_v14_apply, Cert.Reference24Ideal.Read.val_main_cst_4_apply,
    Cert.Reference24Ideal.Read.val_main_v13_apply, Cert.Reference24Ideal.Read.val_main_v12_apply, Cert.Reference24Ideal.Read.val_main_cst_3_apply, fst, snd]
  rfl

theorem frameP : Cert.quiescent_Kernel24 := fun m ρ _ => Cert.Kernel24.Gen.frame m ρ

theorem framePI : Cert.quiescent_Kernel24Ideal := fun m ρ _ => Cert.Kernel24Ideal.Gen.frame m ρ

theorem frameRI : Cert.quiescent_Reference24Ideal := fun m ρ _ =>
  (θ_run Cert.Reference24Ideal.defs _ _).mono (fun r h => ⟨fun c => (h c).2.2.2.2, sem_eq_zero_of_no_sems (by decide) r.2⟩)
    (Cert.Reference24Ideal.Value.run m ρ)

theorem equal : Cert.algebraic_Kernel24Ideal_Reference24Ideal := by
  intro m ρ m' ρ' _ hag
  refine ⟨_, _, _, _, Cert.Kernel24Ideal.Value.run m ρ, ?_⟩
  refine (θ_run Cert.Reference24Ideal.defs _ _).mono (fun r h c => ⟨?_, ?_, ?_, ?_, (h c).2.2.2.2⟩) (Cert.Reference24Ideal.Value.run m' ρ')
  · have e := hag c
    refine (((h c).1.trans (Cert.Reference24Ideal.Read.val_main_v0_eq (F := Ideal) _ _)).trans (grad _ _)).trans ?_
    exact congr (congrArg (G5 (F := Ideal)) e.2.1) e.2.2.1
  · have e := hag c
    refine (((h c).2.1.trans (Cert.Reference24Ideal.Read.val_main_v24_eq (F := Ideal) _ _ _ _ _)).trans (delta _ _ _ _ _)).trans ?_
    exact congr (congr (congr (congr (congrArg (G6 (F := Ideal)) e.2.1) e.2.2.1) e.1) e.2.2.2.1) e.2.2.2.2
  · have e := hag c
    refine (((h c).2.2.1.trans (Cert.Reference24Ideal.Read.val_main_v5_eq (F := Ideal) _ _ _)).trans (fst _ _ _)).trans ?_
    exact congr (congr (congrArg (G7 (F := Ideal)) e.2.1) e.2.2.1) e.2.2.2.1
  · have e := hag c
    refine (((h c).2.2.2.1.trans (Cert.Reference24Ideal.Read.val_main_v11_eq (F := Ideal) _ _ _)).trans (snd _ _ _)).trans ?_
    exact congr (congr (congrArg (G8 (F := Ideal)) e.2.1) e.2.2.1) e.2.2.2.2

end Cert.AdamFfnDown
-- ==== Proof.AdamSmall.lean ====
module

public import proofs.«01_k».proof.Proof.Gen.Kernel25.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Mat
public import proofs.«01_k».proof.Defs
public import Idealize.ShloMosaic.Lib.Quiescent

@[expose] public section

/-! The optimiser's step on the small weights, packed into one array, with the sum of the devices' gradients. -/

set_option maxRecDepth 16384
noncomputable section

namespace Cert.AdamSmall
open Cert.Kernel25Ideal Cert.Kernel25Ideal.Gen Idealize.ShloMosaic Idealize.ShloMosaic.TcCoe Idealize.SL.Sem
open Cert.Kernel25Ideal.Value (G4 G5 G6 G7)
open scoped BigOperators

/-- One device's part as a matrix. -/
theorem part (y : Vec Ideal S1x2192x128 .f32) (i : Fin 2192) (j : Fin 128) :
    shapeCast S2192x128 y shapeCasts_S1x2192x128_S2192x128 (ix2 i j) = y (ix3 0 i j) :=
  shapeCast_apply y shapeCasts_S1x2192x128_S2192x128 (ix2 i j) (ix3 0 i j)
    (by rewrite [Shape.rowMajor_val_three, Shape.rowMajor_val_two]; show (0 * 2192 + i.val) * 128 + j.val = i.val * 128 + j.val; omega)

/-- The reference's place of a part's entry. -/
theorem place (i : Fin 2192) (j : Fin 128) (k : Fin 8) : Cert.Reference25Ideal.Read.idx_main_v0 (ix2 i j) k = ix3 k i j := funext fun a => match a with
  | ⟨0, _⟩ => rfl
  | ⟨1, _⟩ => rfl
  | ⟨2, _⟩ => rfl

/-- The eight devices' parts added. -/
theorem grad (w : S2192x128.Idx → EReal) (a : S8x2192x128.Idx → EReal) (mo ve : S2192x128.Idx → EReal) :
    Cert.Reference25Ideal.Read.val_main_v0 (F := Ideal) a = G4 (F := Ideal) w a mo ve := by
  funext y
  obtain ⟨i, j, rfl⟩ := Mat.eta y
  rw [Cert.Reference25Ideal.Read.val_main_v0_apply, Cert.Reference25Ideal.Read.val_main_cst_apply]
  simp only [place, Fin.sum_univ_eight]
  have z : (FloatOps.ofBits (F := Ideal) .f32 0x00000000#32 : EReal) = 0 := Ideal.ofBits_zero_f32
  rw [z, zero_add]
  unfold G4 k0_pay4
  simp only [addf_apply]
  have e (o : Fin 3 → ℕ) (h) (k : Fin 8) (ho : o = ![k.val, 0, 0]) :
      (Rect.unit (s := S8x2192x128) o S1x2192x128.size h).idx (ix3 0 i j) = ix3 k i j := by
    subst ho
    funext a; apply Fin.ext
    match a with
    | ⟨0, _⟩ => show k.val + 1 * 0 = k.val; omega
    | ⟨1, _⟩ => show 0 + 1 * i.val = i.val; omega
    | ⟨2, _⟩ => show 0 + 1 * j.val = j.val; omega
  have l (o : Fin 3 → ℕ) (h) (k : Fin 8) (ho : o = ![k.val, 0, 0]) :
      a (ix3 k i j) = shapeCast S2192x128 (View.ld (Val := Elt Ideal) (e' := .f32) a (Rect.unit (s := S8x2192x128) o S1x2192x128.size h)) shapeCasts_S1x2192x128_S2192x128 (ix2 i j) :=
    (congrArg a (e o h k ho)).symm.trans
      (part (View.ld (Val := Elt Ideal) (e' := .f32) a (Rect.unit (s := S8x2192x128) o S1x2192x128.size h)) i j).symm
  exact (congrArg₂ (· + ·) (congrArg₂ (· + ·) (congrArg₂ (· + ·) (congrArg₂ (· + ·) (congrArg₂ (· + ·) (congrArg₂ (· + ·) (congrArg₂ (· + ·) (l _ _ 0 rfl) (l _ _ 1 rfl)) (l _ _ 2 rfl)) (l _ _ 3 rfl)) (l _ _ 4 rfl)) (l _ _ 5 rfl)) (l _ _ 6 rfl)) (l _ _ 7 rfl))

/-- The first moment. -/
theorem fst (w : S2192x128.Idx → EReal) (a : S8x2192x128.Idx → EReal) (mo ve : S2192x128.Idx → EReal) :
    Cert.Reference25Ideal.Read.val_main_v5 (F := Ideal) a mo = G6 (F := Ideal) w a mo ve := by
  funext i
  simp only [Cert.Reference25Ideal.Read.val_main_v5_apply, Cert.Reference25Ideal.Read.val_main_v4_apply, Cert.Reference25Ideal.Read.val_main_v3_apply, Cert.Reference25Ideal.Read.val_main_cst_1_apply, Cert.Reference25Ideal.Read.val_main_v2_apply, Cert.Reference25Ideal.Read.val_main_v1_apply, Cert.Reference25Ideal.Read.val_main_cst_0_apply, grad w a mo ve]
  rfl

/-- The second moment. -/
theorem snd (w : S2192x128.Idx → EReal) (a : S8x2192x128.Idx → EReal) (mo ve : S2192x128.Idx → EReal) :
    Cert.Reference25Ideal.Read.val_main_v11 (F := Ideal) a ve = G7 (F := Ideal) w a mo ve := by
  funext i
  simp only [Cert.Reference25Ideal.Read.val_main_v11_apply, Cert.Reference25Ideal.Read.val_main_v10_apply, Cert.Reference25Ideal.Read.val_main_v9_apply, Cert.Reference25Ideal.Read.val_main_cst_3_apply, Cert.Reference25Ideal.Read.val_main_v8_apply, Cert.Reference25Ideal.Read.val_main_v7_apply, Cert.Reference25Ideal.Read.val_main_v6_apply, Cert.Reference25Ideal.Read.val_main_cst_2_apply, grad w a mo ve]
  rfl

/-- The change of the weight. -/
theorem delta (w : S2192x128.Idx → EReal) (a : S8x2192x128.Idx → EReal) (mo ve : S2192x128.Idx → EReal) :
    Cert.Reference25Ideal.Read.val_main_v24 (F := Ideal) w a mo ve = G5 (F := Ideal) w a mo ve := by
  funext i
  simp only [Cert.Reference25Ideal.Read.val_main_v24_apply, Cert.Reference25Ideal.Read.val_main_v23_apply, Cert.Reference25Ideal.Read.val_main_cst_8_apply, Cert.Reference25Ideal.Read.val_main_v22_apply, Cert.Reference25Ideal.Read.val_main_v21_apply, Cert.Reference25Ideal.Read.val_main_v20_apply, Cert.Reference25Ideal.Read.val_main_cst_7_apply, Cert.Reference25Ideal.Read.val_main_v19_apply, Cert.Reference25Ideal.Read.val_main_v18_apply, Cert.Reference25Ideal.Read.val_main_v17_apply, Cert.Reference25Ideal.Read.val_main_cst_6_apply, Cert.Reference25Ideal.Read.val_main_v16_apply, Cert.Reference25Ideal.Read.val_main_v15_apply, Cert.Reference25Ideal.Read.val_main_v14_apply, Cert.Reference25Ideal.Read.val_main_cst_5_apply, Cert.Reference25Ideal.Read.val_main_v13_apply, Cert.Reference25Ideal.Read.val_main_v12_apply, Cert.Reference25Ideal.Read.val_main_cst_4_apply,
    fst w a mo ve, snd w a mo ve]
  rfl

theorem frameP : Cert.quiescent_Kernel25 := fun m ρ _ => Cert.Kernel25.Gen.frame m ρ

theorem framePI : Cert.quiescent_Kernel25Ideal := fun m ρ _ => Cert.Kernel25Ideal.Gen.frame m ρ

theorem frameRI : Cert.quiescent_Reference25Ideal := fun m ρ _ =>
  (θ_run Cert.Reference25Ideal.defs _ _).mono (fun r h => ⟨fun c => (h c).2.2.2.2, sem_eq_zero_of_no_sems (by decide) r.2⟩)
    (Cert.Reference25Ideal.Value.run m ρ)

theorem equal : Cert.algebraic_Kernel25Ideal_Reference25Ideal := by
  intro m ρ m' ρ' _ hag
  refine ⟨_, _, _, _, Cert.Kernel25Ideal.Value.run m ρ, ?_⟩
  refine (θ_run Cert.Reference25Ideal.defs _ _).mono (fun r h c => ⟨?_, ?_, ?_, ?_, (h c).2.2.2.2⟩) (Cert.Reference25Ideal.Value.run m' ρ')
  · have e := hag c
    refine (((h c).1.trans (Cert.Reference25Ideal.Read.val_main_v0_eq (F := Ideal) _)).trans (grad (m' ((c : Thread nD τ).loc Cert.Reference25Ideal.main_arg0)) _ (m' ((c : Thread nD τ).loc Cert.Reference25Ideal.main_arg2)) (m' ((c : Thread nD τ).loc Cert.Reference25Ideal.main_arg3)))).trans ?_
    exact congr (congr (congr (congrArg (G4 (F := Ideal)) e.1) e.2.1) e.2.2.1) e.2.2.2
  · have e := hag c
    refine (((h c).2.1.trans (Cert.Reference25Ideal.Read.val_main_v24_eq (F := Ideal) _ _ _ _)).trans (delta (m' ((c : Thread nD τ).loc Cert.Reference25Ideal.main_arg0)) _ (m' ((c : Thread nD τ).loc Cert.Reference25Ideal.main_arg2)) (m' ((c : Thread nD τ).loc Cert.Reference25Ideal.main_arg3)))).trans ?_
    exact congr (congr (congr (congrArg (G5 (F := Ideal)) e.1) e.2.1) e.2.2.1) e.2.2.2
  · have e := hag c
    refine (((h c).2.2.1.trans (Cert.Reference25Ideal.Read.val_main_v5_eq (F := Ideal) _ _)).trans (fst (m' ((c : Thread nD τ).loc Cert.Reference25Ideal.main_arg0)) _ (m' ((c : Thread nD τ).loc Cert.Reference25Ideal.main_arg2)) (m' ((c : Thread nD τ).loc Cert.Reference25Ideal.main_arg3)))).trans ?_
    exact congr (congr (congr (congrArg (G6 (F := Ideal)) e.1) e.2.1) e.2.2.1) e.2.2.2
  · have e := hag c
    refine (((h c).2.2.2.1.trans (Cert.Reference25Ideal.Read.val_main_v11_eq (F := Ideal) _ _)).trans (snd (m' ((c : Thread nD τ).loc Cert.Reference25Ideal.main_arg0)) _ (m' ((c : Thread nD τ).loc Cert.Reference25Ideal.main_arg2)) (m' ((c : Thread nD τ).loc Cert.Reference25Ideal.main_arg3)))).trans ?_
    exact congr (congr (congr (congrArg (G7 (F := Ideal)) e.1) e.2.1) e.2.2.1) e.2.2.2

end Cert.AdamSmall
-- ==== Proof.NormIn.lean ====
module

public import proofs.«01_k».proof.Proof.Gen.Kernel26.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Mat
public import proofs.«01_k».proof.Defs
public import Idealize.ShloMosaic.Lib.Quiescent
public import Idealize.ShloMosaic.Lib.StableHlo.ReadAt
public import Idealize.ShloMosaic.Lib.StableHlo.RunRead

@[expose] public section

/-! The norm before the mixer. -/

set_option maxRecDepth 16384
noncomputable section

namespace Cert.NormIn
open Cert.Kernel26Ideal Cert.Kernel26Ideal.Gen Idealize.ShloMosaic Idealize.ShloMosaic.TcCoe Idealize.SL.Sem
open Idealize.ShloMosaic.Pipeline (Dat)
open scoped BigOperators

/-- The inverse root of a row's mean square. -/
def scale (f : Fin 2048 → EReal) : EReal :=
  FloatOps.rsqrt (F := Ideal) (φ := .f32) (FloatOps.addf (F := Ideal) (φ := .f32)
    (FloatOps.divf (F := Ideal) (φ := .f32) (∑ k, f k * f k) (Scalar.ofBits (F := Ideal) .f32 0x45000000#32)) (Scalar.ofBits (F := Ideal) .f32 0x358637BD#32))

/-- A row's entry, normed and weighted. -/
def normed (f w : Fin 2048 → EReal) (j : Fin 2048) : EReal := f j * scale f * w j

/-- The block written at a grid point. -/
theorem block (x0 : FVec Ideal S256x2048 .f32) (x1 : FVec Ideal S1x2048 .f32) (i : Fin 256) (j : Fin 2048) :
    out0_2 (F := Ideal) x0 x1 (ix2 i j) = normed (fun k => x0 (ix2 i k)) (fun k => x1 (ix2 0 k)) j := by
  unfold out0_2
  rw [View.canon_unit_zero Mat.hz]
  unfold k0_pay1
  simp only [View.ld_unit_zero (S := S256x2048) Mat.hz, View.ld_unit_zero (S := S1x2048) Mat.hz]
  pointwise
  rfl

variable (m : (ℓ : Loc nD τ sig) → Buf (Elt Ideal) ℓ) (c : Dev nD)

/-- The activations. -/
abbrev act : S8192x2048.Idx → EReal := m ((c : Thread nD τ).loc main_arg0)
/-- The weights of the norm. -/
abbrev wt : S1x2048.Idx → EReal := m ((c : Thread nD τ).loc main_arg1)

/-- The row block of a grid point. -/
def rb (t : Fin cfg0.N) : Fin 32 := ⟨(grid0.coords t 0).val, (grid0.coords t 0).isLt⟩

theorem q0 : ∀ t : Fin cfg0.N, win0_0.index t = ![(rb t).val, 0] :=
  (by decide +kernel : ∀ t : Fin grid0.N, win0_0.index t = ![(rb t).val, 0])

theorem q1 : ∀ t : Fin cfg0.N, win0_1.index t = ![0, 0] :=
  (by decide +kernel : ∀ t : Fin grid0.N, win0_1.index t = ![0, 0])

theorem q2 : ∀ t : Fin cfg0.N, win0_2.index t = ![(rb t).val, 0] :=
  (by decide +kernel : ∀ t : Fin grid0.N, win0_2.index t = ![(rb t).val, 0])

/-- Row `i` of row block `a`. -/
def row (a : Fin 32) (i : Fin 256) : Fin 8192 := ⟨a.val * 256 + i.val, by omega⟩

theorem x0 (t : Fin cfg0.N) (i : Fin 256) (k : Fin 2048) : iblk m c 0 t (ix2 i k) = act m c (ix2 (row (rb t) i) k) := by
  have e : iblk m c 0 t (ix2 i k) = V m c main_arg0 (ix2 (row (rb t) i) k) := by
    blk_ext [iblk, q0 t, row]
  rw [e, V_main_arg0]

theorem x1 (t : Fin cfg0.N) (k : Fin 2048) : iblk m c 1 t (ix2 (0 : Fin 1) k) = wt m c (ix2 (0 : Fin 1) k) := by
  have e : iblk m c 1 t (ix2 (0 : Fin 1) k) = V m c main_arg1 (ix2 (0 : Fin 1) k) := by
    blk_ext [iblk, q1 t]
  rw [e, V_main_arg1]

open Cert.Reference26Ideal.Read in
/-- The reference's result at an entry. -/
theorem ref (a : S8192x2048.Idx → EReal) (w : S1x2048.Idx → EReal) (i : Fin 8192) (j : Fin 2048) :
    val_main_v14 (F := Ideal) a w (ix2 i j) = normed (fun k => a (ix2 i k)) (fun k => w (ix2 0 k)) j := by
  have s : idx_main_v3 (idx_main_v9 (ix2 i j)) = (ix1 i : Cert.Reference26Ideal.S8192.Idx) := funext fun a => match a with
    | ⟨0, _⟩ => rfl
  have p (k : Fin 2048) : idx_main_v2 (ix1 i) k = ix2 i k := funext fun a => match a with
    | ⟨0, _⟩ => rfl
    | ⟨1, _⟩ => rfl
  have q : idx_main_v0 (idx_main_v11 (idx_main_v12 (ix2 i j))) = ix2 (0 : Fin 1) j := funext fun a => match a with
    | ⟨0, _⟩ => rfl
    | ⟨1, _⟩ => Fin.ext (Nat.mod_eq_of_lt j.isLt)
  have z : (FloatOps.ofBits (F := Ideal) .f32 0x00000000#32 : EReal) = 0 := Ideal.ofBits_zero_f32
  simp only [val_main_v14_apply, val_main_v13_apply, val_main_v12_apply, val_main_v11_apply, val_main_v0_apply, val_main_v10_apply, val_main_v9_apply,
    val_main_v8_apply, val_main_v7_apply, val_main_v6_apply, val_main_cst_1_apply, val_main_v5_apply, val_main_v4_apply, val_main_cst_0_apply,
    val_main_v3_apply, s, q]
  rw [val_main_v2_apply, val_main_cst_apply, z, zero_add]
  simp only [p, val_main_v1_apply]
  rfl

/-- What a grid point writes is the reference's result there. -/
theorem point (t : Fin cfg0.N) (y : S256x2048.Idx) (j : S8192x2048.Idx) (h0 : (j 0).val = (rb t).val * 256 + (y 0).val)
    (h1 : (j 1).val = (y 1).val) :
    out0_2 (iblk m c 0 t) (iblk m c 1 t) y = Cert.Reference26Ideal.Read.val_main_v14 (F := Ideal) (act m c) (wt m c) j := by
  obtain ⟨p, q, rfl⟩ := Mat.eta y
  have ej : j = ix2 (row (rb t) p) q := funext fun a => match a with
    | ⟨0, _⟩ => Fin.ext h0
    | ⟨1, _⟩ => Fin.ext h1
  rw [ej, block, ref]
  exact congrArg₂ (fun f w => normed f w q) (funext fun k => x0 m c t _ k) (funext fun k => x1 m c t k)

/-- The final array. -/
theorem final : (dats m 0 c).arrAt 2 cfg0.N = Cert.Reference26Ideal.Read.val_main_v14 (F := Ideal) (act m c) (wt m c) := by
  refine (dats m 0 c).arrAt_eq_of_covers 2 _ (by decide +kernel) fun t hf y => ?_
  blk_simp
  rw [after0_2]
  refine point m c t y _ ?_ ?_
  · blk_simp [q2 t]
  · blk_simp [q2 t]

theorem frameP : Cert.quiescent_Kernel26 := fun m ρ _ => Cert.Kernel26.Gen.frame m ρ

theorem framePI : Cert.quiescent_Kernel26Ideal := fun m ρ _ => Cert.Kernel26Ideal.Gen.frame m ρ

theorem frameRI : Cert.quiescent_Reference26Ideal := fun m ρ _ =>
  (θ_run Cert.Reference26Ideal.defs _ _).mono (fun r h => ⟨fun c => (h c).2, sem_eq_zero_of_no_sems (by decide) r.2⟩)
    (Cert.Reference26Ideal.Value.run m ρ)

theorem equal : Cert.algebraic_Kernel26Ideal_Reference26Ideal := by
  intro m ρ m' ρ' _ hag
  refine ⟨fun c => Cert.Reference26Ideal.Read.val_main_v14 (F := Ideal) (act m c) (wt m c), ?_, ?_⟩
  · exact (θ_run Cert.Kernel26Ideal.defs _ _).mono (fun r h c => ⟨(h c).1.trans (final m c), (h c).2⟩)
      (Cert.Kernel26Ideal.Value.run_blocks m ρ)
  · refine (θ_run Cert.Reference26Ideal.defs _ _).mono (fun r h c => ⟨?_, (h c).2⟩) (Cert.Reference26Ideal.Value.run m' ρ')
    have e := hag c
    refine ((h c).1.trans (Cert.Reference26Ideal.Read.val_main_v14_eq (F := Ideal) _ _)).trans ?_
    exact congr (congrArg (Cert.Reference26Ideal.Read.val_main_v14 (F := Ideal)) e.1) e.2

end Cert.NormIn
-- ==== Proof.NormMid.lean ====
module

public import proofs.«01_k».proof.Proof.Gen.Kernel27.Frame
public import proofs.«01_k».proof.Proof.Gen.Kernel27Ideal.Value
public import proofs.«01_k».proof.Proof.Gen.Reference27Ideal.Run
public import proofs.«01_k».proof.Proof.Gen.Reference27Ideal.Read
public import proofs.«01_k».proof.Proof.NormIn
public import proofs.«01_k».proof.Defs
public import Idealize.ShloMosaic.Lib.Quiescent
public import Idealize.ShloMosaic.Lib.StableHlo.ReadAt
public import Idealize.ShloMosaic.Lib.StableHlo.RunRead

@[expose] public section

/-! The norm of the mixer's output, its sum with the residual stream, and the norm before the feed-forward block. -/

set_option maxRecDepth 16384
noncomputable section

namespace Cert.NormMid
open Cert.Kernel27Ideal Cert.Kernel27Ideal.Gen Idealize.ShloMosaic Idealize.ShloMosaic.TcCoe Idealize.SL.Sem
open Idealize.ShloMosaic.Pipeline (Dat)
open Cert.NormIn (normed)
open scoped BigOperators

/-- The sum of the two streams at an entry. -/
def mixed (f g w : Fin 2048 → EReal) (j : Fin 2048) : EReal := f j + normed g w j

/-- A block of the sum. -/
theorem added (x0 x1 : FVec Ideal S512x2048 .f32) (x2 : FVec Ideal S1x2048 .f32) (i : Fin 512) (j : Fin 2048) :
    k0_pay1 (F := Ideal) x0 x1 x2 (ix2 i j) = mixed (fun k => x0 (ix2 i k)) (fun k => x1 (ix2 i k)) (fun k => x2 (ix2 0 k)) j := by
  unfold k0_pay1
  pointwise
  rfl

/-- The block of the sum written at a grid point. -/
theorem block4 (x0 x1 : FVec Ideal S512x2048 .f32) (x2 x3 : FVec Ideal S1x2048 .f32) (i : Fin 512) (j : Fin 2048) :
    out0_4 (F := Ideal) x0 x1 x2 x3 (ix2 i j) = mixed (fun k => x0 (ix2 i k)) (fun k => x1 (ix2 i k)) (fun k => x2 (ix2 0 k)) j := by
  unfold out0_4
  rw [View.canon_unit_zero Mat.hz]
  simp only [View.ld_unit_zero (S := S512x2048) Mat.hz, View.ld_unit_zero (S := S1x2048) Mat.hz]
  exact added _ _ _ i j

/-- The block of the normed sum written at a grid point. -/
theorem block5 (x0 x1 : FVec Ideal S512x2048 .f32) (x2 x3 : FVec Ideal S1x2048 .f32) (i : Fin 512) (j : Fin 2048) :
    out0_5 (F := Ideal) x0 x1 x2 x3 (ix2 i j)
      = normed (mixed (fun k => x0 (ix2 i k)) (fun k => x1 (ix2 i k)) (fun k => x2 (ix2 0 k))) (fun k => x3 (ix2 0 k)) j := by
  unfold out0_5
  rw [View.canon_unit_zero Mat.hz]
  simp only [View.ld_unit_zero (S := S512x2048) Mat.hz, View.ld_unit_zero (S := S1x2048) Mat.hz]
  have e := fun k => added x0 x1 x2 i k
  rw [← (funext e : (fun k => k0_pay1 (F := Ideal) x0 x1 x2 (ix2 i k)) = _)]
  unfold k0_pay2
  generalize k0_pay1 (F := Ideal) x0 x1 x2 = z
  pointwise
  rfl

variable (m : (ℓ : Loc nD τ sig) → Buf (Elt Ideal) ℓ) (c : Dev nD)

/-- The residual stream. -/
abbrev res : S8192x2048.Idx → EReal := m ((c : Thread nD τ).loc main_arg0)
/-- The mixer's output. -/
abbrev mix : S8192x2048.Idx → EReal := m ((c : Thread nD τ).loc main_arg1)
/-- The weights of the norm of the mixer's output. -/
abbrev wa : S1x2048.Idx → EReal := m ((c : Thread nD τ).loc main_arg2)
/-- The weights of the norm of the sum. -/
abbrev wb : S1x2048.Idx → EReal := m ((c : Thread nD τ).loc main_arg3)

/-- The row block of a grid point. -/
def rb (t : Fin cfg0.N) : Fin 16 := ⟨(grid0.coords t 0).val, (grid0.coords t 0).isLt⟩

/-- Row `i` of row block `a`. -/
def row (a : Fin 16) (i : Fin 512) : Fin 8192 := ⟨a.val * 512 + i.val, by omega⟩

theorem q0 : ∀ t : Fin cfg0.N, win0_0.index t = ![(rb t).val, 0] :=
  (by decide +kernel : ∀ t : Fin grid0.N, win0_0.index t = ![(rb t).val, 0])

theorem q1 : ∀ t : Fin cfg0.N, win0_1.index t = ![(rb t).val, 0] :=
  (by decide +kernel : ∀ t : Fin grid0.N, win0_1.index t = ![(rb t).val, 0])

theorem q2 : ∀ t : Fin cfg0.N, win0_2.index t = ![0, 0] :=
  (by decide +kernel : ∀ t : Fin grid0.N, win0_2.index t = ![0, 0])

theorem q3 : ∀ t : Fin cfg0.N, win0_3.index t = ![0, 0] :=
  (by decide +kernel : ∀ t : Fin grid0.N, win0_3.index t = ![0, 0])

theorem q4 : ∀ t : Fin cfg0.N, win0_4.index t = ![(rb t).val, 0] :=
  (by decide +kernel : ∀ t : Fin grid0.N, win0_4.index t = ![(rb t).val, 0])

theorem q5 : ∀ t : Fin cfg0.N, win0_5.index t = ![(rb t).val, 0] :=
  (by decide +kernel : ∀ t : Fin grid0.N, win0_5.index t = ![(rb t).val, 0])

theorem x0 (t : Fin cfg0.N) (i : Fin 512) (k : Fin 2048) : iblk m c 0 t (ix2 i k) = res m c (ix2 (row (rb t) i) k) := by
  have e : iblk m c 0 t (ix2 i k) = V m c main_arg0 (ix2 (row (rb t) i) k) := by
    blk_ext [iblk, q0 t, row]
  rw [e, V_main_arg0]

theorem x1 (t : Fin cfg0.N) (i : Fin 512) (k : Fin 2048) : iblk m c 1 t (ix2 i k) = mix m c (ix2 (row (rb t) i) k) := by
  have e : iblk m c 1 t (ix2 i k) = V m c main_arg1 (ix2 (row (rb t) i) k) := by
    blk_ext [iblk, q1 t, row]
  rw [e, V_main_arg1]

theorem x2 (t : Fin cfg0.N) (k : Fin 2048) : iblk m c 2 t (ix2 (0 : Fin 1) k) = wa m c (ix2 (0 : Fin 1) k) := by
  have e : iblk m c 2 t (ix2 (0 : Fin 1) k) = V m c main_arg2 (ix2 (0 : Fin 1) k) := by
    blk_ext [iblk, q2 t]
  rw [e, V_main_arg2]

theorem x3 (t : Fin cfg0.N) (k : Fin 2048) : iblk m c 3 t (ix2 (0 : Fin 1) k) = wb m c (ix2 (0 : Fin 1) k) := by
  have e : iblk m c 3 t (ix2 (0 : Fin 1) k) = V m c main_arg3 (ix2 (0 : Fin 1) k) := by
    blk_ext [iblk, q3 t]
  rw [e, V_main_arg3]

open Cert.Reference27Ideal.Read in
/-- The reference's sum at an entry. -/
theorem ref4 (a b : S8192x2048.Idx → EReal) (w : S1x2048.Idx → EReal) (i : Fin 8192) (j : Fin 2048) :
    val_main_v14 (F := Ideal) a b w (ix2 i j) = mixed (fun k => a (ix2 i k)) (fun k => b (ix2 i k)) (fun k => w (ix2 0 k)) j := by
  have s : idx_main_v3 (idx_main_v9 (ix2 i j)) = (ix1 i : Cert.Reference27Ideal.S8192.Idx) := funext fun a => match a with
    | ⟨0, _⟩ => rfl
  have p (k : Fin 2048) : idx_main_v2 (ix1 i) k = ix2 i k := funext fun a => match a with
    | ⟨0, _⟩ => rfl
    | ⟨1, _⟩ => rfl
  have q : idx_main_v0 (idx_main_v11 (idx_main_v12 (ix2 i j))) = ix2 (0 : Fin 1) j := funext fun a => match a with
    | ⟨0, _⟩ => rfl
    | ⟨1, _⟩ => Fin.ext (Nat.mod_eq_of_lt j.isLt)
  have z : (FloatOps.ofBits (F := Ideal) .f32 0x00000000#32 : EReal) = 0 := Ideal.ofBits_zero_f32
  simp only [val_main_v14_apply, val_main_v13_apply, val_main_v12_apply, val_main_v11_apply, val_main_v0_apply, val_main_v10_apply, val_main_v9_apply, val_main_v8_apply, val_main_v7_apply, val_main_v6_apply, val_main_cst_1_apply, val_main_v5_apply, val_main_v4_apply, val_main_cst_0_apply, val_main_v3_apply, s, q]
  rw [val_main_v2_apply, val_main_cst_apply, z, zero_add]
  simp only [p, val_main_v1_apply]
  rfl

open Cert.Reference27Ideal.Read in
/-- The reference's normed sum at an entry. -/
theorem ref5 (a b : S8192x2048.Idx → EReal) (w v : S1x2048.Idx → EReal) (i : Fin 8192) (j : Fin 2048) :
    val_main_v29 (F := Ideal) a b w v (ix2 i j)
      = normed (mixed (fun k => a (ix2 i k)) (fun k => b (ix2 i k)) (fun k => w (ix2 0 k))) (fun k => v (ix2 0 k)) j := by
  have s : idx_main_v18 (idx_main_v24 (ix2 i j)) = (ix1 i : Cert.Reference27Ideal.S8192.Idx) := funext fun a => match a with
    | ⟨0, _⟩ => rfl
  have p (k : Fin 2048) : idx_main_v17 (ix1 i) k = ix2 i k := funext fun a => match a with
    | ⟨0, _⟩ => rfl
    | ⟨1, _⟩ => rfl
  have q : idx_main_v15 (idx_main_v26 (idx_main_v27 (ix2 i j))) = ix2 (0 : Fin 1) j := funext fun a => match a with
    | ⟨0, _⟩ => rfl
    | ⟨1, _⟩ => Fin.ext (Nat.mod_eq_of_lt j.isLt)
  have z : (FloatOps.ofBits (F := Ideal) .f32 0x00000000#32 : EReal) = 0 := Ideal.ofBits_zero_f32
  simp only [val_main_v29_apply, val_main_v28_apply, val_main_v27_apply, val_main_v26_apply, val_main_v15_apply, val_main_v25_apply, val_main_v24_apply, val_main_v23_apply, val_main_v22_apply, val_main_v21_apply, val_main_cst_4_apply, val_main_v20_apply, val_main_v19_apply, val_main_cst_3_apply, val_main_v18_apply, s, q]
  rw [val_main_v17_apply, val_main_cst_2_apply, z, zero_add]
  simp only [p, val_main_v16_apply, ref4]
  rfl

/-- The sum that a grid point writes is the reference's there. -/
theorem point4 (t : Fin cfg0.N) (y : S512x2048.Idx) (j : S8192x2048.Idx) (h0 : (j 0).val = (rb t).val * 512 + (y 0).val)
    (h1 : (j 1).val = (y 1).val) :
    out0_4 (iblk m c 0 t) (iblk m c 1 t) (iblk m c 2 t) (iblk m c 3 t) y
      = Cert.Reference27Ideal.Read.val_main_v14 (F := Ideal) (res m c) (mix m c) (wa m c) j := by
  obtain ⟨p, q, rfl⟩ := Mat.eta y
  have ej : j = ix2 (row (rb t) p) q := funext fun a => match a with
    | ⟨0, _⟩ => Fin.ext h0
    | ⟨1, _⟩ => Fin.ext h1
  rw [ej, block4, ref4]
  simp only [x0, x1, x2]

/-- The normed sum that a grid point writes is the reference's there. -/
theorem point5 (t : Fin cfg0.N) (y : S512x2048.Idx) (j : S8192x2048.Idx) (h0 : (j 0).val = (rb t).val * 512 + (y 0).val)
    (h1 : (j 1).val = (y 1).val) :
    out0_5 (iblk m c 0 t) (iblk m c 1 t) (iblk m c 2 t) (iblk m c 3 t) y
      = Cert.Reference27Ideal.Read.val_main_v29 (F := Ideal) (res m c) (mix m c) (wa m c) (wb m c) j := by
  obtain ⟨p, q, rfl⟩ := Mat.eta y
  have ej : j = ix2 (row (rb t) p) q := funext fun a => match a with
    | ⟨0, _⟩ => Fin.ext h0
    | ⟨1, _⟩ => Fin.ext h1
  rw [ej, block5, ref5]
  simp only [x0, x1, x2, x3]

/-- The final array of the sum. -/
theorem final4 : (dats m 0 c).arrAt 4 cfg0.N = Cert.Reference27Ideal.Read.val_main_v14 (F := Ideal) (res m c) (mix m c) (wa m c) := by
  refine (dats m 0 c).arrAt_eq_of_covers 4 _ (by decide +kernel) fun t hf y => ?_
  blk_simp
  rw [after0_4]
  refine point4 m c t y _ ?_ ?_
  · blk_simp [q4 t]
  · blk_simp [q4 t]

/-- The final array of the normed sum. -/
theorem final5 : (dats m 0 c).arrAt 5 cfg0.N = Cert.Reference27Ideal.Read.val_main_v29 (F := Ideal) (res m c) (mix m c) (wa m c) (wb m c) := by
  refine (dats m 0 c).arrAt_eq_of_covers 5 _ (by decide +kernel) fun t hf y => ?_
  blk_simp
  rw [after0_5]
  refine point5 m c t y _ ?_ ?_
  · blk_simp [q5 t]
  · blk_simp [q5 t]

theorem frameP : Cert.quiescent_Kernel27 := fun m ρ _ => Cert.Kernel27.Gen.frame m ρ

theorem framePI : Cert.quiescent_Kernel27Ideal := fun m ρ _ => Cert.Kernel27Ideal.Gen.frame m ρ

theorem frameRI : Cert.quiescent_Reference27Ideal := fun m ρ _ =>
  (θ_run Cert.Reference27Ideal.defs _ _).mono (fun r h => ⟨fun c => (h c).2.2, sem_eq_zero_of_no_sems (by decide) r.2⟩)
    (Cert.Reference27Ideal.Value.run m ρ)

theorem equal : Cert.algebraic_Kernel27Ideal_Reference27Ideal := by
  intro m ρ m' ρ' _ hag
  refine ⟨fun c => Cert.Reference27Ideal.Read.val_main_v14 (F := Ideal) (res m c) (mix m c) (wa m c),
    fun c => Cert.Reference27Ideal.Read.val_main_v29 (F := Ideal) (res m c) (mix m c) (wa m c) (wb m c), ?_, ?_⟩
  · exact (θ_run Cert.Kernel27Ideal.defs _ _).mono (fun r h c => ⟨(h c).1.trans (final4 m c), (h c).2.1.trans (final5 m c), (h c).2.2⟩)
      (Cert.Kernel27Ideal.Value.run_blocks m ρ)
  · refine (θ_run Cert.Reference27Ideal.defs _ _).mono (fun r h c => ⟨?_, ?_, (h c).2.2⟩) (Cert.Reference27Ideal.Value.run m' ρ')
    · have e := hag c
      refine ((h c).1.trans (Cert.Reference27Ideal.Read.val_main_v14_eq (F := Ideal) _ _ _)).trans ?_
      exact congr (congr (congrArg (Cert.Reference27Ideal.Read.val_main_v14 (F := Ideal)) e.1) e.2.1) e.2.2.1
    · have e := hag c
      refine ((h c).2.1.trans (Cert.Reference27Ideal.Read.val_main_v29_eq (F := Ideal) _ _ _ _)).trans ?_
      exact congr (congr (congr (congrArg (Cert.Reference27Ideal.Read.val_main_v29 (F := Ideal)) e.1) e.2.1) e.2.2.1) e.2.2.2

end Cert.NormMid
-- ==== Proof.RmsBwd.lean ====
module

public import proofs.«01_k».proof.Proof.NormIn

@[expose] public section

/-! The norm's backward, a row at a time. -/

noncomputable section

namespace Cert.RmsBwd
open Idealize.ShloMosaic
open Cert.NormIn (scale)
open scoped BigOperators

/-- The row length, as a literal. -/
abbrev len : EReal := Scalar.ofBits (F := Ideal) .f32 0x45000000#32

theorem len_eq : len = ((2048 : ℝ) : EReal) := by
  show Ideal.ofBits .f32 0x45000000#32 = _
  simp [Ideal.ofBits, Ideal.ieee, -EReal.coe_mul] <;> norm_num

/-- Minus a half, as a literal. -/
abbrev mh : EReal := Scalar.ofBits (F := Ideal) .f32 0xBF000000#32

theorem mh_eq : mh = ((-(1 / 2) : ℝ) : EReal) := by
  show Ideal.ofBits .f32 0xBF000000#32 = _
  simp [Ideal.ofBits, Ideal.ieee, -EReal.coe_mul] <;> norm_num

/-- The added constant, as a literal. -/
abbrev eps : EReal := Scalar.ofBits (F := Ideal) .f32 0x358637BD#32

theorem eps_pos : 0 < eps := by
  have e : eps = ((8796093 / 2 ^ 43 : ℝ) : EReal) := by
    show Ideal.ofBits .f32 0x358637BD#32 = _
    simp [Ideal.ofBits, Ideal.ieee, -EReal.coe_mul] <;> norm_num
  rw [e]
  exact EReal.coe_pos.mpr (by norm_num)

/-- A row's mean square, with the constant added. -/
def ms (f : Fin 2048 → EReal) : EReal := Ideal.div (∑ k, f k * f k) len + eps

theorem scale_eq (f : Fin 2048 → EReal) : scale f = Ideal.rsqrt (ms f) := rfl

theorem div_len (x : EReal) : Ideal.div x len = x * len⁻¹ := by
  unfold Ideal.div
  exact if_neg (by rw [len_eq]; exact EReal.coe_ne_zero.mpr (by norm_num))

theorem sq_nonneg (x : EReal) : 0 ≤ x * x := by
  rcases le_total 0 x with h | h
  · exact mul_nonneg h h
  · have := mul_nonneg (EReal.neg_nonneg.mpr h) (EReal.neg_nonneg.mpr h)
    rwa [neg_mul_neg] at this

theorem ms_pos (f : Fin 2048 → EReal) : 0 < ms f := by
  refine lt_of_lt_of_le eps_pos (le_add_of_nonneg_left ?_)
  rw [div_len]
  refine mul_nonneg (Finset.sum_nonneg fun k _ => sq_nonneg _) ?_
  rw [len_eq, ← EReal.coe_inv]
  exact EReal.coe_nonneg.mpr (by norm_num)

/-- The inverse root over its argument is the inverse root's cube. -/
theorem cube (u : EReal) (h : 0 < u) : Ideal.div (Ideal.rsqrt u) u = Ideal.rsqrt u * Ideal.rsqrt u * Ideal.rsqrt u := by
  unfold Ideal.div
  rw [if_neg h.ne']
  induction u with
  | bot => exact absurd h (by simp)
  | top =>
    have z : Ideal.rsqrt ⊤ = 0 := rfl
    simp only [z, zero_mul]
  | coe u =>
    have hu : 0 < u := EReal.coe_pos.mp h
    have e : Ideal.rsqrt (u : EReal) = (((Real.sqrt u)⁻¹ : ℝ) : EReal) := by
      show (if u < 0 then (⊥ : EReal) else if u = 0 then ⊤ else (((Real.sqrt u)⁻¹ : ℝ) : EReal)) = _
      rw [if_neg hu.not_gt, if_neg hu.ne']
    rw [e, ← EReal.coe_inv, ← EReal.coe_mul, ← EReal.coe_mul, ← EReal.coe_mul, mul_assoc, ← mul_inv (Real.sqrt u) (Real.sqrt u), Real.mul_self_sqrt hu.le]

/-- Minus a half of a number, twice, is minus the number. -/
theorem twice (z : EReal) : mh * z + mh * z = -z := by
  rw [mh_eq]
  induction z with
  | bot => rw [EReal.coe_mul_bot_of_neg (by norm_num)]; rfl
  | top => rw [EReal.coe_mul_top_of_neg (by norm_num)]; rfl
  | coe z =>
    rw [← EReal.coe_mul, ← EReal.coe_add, ← EReal.coe_neg]
    exact congrArg _ (by ring)

/-- The gradient at an entry of a row `v`, from the weighted gradient `a`. -/
def dx (v a : Fin 2048 → EReal) (j : Fin 2048) : EReal :=
  scale v * a j - v j * (scale v * scale v * scale v) * Ideal.div (∑ k, a k * v k) len

/-- The mean square's share of the gradient, as the derivative rule forms it. -/
def tail (v a : Fin 2048 → EReal) : EReal := Ideal.div ((∑ k, v k * a k) * (mh * Ideal.div (scale v) (ms v))) len

theorem rule (v a : Fin 2048 → EReal) (j : Fin 2048) :
    a j * scale v + v j * tail v a + tail v a * v j = dx v a j := by
  have c : Ideal.div (scale v) (ms v) = scale v * scale v * scale v := cube _ (ms_pos v)
  have s : ∑ k, v k * a k = ∑ k, a k * v k := Finset.sum_congr rfl fun k _ => mul_comm _ _
  have w : v j * tail v a = mh * (v j * (scale v * scale v * scale v) * Ideal.div (∑ k, a k * v k) len) := by
    unfold tail
    rw [c, s, div_len, div_len]
    generalize scale v * scale v * scale v = q
    generalize ∑ k, a k * v k = A
    ac_rfl
  rw [mul_comm (tail v a) (v j), w, add_assoc, twice, mul_comm (a j)]
  rfl

end Cert.RmsBwd
-- ==== Proof.NormInBwd.lean ====
module

public import proofs.«01_k».proof.Proof.Gen.Kernel28.Frame
public import proofs.«01_k».proof.Proof.Gen.Kernel28Ideal.Value
public import proofs.«01_k».proof.Proof.Gen.Reference28Ideal.Run
public import proofs.«01_k».proof.Proof.Gen.Reference28Ideal.Read
public import proofs.«01_k».proof.Proof.Mat
public import proofs.«01_k».proof.Proof.RmsBwd
public import proofs.«01_k».proof.Defs
public import Idealize.ShloMosaic.Lib.Quiescent
public import Idealize.ShloMosaic.Lib.StableHlo.ReadAt
public import Idealize.ShloMosaic.Lib.StableHlo.RunRead

@[expose] public section

/-! The backward of the norm before the mixer. -/

set_option maxRecDepth 16384
noncomputable section

namespace Cert.NormInBwd
open Cert.Kernel28Ideal Cert.Kernel28Ideal.Gen Idealize.ShloMosaic Idealize.ShloMosaic.TcCoe Idealize.SL.Sem
open Idealize.ShloMosaic.Pipeline (Dat)
open Cert.NormIn (scale)
open scoped BigOperators

section
variable {F : FTy → Type} [FloatOps F] (c : Dev nD) (i : grid0.Coords)
  (a1 : Memref sig .tc .vmem S512x2048 .f32) (h1 : a1.IsWhole) (a2 : Memref sig .tc .vmem S1x2048 .f32) (h2 : a2.IsWhole)
  (a3 : Memref sig .tc .vmem S512x2048 .f32) (h3 : a3.IsWhole) (a4 : Memref sig .tc .vmem S512x2048 .f32) (h4 : a4.IsWhole)
  (a5 : Memref sig .tc .vmem S512x2048 .f32) (h5 : a5.IsWhole) (a6 : Memref sig .tc .vmem S1x2048 .f32) (h6 : a6.IsWhole)
  (x0 : Vec F S512x2048 .f32) (x1 : Vec F S1x2048 .f32) (x2 x3 : Vec F S512x2048 .f32)

/-- The first point's gradient block. -/
theorem firstx (hc0 : cond0_0 i) :
    out0_A_4 (F := F) c i a1 h1 a2 h2 a3 h3 a4 h4 a5 h5 a6 h6 hc0 x0 x1 x2 x3 = k0_pay5 (F := F) x0 x1 x2 x3 := by
  unfold out0_A_4
  rw [View.read_writes_eq_canon _ _ _ (fun _ => cover0_A_4 ..)]
  unfold kernelRun0_A
  dsimp only
  sl_unfold_words
  rw [View.canon_unit_zero (S := S512x2048) Mat.hz]
  simp only [View.readAt_eq_ld, h1.read_unread, h2.read_unread, h3.read_unread, h4.read_unread, View.ld_unit_zero (S := S512x2048) Mat.hz, View.ld_unit_zero (S := S1x2048) Mat.hz]

/-- A later point's gradient block. -/
theorem nextx (hc0 : ¬cond0_0 i) (acc : Vec F S1x2048 .f32) :
    out0_B_4 (F := F) c i a1 h1 a2 h2 a3 h3 a4 h4 a5 h5 a6 h6 hc0 x0 x1 x2 x3 acc = k0_pay5 (F := F) x0 x1 x2 x3 := by
  unfold out0_B_4
  rw [View.read_writes_eq_canon _ _ _ (fun _ => cover0_B_4 ..)]
  unfold kernelRun0_B
  dsimp only
  sl_unfold_words
  rw [View.canon_unit_zero (S := S512x2048) Mat.hz]
  simp only [View.readAt_eq_ld, h1.read_unread, h2.read_unread, h3.read_unread, h4.read_unread, View.ld_unit_zero (S := S512x2048) Mat.hz, View.ld_unit_zero (S := S1x2048) Mat.hz]

/-- The first point: the weights' gradient starts at zero. -/
theorem first (hc0 : cond0_0 i) :
    out0_A_5 (F := F) c i a1 h1 a2 h2 a3 h3 a4 h4 a5 h5 a6 h6 hc0 x0 x1 x2 x3 = k0_pay1 (F := F) (k0_pay4 (F := F) x0 x2) (k0_pay6 (F := F) (k0_pay2 (F := F))) := by
  unfold out0_A_5
  rw [View.read_writes_eq_canon _ _ _ (fun _ => cover0_A_5 ..)]
  unfold kernelRun0_A
  dsimp only
  sl_unfold_words
  rw [View.canon_cons_unit_zero (S := S1x2048) Mat.hz, View.readCov_unit_zero (S := S1x2048) _ Mat.hz]
  simp only [View.readAt_eq_ld, h1.read_unread, h2.read_unread, h3.read_unread, h4.read_unread, View.ld_unit_zero (S := S512x2048) Mat.hz, View.ld_unit_zero (S := S1x2048) Mat.hz]

/-- A later point: its share is added. -/
theorem next (hc0 : ¬cond0_0 i) (acc : Vec F S1x2048 .f32) :
    out0_B_5 (F := F) c i a1 h1 a2 h2 a3 h3 a4 h4 a5 h5 a6 h6 hc0 x0 x1 x2 x3 acc = k0_pay1 (F := F) (k0_pay4 (F := F) x0 x2) (k0_pay6 (F := F) acc) := by
  unfold out0_B_5
  rw [View.read_writes_eq_canon _ _ _ (fun _ => cover0_B_5 ..)]
  unfold kernelRun0_B
  dsimp only
  sl_unfold_words
  rw [View.canon_unit_zero (S := S1x2048) Mat.hz]
  simp only [View.readAt_eq_ld, h1.read_unread, h2.read_unread, h3.read_unread, h4.read_unread, h6.read_unread, View.ld_unit_zero (S := S512x2048) Mat.hz, View.ld_unit_zero (S := S1x2048) Mat.hz]

end

/-- The gradient block at an entry. -/
theorem block (x0 : FVec Ideal S512x2048 .f32) (x1 : FVec Ideal S1x2048 .f32) (x2 x3 : FVec Ideal S512x2048 .f32) (i : Fin 512) (j : Fin 2048) :
    k0_pay5 (F := Ideal) x0 x1 x2 x3 (ix2 i j) = x3 (ix2 i j) + RmsBwd.dx (fun k => x0 (ix2 i k)) (fun k => x2 (ix2 i k) * x1 (ix2 0 k)) j := by
  unfold k0_pay5 k0_pay3
  pointwise
  rfl

/-- The share of a block in the weights' gradient. -/
def part (x0 x2 : FVec Ideal S512x2048 .f32) (j : Fin 2048) : EReal :=
  ∑ i : Fin 512, x2 (ix2 i j) * x0 (ix2 i j) * scale (fun k => x0 (ix2 i k))

/-- A row's term of the weights' gradient. -/
theorem term (x0 x2 : FVec Ideal S512x2048 .f32) (i : Fin 512) (j : Fin 2048) :
    k0_pay4 (F := Ideal) x0 x2 (ix2 i j) = x2 (ix2 i j) * x0 (ix2 i j) * scale (fun k => x0 (ix2 i k)) := by
  unfold k0_pay4 k0_pay3
  pointwise
  rfl

theorem step (x0 x2 : FVec Ideal S512x2048 .f32) (acc : FVec Ideal S1x2048 .f32) (j : Fin 2048) :
    k0_pay1 (F := Ideal) (k0_pay4 (F := Ideal) x0 x2) (k0_pay6 (F := Ideal) acc) (ix2 (0 : Fin 1) j) = acc (ix2 (0 : Fin 1) j) + part x0 x2 j := by
  unfold part
  simp only [← term]
  unfold k0_pay1 k0_pay6
  simp only [shapeCast_self]
  generalize k0_pay4 (F := Ideal) x0 x2 = z
  pointwise

variable (m : (ℓ : Loc nD τ sig) → Buf (Elt Ideal) ℓ) (c : Dev nD)

/-- The norm's input. -/
abbrev inp : S8192x2048.Idx → EReal := m ((c : Thread nD τ).loc main_arg0)
/-- The norm's weights. -/
abbrev wt : S1x2048.Idx → EReal := m ((c : Thread nD τ).loc main_arg1)
/-- The gradient of the norm's output. -/
abbrev dh : S8192x2048.Idx → EReal := m ((c : Thread nD τ).loc main_arg2)
/-- The gradient that reaches the input past the norm. -/
abbrev past : S8192x2048.Idx → EReal := m ((c : Thread nD τ).loc main_arg3)

/-- The share of a grid point in the weights' gradient. -/
def share (t : Fin cfg0.N) (j : Fin 2048) : EReal := part (iblk m c 0 t) (iblk m c 2 t) j

/-- The gradient block that a grid point leaves. -/
theorem left4 (t : Fin cfg0.N) : (outsAt0 m c t.val t.isLt).1 = k0_pay5 (F := Ideal) (iblk m c 0 t) (iblk m c 1 t) (iblk m c 2 t) (iblk m c 3 t) := by
  by_cases h : t.val % 16 = 0
  · rw [outsAt0_A m c t h]
    dsimp only
    rw [firstx]
  · rw [outsAt0_B m c t h]
    dsimp only
    rw [nextx]

theorem acc_first (t : Fin cfg0.N) (h : t.val % 16 = 0) (j : Fin 2048) :
    (outsAt0 m c t.val t.isLt).2 (ix2 (0 : Fin 1) j) = share m c t j := by
  rw [outsAt0_A m c t h]
  dsimp only
  rw [first, step]
  have z : k0_pay2 (F := Ideal) (ix2 (0 : Fin 1) j) = (0 : EReal) := Ideal.ofBits_zero_f32
  rw [z, zero_add]
  rfl

theorem acc_next (n : ℕ) (hn : n + 1 < cfg0.N) (h : ¬(n + 1) % 16 = 0) (j : Fin 2048) :
    (outsAt0 m c (n + 1) hn).2 (ix2 (0 : Fin 1) j) = (outsAt0 m c n (by omega)).2 (ix2 (0 : Fin 1) j) + share m c ⟨n + 1, hn⟩ j := by
  rw [outsAt0_B m c ⟨n + 1, hn⟩ h]
  dsimp only
  rw [next, step]
  rfl

/-- The weights' gradient after point `n`: the shares so far. -/
theorem acc (j : Fin 2048) : ∀ (n : ℕ) (hn : n < cfg0.N), (outsAt0 m c n hn).2 (ix2 (0 : Fin 1) j) = ∑ s : Fin (n + 1), share m c ⟨s.val, by omega⟩ j
  | 0, hn => by
    rw [Fin.sum_univ_one]
    exact acc_first m c ⟨0, hn⟩ rfl j
  | n + 1, hn => by
    have h16 : n + 1 < 16 := lt_of_lt_of_eq hn N_0
    rw [Fin.sum_univ_castSucc, acc_next m c n hn (by omega), acc j n (by omega)]
    rfl

/-- The row block of a grid point. -/
def rb (t : Fin cfg0.N) : Fin 16 := ⟨(grid0.coords t 0).val, (grid0.coords t 0).isLt⟩

/-- The grid point of a row block. -/
def pt (s : Fin 16) : Fin cfg0.N := ⟨s.val, by rw [show cfg0.N = 16 from N_0]; exact s.isLt⟩

/-- Row `i` of row block `a`. -/
def row (a : Fin 16) (i : Fin 512) : Fin 8192 := ⟨a.val * 512 + i.val, by omega⟩

/-- A sum over all rows, block by block. -/
theorem bands (f : Fin 8192 → EReal) : ∑ k, f k = ∑ s : Fin 16, ∑ i : Fin 512, f (row s i) :=
  Mat.split (S := 16) (K := 512) f fun _ _ => rfl

theorem rb_pt : ∀ s : Fin 16, rb (pt s) = s := by decide +kernel

theorem q0 : ∀ t : Fin cfg0.N, win0_0.index t = ![(rb t).val, 0] :=
  (by decide +kernel : ∀ t : Fin grid0.N, win0_0.index t = ![(rb t).val, 0])

theorem q1 : ∀ t : Fin cfg0.N, win0_1.index t = ![0, 0] :=
  (by decide +kernel : ∀ t : Fin grid0.N, win0_1.index t = ![0, 0])

theorem q2 : ∀ t : Fin cfg0.N, win0_2.index t = ![(rb t).val, 0] :=
  (by decide +kernel : ∀ t : Fin grid0.N, win0_2.index t = ![(rb t).val, 0])

theorem q3 : ∀ t : Fin cfg0.N, win0_3.index t = ![(rb t).val, 0] :=
  (by decide +kernel : ∀ t : Fin grid0.N, win0_3.index t = ![(rb t).val, 0])

theorem q4 : ∀ t : Fin cfg0.N, win0_4.index t = ![(rb t).val, 0] :=
  (by decide +kernel : ∀ t : Fin grid0.N, win0_4.index t = ![(rb t).val, 0])

theorem q5 : ∀ t : Fin cfg0.N, win0_5.index t = ![0, 0] :=
  (by decide +kernel : ∀ t : Fin grid0.N, win0_5.index t = ![0, 0])

theorem x0 (t : Fin cfg0.N) (i : Fin 512) (k : Fin 2048) : iblk m c 0 t (ix2 i k) = inp m c (ix2 (row (rb t) i) k) := by
  have e : iblk m c 0 t (ix2 i k) = V m c main_arg0 (ix2 (row (rb t) i) k) := by
    blk_ext [iblk, q0 t, row]
  rw [e, V_main_arg0]

theorem x1 (t : Fin cfg0.N) (k : Fin 2048) : iblk m c 1 t (ix2 (0 : Fin 1) k) = wt m c (ix2 (0 : Fin 1) k) := by
  have e : iblk m c 1 t (ix2 (0 : Fin 1) k) = V m c main_arg1 (ix2 (0 : Fin 1) k) := by
    blk_ext [iblk, q1 t]
  rw [e, V_main_arg1]

theorem x2 (t : Fin cfg0.N) (i : Fin 512) (k : Fin 2048) : iblk m c 2 t (ix2 i k) = dh m c (ix2 (row (rb t) i) k) := by
  have e : iblk m c 2 t (ix2 i k) = V m c main_arg2 (ix2 (row (rb t) i) k) := by
    blk_ext [iblk, q2 t, row]
  rw [e, V_main_arg2]

theorem x3 (t : Fin cfg0.N) (i : Fin 512) (k : Fin 2048) : iblk m c 3 t (ix2 i k) = past m c (ix2 (row (rb t) i) k) := by
  have e : iblk m c 3 t (ix2 i k) = V m c main_arg3 (ix2 (row (rb t) i) k) := by
    blk_ext [iblk, q3 t, row]
  rw [e, V_main_arg3]

open Cert.Reference28Ideal.Read in
theorem mean (a : S8192x2048.Idx → EReal) (i : Fin 8192) :
    val_main_v7 (F := Ideal) a (ix2 i (0 : Fin 1)) = RmsBwd.ms (fun k => a (ix2 i k)) := by
  have s : idx_main_v3 (ix2 i (0 : Fin 1)) = (ix1 i : Cert.Reference28Ideal.S8192.Idx) := funext fun a => match a with
    | ⟨0, _⟩ => rfl
  have p (k : Fin 2048) : idx_main_v2 (ix1 i) k = ix2 i k := funext fun a => match a with
    | ⟨0, _⟩ => rfl
    | ⟨1, _⟩ => rfl
  have z : (FloatOps.ofBits (F := Ideal) .f32 0x00000000#32 : EReal) = 0 := Ideal.ofBits_zero_f32
  simp only [val_main_v7_apply, val_main_v6_apply, val_main_cst_1_apply, val_main_v5_apply, val_main_v4_apply, val_main_cst_0_apply, val_main_v3_apply, s]
  rw [val_main_v2_apply, val_main_cst_apply, z, zero_add]
  simp only [p, val_main_v1_apply]
  rfl

open Cert.Reference28Ideal.Read in
theorem root (a : S8192x2048.Idx → EReal) (i : Fin 8192) :
    val_main_v8 (F := Ideal) a (ix2 i (0 : Fin 1)) = scale (fun k => a (ix2 i k)) := by
  rw [val_main_v8_apply, mean]
  rfl

open Cert.Reference28Ideal.Read in
theorem weighted (w : S1x2048.Idx → EReal) (d : S8192x2048.Idx → EReal) (i : Fin 8192) (j : Fin 2048) :
    val_main_v21 (F := Ideal) w d (ix2 i j) = d (ix2 i j) * w (ix2 0 j) := by
  have q : idx_main_v0 (idx_main_v14 (idx_main_v20 (ix2 i j))) = ix2 (0 : Fin 1) j := funext fun a => match a with
    | ⟨0, _⟩ => rfl
    | ⟨1, _⟩ => Fin.ext (Nat.mod_eq_of_lt j.isLt)
  simp only [val_main_v21_apply, val_main_v20_apply, val_main_v14_apply, val_main_v0_apply, q]
  rfl

open Cert.Reference28Ideal.Read in
/-- The share of the mean square in the reference's gradient. -/
theorem tail (a : S8192x2048.Idx → EReal) (w : S1x2048.Idx → EReal) (d : S8192x2048.Idx → EReal) (i : Fin 8192) :
    val_main_v31 (F := Ideal) a w d (ix1 i) = RmsBwd.tail (fun k => a (ix2 i k)) (fun k => d (ix2 i k) * w (ix2 0 k)) := by
  have u (k : Fin 1) : idx_main_v31 (ix1 i) k = ix2 i (0 : Fin 1) := funext fun a => match a with
    | ⟨0, _⟩ => rfl
    | ⟨1, _⟩ => Subsingleton.elim (α := Fin 1) _ _
  have s : idx_main_v25 (ix2 i (0 : Fin 1)) = (ix1 i : Cert.Reference28Ideal.S8192.Idx) := funext fun a => match a with
    | ⟨0, _⟩ => Fin.ext (by show i.val * 1 + 0 = i.val; omega)
  have p (k : Fin 2048) : idx_main_v24 (ix1 i) k = ix2 i k := funext fun a => match a with
    | ⟨0, _⟩ => rfl
    | ⟨1, _⟩ => rfl
  have z : (FloatOps.ofBits (F := Ideal) .f32 0x00000000#32 : EReal) = 0 := Ideal.ofBits_zero_f32
  rw [val_main_v31_apply, val_main_cst_7_apply, z, zero_add, Fin.sum_univ_one, u]
  simp only [val_main_v30_apply, val_main_v29_apply, val_main_cst_6_apply, val_main_v28_apply, val_main_v11_apply, val_main_v10_apply, val_main_cst_2_apply,
    val_main_v9_apply, val_main_v25_apply, s, root, mean]
  rw [val_main_v24_apply, val_main_cst_5_apply, z, zero_add]
  simp only [p, val_main_v23_apply, weighted]
  rfl

open Cert.Reference28Ideal.Read in
/-- The reference's gradient through the norm at an entry. -/
theorem core (a : S8192x2048.Idx → EReal) (w : S1x2048.Idx → EReal) (d : S8192x2048.Idx → EReal) (i : Fin 8192) (j : Fin 2048) :
    val_main_v36 (F := Ideal) a w d (ix2 i j) = RmsBwd.dx (fun k => a (ix2 i k)) (fun k => d (ix2 i k) * w (ix2 0 k)) j := by
  have s : idx_main_v26 (ix2 i j) = (ix2 i (0 : Fin 1) : Cert.Reference28Ideal.S8192x1.Idx) := funext fun a => match a with
    | ⟨0, _⟩ => rfl
    | ⟨1, _⟩ => rfl
  have q : idx_main_v32 (ix2 i j) = (ix1 i : Cert.Reference28Ideal.S8192.Idx) := funext fun a => match a with
    | ⟨0, _⟩ => rfl
  rw [← RmsBwd.rule]
  simp only [val_main_v36_apply, val_main_v35_apply, val_main_v34_apply, val_main_v33_apply, val_main_v32_apply, val_main_v27_apply,
    val_main_v26_apply, s, q, root, tail, weighted]
  rfl

open Cert.Reference28Ideal.Read in
/-- The reference's gradient at an entry. -/
theorem ref4 (a : S8192x2048.Idx → EReal) (w : S1x2048.Idx → EReal) (d e : S8192x2048.Idx → EReal) (i : Fin 8192) (j : Fin 2048) :
    val_main_v37 (F := Ideal) a w d e (ix2 i j) = e (ix2 i j) + RmsBwd.dx (fun k => a (ix2 i k)) (fun k => d (ix2 i k) * w (ix2 0 k)) j := by
  rw [val_main_v37_apply, core]
  rfl

open Cert.Reference28Ideal.Read in
/-- The reference's gradient of the weights at an entry. -/
theorem ref5 (a d : S8192x2048.Idx → EReal) (j : Fin 2048) :
    val_main_v38 (F := Ideal) a d (ix2 (0 : Fin 1) j) = ∑ i : Fin 8192, a (ix2 i j) * scale (fun k => a (ix2 i k)) * d (ix2 i j) := by
  have q : idx_main_v38 (ix2 (0 : Fin 1) j) = (ix1 j : Cert.Reference28Ideal.S2048.Idx) := funext fun a => match a with
    | ⟨0, _⟩ => rfl
  have u (k : Fin 1) : idx_main_v19 (idx_main_v22 (ix1 j) k) = (ix1 j : Cert.Reference28Ideal.S2048.Idx) := funext fun a => match a with
    | ⟨0, _⟩ => Fin.ext (by show k.val * 2048 + j.val = j.val; omega)
  have p (k : Fin 8192) : idx_main_v18 (ix1 j) k = ix2 k j := funext fun a => match a with
    | ⟨0, _⟩ => rfl
    | ⟨1, _⟩ => rfl
  have s (k : Fin 8192) : idx_main_v12 (ix2 k j) = (ix2 k (0 : Fin 1) : Cert.Reference28Ideal.S8192x1.Idx) := funext fun a => match a with
    | ⟨0, _⟩ => rfl
    | ⟨1, _⟩ => rfl
  have z : (FloatOps.ofBits (F := Ideal) .f32 0x00000000#32 : EReal) = 0 := Ideal.ofBits_zero_f32
  rw [val_main_v38_apply, q, val_main_v22_apply, val_main_cst_4_apply, z, zero_add, Fin.sum_univ_one, val_main_v19_apply, u,
    val_main_v18_apply, val_main_cst_3_apply, z, zero_add]
  simp only [p, val_main_v17_apply, val_main_v13_apply, val_main_v12_apply, s, root]
  rfl

/-- The gradient that a grid point writes is the reference's there. -/
theorem point4 (t : Fin cfg0.N) (y : S512x2048.Idx) (j : S8192x2048.Idx) (h0 : (j 0).val = (rb t).val * 512 + (y 0).val)
    (h1 : (j 1).val = (y 1).val) :
    (outsAt0 m c t.val t.isLt).1 y = Cert.Reference28Ideal.Read.val_main_v37 (F := Ideal) (inp m c) (wt m c) (dh m c) (past m c) j := by
  obtain ⟨p, q, rfl⟩ := Mat.eta y
  have ej : j = ix2 (row (rb t) p) q := funext fun a => match a with
    | ⟨0, _⟩ => Fin.ext h0
    | ⟨1, _⟩ => Fin.ext h1
  rw [ej, left4, block, ref4]
  simp only [x0, x1, x2, x3]

/-- The weights' gradient after the last point is the reference's. -/
theorem point5 (t : Fin cfg0.N) (ht : t.val = 15) (y : S1x2048.Idx) :
    (outsAt0 m c t.val t.isLt).2 y = Cert.Reference28Ideal.Read.val_main_v38 (F := Ideal) (inp m c) (dh m c) y := by
  obtain ⟨p, q, rfl⟩ := Mat.eta y
  obtain rfl : p = 0 := Subsingleton.elim _ _
  obtain rfl : t = pt 15 := Fin.ext ht
  rw [ref5, bands]
  refine (acc m c q 15 (pt 15).isLt).trans (Finset.sum_congr rfl fun s _ => ?_)
  show part (iblk m c 0 (pt s)) (iblk m c 2 (pt s)) q = _
  unfold part
  refine Finset.sum_congr rfl fun i _ => ?_
  have e0 := x0 m c (pt s) i
  have e2 := x2 m c (pt s) i
  rw [rb_pt] at e0 e2
  simp only [e0, e2]
  rw [mul_assoc, mul_comm]

/-- The final array of the gradient. -/
theorem final4 : (dats m 0 c).arrAt 4 cfg0.N = Cert.Reference28Ideal.Read.val_main_v37 (F := Ideal) (inp m c) (wt m c) (dh m c) (past m c) := by
  refine (dats m 0 c).arrAt_eq_of_covers 4 _ (by decide +kernel) fun t hf y => ?_
  blk_simp
  rw [after0_4]
  refine point4 m c t y _ ?_ ?_
  · blk_simp [q4 t]
  · blk_simp [q4 t]

/-- The final array of the weights' gradient. -/
theorem final5 : (dats m 0 c).arrAt 5 cfg0.N = Cert.Reference28Ideal.Read.val_main_v38 (F := Ideal) (inp m c) (dh m c) := by
  refine (dats m 0 c).arrAt_eq_of_covers 5 _ (by decide +kernel) fun t hf y => ?_
  have ht := (flush0_5 t).mp hf
  have hN : t.val < 16 := lt_of_lt_of_eq t.isLt N_0
  blk_simp
  rw [after0_5, point5 m c t (by omega)]
  obtain ⟨p, q, rfl⟩ := Mat.eta y
  refine congrArg _ (funext fun a => Fin.ext ?_)
  match a with
  | ⟨0, _⟩ => blk_simp [q5 t]
  | ⟨1, _⟩ => blk_simp [q5 t]

theorem frameP : Cert.quiescent_Kernel28 := fun m ρ _ => Cert.Kernel28.Gen.frame m ρ

theorem framePI : Cert.quiescent_Kernel28Ideal := fun m ρ _ => Cert.Kernel28Ideal.Gen.frame m ρ

theorem frameRI : Cert.quiescent_Reference28Ideal := fun m ρ _ =>
  (θ_run Cert.Reference28Ideal.defs _ _).mono (fun r h => ⟨fun c => (h c).2.2, sem_eq_zero_of_no_sems (by decide) r.2⟩)
    (Cert.Reference28Ideal.Value.run m ρ)

theorem equal : Cert.algebraic_Kernel28Ideal_Reference28Ideal := by
  intro m ρ m' ρ' _ hag
  refine ⟨fun c => Cert.Reference28Ideal.Read.val_main_v37 (F := Ideal) (inp m c) (wt m c) (dh m c) (past m c),
    fun c => Cert.Reference28Ideal.Read.val_main_v38 (F := Ideal) (inp m c) (dh m c), ?_, ?_⟩
  · exact (θ_run Cert.Kernel28Ideal.defs _ _).mono (fun r h c => ⟨(h c).1.trans (final4 m c), (h c).2.1.trans (final5 m c), (h c).2.2⟩)
      (Cert.Kernel28Ideal.Value.run_blocks m ρ)
  · refine (θ_run Cert.Reference28Ideal.defs _ _).mono (fun r h c => ⟨?_, ?_, (h c).2.2⟩) (Cert.Reference28Ideal.Value.run m' ρ')
    · have e := hag c
      refine ((h c).1.trans (Cert.Reference28Ideal.Read.val_main_v37_eq (F := Ideal) m' c)).trans ?_
      exact congr (congr (congr (congrArg (Cert.Reference28Ideal.Read.val_main_v37 (F := Ideal)) e.1) e.2.1) e.2.2.1) e.2.2.2
    · have e := hag c
      refine ((h c).2.1.trans (Cert.Reference28Ideal.Read.val_main_v38_eq (F := Ideal) _ _)).trans ?_
      exact congr (congrArg (Cert.Reference28Ideal.Read.val_main_v38 (F := Ideal)) e.1) e.2.2.1

end Cert.NormInBwd
-- ==== Proof.NormMidBwd.lean ====
module

public import proofs.«01_k».proof.Proof.Gen.Kernel29.Frame
public import proofs.«01_k».proof.Proof.Gen.Kernel29Ideal.Value
public import proofs.«01_k».proof.Proof.Gen.Reference29Ideal.Run
public import proofs.«01_k».proof.Proof.Gen.Reference29Ideal.Read
public import proofs.«01_k».proof.Proof.Mat
public import proofs.«01_k».proof.Proof.NormInBwd
public import proofs.«01_k».proof.Defs
public import Idealize.ShloMosaic.Lib.Quiescent
public import Idealize.ShloMosaic.Lib.StableHlo.ReadAt
public import Idealize.ShloMosaic.Lib.StableHlo.RunRead

@[expose] public section

/-! The backward of the two norms between the mixer and the feed-forward part. -/

set_option maxRecDepth 16384
noncomputable section

namespace Cert.NormMidBwd
open Cert.Kernel29Ideal Cert.Kernel29Ideal.Gen Idealize.ShloMosaic Idealize.ShloMosaic.TcCoe Idealize.SL.Sem
open Idealize.ShloMosaic.Pipeline (Dat)
open Cert.NormIn (scale)
open scoped BigOperators

section
variable {F : FTy → Type} [FloatOps F] (c : Dev nD) (i : grid0.Coords)
  (a1 : Memref sig .tc .vmem S256x2048 .f32) (h1 : a1.IsWhole) (a2 : Memref sig .tc .vmem S256x2048 .f32) (h2 : a2.IsWhole) (a3 : Memref sig .tc .vmem S1x2048 .f32) (h3 : a3.IsWhole) (a4 : Memref sig .tc .vmem S1x2048 .f32) (h4 : a4.IsWhole) (a5 : Memref sig .tc .vmem S256x2048 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .bf16) (h8 : a8.IsWhole) (a9 : Memref sig .tc .vmem S1x2048 .f32) (h9 : a9.IsWhole) (a10 : Memref sig .tc .vmem S1x2048 .f32) (h10 : a10.IsWhole)
  (x0 x1 : Vec F S256x2048 .f32) (x2 x3 : Vec F S1x2048 .f32) (x4 x5 : Vec F S256x2048 .f32)

/-- The first point: the gradient of the sum. -/
theorem first6 (hc0 : cond0_0 i) :
    out0_A_6 (F := F) c i a1 h1 a2 h2 a3 h3 a4 h4 a5 h5 a6 h6 a7 h7 a8 h8 a9 h9 a10 h10 hc0 x0 x1 x2 x3 x4 x5 = k0_pay5 (F := F) x0 x3 x5 x4 := by
  unfold out0_A_6
  rw [View.read_writes_eq_canon _ _ _ (fun _ => cover0_A_6 ..)]
  unfold kernelRun0_A
  dsimp only
  sl_unfold_words
  rw [View.canon_unit_zero (S := S256x2048) Mat.hz]
  simp only [View.readAt_eq_ld, h1.read_unread, h2.read_unread, h3.read_unread, h4.read_unread, h5.read_unread, h6.read_unread, View.ld_unit_zero (S := S256x2048) Mat.hz, View.ld_unit_zero (S := S1x2048) Mat.hz]

/-- A later point: the gradient of the sum. -/
theorem next6 (hc0 : ¬cond0_0 i) (xo8 xo9 : Vec F S1x2048 .f32) :
    out0_B_6 (F := F) c i a1 h1 a2 h2 a3 h3 a4 h4 a5 h5 a6 h6 a7 h7 a8 h8 a9 h9 a10 h10 hc0 x0 x1 x2 x3 x4 x5 xo8 xo9 = k0_pay5 (F := F) x0 x3 x5 x4 := by
  unfold out0_B_6
  rw [View.read_writes_eq_canon _ _ _ (fun _ => cover0_B_6 ..)]
  unfold kernelRun0_B
  dsimp only
  sl_unfold_words
  rw [View.canon_unit_zero (S := S256x2048) Mat.hz]
  simp only [View.readAt_eq_ld, h1.read_unread, h2.read_unread, h3.read_unread, h4.read_unread, h5.read_unread, h6.read_unread, h9.read_unread, h10.read_unread, View.ld_unit_zero (S := S256x2048) Mat.hz, View.ld_unit_zero (S := S1x2048) Mat.hz]

/-- The first point: the gradient of the mixer's output. -/
theorem first7 (hc0 : cond0_0 i) :
    out0_A_7 (F := F) c i a1 h1 a2 h2 a3 h3 a4 h4 a5 h5 a6 h6 a7 h7 a8 h8 a9 h9 a10 h10 hc0 x0 x1 x2 x3 x4 x5 = k0_pay7 (F := F) (k0_pay5 (F := F) x0 x3 x5 x4) x1 x2 := by
  unfold out0_A_7
  rw [View.read_writes_eq_canon _ _ _ (fun _ => cover0_A_7 ..)]
  unfold kernelRun0_A
  dsimp only
  sl_unfold_words
  rw [View.canon_unit_zero (S := S256x2048) Mat.hz]
  simp only [View.readAt_eq_ld, h1.read_unread, h2.read_unread, h3.read_unread, h4.read_unread, h5.read_unread, h6.read_unread, View.ld_unit_zero (S := S256x2048) Mat.hz, View.ld_unit_zero (S := S1x2048) Mat.hz]

/-- A later point: the gradient of the mixer's output. -/
theorem next7 (hc0 : ¬cond0_0 i) (xo8 xo9 : Vec F S1x2048 .f32) :
    out0_B_7 (F := F) c i a1 h1 a2 h2 a3 h3 a4 h4 a5 h5 a6 h6 a7 h7 a8 h8 a9 h9 a10 h10 hc0 x0 x1 x2 x3 x4 x5 xo8 xo9 = k0_pay7 (F := F) (k0_pay5 (F := F) x0 x3 x5 x4) x1 x2 := by
  unfold out0_B_7
  rw [View.read_writes_eq_canon _ _ _ (fun _ => cover0_B_7 ..)]
  unfold kernelRun0_B
  dsimp only
  sl_unfold_words
  rw [View.canon_unit_zero (S := S256x2048) Mat.hz]
  simp only [View.readAt_eq_ld, h1.read_unread, h2.read_unread, h3.read_unread, h4.read_unread, h5.read_unread, h6.read_unread, h9.read_unread, h10.read_unread, View.ld_unit_zero (S := S256x2048) Mat.hz, View.ld_unit_zero (S := S1x2048) Mat.hz]

/-- The first point: the gradient of the first norm's weights. -/
theorem first8 (hc0 : cond0_0 i) :
    out0_A_8 (F := F) c i a1 h1 a2 h2 a3 h3 a4 h4 a5 h5 a6 h6 a7 h7 a8 h8 a9 h9 a10 h10 hc0 x0 x1 x2 x3 x4 x5 = k0_pay8 (F := F) (k0_pay5 (F := F) x0 x3 x5 x4) x1 (k0_pay1 (F := F)) := by
  unfold out0_A_8
  rw [View.read_writes_eq_canon _ _ _ (fun _ => cover0_A_8 ..)]
  unfold kernelRun0_A
  dsimp only
  sl_unfold_words
  rw [View.canon_cons_unit_zero (S := S1x2048) Mat.hz, View.readCov_unit_zero (S := S1x2048) _ Mat.hz]
  simp only [View.readAt_eq_ld, h1.read_unread, h2.read_unread, h3.read_unread, h4.read_unread, h5.read_unread, h6.read_unread, View.ld_unit_zero (S := S256x2048) Mat.hz, View.ld_unit_zero (S := S1x2048) Mat.hz]

/-- A later point: the gradient of the first norm's weights. -/
theorem next8 (hc0 : ¬cond0_0 i) (xo8 xo9 : Vec F S1x2048 .f32) :
    out0_B_8 (F := F) c i a1 h1 a2 h2 a3 h3 a4 h4 a5 h5 a6 h6 a7 h7 a8 h8 a9 h9 a10 h10 hc0 x0 x1 x2 x3 x4 x5 xo8 xo9 = k0_pay8 (F := F) (k0_pay5 (F := F) x0 x3 x5 x4) x1 xo8 := by
  unfold out0_B_8
  rw [View.read_writes_eq_canon _ _ _ (fun _ => cover0_B_8 ..)]
  unfold kernelRun0_B
  dsimp only
  sl_unfold_words
  rw [View.canon_unit_zero (S := S1x2048) Mat.hz]
  simp only [View.readAt_eq_ld, h1.read_unread, h2.read_unread, h3.read_unread, h4.read_unread, h5.read_unread, h6.read_unread, h9.read_unread, h10.read_unread, View.ld_unit_zero (S := S256x2048) Mat.hz, View.ld_unit_zero (S := S1x2048) Mat.hz]

/-- The first point: the gradient of the second norm's weights. -/
theorem first9 (hc0 : cond0_0 i) :
    out0_A_9 (F := F) c i a1 h1 a2 h2 a3 h3 a4 h4 a5 h5 a6 h6 a7 h7 a8 h8 a9 h9 a10 h10 hc0 x0 x1 x2 x3 x4 x5 = k0_pay9 (F := F) (k0_pay4 (F := F) x0 x5) (k0_pay2 (F := F)) := by
  unfold out0_A_9
  rw [View.read_writes_eq_canon _ _ _ (fun _ => cover0_A_9 ..)]
  unfold kernelRun0_A
  dsimp only
  sl_unfold_words
  rw [View.canon_cons_unit_zero (S := S1x2048) Mat.hz, View.readCov_unit_zero (S := S1x2048) _ Mat.hz]
  simp only [View.readAt_eq_ld, h1.read_unread, h2.read_unread, h3.read_unread, h4.read_unread, h5.read_unread, h6.read_unread, View.ld_unit_zero (S := S256x2048) Mat.hz, View.ld_unit_zero (S := S1x2048) Mat.hz]

/-- A later point: the gradient of the second norm's weights. -/
theorem next9 (hc0 : ¬cond0_0 i) (xo8 xo9 : Vec F S1x2048 .f32) :
    out0_B_9 (F := F) c i a1 h1 a2 h2 a3 h3 a4 h4 a5 h5 a6 h6 a7 h7 a8 h8 a9 h9 a10 h10 hc0 x0 x1 x2 x3 x4 x5 xo8 xo9 = k0_pay9 (F := F) (k0_pay4 (F := F) x0 x5) xo9 := by
  unfold out0_B_9
  rw [View.read_writes_eq_canon _ _ _ (fun _ => cover0_B_9 ..)]
  unfold kernelRun0_B
  dsimp only
  sl_unfold_words
  rw [View.canon_unit_zero (S := S1x2048) Mat.hz]
  simp only [View.readAt_eq_ld, h1.read_unread, h2.read_unread, h3.read_unread, h4.read_unread, h5.read_unread, h6.read_unread, h9.read_unread, h10.read_unread, View.ld_unit_zero (S := S256x2048) Mat.hz, View.ld_unit_zero (S := S1x2048) Mat.hz]

end

/-- The first gradient block at an entry. -/
theorem block6 (x0 : FVec Ideal S256x2048 .f32) (x3 : FVec Ideal S1x2048 .f32) (x5 x4 : FVec Ideal S256x2048 .f32) (i : Fin 256) (j : Fin 2048) :
    k0_pay5 (F := Ideal) x0 x3 x5 x4 (ix2 i j) = x4 (ix2 i j) + RmsBwd.dx (fun k => x0 (ix2 i k)) (fun k => x5 (ix2 i k) * x3 (ix2 0 k)) j := by
  unfold k0_pay5 k0_pay3
  pointwise
  rfl

/-- The second gradient block at an entry, from the first. -/
theorem block7 (z x1 : FVec Ideal S256x2048 .f32) (x2 : FVec Ideal S1x2048 .f32) (i : Fin 256) (j : Fin 2048) :
    k0_pay7 (F := Ideal) z x1 x2 (ix2 i j) = RmsBwd.dx (fun k => x1 (ix2 i k)) (fun k => z (ix2 i k) * x2 (ix2 0 k)) j := by
  unfold k0_pay7 k0_pay6
  pointwise
  rfl

/-- The share of a block in the gradient of a norm's weights. -/
def part (v d : FVec Ideal S256x2048 .f32) (j : Fin 2048) : EReal :=
  ∑ i : Fin 256, d (ix2 i j) * v (ix2 i j) * scale (fun k => v (ix2 i k))

/-- A row's term of the second norm's weights' gradient. -/
theorem term (x0 x5 : FVec Ideal S256x2048 .f32) (i : Fin 256) (j : Fin 2048) :
    k0_pay4 (F := Ideal) x0 x5 (ix2 i j) = x5 (ix2 i j) * x0 (ix2 i j) * scale (fun k => x0 (ix2 i k)) := by
  unfold k0_pay4 k0_pay3
  pointwise
  rfl

theorem step9 (x0 x5 : FVec Ideal S256x2048 .f32) (acc : FVec Ideal S1x2048 .f32) (j : Fin 2048) :
    k0_pay9 (F := Ideal) (k0_pay4 (F := Ideal) x0 x5) acc (ix2 (0 : Fin 1) j) = acc (ix2 (0 : Fin 1) j) + part x0 x5 j := by
  unfold part
  simp only [← term]
  unfold k0_pay9
  simp only [shapeCast_self]
  generalize k0_pay4 (F := Ideal) x0 x5 = z
  pointwise

theorem step8 (z x1 : FVec Ideal S256x2048 .f32) (acc : FVec Ideal S1x2048 .f32) (j : Fin 2048) :
    k0_pay8 (F := Ideal) z x1 acc (ix2 (0 : Fin 1) j) = acc (ix2 (0 : Fin 1) j) + part x1 z j := by
  unfold k0_pay8 k0_pay6
  simp only [shapeCast_self]
  pointwise
  rfl

variable (m : (ℓ : Loc nD τ sig) → Buf (Elt Ideal) ℓ) (c : Dev nD)

/-- The sum's array. -/
abbrev sm : S8192x2048.Idx → EReal := m ((c : Thread nD τ).loc main_arg0)
/-- The mixer's output. -/
abbrev mo : S8192x2048.Idx → EReal := m ((c : Thread nD τ).loc main_arg1)
/-- The weights of the norm of the mixer's output. -/
abbrev wa : S1x2048.Idx → EReal := m ((c : Thread nD τ).loc main_arg2)
/-- The weights of the norm of the sum. -/
abbrev wb : S1x2048.Idx → EReal := m ((c : Thread nD τ).loc main_arg3)
/-- The gradient that reaches the sum past the norm. -/
abbrev past : S8192x2048.Idx → EReal := m ((c : Thread nD τ).loc main_arg4)
/-- The gradient of the normed sum. -/
abbrev dh : S8192x2048.Idx → EReal := m ((c : Thread nD τ).loc main_arg5)

/-- The gradient block of the sum at a grid point. -/
def dblk (t : Fin cfg0.N) : FVec Ideal S256x2048 .f32 := k0_pay5 (F := Ideal) (iblk m c 0 t) (iblk m c 3 t) (iblk m c 5 t) (iblk m c 4 t)

/-- The share of a grid point in the first norm's weights' gradient. -/
def share8 (t : Fin cfg0.N) (j : Fin 2048) : EReal := part (iblk m c 1 t) (dblk m c t) j

/-- The share of a grid point in the second norm's weights' gradient. -/
def share9 (t : Fin cfg0.N) (j : Fin 2048) : EReal := part (iblk m c 0 t) (iblk m c 5 t) j

theorem left6 (t : Fin cfg0.N) : (outsAt0 m c t.val t.isLt).1 = dblk m c t := by
  by_cases h : t.val % 32 = 0
  · rw [outsAt0_A m c t h]
    dsimp only
    rw [first6]
    rfl
  · rw [outsAt0_B m c t h]
    dsimp only
    rw [next6]
    rfl

theorem left7 (t : Fin cfg0.N) : (outsAt0 m c t.val t.isLt).2.1 = k0_pay7 (F := Ideal) (dblk m c t) (iblk m c 1 t) (iblk m c 2 t) := by
  by_cases h : t.val % 32 = 0
  · rw [outsAt0_A m c t h]
    dsimp only
    rw [first7]
    rfl
  · rw [outsAt0_B m c t h]
    dsimp only
    rw [next7]
    rfl

theorem acc_first8 (t : Fin cfg0.N) (h : t.val % 32 = 0) (j : Fin 2048) :
    (outsAt0 m c t.val t.isLt).2.2.1 (ix2 (0 : Fin 1) j) = share8 m c t j := by
  rw [outsAt0_A m c t h]
  dsimp only
  rw [first8, step8]
  have z : k0_pay1 (F := Ideal) (ix2 (0 : Fin 1) j) = (0 : EReal) := Ideal.ofBits_zero_f32
  rw [z, zero_add]
  rfl

theorem acc_next8 (n : ℕ) (hn : n + 1 < cfg0.N) (h : ¬(n + 1) % 32 = 0) (j : Fin 2048) :
    (outsAt0 m c (n + 1) hn).2.2.1 (ix2 (0 : Fin 1) j) = (outsAt0 m c n (by omega)).2.2.1 (ix2 (0 : Fin 1) j) + share8 m c ⟨n + 1, hn⟩ j := by
  rw [outsAt0_B m c ⟨n + 1, hn⟩ h]
  dsimp only
  rw [next8, step8]
  rfl

theorem acc8 (j : Fin 2048) : ∀ (n : ℕ) (hn : n < cfg0.N), (outsAt0 m c n hn).2.2.1 (ix2 (0 : Fin 1) j) = ∑ s : Fin (n + 1), share8 m c ⟨s.val, by omega⟩ j
  | 0, hn => by
    rw [Fin.sum_univ_one]
    exact acc_first8 m c ⟨0, hn⟩ rfl j
  | n + 1, hn => by
    have h32 : n + 1 < 32 := lt_of_lt_of_eq hn N_0
    rw [Fin.sum_univ_castSucc, acc_next8 m c n hn (by omega), acc8 j n (by omega)]
    rfl

theorem acc_first9 (t : Fin cfg0.N) (h : t.val % 32 = 0) (j : Fin 2048) :
    (outsAt0 m c t.val t.isLt).2.2.2 (ix2 (0 : Fin 1) j) = share9 m c t j := by
  rw [outsAt0_A m c t h]
  dsimp only
  rw [first9, step9]
  have z : k0_pay2 (F := Ideal) (ix2 (0 : Fin 1) j) = (0 : EReal) := Ideal.ofBits_zero_f32
  rw [z, zero_add]
  rfl

theorem acc_next9 (n : ℕ) (hn : n + 1 < cfg0.N) (h : ¬(n + 1) % 32 = 0) (j : Fin 2048) :
    (outsAt0 m c (n + 1) hn).2.2.2 (ix2 (0 : Fin 1) j) = (outsAt0 m c n (by omega)).2.2.2 (ix2 (0 : Fin 1) j) + share9 m c ⟨n + 1, hn⟩ j := by
  rw [outsAt0_B m c ⟨n + 1, hn⟩ h]
  dsimp only
  rw [next9, step9]
  rfl

theorem acc9 (j : Fin 2048) : ∀ (n : ℕ) (hn : n < cfg0.N), (outsAt0 m c n hn).2.2.2 (ix2 (0 : Fin 1) j) = ∑ s : Fin (n + 1), share9 m c ⟨s.val, by omega⟩ j
  | 0, hn => by
    rw [Fin.sum_univ_one]
    exact acc_first9 m c ⟨0, hn⟩ rfl j
  | n + 1, hn => by
    have h32 : n + 1 < 32 := lt_of_lt_of_eq hn N_0
    rw [Fin.sum_univ_castSucc, acc_next9 m c n hn (by omega), acc9 j n (by omega)]
    rfl

/-- The row block of a grid point. -/
def rb (t : Fin cfg0.N) : Fin 32 := ⟨(grid0.coords t 0).val, (grid0.coords t 0).isLt⟩

/-- The grid point of a row block. -/
def pt (s : Fin 32) : Fin cfg0.N := ⟨s.val, by rw [show cfg0.N = 32 from N_0]; exact s.isLt⟩

/-- Row `i` of row block `a`. -/
def row (a : Fin 32) (i : Fin 256) : Fin 8192 := ⟨a.val * 256 + i.val, by omega⟩

/-- A sum over all rows, block by block. -/
theorem bands (f : Fin 8192 → EReal) : ∑ k, f k = ∑ s : Fin 32, ∑ i : Fin 256, f (row s i) :=
  Mat.split (S := 32) (K := 256) f fun _ _ => rfl

theorem rb_pt : ∀ s : Fin 32, rb (pt s) = s := by decide +kernel

theorem q0 : ∀ t : Fin cfg0.N, win0_0.index t = ![(rb t).val, 0] :=
  (by decide +kernel : ∀ t : Fin grid0.N, win0_0.index t = ![(rb t).val, 0])

theorem q1 : ∀ t : Fin cfg0.N, win0_1.index t = ![(rb t).val, 0] :=
  (by decide +kernel : ∀ t : Fin grid0.N, win0_1.index t = ![(rb t).val, 0])

theorem q2 : ∀ t : Fin cfg0.N, win0_2.index t = ![0, 0] :=
  (by decide +kernel : ∀ t : Fin grid0.N, win0_2.index t = ![0, 0])

theorem q3 : ∀ t : Fin cfg0.N, win0_3.index t = ![0, 0] :=
  (by decide +kernel : ∀ t : Fin grid0.N, win0_3.index t = ![0, 0])

theorem q4 : ∀ t : Fin cfg0.N, win0_4.index t = ![(rb t).val, 0] :=
  (by decide +kernel : ∀ t : Fin grid0.N, win0_4.index t = ![(rb t).val, 0])

theorem q5 : ∀ t : Fin cfg0.N, win0_5.index t = ![(rb t).val, 0] :=
  (by decide +kernel : ∀ t : Fin grid0.N, win0_5.index t = ![(rb t).val, 0])

theorem q6 : ∀ t : Fin cfg0.N, win0_6.index t = ![(rb t).val, 0] :=
  (by decide +kernel : ∀ t : Fin grid0.N, win0_6.index t = ![(rb t).val, 0])

theorem q7 : ∀ t : Fin cfg0.N, win0_7.index t = ![(rb t).val, 0] :=
  (by decide +kernel : ∀ t : Fin grid0.N, win0_7.index t = ![(rb t).val, 0])

theorem q8 : ∀ t : Fin cfg0.N, win0_8.index t = ![0, 0] :=
  (by decide +kernel : ∀ t : Fin grid0.N, win0_8.index t = ![0, 0])

theorem q9 : ∀ t : Fin cfg0.N, win0_9.index t = ![0, 0] :=
  (by decide +kernel : ∀ t : Fin grid0.N, win0_9.index t = ![0, 0])

theorem x0 (t : Fin cfg0.N) (i : Fin 256) (k : Fin 2048) : iblk m c 0 t (ix2 i k) = sm m c (ix2 (row (rb t) i) k) := by
  have e : iblk m c 0 t (ix2 i k) = V m c main_arg0 (ix2 (row (rb t) i) k) := by
    blk_ext [iblk, q0 t, row]
  rw [e, V_main_arg0]

theorem x1 (t : Fin cfg0.N) (i : Fin 256) (k : Fin 2048) : iblk m c 1 t (ix2 i k) = mo m c (ix2 (row (rb t) i) k) := by
  have e : iblk m c 1 t (ix2 i k) = V m c main_arg1 (ix2 (row (rb t) i) k) := by
    blk_ext [iblk, q1 t, row]
  rw [e, V_main_arg1]

theorem x2 (t : Fin cfg0.N) (k : Fin 2048) : iblk m c 2 t (ix2 (0 : Fin 1) k) = wa m c (ix2 (0 : Fin 1) k) := by
  have e : iblk m c 2 t (ix2 (0 : Fin 1) k) = V m c main_arg2 (ix2 (0 : Fin 1) k) := by
    blk_ext [iblk, q2 t]
  rw [e, V_main_arg2]

theorem x3 (t : Fin cfg0.N) (k : Fin 2048) : iblk m c 3 t (ix2 (0 : Fin 1) k) = wb m c (ix2 (0 : Fin 1) k) := by
  have e : iblk m c 3 t (ix2 (0 : Fin 1) k) = V m c main_arg3 (ix2 (0 : Fin 1) k) := by
    blk_ext [iblk, q3 t]
  rw [e, V_main_arg3]

theorem x4 (t : Fin cfg0.N) (i : Fin 256) (k : Fin 2048) : iblk m c 4 t (ix2 i k) = past m c (ix2 (row (rb t) i) k) := by
  have e : iblk m c 4 t (ix2 i k) = V m c main_arg4 (ix2 (row (rb t) i) k) := by
    blk_ext [iblk, q4 t, row]
  rw [e, V_main_arg4]

theorem x5 (t : Fin cfg0.N) (i : Fin 256) (k : Fin 2048) : iblk m c 5 t (ix2 i k) = dh m c (ix2 (row (rb t) i) k) := by
  have e : iblk m c 5 t (ix2 i k) = V m c main_arg5 (ix2 (row (rb t) i) k) := by
    blk_ext [iblk, q5 t, row]
  rw [e, V_main_arg5]

/-- The gradient block of the sum, from the arrays. -/
theorem dblk_eq (t : Fin cfg0.N) (i : Fin 256) (j : Fin 2048) : dblk m c t (ix2 i j) = past m c (ix2 (row (rb t) i) j)
    + RmsBwd.dx (fun k => sm m c (ix2 (row (rb t) i) k)) (fun k => dh m c (ix2 (row (rb t) i) k) * wb m c (ix2 0 k)) j := by
  unfold dblk
  rw [block6]
  simp only [x0, x3, x4, x5]

section
variable (a b : S8192x2048.Idx → EReal) (u w : S1x2048.Idx → EReal) (e d : S8192x2048.Idx → EReal)

open Cert.Reference29Ideal.Read in
/-- The reference's gradient of the sum at an entry. -/
theorem ref6 (i : Fin 8192) (j : Fin 2048) :
    val_main_v37 (F := Ideal) a w e d (ix2 i j) = e (ix2 i j) + RmsBwd.dx (fun k => a (ix2 i k)) (fun k => d (ix2 i k) * w (ix2 0 k)) j := by
  rw [← NormInBwd.core]
  rfl

open Cert.Reference29Ideal.Read in
/-- The reference's gradient of the mixer's output at an entry. -/
theorem ref7 (i : Fin 8192) (j : Fin 2048) :
    val_main_v75 (F := Ideal) a b u w e d (ix2 i j) = RmsBwd.dx (fun k => b (ix2 i k)) (fun k => val_main_v37 (F := Ideal) a w e d (ix2 i k) * u (ix2 0 k)) j := by
  rw [← NormInBwd.core]
  rfl

open Cert.Reference29Ideal.Read in
/-- The reference's gradient of the first norm's weights at an entry. -/
theorem ref8 (j : Fin 2048) :
    val_main_v76 (F := Ideal) a b w e d (ix2 (0 : Fin 1) j) = ∑ i : Fin 8192, b (ix2 i j) * scale (fun k => b (ix2 i k)) * val_main_v37 (F := Ideal) a w e d (ix2 i j) :=
  NormInBwd.ref5 b (val_main_v37 (F := Ideal) a w e d) j

open Cert.Reference29Ideal.Read in
/-- The reference's gradient of the second norm's weights at an entry. -/
theorem ref9 (j : Fin 2048) :
    val_main_v77 (F := Ideal) a d (ix2 (0 : Fin 1) j) = ∑ i : Fin 8192, a (ix2 i j) * scale (fun k => a (ix2 i k)) * d (ix2 i j) :=
  NormInBwd.ref5 a d j

end

/-- The reference's gradient of the sum. -/
abbrev want6 : S8192x2048.Idx → EReal := Cert.Reference29Ideal.Read.val_main_v37 (F := Ideal) (sm m c) (wb m c) (past m c) (dh m c)
/-- The reference's gradient of the mixer's output. -/
abbrev want7 : S8192x2048.Idx → EReal := Cert.Reference29Ideal.Read.val_main_v75 (F := Ideal) (sm m c) (mo m c) (wa m c) (wb m c) (past m c) (dh m c)
/-- The reference's gradient of the first norm's weights. -/
abbrev want8 : S1x2048.Idx → EReal := Cert.Reference29Ideal.Read.val_main_v76 (F := Ideal) (sm m c) (mo m c) (wb m c) (past m c) (dh m c)
/-- The reference's gradient of the second norm's weights. -/
abbrev want9 : S1x2048.Idx → EReal := Cert.Reference29Ideal.Read.val_main_v77 (F := Ideal) (sm m c) (dh m c)

theorem dblk_want (t : Fin cfg0.N) (i : Fin 256) (j : Fin 2048) : dblk m c t (ix2 i j) = want6 m c (ix2 (row (rb t) i) j) := by
  rw [dblk_eq]
  exact (ref6 _ _ _ _ _ _).symm

theorem point6 (t : Fin cfg0.N) (y : S256x2048.Idx) (j : S8192x2048.Idx) (h0 : (j 0).val = (rb t).val * 256 + (y 0).val)
    (h1 : (j 1).val = (y 1).val) : (outsAt0 m c t.val t.isLt).1 y = want6 m c j := by
  obtain ⟨p, q, rfl⟩ := Mat.eta y
  have ej : j = ix2 (row (rb t) p) q := funext fun a => match a with
    | ⟨0, _⟩ => Fin.ext h0
    | ⟨1, _⟩ => Fin.ext h1
  rw [ej, left6, dblk_want]

theorem point7 (t : Fin cfg0.N) (y : S256x2048.Idx) (j : S8192x2048.Idx) (h0 : (j 0).val = (rb t).val * 256 + (y 0).val)
    (h1 : (j 1).val = (y 1).val) : (outsAt0 m c t.val t.isLt).2.1 y = want7 m c j := by
  obtain ⟨p, q, rfl⟩ := Mat.eta y
  have ej : j = ix2 (row (rb t) p) q := funext fun a => match a with
    | ⟨0, _⟩ => Fin.ext h0
    | ⟨1, _⟩ => Fin.ext h1
  rw [ej, left7, block7]
  refine Eq.trans ?_ (ref7 _ _ _ _ _ _ _ _).symm
  simp only [x1, x2, dblk_want]

theorem point8 (t : Fin cfg0.N) (ht : t.val = 31) (y : S1x2048.Idx) : (outsAt0 m c t.val t.isLt).2.2.1 y = want8 m c y := by
  obtain ⟨p, q, rfl⟩ := Mat.eta y
  obtain rfl : p = 0 := Subsingleton.elim _ _
  obtain rfl : t = pt 31 := Fin.ext ht
  refine Eq.trans ?_ (ref8 _ _ _ _ _ _).symm
  rw [bands]
  refine (acc8 m c q 31 (pt 31).isLt).trans (Finset.sum_congr rfl fun s _ => ?_)
  show part (iblk m c 1 (pt s)) (dblk m c (pt s)) q = _
  unfold part
  refine Finset.sum_congr rfl fun i _ => ?_
  have e1 := x1 m c (pt s) i
  have ed := dblk_want m c (pt s) i
  rw [rb_pt] at e1 ed
  simp only [e1, ed]
  rw [mul_assoc, mul_comm]

theorem point9 (t : Fin cfg0.N) (ht : t.val = 31) (y : S1x2048.Idx) : (outsAt0 m c t.val t.isLt).2.2.2 y = want9 m c y := by
  obtain ⟨p, q, rfl⟩ := Mat.eta y
  obtain rfl : p = 0 := Subsingleton.elim _ _
  obtain rfl : t = pt 31 := Fin.ext ht
  refine Eq.trans ?_ (ref9 _ _ _).symm
  rw [bands]
  refine (acc9 m c q 31 (pt 31).isLt).trans (Finset.sum_congr rfl fun s _ => ?_)
  show part (iblk m c 0 (pt s)) (iblk m c 5 (pt s)) q = _
  unfold part
  refine Finset.sum_congr rfl fun i _ => ?_
  have e0 := x0 m c (pt s) i
  have e5 := x5 m c (pt s) i
  rw [rb_pt] at e0 e5
  simp only [e0, e5]
  rw [mul_assoc, mul_comm]

theorem final6 : (dats m 0 c).arrAt 6 cfg0.N = want6 m c := by
  refine (dats m 0 c).arrAt_eq_of_covers 6 _ (by decide +kernel) fun t hf y => ?_
  blk_simp
  rw [after0_6]
  refine point6 m c t y _ ?_ ?_
  · blk_simp [q6 t]
  · blk_simp [q6 t]

theorem final7 : (dats m 0 c).arrAt 7 cfg0.N = want7 m c := by
  refine (dats m 0 c).arrAt_eq_of_covers 7 _ (by decide +kernel) fun t hf y => ?_
  blk_simp
  rw [after0_7]
  refine point7 m c t y _ ?_ ?_
  · blk_simp [q7 t]
  · blk_simp [q7 t]

theorem final8 : (dats m 0 c).arrAt 8 cfg0.N = want8 m c := by
  refine (dats m 0 c).arrAt_eq_of_covers 8 _ (by decide +kernel) fun t hf y => ?_
  have ht := (flush0_8 t).mp hf
  have hN : t.val < 32 := lt_of_lt_of_eq t.isLt N_0
  blk_simp
  rw [after0_8, point8 m c t (by omega)]
  obtain ⟨p, q, rfl⟩ := Mat.eta y
  refine congrArg _ (funext fun a => Fin.ext ?_)
  match a with
  | ⟨0, _⟩ => blk_simp [q8 t]
  | ⟨1, _⟩ => blk_simp [q8 t]

theorem final9 : (dats m 0 c).arrAt 9 cfg0.N = want9 m c := by
  refine (dats m 0 c).arrAt_eq_of_covers 9 _ (by decide +kernel) fun t hf y => ?_
  have ht := (flush0_9 t).mp hf
  have hN : t.val < 32 := lt_of_lt_of_eq t.isLt N_0
  blk_simp
  rw [after0_9, point9 m c t (by omega)]
  obtain ⟨p, q, rfl⟩ := Mat.eta y
  refine congrArg _ (funext fun a => Fin.ext ?_)
  match a with
  | ⟨0, _⟩ => blk_simp [q9 t]
  | ⟨1, _⟩ => blk_simp [q9 t]

theorem frameP : Cert.quiescent_Kernel29 := fun m ρ _ => Cert.Kernel29.Gen.frame m ρ

theorem framePI : Cert.quiescent_Kernel29Ideal := fun m ρ _ => Cert.Kernel29Ideal.Gen.frame m ρ

theorem frameRI : Cert.quiescent_Reference29Ideal := fun m ρ _ =>
  (θ_run Cert.Reference29Ideal.defs _ _).mono (fun r h => ⟨fun c => (h c).2.2.2.2, sem_eq_zero_of_no_sems (by decide) r.2⟩)
    (Cert.Reference29Ideal.Value.run m ρ)

theorem equal : Cert.algebraic_Kernel29Ideal_Reference29Ideal := by
  intro m ρ m' ρ' _ hag
  refine ⟨want6 m, want7 m, want8 m, want9 m, ?_, ?_⟩
  · exact (θ_run Cert.Kernel29Ideal.defs _ _).mono (fun r h c => ⟨(h c).1.trans (final6 m c), (h c).2.1.trans (final7 m c),
        (h c).2.2.1.trans (final8 m c), (h c).2.2.2.1.trans (final9 m c), (h c).2.2.2.2⟩)
      (Cert.Kernel29Ideal.Value.run_blocks m ρ)
  · refine (θ_run Cert.Reference29Ideal.defs _ _).mono (fun r h c => ⟨?_, ?_, ?_, ?_, (h c).2.2.2.2⟩) (Cert.Reference29Ideal.Value.run m' ρ')
    all_goals obtain ⟨e0, e1, e2, e3, e4, e5⟩ := hag c
    · refine ((h c).1.trans (Cert.Reference29Ideal.Read.val_main_v37_eq (F := Ideal) m' c)).trans ?_
      exact congr (congr (congr (congrArg (Cert.Reference29Ideal.Read.val_main_v37 (F := Ideal)) e0) e3) e4) e5
    · refine ((h c).2.1.trans (Cert.Reference29Ideal.Read.val_main_v75_eq (F := Ideal) m' c)).trans ?_
      exact congr (congr (congr (congr (congr (congrArg (Cert.Reference29Ideal.Read.val_main_v75 (F := Ideal)) e0) e1) e2) e3) e4) e5
    · refine ((h c).2.2.1.trans (Cert.Reference29Ideal.Read.val_main_v76_eq (F := Ideal) m' c)).trans ?_
      exact congr (congr (congr (congr (congrArg (Cert.Reference29Ideal.Read.val_main_v76 (F := Ideal)) e0) e1) e3) e4) e5
    · refine ((h c).2.2.2.1.trans (Cert.Reference29Ideal.Read.val_main_v77_eq (F := Ideal) _ _)).trans ?_
      exact congr (congrArg (Cert.Reference29Ideal.Read.val_main_v77 (F := Ideal)) e0) e5

end Cert.NormMidBwd
-- ==== Proof.LossHead.lean ====
module

public import proofs.«01_k».proof.Proof.Gen.Kernel30.Frame
public import proofs.«01_k».proof.Proof.Gen.Kernel30Ideal.Value
public import proofs.«01_k».proof.Proof.Gen.Reference30Ideal.Run
public import proofs.«01_k».proof.Proof.Gen.Reference30Ideal.Read
public import proofs.«01_k».proof.Proof.Mat
public import proofs.«01_k».proof.Proof.NormInBwd
public import proofs.«01_k».proof.Defs
public import Idealize.ShloMosaic.Lib.Quiescent
public import Idealize.ShloMosaic.Lib.StableHlo.ReadAt
public import Idealize.ShloMosaic.Lib.StableHlo.RunRead

@[expose] public section

/-! The loss and the backward of the norm of the feed-forward output. -/

set_option maxRecDepth 16384
noncomputable section

namespace Cert.LossHead
open Cert.Kernel30Ideal Cert.Kernel30Ideal.Gen Idealize.ShloMosaic Idealize.ShloMosaic.TcCoe Idealize.SL.Sem
open Idealize.ShloMosaic.Pipeline (Dat)
open Cert.NormIn (scale)
open scoped BigOperators

section
variable {F : FTy → Type} [FloatOps F] (c : Dev nD) (i : grid0.Coords)
  (a1 : Memref sig .tc .vmem S512x2048 .f32) (h1 : a1.IsWhole) (a2 : Memref sig .tc .vmem S512x2048 .f32) (h2 : a2.IsWhole) (a3 : Memref sig .tc .vmem S1x2048 .f32) (h3 : a3.IsWhole) (a4 : Memref sig .tc .vmem S512x2048 .f32) (h4 : a4.IsWhole) (a5 : Memref sig .tc .vmem S1x1 .f32) (h5 : a5.IsWhole) (a6 : Memref sig .tc .vmem S512x2048 .f32) (h6 : a6.IsWhole) (a7 : Memref sig .tc .vmem S512x2048 .bf16) (h7 : a7.IsWhole) (a8 : Memref sig .tc .vmem S1x2048 .f32) (h8 : a8.IsWhole)
  (x0 x1 : Vec F S512x2048 .f32) (x2 : Vec F S1x2048 .f32) (x3 : Vec F S512x2048 .f32)

/-- The first point: the loss. -/
theorem first4 (hc0 : cond0_0 i) :
    out0_A_4 (F := F) c i a1 h1 a2 h2 a3 h3 a4 h4 a5 h5 a6 h6 a7 h7 a8 h8 hc0 x0 x1 x2 x3 = k0_pay8 (F := F) x1 x2 x0 x3 (k0_pay5 (F := F)) := by
  unfold out0_A_4
  rw [View.read_writes_eq_canon _ _ _ (fun _ => cover0_A_4 ..)]
  unfold kernelRun0_A
  dsimp only
  sl_unfold_words
  rw [View.canon_cons_unit_zero (S := S1x1) Mat.hz, View.readCov_unit_zero (S := S1x1) _ Mat.hz]
  simp only [View.readAt_eq_ld, h1.read_unread, h2.read_unread, h3.read_unread, h4.read_unread, View.ld_unit_zero (S := S512x2048) Mat.hz, View.ld_unit_zero (S := S1x2048) Mat.hz]

/-- A later point: the loss. -/
theorem next4 (hc0 : ¬cond0_0 i) (xo4 : Vec F S1x1 .f32) (xo7 : Vec F S1x2048 .f32) :
    out0_B_4 (F := F) c i a1 h1 a2 h2 a3 h3 a4 h4 a5 h5 a6 h6 a7 h7 a8 h8 hc0 x0 x1 x2 x3 xo4 xo7 = k0_pay8 (F := F) x1 x2 x0 x3 xo4 := by
  unfold out0_B_4
  rw [View.read_writes_eq_canon _ _ _ (fun _ => cover0_B_4 ..)]
  unfold kernelRun0_B
  dsimp only
  sl_unfold_words
  rw [View.canon_unit_zero (S := S1x1) Mat.hz]
  simp only [View.readAt_eq_ld, h1.read_unread, h2.read_unread, h3.read_unread, h4.read_unread, h5.read_unread, h8.read_unread, View.ld_unit_zero (S := S512x2048) Mat.hz, View.ld_unit_zero (S := S1x2048) Mat.hz, View.ld_unit_zero (S := S1x1) Mat.hz]

/-- The first point: the gradient of the output. -/
theorem first5 (hc0 : cond0_0 i) :
    out0_A_5 (F := F) c i a1 h1 a2 h2 a3 h3 a4 h4 a5 h5 a6 h6 a7 h7 a8 h8 hc0 x0 x1 x2 x3 = k0_pay1 (F := F) (k0_pay7 (F := F) x1 x2 x0 x3) (k0_pay9 (F := F)) := by
  unfold out0_A_5
  rw [View.read_writes_eq_canon _ _ _ (fun _ => cover0_A_5 ..)]
  unfold kernelRun0_A
  dsimp only
  sl_unfold_words
  rw [View.canon_unit_zero (S := S512x2048) Mat.hz]
  simp only [View.readAt_eq_ld, h1.read_unread, h2.read_unread, h3.read_unread, h4.read_unread, View.ld_unit_zero (S := S512x2048) Mat.hz, View.ld_unit_zero (S := S1x2048) Mat.hz]

/-- A later point: the gradient of the output. -/
theorem next5 (hc0 : ¬cond0_0 i) (xo4 : Vec F S1x1 .f32) (xo7 : Vec F S1x2048 .f32) :
    out0_B_5 (F := F) c i a1 h1 a2 h2 a3 h3 a4 h4 a5 h5 a6 h6 a7 h7 a8 h8 hc0 x0 x1 x2 x3 xo4 xo7 = k0_pay1 (F := F) (k0_pay7 (F := F) x1 x2 x0 x3) (k0_pay9 (F := F)) := by
  unfold out0_B_5
  rw [View.read_writes_eq_canon _ _ _ (fun _ => cover0_B_5 ..)]
  unfold kernelRun0_B
  dsimp only
  sl_unfold_words
  rw [View.canon_unit_zero (S := S512x2048) Mat.hz]
  simp only [View.readAt_eq_ld, h1.read_unread, h2.read_unread, h3.read_unread, h4.read_unread, h5.read_unread, h8.read_unread, View.ld_unit_zero (S := S512x2048) Mat.hz, View.ld_unit_zero (S := S1x2048) Mat.hz]

/-- The first point: the gradient of the feed-forward output. -/
theorem first6 (hc0 : cond0_0 i) :
    out0_A_6 (F := F) c i a1 h1 a2 h2 a3 h3 a4 h4 a5 h5 a6 h6 a7 h7 a8 h8 hc0 x0 x1 x2 x3 = k0_pay3 (F := F) x1 x2 (k0_pay7 (F := F) x1 x2 x0 x3) (k0_pay9 (F := F)) := by
  unfold out0_A_6
  rw [View.read_writes_eq_canon _ _ _ (fun _ => cover0_A_6 ..)]
  unfold kernelRun0_A
  dsimp only
  sl_unfold_words
  rw [View.canon_unit_zero (S := S512x2048) Mat.hz]
  simp only [View.readAt_eq_ld, h1.read_unread, h2.read_unread, h3.read_unread, h4.read_unread, View.ld_unit_zero (S := S512x2048) Mat.hz, View.ld_unit_zero (S := S1x2048) Mat.hz]

/-- A later point: the gradient of the feed-forward output. -/
theorem next6 (hc0 : ¬cond0_0 i) (xo4 : Vec F S1x1 .f32) (xo7 : Vec F S1x2048 .f32) :
    out0_B_6 (F := F) c i a1 h1 a2 h2 a3 h3 a4 h4 a5 h5 a6 h6 a7 h7 a8 h8 hc0 x0 x1 x2 x3 xo4 xo7 = k0_pay3 (F := F) x1 x2 (k0_pay7 (F := F) x1 x2 x0 x3) (k0_pay9 (F := F)) := by
  unfold out0_B_6
  rw [View.read_writes_eq_canon _ _ _ (fun _ => cover0_B_6 ..)]
  unfold kernelRun0_B
  dsimp only
  sl_unfold_words
  rw [View.canon_unit_zero (S := S512x2048) Mat.hz]
  simp only [View.readAt_eq_ld, h1.read_unread, h2.read_unread, h3.read_unread, h4.read_unread, h5.read_unread, h8.read_unread, View.ld_unit_zero (S := S512x2048) Mat.hz, View.ld_unit_zero (S := S1x2048) Mat.hz]

/-- The first point: the gradient of the norm's weights. -/
theorem first7 (hc0 : cond0_0 i) :
    out0_A_7 (F := F) c i a1 h1 a2 h2 a3 h3 a4 h4 a5 h5 a6 h6 a7 h7 a8 h8 hc0 x0 x1 x2 x3 = k0_pay4 (F := F) x1 (k0_pay7 (F := F) x1 x2 x0 x3) (k0_pay9 (F := F)) (k0_pay6 (F := F)) := by
  unfold out0_A_7
  rw [View.read_writes_eq_canon _ _ _ (fun _ => cover0_A_7 ..)]
  unfold kernelRun0_A
  dsimp only
  sl_unfold_words
  rw [View.canon_cons_unit_zero (S := S1x2048) Mat.hz, View.readCov_unit_zero (S := S1x2048) _ Mat.hz]
  simp only [View.readAt_eq_ld, h1.read_unread, h2.read_unread, h3.read_unread, h4.read_unread, View.ld_unit_zero (S := S512x2048) Mat.hz, View.ld_unit_zero (S := S1x2048) Mat.hz]

/-- A later point: the gradient of the norm's weights. -/
theorem next7 (hc0 : ¬cond0_0 i) (xo4 : Vec F S1x1 .f32) (xo7 : Vec F S1x2048 .f32) :
    out0_B_7 (F := F) c i a1 h1 a2 h2 a3 h3 a4 h4 a5 h5 a6 h6 a7 h7 a8 h8 hc0 x0 x1 x2 x3 xo4 xo7 = k0_pay4 (F := F) x1 (k0_pay7 (F := F) x1 x2 x0 x3) (k0_pay9 (F := F)) xo7 := by
  unfold out0_B_7
  rw [View.read_writes_eq_canon _ _ _ (fun _ => cover0_B_7 ..)]
  unfold kernelRun0_B
  dsimp only
  sl_unfold_words
  rw [View.canon_unit_zero (S := S1x2048) Mat.hz]
  simp only [View.readAt_eq_ld, h1.read_unread, h2.read_unread, h3.read_unread, h4.read_unread, h5.read_unread, h8.read_unread, View.ld_unit_zero (S := S512x2048) Mat.hz, View.ld_unit_zero (S := S1x2048) Mat.hz]

end

/-- One half. -/
def half : EReal := Ideal.ofBits .f32 0x3F000000#32

theorem half_eq : half = ((1 / 2 : ℝ) : EReal) := by
  show Ideal.ofBits .f32 0x3F000000#32 = _
  simp [Ideal.ofBits, Ideal.ieee, -EReal.coe_mul] <;> norm_num

/-- The reciprocal of the row's length. -/
def rcp : EReal := Ideal.ofBits .f32 0x3A000000#32

theorem rcp_eq : rcp = ((1 / 2048 : ℝ) : EReal) := by
  show Ideal.ofBits .f32 0x3A000000#32 = _
  simp [Ideal.ofBits, Ideal.ieee, -EReal.coe_mul] <;> norm_num

/-- Two. -/
def two : EReal := Ideal.ofBits .f32 0x40000000#32

theorem two_eq : two = ((2 : ℝ) : EReal) := by
  show Ideal.ofBits .f32 0x40000000#32 = _
  simp [Ideal.ofBits, Ideal.ieee, -EReal.coe_mul] <;> norm_num

/-- The derivative of half the mean square. -/
theorem slope (x : EReal) : Ideal.div (half * Ideal.ofBits .f32 0x3F800000#32) RmsBwd.len * (two * x) = x * rcp := by
  rw [Ideal.ofBits_one_f32, mul_one, RmsBwd.div_len, ← mul_assoc, mul_comm x]
  congr 1
  rw [half_eq, two_eq, rcp_eq, RmsBwd.len_eq, ← EReal.coe_inv, ← EReal.coe_mul, ← EReal.coe_mul]
  norm_num

/-- One half goes into a sum. -/
theorem half_sum {ι : Type} (s : Finset ι) (f : ι → EReal) : half * ∑ i ∈ s, f i = ∑ i ∈ s, half * f i := by
  classical
  have h0 : 0 ≤ half := by rw [half_eq]; exact EReal.coe_nonneg.mpr (by norm_num)
  have h1 : half ≠ ⊤ := by rw [half_eq]; exact EReal.coe_ne_top _
  induction s using Finset.induction_on with
  | empty => simp
  | insert a s ha ih => rw [Finset.sum_insert ha, Finset.sum_insert ha, EReal.left_distrib_of_nonneg_of_ne_top h0 h1, ih]

/-- The error at an entry. -/
theorem error (f : FVec Ideal S512x2048 .f32) (w : FVec Ideal S1x2048 .f32) (x y : FVec Ideal S512x2048 .f32) (i : Fin 512) (j : Fin 2048) :
    k0_pay7 (F := Ideal) f w x y (ix2 i j) = x (ix2 i j) + f (ix2 i j) * scale (fun k => f (ix2 i k)) * w (ix2 0 j) - y (ix2 i j) := by
  unfold k0_pay7
  pointwise
  rfl

/-- The gradient of the output at an entry. -/
theorem block5 (z : FVec Ideal S512x2048 .f32) (i : Fin 512) (j : Fin 2048) :
    k0_pay1 (F := Ideal) z (k0_pay9 (F := Ideal)) (ix2 i j) = z (ix2 i j) * rcp := rfl

/-- The gradient of the feed-forward output at an entry. -/
theorem block6 (f : FVec Ideal S512x2048 .f32) (w : FVec Ideal S1x2048 .f32) (z g : FVec Ideal S512x2048 .f32) (i : Fin 512) (j : Fin 2048) :
    k0_pay3 (F := Ideal) f w z g (ix2 i j) = RmsBwd.dx (fun k => f (ix2 i k)) (fun k => k0_pay1 (F := Ideal) z g (ix2 i k) * w (ix2 0 k)) j := by
  unfold k0_pay3 k0_pay2
  generalize k0_pay1 (F := Ideal) z g = d
  pointwise
  rfl

/-- The share of a block in the gradient of the norm's weights. -/
def part (v d : FVec Ideal S512x2048 .f32) (j : Fin 2048) : EReal :=
  ∑ i : Fin 512, d (ix2 i j) * v (ix2 i j) * scale (fun k => v (ix2 i k))

theorem step7 (f z g : FVec Ideal S512x2048 .f32) (acc : FVec Ideal S1x2048 .f32) (j : Fin 2048) :
    k0_pay4 (F := Ideal) f z g acc (ix2 (0 : Fin 1) j) = acc (ix2 (0 : Fin 1) j) + part f (k0_pay1 (F := Ideal) z g) j := by
  unfold k0_pay4 k0_pay2
  simp only [shapeCast_self]
  generalize k0_pay1 (F := Ideal) z g = d
  pointwise
  rfl

/-- The mean square of a row. -/
def msq (v : Fin 2048 → EReal) : EReal := Ideal.div (∑ k, v k * v k) RmsBwd.len

/-- The share of a block in the loss. -/
def loss (d : FVec Ideal S512x2048 .f32) : EReal := half * ∑ i : Fin 512, msq (fun k => d (ix2 i k))

theorem step4 (f : FVec Ideal S512x2048 .f32) (w : FVec Ideal S1x2048 .f32) (x y : FVec Ideal S512x2048 .f32) (acc : FVec Ideal S1x1 .f32) :
    k0_pay8 (F := Ideal) f w x y acc (ix2 (0 : Fin 1) (0 : Fin 1)) = acc (ix2 (0 : Fin 1) (0 : Fin 1)) + loss (k0_pay7 (F := Ideal) f w x y) := by
  unfold k0_pay8
  simp only [shapeCast_self]
  generalize k0_pay7 (F := Ideal) f w x y = d
  pointwise
  rfl

variable (m : (ℓ : Loc nD τ sig) → Buf (Elt Ideal) ℓ) (c : Dev nD)

/-- The sum's array. -/
abbrev sm : S8192x2048.Idx → EReal := m ((c : Thread nD τ).loc main_arg0)
/-- The feed-forward output. -/
abbrev ff : S8192x2048.Idx → EReal := m ((c : Thread nD τ).loc main_arg1)
/-- The weights of the norm. -/
abbrev wt : S1x2048.Idx → EReal := m ((c : Thread nD τ).loc main_arg2)
/-- The target. -/
abbrev tg : S8192x2048.Idx → EReal := m ((c : Thread nD τ).loc main_arg3)

/-- The error block at a grid point. -/
def eblk (t : Fin cfg0.N) : FVec Ideal S512x2048 .f32 := k0_pay7 (F := Ideal) (iblk m c 1 t) (iblk m c 2 t) (iblk m c 0 t) (iblk m c 3 t)

/-- The output's gradient block at a grid point. -/
def dblk (t : Fin cfg0.N) : FVec Ideal S512x2048 .f32 := k0_pay1 (F := Ideal) (eblk m c t) (k0_pay9 (F := Ideal))

/-- The share of a grid point in the loss. -/
def share4 (t : Fin cfg0.N) : EReal := loss (eblk m c t)

/-- The share of a grid point in the weights' gradient. -/
def share7 (t : Fin cfg0.N) (j : Fin 2048) : EReal := part (iblk m c 1 t) (dblk m c t) j

theorem left5 (t : Fin cfg0.N) : (outsAt0 m c t.val t.isLt).2.1 = dblk m c t := by
  by_cases h : t.val % 16 = 0
  · rw [outsAt0_A m c t h]
    dsimp only
    rw [first5]
    rfl
  · rw [outsAt0_B m c t h]
    dsimp only
    rw [next5]
    rfl

theorem left6 (t : Fin cfg0.N) : (outsAt0 m c t.val t.isLt).2.2.1 = k0_pay3 (F := Ideal) (iblk m c 1 t) (iblk m c 2 t) (eblk m c t) (k0_pay9 (F := Ideal)) := by
  by_cases h : t.val % 16 = 0
  · rw [outsAt0_A m c t h]
    dsimp only
    rw [first6]
    rfl
  · rw [outsAt0_B m c t h]
    dsimp only
    rw [next6]
    rfl

theorem acc_first4 (t : Fin cfg0.N) (h : t.val % 16 = 0) :
    (outsAt0 m c t.val t.isLt).1 (ix2 (0 : Fin 1) (0 : Fin 1)) = share4 m c t := by
  rw [outsAt0_A m c t h]
  dsimp only
  rw [first4, step4]
  have z : k0_pay5 (F := Ideal) (ix2 (0 : Fin 1) (0 : Fin 1)) = (0 : EReal) := Ideal.ofBits_zero_f32
  rw [z, zero_add]
  rfl

theorem acc_next4 (n : ℕ) (hn : n + 1 < cfg0.N) (h : ¬(n + 1) % 16 = 0) :
    (outsAt0 m c (n + 1) hn).1 (ix2 (0 : Fin 1) (0 : Fin 1)) = (outsAt0 m c n (by omega)).1 (ix2 (0 : Fin 1) (0 : Fin 1)) + share4 m c ⟨n + 1, hn⟩ := by
  rw [outsAt0_B m c ⟨n + 1, hn⟩ h]
  dsimp only
  rw [next4, step4]
  rfl

theorem acc4 : ∀ (n : ℕ) (hn : n < cfg0.N), (outsAt0 m c n hn).1 (ix2 (0 : Fin 1) (0 : Fin 1)) = ∑ s : Fin (n + 1), share4 m c ⟨s.val, by omega⟩
  | 0, hn => by
    rw [Fin.sum_univ_one]
    exact acc_first4 m c ⟨0, hn⟩ rfl
  | n + 1, hn => by
    have h16 : n + 1 < 16 := lt_of_lt_of_eq hn N_0
    rw [Fin.sum_univ_castSucc, acc_next4 m c n hn (by omega), acc4 n (by omega)]
    rfl

theorem acc_first7 (t : Fin cfg0.N) (h : t.val % 16 = 0) (j : Fin 2048) :
    (outsAt0 m c t.val t.isLt).2.2.2 (ix2 (0 : Fin 1) j) = share7 m c t j := by
  rw [outsAt0_A m c t h]
  dsimp only
  rw [first7, step7]
  have z : k0_pay6 (F := Ideal) (ix2 (0 : Fin 1) j) = (0 : EReal) := Ideal.ofBits_zero_f32
  rw [z, zero_add]
  rfl

theorem acc_next7 (n : ℕ) (hn : n + 1 < cfg0.N) (h : ¬(n + 1) % 16 = 0) (j : Fin 2048) :
    (outsAt0 m c (n + 1) hn).2.2.2 (ix2 (0 : Fin 1) j) = (outsAt0 m c n (by omega)).2.2.2 (ix2 (0 : Fin 1) j) + share7 m c ⟨n + 1, hn⟩ j := by
  rw [outsAt0_B m c ⟨n + 1, hn⟩ h]
  dsimp only
  rw [next7, step7]
  rfl

theorem acc7 (j : Fin 2048) : ∀ (n : ℕ) (hn : n < cfg0.N), (outsAt0 m c n hn).2.2.2 (ix2 (0 : Fin 1) j) = ∑ s : Fin (n + 1), share7 m c ⟨s.val, by omega⟩ j
  | 0, hn => by
    rw [Fin.sum_univ_one]
    exact acc_first7 m c ⟨0, hn⟩ rfl j
  | n + 1, hn => by
    have h16 : n + 1 < 16 := lt_of_lt_of_eq hn N_0
    rw [Fin.sum_univ_castSucc, acc_next7 m c n hn (by omega) j, acc7 j n (by omega)]
    rfl

/-- The row block of a grid point. -/
def rb (t : Fin cfg0.N) : Fin 16 := ⟨(grid0.coords t 0).val, (grid0.coords t 0).isLt⟩

/-- The grid point of a row block. -/
def pt (s : Fin 16) : Fin cfg0.N := ⟨s.val, by rw [show cfg0.N = 16 from N_0]; exact s.isLt⟩

/-- Row `i` of row block `a`. -/
def row (a : Fin 16) (i : Fin 512) : Fin 8192 := ⟨a.val * 512 + i.val, by omega⟩

/-- A sum over all rows, block by block. -/
theorem bands (f : Fin 8192 → EReal) : ∑ k, f k = ∑ s : Fin 16, ∑ i : Fin 512, f (row s i) :=
  Mat.split (S := 16) (K := 512) f fun _ _ => rfl

theorem rb_pt : ∀ s : Fin 16, rb (pt s) = s := by decide +kernel

theorem q0 : ∀ t : Fin cfg0.N, win0_0.index t = ![(rb t).val, 0] :=
  (by decide +kernel : ∀ t : Fin grid0.N, win0_0.index t = ![(rb t).val, 0])

theorem q1 : ∀ t : Fin cfg0.N, win0_1.index t = ![(rb t).val, 0] :=
  (by decide +kernel : ∀ t : Fin grid0.N, win0_1.index t = ![(rb t).val, 0])

theorem q2 : ∀ t : Fin cfg0.N, win0_2.index t = ![0, 0] :=
  (by decide +kernel : ∀ t : Fin grid0.N, win0_2.index t = ![0, 0])

theorem q3 : ∀ t : Fin cfg0.N, win0_3.index t = ![(rb t).val, 0] :=
  (by decide +kernel : ∀ t : Fin grid0.N, win0_3.index t = ![(rb t).val, 0])

theorem q4 : ∀ t : Fin cfg0.N, win0_4.index t = ![0, 0] :=
  (by decide +kernel : ∀ t : Fin grid0.N, win0_4.index t = ![0, 0])

theorem q5 : ∀ t : Fin cfg0.N, win0_5.index t = ![(rb t).val, 0] :=
  (by decide +kernel : ∀ t : Fin grid0.N, win0_5.index t = ![(rb t).val, 0])

theorem q6 : ∀ t : Fin cfg0.N, win0_6.index t = ![(rb t).val, 0] :=
  (by decide +kernel : ∀ t : Fin grid0.N, win0_6.index t = ![(rb t).val, 0])

theorem q7 : ∀ t : Fin cfg0.N, win0_7.index t = ![0, 0] :=
  (by decide +kernel : ∀ t : Fin grid0.N, win0_7.index t = ![0, 0])

theorem x0 (t : Fin cfg0.N) (i : Fin 512) (k : Fin 2048) : iblk m c 0 t (ix2 i k) = sm m c (ix2 (row (rb t) i) k) := by
  have e : iblk m c 0 t (ix2 i k) = V m c main_arg0 (ix2 (row (rb t) i) k) := by
    blk_ext [iblk, q0 t, row]
  rw [e, V_main_arg0]

theorem x1 (t : Fin cfg0.N) (i : Fin 512) (k : Fin 2048) : iblk m c 1 t (ix2 i k) = ff m c (ix2 (row (rb t) i) k) := by
  have e : iblk m c 1 t (ix2 i k) = V m c main_arg1 (ix2 (row (rb t) i) k) := by
    blk_ext [iblk, q1 t, row]
  rw [e, V_main_arg1]

theorem x2 (t : Fin cfg0.N) (k : Fin 2048) : iblk m c 2 t (ix2 (0 : Fin 1) k) = wt m c (ix2 (0 : Fin 1) k) := by
  have e : iblk m c 2 t (ix2 (0 : Fin 1) k) = V m c main_arg2 (ix2 (0 : Fin 1) k) := by
    blk_ext [iblk, q2 t]
  rw [e, V_main_arg2]

theorem x3 (t : Fin cfg0.N) (i : Fin 512) (k : Fin 2048) : iblk m c 3 t (ix2 i k) = tg m c (ix2 (row (rb t) i) k) := by
  have e : iblk m c 3 t (ix2 i k) = V m c main_arg3 (ix2 (row (rb t) i) k) := by
    blk_ext [iblk, q3 t, row]
  rw [e, V_main_arg3]

open Cert.Reference30Ideal.Read in
theorem root (a : S8192x2048.Idx → EReal) (i : Fin 8192) :
    val_main_v8 (F := Ideal) a (ix2 i (0 : Fin 1)) = scale (fun k => a (ix2 i k)) :=
  NormInBwd.root a i

section
variable (x a : S8192x2048.Idx → EReal) (w : S1x2048.Idx → EReal) (y : S8192x2048.Idx → EReal)

open Cert.Reference30Ideal.Read in
/-- The reference's error at an entry. -/
theorem ref_err (i : Fin 8192) (j : Fin 2048) : val_main_v18 (F := Ideal) x a w y (ix2 i j)
    = x (ix2 i j) + a (ix2 i j) * scale (fun k => a (ix2 i k)) * w (ix2 0 j) - y (ix2 i j) := by
  have s : idx_main_v12 (ix2 i j) = (ix2 i (0 : Fin 1) : Cert.Reference30Ideal.S8192x1.Idx) := funext fun a => match a with
    | ⟨0, _⟩ => rfl
    | ⟨1, _⟩ => rfl
  have q : idx_main_v0 (idx_main_v14 (idx_main_v15 (ix2 i j))) = ix2 (0 : Fin 1) j := funext fun a => match a with
    | ⟨0, _⟩ => rfl
    | ⟨1, _⟩ => Fin.ext (Nat.mod_eq_of_lt j.isLt)
  simp only [val_main_v18_apply, val_main_v17_apply, val_main_v16_apply, val_main_v15_apply, val_main_v14_apply, val_main_v0_apply, q,
    val_main_v13_apply, val_main_v12_apply, s, root]
  rfl

open Cert.Reference30Ideal.Read in
/-- The reference's gradient of the output is the error over the row's length. -/
theorem ref5 (j : S8192x2048.Idx) : val_main_v32 (F := Ideal) x a w y j = val_main_v18 (F := Ideal) x a w y j * rcp := by
  rw [← slope]
  simp only [val_main_v32_apply, val_main_v31_apply, val_main_v30_apply, val_main_v29_apply, val_main_cst_10_apply, val_main_v28_apply, val_main_v27_apply,
    val_main_cst_8_apply, val_main_cst_9_apply, val_main_v21_apply, val_main_v20_apply, val_main_cst_3_apply]
  rfl

open Cert.Reference30Ideal.Read in
/-- The reference's loss. -/
theorem ref4 : val_main_v53 (F := Ideal) x a w y (ix2 (0 : Fin 1) (0 : Fin 1))
    = half * ∑ i : Fin 8192, msq (fun k => val_main_v18 (F := Ideal) x a w y (ix2 i k)) := by
  have p (i : Fin 8192) (k : Fin 2048) : idx_main_v22 (ix1 i) k = ix2 i k := funext fun a => match a with
    | ⟨0, _⟩ => rfl
    | ⟨1, _⟩ => rfl
  have z : (FloatOps.ofBits (F := Ideal) .f32 0x00000000#32 : EReal) = 0 := Ideal.ofBits_zero_f32
  have e (i : Fin 8192) : val_main_v24 (F := Ideal) x a w y (ix1 i) = msq (fun k => val_main_v18 (F := Ideal) x a w y (ix2 i k)) := by
    rw [val_main_v24_apply, val_main_v23_apply, val_main_cst_5_apply, val_main_v22_apply, val_main_cst_4_apply, z, zero_add]
    simp only [p, val_main_v19_apply]
    rfl
  have g : ∑ j : Cert.Reference30Ideal.S8192.Idx, val_main_v24 (F := Ideal) x a w y j = ∑ i : Fin 8192, val_main_v24 (F := Ideal) x a w y (ix1 i) :=
    (Fintype.sum_bijective (fun i : Fin 8192 => (ix1 i : Cert.Reference30Ideal.S8192.Idx))
      ⟨fun _ _ h => congrFun h 0, fun j => ⟨j 0, funext fun a => match a with | ⟨0, _⟩ => rfl⟩⟩ _ _ fun _ => rfl).symm
  rw [val_main_v53_apply, val_main_v26_apply, val_main_v25_apply, val_main_cst_6_apply, z, zero_add, g, val_main_cst_7_apply]
  simp only [e]
  rfl

open Cert.Reference30Ideal.Read in
/-- The reference's gradient of the feed-forward output at an entry. -/
theorem ref6 (i : Fin 8192) (j : Fin 2048) :
    val_main_v54 (F := Ideal) x a w y (ix2 i j) = RmsBwd.dx (fun k => a (ix2 i k)) (fun k => val_main_v32 (F := Ideal) x a w y (ix2 i k) * w (ix2 0 k)) j := by
  rw [← NormInBwd.core]
  rfl

open Cert.Reference30Ideal.Read in
/-- The reference's gradient of the weights at an entry. -/
theorem ref7 (j : Fin 2048) :
    val_main_v55 (F := Ideal) x a w y (ix2 (0 : Fin 1) j) = ∑ i : Fin 8192, a (ix2 i j) * scale (fun k => a (ix2 i k)) * val_main_v32 (F := Ideal) x a w y (ix2 i j) :=
  NormInBwd.ref5 a (val_main_v32 (F := Ideal) x a w y) j

end

/-- The reference's error. -/
abbrev werr : S8192x2048.Idx → EReal := Cert.Reference30Ideal.Read.val_main_v18 (F := Ideal) (sm m c) (ff m c) (wt m c) (tg m c)
/-- The reference's loss. -/
abbrev want4 : S1x1.Idx → EReal := Cert.Reference30Ideal.Read.val_main_v53 (F := Ideal) (sm m c) (ff m c) (wt m c) (tg m c)
/-- The reference's gradient of the output. -/
abbrev want5 : S8192x2048.Idx → EReal := Cert.Reference30Ideal.Read.val_main_v32 (F := Ideal) (sm m c) (ff m c) (wt m c) (tg m c)
/-- The reference's gradient of the feed-forward output. -/
abbrev want6 : S8192x2048.Idx → EReal := Cert.Reference30Ideal.Read.val_main_v54 (F := Ideal) (sm m c) (ff m c) (wt m c) (tg m c)
/-- The reference's gradient of the norm's weights. -/
abbrev want7 : S1x2048.Idx → EReal := Cert.Reference30Ideal.Read.val_main_v55 (F := Ideal) (sm m c) (ff m c) (wt m c) (tg m c)

theorem eblk_want (t : Fin cfg0.N) (i : Fin 512) (j : Fin 2048) : eblk m c t (ix2 i j) = werr m c (ix2 (row (rb t) i) j) := by
  unfold eblk
  refine Eq.trans ?_ (ref_err _ _ _ _ _ _).symm
  rw [error]
  simp only [x0, x1, x2, x3]

theorem dblk_want (t : Fin cfg0.N) (i : Fin 512) (j : Fin 2048) : dblk m c t (ix2 i j) = want5 m c (ix2 (row (rb t) i) j) := by
  unfold dblk
  refine Eq.trans ?_ (ref5 _ _ _ _ _).symm
  rw [block5, eblk_want]

theorem point4 (t : Fin cfg0.N) (ht : t.val = 15) (y : S1x1.Idx) : (outsAt0 m c t.val t.isLt).1 y = want4 m c y := by
  obtain ⟨p, q, rfl⟩ := Mat.eta y
  obtain rfl : p = 0 := Subsingleton.elim _ _
  obtain rfl : q = 0 := Subsingleton.elim _ _
  obtain rfl : t = pt 15 := Fin.ext ht
  refine Eq.trans ?_ (ref4 _ _ _ _).symm
  rw [bands, half_sum]
  refine (acc4 m c 15 (pt 15).isLt).trans (Finset.sum_congr rfl fun s _ => ?_)
  show loss (eblk m c (pt s)) = _
  unfold loss
  refine congrArg (fun u => half * u) (Finset.sum_congr rfl fun i _ => ?_)
  have e := eblk_want m c (pt s) i
  rw [rb_pt] at e
  simp only [e]

theorem point5 (t : Fin cfg0.N) (y : S512x2048.Idx) (j : S8192x2048.Idx) (h0 : (j 0).val = (rb t).val * 512 + (y 0).val)
    (h1 : (j 1).val = (y 1).val) : (outsAt0 m c t.val t.isLt).2.1 y = want5 m c j := by
  obtain ⟨p, q, rfl⟩ := Mat.eta y
  have ej : j = ix2 (row (rb t) p) q := funext fun a => match a with
    | ⟨0, _⟩ => Fin.ext h0
    | ⟨1, _⟩ => Fin.ext h1
  rw [ej, left5, dblk_want]

theorem point6 (t : Fin cfg0.N) (y : S512x2048.Idx) (j : S8192x2048.Idx) (h0 : (j 0).val = (rb t).val * 512 + (y 0).val)
    (h1 : (j 1).val = (y 1).val) : (outsAt0 m c t.val t.isLt).2.2.1 y = want6 m c j := by
  obtain ⟨p, q, rfl⟩ := Mat.eta y
  have ej : j = ix2 (row (rb t) p) q := funext fun a => match a with
    | ⟨0, _⟩ => Fin.ext h0
    | ⟨1, _⟩ => Fin.ext h1
  rw [ej, left6, block6]
  refine Eq.trans ?_ (ref6 _ _ _ _ _ _).symm
  have e (k : Fin 2048) : k0_pay1 (F := Ideal) (eblk m c t) (k0_pay9 (F := Ideal)) (ix2 p k) = want5 m c (ix2 (row (rb t) p) k) := dblk_want m c t p k
  simp only [x1, x2, e]

theorem point7 (t : Fin cfg0.N) (ht : t.val = 15) (y : S1x2048.Idx) : (outsAt0 m c t.val t.isLt).2.2.2 y = want7 m c y := by
  obtain ⟨p, q, rfl⟩ := Mat.eta y
  obtain rfl : p = 0 := Subsingleton.elim _ _
  obtain rfl : t = pt 15 := Fin.ext ht
  refine Eq.trans ?_ (ref7 _ _ _ _ _).symm
  rw [bands]
  refine (acc7 m c q 15 (pt 15).isLt).trans (Finset.sum_congr rfl fun s _ => ?_)
  show part (iblk m c 1 (pt s)) (dblk m c (pt s)) q = _
  unfold part
  refine Finset.sum_congr rfl fun i _ => ?_
  have e1 := x1 m c (pt s) i
  have ed := dblk_want m c (pt s) i
  rw [rb_pt] at e1 ed
  simp only [e1, ed]
  rw [mul_assoc, mul_comm]

theorem final5 : (dats m 0 c).arrAt 5 cfg0.N = want5 m c := by
  refine (dats m 0 c).arrAt_eq_of_covers 5 _ (by decide +kernel) fun t hf y => ?_
  blk_simp
  rw [after0_5]
  refine point5 m c t y _ ?_ ?_
  · blk_simp [q5 t]
  · blk_simp [q5 t]

theorem final6 : (dats m 0 c).arrAt 6 cfg0.N = want6 m c := by
  refine (dats m 0 c).arrAt_eq_of_covers 6 _ (by decide +kernel) fun t hf y => ?_
  blk_simp
  rw [after0_6]
  refine point6 m c t y _ ?_ ?_
  · blk_simp [q6 t]
  · blk_simp [q6 t]

theorem final4 : (dats m 0 c).arrAt 4 cfg0.N = want4 m c := by
  refine (dats m 0 c).arrAt_eq_of_covers 4 _ (by decide +kernel) fun t hf y => ?_
  have ht := (flush0_4 t).mp hf
  have hN : t.val < 16 := lt_of_lt_of_eq t.isLt N_0
  blk_simp
  rw [after0_4, point4 m c t (by omega)]
  obtain ⟨p, q, rfl⟩ := Mat.eta y
  refine congrArg _ (funext fun a => Fin.ext ?_)
  match a with
  | ⟨0, _⟩ => blk_simp [q4 t]
  | ⟨1, _⟩ => blk_simp [q4 t]

theorem final7 : (dats m 0 c).arrAt 7 cfg0.N = want7 m c := by
  refine (dats m 0 c).arrAt_eq_of_covers 7 _ (by decide +kernel) fun t hf y => ?_
  have ht := (flush0_7 t).mp hf
  have hN : t.val < 16 := lt_of_lt_of_eq t.isLt N_0
  blk_simp
  rw [after0_7, point7 m c t (by omega)]
  obtain ⟨p, q, rfl⟩ := Mat.eta y
  refine congrArg _ (funext fun a => Fin.ext ?_)
  match a with
  | ⟨0, _⟩ => blk_simp [q7 t]
  | ⟨1, _⟩ => blk_simp [q7 t]

theorem frameP : Cert.quiescent_Kernel30 := fun m ρ _ => Cert.Kernel30.Gen.frame m ρ

theorem framePI : Cert.quiescent_Kernel30Ideal := fun m ρ _ => Cert.Kernel30Ideal.Gen.frame m ρ

theorem frameRI : Cert.quiescent_Reference30Ideal := fun m ρ _ =>
  (θ_run Cert.Reference30Ideal.defs _ _).mono (fun r h => ⟨fun c => (h c).2.2.2.2, sem_eq_zero_of_no_sems (by decide) r.2⟩)
    (Cert.Reference30Ideal.Value.run m ρ)

theorem equal : Cert.algebraic_Kernel30Ideal_Reference30Ideal := by
  intro m ρ m' ρ' _ hag
  refine ⟨want4 m, want5 m, want6 m, want7 m, ?_, ?_⟩
  · exact (θ_run Cert.Kernel30Ideal.defs _ _).mono (fun r h c => ⟨(h c).1.trans (final4 m c), (h c).2.1.trans (final5 m c),
        (h c).2.2.1.trans (final6 m c), (h c).2.2.2.1.trans (final7 m c), (h c).2.2.2.2⟩)
      (Cert.Kernel30Ideal.Value.run_blocks m ρ)
  · refine (θ_run Cert.Reference30Ideal.defs _ _).mono (fun r h c => ⟨?_, ?_, ?_, ?_, (h c).2.2.2.2⟩) (Cert.Reference30Ideal.Value.run m' ρ')
    all_goals obtain ⟨e0, e1, e2, e3⟩ := hag c
    · refine ((h c).1.trans (Cert.Reference30Ideal.Read.val_main_v53_eq (F := Ideal) _ _ _ _)).trans ?_
      exact congr (congr (congr (congrArg (Cert.Reference30Ideal.Read.val_main_v53 (F := Ideal)) e0) e1) e2) e3
    · refine ((h c).2.1.trans (Cert.Reference30Ideal.Read.val_main_v32_eq (F := Ideal) _ _ _ _)).trans ?_
      exact congr (congr (congr (congrArg (Cert.Reference30Ideal.Read.val_main_v32 (F := Ideal)) e0) e1) e2) e3
    · refine ((h c).2.2.1.trans (Cert.Reference30Ideal.Read.val_main_v54_eq (F := Ideal) m' c)).trans ?_
      exact congr (congr (congr (congrArg (Cert.Reference30Ideal.Read.val_main_v54 (F := Ideal)) e0) e1) e2) e3
    · refine ((h c).2.2.2.1.trans (Cert.Reference30Ideal.Read.val_main_v55_eq (F := Ideal) _ _ _ _)).trans ?_
      exact congr (congr (congr (congrArg (Cert.Reference30Ideal.Read.val_main_v55 (F := Ideal)) e0) e1) e2) e3

end Cert.LossHead
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel8Ideal.Value
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel12Ideal.Value
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel13Ideal.Value
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel14Ideal.Value
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel17Ideal.Value
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel19Ideal.Value
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel20Ideal.Value
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel21Ideal.Value
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel22Ideal.Value
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel23Ideal.Value
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel24Ideal.Value
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel25Ideal.Value
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel26Ideal.Value
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel27Ideal.Value
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel28Ideal.Value
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel29Ideal.Value
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel30Ideal.Value
public import proofs.«01_k».proof.Proof.Claims
public import proofs.«01_k».proof.Proof.Dh2
public import proofs.«01_k».proof.Proof.DwUp
public import proofs.«01_k».proof.Proof.DwDown
public import proofs.«01_k».proof.Proof.DAct
public import proofs.«01_k».proof.Proof.FfnUp
public import proofs.«01_k».proof.Proof.FfnDown
public import proofs.«01_k».proof.Proof.InProj
public import proofs.«01_k».proof.Proof.DwIn
public import proofs.«01_k».proof.Proof.DH1
public import proofs.«01_k».proof.Proof.DGates
public import proofs.«01_k».proof.Proof.Merge
public import proofs.«01_k».proof.Proof.DYg
public import proofs.«01_k».proof.Proof.MixOut
public import proofs.«01_k».proof.Proof.DwOut
public import proofs.«01_k».proof.Proof.DwGlu
public import proofs.«01_k».proof.Proof.DAttn
public import proofs.«01_k».proof.Proof.DwAttnUp
public import proofs.«01_k».proof.Proof.AdamIn
public import proofs.«01_k».proof.Proof.AdamAttnUp
public import proofs.«01_k».proof.Proof.AdamGlu
public import proofs.«01_k».proof.Proof.AdamOut
public import proofs.«01_k».proof.Proof.AdamFfnUp
public import proofs.«01_k».proof.Proof.AdamFfnDown
public import proofs.«01_k».proof.Proof.AdamSmall
public import proofs.«01_k».proof.Proof.NormIn
public import proofs.«01_k».proof.Proof.NormMid
public import proofs.«01_k».proof.Proof.NormInBwd
public import proofs.«01_k».proof.Proof.NormMidBwd
public import proofs.«01_k».proof.Proof.LossHead
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Claims.preFacts, Cert.DAct.preFacts,
  Cert.Claims.frameP, Cert.Claims.framePI, fun m ρ _ => Cert.Claims.framePI m ρ trivial, Cert.Claims.frameRI,
  fun m ρ _ => Cert.Claims.frameRI m ρ trivial,
  Cert.Dh2.frameP, Cert.Dh2.framePI, Cert.Dh2.frameRI,
  Cert.DwUp.frameP, Cert.DwUp.framePI, Cert.DwUp.frameRI,
  Cert.DwDown.frameP, Cert.DwDown.framePI, Cert.DwDown.frameRI,
  Cert.DAct.frameP, Cert.DAct.framePI, fun m ρ _ => Cert.DAct.framePI m ρ trivial, Cert.DAct.frameRI,
  fun m ρ _ => Cert.DAct.frameRI m ρ trivial,
  Cert.FfnUp.frameP, Cert.FfnUp.framePI, Cert.FfnUp.frameRI,
  Cert.FfnDown.frameP, Cert.FfnDown.framePI, Cert.FfnDown.frameRI,
  Cert.InProj.frameP, Cert.InProj.framePI, Cert.InProj.frameRI,
  Cert.DwIn.frameP, Cert.DwIn.framePI, Cert.DwIn.frameRI,
  Cert.DH1.frameP, Cert.DH1.framePI, Cert.DH1.frameRI,
  Cert.DGates.frameP, Cert.DGates.framePI, Cert.DGates.frameRI,
  Cert.Merge.frameP, Cert.Merge.framePI, Cert.Merge.frameRI,
  Cert.DYg.frameP, Cert.DYg.framePI, Cert.DYg.frameRI,
  Cert.MixOut.frameP, Cert.MixOut.framePI, Cert.MixOut.frameRI,
  Cert.DwOut.frameP, Cert.DwOut.framePI, Cert.DwOut.frameRI,
  Cert.DwGlu.frameP, Cert.DwGlu.framePI, Cert.DwGlu.frameRI,
  Cert.DAttn.frameP, Cert.DAttn.framePI, Cert.DAttn.frameRI,
  Cert.DwAttnUp.frameP, Cert.DwAttnUp.framePI, Cert.DwAttnUp.frameRI,
  Cert.AdamIn.frameP, Cert.AdamIn.framePI, Cert.AdamIn.frameRI,
  Cert.AdamAttnUp.frameP, Cert.AdamAttnUp.framePI, Cert.AdamAttnUp.frameRI,
  Cert.AdamGlu.frameP, Cert.AdamGlu.framePI, Cert.AdamGlu.frameRI,
  Cert.AdamOut.frameP, Cert.AdamOut.framePI, Cert.AdamOut.frameRI,
  Cert.AdamFfnUp.frameP, Cert.AdamFfnUp.framePI, Cert.AdamFfnUp.frameRI,
  Cert.AdamFfnDown.frameP, Cert.AdamFfnDown.framePI, Cert.AdamFfnDown.frameRI,
  Cert.AdamSmall.frameP, Cert.AdamSmall.framePI, Cert.AdamSmall.frameRI,
  Cert.NormIn.frameP, Cert.NormIn.framePI, Cert.NormIn.frameRI,
  Cert.NormMid.frameP, Cert.NormMid.framePI, Cert.NormMid.frameRI,
  Cert.NormInBwd.frameP, Cert.NormInBwd.framePI, Cert.NormInBwd.frameRI,
  Cert.NormMidBwd.frameP, Cert.NormMidBwd.framePI, Cert.NormMidBwd.frameRI,
  Cert.LossHead.frameP, Cert.LossHead.framePI, Cert.LossHead.frameRI,
  Cert.Claims.kept, Cert.Claims.equal, trivial, Cert.Dh2.equal, trivial, Cert.DwUp.equal, trivial, Cert.DwDown.equal, trivial, Cert.DAct.equal, trivial, Cert.FfnUp.equal, trivial, Cert.FfnDown.equal, trivial, Cert.InProj.equal, trivial, Cert.DwIn.equal, trivial, Cert.DH1.equal, trivial, Cert.DGates.equal, trivial, Cert.Merge.equal, trivial, Cert.DYg.equal, trivial, Cert.MixOut.equal, trivial, Cert.DwOut.equal, trivial, Cert.DwGlu.equal, trivial, Cert.DAttn.equal, trivial, Cert.DwAttnUp.equal, trivial, Cert.AdamIn.equal, trivial, Cert.AdamAttnUp.equal, trivial, Cert.AdamGlu.equal, trivial, Cert.AdamOut.equal, trivial, Cert.AdamFfnUp.equal, trivial, Cert.AdamFfnDown.equal, trivial, Cert.AdamSmall.equal, trivial, Cert.NormIn.equal, trivial, Cert.NormMid.equal, trivial, Cert.NormInBwd.equal, trivial, Cert.NormMidBwd.equal, trivial, Cert.LossHead.equal⟩

end Cert.Proof

end
